-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_finite [hPre_down_finite : Cert.Pre_down_finite.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_finite.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_GateUpGrad (m : (ℓ : Loc Cert.GateUpGrad.nD Cert.GateUpGrad.τ Cert.GateUpGrad.sig) → Buf (Elt Bits) ℓ) : Prop :=
  True

def Pre_GateUpGradIdeal (m : (ℓ : Loc Cert.GateUpGradIdeal.nD Cert.GateUpGradIdeal.τ Cert.GateUpGradIdeal.sig) → Buf (Elt Ideal) ℓ) : Prop :=
  True

def Pre_GateUpGradReferenceIdeal (m : (ℓ : Loc Cert.GateUpGradReferenceIdeal.nD Cert.GateUpGradReferenceIdeal.τ Cert.GateUpGradReferenceIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightReferenceIdeal (m : (ℓ : Loc Cert.DownWeightReferenceIdeal.nD Cert.DownWeightReferenceIdeal.τ Cert.DownWeightReferenceIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightReferenceIdeal (m : (ℓ : Loc Cert.GateWeightReferenceIdeal.nD Cert.GateWeightReferenceIdeal.τ Cert.GateWeightReferenceIdeal.sig) → Buf (Elt Ideal) ℓ) : Prop :=
  True

def Pre_ProjInGrad (m : (ℓ : Loc Cert.ProjInGrad.nD Cert.ProjInGrad.τ Cert.ProjInGrad.sig) → Buf (Elt Bits) ℓ) : Prop :=
  True

def Pre_ProjInGradIdeal (m : (ℓ : Loc Cert.ProjInGradIdeal.nD Cert.ProjInGradIdeal.τ Cert.ProjInGradIdeal.sig) → Buf (Elt Ideal) ℓ) : Prop :=
  True

def Pre_ProjInGradReferenceIdeal (m : (ℓ : Loc Cert.ProjInGradReferenceIdeal.nD Cert.ProjInGradReferenceIdeal.τ Cert.ProjInGradReferenceIdeal.sig) → Buf (Elt Ideal) ℓ) : Prop :=
  True

def Pre_QkvWeight (m : (ℓ : Loc Cert.QkvWeight.nD Cert.QkvWeight.τ Cert.QkvWeight.sig) → Buf (Elt Bits) ℓ) : Prop :=
  True

def Pre_QkvWeightIdeal (m : (ℓ : Loc Cert.QkvWeightIdeal.nD Cert.QkvWeightIdeal.τ Cert.QkvWeightIdeal.sig) → Buf (Elt Ideal) ℓ) : Prop :=
  True

def Pre_QkvWeightReferenceIdeal (m : (ℓ : Loc Cert.QkvWeightReferenceIdeal.nD Cert.QkvWeightReferenceIdeal.τ Cert.QkvWeightReferenceIdeal.sig) → Buf (Elt Ideal) ℓ) : Prop :=
  True

def Pre_ZWeight (m : (ℓ : Loc Cert.ZWeight.nD Cert.ZWeight.τ Cert.ZWeight.sig) → Buf (Elt Bits) ℓ) : Prop :=
  True

def Pre_ZWeightIdeal (m : (ℓ : Loc Cert.ZWeightIdeal.nD Cert.ZWeightIdeal.τ Cert.ZWeightIdeal.sig) → Buf (Elt Ideal) ℓ) : Prop :=
  True

def Pre_ZWeightReferenceIdeal (m : (ℓ : Loc Cert.ZWeightReferenceIdeal.nD Cert.ZWeightReferenceIdeal.τ Cert.ZWeightReferenceIdeal.sig) → Buf (Elt Ideal) ℓ) : Prop :=
  True

def Pre_XbcWeight (m : (ℓ : Loc Cert.XbcWeight.nD Cert.XbcWeight.τ Cert.XbcWeight.sig) → Buf (Elt Bits) ℓ) : Prop :=
  True

def Pre_XbcWeightIdeal (m : (ℓ : Loc Cert.XbcWeightIdeal.nD Cert.XbcWeightIdeal.τ Cert.XbcWeightIdeal.sig) → Buf (Elt Ideal) ℓ) : Prop :=
  True

def Pre_XbcWeightReferenceIdeal (m : (ℓ : Loc Cert.XbcWeightReferenceIdeal.nD Cert.XbcWeightReferenceIdeal.τ Cert.XbcWeightReferenceIdeal.sig) → Buf (Elt Ideal) ℓ) : Prop :=
  True

def Pre_DtWeight (m : (ℓ : Loc Cert.DtWeight.nD Cert.DtWeight.τ Cert.DtWeight.sig) → Buf (Elt Bits) ℓ) : Prop :=
  True

def Pre_DtWeightIdeal (m : (ℓ : Loc Cert.DtWeightIdeal.nD Cert.DtWeightIdeal.τ Cert.DtWeightIdeal.sig) → Buf (Elt Ideal) ℓ) : Prop :=
  True

def Pre_DtWeightReferenceIdeal (m : (ℓ : Loc Cert.DtWeightReferenceIdeal.nD Cert.DtWeightReferenceIdeal.τ Cert.DtWeightReferenceIdeal.sig) → Buf (Elt Ideal) ℓ) : Prop :=
  True

def Pre_ProjOutGrad (m : (ℓ : Loc Cert.ProjOutGrad.nD Cert.ProjOutGrad.τ Cert.ProjOutGrad.sig) → Buf (Elt Bits) ℓ) : Prop :=
  True

def Pre_ProjOutGradIdeal (m : (ℓ : Loc Cert.ProjOutGradIdeal.nD Cert.ProjOutGradIdeal.τ Cert.ProjOutGradIdeal.sig) → Buf (Elt Ideal) ℓ) : Prop :=
  True

def Pre_ProjOutGradReferenceIdeal (m : (ℓ : Loc Cert.ProjOutGradReferenceIdeal.nD Cert.ProjOutGradReferenceIdeal.τ Cert.ProjOutGradReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvReferenceIdeal (m : (ℓ : Loc Cert.ProjQkvReferenceIdeal.nD Cert.ProjQkvReferenceIdeal.τ Cert.ProjQkvReferenceIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_ProjZReferenceIdeal (m : (ℓ : Loc Cert.ProjZReferenceIdeal.nD Cert.ProjZReferenceIdeal.τ Cert.ProjZReferenceIdeal.sig) → Buf (Elt Ideal) ℓ) : Prop :=
  True

def Pre_ProjXbc (m : (ℓ : Loc Cert.ProjXbc.nD Cert.ProjXbc.τ Cert.ProjXbc.sig) → Buf (Elt Bits) ℓ) : Prop :=
  True

def Pre_ProjXbcIdeal (m : (ℓ : Loc Cert.ProjXbcIdeal.nD Cert.ProjXbcIdeal.τ Cert.ProjXbcIdeal.sig) → Buf (Elt Ideal) ℓ) : Prop :=
  True

def Pre_ProjXbcReferenceIdeal (m : (ℓ : Loc Cert.ProjXbcReferenceIdeal.nD Cert.ProjXbcReferenceIdeal.τ Cert.ProjXbcReferenceIdeal.sig) → Buf (Elt Ideal) ℓ) : Prop :=
  True

def Pre_ProjDt (m : (ℓ : Loc Cert.ProjDt.nD Cert.ProjDt.τ Cert.ProjDt.sig) → Buf (Elt Bits) ℓ) : Prop :=
  True

def Pre_ProjDtIdeal (m : (ℓ : Loc Cert.ProjDtIdeal.nD Cert.ProjDtIdeal.τ Cert.ProjDtIdeal.sig) → Buf (Elt Ideal) ℓ) : Prop :=
  True

def Pre_ProjDtReferenceIdeal (m : (ℓ : Loc Cert.ProjDtReferenceIdeal.nD Cert.ProjDtReferenceIdeal.τ Cert.ProjDtReferenceIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutReferenceIdeal (m : (ℓ : Loc Cert.ProjOutReferenceIdeal.nD Cert.ProjOutReferenceIdeal.τ Cert.ProjOutReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_merge_finite [hPre_merge_finite : Cert.Pre_merge_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_conv_finite [hPre_conv_finite : Cert.Pre_conv_finite.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_SsdFwdIdeal_ssd_fwd_below [hPre_ssd_fwd_below : Cert.Pre_ssd_fwd_below.Facts] (m : (ℓ : Loc Cert.SsdFwdIdeal.nD Cert.SsdFwdIdeal.τ Cert.SsdFwdIdeal.sig) → Buf (Elt Ideal) ℓ) : Prop :=
  ∀ c : Dev Cert.SsdFwdIdeal.nD,
    (Cert.Pre_ssd_fwd_below.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4))) = (fun _ => 1#1)

def Pre_SsdFwdReferenceIdeal (m : (ℓ : Loc Cert.SsdFwdReferenceIdeal.nD Cert.SsdFwdReferenceIdeal.τ Cert.SsdFwdReferenceIdeal.sig) → Buf (Elt Ideal) ℓ) : Prop :=
  True

def Pre_SsdFwdReferenceIdeal_ssd_fwd_below [hPre_ssd_fwd_below : Cert.Pre_ssd_fwd_below.Facts] (m : (ℓ : Loc Cert.SsdFwdReferenceIdeal.nD Cert.SsdFwdReferenceIdeal.τ Cert.SsdFwdReferenceIdeal.sig) → Buf (Elt Ideal) ℓ) : Prop :=
  ∀ c : Dev Cert.SsdFwdReferenceIdeal.nD,
    (Cert.Pre_ssd_fwd_below.fn (F := Ideal) (m ((c.tc : Thread Cert.SsdFwdReferenceIdeal.nD Cert.SsdFwdReferenceIdeal.τ).loc Cert.SsdFwdReferenceIdeal.main_arg0)) (m ((c.tc : Thread Cert.SsdFwdReferenceIdeal.nD Cert.SsdFwdReferenceIdeal.τ).loc Cert.SsdFwdReferenceIdeal.main_arg1)) (m ((c.tc : Thread Cert.SsdFwdReferenceIdeal.nD Cert.SsdFwdReferenceIdeal.τ).loc Cert.SsdFwdReferenceIdeal.main_arg2)) (m ((c.tc : Thread Cert.SsdFwdReferenceIdeal.nD Cert.SsdFwdReferenceIdeal.τ).loc Cert.SsdFwdReferenceIdeal.main_arg3)) (m ((c.tc : Thread Cert.SsdFwdReferenceIdeal.nD Cert.SsdFwdReferenceIdeal.τ).loc Cert.SsdFwdReferenceIdeal.main_arg4))) = (fun _ => 1#1)

def Pre_ChipIn (m : (ℓ : Loc Cert.ChipIn.nD Cert.ChipIn.τ Cert.ChipIn.sig) → Buf (Elt Bits) ℓ) : Prop :=
  True

def Pre_ChipInIdeal (m : (ℓ : Loc Cert.ChipInIdeal.nD Cert.ChipInIdeal.τ Cert.ChipInIdeal.sig) → Buf (Elt Ideal) ℓ) : Prop :=
  True

def Pre_ChipInReferenceIdeal (m : (ℓ : Loc Cert.ChipInReferenceIdeal.nD Cert.ChipInReferenceIdeal.τ Cert.ChipInReferenceIdeal.sig) → Buf (Elt Ideal) ℓ) : Prop :=
  True

def Pre_ChipOut (m : (ℓ : Loc Cert.ChipOut.nD Cert.ChipOut.τ Cert.ChipOut.sig) → Buf (Elt Bits) ℓ) : Prop :=
  True

def Pre_ChipOutIdeal (m : (ℓ : Loc Cert.ChipOutIdeal.nD Cert.ChipOutIdeal.τ Cert.ChipOutIdeal.sig) → Buf (Elt Ideal) ℓ) : Prop :=
  True

def Pre_ChipOutReferenceIdeal (m : (ℓ : Loc Cert.ChipOutReferenceIdeal.nD Cert.ChipOutReferenceIdeal.τ Cert.ChipOutReferenceIdeal.sig) → Buf (Elt Ideal) ℓ) : Prop :=
  True

def Pre_ChipGate (m : (ℓ : Loc Cert.ChipGate.nD Cert.ChipGate.τ Cert.ChipGate.sig) → Buf (Elt Bits) ℓ) : Prop :=
  True

def Pre_ChipGateIdeal (m : (ℓ : Loc Cert.ChipGateIdeal.nD Cert.ChipGateIdeal.τ Cert.ChipGateIdeal.sig) → Buf (Elt Ideal) ℓ) : Prop :=
  True

def Pre_ChipGateReferenceIdeal (m : (ℓ : Loc Cert.ChipGateReferenceIdeal.nD Cert.ChipGateReferenceIdeal.τ Cert.ChipGateReferenceIdeal.sig) → Buf (Elt Ideal) ℓ) : Prop :=
  True

def Pre_ChipDown (m : (ℓ : Loc Cert.ChipDown.nD Cert.ChipDown.τ Cert.ChipDown.sig) → Buf (Elt Bits) ℓ) : Prop :=
  True

def Pre_ChipDownIdeal (m : (ℓ : Loc Cert.ChipDownIdeal.nD Cert.ChipDownIdeal.τ Cert.ChipDownIdeal.sig) → Buf (Elt Ideal) ℓ) : Prop :=
  True

def Pre_ChipDownReferenceIdeal (m : (ℓ : Loc Cert.ChipDownReferenceIdeal.nD Cert.ChipDownReferenceIdeal.τ Cert.ChipDownReferenceIdeal.sig) → Buf (Elt Ideal) ℓ) : Prop :=
  True

def Pre_SsdSkip (m : (ℓ : Loc Cert.SsdSkip.nD Cert.SsdSkip.τ Cert.SsdSkip.sig) → Buf (Elt Bits) ℓ) : Prop :=
  True

def Pre_SsdSkipIdeal (m : (ℓ : Loc Cert.SsdSkipIdeal.nD Cert.SsdSkipIdeal.τ Cert.SsdSkipIdeal.sig) → Buf (Elt Ideal) ℓ) : Prop :=
  True

def Pre_SsdSkipIdeal_ssd_skip_finite [hPre_ssd_skip_finite : Cert.Pre_ssd_skip_finite.Facts] (m : (ℓ : Loc Cert.SsdSkipIdeal.nD Cert.SsdSkipIdeal.τ Cert.SsdSkipIdeal.sig) → Buf (Elt Ideal) ℓ) : Prop :=
  ∀ c : Dev Cert.SsdSkipIdeal.nD,
    (Cert.Pre_ssd_skip_finite.fn (F := Ideal) (m ((c.tc : Thread Cert.SsdSkipIdeal.nD Cert.SsdSkipIdeal.τ).loc Cert.SsdSkipIdeal.main_arg0)) (m ((c.tc : Thread Cert.SsdSkipIdeal.nD Cert.SsdSkipIdeal.τ).loc Cert.SsdSkipIdeal.main_arg1)) (m ((c.tc : Thread Cert.SsdSkipIdeal.nD Cert.SsdSkipIdeal.τ).loc Cert.SsdSkipIdeal.main_arg2)) (m ((c.tc : Thread Cert.SsdSkipIdeal.nD Cert.SsdSkipIdeal.τ).loc Cert.SsdSkipIdeal.main_arg3)) (m ((c.tc : Thread Cert.SsdSkipIdeal.nD Cert.SsdSkipIdeal.τ).loc Cert.SsdSkipIdeal.main_arg4)) (m ((c.tc : Thread Cert.SsdSkipIdeal.nD Cert.SsdSkipIdeal.τ).loc Cert.SsdSkipIdeal.main_arg5)) (m ((c.tc : Thread Cert.SsdSkipIdeal.nD Cert.SsdSkipIdeal.τ).loc Cert.SsdSkipIdeal.main_arg6))) = (fun _ => 1#1)

def Pre_SsdSkipReferenceIdeal (m : (ℓ : Loc Cert.SsdSkipReferenceIdeal.nD Cert.SsdSkipReferenceIdeal.τ Cert.SsdSkipReferenceIdeal.sig) → Buf (Elt Ideal) ℓ) : Prop :=
  True

def Pre_SsdSkipReferenceIdeal_ssd_skip_finite [hPre_ssd_skip_finite : Cert.Pre_ssd_skip_finite.Facts] (m : (ℓ : Loc Cert.SsdSkipReferenceIdeal.nD Cert.SsdSkipReferenceIdeal.τ Cert.SsdSkipReferenceIdeal.sig) → Buf (Elt Ideal) ℓ) : Prop :=
  ∀ c : Dev Cert.SsdSkipReferenceIdeal.nD,
    (Cert.Pre_ssd_skip_finite.fn (F := Ideal) (m ((c.tc : Thread Cert.SsdSkipReferenceIdeal.nD Cert.SsdSkipReferenceIdeal.τ).loc Cert.SsdSkipReferenceIdeal.main_arg0)) (m ((c.tc : Thread Cert.SsdSkipReferenceIdeal.nD Cert.SsdSkipReferenceIdeal.τ).loc Cert.SsdSkipReferenceIdeal.main_arg1)) (m ((c.tc : Thread Cert.SsdSkipReferenceIdeal.nD Cert.SsdSkipReferenceIdeal.τ).loc Cert.SsdSkipReferenceIdeal.main_arg2)) (m ((c.tc : Thread Cert.SsdSkipReferenceIdeal.nD Cert.SsdSkipReferenceIdeal.τ).loc Cert.SsdSkipReferenceIdeal.main_arg3)) (m ((c.tc : Thread Cert.SsdSkipReferenceIdeal.nD Cert.SsdSkipReferenceIdeal.τ).loc Cert.SsdSkipReferenceIdeal.main_arg4)) (m ((c.tc : Thread Cert.SsdSkipReferenceIdeal.nD Cert.SsdSkipReferenceIdeal.τ).loc Cert.SsdSkipReferenceIdeal.main_arg5)) (m ((c.tc : Thread Cert.SsdSkipReferenceIdeal.nD Cert.SsdSkipReferenceIdeal.τ).loc Cert.SsdSkipReferenceIdeal.main_arg6))) = (fun _ => 1#1)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_down_finite [hDownReferenceIdeal : Cert.DownReferenceIdeal.Facts] [hPre_down_finite : Cert.Pre_down_finite.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_finite m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_GateUpGrad [hGateUpGrad : Cert.GateUpGrad.Facts] : Prop :=
  ∀ (m : (ℓ : Loc Cert.GateUpGrad.nD Cert.GateUpGrad.τ Cert.GateUpGrad.sig) → Buf (Elt Bits) ℓ) (g : Dev Cert.GateUpGrad.nD → PrngReg), Pre_GateUpGrad m →
    θ_run (Cert.GateUpGrad.defs (F := Bits)) (onTc (τ := Cert.GateUpGrad.τ) (Cert.GateUpGrad.main (F := Bits))) ⟨m, fun _ => 0, g⟩ (fun r => (∀ c : Dev Cert.GateUpGrad.nD,
      r.2.mem ((c.tc : Thread Cert.GateUpGrad.nD Cert.GateUpGrad.τ).loc Cert.GateUpGrad.main_arg0) = m ((c.tc : Thread Cert.GateUpGrad.nD Cert.GateUpGrad.τ).loc Cert.GateUpGrad.main_arg0)
      ∧ r.2.mem ((c.tc : Thread Cert.GateUpGrad.nD Cert.GateUpGrad.τ).loc Cert.GateUpGrad.main_arg1) = m ((c.tc : Thread Cert.GateUpGrad.nD Cert.GateUpGrad.τ).loc Cert.GateUpGrad.main_arg1)
      ∧ r.2.mem ((c.tc : Thread Cert.GateUpGrad.nD Cert.GateUpGrad.τ).loc Cert.GateUpGrad.main_arg2) = m ((c.tc : Thread Cert.GateUpGrad.nD Cert.GateUpGrad.τ).loc Cert.GateUpGrad.main_arg2)
      ∧ r.2.mem ((c.tc : Thread Cert.GateUpGrad.nD Cert.GateUpGrad.τ).loc Cert.GateUpGrad.main_arg3) = m ((c.tc : Thread Cert.GateUpGrad.nD Cert.GateUpGrad.τ).loc Cert.GateUpGrad.main_arg3))
      ∧ r.2.sem = fun _ => 0)

def quiescent_GateUpGradIdeal [hGateUpGradIdeal : Cert.GateUpGradIdeal.Facts] : Prop :=
  ∀ (m : (ℓ : Loc Cert.GateUpGradIdeal.nD Cert.GateUpGradIdeal.τ Cert.GateUpGradIdeal.sig) → Buf (Elt Ideal) ℓ) (g : Dev Cert.GateUpGradIdeal.nD → PrngReg), Pre_GateUpGradIdeal m →
    θ_run (Cert.GateUpGradIdeal.defs (F := Ideal)) (onTc (τ := Cert.GateUpGradIdeal.τ) (Cert.GateUpGradIdeal.main (F := Ideal))) ⟨m, fun _ => 0, g⟩ (fun r => (∀ c : Dev Cert.GateUpGradIdeal.nD,
      r.2.mem ((c.tc : Thread Cert.GateUpGradIdeal.nD Cert.GateUpGradIdeal.τ).loc Cert.GateUpGradIdeal.main_arg0) = m ((c.tc : Thread Cert.GateUpGradIdeal.nD Cert.GateUpGradIdeal.τ).loc Cert.GateUpGradIdeal.main_arg0)
      ∧ r.2.mem ((c.tc : Thread Cert.GateUpGradIdeal.nD Cert.GateUpGradIdeal.τ).loc Cert.GateUpGradIdeal.main_arg1) = m ((c.tc : Thread Cert.GateUpGradIdeal.nD Cert.GateUpGradIdeal.τ).loc Cert.GateUpGradIdeal.main_arg1)
      ∧ r.2.mem ((c.tc : Thread Cert.GateUpGradIdeal.nD Cert.GateUpGradIdeal.τ).loc Cert.GateUpGradIdeal.main_arg2) = m ((c.tc : Thread Cert.GateUpGradIdeal.nD Cert.GateUpGradIdeal.τ).loc Cert.GateUpGradIdeal.main_arg2)
      ∧ r.2.mem ((c.tc : Thread Cert.GateUpGradIdeal.nD Cert.GateUpGradIdeal.τ).loc Cert.GateUpGradIdeal.main_arg3) = m ((c.tc : Thread Cert.GateUpGradIdeal.nD Cert.GateUpGradIdeal.τ).loc Cert.GateUpGradIdeal.main_arg3))
      ∧ r.2.sem = fun _ => 0)

def quiescent_GateUpGradReferenceIdeal [hGateUpGradReferenceIdeal : Cert.GateUpGradReferenceIdeal.Facts] : Prop :=
  ∀ (m : (ℓ : Loc Cert.GateUpGradReferenceIdeal.nD Cert.GateUpGradReferenceIdeal.τ Cert.GateUpGradReferenceIdeal.sig) → Buf (Elt Ideal) ℓ) (g : Dev Cert.GateUpGradReferenceIdeal.nD → PrngReg), Pre_GateUpGradReferenceIdeal m →
    θ_run (Cert.GateUpGradReferenceIdeal.defs (F := Ideal)) (onTc (τ := Cert.GateUpGradReferenceIdeal.τ) (Cert.GateUpGradReferenceIdeal.main (F := Ideal))) ⟨m, fun _ => 0, g⟩ (fun r => (∀ c : Dev Cert.GateUpGradReferenceIdeal.nD,
      r.2.mem ((c.tc : Thread Cert.GateUpGradReferenceIdeal.nD Cert.GateUpGradReferenceIdeal.τ).loc Cert.GateUpGradReferenceIdeal.main_arg0) = m ((c.tc : Thread Cert.GateUpGradReferenceIdeal.nD Cert.GateUpGradReferenceIdeal.τ).loc Cert.GateUpGradReferenceIdeal.main_arg0)
      ∧ r.2.mem ((c.tc : Thread Cert.GateUpGradReferenceIdeal.nD Cert.GateUpGradReferenceIdeal.τ).loc Cert.GateUpGradReferenceIdeal.main_arg1) = m ((c.tc : Thread Cert.GateUpGradReferenceIdeal.nD Cert.GateUpGradReferenceIdeal.τ).loc Cert.GateUpGradReferenceIdeal.main_arg1)
      ∧ r.2.mem ((c.tc : Thread Cert.GateUpGradReferenceIdeal.nD Cert.GateUpGradReferenceIdeal.τ).loc Cert.GateUpGradReferenceIdeal.main_arg2) = m ((c.tc : Thread Cert.GateUpGradReferenceIdeal.nD Cert.GateUpGradReferenceIdeal.τ).loc Cert.GateUpGradReferenceIdeal.main_arg2)
      ∧ r.2.mem ((c.tc : Thread Cert.GateUpGradReferenceIdeal.nD Cert.GateUpGradReferenceIdeal.τ).loc Cert.GateUpGradReferenceIdeal.main_arg3) = m ((c.tc : Thread Cert.GateUpGradReferenceIdeal.nD Cert.GateUpGradReferenceIdeal.τ).loc Cert.GateUpGradReferenceIdeal.main_arg3))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightReferenceIdeal [hDownWeightReferenceIdeal : Cert.DownWeightReferenceIdeal.Facts] : Prop :=
  ∀ (m : (ℓ : Loc Cert.DownWeightReferenceIdeal.nD Cert.DownWeightReferenceIdeal.τ Cert.DownWeightReferenceIdeal.sig) → Buf (Elt Ideal) ℓ) (g : Dev Cert.DownWeightReferenceIdeal.nD → PrngReg), Pre_DownWeightReferenceIdeal m →
    θ_run (Cert.DownWeightReferenceIdeal.defs (F := Ideal)) (onTc (τ := Cert.DownWeightReferenceIdeal.τ) (Cert.DownWeightReferenceIdeal.main (F := Ideal))) ⟨m, fun _ => 0, g⟩ (fun r => (∀ c : Dev Cert.DownWeightReferenceIdeal.nD,
      r.2.mem ((c.tc : Thread Cert.DownWeightReferenceIdeal.nD Cert.DownWeightReferenceIdeal.τ).loc Cert.DownWeightReferenceIdeal.main_arg0) = m ((c.tc : Thread Cert.DownWeightReferenceIdeal.nD Cert.DownWeightReferenceIdeal.τ).loc Cert.DownWeightReferenceIdeal.main_arg0)
      ∧ r.2.mem ((c.tc : Thread Cert.DownWeightReferenceIdeal.nD Cert.DownWeightReferenceIdeal.τ).loc Cert.DownWeightReferenceIdeal.main_arg1) = m ((c.tc : Thread Cert.DownWeightReferenceIdeal.nD Cert.DownWeightReferenceIdeal.τ).loc Cert.DownWeightReferenceIdeal.main_arg1))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ r.2.sem = fun _ => 0)

def quiescent_GateWeightReferenceIdeal [hGateWeightReferenceIdeal : Cert.GateWeightReferenceIdeal.Facts] : Prop :=
  ∀ (m : (ℓ : Loc Cert.GateWeightReferenceIdeal.nD Cert.GateWeightReferenceIdeal.τ Cert.GateWeightReferenceIdeal.sig) → Buf (Elt Ideal) ℓ) (g : Dev Cert.GateWeightReferenceIdeal.nD → PrngReg), Pre_GateWeightReferenceIdeal m →
    θ_run (Cert.GateWeightReferenceIdeal.defs (F := Ideal)) (onTc (τ := Cert.GateWeightReferenceIdeal.τ) (Cert.GateWeightReferenceIdeal.main (F := Ideal))) ⟨m, fun _ => 0, g⟩ (fun r => (∀ c : Dev Cert.GateWeightReferenceIdeal.nD,
      r.2.mem ((c.tc : Thread Cert.GateWeightReferenceIdeal.nD Cert.GateWeightReferenceIdeal.τ).loc Cert.GateWeightReferenceIdeal.main_arg0) = m ((c.tc : Thread Cert.GateWeightReferenceIdeal.nD Cert.GateWeightReferenceIdeal.τ).loc Cert.GateWeightReferenceIdeal.main_arg0)
      ∧ r.2.mem ((c.tc : Thread Cert.GateWeightReferenceIdeal.nD Cert.GateWeightReferenceIdeal.τ).loc Cert.GateWeightReferenceIdeal.main_arg1) = m ((c.tc : Thread Cert.GateWeightReferenceIdeal.nD Cert.GateWeightReferenceIdeal.τ).loc Cert.GateWeightReferenceIdeal.main_arg1))
      ∧ r.2.sem = fun _ => 0)

def quiescent_ProjInGrad [hProjInGrad : Cert.ProjInGrad.Facts] : Prop :=
  ∀ (m : (ℓ : Loc Cert.ProjInGrad.nD Cert.ProjInGrad.τ Cert.ProjInGrad.sig) → Buf (Elt Bits) ℓ) (g : Dev Cert.ProjInGrad.nD → PrngReg), Pre_ProjInGrad m →
    θ_run (Cert.ProjInGrad.defs (F := Bits)) (onTc (τ := Cert.ProjInGrad.τ) (Cert.ProjInGrad.main (F := Bits))) ⟨m, fun _ => 0, g⟩ (fun r => (∀ c : Dev Cert.ProjInGrad.nD,
      r.2.mem ((c.tc : Thread Cert.ProjInGrad.nD Cert.ProjInGrad.τ).loc Cert.ProjInGrad.main_arg0) = m ((c.tc : Thread Cert.ProjInGrad.nD Cert.ProjInGrad.τ).loc Cert.ProjInGrad.main_arg0)
      ∧ r.2.mem ((c.tc : Thread Cert.ProjInGrad.nD Cert.ProjInGrad.τ).loc Cert.ProjInGrad.main_arg1) = m ((c.tc : Thread Cert.ProjInGrad.nD Cert.ProjInGrad.τ).loc Cert.ProjInGrad.main_arg1)
      ∧ r.2.mem ((c.tc : Thread Cert.ProjInGrad.nD Cert.ProjInGrad.τ).loc Cert.ProjInGrad.main_arg2) = m ((c.tc : Thread Cert.ProjInGrad.nD Cert.ProjInGrad.τ).loc Cert.ProjInGrad.main_arg2)
      ∧ r.2.mem ((c.tc : Thread Cert.ProjInGrad.nD Cert.ProjInGrad.τ).loc Cert.ProjInGrad.main_arg3) = m ((c.tc : Thread Cert.ProjInGrad.nD Cert.ProjInGrad.τ).loc Cert.ProjInGrad.main_arg3)
      ∧ r.2.mem ((c.tc : Thread Cert.ProjInGrad.nD Cert.ProjInGrad.τ).loc Cert.ProjInGrad.main_arg4) = m ((c.tc : Thread Cert.ProjInGrad.nD Cert.ProjInGrad.τ).loc Cert.ProjInGrad.main_arg4)
      ∧ r.2.mem ((c.tc : Thread Cert.ProjInGrad.nD Cert.ProjInGrad.τ).loc Cert.ProjInGrad.main_arg5) = m ((c.tc : Thread Cert.ProjInGrad.nD Cert.ProjInGrad.τ).loc Cert.ProjInGrad.main_arg5)
      ∧ r.2.mem ((c.tc : Thread Cert.ProjInGrad.nD Cert.ProjInGrad.τ).loc Cert.ProjInGrad.main_arg6) = m ((c.tc : Thread Cert.ProjInGrad.nD Cert.ProjInGrad.τ).loc Cert.ProjInGrad.main_arg6)
      ∧ r.2.mem ((c.tc : Thread Cert.ProjInGrad.nD Cert.ProjInGrad.τ).loc Cert.ProjInGrad.main_arg7) = m ((c.tc : Thread Cert.ProjInGrad.nD Cert.ProjInGrad.τ).loc Cert.ProjInGrad.main_arg7))
      ∧ r.2.sem = fun _ => 0)

def quiescent_ProjInGradIdeal [hProjInGradIdeal : Cert.ProjInGradIdeal.Facts] : Prop :=
  ∀ (m : (ℓ : Loc Cert.ProjInGradIdeal.nD Cert.ProjInGradIdeal.τ Cert.ProjInGradIdeal.sig) → Buf (Elt Ideal) ℓ) (g : Dev Cert.ProjInGradIdeal.nD → PrngReg), Pre_ProjInGradIdeal m →
    θ_run (Cert.ProjInGradIdeal.defs (F := Ideal)) (onTc (τ := Cert.ProjInGradIdeal.τ) (Cert.ProjInGradIdeal.main (F := Ideal))) ⟨m, fun _ => 0, g⟩ (fun r => (∀ c : Dev Cert.ProjInGradIdeal.nD,
      r.2.mem ((c.tc : Thread Cert.ProjInGradIdeal.nD Cert.ProjInGradIdeal.τ).loc Cert.ProjInGradIdeal.main_arg0) = m ((c.tc : Thread Cert.ProjInGradIdeal.nD Cert.ProjInGradIdeal.τ).loc Cert.ProjInGradIdeal.main_arg0)
      ∧ r.2.mem ((c.tc : Thread Cert.ProjInGradIdeal.nD Cert.ProjInGradIdeal.τ).loc Cert.ProjInGradIdeal.main_arg1) = m ((c.tc : Thread Cert.ProjInGradIdeal.nD Cert.ProjInGradIdeal.τ).loc Cert.ProjInGradIdeal.main_arg1)
      ∧ r.2.mem ((c.tc : Thread Cert.ProjInGradIdeal.nD Cert.ProjInGradIdeal.τ).loc Cert.ProjInGradIdeal.main_arg2) = m ((c.tc : Thread Cert.ProjInGradIdeal.nD Cert.ProjInGradIdeal.τ).loc Cert.ProjInGradIdeal.main_arg2)
      ∧ r.2.mem ((c.tc : Thread Cert.ProjInGradIdeal.nD Cert.ProjInGradIdeal.τ).loc Cert.ProjInGradIdeal.main_arg3) = m ((c.tc : Thread Cert.ProjInGradIdeal.nD Cert.ProjInGradIdeal.τ).loc Cert.ProjInGradIdeal.main_arg3)
      ∧ r.2.mem ((c.tc : Thread Cert.ProjInGradIdeal.nD Cert.ProjInGradIdeal.τ).loc Cert.ProjInGradIdeal.main_arg4) = m ((c.tc : Thread Cert.ProjInGradIdeal.nD Cert.ProjInGradIdeal.τ).loc Cert.ProjInGradIdeal.main_arg4)
      ∧ r.2.mem ((c.tc : Thread Cert.ProjInGradIdeal.nD Cert.ProjInGradIdeal.τ).loc Cert.ProjInGradIdeal.main_arg5) = m ((c.tc : Thread Cert.ProjInGradIdeal.nD Cert.ProjInGradIdeal.τ).loc Cert.ProjInGradIdeal.main_arg5)
      ∧ r.2.mem ((c.tc : Thread Cert.ProjInGradIdeal.nD Cert.ProjInGradIdeal.τ).loc Cert.ProjInGradIdeal.main_arg6) = m ((c.tc : Thread Cert.ProjInGradIdeal.nD Cert.ProjInGradIdeal.τ).loc Cert.ProjInGradIdeal.main_arg6)
      ∧ r.2.mem ((c.tc : Thread Cert.ProjInGradIdeal.nD Cert.ProjInGradIdeal.τ).loc Cert.ProjInGradIdeal.main_arg7) = m ((c.tc : Thread Cert.ProjInGradIdeal.nD Cert.ProjInGradIdeal.τ).loc Cert.ProjInGradIdeal.main_arg7))
      ∧ r.2.sem = fun _ => 0)

def quiescent_ProjInGradReferenceIdeal [hProjInGradReferenceIdeal : Cert.ProjInGradReferenceIdeal.Facts] : Prop :=
  ∀ (m : (ℓ : Loc Cert.ProjInGradReferenceIdeal.nD Cert.ProjInGradReferenceIdeal.τ Cert.ProjInGradReferenceIdeal.sig) → Buf (Elt Ideal) ℓ) (g : Dev Cert.ProjInGradReferenceIdeal.nD → PrngReg), Pre_ProjInGradReferenceIdeal m →
    θ_run (Cert.ProjInGradReferenceIdeal.defs (F := Ideal)) (onTc (τ := Cert.ProjInGradReferenceIdeal.τ) (Cert.ProjInGradReferenceIdeal.main (F := Ideal))) ⟨m, fun _ => 0, g⟩ (fun r => (∀ c : Dev Cert.ProjInGradReferenceIdeal.nD,
      r.2.mem ((c.tc : Thread Cert.ProjInGradReferenceIdeal.nD Cert.ProjInGradReferenceIdeal.τ).loc Cert.ProjInGradReferenceIdeal.main_arg0) = m ((c.tc : Thread Cert.ProjInGradReferenceIdeal.nD Cert.ProjInGradReferenceIdeal.τ).loc Cert.ProjInGradReferenceIdeal.main_arg0)
      ∧ r.2.mem ((c.tc : Thread Cert.ProjInGradReferenceIdeal.nD Cert.ProjInGradReferenceIdeal.τ).loc Cert.ProjInGradReferenceIdeal.main_arg1) = m ((c.tc : Thread Cert.ProjInGradReferenceIdeal.nD Cert.ProjInGradReferenceIdeal.τ).loc Cert.ProjInGradReferenceIdeal.main_arg1)
      ∧ r.2.mem ((c.tc : Thread Cert.ProjInGradReferenceIdeal.nD Cert.ProjInGradReferenceIdeal.τ).loc Cert.ProjInGradReferenceIdeal.main_arg2) = m ((c.tc : Thread Cert.ProjInGradReferenceIdeal.nD Cert.ProjInGradReferenceIdeal.τ).loc Cert.ProjInGradReferenceIdeal.main_arg2)
      ∧ r.2.mem ((c.tc : Thread Cert.ProjInGradReferenceIdeal.nD Cert.ProjInGradReferenceIdeal.τ).loc Cert.ProjInGradReferenceIdeal.main_arg3) = m ((c.tc : Thread Cert.ProjInGradReferenceIdeal.nD Cert.ProjInGradReferenceIdeal.τ).loc Cert.ProjInGradReferenceIdeal.main_arg3)
      ∧ r.2.mem ((c.tc : Thread Cert.ProjInGradReferenceIdeal.nD Cert.ProjInGradReferenceIdeal.τ).loc Cert.ProjInGradReferenceIdeal.main_arg4) = m ((c.tc : Thread Cert.ProjInGradReferenceIdeal.nD Cert.ProjInGradReferenceIdeal.τ).loc Cert.ProjInGradReferenceIdeal.main_arg4)
      ∧ r.2.mem ((c.tc : Thread Cert.ProjInGradReferenceIdeal.nD Cert.ProjInGradReferenceIdeal.τ).loc Cert.ProjInGradReferenceIdeal.main_arg5) = m ((c.tc : Thread Cert.ProjInGradReferenceIdeal.nD Cert.ProjInGradReferenceIdeal.τ).loc Cert.ProjInGradReferenceIdeal.main_arg5)
      ∧ r.2.mem ((c.tc : Thread Cert.ProjInGradReferenceIdeal.nD Cert.ProjInGradReferenceIdeal.τ).loc Cert.ProjInGradReferenceIdeal.main_arg6) = m ((c.tc : Thread Cert.ProjInGradReferenceIdeal.nD Cert.ProjInGradReferenceIdeal.τ).loc Cert.ProjInGradReferenceIdeal.main_arg6)
      ∧ r.2.mem ((c.tc : Thread Cert.ProjInGradReferenceIdeal.nD Cert.ProjInGradReferenceIdeal.τ).loc Cert.ProjInGradReferenceIdeal.main_arg7) = m ((c.tc : Thread Cert.ProjInGradReferenceIdeal.nD Cert.ProjInGradReferenceIdeal.τ).loc Cert.ProjInGradReferenceIdeal.main_arg7))
      ∧ r.2.sem = fun _ => 0)

def quiescent_QkvWeight [hQkvWeight : Cert.QkvWeight.Facts] : Prop :=
  ∀ (m : (ℓ : Loc Cert.QkvWeight.nD Cert.QkvWeight.τ Cert.QkvWeight.sig) → Buf (Elt Bits) ℓ) (g : Dev Cert.QkvWeight.nD → PrngReg), Pre_QkvWeight m →
    θ_run (Cert.QkvWeight.defs (F := Bits)) (onTc (τ := Cert.QkvWeight.τ) (Cert.QkvWeight.main (F := Bits))) ⟨m, fun _ => 0, g⟩ (fun r => (∀ c : Dev Cert.QkvWeight.nD,
      r.2.mem ((c.tc : Thread Cert.QkvWeight.nD Cert.QkvWeight.τ).loc Cert.QkvWeight.main_arg0) = m ((c.tc : Thread Cert.QkvWeight.nD Cert.QkvWeight.τ).loc Cert.QkvWeight.main_arg0)
      ∧ r.2.mem ((c.tc : Thread Cert.QkvWeight.nD Cert.QkvWeight.τ).loc Cert.QkvWeight.main_arg1) = m ((c.tc : Thread Cert.QkvWeight.nD Cert.QkvWeight.τ).loc Cert.QkvWeight.main_arg1))
      ∧ r.2.sem = fun _ => 0)

def quiescent_QkvWeightIdeal [hQkvWeightIdeal : Cert.QkvWeightIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg), Pre_QkvWeightIdeal m →
    θ_run (Cert.QkvWeightIdeal.defs (F := Ideal)) (onTc (τ := Cert.QkvWeightIdeal.τ) (Cert.QkvWeightIdeal.main (F := Ideal))) ⟨m, fun _ => 0, g⟩ (fun r => (∀ c : Dev Cert.QkvWeightIdeal.nD,
      r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
      ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1))
      ∧ r.2.sem = fun _ => 0)

def quiescent_QkvWeightReferenceIdeal [hQkvWeightReferenceIdeal : Cert.QkvWeightReferenceIdeal.Facts] : Prop :=
  ∀ (m : (ℓ : Loc Cert.QkvWeightReferenceIdeal.nD Cert.QkvWeightReferenceIdeal.τ Cert.QkvWeightReferenceIdeal.sig) → Buf (Elt Ideal) ℓ) (g : Dev Cert.QkvWeightReferenceIdeal.nD → PrngReg), Pre_QkvWeightReferenceIdeal m →
    θ_run (Cert.QkvWeightReferenceIdeal.defs (F := Ideal)) (onTc (τ := Cert.QkvWeightReferenceIdeal.τ) (Cert.QkvWeightReferenceIdeal.main (F := Ideal))) ⟨m, fun _ => 0, g⟩ (fun r => (∀ c : Dev Cert.QkvWeightReferenceIdeal.nD,
      r.2.mem ((c.tc : Thread Cert.QkvWeightReferenceIdeal.nD Cert.QkvWeightReferenceIdeal.τ).loc Cert.QkvWeightReferenceIdeal.main_arg0) = m ((c.tc : Thread Cert.QkvWeightReferenceIdeal.nD Cert.QkvWeightReferenceIdeal.τ).loc Cert.QkvWeightReferenceIdeal.main_arg0)
      ∧ r.2.mem ((c.tc : Thread Cert.QkvWeightReferenceIdeal.nD Cert.QkvWeightReferenceIdeal.τ).loc Cert.QkvWeightReferenceIdeal.main_arg1) = m ((c.tc : Thread Cert.QkvWeightReferenceIdeal.nD Cert.QkvWeightReferenceIdeal.τ).loc Cert.QkvWeightReferenceIdeal.main_arg1))
      ∧ r.2.sem = fun _ => 0)

def quiescent_ZWeight [hZWeight : Cert.ZWeight.Facts] : Prop :=
  ∀ (m : (ℓ : Loc Cert.ZWeight.nD Cert.ZWeight.τ Cert.ZWeight.sig) → Buf (Elt Bits) ℓ) (g : Dev Cert.ZWeight.nD → PrngReg), Pre_ZWeight m →
    θ_run (Cert.ZWeight.defs (F := Bits)) (onTc (τ := Cert.ZWeight.τ) (Cert.ZWeight.main (F := Bits))) ⟨m, fun _ => 0, g⟩ (fun r => (∀ c : Dev Cert.ZWeight.nD,
      r.2.mem ((c.tc : Thread Cert.ZWeight.nD Cert.ZWeight.τ).loc Cert.ZWeight.main_arg0) = m ((c.tc : Thread Cert.ZWeight.nD Cert.ZWeight.τ).loc Cert.ZWeight.main_arg0)
      ∧ r.2.mem ((c.tc : Thread Cert.ZWeight.nD Cert.ZWeight.τ).loc Cert.ZWeight.main_arg1) = m ((c.tc : Thread Cert.ZWeight.nD Cert.ZWeight.τ).loc Cert.ZWeight.main_arg1))
      ∧ r.2.sem = fun _ => 0)

def quiescent_ZWeightIdeal [hZWeightIdeal : Cert.ZWeightIdeal.Facts] : Prop :=
  ∀ (m : (ℓ : Loc Cert.ZWeightIdeal.nD Cert.ZWeightIdeal.τ Cert.ZWeightIdeal.sig) → Buf (Elt Ideal) ℓ) (g : Dev Cert.ZWeightIdeal.nD → PrngReg), Pre_ZWeightIdeal m →
    θ_run (Cert.ZWeightIdeal.defs (F := Ideal)) (onTc (τ := Cert.ZWeightIdeal.τ) (Cert.ZWeightIdeal.main (F := Ideal))) ⟨m, fun _ => 0, g⟩ (fun r => (∀ c : Dev Cert.ZWeightIdeal.nD,
      r.2.mem ((c.tc : Thread Cert.ZWeightIdeal.nD Cert.ZWeightIdeal.τ).loc Cert.ZWeightIdeal.main_arg0) = m ((c.tc : Thread Cert.ZWeightIdeal.nD Cert.ZWeightIdeal.τ).loc Cert.ZWeightIdeal.main_arg0)
      ∧ r.2.mem ((c.tc : Thread Cert.ZWeightIdeal.nD Cert.ZWeightIdeal.τ).loc Cert.ZWeightIdeal.main_arg1) = m ((c.tc : Thread Cert.ZWeightIdeal.nD Cert.ZWeightIdeal.τ).loc Cert.ZWeightIdeal.main_arg1))
      ∧ r.2.sem = fun _ => 0)

def quiescent_ZWeightReferenceIdeal [hZWeightReferenceIdeal : Cert.ZWeightReferenceIdeal.Facts] : Prop :=
  ∀ (m : (ℓ : Loc Cert.ZWeightReferenceIdeal.nD Cert.ZWeightReferenceIdeal.τ Cert.ZWeightReferenceIdeal.sig) → Buf (Elt Ideal) ℓ) (g : Dev Cert.ZWeightReferenceIdeal.nD → PrngReg), Pre_ZWeightReferenceIdeal m →
    θ_run (Cert.ZWeightReferenceIdeal.defs (F := Ideal)) (onTc (τ := Cert.ZWeightReferenceIdeal.τ) (Cert.ZWeightReferenceIdeal.main (F := Ideal))) ⟨m, fun _ => 0, g⟩ (fun r => (∀ c : Dev Cert.ZWeightReferenceIdeal.nD,
      r.2.mem ((c.tc : Thread Cert.ZWeightReferenceIdeal.nD Cert.ZWeightReferenceIdeal.τ).loc Cert.ZWeightReferenceIdeal.main_arg0) = m ((c.tc : Thread Cert.ZWeightReferenceIdeal.nD Cert.ZWeightReferenceIdeal.τ).loc Cert.ZWeightReferenceIdeal.main_arg0)
      ∧ r.2.mem ((c.tc : Thread Cert.ZWeightReferenceIdeal.nD Cert.ZWeightReferenceIdeal.τ).loc Cert.ZWeightReferenceIdeal.main_arg1) = m ((c.tc : Thread Cert.ZWeightReferenceIdeal.nD Cert.ZWeightReferenceIdeal.τ).loc Cert.ZWeightReferenceIdeal.main_arg1))
      ∧ r.2.sem = fun _ => 0)

def quiescent_XbcWeight [hXbcWeight : Cert.XbcWeight.Facts] : Prop :=
  ∀ (m : (ℓ : Loc Cert.XbcWeight.nD Cert.XbcWeight.τ Cert.XbcWeight.sig) → Buf (Elt Bits) ℓ) (g : Dev Cert.XbcWeight.nD → PrngReg), Pre_XbcWeight m →
    θ_run (Cert.XbcWeight.defs (F := Bits)) (onTc (τ := Cert.XbcWeight.τ) (Cert.XbcWeight.main (F := Bits))) ⟨m, fun _ => 0, g⟩ (fun r => (∀ c : Dev Cert.XbcWeight.nD,
      r.2.mem ((c.tc : Thread Cert.XbcWeight.nD Cert.XbcWeight.τ).loc Cert.XbcWeight.main_arg0) = m ((c.tc : Thread Cert.XbcWeight.nD Cert.XbcWeight.τ).loc Cert.XbcWeight.main_arg0)
      ∧ r.2.mem ((c.tc : Thread Cert.XbcWeight.nD Cert.XbcWeight.τ).loc Cert.XbcWeight.main_arg1) = m ((c.tc : Thread Cert.XbcWeight.nD Cert.XbcWeight.τ).loc Cert.XbcWeight.main_arg1))
      ∧ r.2.sem = fun _ => 0)

def quiescent_XbcWeightIdeal [hXbcWeightIdeal : Cert.XbcWeightIdeal.Facts] : Prop :=
  ∀ (m : (ℓ : Loc Cert.XbcWeightIdeal.nD Cert.XbcWeightIdeal.τ Cert.XbcWeightIdeal.sig) → Buf (Elt Ideal) ℓ) (g : Dev Cert.XbcWeightIdeal.nD → PrngReg), Pre_XbcWeightIdeal m →
    θ_run (Cert.XbcWeightIdeal.defs (F := Ideal)) (onTc (τ := Cert.XbcWeightIdeal.τ) (Cert.XbcWeightIdeal.main (F := Ideal))) ⟨m, fun _ => 0, g⟩ (fun r => (∀ c : Dev Cert.XbcWeightIdeal.nD,
      r.2.mem ((c.tc : Thread Cert.XbcWeightIdeal.nD Cert.XbcWeightIdeal.τ).loc Cert.XbcWeightIdeal.main_arg0) = m ((c.tc : Thread Cert.XbcWeightIdeal.nD Cert.XbcWeightIdeal.τ).loc Cert.XbcWeightIdeal.main_arg0)
      ∧ r.2.mem ((c.tc : Thread Cert.XbcWeightIdeal.nD Cert.XbcWeightIdeal.τ).loc Cert.XbcWeightIdeal.main_arg1) = m ((c.tc : Thread Cert.XbcWeightIdeal.nD Cert.XbcWeightIdeal.τ).loc Cert.XbcWeightIdeal.main_arg1))
      ∧ r.2.sem = fun _ => 0)

def quiescent_XbcWeightReferenceIdeal [hXbcWeightReferenceIdeal : Cert.XbcWeightReferenceIdeal.Facts] : Prop :=
  ∀ (m : (ℓ : Loc Cert.XbcWeightReferenceIdeal.nD Cert.XbcWeightReferenceIdeal.τ Cert.XbcWeightReferenceIdeal.sig) → Buf (Elt Ideal) ℓ) (g : Dev Cert.XbcWeightReferenceIdeal.nD → PrngReg), Pre_XbcWeightReferenceIdeal m →
    θ_run (Cert.XbcWeightReferenceIdeal.defs (F := Ideal)) (onTc (τ := Cert.XbcWeightReferenceIdeal.τ) (Cert.XbcWeightReferenceIdeal.main (F := Ideal))) ⟨m, fun _ => 0, g⟩ (fun r => (∀ c : Dev Cert.XbcWeightReferenceIdeal.nD,
      r.2.mem ((c.tc : Thread Cert.XbcWeightReferenceIdeal.nD Cert.XbcWeightReferenceIdeal.τ).loc Cert.XbcWeightReferenceIdeal.main_arg0) = m ((c.tc : Thread Cert.XbcWeightReferenceIdeal.nD Cert.XbcWeightReferenceIdeal.τ).loc Cert.XbcWeightReferenceIdeal.main_arg0)
      ∧ r.2.mem ((c.tc : Thread Cert.XbcWeightReferenceIdeal.nD Cert.XbcWeightReferenceIdeal.τ).loc Cert.XbcWeightReferenceIdeal.main_arg1) = m ((c.tc : Thread Cert.XbcWeightReferenceIdeal.nD Cert.XbcWeightReferenceIdeal.τ).loc Cert.XbcWeightReferenceIdeal.main_arg1))
      ∧ r.2.sem = fun _ => 0)

def quiescent_DtWeight [hDtWeight : Cert.DtWeight.Facts] : Prop :=
  ∀ (m : (ℓ : Loc Cert.DtWeight.nD Cert.DtWeight.τ Cert.DtWeight.sig) → Buf (Elt Bits) ℓ) (g : Dev Cert.DtWeight.nD → PrngReg), Pre_DtWeight m →
    θ_run (Cert.DtWeight.defs (F := Bits)) (onTc (τ := Cert.DtWeight.τ) (Cert.DtWeight.main (F := Bits))) ⟨m, fun _ => 0, g⟩ (fun r => (∀ c : Dev Cert.DtWeight.nD,
      r.2.mem ((c.tc : Thread Cert.DtWeight.nD Cert.DtWeight.τ).loc Cert.DtWeight.main_arg0) = m ((c.tc : Thread Cert.DtWeight.nD Cert.DtWeight.τ).loc Cert.DtWeight.main_arg0)
      ∧ r.2.mem ((c.tc : Thread Cert.DtWeight.nD Cert.DtWeight.τ).loc Cert.DtWeight.main_arg1) = m ((c.tc : Thread Cert.DtWeight.nD Cert.DtWeight.τ).loc Cert.DtWeight.main_arg1))
      ∧ r.2.sem = fun _ => 0)

def quiescent_DtWeightIdeal [hDtWeightIdeal : Cert.DtWeightIdeal.Facts] : Prop :=
  ∀ (m : (ℓ : Loc Cert.DtWeightIdeal.nD Cert.DtWeightIdeal.τ Cert.DtWeightIdeal.sig) → Buf (Elt Ideal) ℓ) (g : Dev Cert.DtWeightIdeal.nD → PrngReg), Pre_DtWeightIdeal m →
    θ_run (Cert.DtWeightIdeal.defs (F := Ideal)) (onTc (τ := Cert.DtWeightIdeal.τ) (Cert.DtWeightIdeal.main (F := Ideal))) ⟨m, fun _ => 0, g⟩ (fun r => (∀ c : Dev Cert.DtWeightIdeal.nD,
      r.2.mem ((c.tc : Thread Cert.DtWeightIdeal.nD Cert.DtWeightIdeal.τ).loc Cert.DtWeightIdeal.main_arg0) = m ((c.tc : Thread Cert.DtWeightIdeal.nD Cert.DtWeightIdeal.τ).loc Cert.DtWeightIdeal.main_arg0)
      ∧ r.2.mem ((c.tc : Thread Cert.DtWeightIdeal.nD Cert.DtWeightIdeal.τ).loc Cert.DtWeightIdeal.main_arg1) = m ((c.tc : Thread Cert.DtWeightIdeal.nD Cert.DtWeightIdeal.τ).loc Cert.DtWeightIdeal.main_arg1))
      ∧ r.2.sem = fun _ => 0)

def quiescent_DtWeightReferenceIdeal [hDtWeightReferenceIdeal : Cert.DtWeightReferenceIdeal.Facts] : Prop :=
  ∀ (m : (ℓ : Loc Cert.DtWeightReferenceIdeal.nD Cert.DtWeightReferenceIdeal.τ Cert.DtWeightReferenceIdeal.sig) → Buf (Elt Ideal) ℓ) (g : Dev Cert.DtWeightReferenceIdeal.nD → PrngReg), Pre_DtWeightReferenceIdeal m →
    θ_run (Cert.DtWeightReferenceIdeal.defs (F := Ideal)) (onTc (τ := Cert.DtWeightReferenceIdeal.τ) (Cert.DtWeightReferenceIdeal.main (F := Ideal))) ⟨m, fun _ => 0, g⟩ (fun r => (∀ c : Dev Cert.DtWeightReferenceIdeal.nD,
      r.2.mem ((c.tc : Thread Cert.DtWeightReferenceIdeal.nD Cert.DtWeightReferenceIdeal.τ).loc Cert.DtWeightReferenceIdeal.main_arg0) = m ((c.tc : Thread Cert.DtWeightReferenceIdeal.nD Cert.DtWeightReferenceIdeal.τ).loc Cert.DtWeightReferenceIdeal.main_arg0)
      ∧ r.2.mem ((c.tc : Thread Cert.DtWeightReferenceIdeal.nD Cert.DtWeightReferenceIdeal.τ).loc Cert.DtWeightReferenceIdeal.main_arg1) = m ((c.tc : Thread Cert.DtWeightReferenceIdeal.nD Cert.DtWeightReferenceIdeal.τ).loc Cert.DtWeightReferenceIdeal.main_arg1))
      ∧ r.2.sem = fun _ => 0)

def quiescent_ProjOutGrad [hProjOutGrad : Cert.ProjOutGrad.Facts] : Prop :=
  ∀ (m : (ℓ : Loc Cert.ProjOutGrad.nD Cert.ProjOutGrad.τ Cert.ProjOutGrad.sig) → Buf (Elt Bits) ℓ) (g : Dev Cert.ProjOutGrad.nD → PrngReg), Pre_ProjOutGrad m →
    θ_run (Cert.ProjOutGrad.defs (F := Bits)) (onTc (τ := Cert.ProjOutGrad.τ) (Cert.ProjOutGrad.main (F := Bits))) ⟨m, fun _ => 0, g⟩ (fun r => (∀ c : Dev Cert.ProjOutGrad.nD,
      r.2.mem ((c.tc : Thread Cert.ProjOutGrad.nD Cert.ProjOutGrad.τ).loc Cert.ProjOutGrad.main_arg0) = m ((c.tc : Thread Cert.ProjOutGrad.nD Cert.ProjOutGrad.τ).loc Cert.ProjOutGrad.main_arg0)
      ∧ r.2.mem ((c.tc : Thread Cert.ProjOutGrad.nD Cert.ProjOutGrad.τ).loc Cert.ProjOutGrad.main_arg1) = m ((c.tc : Thread Cert.ProjOutGrad.nD Cert.ProjOutGrad.τ).loc Cert.ProjOutGrad.main_arg1))
      ∧ r.2.sem = fun _ => 0)

def quiescent_ProjOutGradIdeal [hProjOutGradIdeal : Cert.ProjOutGradIdeal.Facts] : Prop :=
  ∀ (m : (ℓ : Loc Cert.ProjOutGradIdeal.nD Cert.ProjOutGradIdeal.τ Cert.ProjOutGradIdeal.sig) → Buf (Elt Ideal) ℓ) (g : Dev Cert.ProjOutGradIdeal.nD → PrngReg), Pre_ProjOutGradIdeal m →
    θ_run (Cert.ProjOutGradIdeal.defs (F := Ideal)) (onTc (τ := Cert.ProjOutGradIdeal.τ) (Cert.ProjOutGradIdeal.main (F := Ideal))) ⟨m, fun _ => 0, g⟩ (fun r => (∀ c : Dev Cert.ProjOutGradIdeal.nD,
      r.2.mem ((c.tc : Thread Cert.ProjOutGradIdeal.nD Cert.ProjOutGradIdeal.τ).loc Cert.ProjOutGradIdeal.main_arg0) = m ((c.tc : Thread Cert.ProjOutGradIdeal.nD Cert.ProjOutGradIdeal.τ).loc Cert.ProjOutGradIdeal.main_arg0)
      ∧ r.2.mem ((c.tc : Thread Cert.ProjOutGradIdeal.nD Cert.ProjOutGradIdeal.τ).loc Cert.ProjOutGradIdeal.main_arg1) = m ((c.tc : Thread Cert.ProjOutGradIdeal.nD Cert.ProjOutGradIdeal.τ).loc Cert.ProjOutGradIdeal.main_arg1))
      ∧ r.2.sem = fun _ => 0)

def quiescent_ProjOutGradReferenceIdeal [hProjOutGradReferenceIdeal : Cert.ProjOutGradReferenceIdeal.Facts] : Prop :=
  ∀ (m : (ℓ : Loc Cert.ProjOutGradReferenceIdeal.nD Cert.ProjOutGradReferenceIdeal.τ Cert.ProjOutGradReferenceIdeal.sig) → Buf (Elt Ideal) ℓ) (g : Dev Cert.ProjOutGradReferenceIdeal.nD → PrngReg), Pre_ProjOutGradReferenceIdeal m →
    θ_run (Cert.ProjOutGradReferenceIdeal.defs (F := Ideal)) (onTc (τ := Cert.ProjOutGradReferenceIdeal.τ) (Cert.ProjOutGradReferenceIdeal.main (F := Ideal))) ⟨m, fun _ => 0, g⟩ (fun r => (∀ c : Dev Cert.ProjOutGradReferenceIdeal.nD,
      r.2.mem ((c.tc : Thread Cert.ProjOutGradReferenceIdeal.nD Cert.ProjOutGradReferenceIdeal.τ).loc Cert.ProjOutGradReferenceIdeal.main_arg0) = m ((c.tc : Thread Cert.ProjOutGradReferenceIdeal.nD Cert.ProjOutGradReferenceIdeal.τ).loc Cert.ProjOutGradReferenceIdeal.main_arg0)
      ∧ r.2.mem ((c.tc : Thread Cert.ProjOutGradReferenceIdeal.nD Cert.ProjOutGradReferenceIdeal.τ).loc Cert.ProjOutGradReferenceIdeal.main_arg1) = m ((c.tc : Thread Cert.ProjOutGradReferenceIdeal.nD Cert.ProjOutGradReferenceIdeal.τ).loc Cert.ProjOutGradReferenceIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvReferenceIdeal [hProjQkvReferenceIdeal : Cert.ProjQkvReferenceIdeal.Facts] : Prop :=
  ∀ (m : (ℓ : Loc Cert.ProjQkvReferenceIdeal.nD Cert.ProjQkvReferenceIdeal.τ Cert.ProjQkvReferenceIdeal.sig) → Buf (Elt Ideal) ℓ) (g : Dev Cert.ProjQkvReferenceIdeal.nD → PrngReg), Pre_ProjQkvReferenceIdeal m →
    θ_run (Cert.ProjQkvReferenceIdeal.defs (F := Ideal)) (onTc (τ := Cert.ProjQkvReferenceIdeal.τ) (Cert.ProjQkvReferenceIdeal.main (F := Ideal))) ⟨m, fun _ => 0, g⟩ (fun r => (∀ c : Dev Cert.ProjQkvReferenceIdeal.nD,
      r.2.mem ((c.tc : Thread Cert.ProjQkvReferenceIdeal.nD Cert.ProjQkvReferenceIdeal.τ).loc Cert.ProjQkvReferenceIdeal.main_arg0) = m ((c.tc : Thread Cert.ProjQkvReferenceIdeal.nD Cert.ProjQkvReferenceIdeal.τ).loc Cert.ProjQkvReferenceIdeal.main_arg0)
      ∧ r.2.mem ((c.tc : Thread Cert.ProjQkvReferenceIdeal.nD Cert.ProjQkvReferenceIdeal.τ).loc Cert.ProjQkvReferenceIdeal.main_arg1) = m ((c.tc : Thread Cert.ProjQkvReferenceIdeal.nD Cert.ProjQkvReferenceIdeal.τ).loc Cert.ProjQkvReferenceIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_ProjZReferenceIdeal [hProjZReferenceIdeal : Cert.ProjZReferenceIdeal.Facts] : Prop :=
  ∀ (m : (ℓ : Loc Cert.ProjZReferenceIdeal.nD Cert.ProjZReferenceIdeal.τ Cert.ProjZReferenceIdeal.sig) → Buf (Elt Ideal) ℓ) (g : Dev Cert.ProjZReferenceIdeal.nD → PrngReg), Pre_ProjZReferenceIdeal m →
    θ_run (Cert.ProjZReferenceIdeal.defs (F := Ideal)) (onTc (τ := Cert.ProjZReferenceIdeal.τ) (Cert.ProjZReferenceIdeal.main (F := Ideal))) ⟨m, fun _ => 0, g⟩ (fun r => (∀ c : Dev Cert.ProjZReferenceIdeal.nD,
      r.2.mem ((c.tc : Thread Cert.ProjZReferenceIdeal.nD Cert.ProjZReferenceIdeal.τ).loc Cert.ProjZReferenceIdeal.main_arg0) = m ((c.tc : Thread Cert.ProjZReferenceIdeal.nD Cert.ProjZReferenceIdeal.τ).loc Cert.ProjZReferenceIdeal.main_arg0)
      ∧ r.2.mem ((c.tc : Thread Cert.ProjZReferenceIdeal.nD Cert.ProjZReferenceIdeal.τ).loc Cert.ProjZReferenceIdeal.main_arg1) = m ((c.tc : Thread Cert.ProjZReferenceIdeal.nD Cert.ProjZReferenceIdeal.τ).loc Cert.ProjZReferenceIdeal.main_arg1))
      ∧ r.2.sem = fun _ => 0)

def quiescent_ProjXbc [hProjXbc : Cert.ProjXbc.Facts] : Prop :=
  ∀ (m : (ℓ : Loc Cert.ProjXbc.nD Cert.ProjXbc.τ Cert.ProjXbc.sig) → Buf (Elt Bits) ℓ) (g : Dev Cert.ProjXbc.nD → PrngReg), Pre_ProjXbc m →
    θ_run (Cert.ProjXbc.defs (F := Bits)) (onTc (τ := Cert.ProjXbc.τ) (Cert.ProjXbc.main (F := Bits))) ⟨m, fun _ => 0, g⟩ (fun r => (∀ c : Dev Cert.ProjXbc.nD,
      r.2.mem ((c.tc : Thread Cert.ProjXbc.nD Cert.ProjXbc.τ).loc Cert.ProjXbc.main_arg0) = m ((c.tc : Thread Cert.ProjXbc.nD Cert.ProjXbc.τ).loc Cert.ProjXbc.main_arg0)
      ∧ r.2.mem ((c.tc : Thread Cert.ProjXbc.nD Cert.ProjXbc.τ).loc Cert.ProjXbc.main_arg1) = m ((c.tc : Thread Cert.ProjXbc.nD Cert.ProjXbc.τ).loc Cert.ProjXbc.main_arg1))
      ∧ r.2.sem = fun _ => 0)

def quiescent_ProjXbcIdeal [hProjXbcIdeal : Cert.ProjXbcIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg), Pre_ProjXbcIdeal m →
    θ_run (Cert.ProjXbcIdeal.defs (F := Ideal)) (onTc (τ := Cert.ProjXbcIdeal.τ) (Cert.ProjXbcIdeal.main (F := Ideal))) ⟨m, fun _ => 0, g⟩ (fun r => (∀ c : Dev Cert.ProjXbcIdeal.nD,
      r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
      ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ r.2.sem = fun _ => 0)

def quiescent_ProjXbcReferenceIdeal [hProjXbcReferenceIdeal : Cert.ProjXbcReferenceIdeal.Facts] : Prop :=
  ∀ (m : (ℓ : Loc Cert.ProjXbcReferenceIdeal.nD Cert.ProjXbcReferenceIdeal.τ Cert.ProjXbcReferenceIdeal.sig) → Buf (Elt Ideal) ℓ) (g : Dev Cert.ProjXbcReferenceIdeal.nD → PrngReg), Pre_ProjXbcReferenceIdeal m →
    θ_run (Cert.ProjXbcReferenceIdeal.defs (F := Ideal)) (onTc (τ := Cert.ProjXbcReferenceIdeal.τ) (Cert.ProjXbcReferenceIdeal.main (F := Ideal))) ⟨m, fun _ => 0, g⟩ (fun r => (∀ c : Dev Cert.ProjXbcReferenceIdeal.nD,
      r.2.mem ((c.tc : Thread Cert.ProjXbcReferenceIdeal.nD Cert.ProjXbcReferenceIdeal.τ).loc Cert.ProjXbcReferenceIdeal.main_arg0) = m ((c.tc : Thread Cert.ProjXbcReferenceIdeal.nD Cert.ProjXbcReferenceIdeal.τ).loc Cert.ProjXbcReferenceIdeal.main_arg0)
      ∧ r.2.mem ((c.tc : Thread Cert.ProjXbcReferenceIdeal.nD Cert.ProjXbcReferenceIdeal.τ).loc Cert.ProjXbcReferenceIdeal.main_arg1) = m ((c.tc : Thread Cert.ProjXbcReferenceIdeal.nD Cert.ProjXbcReferenceIdeal.τ).loc Cert.ProjXbcReferenceIdeal.main_arg1))
      ∧ r.2.sem = fun _ => 0)

def quiescent_ProjDt [hProjDt : Cert.ProjDt.Facts] : Prop :=
  ∀ (m : (ℓ : Loc Cert.ProjDt.nD Cert.ProjDt.τ Cert.ProjDt.sig) → Buf (Elt Bits) ℓ) (g : Dev Cert.ProjDt.nD → PrngReg), Pre_ProjDt m →
    θ_run (Cert.ProjDt.defs (F := Bits)) (onTc (τ := Cert.ProjDt.τ) (Cert.ProjDt.main (F := Bits))) ⟨m, fun _ => 0, g⟩ (fun r => (∀ c : Dev Cert.ProjDt.nD,
      r.2.mem ((c.tc : Thread Cert.ProjDt.nD Cert.ProjDt.τ).loc Cert.ProjDt.main_arg0) = m ((c.tc : Thread Cert.ProjDt.nD Cert.ProjDt.τ).loc Cert.ProjDt.main_arg0)
      ∧ r.2.mem ((c.tc : Thread Cert.ProjDt.nD Cert.ProjDt.τ).loc Cert.ProjDt.main_arg1) = m ((c.tc : Thread Cert.ProjDt.nD Cert.ProjDt.τ).loc Cert.ProjDt.main_arg1))
      ∧ r.2.sem = fun _ => 0)

def quiescent_ProjDtIdeal [hProjDtIdeal : Cert.ProjDtIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg), Pre_ProjDtIdeal m →
    θ_run (Cert.ProjDtIdeal.defs (F := Ideal)) (onTc (τ := Cert.ProjDtIdeal.τ) (Cert.ProjDtIdeal.main (F := Ideal))) ⟨m, fun _ => 0, g⟩ (fun r => (∀ c : Dev Cert.ProjDtIdeal.nD,
      r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
      ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ r.2.sem = fun _ => 0)

def quiescent_ProjDtReferenceIdeal [hProjDtReferenceIdeal : Cert.ProjDtReferenceIdeal.Facts] : Prop :=
  ∀ (m : (ℓ : Loc Cert.ProjDtReferenceIdeal.nD Cert.ProjDtReferenceIdeal.τ Cert.ProjDtReferenceIdeal.sig) → Buf (Elt Ideal) ℓ) (g : Dev Cert.ProjDtReferenceIdeal.nD → PrngReg), Pre_ProjDtReferenceIdeal m →
    θ_run (Cert.ProjDtReferenceIdeal.defs (F := Ideal)) (onTc (τ := Cert.ProjDtReferenceIdeal.τ) (Cert.ProjDtReferenceIdeal.main (F := Ideal))) ⟨m, fun _ => 0, g⟩ (fun r => (∀ c : Dev Cert.ProjDtReferenceIdeal.nD,
      r.2.mem ((c.tc : Thread Cert.ProjDtReferenceIdeal.nD Cert.ProjDtReferenceIdeal.τ).loc Cert.ProjDtReferenceIdeal.main_arg0) = m ((c.tc : Thread Cert.ProjDtReferenceIdeal.nD Cert.ProjDtReferenceIdeal.τ).loc Cert.ProjDtReferenceIdeal.main_arg0)
      ∧ r.2.mem ((c.tc : Thread Cert.ProjDtReferenceIdeal.nD Cert.ProjDtReferenceIdeal.τ).loc Cert.ProjDtReferenceIdeal.main_arg1) = m ((c.tc : Thread Cert.ProjDtReferenceIdeal.nD Cert.ProjDtReferenceIdeal.τ).loc Cert.ProjDtReferenceIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutReferenceIdeal [hProjOutReferenceIdeal : Cert.ProjOutReferenceIdeal.Facts] : Prop :=
  ∀ (m : (ℓ : Loc Cert.ProjOutReferenceIdeal.nD Cert.ProjOutReferenceIdeal.τ Cert.ProjOutReferenceIdeal.sig) → Buf (Elt Ideal) ℓ) (g : Dev Cert.ProjOutReferenceIdeal.nD → PrngReg), Pre_ProjOutReferenceIdeal m →
    θ_run (Cert.ProjOutReferenceIdeal.defs (F := Ideal)) (onTc (τ := Cert.ProjOutReferenceIdeal.τ) (Cert.ProjOutReferenceIdeal.main (F := Ideal))) ⟨m, fun _ => 0, g⟩ (fun r => (∀ c : Dev Cert.ProjOutReferenceIdeal.nD,
      r.2.mem ((c.tc : Thread Cert.ProjOutReferenceIdeal.nD Cert.ProjOutReferenceIdeal.τ).loc Cert.ProjOutReferenceIdeal.main_arg0) = m ((c.tc : Thread Cert.ProjOutReferenceIdeal.nD Cert.ProjOutReferenceIdeal.τ).loc Cert.ProjOutReferenceIdeal.main_arg0)
      ∧ r.2.mem ((c.tc : Thread Cert.ProjOutReferenceIdeal.nD Cert.ProjOutReferenceIdeal.τ).loc Cert.ProjOutReferenceIdeal.main_arg1) = m ((c.tc : Thread Cert.ProjOutReferenceIdeal.nD Cert.ProjOutReferenceIdeal.τ).loc Cert.ProjOutReferenceIdeal.main_arg1)
      ∧ r.2.mem ((c.tc : Thread Cert.ProjOutReferenceIdeal.nD Cert.ProjOutReferenceIdeal.τ).loc Cert.ProjOutReferenceIdeal.main_arg2) = m ((c.tc : Thread Cert.ProjOutReferenceIdeal.nD Cert.ProjOutReferenceIdeal.τ).loc Cert.ProjOutReferenceIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_MergeReferenceIdeal_pre_merge_finite [hMergeReferenceIdeal : Cert.MergeReferenceIdeal.Facts] [hPre_merge_finite : Cert.Pre_merge_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_merge_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_ConvReferenceIdeal_pre_conv_finite [hConvReferenceIdeal : Cert.ConvReferenceIdeal.Facts] [hPre_conv_finite : Cert.Pre_conv_finite.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_conv_finite m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1)
      ∧ r.2.mem ((c.tc : Thread Cert.ConvFwdReferenceIdeal.nD Cert.ConvFwdReferenceIdeal.τ).loc Cert.ConvFwdReferenceIdeal.main_arg2) = m ((c.tc : Thread Cert.ConvFwdReferenceIdeal.nD Cert.ConvFwdReferenceIdeal.τ).loc Cert.ConvFwdReferenceIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4))
      ∧ r.2.sem = fun _ => 0)

def quiescent_SsdFwdIdeal_pre_ssd_fwd_below [hSsdFwdIdeal : Cert.SsdFwdIdeal.Facts] [hPre_ssd_fwd_below : Cert.Pre_ssd_fwd_below.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal_ssd_fwd_below m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4))
      ∧ r.2.sem = fun _ => 0)

def quiescent_SsdFwdReferenceIdeal [hSsdFwdReferenceIdeal : Cert.SsdFwdReferenceIdeal.Facts] : Prop :=
  ∀ (m : (ℓ : Loc Cert.SsdFwdReferenceIdeal.nD Cert.SsdFwdReferenceIdeal.τ Cert.SsdFwdReferenceIdeal.sig) → Buf (Elt Ideal) ℓ) (g : Dev Cert.SsdFwdReferenceIdeal.nD → PrngReg), Pre_SsdFwdReferenceIdeal m →
    θ_run (Cert.SsdFwdReferenceIdeal.defs (F := Ideal)) (onTc (τ := Cert.SsdFwdReferenceIdeal.τ) (Cert.SsdFwdReferenceIdeal.main (F := Ideal))) ⟨m, fun _ => 0, g⟩ (fun r => (∀ c : Dev Cert.SsdFwdReferenceIdeal.nD,
      r.2.mem ((c.tc : Thread Cert.SsdFwdReferenceIdeal.nD Cert.SsdFwdReferenceIdeal.τ).loc Cert.SsdFwdReferenceIdeal.main_arg0) = m ((c.tc : Thread Cert.SsdFwdReferenceIdeal.nD Cert.SsdFwdReferenceIdeal.τ).loc Cert.SsdFwdReferenceIdeal.main_arg0)
      ∧ r.2.mem ((c.tc : Thread Cert.SsdFwdReferenceIdeal.nD Cert.SsdFwdReferenceIdeal.τ).loc Cert.SsdFwdReferenceIdeal.main_arg1) = m ((c.tc : Thread Cert.SsdFwdReferenceIdeal.nD Cert.SsdFwdReferenceIdeal.τ).loc Cert.SsdFwdReferenceIdeal.main_arg1)
      ∧ r.2.mem ((c.tc : Thread Cert.SsdFwdReferenceIdeal.nD Cert.SsdFwdReferenceIdeal.τ).loc Cert.SsdFwdReferenceIdeal.main_arg2) = m ((c.tc : Thread Cert.SsdFwdReferenceIdeal.nD Cert.SsdFwdReferenceIdeal.τ).loc Cert.SsdFwdReferenceIdeal.main_arg2)
      ∧ r.2.mem ((c.tc : Thread Cert.SsdFwdReferenceIdeal.nD Cert.SsdFwdReferenceIdeal.τ).loc Cert.SsdFwdReferenceIdeal.main_arg3) = m ((c.tc : Thread Cert.SsdFwdReferenceIdeal.nD Cert.SsdFwdReferenceIdeal.τ).loc Cert.SsdFwdReferenceIdeal.main_arg3)
      ∧ r.2.mem ((c.tc : Thread Cert.SsdFwdReferenceIdeal.nD Cert.SsdFwdReferenceIdeal.τ).loc Cert.SsdFwdReferenceIdeal.main_arg4) = m ((c.tc : Thread Cert.SsdFwdReferenceIdeal.nD Cert.SsdFwdReferenceIdeal.τ).loc Cert.SsdFwdReferenceIdeal.main_arg4))
      ∧ r.2.sem = fun _ => 0)

def quiescent_SsdFwdReferenceIdeal_pre_ssd_fwd_below [hSsdFwdReferenceIdeal : Cert.SsdFwdReferenceIdeal.Facts] [hPre_ssd_fwd_below : Cert.Pre_ssd_fwd_below.Facts] : Prop :=
  ∀ (m : (ℓ : Loc Cert.SsdFwdReferenceIdeal.nD Cert.SsdFwdReferenceIdeal.τ Cert.SsdFwdReferenceIdeal.sig) → Buf (Elt Ideal) ℓ) (g : Dev Cert.SsdFwdReferenceIdeal.nD → PrngReg), Pre_SsdFwdReferenceIdeal_ssd_fwd_below m →
    θ_run (Cert.SsdFwdReferenceIdeal.defs (F := Ideal)) (onTc (τ := Cert.SsdFwdReferenceIdeal.τ) (Cert.SsdFwdReferenceIdeal.main (F := Ideal))) ⟨m, fun _ => 0, g⟩ (fun r => (∀ c : Dev Cert.SsdFwdReferenceIdeal.nD,
      r.2.mem ((c.tc : Thread Cert.SsdFwdReferenceIdeal.nD Cert.SsdFwdReferenceIdeal.τ).loc Cert.SsdFwdReferenceIdeal.main_arg0) = m ((c.tc : Thread Cert.SsdFwdReferenceIdeal.nD Cert.SsdFwdReferenceIdeal.τ).loc Cert.SsdFwdReferenceIdeal.main_arg0)
      ∧ r.2.mem ((c.tc : Thread Cert.SsdFwdReferenceIdeal.nD Cert.SsdFwdReferenceIdeal.τ).loc Cert.SsdFwdReferenceIdeal.main_arg1) = m ((c.tc : Thread Cert.SsdFwdReferenceIdeal.nD Cert.SsdFwdReferenceIdeal.τ).loc Cert.SsdFwdReferenceIdeal.main_arg1)
      ∧ r.2.mem ((c.tc : Thread Cert.SsdFwdReferenceIdeal.nD Cert.SsdFwdReferenceIdeal.τ).loc Cert.SsdFwdReferenceIdeal.main_arg2) = m ((c.tc : Thread Cert.SsdFwdReferenceIdeal.nD Cert.SsdFwdReferenceIdeal.τ).loc Cert.SsdFwdReferenceIdeal.main_arg2)
      ∧ r.2.mem ((c.tc : Thread Cert.SsdFwdReferenceIdeal.nD Cert.SsdFwdReferenceIdeal.τ).loc Cert.SsdFwdReferenceIdeal.main_arg3) = m ((c.tc : Thread Cert.SsdFwdReferenceIdeal.nD Cert.SsdFwdReferenceIdeal.τ).loc Cert.SsdFwdReferenceIdeal.main_arg3)
      ∧ r.2.mem ((c.tc : Thread Cert.SsdFwdReferenceIdeal.nD Cert.SsdFwdReferenceIdeal.τ).loc Cert.SsdFwdReferenceIdeal.main_arg4) = m ((c.tc : Thread Cert.SsdFwdReferenceIdeal.nD Cert.SsdFwdReferenceIdeal.τ).loc Cert.SsdFwdReferenceIdeal.main_arg4))
      ∧ r.2.sem = fun _ => 0)

def quiescent_ChipIn [hChipIn : Cert.ChipIn.Facts] : Prop :=
  ∀ (m : (ℓ : Loc Cert.ChipIn.nD Cert.ChipIn.τ Cert.ChipIn.sig) → Buf (Elt Bits) ℓ) (g : Dev Cert.ChipIn.nD → PrngReg), Pre_ChipIn m →
    θ_run (Cert.ChipIn.defs (F := Bits)) (onTc (τ := Cert.ChipIn.τ) (Cert.ChipIn.main (F := Bits))) ⟨m, fun _ => 0, g⟩ (fun r => (∀ c : Dev Cert.ChipIn.nD,
      r.2.mem ((c.tc : Thread Cert.ChipIn.nD Cert.ChipIn.τ).loc Cert.ChipIn.main_arg0) = m ((c.tc : Thread Cert.ChipIn.nD Cert.ChipIn.τ).loc Cert.ChipIn.main_arg0)
      ∧ r.2.mem ((c.tc : Thread Cert.ChipIn.nD Cert.ChipIn.τ).loc Cert.ChipIn.main_arg1) = m ((c.tc : Thread Cert.ChipIn.nD Cert.ChipIn.τ).loc Cert.ChipIn.main_arg1))
      ∧ r.2.sem = fun _ => 0)

def quiescent_ChipInIdeal [hChipInIdeal : Cert.ChipInIdeal.Facts] : Prop :=
  ∀ (m : (ℓ : Loc Cert.ChipInIdeal.nD Cert.ChipInIdeal.τ Cert.ChipInIdeal.sig) → Buf (Elt Ideal) ℓ) (g : Dev Cert.ChipInIdeal.nD → PrngReg), Pre_ChipInIdeal m →
    θ_run (Cert.ChipInIdeal.defs (F := Ideal)) (onTc (τ := Cert.ChipInIdeal.τ) (Cert.ChipInIdeal.main (F := Ideal))) ⟨m, fun _ => 0, g⟩ (fun r => (∀ c : Dev Cert.ChipInIdeal.nD,
      r.2.mem ((c.tc : Thread Cert.ChipInIdeal.nD Cert.ChipInIdeal.τ).loc Cert.ChipInIdeal.main_arg0) = m ((c.tc : Thread Cert.ChipInIdeal.nD Cert.ChipInIdeal.τ).loc Cert.ChipInIdeal.main_arg0)
      ∧ r.2.mem ((c.tc : Thread Cert.ChipInIdeal.nD Cert.ChipInIdeal.τ).loc Cert.ChipInIdeal.main_arg1) = m ((c.tc : Thread Cert.ChipInIdeal.nD Cert.ChipInIdeal.τ).loc Cert.ChipInIdeal.main_arg1))
      ∧ r.2.sem = fun _ => 0)

def quiescent_ChipInReferenceIdeal [hChipInReferenceIdeal : Cert.ChipInReferenceIdeal.Facts] : Prop :=
  ∀ (m : (ℓ : Loc Cert.ChipInReferenceIdeal.nD Cert.ChipInReferenceIdeal.τ Cert.ChipInReferenceIdeal.sig) → Buf (Elt Ideal) ℓ) (g : Dev Cert.ChipInReferenceIdeal.nD → PrngReg), Pre_ChipInReferenceIdeal m →
    θ_run (Cert.ChipInReferenceIdeal.defs (F := Ideal)) (onTc (τ := Cert.ChipInReferenceIdeal.τ) (Cert.ChipInReferenceIdeal.main (F := Ideal))) ⟨m, fun _ => 0, g⟩ (fun r => (∀ c : Dev Cert.ChipInReferenceIdeal.nD,
      r.2.mem ((c.tc : Thread Cert.ChipInReferenceIdeal.nD Cert.ChipInReferenceIdeal.τ).loc Cert.ChipInReferenceIdeal.main_arg0) = m ((c.tc : Thread Cert.ChipInReferenceIdeal.nD Cert.ChipInReferenceIdeal.τ).loc Cert.ChipInReferenceIdeal.main_arg0)
      ∧ r.2.mem ((c.tc : Thread Cert.ChipInReferenceIdeal.nD Cert.ChipInReferenceIdeal.τ).loc Cert.ChipInReferenceIdeal.main_arg1) = m ((c.tc : Thread Cert.ChipInReferenceIdeal.nD Cert.ChipInReferenceIdeal.τ).loc Cert.ChipInReferenceIdeal.main_arg1))
      ∧ r.2.sem = fun _ => 0)

def quiescent_ChipOut [hChipOut : Cert.ChipOut.Facts] : Prop :=
  ∀ (m : (ℓ : Loc Cert.ChipOut.nD Cert.ChipOut.τ Cert.ChipOut.sig) → Buf (Elt Bits) ℓ) (g : Dev Cert.ChipOut.nD → PrngReg), Pre_ChipOut m →
    θ_run (Cert.ChipOut.defs (F := Bits)) (onTc (τ := Cert.ChipOut.τ) (Cert.ChipOut.main (F := Bits))) ⟨m, fun _ => 0, g⟩ (fun r => (∀ c : Dev Cert.ChipOut.nD,
      r.2.mem ((c.tc : Thread Cert.ChipOut.nD Cert.ChipOut.τ).loc Cert.ChipOut.main_arg0) = m ((c.tc : Thread Cert.ChipOut.nD Cert.ChipOut.τ).loc Cert.ChipOut.main_arg0)
      ∧ r.2.mem ((c.tc : Thread Cert.ChipOut.nD Cert.ChipOut.τ).loc Cert.ChipOut.main_arg1) = m ((c.tc : Thread Cert.ChipOut.nD Cert.ChipOut.τ).loc Cert.ChipOut.main_arg1))
      ∧ r.2.sem = fun _ => 0)

def quiescent_ChipOutIdeal [hChipOutIdeal : Cert.ChipOutIdeal.Facts] : Prop :=
  ∀ (m : (ℓ : Loc Cert.ChipOutIdeal.nD Cert.ChipOutIdeal.τ Cert.ChipOutIdeal.sig) → Buf (Elt Ideal) ℓ) (g : Dev Cert.ChipOutIdeal.nD → PrngReg), Pre_ChipOutIdeal m →
    θ_run (Cert.ChipOutIdeal.defs (F := Ideal)) (onTc (τ := Cert.ChipOutIdeal.τ) (Cert.ChipOutIdeal.main (F := Ideal))) ⟨m, fun _ => 0, g⟩ (fun r => (∀ c : Dev Cert.ChipOutIdeal.nD,
      r.2.mem ((c.tc : Thread Cert.ChipOutIdeal.nD Cert.ChipOutIdeal.τ).loc Cert.ChipOutIdeal.main_arg0) = m ((c.tc : Thread Cert.ChipOutIdeal.nD Cert.ChipOutIdeal.τ).loc Cert.ChipOutIdeal.main_arg0)
      ∧ r.2.mem ((c.tc : Thread Cert.ChipOutIdeal.nD Cert.ChipOutIdeal.τ).loc Cert.ChipOutIdeal.main_arg1) = m ((c.tc : Thread Cert.ChipOutIdeal.nD Cert.ChipOutIdeal.τ).loc Cert.ChipOutIdeal.main_arg1))
      ∧ r.2.sem = fun _ => 0)

def quiescent_ChipOutReferenceIdeal [hChipOutReferenceIdeal : Cert.ChipOutReferenceIdeal.Facts] : Prop :=
  ∀ (m : (ℓ : Loc Cert.ChipOutReferenceIdeal.nD Cert.ChipOutReferenceIdeal.τ Cert.ChipOutReferenceIdeal.sig) → Buf (Elt Ideal) ℓ) (g : Dev Cert.ChipOutReferenceIdeal.nD → PrngReg), Pre_ChipOutReferenceIdeal m →
    θ_run (Cert.ChipOutReferenceIdeal.defs (F := Ideal)) (onTc (τ := Cert.ChipOutReferenceIdeal.τ) (Cert.ChipOutReferenceIdeal.main (F := Ideal))) ⟨m, fun _ => 0, g⟩ (fun r => (∀ c : Dev Cert.ChipOutReferenceIdeal.nD,
      r.2.mem ((c.tc : Thread Cert.ChipOutReferenceIdeal.nD Cert.ChipOutReferenceIdeal.τ).loc Cert.ChipOutReferenceIdeal.main_arg0) = m ((c.tc : Thread Cert.ChipOutReferenceIdeal.nD Cert.ChipOutReferenceIdeal.τ).loc Cert.ChipOutReferenceIdeal.main_arg0)
      ∧ r.2.mem ((c.tc : Thread Cert.ChipOutReferenceIdeal.nD Cert.ChipOutReferenceIdeal.τ).loc Cert.ChipOutReferenceIdeal.main_arg1) = m ((c.tc : Thread Cert.ChipOutReferenceIdeal.nD Cert.ChipOutReferenceIdeal.τ).loc Cert.ChipOutReferenceIdeal.main_arg1))
      ∧ r.2.sem = fun _ => 0)

def quiescent_ChipGate [hChipGate : Cert.ChipGate.Facts] : Prop :=
  ∀ (m : (ℓ : Loc Cert.ChipGate.nD Cert.ChipGate.τ Cert.ChipGate.sig) → Buf (Elt Bits) ℓ) (g : Dev Cert.ChipGate.nD → PrngReg), Pre_ChipGate m →
    θ_run (Cert.ChipGate.defs (F := Bits)) (onTc (τ := Cert.ChipGate.τ) (Cert.ChipGate.main (F := Bits))) ⟨m, fun _ => 0, g⟩ (fun r => (∀ c : Dev Cert.ChipGate.nD,
      r.2.mem ((c.tc : Thread Cert.ChipGate.nD Cert.ChipGate.τ).loc Cert.ChipGate.main_arg0) = m ((c.tc : Thread Cert.ChipGate.nD Cert.ChipGate.τ).loc Cert.ChipGate.main_arg0)
      ∧ r.2.mem ((c.tc : Thread Cert.ChipGate.nD Cert.ChipGate.τ).loc Cert.ChipGate.main_arg1) = m ((c.tc : Thread Cert.ChipGate.nD Cert.ChipGate.τ).loc Cert.ChipGate.main_arg1))
      ∧ r.2.sem = fun _ => 0)

def quiescent_ChipGateIdeal [hChipGateIdeal : Cert.ChipGateIdeal.Facts] : Prop :=
  ∀ (m : (ℓ : Loc Cert.ChipGateIdeal.nD Cert.ChipGateIdeal.τ Cert.ChipGateIdeal.sig) → Buf (Elt Ideal) ℓ) (g : Dev Cert.ChipGateIdeal.nD → PrngReg), Pre_ChipGateIdeal m →
    θ_run (Cert.ChipGateIdeal.defs (F := Ideal)) (onTc (τ := Cert.ChipGateIdeal.τ) (Cert.ChipGateIdeal.main (F := Ideal))) ⟨m, fun _ => 0, g⟩ (fun r => (∀ c : Dev Cert.ChipGateIdeal.nD,
      r.2.mem ((c.tc : Thread Cert.ChipGateIdeal.nD Cert.ChipGateIdeal.τ).loc Cert.ChipGateIdeal.main_arg0) = m ((c.tc : Thread Cert.ChipGateIdeal.nD Cert.ChipGateIdeal.τ).loc Cert.ChipGateIdeal.main_arg0)
      ∧ r.2.mem ((c.tc : Thread Cert.ChipGateIdeal.nD Cert.ChipGateIdeal.τ).loc Cert.ChipGateIdeal.main_arg1) = m ((c.tc : Thread Cert.ChipGateIdeal.nD Cert.ChipGateIdeal.τ).loc Cert.ChipGateIdeal.main_arg1))
      ∧ r.2.sem = fun _ => 0)

def quiescent_ChipGateReferenceIdeal [hChipGateReferenceIdeal : Cert.ChipGateReferenceIdeal.Facts] : Prop :=
  ∀ (m : (ℓ : Loc Cert.ChipGateReferenceIdeal.nD Cert.ChipGateReferenceIdeal.τ Cert.ChipGateReferenceIdeal.sig) → Buf (Elt Ideal) ℓ) (g : Dev Cert.ChipGateReferenceIdeal.nD → PrngReg), Pre_ChipGateReferenceIdeal m →
    θ_run (Cert.ChipGateReferenceIdeal.defs (F := Ideal)) (onTc (τ := Cert.ChipGateReferenceIdeal.τ) (Cert.ChipGateReferenceIdeal.main (F := Ideal))) ⟨m, fun _ => 0, g⟩ (fun r => (∀ c : Dev Cert.ChipGateReferenceIdeal.nD,
      r.2.mem ((c.tc : Thread Cert.ChipGateReferenceIdeal.nD Cert.ChipGateReferenceIdeal.τ).loc Cert.ChipGateReferenceIdeal.main_arg0) = m ((c.tc : Thread Cert.ChipGateReferenceIdeal.nD Cert.ChipGateReferenceIdeal.τ).loc Cert.ChipGateReferenceIdeal.main_arg0)
      ∧ r.2.mem ((c.tc : Thread Cert.ChipGateReferenceIdeal.nD Cert.ChipGateReferenceIdeal.τ).loc Cert.ChipGateReferenceIdeal.main_arg1) = m ((c.tc : Thread Cert.ChipGateReferenceIdeal.nD Cert.ChipGateReferenceIdeal.τ).loc Cert.ChipGateReferenceIdeal.main_arg1))
      ∧ r.2.sem = fun _ => 0)

def quiescent_ChipDown [hChipDown : Cert.ChipDown.Facts] : Prop :=
  ∀ (m : (ℓ : Loc Cert.ChipDown.nD Cert.ChipDown.τ Cert.ChipDown.sig) → Buf (Elt Bits) ℓ) (g : Dev Cert.ChipDown.nD → PrngReg), Pre_ChipDown m →
    θ_run (Cert.ChipDown.defs (F := Bits)) (onTc (τ := Cert.ChipDown.τ) (Cert.ChipDown.main (F := Bits))) ⟨m, fun _ => 0, g⟩ (fun r => (∀ c : Dev Cert.ChipDown.nD,
      r.2.mem ((c.tc : Thread Cert.ChipDown.nD Cert.ChipDown.τ).loc Cert.ChipDown.main_arg0) = m ((c.tc : Thread Cert.ChipDown.nD Cert.ChipDown.τ).loc Cert.ChipDown.main_arg0)
      ∧ r.2.mem ((c.tc : Thread Cert.ChipDown.nD Cert.ChipDown.τ).loc Cert.ChipDown.main_arg1) = m ((c.tc : Thread Cert.ChipDown.nD Cert.ChipDown.τ).loc Cert.ChipDown.main_arg1))
      ∧ r.2.sem = fun _ => 0)

def quiescent_ChipDownIdeal [hChipDownIdeal : Cert.ChipDownIdeal.Facts] : Prop :=
  ∀ (m : (ℓ : Loc Cert.ChipDownIdeal.nD Cert.ChipDownIdeal.τ Cert.ChipDownIdeal.sig) → Buf (Elt Ideal) ℓ) (g : Dev Cert.ChipDownIdeal.nD → PrngReg), Pre_ChipDownIdeal m →
    θ_run (Cert.ChipDownIdeal.defs (F := Ideal)) (onTc (τ := Cert.ChipDownIdeal.τ) (Cert.ChipDownIdeal.main (F := Ideal))) ⟨m, fun _ => 0, g⟩ (fun r => (∀ c : Dev Cert.ChipDownIdeal.nD,
      r.2.mem ((c.tc : Thread Cert.ChipDownIdeal.nD Cert.ChipDownIdeal.τ).loc Cert.ChipDownIdeal.main_arg0) = m ((c.tc : Thread Cert.ChipDownIdeal.nD Cert.ChipDownIdeal.τ).loc Cert.ChipDownIdeal.main_arg0)
      ∧ r.2.mem ((c.tc : Thread Cert.ChipDownIdeal.nD Cert.ChipDownIdeal.τ).loc Cert.ChipDownIdeal.main_arg1) = m ((c.tc : Thread Cert.ChipDownIdeal.nD Cert.ChipDownIdeal.τ).loc Cert.ChipDownIdeal.main_arg1))
      ∧ r.2.sem = fun _ => 0)

def quiescent_ChipDownReferenceIdeal [hChipDownReferenceIdeal : Cert.ChipDownReferenceIdeal.Facts] : Prop :=
  ∀ (m : (ℓ : Loc Cert.ChipDownReferenceIdeal.nD Cert.ChipDownReferenceIdeal.τ Cert.ChipDownReferenceIdeal.sig) → Buf (Elt Ideal) ℓ) (g : Dev Cert.ChipDownReferenceIdeal.nD → PrngReg), Pre_ChipDownReferenceIdeal m →
    θ_run (Cert.ChipDownReferenceIdeal.defs (F := Ideal)) (onTc (τ := Cert.ChipDownReferenceIdeal.τ) (Cert.ChipDownReferenceIdeal.main (F := Ideal))) ⟨m, fun _ => 0, g⟩ (fun r => (∀ c : Dev Cert.ChipDownReferenceIdeal.nD,
      r.2.mem ((c.tc : Thread Cert.ChipDownReferenceIdeal.nD Cert.ChipDownReferenceIdeal.τ).loc Cert.ChipDownReferenceIdeal.main_arg0) = m ((c.tc : Thread Cert.ChipDownReferenceIdeal.nD Cert.ChipDownReferenceIdeal.τ).loc Cert.ChipDownReferenceIdeal.main_arg0)
      ∧ r.2.mem ((c.tc : Thread Cert.ChipDownReferenceIdeal.nD Cert.ChipDownReferenceIdeal.τ).loc Cert.ChipDownReferenceIdeal.main_arg1) = m ((c.tc : Thread Cert.ChipDownReferenceIdeal.nD Cert.ChipDownReferenceIdeal.τ).loc Cert.ChipDownReferenceIdeal.main_arg1))
      ∧ r.2.sem = fun _ => 0)

def quiescent_SsdSkip [hSsdSkip : Cert.SsdSkip.Facts] : Prop :=
  ∀ (m : (ℓ : Loc Cert.SsdSkip.nD Cert.SsdSkip.τ Cert.SsdSkip.sig) → Buf (Elt Bits) ℓ) (g : Dev Cert.SsdSkip.nD → PrngReg), Pre_SsdSkip m →
    θ_run (Cert.SsdSkip.defs (F := Bits)) (onTc (τ := Cert.SsdSkip.τ) (Cert.SsdSkip.main (F := Bits))) ⟨m, fun _ => 0, g⟩ (fun r => (∀ c : Dev Cert.SsdSkip.nD,
      r.2.mem ((c.tc : Thread Cert.SsdSkip.nD Cert.SsdSkip.τ).loc Cert.SsdSkip.main_arg0) = m ((c.tc : Thread Cert.SsdSkip.nD Cert.SsdSkip.τ).loc Cert.SsdSkip.main_arg0)
      ∧ r.2.mem ((c.tc : Thread Cert.SsdSkip.nD Cert.SsdSkip.τ).loc Cert.SsdSkip.main_arg1) = m ((c.tc : Thread Cert.SsdSkip.nD Cert.SsdSkip.τ).loc Cert.SsdSkip.main_arg1)
      ∧ r.2.mem ((c.tc : Thread Cert.SsdSkip.nD Cert.SsdSkip.τ).loc Cert.SsdSkip.main_arg2) = m ((c.tc : Thread Cert.SsdSkip.nD Cert.SsdSkip.τ).loc Cert.SsdSkip.main_arg2)
      ∧ r.2.mem ((c.tc : Thread Cert.SsdSkip.nD Cert.SsdSkip.τ).loc Cert.SsdSkip.main_arg3) = m ((c.tc : Thread Cert.SsdSkip.nD Cert.SsdSkip.τ).loc Cert.SsdSkip.main_arg3)
      ∧ r.2.mem ((c.tc : Thread Cert.SsdSkip.nD Cert.SsdSkip.τ).loc Cert.SsdSkip.main_arg4) = m ((c.tc : Thread Cert.SsdSkip.nD Cert.SsdSkip.τ).loc Cert.SsdSkip.main_arg4)
      ∧ r.2.mem ((c.tc : Thread Cert.SsdSkip.nD Cert.SsdSkip.τ).loc Cert.SsdSkip.main_arg5) = m ((c.tc : Thread Cert.SsdSkip.nD Cert.SsdSkip.τ).loc Cert.SsdSkip.main_arg5)
      ∧ r.2.mem ((c.tc : Thread Cert.SsdSkip.nD Cert.SsdSkip.τ).loc Cert.SsdSkip.main_arg6) = m ((c.tc : Thread Cert.SsdSkip.nD Cert.SsdSkip.τ).loc Cert.SsdSkip.main_arg6))
      ∧ r.2.sem = fun _ => 0)

def quiescent_SsdSkipIdeal [hSsdSkipIdeal : Cert.SsdSkipIdeal.Facts] : Prop :=
  ∀ (m : (ℓ : Loc Cert.SsdSkipIdeal.nD Cert.SsdSkipIdeal.τ Cert.SsdSkipIdeal.sig) → Buf (Elt Ideal) ℓ) (g : Dev Cert.SsdSkipIdeal.nD → PrngReg), Pre_SsdSkipIdeal m →
    θ_run (Cert.SsdSkipIdeal.defs (F := Ideal)) (onTc (τ := Cert.SsdSkipIdeal.τ) (Cert.SsdSkipIdeal.main (F := Ideal))) ⟨m, fun _ => 0, g⟩ (fun r => (∀ c : Dev Cert.SsdSkipIdeal.nD,
      r.2.mem ((c.tc : Thread Cert.SsdSkipIdeal.nD Cert.SsdSkipIdeal.τ).loc Cert.SsdSkipIdeal.main_arg0) = m ((c.tc : Thread Cert.SsdSkipIdeal.nD Cert.SsdSkipIdeal.τ).loc Cert.SsdSkipIdeal.main_arg0)
      ∧ r.2.mem ((c.tc : Thread Cert.SsdSkipIdeal.nD Cert.SsdSkipIdeal.τ).loc Cert.SsdSkipIdeal.main_arg1) = m ((c.tc : Thread Cert.SsdSkipIdeal.nD Cert.SsdSkipIdeal.τ).loc Cert.SsdSkipIdeal.main_arg1)
      ∧ r.2.mem ((c.tc : Thread Cert.SsdSkipIdeal.nD Cert.SsdSkipIdeal.τ).loc Cert.SsdSkipIdeal.main_arg2) = m ((c.tc : Thread Cert.SsdSkipIdeal.nD Cert.SsdSkipIdeal.τ).loc Cert.SsdSkipIdeal.main_arg2)
      ∧ r.2.mem ((c.tc : Thread Cert.SsdSkipIdeal.nD Cert.SsdSkipIdeal.τ).loc Cert.SsdSkipIdeal.main_arg3) = m ((c.tc : Thread Cert.SsdSkipIdeal.nD Cert.SsdSkipIdeal.τ).loc Cert.SsdSkipIdeal.main_arg3)
      ∧ r.2.mem ((c.tc : Thread Cert.SsdSkipIdeal.nD Cert.SsdSkipIdeal.τ).loc Cert.SsdSkipIdeal.main_arg4) = m ((c.tc : Thread Cert.SsdSkipIdeal.nD Cert.SsdSkipIdeal.τ).loc Cert.SsdSkipIdeal.main_arg4)
      ∧ r.2.mem ((c.tc : Thread Cert.SsdSkipIdeal.nD Cert.SsdSkipIdeal.τ).loc Cert.SsdSkipIdeal.main_arg5) = m ((c.tc : Thread Cert.SsdSkipIdeal.nD Cert.SsdSkipIdeal.τ).loc Cert.SsdSkipIdeal.main_arg5)
      ∧ r.2.mem ((c.tc : Thread Cert.SsdSkipIdeal.nD Cert.SsdSkipIdeal.τ).loc Cert.SsdSkipIdeal.main_arg6) = m ((c.tc : Thread Cert.SsdSkipIdeal.nD Cert.SsdSkipIdeal.τ).loc Cert.SsdSkipIdeal.main_arg6))
      ∧ r.2.sem = fun _ => 0)

def quiescent_SsdSkipIdeal_pre_ssd_skip_finite [hSsdSkipIdeal : Cert.SsdSkipIdeal.Facts] [hPre_ssd_skip_finite : Cert.Pre_ssd_skip_finite.Facts] : Prop :=
  ∀ (m : (ℓ : Loc Cert.SsdSkipIdeal.nD Cert.SsdSkipIdeal.τ Cert.SsdSkipIdeal.sig) → Buf (Elt Ideal) ℓ) (g : Dev Cert.SsdSkipIdeal.nD → PrngReg), Pre_SsdSkipIdeal_ssd_skip_finite m →
    θ_run (Cert.SsdSkipIdeal.defs (F := Ideal)) (onTc (τ := Cert.SsdSkipIdeal.τ) (Cert.SsdSkipIdeal.main (F := Ideal))) ⟨m, fun _ => 0, g⟩ (fun r => (∀ c : Dev Cert.SsdSkipIdeal.nD,
      r.2.mem ((c.tc : Thread Cert.SsdSkipIdeal.nD Cert.SsdSkipIdeal.τ).loc Cert.SsdSkipIdeal.main_arg0) = m ((c.tc : Thread Cert.SsdSkipIdeal.nD Cert.SsdSkipIdeal.τ).loc Cert.SsdSkipIdeal.main_arg0)
      ∧ r.2.mem ((c.tc : Thread Cert.SsdSkipIdeal.nD Cert.SsdSkipIdeal.τ).loc Cert.SsdSkipIdeal.main_arg1) = m ((c.tc : Thread Cert.SsdSkipIdeal.nD Cert.SsdSkipIdeal.τ).loc Cert.SsdSkipIdeal.main_arg1)
      ∧ r.2.mem ((c.tc : Thread Cert.SsdSkipIdeal.nD Cert.SsdSkipIdeal.τ).loc Cert.SsdSkipIdeal.main_arg2) = m ((c.tc : Thread Cert.SsdSkipIdeal.nD Cert.SsdSkipIdeal.τ).loc Cert.SsdSkipIdeal.main_arg2)
      ∧ r.2.mem ((c.tc : Thread Cert.SsdSkipIdeal.nD Cert.SsdSkipIdeal.τ).loc Cert.SsdSkipIdeal.main_arg3) = m ((c.tc : Thread Cert.SsdSkipIdeal.nD Cert.SsdSkipIdeal.τ).loc Cert.SsdSkipIdeal.main_arg3)
      ∧ r.2.mem ((c.tc : Thread Cert.SsdSkipIdeal.nD Cert.SsdSkipIdeal.τ).loc Cert.SsdSkipIdeal.main_arg4) = m ((c.tc : Thread Cert.SsdSkipIdeal.nD Cert.SsdSkipIdeal.τ).loc Cert.SsdSkipIdeal.main_arg4)
      ∧ r.2.mem ((c.tc : Thread Cert.SsdSkipIdeal.nD Cert.SsdSkipIdeal.τ).loc Cert.SsdSkipIdeal.main_arg5) = m ((c.tc : Thread Cert.SsdSkipIdeal.nD Cert.SsdSkipIdeal.τ).loc Cert.SsdSkipIdeal.main_arg5)
      ∧ r.2.mem ((c.tc : Thread Cert.SsdSkipIdeal.nD Cert.SsdSkipIdeal.τ).loc Cert.SsdSkipIdeal.main_arg6) = m ((c.tc : Thread Cert.SsdSkipIdeal.nD Cert.SsdSkipIdeal.τ).loc Cert.SsdSkipIdeal.main_arg6))
      ∧ r.2.sem = fun _ => 0)

def quiescent_SsdSkipReferenceIdeal [hSsdSkipReferenceIdeal : Cert.SsdSkipReferenceIdeal.Facts] : Prop :=
  ∀ (m : (ℓ : Loc Cert.SsdSkipReferenceIdeal.nD Cert.SsdSkipReferenceIdeal.τ Cert.SsdSkipReferenceIdeal.sig) → Buf (Elt Ideal) ℓ) (g : Dev Cert.SsdSkipReferenceIdeal.nD → PrngReg), Pre_SsdSkipReferenceIdeal m →
    θ_run (Cert.SsdSkipReferenceIdeal.defs (F := Ideal)) (onTc (τ := Cert.SsdSkipReferenceIdeal.τ) (Cert.SsdSkipReferenceIdeal.main (F := Ideal))) ⟨m, fun _ => 0, g⟩ (fun r => (∀ c : Dev Cert.SsdSkipReferenceIdeal.nD,
      r.2.mem ((c.tc : Thread Cert.SsdSkipReferenceIdeal.nD Cert.SsdSkipReferenceIdeal.τ).loc Cert.SsdSkipReferenceIdeal.main_arg0) = m ((c.tc : Thread Cert.SsdSkipReferenceIdeal.nD Cert.SsdSkipReferenceIdeal.τ).loc Cert.SsdSkipReferenceIdeal.main_arg0)
      ∧ r.2.mem ((c.tc : Thread Cert.SsdSkipReferenceIdeal.nD Cert.SsdSkipReferenceIdeal.τ).loc Cert.SsdSkipReferenceIdeal.main_arg1) = m ((c.tc : Thread Cert.SsdSkipReferenceIdeal.nD Cert.SsdSkipReferenceIdeal.τ).loc Cert.SsdSkipReferenceIdeal.main_arg1)
      ∧ r.2.mem ((c.tc : Thread Cert.SsdSkipReferenceIdeal.nD Cert.SsdSkipReferenceIdeal.τ).loc Cert.SsdSkipReferenceIdeal.main_arg2) = m ((c.tc : Thread Cert.SsdSkipReferenceIdeal.nD Cert.SsdSkipReferenceIdeal.τ).loc Cert.SsdSkipReferenceIdeal.main_arg2)
      ∧ r.2.mem ((c.tc : Thread Cert.SsdSkipReferenceIdeal.nD Cert.SsdSkipReferenceIdeal.τ).loc Cert.SsdSkipReferenceIdeal.main_arg3) = m ((c.tc : Thread Cert.SsdSkipReferenceIdeal.nD Cert.SsdSkipReferenceIdeal.τ).loc Cert.SsdSkipReferenceIdeal.main_arg3)
      ∧ r.2.mem ((c.tc : Thread Cert.SsdSkipReferenceIdeal.nD Cert.SsdSkipReferenceIdeal.τ).loc Cert.SsdSkipReferenceIdeal.main_arg4) = m ((c.tc : Thread Cert.SsdSkipReferenceIdeal.nD Cert.SsdSkipReferenceIdeal.τ).loc Cert.SsdSkipReferenceIdeal.main_arg4)
      ∧ r.2.mem ((c.tc : Thread Cert.SsdSkipReferenceIdeal.nD Cert.SsdSkipReferenceIdeal.τ).loc Cert.SsdSkipReferenceIdeal.main_arg5) = m ((c.tc : Thread Cert.SsdSkipReferenceIdeal.nD Cert.SsdSkipReferenceIdeal.τ).loc Cert.SsdSkipReferenceIdeal.main_arg5)
      ∧ r.2.mem ((c.tc : Thread Cert.SsdSkipReferenceIdeal.nD Cert.SsdSkipReferenceIdeal.τ).loc Cert.SsdSkipReferenceIdeal.main_arg6) = m ((c.tc : Thread Cert.SsdSkipReferenceIdeal.nD Cert.SsdSkipReferenceIdeal.τ).loc Cert.SsdSkipReferenceIdeal.main_arg6))
      ∧ r.2.sem = fun _ => 0)

def quiescent_SsdSkipReferenceIdeal_pre_ssd_skip_finite [hSsdSkipReferenceIdeal : Cert.SsdSkipReferenceIdeal.Facts] [hPre_ssd_skip_finite : Cert.Pre_ssd_skip_finite.Facts] : Prop :=
  ∀ (m : (ℓ : Loc Cert.SsdSkipReferenceIdeal.nD Cert.SsdSkipReferenceIdeal.τ Cert.SsdSkipReferenceIdeal.sig) → Buf (Elt Ideal) ℓ) (g : Dev Cert.SsdSkipReferenceIdeal.nD → PrngReg), Pre_SsdSkipReferenceIdeal_ssd_skip_finite m →
    θ_run (Cert.SsdSkipReferenceIdeal.defs (F := Ideal)) (onTc (τ := Cert.SsdSkipReferenceIdeal.τ) (Cert.SsdSkipReferenceIdeal.main (F := Ideal))) ⟨m, fun _ => 0, g⟩ (fun r => (∀ c : Dev Cert.SsdSkipReferenceIdeal.nD,
      r.2.mem ((c.tc : Thread Cert.SsdSkipReferenceIdeal.nD Cert.SsdSkipReferenceIdeal.τ).loc Cert.SsdSkipReferenceIdeal.main_arg0) = m ((c.tc : Thread Cert.SsdSkipReferenceIdeal.nD Cert.SsdSkipReferenceIdeal.τ).loc Cert.SsdSkipReferenceIdeal.main_arg0)
      ∧ r.2.mem ((c.tc : Thread Cert.SsdSkipReferenceIdeal.nD Cert.SsdSkipReferenceIdeal.τ).loc Cert.SsdSkipReferenceIdeal.main_arg1) = m ((c.tc : Thread Cert.SsdSkipReferenceIdeal.nD Cert.SsdSkipReferenceIdeal.τ).loc Cert.SsdSkipReferenceIdeal.main_arg1)
      ∧ r.2.mem ((c.tc : Thread Cert.SsdSkipReferenceIdeal.nD Cert.SsdSkipReferenceIdeal.τ).loc Cert.SsdSkipReferenceIdeal.main_arg2) = m ((c.tc : Thread Cert.SsdSkipReferenceIdeal.nD Cert.SsdSkipReferenceIdeal.τ).loc Cert.SsdSkipReferenceIdeal.main_arg2)
      ∧ r.2.mem ((c.tc : Thread Cert.SsdSkipReferenceIdeal.nD Cert.SsdSkipReferenceIdeal.τ).loc Cert.SsdSkipReferenceIdeal.main_arg3) = m ((c.tc : Thread Cert.SsdSkipReferenceIdeal.nD Cert.SsdSkipReferenceIdeal.τ).loc Cert.SsdSkipReferenceIdeal.main_arg3)
      ∧ r.2.mem ((c.tc : Thread Cert.SsdSkipReferenceIdeal.nD Cert.SsdSkipReferenceIdeal.τ).loc Cert.SsdSkipReferenceIdeal.main_arg4) = m ((c.tc : Thread Cert.SsdSkipReferenceIdeal.nD Cert.SsdSkipReferenceIdeal.τ).loc Cert.SsdSkipReferenceIdeal.main_arg4)
      ∧ r.2.mem ((c.tc : Thread Cert.SsdSkipReferenceIdeal.nD Cert.SsdSkipReferenceIdeal.τ).loc Cert.SsdSkipReferenceIdeal.main_arg5) = m ((c.tc : Thread Cert.SsdSkipReferenceIdeal.nD Cert.SsdSkipReferenceIdeal.τ).loc Cert.SsdSkipReferenceIdeal.main_arg5)
      ∧ r.2.mem ((c.tc : Thread Cert.SsdSkipReferenceIdeal.nD Cert.SsdSkipReferenceIdeal.τ).loc Cert.SsdSkipReferenceIdeal.main_arg6) = m ((c.tc : Thread Cert.SsdSkipReferenceIdeal.nD Cert.SsdSkipReferenceIdeal.τ).loc Cert.SsdSkipReferenceIdeal.main_arg6))
      ∧ r.2.sem = fun _ => 0)

def preserves_Down_DownIdeal : Prop :=
  True

def algebraic_DownIdeal_DownReferenceIdeal_pre_down_finite [hDownIdeal : Cert.DownIdeal.Facts] [hDownReferenceIdeal : Cert.DownReferenceIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_down_finite m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v9) = v0 c
          ∧ r.2.mem ((c.tc : Thread Cert.DownReferenceIdeal.nD Cert.DownReferenceIdeal.τ).loc Cert.DownReferenceIdeal.main_v10) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_GateUpGrad_GateUpGradIdeal : Prop :=
  True

def algebraic_GateUpGradIdeal_GateUpGradReferenceIdeal [hGateUpGradIdeal : Cert.GateUpGradIdeal.Facts] [hGateUpGradReferenceIdeal : Cert.GateUpGradReferenceIdeal.Facts] : Prop :=
  ∀ (m : (ℓ : Loc Cert.GateUpGradIdeal.nD Cert.GateUpGradIdeal.τ Cert.GateUpGradIdeal.sig) → Buf (Elt Ideal) ℓ) (g : Dev Cert.GateUpGradIdeal.nD → PrngReg)
    (m' : (ℓ : Loc Cert.GateUpGradReferenceIdeal.nD Cert.GateUpGradReferenceIdeal.τ Cert.GateUpGradReferenceIdeal.sig) → Buf (Elt Ideal) ℓ) (g' : Dev Cert.GateUpGradReferenceIdeal.nD → PrngReg), Pre_GateUpGradIdeal m →
    (∀ c : Dev Cert.GateUpGradIdeal.nD,
      m' ((c.tc : Thread Cert.GateUpGradReferenceIdeal.nD Cert.GateUpGradReferenceIdeal.τ).loc Cert.GateUpGradReferenceIdeal.main_arg0) = m ((c.tc : Thread Cert.GateUpGradIdeal.nD Cert.GateUpGradIdeal.τ).loc Cert.GateUpGradIdeal.main_arg0)
      ∧ m' ((c.tc : Thread Cert.GateUpGradReferenceIdeal.nD Cert.GateUpGradReferenceIdeal.τ).loc Cert.GateUpGradReferenceIdeal.main_arg1) = m ((c.tc : Thread Cert.GateUpGradIdeal.nD Cert.GateUpGradIdeal.τ).loc Cert.GateUpGradIdeal.main_arg1)
      ∧ m' ((c.tc : Thread Cert.GateUpGradReferenceIdeal.nD Cert.GateUpGradReferenceIdeal.τ).loc Cert.GateUpGradReferenceIdeal.main_arg2) = m ((c.tc : Thread Cert.GateUpGradIdeal.nD Cert.GateUpGradIdeal.τ).loc Cert.GateUpGradIdeal.main_arg2)
      ∧ m' ((c.tc : Thread Cert.GateUpGradReferenceIdeal.nD Cert.GateUpGradReferenceIdeal.τ).loc Cert.GateUpGradReferenceIdeal.main_arg3) = m ((c.tc : Thread Cert.GateUpGradIdeal.nD Cert.GateUpGradIdeal.τ).loc Cert.GateUpGradIdeal.main_arg3)) →
    ∃ (v0 : (c : Dev Cert.GateUpGradIdeal.nD) → Buf (Elt Ideal) ((c.tc : Thread Cert.GateUpGradIdeal.nD Cert.GateUpGradIdeal.τ).loc Cert.GateUpGradIdeal.main_v0)),
      θ_run (Cert.GateUpGradIdeal.defs (F := Ideal)) (onTc (τ := Cert.GateUpGradIdeal.τ) (Cert.GateUpGradIdeal.main (F := Ideal))) ⟨m, fun _ => 0, g⟩ (fun r => ∀ c : Dev Cert.GateUpGradIdeal.nD,
          r.2.mem ((c.tc : Thread Cert.GateUpGradIdeal.nD Cert.GateUpGradIdeal.τ).loc Cert.GateUpGradIdeal.main_v0) = v0 c
          ∧ r.2.mem ((c.tc : Thread Cert.GateUpGradIdeal.nD Cert.GateUpGradIdeal.τ).loc Cert.GateUpGradIdeal.main_arg0) = m ((c.tc : Thread Cert.GateUpGradIdeal.nD Cert.GateUpGradIdeal.τ).loc Cert.GateUpGradIdeal.main_arg0)
          ∧ r.2.mem ((c.tc : Thread Cert.GateUpGradIdeal.nD Cert.GateUpGradIdeal.τ).loc Cert.GateUpGradIdeal.main_arg1) = m ((c.tc : Thread Cert.GateUpGradIdeal.nD Cert.GateUpGradIdeal.τ).loc Cert.GateUpGradIdeal.main_arg1)
          ∧ r.2.mem ((c.tc : Thread Cert.GateUpGradIdeal.nD Cert.GateUpGradIdeal.τ).loc Cert.GateUpGradIdeal.main_arg2) = m ((c.tc : Thread Cert.GateUpGradIdeal.nD Cert.GateUpGradIdeal.τ).loc Cert.GateUpGradIdeal.main_arg2)
          ∧ r.2.mem ((c.tc : Thread Cert.GateUpGradIdeal.nD Cert.GateUpGradIdeal.τ).loc Cert.GateUpGradIdeal.main_arg3) = m ((c.tc : Thread Cert.GateUpGradIdeal.nD Cert.GateUpGradIdeal.τ).loc Cert.GateUpGradIdeal.main_arg3))
      ∧ θ_run (Cert.GateUpGradReferenceIdeal.defs (F := Ideal)) (onTc (τ := Cert.GateUpGradReferenceIdeal.τ) (Cert.GateUpGradReferenceIdeal.main (F := Ideal))) ⟨m', fun _ => 0, g'⟩ (fun r => ∀ c : Dev Cert.GateUpGradReferenceIdeal.nD,
          r.2.mem ((c.tc : Thread Cert.GateUpGradReferenceIdeal.nD Cert.GateUpGradReferenceIdeal.τ).loc Cert.GateUpGradReferenceIdeal.main_v9) = v0 c
          ∧ r.2.mem ((c.tc : Thread Cert.GateUpGradReferenceIdeal.nD Cert.GateUpGradReferenceIdeal.τ).loc Cert.GateUpGradReferenceIdeal.main_arg0) = m' ((c.tc : Thread Cert.GateUpGradReferenceIdeal.nD Cert.GateUpGradReferenceIdeal.τ).loc Cert.GateUpGradReferenceIdeal.main_arg0)
          ∧ r.2.mem ((c.tc : Thread Cert.GateUpGradReferenceIdeal.nD Cert.GateUpGradReferenceIdeal.τ).loc Cert.GateUpGradReferenceIdeal.main_arg1) = m' ((c.tc : Thread Cert.GateUpGradReferenceIdeal.nD Cert.GateUpGradReferenceIdeal.τ).loc Cert.GateUpGradReferenceIdeal.main_arg1)
          ∧ r.2.mem ((c.tc : Thread Cert.GateUpGradReferenceIdeal.nD Cert.GateUpGradReferenceIdeal.τ).loc Cert.GateUpGradReferenceIdeal.main_arg2) = m' ((c.tc : Thread Cert.GateUpGradReferenceIdeal.nD Cert.GateUpGradReferenceIdeal.τ).loc Cert.GateUpGradReferenceIdeal.main_arg2)
          ∧ r.2.mem ((c.tc : Thread Cert.GateUpGradReferenceIdeal.nD Cert.GateUpGradReferenceIdeal.τ).loc Cert.GateUpGradReferenceIdeal.main_arg3) = m' ((c.tc : Thread Cert.GateUpGradReferenceIdeal.nD Cert.GateUpGradReferenceIdeal.τ).loc Cert.GateUpGradReferenceIdeal.main_arg3))

def preserves_DownWeight_DownWeightIdeal : Prop :=
  True

def algebraic_DownWeightIdeal_DownWeightReferenceIdeal [hDownWeightIdeal : Cert.DownWeightIdeal.Facts] [hDownWeightReferenceIdeal : Cert.DownWeightReferenceIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightReferenceIdeal.nD Cert.DownWeightReferenceIdeal.τ Cert.DownWeightReferenceIdeal.sig) → Buf (Elt Ideal) ℓ) (g' : Dev Cert.DownWeightReferenceIdeal.nD → PrngReg), Pre_DownWeightIdeal m →
    (∀ c : Dev Cert.DownWeightIdeal.nD,
      m' ((c.tc : Thread Cert.DownWeightReferenceIdeal.nD Cert.DownWeightReferenceIdeal.τ).loc Cert.DownWeightReferenceIdeal.main_arg0) = m ((c.tc : Thread Cert.DownWeightIdeal.nD Cert.DownWeightIdeal.τ).loc Cert.DownWeightIdeal.main_arg0)
      ∧ m' ((c.tc : Thread Cert.DownWeightReferenceIdeal.nD Cert.DownWeightReferenceIdeal.τ).loc Cert.DownWeightReferenceIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightReferenceIdeal.defs (F := Ideal)) (onTc (τ := Cert.DownWeightReferenceIdeal.τ) (Cert.DownWeightReferenceIdeal.main (F := Ideal))) ⟨m', fun _ => 0, g'⟩ (fun r => ∀ c : Dev Cert.DownWeightReferenceIdeal.nD,
          r.2.mem ((c.tc : Thread Cert.DownWeightReferenceIdeal.nD Cert.DownWeightReferenceIdeal.τ).loc Cert.DownWeightReferenceIdeal.main_v5) = v0 c
          ∧ r.2.mem ((c.tc : Thread Cert.DownWeightReferenceIdeal.nD Cert.DownWeightReferenceIdeal.τ).loc Cert.DownWeightReferenceIdeal.main_arg0) = m' ((c.tc : Thread Cert.DownWeightReferenceIdeal.nD Cert.DownWeightReferenceIdeal.τ).loc Cert.DownWeightReferenceIdeal.main_arg0)
          ∧ r.2.mem ((c.tc : Thread Cert.DownWeightReferenceIdeal.nD Cert.DownWeightReferenceIdeal.τ).loc Cert.DownWeightReferenceIdeal.main_arg1) = m' ((c.tc : Thread Cert.DownWeightReferenceIdeal.nD Cert.DownWeightReferenceIdeal.τ).loc Cert.DownWeightReferenceIdeal.main_arg1))

def preserves_GateWeight_GateWeightIdeal : Prop :=
  True

def algebraic_GateWeightIdeal_GateWeightReferenceIdeal [hGateWeightIdeal : Cert.GateWeightIdeal.Facts] [hGateWeightReferenceIdeal : Cert.GateWeightReferenceIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightReferenceIdeal.nD Cert.GateWeightReferenceIdeal.τ Cert.GateWeightReferenceIdeal.sig) → Buf (Elt Ideal) ℓ) (g' : Dev Cert.GateWeightReferenceIdeal.nD → PrngReg), Pre_GateWeightIdeal m →
    (∀ c : Dev Cert.GateWeightIdeal.nD,
      m' ((c.tc : Thread Cert.GateWeightReferenceIdeal.nD Cert.GateWeightReferenceIdeal.τ).loc Cert.GateWeightReferenceIdeal.main_arg0) = m ((c.tc : Thread Cert.GateWeightIdeal.nD Cert.GateWeightIdeal.τ).loc Cert.GateWeightIdeal.main_arg0)
      ∧ m' ((c.tc : Thread Cert.GateWeightReferenceIdeal.nD Cert.GateWeightReferenceIdeal.τ).loc Cert.GateWeightReferenceIdeal.main_arg1) = m ((c.tc : Thread Cert.GateWeightIdeal.nD Cert.GateWeightIdeal.τ).loc Cert.GateWeightIdeal.main_arg1)) →
    ∃ (v0 : (c : Dev Cert.GateWeightIdeal.nD) → Buf (Elt Ideal) ((c.tc : Thread Cert.GateWeightIdeal.nD Cert.GateWeightIdeal.τ).loc Cert.GateWeightIdeal.main_v0)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v0) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ θ_run (Cert.GateWeightReferenceIdeal.defs (F := Ideal)) (onTc (τ := Cert.GateWeightReferenceIdeal.τ) (Cert.GateWeightReferenceIdeal.main (F := Ideal))) ⟨m', fun _ => 0, g'⟩ (fun r => ∀ c : Dev Cert.GateWeightReferenceIdeal.nD,
          r.2.mem ((c.tc : Thread Cert.GateWeightReferenceIdeal.nD Cert.GateWeightReferenceIdeal.τ).loc Cert.GateWeightReferenceIdeal.main_v5) = v0 c
          ∧ r.2.mem ((c.tc : Thread Cert.GateWeightReferenceIdeal.nD Cert.GateWeightReferenceIdeal.τ).loc Cert.GateWeightReferenceIdeal.main_arg0) = m' ((c.tc : Thread Cert.GateWeightReferenceIdeal.nD Cert.GateWeightReferenceIdeal.τ).loc Cert.GateWeightReferenceIdeal.main_arg0)
          ∧ r.2.mem ((c.tc : Thread Cert.GateWeightReferenceIdeal.nD Cert.GateWeightReferenceIdeal.τ).loc Cert.GateWeightReferenceIdeal.main_arg1) = m' ((c.tc : Thread Cert.GateWeightReferenceIdeal.nD Cert.GateWeightReferenceIdeal.τ).loc Cert.GateWeightReferenceIdeal.main_arg1))

def preserves_ProjInGrad_ProjInGradIdeal : Prop :=
  True

def algebraic_ProjInGradIdeal_ProjInGradReferenceIdeal [hProjInGradIdeal : Cert.ProjInGradIdeal.Facts] [hProjInGradReferenceIdeal : Cert.ProjInGradReferenceIdeal.Facts] : Prop :=
  ∀ (m : (ℓ : Loc Cert.ProjInGradIdeal.nD Cert.ProjInGradIdeal.τ Cert.ProjInGradIdeal.sig) → Buf (Elt Ideal) ℓ) (g : Dev Cert.ProjInGradIdeal.nD → PrngReg)
    (m' : (ℓ : Loc Cert.ProjInGradReferenceIdeal.nD Cert.ProjInGradReferenceIdeal.τ Cert.ProjInGradReferenceIdeal.sig) → Buf (Elt Ideal) ℓ) (g' : Dev Cert.ProjInGradReferenceIdeal.nD → PrngReg), Pre_ProjInGradIdeal m →
    (∀ c : Dev Cert.ProjInGradIdeal.nD,
      m' ((c.tc : Thread Cert.ProjInGradReferenceIdeal.nD Cert.ProjInGradReferenceIdeal.τ).loc Cert.ProjInGradReferenceIdeal.main_arg0) = m ((c.tc : Thread Cert.ProjInGradIdeal.nD Cert.ProjInGradIdeal.τ).loc Cert.ProjInGradIdeal.main_arg0)
      ∧ m' ((c.tc : Thread Cert.ProjInGradReferenceIdeal.nD Cert.ProjInGradReferenceIdeal.τ).loc Cert.ProjInGradReferenceIdeal.main_arg1) = m ((c.tc : Thread Cert.ProjInGradIdeal.nD Cert.ProjInGradIdeal.τ).loc Cert.ProjInGradIdeal.main_arg1)
      ∧ m' ((c.tc : Thread Cert.ProjInGradReferenceIdeal.nD Cert.ProjInGradReferenceIdeal.τ).loc Cert.ProjInGradReferenceIdeal.main_arg2) = m ((c.tc : Thread Cert.ProjInGradIdeal.nD Cert.ProjInGradIdeal.τ).loc Cert.ProjInGradIdeal.main_arg2)
      ∧ m' ((c.tc : Thread Cert.ProjInGradReferenceIdeal.nD Cert.ProjInGradReferenceIdeal.τ).loc Cert.ProjInGradReferenceIdeal.main_arg3) = m ((c.tc : Thread Cert.ProjInGradIdeal.nD Cert.ProjInGradIdeal.τ).loc Cert.ProjInGradIdeal.main_arg3)
      ∧ m' ((c.tc : Thread Cert.ProjInGradReferenceIdeal.nD Cert.ProjInGradReferenceIdeal.τ).loc Cert.ProjInGradReferenceIdeal.main_arg4) = m ((c.tc : Thread Cert.ProjInGradIdeal.nD Cert.ProjInGradIdeal.τ).loc Cert.ProjInGradIdeal.main_arg4)
      ∧ m' ((c.tc : Thread Cert.ProjInGradReferenceIdeal.nD Cert.ProjInGradReferenceIdeal.τ).loc Cert.ProjInGradReferenceIdeal.main_arg5) = m ((c.tc : Thread Cert.ProjInGradIdeal.nD Cert.ProjInGradIdeal.τ).loc Cert.ProjInGradIdeal.main_arg5)
      ∧ m' ((c.tc : Thread Cert.ProjInGradReferenceIdeal.nD Cert.ProjInGradReferenceIdeal.τ).loc Cert.ProjInGradReferenceIdeal.main_arg6) = m ((c.tc : Thread Cert.ProjInGradIdeal.nD Cert.ProjInGradIdeal.τ).loc Cert.ProjInGradIdeal.main_arg6)
      ∧ m' ((c.tc : Thread Cert.ProjInGradReferenceIdeal.nD Cert.ProjInGradReferenceIdeal.τ).loc Cert.ProjInGradReferenceIdeal.main_arg7) = m ((c.tc : Thread Cert.ProjInGradIdeal.nD Cert.ProjInGradIdeal.τ).loc Cert.ProjInGradIdeal.main_arg7)) →
    ∃ (v0 : (c : Dev Cert.ProjInGradIdeal.nD) → Buf (Elt Ideal) ((c.tc : Thread Cert.ProjInGradIdeal.nD Cert.ProjInGradIdeal.τ).loc Cert.ProjInGradIdeal.main_v0)),
      θ_run (Cert.ProjInGradIdeal.defs (F := Ideal)) (onTc (τ := Cert.ProjInGradIdeal.τ) (Cert.ProjInGradIdeal.main (F := Ideal))) ⟨m, fun _ => 0, g⟩ (fun r => ∀ c : Dev Cert.ProjInGradIdeal.nD,
          r.2.mem ((c.tc : Thread Cert.ProjInGradIdeal.nD Cert.ProjInGradIdeal.τ).loc Cert.ProjInGradIdeal.main_v0) = v0 c
          ∧ r.2.mem ((c.tc : Thread Cert.ProjInGradIdeal.nD Cert.ProjInGradIdeal.τ).loc Cert.ProjInGradIdeal.main_arg0) = m ((c.tc : Thread Cert.ProjInGradIdeal.nD Cert.ProjInGradIdeal.τ).loc Cert.ProjInGradIdeal.main_arg0)
          ∧ r.2.mem ((c.tc : Thread Cert.ProjInGradIdeal.nD Cert.ProjInGradIdeal.τ).loc Cert.ProjInGradIdeal.main_arg1) = m ((c.tc : Thread Cert.ProjInGradIdeal.nD Cert.ProjInGradIdeal.τ).loc Cert.ProjInGradIdeal.main_arg1)
          ∧ r.2.mem ((c.tc : Thread Cert.ProjInGradIdeal.nD Cert.ProjInGradIdeal.τ).loc Cert.ProjInGradIdeal.main_arg2) = m ((c.tc : Thread Cert.ProjInGradIdeal.nD Cert.ProjInGradIdeal.τ).loc Cert.ProjInGradIdeal.main_arg2)
          ∧ r.2.mem ((c.tc : Thread Cert.ProjInGradIdeal.nD Cert.ProjInGradIdeal.τ).loc Cert.ProjInGradIdeal.main_arg3) = m ((c.tc : Thread Cert.ProjInGradIdeal.nD Cert.ProjInGradIdeal.τ).loc Cert.ProjInGradIdeal.main_arg3)
          ∧ r.2.mem ((c.tc : Thread Cert.ProjInGradIdeal.nD Cert.ProjInGradIdeal.τ).loc Cert.ProjInGradIdeal.main_arg4) = m ((c.tc : Thread Cert.ProjInGradIdeal.nD Cert.ProjInGradIdeal.τ).loc Cert.ProjInGradIdeal.main_arg4)
          ∧ r.2.mem ((c.tc : Thread Cert.ProjInGradIdeal.nD Cert.ProjInGradIdeal.τ).loc Cert.ProjInGradIdeal.main_arg5) = m ((c.tc : Thread Cert.ProjInGradIdeal.nD Cert.ProjInGradIdeal.τ).loc Cert.ProjInGradIdeal.main_arg5)
          ∧ r.2.mem ((c.tc : Thread Cert.ProjInGradIdeal.nD Cert.ProjInGradIdeal.τ).loc Cert.ProjInGradIdeal.main_arg6) = m ((c.tc : Thread Cert.ProjInGradIdeal.nD Cert.ProjInGradIdeal.τ).loc Cert.ProjInGradIdeal.main_arg6)
          ∧ r.2.mem ((c.tc : Thread Cert.ProjInGradIdeal.nD Cert.ProjInGradIdeal.τ).loc Cert.ProjInGradIdeal.main_arg7) = m ((c.tc : Thread Cert.ProjInGradIdeal.nD Cert.ProjInGradIdeal.τ).loc Cert.ProjInGradIdeal.main_arg7))
      ∧ θ_run (Cert.ProjInGradReferenceIdeal.defs (F := Ideal)) (onTc (τ := Cert.ProjInGradReferenceIdeal.τ) (Cert.ProjInGradReferenceIdeal.main (F := Ideal))) ⟨m', fun _ => 0, g'⟩ (fun r => ∀ c : Dev Cert.ProjInGradReferenceIdeal.nD,
          r.2.mem ((c.tc : Thread Cert.ProjInGradReferenceIdeal.nD Cert.ProjInGradReferenceIdeal.τ).loc Cert.ProjInGradReferenceIdeal.main_v19) = v0 c
          ∧ r.2.mem ((c.tc : Thread Cert.ProjInGradReferenceIdeal.nD Cert.ProjInGradReferenceIdeal.τ).loc Cert.ProjInGradReferenceIdeal.main_arg0) = m' ((c.tc : Thread Cert.ProjInGradReferenceIdeal.nD Cert.ProjInGradReferenceIdeal.τ).loc Cert.ProjInGradReferenceIdeal.main_arg0)
          ∧ r.2.mem ((c.tc : Thread Cert.ProjInGradReferenceIdeal.nD Cert.ProjInGradReferenceIdeal.τ).loc Cert.ProjInGradReferenceIdeal.main_arg1) = m' ((c.tc : Thread Cert.ProjInGradReferenceIdeal.nD Cert.ProjInGradReferenceIdeal.τ).loc Cert.ProjInGradReferenceIdeal.main_arg1)
          ∧ r.2.mem ((c.tc : Thread Cert.ProjInGradReferenceIdeal.nD Cert.ProjInGradReferenceIdeal.τ).loc Cert.ProjInGradReferenceIdeal.main_arg2) = m' ((c.tc : Thread Cert.ProjInGradReferenceIdeal.nD Cert.ProjInGradReferenceIdeal.τ).loc Cert.ProjInGradReferenceIdeal.main_arg2)
          ∧ r.2.mem ((c.tc : Thread Cert.ProjInGradReferenceIdeal.nD Cert.ProjInGradReferenceIdeal.τ).loc Cert.ProjInGradReferenceIdeal.main_arg3) = m' ((c.tc : Thread Cert.ProjInGradReferenceIdeal.nD Cert.ProjInGradReferenceIdeal.τ).loc Cert.ProjInGradReferenceIdeal.main_arg3)
          ∧ r.2.mem ((c.tc : Thread Cert.ProjInGradReferenceIdeal.nD Cert.ProjInGradReferenceIdeal.τ).loc Cert.ProjInGradReferenceIdeal.main_arg4) = m' ((c.tc : Thread Cert.ProjInGradReferenceIdeal.nD Cert.ProjInGradReferenceIdeal.τ).loc Cert.ProjInGradReferenceIdeal.main_arg4)
          ∧ r.2.mem ((c.tc : Thread Cert.ProjInGradReferenceIdeal.nD Cert.ProjInGradReferenceIdeal.τ).loc Cert.ProjInGradReferenceIdeal.main_arg5) = m' ((c.tc : Thread Cert.ProjInGradReferenceIdeal.nD Cert.ProjInGradReferenceIdeal.τ).loc Cert.ProjInGradReferenceIdeal.main_arg5)
          ∧ r.2.mem ((c.tc : Thread Cert.ProjInGradReferenceIdeal.nD Cert.ProjInGradReferenceIdeal.τ).loc Cert.ProjInGradReferenceIdeal.main_arg6) = m' ((c.tc : Thread Cert.ProjInGradReferenceIdeal.nD Cert.ProjInGradReferenceIdeal.τ).loc Cert.ProjInGradReferenceIdeal.main_arg6)
          ∧ r.2.mem ((c.tc : Thread Cert.ProjInGradReferenceIdeal.nD Cert.ProjInGradReferenceIdeal.τ).loc Cert.ProjInGradReferenceIdeal.main_arg7) = m' ((c.tc : Thread Cert.ProjInGradReferenceIdeal.nD Cert.ProjInGradReferenceIdeal.τ).loc Cert.ProjInGradReferenceIdeal.main_arg7))

def preserves_QkvWeight_QkvWeightIdeal : Prop :=
  True

def algebraic_QkvWeightIdeal_QkvWeightReferenceIdeal [hQkvWeightIdeal : Cert.QkvWeightIdeal.Facts] [hQkvWeightReferenceIdeal : Cert.QkvWeightReferenceIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg)
    (m' : (ℓ : Loc Cert.QkvWeightReferenceIdeal.nD Cert.QkvWeightReferenceIdeal.τ Cert.QkvWeightReferenceIdeal.sig) → Buf (Elt Ideal) ℓ) (g' : Dev Cert.QkvWeightReferenceIdeal.nD → PrngReg), Pre_QkvWeightIdeal m →
    (∀ c : Dev Cert.QkvWeightIdeal.nD,
      m' ((c.tc : Thread Cert.QkvWeightReferenceIdeal.nD Cert.QkvWeightReferenceIdeal.τ).loc Cert.QkvWeightReferenceIdeal.main_arg0) = m ((c.tc : Thread Cert.QkvWeightIdeal.nD Cert.QkvWeightIdeal.τ).loc Cert.QkvWeightIdeal.main_arg0)
      ∧ m' ((c.tc : Thread Cert.QkvWeightReferenceIdeal.nD Cert.QkvWeightReferenceIdeal.τ).loc Cert.QkvWeightReferenceIdeal.main_arg1) = m ((c.tc : Thread Cert.QkvWeightIdeal.nD Cert.QkvWeightIdeal.τ).loc Cert.QkvWeightIdeal.main_arg1)) →
    ∃ (v0 : (c : Dev Cert.QkvWeightIdeal.nD) → Buf (Elt Ideal) ((c.tc : Thread Cert.QkvWeightIdeal.nD Cert.QkvWeightIdeal.τ).loc Cert.QkvWeightIdeal.main_v0)),
      θ_run (Cert.QkvWeightIdeal.defs (F := Ideal)) (onTc (τ := Cert.QkvWeightIdeal.τ) (Cert.QkvWeightIdeal.main (F := Ideal))) ⟨m, fun _ => 0, g⟩ (fun r => ∀ c : Dev Cert.QkvWeightIdeal.nD,
          r.2.mem ((c.tc : Thread Cert.QkvWeightIdeal.nD Cert.QkvWeightIdeal.τ).loc Cert.QkvWeightIdeal.main_v0) = v0 c
          ∧ r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
          ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1))
      ∧ θ_run (Cert.QkvWeightReferenceIdeal.defs (F := Ideal)) (onTc (τ := Cert.QkvWeightReferenceIdeal.τ) (Cert.QkvWeightReferenceIdeal.main (F := Ideal))) ⟨m', fun _ => 0, g'⟩ (fun r => ∀ c : Dev Cert.QkvWeightReferenceIdeal.nD,
          r.2.mem ((c.tc : Thread Cert.QkvWeightReferenceIdeal.nD Cert.QkvWeightReferenceIdeal.τ).loc Cert.QkvWeightReferenceIdeal.main_v5) = v0 c
          ∧ r.2.mem ((c.tc : Thread Cert.QkvWeightReferenceIdeal.nD Cert.QkvWeightReferenceIdeal.τ).loc Cert.QkvWeightReferenceIdeal.main_arg0) = m' ((c.tc : Thread Cert.QkvWeightReferenceIdeal.nD Cert.QkvWeightReferenceIdeal.τ).loc Cert.QkvWeightReferenceIdeal.main_arg0)
          ∧ r.2.mem ((c.tc : Thread Cert.QkvWeightReferenceIdeal.nD Cert.QkvWeightReferenceIdeal.τ).loc Cert.QkvWeightReferenceIdeal.main_arg1) = m' ((c.tc : Thread Cert.QkvWeightReferenceIdeal.nD Cert.QkvWeightReferenceIdeal.τ).loc Cert.QkvWeightReferenceIdeal.main_arg1))

def preserves_ZWeight_ZWeightIdeal : Prop :=
  True

def algebraic_ZWeightIdeal_ZWeightReferenceIdeal [hZWeightIdeal : Cert.ZWeightIdeal.Facts] [hZWeightReferenceIdeal : Cert.ZWeightReferenceIdeal.Facts] : Prop :=
  ∀ (m : (ℓ : Loc Cert.ZWeightIdeal.nD Cert.ZWeightIdeal.τ Cert.ZWeightIdeal.sig) → Buf (Elt Ideal) ℓ) (g : Dev Cert.ZWeightIdeal.nD → PrngReg)
    (m' : (ℓ : Loc Cert.ZWeightReferenceIdeal.nD Cert.ZWeightReferenceIdeal.τ Cert.ZWeightReferenceIdeal.sig) → Buf (Elt Ideal) ℓ) (g' : Dev Cert.ZWeightReferenceIdeal.nD → PrngReg), Pre_ZWeightIdeal m →
    (∀ c : Dev Cert.ZWeightIdeal.nD,
      m' ((c.tc : Thread Cert.ZWeightReferenceIdeal.nD Cert.ZWeightReferenceIdeal.τ).loc Cert.ZWeightReferenceIdeal.main_arg0) = m ((c.tc : Thread Cert.ZWeightIdeal.nD Cert.ZWeightIdeal.τ).loc Cert.ZWeightIdeal.main_arg0)
      ∧ m' ((c.tc : Thread Cert.ZWeightReferenceIdeal.nD Cert.ZWeightReferenceIdeal.τ).loc Cert.ZWeightReferenceIdeal.main_arg1) = m ((c.tc : Thread Cert.ZWeightIdeal.nD Cert.ZWeightIdeal.τ).loc Cert.ZWeightIdeal.main_arg1)) →
    ∃ (v0 : (c : Dev Cert.ZWeightIdeal.nD) → Buf (Elt Ideal) ((c.tc : Thread Cert.ZWeightIdeal.nD Cert.ZWeightIdeal.τ).loc Cert.ZWeightIdeal.main_v0)),
      θ_run (Cert.ZWeightIdeal.defs (F := Ideal)) (onTc (τ := Cert.ZWeightIdeal.τ) (Cert.ZWeightIdeal.main (F := Ideal))) ⟨m, fun _ => 0, g⟩ (fun r => ∀ c : Dev Cert.ZWeightIdeal.nD,
          r.2.mem ((c.tc : Thread Cert.ZWeightIdeal.nD Cert.ZWeightIdeal.τ).loc Cert.ZWeightIdeal.main_v0) = v0 c
          ∧ r.2.mem ((c.tc : Thread Cert.ZWeightIdeal.nD Cert.ZWeightIdeal.τ).loc Cert.ZWeightIdeal.main_arg0) = m ((c.tc : Thread Cert.ZWeightIdeal.nD Cert.ZWeightIdeal.τ).loc Cert.ZWeightIdeal.main_arg0)
          ∧ r.2.mem ((c.tc : Thread Cert.ZWeightIdeal.nD Cert.ZWeightIdeal.τ).loc Cert.ZWeightIdeal.main_arg1) = m ((c.tc : Thread Cert.ZWeightIdeal.nD Cert.ZWeightIdeal.τ).loc Cert.ZWeightIdeal.main_arg1))
      ∧ θ_run (Cert.ZWeightReferenceIdeal.defs (F := Ideal)) (onTc (τ := Cert.ZWeightReferenceIdeal.τ) (Cert.ZWeightReferenceIdeal.main (F := Ideal))) ⟨m', fun _ => 0, g'⟩ (fun r => ∀ c : Dev Cert.ZWeightReferenceIdeal.nD,
          r.2.mem ((c.tc : Thread Cert.ZWeightReferenceIdeal.nD Cert.ZWeightReferenceIdeal.τ).loc Cert.ZWeightReferenceIdeal.main_v5) = v0 c
          ∧ r.2.mem ((c.tc : Thread Cert.ZWeightReferenceIdeal.nD Cert.ZWeightReferenceIdeal.τ).loc Cert.ZWeightReferenceIdeal.main_arg0) = m' ((c.tc : Thread Cert.ZWeightReferenceIdeal.nD Cert.ZWeightReferenceIdeal.τ).loc Cert.ZWeightReferenceIdeal.main_arg0)
          ∧ r.2.mem ((c.tc : Thread Cert.ZWeightReferenceIdeal.nD Cert.ZWeightReferenceIdeal.τ).loc Cert.ZWeightReferenceIdeal.main_arg1) = m' ((c.tc : Thread Cert.ZWeightReferenceIdeal.nD Cert.ZWeightReferenceIdeal.τ).loc Cert.ZWeightReferenceIdeal.main_arg1))

def preserves_XbcWeight_XbcWeightIdeal : Prop :=
  True

def algebraic_XbcWeightIdeal_XbcWeightReferenceIdeal [hXbcWeightIdeal : Cert.XbcWeightIdeal.Facts] [hXbcWeightReferenceIdeal : Cert.XbcWeightReferenceIdeal.Facts] : Prop :=
  ∀ (m : (ℓ : Loc Cert.XbcWeightIdeal.nD Cert.XbcWeightIdeal.τ Cert.XbcWeightIdeal.sig) → Buf (Elt Ideal) ℓ) (g : Dev Cert.XbcWeightIdeal.nD → PrngReg)
    (m' : (ℓ : Loc Cert.XbcWeightReferenceIdeal.nD Cert.XbcWeightReferenceIdeal.τ Cert.XbcWeightReferenceIdeal.sig) → Buf (Elt Ideal) ℓ) (g' : Dev Cert.XbcWeightReferenceIdeal.nD → PrngReg), Pre_XbcWeightIdeal m →
    (∀ c : Dev Cert.XbcWeightIdeal.nD,
      m' ((c.tc : Thread Cert.XbcWeightReferenceIdeal.nD Cert.XbcWeightReferenceIdeal.τ).loc Cert.XbcWeightReferenceIdeal.main_arg0) = m ((c.tc : Thread Cert.XbcWeightIdeal.nD Cert.XbcWeightIdeal.τ).loc Cert.XbcWeightIdeal.main_arg0)
      ∧ m' ((c.tc : Thread Cert.XbcWeightReferenceIdeal.nD Cert.XbcWeightReferenceIdeal.τ).loc Cert.XbcWeightReferenceIdeal.main_arg1) = m ((c.tc : Thread Cert.XbcWeightIdeal.nD Cert.XbcWeightIdeal.τ).loc Cert.XbcWeightIdeal.main_arg1)) →
    ∃ (v0 : (c : Dev Cert.XbcWeightIdeal.nD) → Buf (Elt Ideal) ((c.tc : Thread Cert.XbcWeightIdeal.nD Cert.XbcWeightIdeal.τ).loc Cert.XbcWeightIdeal.main_v0)),
      θ_run (Cert.XbcWeightIdeal.defs (F := Ideal)) (onTc (τ := Cert.XbcWeightIdeal.τ) (Cert.XbcWeightIdeal.main (F := Ideal))) ⟨m, fun _ => 0, g⟩ (fun r => ∀ c : Dev Cert.XbcWeightIdeal.nD,
          r.2.mem ((c.tc : Thread Cert.XbcWeightIdeal.nD Cert.XbcWeightIdeal.τ).loc Cert.XbcWeightIdeal.main_v0) = v0 c
          ∧ r.2.mem ((c.tc : Thread Cert.XbcWeightIdeal.nD Cert.XbcWeightIdeal.τ).loc Cert.XbcWeightIdeal.main_arg0) = m ((c.tc : Thread Cert.XbcWeightIdeal.nD Cert.XbcWeightIdeal.τ).loc Cert.XbcWeightIdeal.main_arg0)
          ∧ r.2.mem ((c.tc : Thread Cert.XbcWeightIdeal.nD Cert.XbcWeightIdeal.τ).loc Cert.XbcWeightIdeal.main_arg1) = m ((c.tc : Thread Cert.XbcWeightIdeal.nD Cert.XbcWeightIdeal.τ).loc Cert.XbcWeightIdeal.main_arg1))
      ∧ θ_run (Cert.XbcWeightReferenceIdeal.defs (F := Ideal)) (onTc (τ := Cert.XbcWeightReferenceIdeal.τ) (Cert.XbcWeightReferenceIdeal.main (F := Ideal))) ⟨m', fun _ => 0, g'⟩ (fun r => ∀ c : Dev Cert.XbcWeightReferenceIdeal.nD,
          r.2.mem ((c.tc : Thread Cert.XbcWeightReferenceIdeal.nD Cert.XbcWeightReferenceIdeal.τ).loc Cert.XbcWeightReferenceIdeal.main_v5) = v0 c
          ∧ r.2.mem ((c.tc : Thread Cert.XbcWeightReferenceIdeal.nD Cert.XbcWeightReferenceIdeal.τ).loc Cert.XbcWeightReferenceIdeal.main_arg0) = m' ((c.tc : Thread Cert.XbcWeightReferenceIdeal.nD Cert.XbcWeightReferenceIdeal.τ).loc Cert.XbcWeightReferenceIdeal.main_arg0)
          ∧ r.2.mem ((c.tc : Thread Cert.XbcWeightReferenceIdeal.nD Cert.XbcWeightReferenceIdeal.τ).loc Cert.XbcWeightReferenceIdeal.main_arg1) = m' ((c.tc : Thread Cert.XbcWeightReferenceIdeal.nD Cert.XbcWeightReferenceIdeal.τ).loc Cert.XbcWeightReferenceIdeal.main_arg1))

def preserves_DtWeight_DtWeightIdeal : Prop :=
  True

def algebraic_DtWeightIdeal_DtWeightReferenceIdeal [hDtWeightIdeal : Cert.DtWeightIdeal.Facts] [hDtWeightReferenceIdeal : Cert.DtWeightReferenceIdeal.Facts] : Prop :=
  ∀ (m : (ℓ : Loc Cert.DtWeightIdeal.nD Cert.DtWeightIdeal.τ Cert.DtWeightIdeal.sig) → Buf (Elt Ideal) ℓ) (g : Dev Cert.DtWeightIdeal.nD → PrngReg)
    (m' : (ℓ : Loc Cert.DtWeightReferenceIdeal.nD Cert.DtWeightReferenceIdeal.τ Cert.DtWeightReferenceIdeal.sig) → Buf (Elt Ideal) ℓ) (g' : Dev Cert.DtWeightReferenceIdeal.nD → PrngReg), Pre_DtWeightIdeal m →
    (∀ c : Dev Cert.DtWeightIdeal.nD,
      m' ((c.tc : Thread Cert.DtWeightReferenceIdeal.nD Cert.DtWeightReferenceIdeal.τ).loc Cert.DtWeightReferenceIdeal.main_arg0) = m ((c.tc : Thread Cert.DtWeightIdeal.nD Cert.DtWeightIdeal.τ).loc Cert.DtWeightIdeal.main_arg0)
      ∧ m' ((c.tc : Thread Cert.DtWeightReferenceIdeal.nD Cert.DtWeightReferenceIdeal.τ).loc Cert.DtWeightReferenceIdeal.main_arg1) = m ((c.tc : Thread Cert.DtWeightIdeal.nD Cert.DtWeightIdeal.τ).loc Cert.DtWeightIdeal.main_arg1)) →
    ∃ (v0 : (c : Dev Cert.DtWeightIdeal.nD) → Buf (Elt Ideal) ((c.tc : Thread Cert.DtWeightIdeal.nD Cert.DtWeightIdeal.τ).loc Cert.DtWeightIdeal.main_v0)),
      θ_run (Cert.DtWeightIdeal.defs (F := Ideal)) (onTc (τ := Cert.DtWeightIdeal.τ) (Cert.DtWeightIdeal.main (F := Ideal))) ⟨m, fun _ => 0, g⟩ (fun r => ∀ c : Dev Cert.DtWeightIdeal.nD,
          r.2.mem ((c.tc : Thread Cert.DtWeightIdeal.nD Cert.DtWeightIdeal.τ).loc Cert.DtWeightIdeal.main_v0) = v0 c
          ∧ r.2.mem ((c.tc : Thread Cert.DtWeightIdeal.nD Cert.DtWeightIdeal.τ).loc Cert.DtWeightIdeal.main_arg0) = m ((c.tc : Thread Cert.DtWeightIdeal.nD Cert.DtWeightIdeal.τ).loc Cert.DtWeightIdeal.main_arg0)
          ∧ r.2.mem ((c.tc : Thread Cert.DtWeightIdeal.nD Cert.DtWeightIdeal.τ).loc Cert.DtWeightIdeal.main_arg1) = m ((c.tc : Thread Cert.DtWeightIdeal.nD Cert.DtWeightIdeal.τ).loc Cert.DtWeightIdeal.main_arg1))
      ∧ θ_run (Cert.DtWeightReferenceIdeal.defs (F := Ideal)) (onTc (τ := Cert.DtWeightReferenceIdeal.τ) (Cert.DtWeightReferenceIdeal.main (F := Ideal))) ⟨m', fun _ => 0, g'⟩ (fun r => ∀ c : Dev Cert.DtWeightReferenceIdeal.nD,
          r.2.mem ((c.tc : Thread Cert.DtWeightReferenceIdeal.nD Cert.DtWeightReferenceIdeal.τ).loc Cert.DtWeightReferenceIdeal.main_v5) = v0 c
          ∧ r.2.mem ((c.tc : Thread Cert.DtWeightReferenceIdeal.nD Cert.DtWeightReferenceIdeal.τ).loc Cert.DtWeightReferenceIdeal.main_arg0) = m' ((c.tc : Thread Cert.DtWeightReferenceIdeal.nD Cert.DtWeightReferenceIdeal.τ).loc Cert.DtWeightReferenceIdeal.main_arg0)
          ∧ r.2.mem ((c.tc : Thread Cert.DtWeightReferenceIdeal.nD Cert.DtWeightReferenceIdeal.τ).loc Cert.DtWeightReferenceIdeal.main_arg1) = m' ((c.tc : Thread Cert.DtWeightReferenceIdeal.nD Cert.DtWeightReferenceIdeal.τ).loc Cert.DtWeightReferenceIdeal.main_arg1))

def preserves_ProjOutGrad_ProjOutGradIdeal : Prop :=
  True

def algebraic_ProjOutGradIdeal_ProjOutGradReferenceIdeal [hProjOutGradIdeal : Cert.ProjOutGradIdeal.Facts] [hProjOutGradReferenceIdeal : Cert.ProjOutGradReferenceIdeal.Facts] : Prop :=
  ∀ (m : (ℓ : Loc Cert.ProjOutGradIdeal.nD Cert.ProjOutGradIdeal.τ Cert.ProjOutGradIdeal.sig) → Buf (Elt Ideal) ℓ) (g : Dev Cert.ProjOutGradIdeal.nD → PrngReg)
    (m' : (ℓ : Loc Cert.ProjOutGradReferenceIdeal.nD Cert.ProjOutGradReferenceIdeal.τ Cert.ProjOutGradReferenceIdeal.sig) → Buf (Elt Ideal) ℓ) (g' : Dev Cert.ProjOutGradReferenceIdeal.nD → PrngReg), Pre_ProjOutGradIdeal m →
    (∀ c : Dev Cert.ProjOutGradIdeal.nD,
      m' ((c.tc : Thread Cert.ProjOutGradReferenceIdeal.nD Cert.ProjOutGradReferenceIdeal.τ).loc Cert.ProjOutGradReferenceIdeal.main_arg0) = m ((c.tc : Thread Cert.ProjOutGradIdeal.nD Cert.ProjOutGradIdeal.τ).loc Cert.ProjOutGradIdeal.main_arg0)
      ∧ m' ((c.tc : Thread Cert.ProjOutGradReferenceIdeal.nD Cert.ProjOutGradReferenceIdeal.τ).loc Cert.ProjOutGradReferenceIdeal.main_arg1) = m ((c.tc : Thread Cert.ProjOutGradIdeal.nD Cert.ProjOutGradIdeal.τ).loc Cert.ProjOutGradIdeal.main_arg1)) →
    ∃ (v0 : (c : Dev Cert.ProjOutGradIdeal.nD) → Buf (Elt Ideal) ((c.tc : Thread Cert.ProjOutGradIdeal.nD Cert.ProjOutGradIdeal.τ).loc Cert.ProjOutGradIdeal.main_v0)),
      θ_run (Cert.ProjOutGradIdeal.defs (F := Ideal)) (onTc (τ := Cert.ProjOutGradIdeal.τ) (Cert.ProjOutGradIdeal.main (F := Ideal))) ⟨m, fun _ => 0, g⟩ (fun r => ∀ c : Dev Cert.ProjOutGradIdeal.nD,
          r.2.mem ((c.tc : Thread Cert.ProjOutGradIdeal.nD Cert.ProjOutGradIdeal.τ).loc Cert.ProjOutGradIdeal.main_v0) = v0 c
          ∧ r.2.mem ((c.tc : Thread Cert.ProjOutGradIdeal.nD Cert.ProjOutGradIdeal.τ).loc Cert.ProjOutGradIdeal.main_arg0) = m ((c.tc : Thread Cert.ProjOutGradIdeal.nD Cert.ProjOutGradIdeal.τ).loc Cert.ProjOutGradIdeal.main_arg0)
          ∧ r.2.mem ((c.tc : Thread Cert.ProjOutGradIdeal.nD Cert.ProjOutGradIdeal.τ).loc Cert.ProjOutGradIdeal.main_arg1) = m ((c.tc : Thread Cert.ProjOutGradIdeal.nD Cert.ProjOutGradIdeal.τ).loc Cert.ProjOutGradIdeal.main_arg1))
      ∧ θ_run (Cert.ProjOutGradReferenceIdeal.defs (F := Ideal)) (onTc (τ := Cert.ProjOutGradReferenceIdeal.τ) (Cert.ProjOutGradReferenceIdeal.main (F := Ideal))) ⟨m', fun _ => 0, g'⟩ (fun r => ∀ c : Dev Cert.ProjOutGradReferenceIdeal.nD,
          r.2.mem ((c.tc : Thread Cert.ProjOutGradReferenceIdeal.nD Cert.ProjOutGradReferenceIdeal.τ).loc Cert.ProjOutGradReferenceIdeal.main_v4) = v0 c
          ∧ r.2.mem ((c.tc : Thread Cert.ProjOutGradReferenceIdeal.nD Cert.ProjOutGradReferenceIdeal.τ).loc Cert.ProjOutGradReferenceIdeal.main_arg0) = m' ((c.tc : Thread Cert.ProjOutGradReferenceIdeal.nD Cert.ProjOutGradReferenceIdeal.τ).loc Cert.ProjOutGradReferenceIdeal.main_arg0)
          ∧ r.2.mem ((c.tc : Thread Cert.ProjOutGradReferenceIdeal.nD Cert.ProjOutGradReferenceIdeal.τ).loc Cert.ProjOutGradReferenceIdeal.main_arg1) = m' ((c.tc : Thread Cert.ProjOutGradReferenceIdeal.nD Cert.ProjOutGradReferenceIdeal.τ).loc Cert.ProjOutGradReferenceIdeal.main_arg1))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v5) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1))

def preserves_ProjQkv_ProjQkvIdeal : Prop :=
  True

def algebraic_ProjQkvIdeal_ProjQkvReferenceIdeal [hProjQkvIdeal : Cert.ProjQkvIdeal.Facts] [hProjQkvReferenceIdeal : Cert.ProjQkvReferenceIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvReferenceIdeal.nD Cert.ProjQkvReferenceIdeal.τ Cert.ProjQkvReferenceIdeal.sig) → Buf (Elt Ideal) ℓ) (g' : Dev Cert.ProjQkvReferenceIdeal.nD → PrngReg), Pre_ProjQkvIdeal m →
    (∀ c : Dev Cert.ProjQkvIdeal.nD,
      m' ((c.tc : Thread Cert.ProjQkvReferenceIdeal.nD Cert.ProjQkvReferenceIdeal.τ).loc Cert.ProjQkvReferenceIdeal.main_arg0) = m ((c.tc : Thread Cert.ProjQkvIdeal.nD Cert.ProjQkvIdeal.τ).loc Cert.ProjQkvIdeal.main_arg0)
      ∧ m' ((c.tc : Thread Cert.ProjQkvReferenceIdeal.nD Cert.ProjQkvReferenceIdeal.τ).loc Cert.ProjQkvReferenceIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvReferenceIdeal.defs (F := Ideal)) (onTc (τ := Cert.ProjQkvReferenceIdeal.τ) (Cert.ProjQkvReferenceIdeal.main (F := Ideal))) ⟨m', fun _ => 0, g'⟩ (fun r => ∀ c : Dev Cert.ProjQkvReferenceIdeal.nD,
          r.2.mem ((c.tc : Thread Cert.ProjQkvReferenceIdeal.nD Cert.ProjQkvReferenceIdeal.τ).loc Cert.ProjQkvReferenceIdeal.main_v2) = v0 c
          ∧ r.2.mem ((c.tc : Thread Cert.ProjQkvReferenceIdeal.nD Cert.ProjQkvReferenceIdeal.τ).loc Cert.ProjQkvReferenceIdeal.main_arg0) = m' ((c.tc : Thread Cert.ProjQkvReferenceIdeal.nD Cert.ProjQkvReferenceIdeal.τ).loc Cert.ProjQkvReferenceIdeal.main_arg0)
          ∧ r.2.mem ((c.tc : Thread Cert.ProjQkvReferenceIdeal.nD Cert.ProjQkvReferenceIdeal.τ).loc Cert.ProjQkvReferenceIdeal.main_arg1) = m' ((c.tc : Thread Cert.ProjQkvReferenceIdeal.nD Cert.ProjQkvReferenceIdeal.τ).loc Cert.ProjQkvReferenceIdeal.main_arg1))

def preserves_ProjZ_ProjZIdeal : Prop :=
  True

def algebraic_ProjZIdeal_ProjZReferenceIdeal [hProjZIdeal : Cert.ProjZIdeal.Facts] [hProjZReferenceIdeal : Cert.ProjZReferenceIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.ProjZReferenceIdeal.nD Cert.ProjZReferenceIdeal.τ Cert.ProjZReferenceIdeal.sig) → Buf (Elt Ideal) ℓ) (g' : Dev Cert.ProjZReferenceIdeal.nD → PrngReg), Pre_ProjZIdeal m →
    (∀ c : Dev Cert.ProjZIdeal.nD,
      m' ((c.tc : Thread Cert.ProjZReferenceIdeal.nD Cert.ProjZReferenceIdeal.τ).loc Cert.ProjZReferenceIdeal.main_arg0) = m ((c.tc : Thread Cert.ProjZIdeal.nD Cert.ProjZIdeal.τ).loc Cert.ProjZIdeal.main_arg0)
      ∧ m' ((c.tc : Thread Cert.ProjZReferenceIdeal.nD Cert.ProjZReferenceIdeal.τ).loc Cert.ProjZReferenceIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v0)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v0) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.ProjZReferenceIdeal.defs (F := Ideal)) (onTc (τ := Cert.ProjZReferenceIdeal.τ) (Cert.ProjZReferenceIdeal.main (F := Ideal))) ⟨m', fun _ => 0, g'⟩ (fun r => ∀ c : Dev Cert.ProjZReferenceIdeal.nD,
          r.2.mem ((c.tc : Thread Cert.ProjZReferenceIdeal.nD Cert.ProjZReferenceIdeal.τ).loc Cert.ProjZReferenceIdeal.main_v2) = v0 c
          ∧ r.2.mem ((c.tc : Thread Cert.ProjZReferenceIdeal.nD Cert.ProjZReferenceIdeal.τ).loc Cert.ProjZReferenceIdeal.main_arg0) = m' ((c.tc : Thread Cert.ProjZReferenceIdeal.nD Cert.ProjZReferenceIdeal.τ).loc Cert.ProjZReferenceIdeal.main_arg0)
          ∧ r.2.mem ((c.tc : Thread Cert.ProjZReferenceIdeal.nD Cert.ProjZReferenceIdeal.τ).loc Cert.ProjZReferenceIdeal.main_arg1) = m' ((c.tc : Thread Cert.ProjZReferenceIdeal.nD Cert.ProjZReferenceIdeal.τ).loc Cert.ProjZReferenceIdeal.main_arg1))

def preserves_ProjXbc_ProjXbcIdeal : Prop :=
  True

def algebraic_ProjXbcIdeal_ProjXbcReferenceIdeal [hProjXbcIdeal : Cert.ProjXbcIdeal.Facts] [hProjXbcReferenceIdeal : Cert.ProjXbcReferenceIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg)
    (m' : (ℓ : Loc Cert.ProjXbcReferenceIdeal.nD Cert.ProjXbcReferenceIdeal.τ Cert.ProjXbcReferenceIdeal.sig) → Buf (Elt Ideal) ℓ) (g' : Dev Cert.ProjXbcReferenceIdeal.nD → PrngReg), Pre_ProjXbcIdeal m →
    (∀ c : Dev Cert.ProjXbcIdeal.nD,
      m' ((c.tc : Thread Cert.ProjXbcReferenceIdeal.nD Cert.ProjXbcReferenceIdeal.τ).loc Cert.ProjXbcReferenceIdeal.main_arg0) = m ((c.tc : Thread Cert.ProjXbcIdeal.nD Cert.ProjXbcIdeal.τ).loc Cert.ProjXbcIdeal.main_arg0)
      ∧ m' ((c.tc : Thread Cert.ProjXbcReferenceIdeal.nD Cert.ProjXbcReferenceIdeal.τ).loc Cert.ProjXbcReferenceIdeal.main_arg1) = m ((c.tc : Thread Cert.ProjXbcIdeal.nD Cert.ProjXbcIdeal.τ).loc Cert.ProjXbcIdeal.main_arg1)) →
    ∃ (v0 : (c : Dev Cert.ProjXbcIdeal.nD) → Buf (Elt Ideal) ((c.tc : Thread Cert.ProjXbcIdeal.nD Cert.ProjXbcIdeal.τ).loc Cert.ProjXbcIdeal.main_v0)),
      θ_run (Cert.ProjXbcIdeal.defs (F := Ideal)) (onTc (τ := Cert.ProjXbcIdeal.τ) (Cert.ProjXbcIdeal.main (F := Ideal))) ⟨m, fun _ => 0, g⟩ (fun r => ∀ c : Dev Cert.ProjXbcIdeal.nD,
          r.2.mem ((c.tc : Thread Cert.ProjXbcIdeal.nD Cert.ProjXbcIdeal.τ).loc Cert.ProjXbcIdeal.main_v0) = v0 c
          ∧ r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
          ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ θ_run (Cert.ProjXbcReferenceIdeal.defs (F := Ideal)) (onTc (τ := Cert.ProjXbcReferenceIdeal.τ) (Cert.ProjXbcReferenceIdeal.main (F := Ideal))) ⟨m', fun _ => 0, g'⟩ (fun r => ∀ c : Dev Cert.ProjXbcReferenceIdeal.nD,
          r.2.mem ((c.tc : Thread Cert.ProjXbcReferenceIdeal.nD Cert.ProjXbcReferenceIdeal.τ).loc Cert.ProjXbcReferenceIdeal.main_v2) = v0 c
          ∧ r.2.mem ((c.tc : Thread Cert.ProjXbcReferenceIdeal.nD Cert.ProjXbcReferenceIdeal.τ).loc Cert.ProjXbcReferenceIdeal.main_arg0) = m' ((c.tc : Thread Cert.ProjXbcReferenceIdeal.nD Cert.ProjXbcReferenceIdeal.τ).loc Cert.ProjXbcReferenceIdeal.main_arg0)
          ∧ r.2.mem ((c.tc : Thread Cert.ProjXbcReferenceIdeal.nD Cert.ProjXbcReferenceIdeal.τ).loc Cert.ProjXbcReferenceIdeal.main_arg1) = m' ((c.tc : Thread Cert.ProjXbcReferenceIdeal.nD Cert.ProjXbcReferenceIdeal.τ).loc Cert.ProjXbcReferenceIdeal.main_arg1))

def preserves_ProjDt_ProjDtIdeal : Prop :=
  True

def algebraic_ProjDtIdeal_ProjDtReferenceIdeal [hProjDtIdeal : Cert.ProjDtIdeal.Facts] [hProjDtReferenceIdeal : Cert.ProjDtReferenceIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg)
    (m' : (ℓ : Loc Cert.ProjDtReferenceIdeal.nD Cert.ProjDtReferenceIdeal.τ Cert.ProjDtReferenceIdeal.sig) → Buf (Elt Ideal) ℓ) (g' : Dev Cert.ProjDtReferenceIdeal.nD → PrngReg), Pre_ProjDtIdeal m →
    (∀ c : Dev Cert.ProjDtIdeal.nD,
      m' ((c.tc : Thread Cert.ProjDtReferenceIdeal.nD Cert.ProjDtReferenceIdeal.τ).loc Cert.ProjDtReferenceIdeal.main_arg0) = m ((c.tc : Thread Cert.ProjDtIdeal.nD Cert.ProjDtIdeal.τ).loc Cert.ProjDtIdeal.main_arg0)
      ∧ m' ((c.tc : Thread Cert.ProjDtReferenceIdeal.nD Cert.ProjDtReferenceIdeal.τ).loc Cert.ProjDtReferenceIdeal.main_arg1) = m ((c.tc : Thread Cert.ProjDtIdeal.nD Cert.ProjDtIdeal.τ).loc Cert.ProjDtIdeal.main_arg1)) →
    ∃ (v0 : (c : Dev Cert.ProjDtIdeal.nD) → Buf (Elt Ideal) ((c.tc : Thread Cert.ProjDtIdeal.nD Cert.ProjDtIdeal.τ).loc Cert.ProjDtIdeal.main_v0)),
      θ_run (Cert.ProjDtIdeal.defs (F := Ideal)) (onTc (τ := Cert.ProjDtIdeal.τ) (Cert.ProjDtIdeal.main (F := Ideal))) ⟨m, fun _ => 0, g⟩ (fun r => ∀ c : Dev Cert.ProjDtIdeal.nD,
          r.2.mem ((c.tc : Thread Cert.ProjDtIdeal.nD Cert.ProjDtIdeal.τ).loc Cert.ProjDtIdeal.main_v0) = v0 c
          ∧ r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
          ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ θ_run (Cert.ProjDtReferenceIdeal.defs (F := Ideal)) (onTc (τ := Cert.ProjDtReferenceIdeal.τ) (Cert.ProjDtReferenceIdeal.main (F := Ideal))) ⟨m', fun _ => 0, g'⟩ (fun r => ∀ c : Dev Cert.ProjDtReferenceIdeal.nD,
          r.2.mem ((c.tc : Thread Cert.ProjDtReferenceIdeal.nD Cert.ProjDtReferenceIdeal.τ).loc Cert.ProjDtReferenceIdeal.main_v2) = v0 c
          ∧ r.2.mem ((c.tc : Thread Cert.ProjDtReferenceIdeal.nD Cert.ProjDtReferenceIdeal.τ).loc Cert.ProjDtReferenceIdeal.main_arg0) = m' ((c.tc : Thread Cert.ProjDtReferenceIdeal.nD Cert.ProjDtReferenceIdeal.τ).loc Cert.ProjDtReferenceIdeal.main_arg0)
          ∧ r.2.mem ((c.tc : Thread Cert.ProjDtReferenceIdeal.nD Cert.ProjDtReferenceIdeal.τ).loc Cert.ProjDtReferenceIdeal.main_arg1) = m' ((c.tc : Thread Cert.ProjDtReferenceIdeal.nD Cert.ProjDtReferenceIdeal.τ).loc Cert.ProjDtReferenceIdeal.main_arg1))

def preserves_ProjOut_ProjOutIdeal : Prop :=
  True

def algebraic_ProjOutIdeal_ProjOutReferenceIdeal [hProjOutIdeal : Cert.ProjOutIdeal.Facts] [hProjOutReferenceIdeal : Cert.ProjOutReferenceIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutReferenceIdeal.nD Cert.ProjOutReferenceIdeal.τ Cert.ProjOutReferenceIdeal.sig) → Buf (Elt Ideal) ℓ) (g' : Dev Cert.ProjOutReferenceIdeal.nD → PrngReg), Pre_ProjOutIdeal m →
    (∀ c : Dev Cert.ProjOutIdeal.nD,
      m' ((c.tc : Thread Cert.ProjOutReferenceIdeal.nD Cert.ProjOutReferenceIdeal.τ).loc Cert.ProjOutReferenceIdeal.main_arg0) = m ((c.tc : Thread Cert.ProjOutIdeal.nD Cert.ProjOutIdeal.τ).loc Cert.ProjOutIdeal.main_arg0)
      ∧ m' ((c.tc : Thread Cert.ProjOutReferenceIdeal.nD Cert.ProjOutReferenceIdeal.τ).loc Cert.ProjOutReferenceIdeal.main_arg1) = m ((c.tc : Thread Cert.ProjOutIdeal.nD Cert.ProjOutIdeal.τ).loc Cert.ProjOutIdeal.main_arg1)
      ∧ m' ((c.tc : Thread Cert.ProjOutReferenceIdeal.nD Cert.ProjOutReferenceIdeal.τ).loc Cert.ProjOutReferenceIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutReferenceIdeal.defs (F := Ideal)) (onTc (τ := Cert.ProjOutReferenceIdeal.τ) (Cert.ProjOutReferenceIdeal.main (F := Ideal))) ⟨m', fun _ => 0, g'⟩ (fun r => ∀ c : Dev Cert.ProjOutReferenceIdeal.nD,
          r.2.mem ((c.tc : Thread Cert.ProjOutReferenceIdeal.nD Cert.ProjOutReferenceIdeal.τ).loc Cert.ProjOutReferenceIdeal.main_v3) = v0 c
          ∧ r.2.mem ((c.tc : Thread Cert.ProjOutReferenceIdeal.nD Cert.ProjOutReferenceIdeal.τ).loc Cert.ProjOutReferenceIdeal.main_arg0) = m' ((c.tc : Thread Cert.ProjOutReferenceIdeal.nD Cert.ProjOutReferenceIdeal.τ).loc Cert.ProjOutReferenceIdeal.main_arg0)
          ∧ r.2.mem ((c.tc : Thread Cert.ProjOutReferenceIdeal.nD Cert.ProjOutReferenceIdeal.τ).loc Cert.ProjOutReferenceIdeal.main_arg1) = m' ((c.tc : Thread Cert.ProjOutReferenceIdeal.nD Cert.ProjOutReferenceIdeal.τ).loc Cert.ProjOutReferenceIdeal.main_arg1)
          ∧ r.2.mem ((c.tc : Thread Cert.ProjOutReferenceIdeal.nD Cert.ProjOutReferenceIdeal.τ).loc Cert.ProjOutReferenceIdeal.main_arg2) = m' ((c.tc : Thread Cert.ProjOutReferenceIdeal.nD Cert.ProjOutReferenceIdeal.τ).loc Cert.ProjOutReferenceIdeal.main_arg2))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v2) = v0 c
          ∧ r.2.mem ((c.tc : Thread Cert.GateUpReferenceIdeal.nD Cert.GateUpReferenceIdeal.τ).loc Cert.GateUpReferenceIdeal.main_v4) = v1 c
          ∧ r.2.mem ((c.tc : Thread Cert.GateUpReferenceIdeal.nD Cert.GateUpReferenceIdeal.τ).loc Cert.GateUpReferenceIdeal.main_v7) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v3) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v36) = v0 c
          ∧ r.2.mem ((c.tc : Thread Cert.NormReferenceIdeal.nD Cert.NormReferenceIdeal.τ).loc Cert.NormReferenceIdeal.main_v37) = v1 c
          ∧ r.2.mem ((c.tc : Thread Cert.NormReferenceIdeal.nD Cert.NormReferenceIdeal.τ).loc Cert.NormReferenceIdeal.main_v38) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Merge_MergeIdeal : Prop :=
  True

def algebraic_MergeIdeal_MergeReferenceIdeal_pre_merge_finite [hMergeIdeal : Cert.MergeIdeal.Facts] [hMergeReferenceIdeal : Cert.MergeReferenceIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_merge_finite m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)) (v2 : (c : Dev Cert.MergeIdeal.nD) → Buf (Elt Ideal) ((c.tc : Thread Cert.MergeIdeal.nD Cert.MergeIdeal.τ).loc Cert.MergeIdeal.main_v2_2)) (v3 : (c : Dev Cert.MergeIdeal.nD) → Buf (Elt Ideal) ((c.tc : Thread Cert.MergeIdeal.nD Cert.MergeIdeal.τ).loc Cert.MergeIdeal.main_v2_3)) (v4 : (c : Dev Cert.MergeIdeal.nD) → Buf (Elt Ideal) ((c.tc : Thread Cert.MergeIdeal.nD Cert.MergeIdeal.τ).loc Cert.MergeIdeal.main_v2_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_v2_2) = v2 c
          ∧ r.2.mem ((c.tc : Thread Cert.MergeIdeal.nD Cert.MergeIdeal.τ).loc Cert.MergeIdeal.main_v2_3) = v3 c
          ∧ r.2.mem ((c.tc : Thread Cert.MergeIdeal.nD Cert.MergeIdeal.τ).loc Cert.MergeIdeal.main_v2_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v83) = v0 c
          ∧ r.2.mem ((c.tc : Thread Cert.MergeReferenceIdeal.nD Cert.MergeReferenceIdeal.τ).loc Cert.MergeReferenceIdeal.main_v62) = v1 c
          ∧ r.2.mem ((c.tc : Thread Cert.MergeReferenceIdeal.nD Cert.MergeReferenceIdeal.τ).loc Cert.MergeReferenceIdeal.main_v84) = v2 c
          ∧ r.2.mem ((c.tc : Thread Cert.MergeReferenceIdeal.nD Cert.MergeReferenceIdeal.τ).loc Cert.MergeReferenceIdeal.main_v85) = v3 c
          ∧ r.2.mem ((c.tc : Thread Cert.MergeReferenceIdeal.nD Cert.MergeReferenceIdeal.τ).loc Cert.MergeReferenceIdeal.main_v86) = v4 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamGate_AdamGateIdeal : Prop :=
  True

def algebraic_AdamGateIdeal_AdamGateReferenceIdeal [hAdamGateIdeal : Cert.AdamGateIdeal.Facts] [hAdamGateReferenceIdeal : Cert.AdamGateReferenceIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateIdeal m →
    (∀ c : Dev Cert.AdamGateIdeal.nD,
      m' ((c.tc : Thread Cert.AdamGateReferenceIdeal.nD Cert.AdamGateReferenceIdeal.τ).loc Cert.AdamGateReferenceIdeal.main_arg0) = m ((c.tc : Thread Cert.AdamGateIdeal.nD Cert.AdamGateIdeal.τ).loc Cert.AdamGateIdeal.main_arg0)
      ∧ m' ((c.tc : Thread Cert.AdamGateReferenceIdeal.nD Cert.AdamGateReferenceIdeal.τ).loc Cert.AdamGateReferenceIdeal.main_arg1) = m ((c.tc : Thread Cert.AdamGateIdeal.nD Cert.AdamGateIdeal.τ).loc Cert.AdamGateIdeal.main_arg1)
      ∧ m' ((c.tc : Thread Cert.AdamGateReferenceIdeal.nD Cert.AdamGateReferenceIdeal.τ).loc Cert.AdamGateReferenceIdeal.main_arg2) = m ((c.tc : Thread Cert.AdamGateIdeal.nD Cert.AdamGateIdeal.τ).loc Cert.AdamGateIdeal.main_arg2)
      ∧ m' ((c.tc : Thread Cert.AdamGateReferenceIdeal.nD Cert.AdamGateReferenceIdeal.τ).loc Cert.AdamGateReferenceIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v23) = v0 c
          ∧ r.2.mem ((c.tc : Thread Cert.AdamGateReferenceIdeal.nD Cert.AdamGateReferenceIdeal.τ).loc Cert.AdamGateReferenceIdeal.main_v4) = v1 c
          ∧ r.2.mem ((c.tc : Thread Cert.AdamGateReferenceIdeal.nD Cert.AdamGateReferenceIdeal.τ).loc Cert.AdamGateReferenceIdeal.main_v10) = v2 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_Conv_ConvIdeal : Prop :=
  True

def algebraic_ConvIdeal_ConvReferenceIdeal_pre_conv_finite [hConvIdeal : Cert.ConvIdeal.Facts] [hConvReferenceIdeal : Cert.ConvReferenceIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal_conv_finite m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)) (v2 : (c : Dev Cert.ConvIdeal.nD) → Buf (Elt Ideal) ((c.tc : Thread Cert.ConvIdeal.nD Cert.ConvIdeal.τ).loc Cert.ConvIdeal.main_v1_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_v1_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v82) = v0 c
          ∧ r.2.mem ((c.tc : Thread Cert.ConvReferenceIdeal.nD Cert.ConvReferenceIdeal.τ).loc Cert.ConvReferenceIdeal.main_v77) = v1 c
          ∧ r.2.mem ((c.tc : Thread Cert.ConvReferenceIdeal.nD Cert.ConvReferenceIdeal.τ).loc Cert.ConvReferenceIdeal.main_v83) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v13) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)
      ∧ m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v2) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v31) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)
      ∧ m' ((c.tc : Thread Cert.ConvFwdReferenceIdeal.nD Cert.ConvFwdReferenceIdeal.τ).loc Cert.ConvFwdReferenceIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v32) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1)
          ∧ r.2.mem ((c.tc : Thread Cert.ConvFwdReferenceIdeal.nD Cert.ConvFwdReferenceIdeal.τ).loc Cert.ConvFwdReferenceIdeal.main_arg2) = m' ((c.tc : Thread Cert.ConvFwdReferenceIdeal.nD Cert.ConvFwdReferenceIdeal.τ).loc Cert.ConvFwdReferenceIdeal.main_arg2))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v14) = v0 c
          ∧ r.2.mem ((c.tc : Thread Cert.LossHeadReferenceIdeal.nD Cert.LossHeadReferenceIdeal.τ).loc Cert.LossHeadReferenceIdeal.main_v21) = v1 c
          ∧ r.2.mem ((c.tc : Thread Cert.LossHeadReferenceIdeal.nD Cert.LossHeadReferenceIdeal.τ).loc Cert.LossHeadReferenceIdeal.main_v24) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_SsdFwd_SsdFwdIdeal : Prop :=
  True

def algebraic_SsdFwdIdeal_SsdFwdReferenceIdeal_pre_ssd_fwd_below [hSsdFwdIdeal : Cert.SsdFwdIdeal.Facts] [hSsdFwdReferenceIdeal : Cert.SsdFwdReferenceIdeal.Facts] [hPre_ssd_fwd_below : Cert.Pre_ssd_fwd_below.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg)
    (m' : (ℓ : Loc Cert.SsdFwdReferenceIdeal.nD Cert.SsdFwdReferenceIdeal.τ Cert.SsdFwdReferenceIdeal.sig) → Buf (Elt Ideal) ℓ) (g' : Dev Cert.SsdFwdReferenceIdeal.nD → PrngReg), Pre_SsdFwdIdeal_ssd_fwd_below m →
    (∀ c : Dev Cert.SsdFwdIdeal.nD,
      m' ((c.tc : Thread Cert.SsdFwdReferenceIdeal.nD Cert.SsdFwdReferenceIdeal.τ).loc Cert.SsdFwdReferenceIdeal.main_arg0) = m ((c.tc : Thread Cert.SsdFwdIdeal.nD Cert.SsdFwdIdeal.τ).loc Cert.SsdFwdIdeal.main_arg0)
      ∧ m' ((c.tc : Thread Cert.SsdFwdReferenceIdeal.nD Cert.SsdFwdReferenceIdeal.τ).loc Cert.SsdFwdReferenceIdeal.main_arg1) = m ((c.tc : Thread Cert.SsdFwdIdeal.nD Cert.SsdFwdIdeal.τ).loc Cert.SsdFwdIdeal.main_arg1)
      ∧ m' ((c.tc : Thread Cert.SsdFwdReferenceIdeal.nD Cert.SsdFwdReferenceIdeal.τ).loc Cert.SsdFwdReferenceIdeal.main_arg2) = m ((c.tc : Thread Cert.SsdFwdIdeal.nD Cert.SsdFwdIdeal.τ).loc Cert.SsdFwdIdeal.main_arg2)
      ∧ m' ((c.tc : Thread Cert.SsdFwdReferenceIdeal.nD Cert.SsdFwdReferenceIdeal.τ).loc Cert.SsdFwdReferenceIdeal.main_arg3) = m ((c.tc : Thread Cert.SsdFwdIdeal.nD Cert.SsdFwdIdeal.τ).loc Cert.SsdFwdIdeal.main_arg3)
      ∧ m' ((c.tc : Thread Cert.SsdFwdReferenceIdeal.nD Cert.SsdFwdReferenceIdeal.τ).loc Cert.SsdFwdReferenceIdeal.main_arg4) = m ((c.tc : Thread Cert.SsdFwdIdeal.nD Cert.SsdFwdIdeal.τ).loc Cert.SsdFwdIdeal.main_arg4)) →
    ∃ (v0 : (c : Dev Cert.SsdFwdIdeal.nD) → Buf (Elt Ideal) ((c.tc : Thread Cert.SsdFwdIdeal.nD Cert.SsdFwdIdeal.τ).loc Cert.SsdFwdIdeal.main_v15_0)),
      θ_run (Cert.SsdFwdIdeal.defs (F := Ideal)) (onTc (τ := Cert.SsdFwdIdeal.τ) (Cert.SsdFwdIdeal.main (F := Ideal))) ⟨m, fun _ => 0, g⟩ (fun r => ∀ c : Dev Cert.SsdFwdIdeal.nD,
          r.2.mem ((c.tc : Thread Cert.SsdFwdIdeal.nD Cert.SsdFwdIdeal.τ).loc Cert.SsdFwdIdeal.main_v15_0) = v0 c
          ∧ r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
          ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
          ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
          ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
          ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4))
      ∧ θ_run (Cert.SsdFwdReferenceIdeal.defs (F := Ideal)) (onTc (τ := Cert.SsdFwdReferenceIdeal.τ) (Cert.SsdFwdReferenceIdeal.main (F := Ideal))) ⟨m', fun _ => 0, g'⟩ (fun r => ∀ c : Dev Cert.SsdFwdReferenceIdeal.nD,
          r.2.mem ((c.tc : Thread Cert.SsdFwdReferenceIdeal.nD Cert.SsdFwdReferenceIdeal.τ).loc Cert.SsdFwdReferenceIdeal.main_v74) = v0 c
          ∧ r.2.mem ((c.tc : Thread Cert.SsdFwdReferenceIdeal.nD Cert.SsdFwdReferenceIdeal.τ).loc Cert.SsdFwdReferenceIdeal.main_arg0) = m' ((c.tc : Thread Cert.SsdFwdReferenceIdeal.nD Cert.SsdFwdReferenceIdeal.τ).loc Cert.SsdFwdReferenceIdeal.main_arg0)
          ∧ r.2.mem ((c.tc : Thread Cert.SsdFwdReferenceIdeal.nD Cert.SsdFwdReferenceIdeal.τ).loc Cert.SsdFwdReferenceIdeal.main_arg1) = m' ((c.tc : Thread Cert.SsdFwdReferenceIdeal.nD Cert.SsdFwdReferenceIdeal.τ).loc Cert.SsdFwdReferenceIdeal.main_arg1)
          ∧ r.2.mem ((c.tc : Thread Cert.SsdFwdReferenceIdeal.nD Cert.SsdFwdReferenceIdeal.τ).loc Cert.SsdFwdReferenceIdeal.main_arg2) = m' ((c.tc : Thread Cert.SsdFwdReferenceIdeal.nD Cert.SsdFwdReferenceIdeal.τ).loc Cert.SsdFwdReferenceIdeal.main_arg2)
          ∧ r.2.mem ((c.tc : Thread Cert.SsdFwdReferenceIdeal.nD Cert.SsdFwdReferenceIdeal.τ).loc Cert.SsdFwdReferenceIdeal.main_arg3) = m' ((c.tc : Thread Cert.SsdFwdReferenceIdeal.nD Cert.SsdFwdReferenceIdeal.τ).loc Cert.SsdFwdReferenceIdeal.main_arg3)
          ∧ r.2.mem ((c.tc : Thread Cert.SsdFwdReferenceIdeal.nD Cert.SsdFwdReferenceIdeal.τ).loc Cert.SsdFwdReferenceIdeal.main_arg4) = m' ((c.tc : Thread Cert.SsdFwdReferenceIdeal.nD Cert.SsdFwdReferenceIdeal.τ).loc Cert.SsdFwdReferenceIdeal.main_arg4))

def preserves_ChipIn_ChipInIdeal : Prop :=
  True

def algebraic_ChipInIdeal_ChipInReferenceIdeal [hChipInIdeal : Cert.ChipInIdeal.Facts] [hChipInReferenceIdeal : Cert.ChipInReferenceIdeal.Facts] : Prop :=
  ∀ (m : (ℓ : Loc Cert.ChipInIdeal.nD Cert.ChipInIdeal.τ Cert.ChipInIdeal.sig) → Buf (Elt Ideal) ℓ) (g : Dev Cert.ChipInIdeal.nD → PrngReg)
    (m' : (ℓ : Loc Cert.ChipInReferenceIdeal.nD Cert.ChipInReferenceIdeal.τ Cert.ChipInReferenceIdeal.sig) → Buf (Elt Ideal) ℓ) (g' : Dev Cert.ChipInReferenceIdeal.nD → PrngReg), Pre_ChipInIdeal m →
    (∀ c : Dev Cert.ChipInIdeal.nD,
      m' ((c.tc : Thread Cert.ChipInReferenceIdeal.nD Cert.ChipInReferenceIdeal.τ).loc Cert.ChipInReferenceIdeal.main_arg0) = m ((c.tc : Thread Cert.ChipInIdeal.nD Cert.ChipInIdeal.τ).loc Cert.ChipInIdeal.main_arg0)
      ∧ m' ((c.tc : Thread Cert.ChipInReferenceIdeal.nD Cert.ChipInReferenceIdeal.τ).loc Cert.ChipInReferenceIdeal.main_arg1) = m ((c.tc : Thread Cert.ChipInIdeal.nD Cert.ChipInIdeal.τ).loc Cert.ChipInIdeal.main_arg1)) →
    ∃ (v0 : (c : Dev Cert.ChipInIdeal.nD) → Buf (Elt Ideal) ((c.tc : Thread Cert.ChipInIdeal.nD Cert.ChipInIdeal.τ).loc Cert.ChipInIdeal.main_v0)),
      θ_run (Cert.ChipInIdeal.defs (F := Ideal)) (onTc (τ := Cert.ChipInIdeal.τ) (Cert.ChipInIdeal.main (F := Ideal))) ⟨m, fun _ => 0, g⟩ (fun r => ∀ c : Dev Cert.ChipInIdeal.nD,
          r.2.mem ((c.tc : Thread Cert.ChipInIdeal.nD Cert.ChipInIdeal.τ).loc Cert.ChipInIdeal.main_v0) = v0 c
          ∧ r.2.mem ((c.tc : Thread Cert.ChipInIdeal.nD Cert.ChipInIdeal.τ).loc Cert.ChipInIdeal.main_arg0) = m ((c.tc : Thread Cert.ChipInIdeal.nD Cert.ChipInIdeal.τ).loc Cert.ChipInIdeal.main_arg0)
          ∧ r.2.mem ((c.tc : Thread Cert.ChipInIdeal.nD Cert.ChipInIdeal.τ).loc Cert.ChipInIdeal.main_arg1) = m ((c.tc : Thread Cert.ChipInIdeal.nD Cert.ChipInIdeal.τ).loc Cert.ChipInIdeal.main_arg1))
      ∧ θ_run (Cert.ChipInReferenceIdeal.defs (F := Ideal)) (onTc (τ := Cert.ChipInReferenceIdeal.τ) (Cert.ChipInReferenceIdeal.main (F := Ideal))) ⟨m', fun _ => 0, g'⟩ (fun r => ∀ c : Dev Cert.ChipInReferenceIdeal.nD,
          r.2.mem ((c.tc : Thread Cert.ChipInReferenceIdeal.nD Cert.ChipInReferenceIdeal.τ).loc Cert.ChipInReferenceIdeal.main_v2) = v0 c
          ∧ r.2.mem ((c.tc : Thread Cert.ChipInReferenceIdeal.nD Cert.ChipInReferenceIdeal.τ).loc Cert.ChipInReferenceIdeal.main_arg0) = m' ((c.tc : Thread Cert.ChipInReferenceIdeal.nD Cert.ChipInReferenceIdeal.τ).loc Cert.ChipInReferenceIdeal.main_arg0)
          ∧ r.2.mem ((c.tc : Thread Cert.ChipInReferenceIdeal.nD Cert.ChipInReferenceIdeal.τ).loc Cert.ChipInReferenceIdeal.main_arg1) = m' ((c.tc : Thread Cert.ChipInReferenceIdeal.nD Cert.ChipInReferenceIdeal.τ).loc Cert.ChipInReferenceIdeal.main_arg1))

def preserves_ChipOut_ChipOutIdeal : Prop :=
  True

def algebraic_ChipOutIdeal_ChipOutReferenceIdeal [hChipOutIdeal : Cert.ChipOutIdeal.Facts] [hChipOutReferenceIdeal : Cert.ChipOutReferenceIdeal.Facts] : Prop :=
  ∀ (m : (ℓ : Loc Cert.ChipOutIdeal.nD Cert.ChipOutIdeal.τ Cert.ChipOutIdeal.sig) → Buf (Elt Ideal) ℓ) (g : Dev Cert.ChipOutIdeal.nD → PrngReg)
    (m' : (ℓ : Loc Cert.ChipOutReferenceIdeal.nD Cert.ChipOutReferenceIdeal.τ Cert.ChipOutReferenceIdeal.sig) → Buf (Elt Ideal) ℓ) (g' : Dev Cert.ChipOutReferenceIdeal.nD → PrngReg), Pre_ChipOutIdeal m →
    (∀ c : Dev Cert.ChipOutIdeal.nD,
      m' ((c.tc : Thread Cert.ChipOutReferenceIdeal.nD Cert.ChipOutReferenceIdeal.τ).loc Cert.ChipOutReferenceIdeal.main_arg0) = m ((c.tc : Thread Cert.ChipOutIdeal.nD Cert.ChipOutIdeal.τ).loc Cert.ChipOutIdeal.main_arg0)
      ∧ m' ((c.tc : Thread Cert.ChipOutReferenceIdeal.nD Cert.ChipOutReferenceIdeal.τ).loc Cert.ChipOutReferenceIdeal.main_arg1) = m ((c.tc : Thread Cert.ChipOutIdeal.nD Cert.ChipOutIdeal.τ).loc Cert.ChipOutIdeal.main_arg1)) →
    ∃ (v0 : (c : Dev Cert.ChipOutIdeal.nD) → Buf (Elt Ideal) ((c.tc : Thread Cert.ChipOutIdeal.nD Cert.ChipOutIdeal.τ).loc Cert.ChipOutIdeal.main_v0)),
      θ_run (Cert.ChipOutIdeal.defs (F := Ideal)) (onTc (τ := Cert.ChipOutIdeal.τ) (Cert.ChipOutIdeal.main (F := Ideal))) ⟨m, fun _ => 0, g⟩ (fun r => ∀ c : Dev Cert.ChipOutIdeal.nD,
          r.2.mem ((c.tc : Thread Cert.ChipOutIdeal.nD Cert.ChipOutIdeal.τ).loc Cert.ChipOutIdeal.main_v0) = v0 c
          ∧ r.2.mem ((c.tc : Thread Cert.ChipOutIdeal.nD Cert.ChipOutIdeal.τ).loc Cert.ChipOutIdeal.main_arg0) = m ((c.tc : Thread Cert.ChipOutIdeal.nD Cert.ChipOutIdeal.τ).loc Cert.ChipOutIdeal.main_arg0)
          ∧ r.2.mem ((c.tc : Thread Cert.ChipOutIdeal.nD Cert.ChipOutIdeal.τ).loc Cert.ChipOutIdeal.main_arg1) = m ((c.tc : Thread Cert.ChipOutIdeal.nD Cert.ChipOutIdeal.τ).loc Cert.ChipOutIdeal.main_arg1))
      ∧ θ_run (Cert.ChipOutReferenceIdeal.defs (F := Ideal)) (onTc (τ := Cert.ChipOutReferenceIdeal.τ) (Cert.ChipOutReferenceIdeal.main (F := Ideal))) ⟨m', fun _ => 0, g'⟩ (fun r => ∀ c : Dev Cert.ChipOutReferenceIdeal.nD,
          r.2.mem ((c.tc : Thread Cert.ChipOutReferenceIdeal.nD Cert.ChipOutReferenceIdeal.τ).loc Cert.ChipOutReferenceIdeal.main_v2) = v0 c
          ∧ r.2.mem ((c.tc : Thread Cert.ChipOutReferenceIdeal.nD Cert.ChipOutReferenceIdeal.τ).loc Cert.ChipOutReferenceIdeal.main_arg0) = m' ((c.tc : Thread Cert.ChipOutReferenceIdeal.nD Cert.ChipOutReferenceIdeal.τ).loc Cert.ChipOutReferenceIdeal.main_arg0)
          ∧ r.2.mem ((c.tc : Thread Cert.ChipOutReferenceIdeal.nD Cert.ChipOutReferenceIdeal.τ).loc Cert.ChipOutReferenceIdeal.main_arg1) = m' ((c.tc : Thread Cert.ChipOutReferenceIdeal.nD Cert.ChipOutReferenceIdeal.τ).loc Cert.ChipOutReferenceIdeal.main_arg1))

def preserves_ChipGate_ChipGateIdeal : Prop :=
  True

def algebraic_ChipGateIdeal_ChipGateReferenceIdeal [hChipGateIdeal : Cert.ChipGateIdeal.Facts] [hChipGateReferenceIdeal : Cert.ChipGateReferenceIdeal.Facts] : Prop :=
  ∀ (m : (ℓ : Loc Cert.ChipGateIdeal.nD Cert.ChipGateIdeal.τ Cert.ChipGateIdeal.sig) → Buf (Elt Ideal) ℓ) (g : Dev Cert.ChipGateIdeal.nD → PrngReg)
    (m' : (ℓ : Loc Cert.ChipGateReferenceIdeal.nD Cert.ChipGateReferenceIdeal.τ Cert.ChipGateReferenceIdeal.sig) → Buf (Elt Ideal) ℓ) (g' : Dev Cert.ChipGateReferenceIdeal.nD → PrngReg), Pre_ChipGateIdeal m →
    (∀ c : Dev Cert.ChipGateIdeal.nD,
      m' ((c.tc : Thread Cert.ChipGateReferenceIdeal.nD Cert.ChipGateReferenceIdeal.τ).loc Cert.ChipGateReferenceIdeal.main_arg0) = m ((c.tc : Thread Cert.ChipGateIdeal.nD Cert.ChipGateIdeal.τ).loc Cert.ChipGateIdeal.main_arg0)
      ∧ m' ((c.tc : Thread Cert.ChipGateReferenceIdeal.nD Cert.ChipGateReferenceIdeal.τ).loc Cert.ChipGateReferenceIdeal.main_arg1) = m ((c.tc : Thread Cert.ChipGateIdeal.nD Cert.ChipGateIdeal.τ).loc Cert.ChipGateIdeal.main_arg1)) →
    ∃ (v0 : (c : Dev Cert.ChipGateIdeal.nD) → Buf (Elt Ideal) ((c.tc : Thread Cert.ChipGateIdeal.nD Cert.ChipGateIdeal.τ).loc Cert.ChipGateIdeal.main_v0)),
      θ_run (Cert.ChipGateIdeal.defs (F := Ideal)) (onTc (τ := Cert.ChipGateIdeal.τ) (Cert.ChipGateIdeal.main (F := Ideal))) ⟨m, fun _ => 0, g⟩ (fun r => ∀ c : Dev Cert.ChipGateIdeal.nD,
          r.2.mem ((c.tc : Thread Cert.ChipGateIdeal.nD Cert.ChipGateIdeal.τ).loc Cert.ChipGateIdeal.main_v0) = v0 c
          ∧ r.2.mem ((c.tc : Thread Cert.ChipGateIdeal.nD Cert.ChipGateIdeal.τ).loc Cert.ChipGateIdeal.main_arg0) = m ((c.tc : Thread Cert.ChipGateIdeal.nD Cert.ChipGateIdeal.τ).loc Cert.ChipGateIdeal.main_arg0)
          ∧ r.2.mem ((c.tc : Thread Cert.ChipGateIdeal.nD Cert.ChipGateIdeal.τ).loc Cert.ChipGateIdeal.main_arg1) = m ((c.tc : Thread Cert.ChipGateIdeal.nD Cert.ChipGateIdeal.τ).loc Cert.ChipGateIdeal.main_arg1))
      ∧ θ_run (Cert.ChipGateReferenceIdeal.defs (F := Ideal)) (onTc (τ := Cert.ChipGateReferenceIdeal.τ) (Cert.ChipGateReferenceIdeal.main (F := Ideal))) ⟨m', fun _ => 0, g'⟩ (fun r => ∀ c : Dev Cert.ChipGateReferenceIdeal.nD,
          r.2.mem ((c.tc : Thread Cert.ChipGateReferenceIdeal.nD Cert.ChipGateReferenceIdeal.τ).loc Cert.ChipGateReferenceIdeal.main_v2) = v0 c
          ∧ r.2.mem ((c.tc : Thread Cert.ChipGateReferenceIdeal.nD Cert.ChipGateReferenceIdeal.τ).loc Cert.ChipGateReferenceIdeal.main_arg0) = m' ((c.tc : Thread Cert.ChipGateReferenceIdeal.nD Cert.ChipGateReferenceIdeal.τ).loc Cert.ChipGateReferenceIdeal.main_arg0)
          ∧ r.2.mem ((c.tc : Thread Cert.ChipGateReferenceIdeal.nD Cert.ChipGateReferenceIdeal.τ).loc Cert.ChipGateReferenceIdeal.main_arg1) = m' ((c.tc : Thread Cert.ChipGateReferenceIdeal.nD Cert.ChipGateReferenceIdeal.τ).loc Cert.ChipGateReferenceIdeal.main_arg1))

def preserves_ChipDown_ChipDownIdeal : Prop :=
  True

def algebraic_ChipDownIdeal_ChipDownReferenceIdeal [hChipDownIdeal : Cert.ChipDownIdeal.Facts] [hChipDownReferenceIdeal : Cert.ChipDownReferenceIdeal.Facts] : Prop :=
  ∀ (m : (ℓ : Loc Cert.ChipDownIdeal.nD Cert.ChipDownIdeal.τ Cert.ChipDownIdeal.sig) → Buf (Elt Ideal) ℓ) (g : Dev Cert.ChipDownIdeal.nD → PrngReg)
    (m' : (ℓ : Loc Cert.ChipDownReferenceIdeal.nD Cert.ChipDownReferenceIdeal.τ Cert.ChipDownReferenceIdeal.sig) → Buf (Elt Ideal) ℓ) (g' : Dev Cert.ChipDownReferenceIdeal.nD → PrngReg), Pre_ChipDownIdeal m →
    (∀ c : Dev Cert.ChipDownIdeal.nD,
      m' ((c.tc : Thread Cert.ChipDownReferenceIdeal.nD Cert.ChipDownReferenceIdeal.τ).loc Cert.ChipDownReferenceIdeal.main_arg0) = m ((c.tc : Thread Cert.ChipDownIdeal.nD Cert.ChipDownIdeal.τ).loc Cert.ChipDownIdeal.main_arg0)
      ∧ m' ((c.tc : Thread Cert.ChipDownReferenceIdeal.nD Cert.ChipDownReferenceIdeal.τ).loc Cert.ChipDownReferenceIdeal.main_arg1) = m ((c.tc : Thread Cert.ChipDownIdeal.nD Cert.ChipDownIdeal.τ).loc Cert.ChipDownIdeal.main_arg1)) →
    ∃ (v0 : (c : Dev Cert.ChipDownIdeal.nD) → Buf (Elt Ideal) ((c.tc : Thread Cert.ChipDownIdeal.nD Cert.ChipDownIdeal.τ).loc Cert.ChipDownIdeal.main_v0)),
      θ_run (Cert.ChipDownIdeal.defs (F := Ideal)) (onTc (τ := Cert.ChipDownIdeal.τ) (Cert.ChipDownIdeal.main (F := Ideal))) ⟨m, fun _ => 0, g⟩ (fun r => ∀ c : Dev Cert.ChipDownIdeal.nD,
          r.2.mem ((c.tc : Thread Cert.ChipDownIdeal.nD Cert.ChipDownIdeal.τ).loc Cert.ChipDownIdeal.main_v0) = v0 c
          ∧ r.2.mem ((c.tc : Thread Cert.ChipDownIdeal.nD Cert.ChipDownIdeal.τ).loc Cert.ChipDownIdeal.main_arg0) = m ((c.tc : Thread Cert.ChipDownIdeal.nD Cert.ChipDownIdeal.τ).loc Cert.ChipDownIdeal.main_arg0)
          ∧ r.2.mem ((c.tc : Thread Cert.ChipDownIdeal.nD Cert.ChipDownIdeal.τ).loc Cert.ChipDownIdeal.main_arg1) = m ((c.tc : Thread Cert.ChipDownIdeal.nD Cert.ChipDownIdeal.τ).loc Cert.ChipDownIdeal.main_arg1))
      ∧ θ_run (Cert.ChipDownReferenceIdeal.defs (F := Ideal)) (onTc (τ := Cert.ChipDownReferenceIdeal.τ) (Cert.ChipDownReferenceIdeal.main (F := Ideal))) ⟨m', fun _ => 0, g'⟩ (fun r => ∀ c : Dev Cert.ChipDownReferenceIdeal.nD,
          r.2.mem ((c.tc : Thread Cert.ChipDownReferenceIdeal.nD Cert.ChipDownReferenceIdeal.τ).loc Cert.ChipDownReferenceIdeal.main_v2) = v0 c
          ∧ r.2.mem ((c.tc : Thread Cert.ChipDownReferenceIdeal.nD Cert.ChipDownReferenceIdeal.τ).loc Cert.ChipDownReferenceIdeal.main_arg0) = m' ((c.tc : Thread Cert.ChipDownReferenceIdeal.nD Cert.ChipDownReferenceIdeal.τ).loc Cert.ChipDownReferenceIdeal.main_arg0)
          ∧ r.2.mem ((c.tc : Thread Cert.ChipDownReferenceIdeal.nD Cert.ChipDownReferenceIdeal.τ).loc Cert.ChipDownReferenceIdeal.main_arg1) = m' ((c.tc : Thread Cert.ChipDownReferenceIdeal.nD Cert.ChipDownReferenceIdeal.τ).loc Cert.ChipDownReferenceIdeal.main_arg1))

def preserves_SsdSkip_SsdSkipIdeal : Prop :=
  True

def algebraic_SsdSkipIdeal_SsdSkipReferenceIdeal_pre_ssd_skip_finite [hSsdSkipIdeal : Cert.SsdSkipIdeal.Facts] [hSsdSkipReferenceIdeal : Cert.SsdSkipReferenceIdeal.Facts] [hPre_ssd_skip_finite : Cert.Pre_ssd_skip_finite.Facts] : Prop :=
  ∀ (m : (ℓ : Loc Cert.SsdSkipIdeal.nD Cert.SsdSkipIdeal.τ Cert.SsdSkipIdeal.sig) → Buf (Elt Ideal) ℓ) (g : Dev Cert.SsdSkipIdeal.nD → PrngReg)
    (m' : (ℓ : Loc Cert.SsdSkipReferenceIdeal.nD Cert.SsdSkipReferenceIdeal.τ Cert.SsdSkipReferenceIdeal.sig) → Buf (Elt Ideal) ℓ) (g' : Dev Cert.SsdSkipReferenceIdeal.nD → PrngReg), Pre_SsdSkipIdeal_ssd_skip_finite m →
    (∀ c : Dev Cert.SsdSkipIdeal.nD,
      m' ((c.tc : Thread Cert.SsdSkipReferenceIdeal.nD Cert.SsdSkipReferenceIdeal.τ).loc Cert.SsdSkipReferenceIdeal.main_arg0) = m ((c.tc : Thread Cert.SsdSkipIdeal.nD Cert.SsdSkipIdeal.τ).loc Cert.SsdSkipIdeal.main_arg0)
      ∧ m' ((c.tc : Thread Cert.SsdSkipReferenceIdeal.nD Cert.SsdSkipReferenceIdeal.τ).loc Cert.SsdSkipReferenceIdeal.main_arg1) = m ((c.tc : Thread Cert.SsdSkipIdeal.nD Cert.SsdSkipIdeal.τ).loc Cert.SsdSkipIdeal.main_arg1)
      ∧ m' ((c.tc : Thread Cert.SsdSkipReferenceIdeal.nD Cert.SsdSkipReferenceIdeal.τ).loc Cert.SsdSkipReferenceIdeal.main_arg2) = m ((c.tc : Thread Cert.SsdSkipIdeal.nD Cert.SsdSkipIdeal.τ).loc Cert.SsdSkipIdeal.main_arg2)
      ∧ m' ((c.tc : Thread Cert.SsdSkipReferenceIdeal.nD Cert.SsdSkipReferenceIdeal.τ).loc Cert.SsdSkipReferenceIdeal.main_arg3) = m ((c.tc : Thread Cert.SsdSkipIdeal.nD Cert.SsdSkipIdeal.τ).loc Cert.SsdSkipIdeal.main_arg3)
      ∧ m' ((c.tc : Thread Cert.SsdSkipReferenceIdeal.nD Cert.SsdSkipReferenceIdeal.τ).loc Cert.SsdSkipReferenceIdeal.main_arg4) = m ((c.tc : Thread Cert.SsdSkipIdeal.nD Cert.SsdSkipIdeal.τ).loc Cert.SsdSkipIdeal.main_arg4)
      ∧ m' ((c.tc : Thread Cert.SsdSkipReferenceIdeal.nD Cert.SsdSkipReferenceIdeal.τ).loc Cert.SsdSkipReferenceIdeal.main_arg5) = m ((c.tc : Thread Cert.SsdSkipIdeal.nD Cert.SsdSkipIdeal.τ).loc Cert.SsdSkipIdeal.main_arg5)
      ∧ m' ((c.tc : Thread Cert.SsdSkipReferenceIdeal.nD Cert.SsdSkipReferenceIdeal.τ).loc Cert.SsdSkipReferenceIdeal.main_arg6) = m ((c.tc : Thread Cert.SsdSkipIdeal.nD Cert.SsdSkipIdeal.τ).loc Cert.SsdSkipIdeal.main_arg6)) →
    ∃ (v0 : (c : Dev Cert.SsdSkipIdeal.nD) → Buf (Elt Ideal) ((c.tc : Thread Cert.SsdSkipIdeal.nD Cert.SsdSkipIdeal.τ).loc Cert.SsdSkipIdeal.main_v19)),
      θ_run (Cert.SsdSkipIdeal.defs (F := Ideal)) (onTc (τ := Cert.SsdSkipIdeal.τ) (Cert.SsdSkipIdeal.main (F := Ideal))) ⟨m, fun _ => 0, g⟩ (fun r => ∀ c : Dev Cert.SsdSkipIdeal.nD,
          r.2.mem ((c.tc : Thread Cert.SsdSkipIdeal.nD Cert.SsdSkipIdeal.τ).loc Cert.SsdSkipIdeal.main_v19) = v0 c
          ∧ r.2.mem ((c.tc : Thread Cert.SsdSkipIdeal.nD Cert.SsdSkipIdeal.τ).loc Cert.SsdSkipIdeal.main_arg0) = m ((c.tc : Thread Cert.SsdSkipIdeal.nD Cert.SsdSkipIdeal.τ).loc Cert.SsdSkipIdeal.main_arg0)
          ∧ r.2.mem ((c.tc : Thread Cert.SsdSkipIdeal.nD Cert.SsdSkipIdeal.τ).loc Cert.SsdSkipIdeal.main_arg1) = m ((c.tc : Thread Cert.SsdSkipIdeal.nD Cert.SsdSkipIdeal.τ).loc Cert.SsdSkipIdeal.main_arg1)
          ∧ r.2.mem ((c.tc : Thread Cert.SsdSkipIdeal.nD Cert.SsdSkipIdeal.τ).loc Cert.SsdSkipIdeal.main_arg2) = m ((c.tc : Thread Cert.SsdSkipIdeal.nD Cert.SsdSkipIdeal.τ).loc Cert.SsdSkipIdeal.main_arg2)
          ∧ r.2.mem ((c.tc : Thread Cert.SsdSkipIdeal.nD Cert.SsdSkipIdeal.τ).loc Cert.SsdSkipIdeal.main_arg3) = m ((c.tc : Thread Cert.SsdSkipIdeal.nD Cert.SsdSkipIdeal.τ).loc Cert.SsdSkipIdeal.main_arg3)
          ∧ r.2.mem ((c.tc : Thread Cert.SsdSkipIdeal.nD Cert.SsdSkipIdeal.τ).loc Cert.SsdSkipIdeal.main_arg4) = m ((c.tc : Thread Cert.SsdSkipIdeal.nD Cert.SsdSkipIdeal.τ).loc Cert.SsdSkipIdeal.main_arg4)
          ∧ r.2.mem ((c.tc : Thread Cert.SsdSkipIdeal.nD Cert.SsdSkipIdeal.τ).loc Cert.SsdSkipIdeal.main_arg5) = m ((c.tc : Thread Cert.SsdSkipIdeal.nD Cert.SsdSkipIdeal.τ).loc Cert.SsdSkipIdeal.main_arg5)
          ∧ r.2.mem ((c.tc : Thread Cert.SsdSkipIdeal.nD Cert.SsdSkipIdeal.τ).loc Cert.SsdSkipIdeal.main_arg6) = m ((c.tc : Thread Cert.SsdSkipIdeal.nD Cert.SsdSkipIdeal.τ).loc Cert.SsdSkipIdeal.main_arg6))
      ∧ θ_run (Cert.SsdSkipReferenceIdeal.defs (F := Ideal)) (onTc (τ := Cert.SsdSkipReferenceIdeal.τ) (Cert.SsdSkipReferenceIdeal.main (F := Ideal))) ⟨m', fun _ => 0, g'⟩ (fun r => ∀ c : Dev Cert.SsdSkipReferenceIdeal.nD,
          r.2.mem ((c.tc : Thread Cert.SsdSkipReferenceIdeal.nD Cert.SsdSkipReferenceIdeal.τ).loc Cert.SsdSkipReferenceIdeal.main_v13) = v0 c
          ∧ r.2.mem ((c.tc : Thread Cert.SsdSkipReferenceIdeal.nD Cert.SsdSkipReferenceIdeal.τ).loc Cert.SsdSkipReferenceIdeal.main_arg0) = m' ((c.tc : Thread Cert.SsdSkipReferenceIdeal.nD Cert.SsdSkipReferenceIdeal.τ).loc Cert.SsdSkipReferenceIdeal.main_arg0)
          ∧ r.2.mem ((c.tc : Thread Cert.SsdSkipReferenceIdeal.nD Cert.SsdSkipReferenceIdeal.τ).loc Cert.SsdSkipReferenceIdeal.main_arg1) = m' ((c.tc : Thread Cert.SsdSkipReferenceIdeal.nD Cert.SsdSkipReferenceIdeal.τ).loc Cert.SsdSkipReferenceIdeal.main_arg1)
          ∧ r.2.mem ((c.tc : Thread Cert.SsdSkipReferenceIdeal.nD Cert.SsdSkipReferenceIdeal.τ).loc Cert.SsdSkipReferenceIdeal.main_arg2) = m' ((c.tc : Thread Cert.SsdSkipReferenceIdeal.nD Cert.SsdSkipReferenceIdeal.τ).loc Cert.SsdSkipReferenceIdeal.main_arg2)
          ∧ r.2.mem ((c.tc : Thread Cert.SsdSkipReferenceIdeal.nD Cert.SsdSkipReferenceIdeal.τ).loc Cert.SsdSkipReferenceIdeal.main_arg3) = m' ((c.tc : Thread Cert.SsdSkipReferenceIdeal.nD Cert.SsdSkipReferenceIdeal.τ).loc Cert.SsdSkipReferenceIdeal.main_arg3)
          ∧ r.2.mem ((c.tc : Thread Cert.SsdSkipReferenceIdeal.nD Cert.SsdSkipReferenceIdeal.τ).loc Cert.SsdSkipReferenceIdeal.main_arg4) = m' ((c.tc : Thread Cert.SsdSkipReferenceIdeal.nD Cert.SsdSkipReferenceIdeal.τ).loc Cert.SsdSkipReferenceIdeal.main_arg4)
          ∧ r.2.mem ((c.tc : Thread Cert.SsdSkipReferenceIdeal.nD Cert.SsdSkipReferenceIdeal.τ).loc Cert.SsdSkipReferenceIdeal.main_arg5) = m' ((c.tc : Thread Cert.SsdSkipReferenceIdeal.nD Cert.SsdSkipReferenceIdeal.τ).loc Cert.SsdSkipReferenceIdeal.main_arg5)
          ∧ r.2.mem ((c.tc : Thread Cert.SsdSkipReferenceIdeal.nD Cert.SsdSkipReferenceIdeal.τ).loc Cert.SsdSkipReferenceIdeal.main_arg6) = m' ((c.tc : Thread Cert.SsdSkipReferenceIdeal.nD Cert.SsdSkipReferenceIdeal.τ).loc Cert.SsdSkipReferenceIdeal.main_arg6))

def Claim : Prop :=
  ∃ (hDown : Cert.Down.Facts) (hDownIdeal : Cert.DownIdeal.Facts) (hDownReferenceIdeal : Cert.DownReferenceIdeal.Facts) (hGateUpGrad : Cert.GateUpGrad.Facts) (hGateUpGradIdeal : Cert.GateUpGradIdeal.Facts) (hGateUpGradReferenceIdeal : Cert.GateUpGradReferenceIdeal.Facts) (hDownWeight : Cert.DownWeight.Facts) (hDownWeightIdeal : Cert.DownWeightIdeal.Facts) (hDownWeightReferenceIdeal : Cert.DownWeightReferenceIdeal.Facts) (hGateWeight : Cert.GateWeight.Facts) (hGateWeightIdeal : Cert.GateWeightIdeal.Facts) (hGateWeightReferenceIdeal : Cert.GateWeightReferenceIdeal.Facts) (hProjInGrad : Cert.ProjInGrad.Facts) (hProjInGradIdeal : Cert.ProjInGradIdeal.Facts) (hProjInGradReferenceIdeal : Cert.ProjInGradReferenceIdeal.Facts) (hQkvWeight : Cert.QkvWeight.Facts) (hQkvWeightIdeal : Cert.QkvWeightIdeal.Facts) (hQkvWeightReferenceIdeal : Cert.QkvWeightReferenceIdeal.Facts) (hZWeight : Cert.ZWeight.Facts) (hZWeightIdeal : Cert.ZWeightIdeal.Facts) (hZWeightReferenceIdeal : Cert.ZWeightReferenceIdeal.Facts) (hXbcWeight : Cert.XbcWeight.Facts) (hXbcWeightIdeal : Cert.XbcWeightIdeal.Facts) (hXbcWeightReferenceIdeal : Cert.XbcWeightReferenceIdeal.Facts) (hDtWeight : Cert.DtWeight.Facts) (hDtWeightIdeal : Cert.DtWeightIdeal.Facts) (hDtWeightReferenceIdeal : Cert.DtWeightReferenceIdeal.Facts) (hProjOutGrad : Cert.ProjOutGrad.Facts) (hProjOutGradIdeal : Cert.ProjOutGradIdeal.Facts) (hProjOutGradReferenceIdeal : Cert.ProjOutGradReferenceIdeal.Facts) (hOutWeight : Cert.OutWeight.Facts) (hOutWeightIdeal : Cert.OutWeightIdeal.Facts) (hOutWeightReferenceIdeal : Cert.OutWeightReferenceIdeal.Facts) (hProjQkv : Cert.ProjQkv.Facts) (hProjQkvIdeal : Cert.ProjQkvIdeal.Facts) (hProjQkvReferenceIdeal : Cert.ProjQkvReferenceIdeal.Facts) (hProjZ : Cert.ProjZ.Facts) (hProjZIdeal : Cert.ProjZIdeal.Facts) (hProjZReferenceIdeal : Cert.ProjZReferenceIdeal.Facts) (hProjXbc : Cert.ProjXbc.Facts) (hProjXbcIdeal : Cert.ProjXbcIdeal.Facts) (hProjXbcReferenceIdeal : Cert.ProjXbcReferenceIdeal.Facts) (hProjDt : Cert.ProjDt.Facts) (hProjDtIdeal : Cert.ProjDtIdeal.Facts) (hProjDtReferenceIdeal : Cert.ProjDtReferenceIdeal.Facts) (hProjOut : Cert.ProjOut.Facts) (hProjOutIdeal : Cert.ProjOutIdeal.Facts) (hProjOutReferenceIdeal : Cert.ProjOutReferenceIdeal.Facts) (hGateUp : Cert.GateUp.Facts) (hGateUpIdeal : Cert.GateUpIdeal.Facts) (hGateUpReferenceIdeal : Cert.GateUpReferenceIdeal.Facts) (hFfnDown : Cert.FfnDown.Facts) (hFfnDownIdeal : Cert.FfnDownIdeal.Facts) (hFfnDownReferenceIdeal : Cert.FfnDownReferenceIdeal.Facts) (hNorm : Cert.Norm.Facts) (hNormIdeal : Cert.NormIdeal.Facts) (hNormReferenceIdeal : Cert.NormReferenceIdeal.Facts) (hMerge : Cert.Merge.Facts) (hMergeIdeal : Cert.MergeIdeal.Facts) (hMergeReferenceIdeal : Cert.MergeReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hAdamGate : Cert.AdamGate.Facts) (hAdamGateIdeal : Cert.AdamGateIdeal.Facts) (hAdamGateReferenceIdeal : Cert.AdamGateReferenceIdeal.Facts) (hAdamDown : Cert.AdamDown.Facts) (hAdamDownIdeal : Cert.AdamDownIdeal.Facts) (hAdamDownReferenceIdeal : Cert.AdamDownReferenceIdeal.Facts) (hAdamSmall : Cert.AdamSmall.Facts) (hAdamSmallIdeal : Cert.AdamSmallIdeal.Facts) (hAdamSmallReferenceIdeal : Cert.AdamSmallReferenceIdeal.Facts) (hConv : Cert.Conv.Facts) (hConvIdeal : Cert.ConvIdeal.Facts) (hConvReferenceIdeal : Cert.ConvReferenceIdeal.Facts) (hNormFwd : Cert.NormFwd.Facts) (hNormFwdIdeal : Cert.NormFwdIdeal.Facts) (hNormFwdReferenceIdeal : Cert.NormFwdReferenceIdeal.Facts) (hMergeFwd : Cert.MergeFwd.Facts) (hMergeFwdIdeal : Cert.MergeFwdIdeal.Facts) (hMergeFwdReferenceIdeal : Cert.MergeFwdReferenceIdeal.Facts) (hConvFwd : Cert.ConvFwd.Facts) (hConvFwdIdeal : Cert.ConvFwdIdeal.Facts) (hConvFwdReferenceIdeal : Cert.ConvFwdReferenceIdeal.Facts) (hLossHead : Cert.LossHead.Facts) (hLossHeadIdeal : Cert.LossHeadIdeal.Facts) (hLossHeadReferenceIdeal : Cert.LossHeadReferenceIdeal.Facts) (hSsdFwd : Cert.SsdFwd.Facts) (hSsdFwdIdeal : Cert.SsdFwdIdeal.Facts) (hSsdFwdReferenceIdeal : Cert.SsdFwdReferenceIdeal.Facts) (hChipIn : Cert.ChipIn.Facts) (hChipInIdeal : Cert.ChipInIdeal.Facts) (hChipInReferenceIdeal : Cert.ChipInReferenceIdeal.Facts) (hChipOut : Cert.ChipOut.Facts) (hChipOutIdeal : Cert.ChipOutIdeal.Facts) (hChipOutReferenceIdeal : Cert.ChipOutReferenceIdeal.Facts) (hChipGate : Cert.ChipGate.Facts) (hChipGateIdeal : Cert.ChipGateIdeal.Facts) (hChipGateReferenceIdeal : Cert.ChipGateReferenceIdeal.Facts) (hChipDown : Cert.ChipDown.Facts) (hChipDownIdeal : Cert.ChipDownIdeal.Facts) (hChipDownReferenceIdeal : Cert.ChipDownReferenceIdeal.Facts) (hSsdSkip : Cert.SsdSkip.Facts) (hSsdSkipIdeal : Cert.SsdSkipIdeal.Facts) (hSsdSkipReferenceIdeal : Cert.SsdSkipReferenceIdeal.Facts) (hPre_down_finite : Cert.Pre_down_finite.Facts) (hPre_merge_finite : Cert.Pre_merge_finite.Facts) (hPre_conv_finite : Cert.Pre_conv_finite.Facts) (hPre_ssd_fwd_below : Cert.Pre_ssd_fwd_below.Facts) (hPre_ssd_skip_finite : Cert.Pre_ssd_skip_finite.Facts),
    quiescent_Down (hDown := hDown)
    ∧ quiescent_DownIdeal (hDownIdeal := hDownIdeal)
    ∧ quiescent_DownIdeal_pre_down_finite (hDownIdeal := hDownIdeal) (hPre_down_finite := hPre_down_finite)
    ∧ quiescent_DownReferenceIdeal (hDownReferenceIdeal := hDownReferenceIdeal)
    ∧ quiescent_DownReferenceIdeal_pre_down_finite (hDownReferenceIdeal := hDownReferenceIdeal) (hPre_down_finite := hPre_down_finite)
    ∧ quiescent_GateUpGrad (hGateUpGrad := hGateUpGrad)
    ∧ quiescent_GateUpGradIdeal (hGateUpGradIdeal := hGateUpGradIdeal)
    ∧ quiescent_GateUpGradReferenceIdeal (hGateUpGradReferenceIdeal := hGateUpGradReferenceIdeal)
    ∧ quiescent_DownWeight (hDownWeight := hDownWeight)
    ∧ quiescent_DownWeightIdeal (hDownWeightIdeal := hDownWeightIdeal)
    ∧ quiescent_DownWeightReferenceIdeal (hDownWeightReferenceIdeal := hDownWeightReferenceIdeal)
    ∧ quiescent_GateWeight (hGateWeight := hGateWeight)
    ∧ quiescent_GateWeightIdeal (hGateWeightIdeal := hGateWeightIdeal)
    ∧ quiescent_GateWeightReferenceIdeal (hGateWeightReferenceIdeal := hGateWeightReferenceIdeal)
    ∧ quiescent_ProjInGrad (hProjInGrad := hProjInGrad)
    ∧ quiescent_ProjInGradIdeal (hProjInGradIdeal := hProjInGradIdeal)
    ∧ quiescent_ProjInGradReferenceIdeal (hProjInGradReferenceIdeal := hProjInGradReferenceIdeal)
    ∧ quiescent_QkvWeight (hQkvWeight := hQkvWeight)
    ∧ quiescent_QkvWeightIdeal (hQkvWeightIdeal := hQkvWeightIdeal)
    ∧ quiescent_QkvWeightReferenceIdeal (hQkvWeightReferenceIdeal := hQkvWeightReferenceIdeal)
    ∧ quiescent_ZWeight (hZWeight := hZWeight)
    ∧ quiescent_ZWeightIdeal (hZWeightIdeal := hZWeightIdeal)
    ∧ quiescent_ZWeightReferenceIdeal (hZWeightReferenceIdeal := hZWeightReferenceIdeal)
    ∧ quiescent_XbcWeight (hXbcWeight := hXbcWeight)
    ∧ quiescent_XbcWeightIdeal (hXbcWeightIdeal := hXbcWeightIdeal)
    ∧ quiescent_XbcWeightReferenceIdeal (hXbcWeightReferenceIdeal := hXbcWeightReferenceIdeal)
    ∧ quiescent_DtWeight (hDtWeight := hDtWeight)
    ∧ quiescent_DtWeightIdeal (hDtWeightIdeal := hDtWeightIdeal)
    ∧ quiescent_DtWeightReferenceIdeal (hDtWeightReferenceIdeal := hDtWeightReferenceIdeal)
    ∧ quiescent_ProjOutGrad (hProjOutGrad := hProjOutGrad)
    ∧ quiescent_ProjOutGradIdeal (hProjOutGradIdeal := hProjOutGradIdeal)
    ∧ quiescent_ProjOutGradReferenceIdeal (hProjOutGradReferenceIdeal := hProjOutGradReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ quiescent_ProjQkv (hProjQkv := hProjQkv)
    ∧ quiescent_ProjQkvIdeal (hProjQkvIdeal := hProjQkvIdeal)
    ∧ quiescent_ProjQkvReferenceIdeal (hProjQkvReferenceIdeal := hProjQkvReferenceIdeal)
    ∧ quiescent_ProjZ (hProjZ := hProjZ)
    ∧ quiescent_ProjZIdeal (hProjZIdeal := hProjZIdeal)
    ∧ quiescent_ProjZReferenceIdeal (hProjZReferenceIdeal := hProjZReferenceIdeal)
    ∧ quiescent_ProjXbc (hProjXbc := hProjXbc)
    ∧ quiescent_ProjXbcIdeal (hProjXbcIdeal := hProjXbcIdeal)
    ∧ quiescent_ProjXbcReferenceIdeal (hProjXbcReferenceIdeal := hProjXbcReferenceIdeal)
    ∧ quiescent_ProjDt (hProjDt := hProjDt)
    ∧ quiescent_ProjDtIdeal (hProjDtIdeal := hProjDtIdeal)
    ∧ quiescent_ProjDtReferenceIdeal (hProjDtReferenceIdeal := hProjDtReferenceIdeal)
    ∧ quiescent_ProjOut (hProjOut := hProjOut)
    ∧ quiescent_ProjOutIdeal (hProjOutIdeal := hProjOutIdeal)
    ∧ quiescent_ProjOutReferenceIdeal (hProjOutReferenceIdeal := hProjOutReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeReferenceIdeal (hMergeReferenceIdeal := hMergeReferenceIdeal)
    ∧ quiescent_MergeReferenceIdeal_pre_merge_finite (hMergeReferenceIdeal := hMergeReferenceIdeal) (hPre_merge_finite := hPre_merge_finite)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamGate (hAdamGate := hAdamGate)
    ∧ quiescent_AdamGateIdeal (hAdamGateIdeal := hAdamGateIdeal)
    ∧ quiescent_AdamGateReferenceIdeal (hAdamGateReferenceIdeal := hAdamGateReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvReferenceIdeal (hConvReferenceIdeal := hConvReferenceIdeal)
    ∧ quiescent_ConvReferenceIdeal_pre_conv_finite (hConvReferenceIdeal := hConvReferenceIdeal) (hPre_conv_finite := hPre_conv_finite)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_SsdFwd (hSsdFwd := hSsdFwd)
    ∧ quiescent_SsdFwdIdeal (hSsdFwdIdeal := hSsdFwdIdeal)
    ∧ quiescent_SsdFwdIdeal_pre_ssd_fwd_below (hSsdFwdIdeal := hSsdFwdIdeal) (hPre_ssd_fwd_below := hPre_ssd_fwd_below)
    ∧ quiescent_SsdFwdReferenceIdeal (hSsdFwdReferenceIdeal := hSsdFwdReferenceIdeal)
    ∧ quiescent_SsdFwdReferenceIdeal_pre_ssd_fwd_below (hSsdFwdReferenceIdeal := hSsdFwdReferenceIdeal) (hPre_ssd_fwd_below := hPre_ssd_fwd_below)
    ∧ quiescent_ChipIn (hChipIn := hChipIn)
    ∧ quiescent_ChipInIdeal (hChipInIdeal := hChipInIdeal)
    ∧ quiescent_ChipInReferenceIdeal (hChipInReferenceIdeal := hChipInReferenceIdeal)
    ∧ quiescent_ChipOut (hChipOut := hChipOut)
    ∧ quiescent_ChipOutIdeal (hChipOutIdeal := hChipOutIdeal)
    ∧ quiescent_ChipOutReferenceIdeal (hChipOutReferenceIdeal := hChipOutReferenceIdeal)
    ∧ quiescent_ChipGate (hChipGate := hChipGate)
    ∧ quiescent_ChipGateIdeal (hChipGateIdeal := hChipGateIdeal)
    ∧ quiescent_ChipGateReferenceIdeal (hChipGateReferenceIdeal := hChipGateReferenceIdeal)
    ∧ quiescent_ChipDown (hChipDown := hChipDown)
    ∧ quiescent_ChipDownIdeal (hChipDownIdeal := hChipDownIdeal)
    ∧ quiescent_ChipDownReferenceIdeal (hChipDownReferenceIdeal := hChipDownReferenceIdeal)
    ∧ quiescent_SsdSkip (hSsdSkip := hSsdSkip)
    ∧ quiescent_SsdSkipIdeal (hSsdSkipIdeal := hSsdSkipIdeal)
    ∧ quiescent_SsdSkipIdeal_pre_ssd_skip_finite (hSsdSkipIdeal := hSsdSkipIdeal) (hPre_ssd_skip_finite := hPre_ssd_skip_finite)
    ∧ quiescent_SsdSkipReferenceIdeal (hSsdSkipReferenceIdeal := hSsdSkipReferenceIdeal)
    ∧ quiescent_SsdSkipReferenceIdeal_pre_ssd_skip_finite (hSsdSkipReferenceIdeal := hSsdSkipReferenceIdeal) (hPre_ssd_skip_finite := hPre_ssd_skip_finite)
    ∧ preserves_Down_DownIdeal
    ∧ algebraic_DownIdeal_DownReferenceIdeal_pre_down_finite (hDownIdeal := hDownIdeal) (hDownReferenceIdeal := hDownReferenceIdeal) (hPre_down_finite := hPre_down_finite)
    ∧ preserves_GateUpGrad_GateUpGradIdeal
    ∧ algebraic_GateUpGradIdeal_GateUpGradReferenceIdeal (hGateUpGradIdeal := hGateUpGradIdeal) (hGateUpGradReferenceIdeal := hGateUpGradReferenceIdeal)
    ∧ preserves_DownWeight_DownWeightIdeal
    ∧ algebraic_DownWeightIdeal_DownWeightReferenceIdeal (hDownWeightIdeal := hDownWeightIdeal) (hDownWeightReferenceIdeal := hDownWeightReferenceIdeal)
    ∧ preserves_GateWeight_GateWeightIdeal
    ∧ algebraic_GateWeightIdeal_GateWeightReferenceIdeal (hGateWeightIdeal := hGateWeightIdeal) (hGateWeightReferenceIdeal := hGateWeightReferenceIdeal)
    ∧ preserves_ProjInGrad_ProjInGradIdeal
    ∧ algebraic_ProjInGradIdeal_ProjInGradReferenceIdeal (hProjInGradIdeal := hProjInGradIdeal) (hProjInGradReferenceIdeal := hProjInGradReferenceIdeal)
    ∧ preserves_QkvWeight_QkvWeightIdeal
    ∧ algebraic_QkvWeightIdeal_QkvWeightReferenceIdeal (hQkvWeightIdeal := hQkvWeightIdeal) (hQkvWeightReferenceIdeal := hQkvWeightReferenceIdeal)
    ∧ preserves_ZWeight_ZWeightIdeal
    ∧ algebraic_ZWeightIdeal_ZWeightReferenceIdeal (hZWeightIdeal := hZWeightIdeal) (hZWeightReferenceIdeal := hZWeightReferenceIdeal)
    ∧ preserves_XbcWeight_XbcWeightIdeal
    ∧ algebraic_XbcWeightIdeal_XbcWeightReferenceIdeal (hXbcWeightIdeal := hXbcWeightIdeal) (hXbcWeightReferenceIdeal := hXbcWeightReferenceIdeal)
    ∧ preserves_DtWeight_DtWeightIdeal
    ∧ algebraic_DtWeightIdeal_DtWeightReferenceIdeal (hDtWeightIdeal := hDtWeightIdeal) (hDtWeightReferenceIdeal := hDtWeightReferenceIdeal)
    ∧ preserves_ProjOutGrad_ProjOutGradIdeal
    ∧ algebraic_ProjOutGradIdeal_ProjOutGradReferenceIdeal (hProjOutGradIdeal := hProjOutGradIdeal) (hProjOutGradReferenceIdeal := hProjOutGradReferenceIdeal)
    ∧ preserves_OutWeight_OutWeightIdeal
    ∧ algebraic_OutWeightIdeal_OutWeightReferenceIdeal (hOutWeightIdeal := hOutWeightIdeal) (hOutWeightReferenceIdeal := hOutWeightReferenceIdeal)
    ∧ preserves_ProjQkv_ProjQkvIdeal
    ∧ algebraic_ProjQkvIdeal_ProjQkvReferenceIdeal (hProjQkvIdeal := hProjQkvIdeal) (hProjQkvReferenceIdeal := hProjQkvReferenceIdeal)
    ∧ preserves_ProjZ_ProjZIdeal
    ∧ algebraic_ProjZIdeal_ProjZReferenceIdeal (hProjZIdeal := hProjZIdeal) (hProjZReferenceIdeal := hProjZReferenceIdeal)
    ∧ preserves_ProjXbc_ProjXbcIdeal
    ∧ algebraic_ProjXbcIdeal_ProjXbcReferenceIdeal (hProjXbcIdeal := hProjXbcIdeal) (hProjXbcReferenceIdeal := hProjXbcReferenceIdeal)
    ∧ preserves_ProjDt_ProjDtIdeal
    ∧ algebraic_ProjDtIdeal_ProjDtReferenceIdeal (hProjDtIdeal := hProjDtIdeal) (hProjDtReferenceIdeal := hProjDtReferenceIdeal)
    ∧ preserves_ProjOut_ProjOutIdeal
    ∧ algebraic_ProjOutIdeal_ProjOutReferenceIdeal (hProjOutIdeal := hProjOutIdeal) (hProjOutReferenceIdeal := hProjOutReferenceIdeal)
    ∧ preserves_GateUp_GateUpIdeal
    ∧ algebraic_GateUpIdeal_GateUpReferenceIdeal (hGateUpIdeal := hGateUpIdeal) (hGateUpReferenceIdeal := hGateUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_Norm_NormIdeal
    ∧ algebraic_NormIdeal_NormReferenceIdeal (hNormIdeal := hNormIdeal) (hNormReferenceIdeal := hNormReferenceIdeal)
    ∧ preserves_Merge_MergeIdeal
    ∧ algebraic_MergeIdeal_MergeReferenceIdeal_pre_merge_finite (hMergeIdeal := hMergeIdeal) (hMergeReferenceIdeal := hMergeReferenceIdeal) (hPre_merge_finite := hPre_merge_finite)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamGate_AdamGateIdeal
    ∧ algebraic_AdamGateIdeal_AdamGateReferenceIdeal (hAdamGateIdeal := hAdamGateIdeal) (hAdamGateReferenceIdeal := hAdamGateReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_Conv_ConvIdeal
    ∧ algebraic_ConvIdeal_ConvReferenceIdeal_pre_conv_finite (hConvIdeal := hConvIdeal) (hConvReferenceIdeal := hConvReferenceIdeal) (hPre_conv_finite := hPre_conv_finite)
    ∧ preserves_NormFwd_NormFwdIdeal
    ∧ algebraic_NormFwdIdeal_NormFwdReferenceIdeal (hNormFwdIdeal := hNormFwdIdeal) (hNormFwdReferenceIdeal := hNormFwdReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_SsdFwd_SsdFwdIdeal
    ∧ algebraic_SsdFwdIdeal_SsdFwdReferenceIdeal_pre_ssd_fwd_below (hSsdFwdIdeal := hSsdFwdIdeal) (hSsdFwdReferenceIdeal := hSsdFwdReferenceIdeal) (hPre_ssd_fwd_below := hPre_ssd_fwd_below)
    ∧ preserves_ChipIn_ChipInIdeal
    ∧ algebraic_ChipInIdeal_ChipInReferenceIdeal (hChipInIdeal := hChipInIdeal) (hChipInReferenceIdeal := hChipInReferenceIdeal)
    ∧ preserves_ChipOut_ChipOutIdeal
    ∧ algebraic_ChipOutIdeal_ChipOutReferenceIdeal (hChipOutIdeal := hChipOutIdeal) (hChipOutReferenceIdeal := hChipOutReferenceIdeal)
    ∧ preserves_ChipGate_ChipGateIdeal
    ∧ algebraic_ChipGateIdeal_ChipGateReferenceIdeal (hChipGateIdeal := hChipGateIdeal) (hChipGateReferenceIdeal := hChipGateReferenceIdeal)
    ∧ preserves_ChipDown_ChipDownIdeal
    ∧ algebraic_ChipDownIdeal_ChipDownReferenceIdeal (hChipDownIdeal := hChipDownIdeal) (hChipDownReferenceIdeal := hChipDownReferenceIdeal)
    ∧ preserves_SsdSkip_SsdSkipIdeal
    ∧ algebraic_SsdSkipIdeal_SsdSkipReferenceIdeal_pre_ssd_skip_finite (hSsdSkipIdeal := hSsdSkipIdeal) (hSsdSkipReferenceIdeal := hSsdSkipReferenceIdeal) (hPre_ssd_skip_finite := hPre_ssd_skip_finite)
-- ==== Pre_conv_finite.lean ====
abbrev S2x2048x1536 : Shape := ⟨3, ![2, 2048, 1536]⟩
abbrev S4x1536 : Shape := ⟨2, ![4, 1536]⟩
abbrev S1536 : Shape := ⟨1, ![1536]⟩
abbrev S_ : Shape := ⟨0, ![]⟩

class Facts : Prop where
  bcast_S_S2x2048x1536 : S_.BroadcastsInDim S2x2048x1536 (![] : Fin 0 → Fin S2x2048x1536.rank)
  reducesTo_S2x2048x1536_S_d0_1_2 : S2x2048x1536.ReducesTo [0, 1, 2] S_
  h_S_ : 0 < S_.numel

variable [Facts]

def fn {F : FTy → Type} [FloatOps F] (main_arg0 : FVec F S2x2048x1536 .f32) (main_arg1 : FVec F S4x1536 .f32) (main_arg2 : FVec F S1536 .f32) (main_arg3 : FVec F S2x2048x1536 .f32) : IVec S_ 1 :=
  let main_v0 : FVec F S2x2048x1536 .f32 := Host.absf main_arg3
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  let main_c : IVec S_ 1 := constantI S_ 1 1#1
  let main_v3 : IVec S_ 1 := (fun x v => Host.reduce IntOp.andi x v reducesTo_S2x2048x1536_S_d0_1_2 h_S_) main_v2 main_c
  main_v3
-- ==== Pre_down_finite.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x2048 .bf16) (main_arg1 : FVec F S5632x2048 .bf16) (main_arg2 : FVec F S4096x5632 .f32) (main_arg3 : FVec F S4096x5632 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S4096x5632 .f32 := Host.absf main_arg3
  let main_cst_2 : FVec F S_ .f32 := constant S_ .f32 0x7F800000#32
  let main_v12 : FVec F S4096x5632 .f32 := broadcastInDim S4096x5632 ![] bcast_S_S4096x5632 main_cst_2
  let main_v13 : IVec S4096x5632 1 := cmpf .olt main_v11 main_v12
  let main_c_3 : IVec S_ 1 := constantI S_ 1 1#1
  let main_v14 : IVec S_ 1 := (fun x v => Host.reduce IntOp.andi x v reducesTo_S4096x5632_S_d0_1 h_S_) main_v13 main_c_3
  let main_v15 : IVec S_ 1 := andi main_v10 main_v14
  main_v15
-- ==== Pre_merge_finite.lean ====
abbrev S4096x1024 : Shape := ⟨2, ![4096, 1024]⟩
abbrev S1024 : Shape := ⟨1, ![1024]⟩
abbrev S4096x2048 : Shape := ⟨2, ![4096, 2048]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  slices_S4096x2048_S4096x1024_0_1024 : S4096x2048.Slices ![0, 1024] S4096x1024
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1024 .f32) (main_arg1 : FVec F S4096x1024 .f32) (main_arg2 : FVec F S4096x1024 .f32) (main_arg3 : FVec F S1024 .f32) (main_arg4 : FVec F S1024 .f32) (main_arg5 : FVec F S4096x2048 .f32) : IVec S_ 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S4096x1024 .f32 := (extractStridedSlice S4096x1024 ![0, 1024] · slices_S4096x2048_S4096x1024_0_1024) main_arg5
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  main_v9
-- ==== Pre_ssd_fwd_below.lean ====
abbrev S2x2048x1536 : Shape := ⟨3, ![2, 2048, 1536]⟩
abbrev S2x2048x16 : Shape := ⟨3, ![2, 2048, 16]⟩
abbrev S16 : Shape := ⟨1, ![16]⟩
abbrev S_ : Shape := ⟨0, ![]⟩

class Facts : Prop where
  bcast_S_S2x2048x16 : S_.BroadcastsInDim S2x2048x16 (![] : Fin 0 → Fin S2x2048x16.rank)
  reducesTo_S2x2048x16_S_d0_1_2 : S2x2048x16.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2x2048x1536 .f32) (main_arg1 : FVec F S2x2048x16 .f32) (main_arg2 : FVec F S16 .f32) (main_arg3 : FVec F S16 .f32) (main_arg4 : FVec F S16 .f32) : IVec S_ 1 :=
  let main_cst : FVec F S_ .f32 := constant S_ .f32 0x7F800000#32
  let main_v0 : FVec F S2x2048x16 .f32 := broadcastInDim S2x2048x16 ![] bcast_S_S2x2048x16 main_cst
  let main_v1 : IVec S2x2048x16 1 := cmpf .olt main_arg1 main_v0
  let main_c : IVec S_ 1 := constantI S_ 1 1#1
  let main_v2 : IVec S_ 1 := (fun x v => Host.reduce IntOp.andi x v reducesTo_S2x2048x16_S_d0_1_2 h_S_) main_v1 main_c
  let main_cst_0 : FVec F S_ .f32 := constant S_ .f32 0x7F800000#32
  let main_v3 : FVec F S16 .f32 := broadcastInDim S16 ![] bcast_S_S16 main_cst_0
  let main_v4 : IVec S16 1 := cmpf .olt main_arg2 main_v3
  let main_c_1 : IVec S_ 1 := constantI S_ 1 1#1
  let main_v5 : IVec S_ 1 := (fun x v => Host.reduce IntOp.andi x v reducesTo_S16_S_d0 h_S_) main_v4 main_c_1
  let main_v6 : IVec S_ 1 := andi main_v2 main_v5
  main_v6
-- ==== Pre_ssd_skip_finite.lean ====
abbrev S2x2048x1536 : Shape := ⟨3, ![2, 2048, 1536]⟩
abbrev S2x2048x16 : Shape := ⟨3, ![2, 2048, 16]⟩
abbrev S16 : Shape := ⟨1, ![16]⟩
abbrev S2x2x16x512x128 : Shape := ⟨5, ![2, 2, 16, 512, 128]⟩
abbrev S2x2048x1024 : Shape := ⟨3, ![2, 2048, 1024]⟩
abbrev S_ : Shape := ⟨0, ![]⟩

class Facts : Prop where
  slices_S2x2048x1536_S2x2048x1024_0_0_0 : S2x2048x1536.Slices ![0, 0, 0] S2x2048x1024
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1536 .f32) (main_arg1 : FVec F S2x2048x16 .f32) (main_arg2 : FVec F S16 .f32) (main_arg3 : FVec F S16 .f32) (main_arg4 : FVec F S16 .f32) (main_arg5 : FVec F S2x2x16x512x128 .f32) (main_arg6 : FVec F S2x2048x1024 .f32) : IVec S_ 1 :=
  let main_v0 : FVec F S2x2048x1024 .f32 := (extractStridedSlice S2x2048x1024 ![0, 0, 0] · slices_S2x2048x1536_S2x2048x1024_0_0_0) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_c : IVec S_ 1 := constantI S_ 1 1#1
  let main_v4 : IVec S_ 1 := (fun x v => Host.reduce IntOp.andi x v reducesTo_S2x2048x1024_S_d0_1_2 h_S_) main_v3 main_c
  let main_v5 : FVec F S2x2048x1024 .f32 := Host.absf main_arg6
  let main_cst_0 : FVec F S_ .f32 := constant S_ .f32 0x7F800000#32
  let main_v6 : FVec F S2x2048x1024 .f32 := broadcastInDim S2x2048x1024 ![] bcast_S_S2x2048x1024 main_cst_0
  let main_v7 : IVec S2x2048x1024 1 := cmpf .olt main_v5 main_v6
  let main_c_1 : IVec S_ 1 := constantI S_ 1 1#1
  let main_v8 : IVec S_ 1 := (fun x v => Host.reduce IntOp.andi x v reducesTo_S2x2048x1024_S_d0_1_2 h_S_) main_v7 main_c_1
  let main_v9 : IVec S_ 1 := andi main_v4 main_v8
  main_v9
-- ==== Down.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .hbm, ⟨3, _⟩ => ⟨S4096x5632, .f32⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownReferenceIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .hbm, ⟨3, _⟩ => ⟨S4096x5632, .f32⟩
  | .hbm, ⟨4, _⟩ => ⟨S5632x2048, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x2048, .f32⟩
  | .hbm, ⟨20, _⟩ => ⟨S4096x2048, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .bf16⟩
  | .hbm, ⟨29, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== GateUpGrad.lean ====
abbrev S4096x5632 : Shape := ⟨2, ![4096, 5632]⟩
abbrev S2048x5632 : Shape := ⟨2, ![2048, 5632]⟩
abbrev S4096x2048 : Shape := ⟨2, ![4096, 2048]⟩
abbrev S512x5632 : Shape := ⟨2, ![512, 5632]⟩
abbrev S256x5632 : Shape := ⟨2, ![256, 5632]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x5632, .bf16⟩
  | .hbm, ⟨3, _⟩ => ⟨S2048x5632, .bf16⟩
  | .hbm, ⟨4, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S256x5632, .bf16⟩
  | .local _ .vmem, ⟨3, _⟩ => ⟨S256x5632, .bf16⟩
  | .local _ .vmem, ⟨4, _⟩ => ⟨S512x5632, .bf16⟩
  | .local _ .vmem, ⟨5, _⟩ => ⟨S512x5632, .bf16⟩
  | .local _ .vmem, ⟨6, _⟩ => ⟨S256x5632, .bf16⟩
  | .local _ .vmem, ⟨7, _⟩ => ⟨S256x5632, .bf16⟩
  | .local _ .vmem, ⟨8, _⟩ => ⟨S512x256, .f32⟩
  | .local _ .vmem, ⟨9, _⟩ => ⟨S512x256, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpGradReferenceIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x2048, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DownWeight.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownWeightReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S_, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateWeight.lean ====
abbrev S4096x2048 : Shape := ⟨2, ![4096, 2048]⟩
abbrev S4096x5632 : Shape := ⟨2, ![4096, 5632]⟩
abbrev S2048x5632 : Shape := ⟨2, ![2048, 5632]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateWeightReferenceIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x2048, .f32⟩
  | .hbm, ⟨3, _⟩ => ⟨S_, .f32⟩
  | .hbm, ⟨4, _⟩ => ⟨S2048x5632, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjInGrad.lean ====
abbrev S4096x3072 : Shape := ⟨2, ![4096, 3072]⟩
abbrev S2048x3072 : Shape := ⟨2, ![2048, 3072]⟩
abbrev S4096x1024 : Shape := ⟨2, ![4096, 1024]⟩
abbrev S2048x1024 : Shape := ⟨2, ![2048, 1024]⟩
abbrev S4096x1536 : Shape := ⟨2, ![4096, 1536]⟩
abbrev S2048x1536 : Shape := ⟨2, ![2048, 1536]⟩
abbrev S4096x256 : Shape := ⟨2, ![4096, 256]⟩
abbrev S2048x256 : Shape := ⟨2, ![2048, 256]⟩
abbrev S4096x2048 : Shape := ⟨2, ![4096, 2048]⟩
abbrev S512x3072 : Shape := ⟨2, ![512, 3072]⟩
abbrev S512x1024 : Shape := ⟨2, ![512, 1024]⟩
abbrev S512x1536 : Shape := ⟨2, ![512, 1536]⟩
abbrev S512x256 : Shape := ⟨2, ![512, 256]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x1024, .bf16⟩
  | .hbm, ⟨3, _⟩ => ⟨S2048x1024, .bf16⟩
  | .hbm, ⟨4, _⟩ => ⟨S4096x1536, .bf16⟩
  | .hbm, ⟨5, _⟩ => ⟨S2048x1536, .bf16⟩
  | .hbm, ⟨6, _⟩ => ⟨S4096x256, .bf16⟩
  | .hbm, ⟨7, _⟩ => ⟨S2048x256, .bf16⟩
  | .hbm, ⟨8, _⟩ => ⟨S4096x2048, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x1536, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x512, .f32⟩
  | .local _ .vmem, ⟨17, _⟩ => ⟨S512x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjInGradReferenceIdeal.lean ====
abbrev S4096x3072 : Shape := ⟨2, ![4096, 3072]⟩
abbrev S2048x3072 : Shape := ⟨2, ![2048, 3072]⟩
abbrev S4096x1024 : Shape := ⟨2, ![4096, 1024]⟩
abbrev S2048x1024 : Shape := ⟨2, ![2048, 1024]⟩
abbrev S4096x1536 : Shape := ⟨2, ![4096, 1536]⟩
abbrev S2048x1536 : Shape := ⟨2, ![2048, 1536]⟩
abbrev S4096x256 : Shape := ⟨2, ![4096, 256]⟩
abbrev S2048x256 : Shape := ⟨2, ![2048, 256]⟩
abbrev S_ : Shape := ⟨0, ![]⟩
abbrev S4096x2048 : Shape := ⟨2, ![4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x1024, .bf16⟩
  | .hbm, ⟨3, _⟩ => ⟨S2048x1024, .bf16⟩
  | .hbm, ⟨4, _⟩ => ⟨S4096x1536, .bf16⟩
  | .hbm, ⟨5, _⟩ => ⟨S2048x1536, .bf16⟩
  | .hbm, ⟨6, _⟩ => ⟨S4096x256, .bf16⟩
  | .hbm, ⟨7, _⟩ => ⟨S2048x256, .bf16⟩
  | .hbm, ⟨8, _⟩ => ⟨S2048x3072, .f32⟩
  | .hbm, ⟨9, _⟩ => ⟨S2048x1024, .f32⟩
  | .hbm, ⟨10, _⟩ => ⟨S2048x1536, .f32⟩
  | .hbm, ⟨11, _⟩ => ⟨S2048x256, .f32⟩
  | .hbm, ⟨12, _⟩ => ⟨S4096x3072, .f32⟩
  | .hbm, ⟨13, _⟩ => ⟨S4096x1024, .f32⟩
  | .hbm, ⟨14, _⟩ => ⟨S4096x1536, .f32⟩
  | .hbm, ⟨15, _⟩ => ⟨S4096x256, .f32⟩
  | .hbm, ⟨16, _⟩ => ⟨S_, .f32⟩
  | .hbm, ⟨17, _⟩ => ⟨S4096x2048, .f32⟩
  | .hbm, ⟨18, _⟩ => ⟨S4096x3072, .f32⟩
  | .hbm, ⟨19, _⟩ => ⟨S4096x1024, .f32⟩
  | .hbm, ⟨20, _⟩ => ⟨S4096x1536, .f32⟩
  | .hbm, ⟨21, _⟩ => ⟨S4096x256, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== QkvWeight.lean ====
abbrev S4096x2048 : Shape := ⟨2, ![4096, 2048]⟩
abbrev S4096x3072 : Shape := ⟨2, ![4096, 3072]⟩
abbrev S2048x3072 : Shape := ⟨2, ![2048, 3072]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S2048x3072, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvWeightReferenceIdeal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x2048, .f32⟩
  | .hbm, ⟨3, _⟩ => ⟨S_, .f32⟩
  | .hbm, ⟨4, _⟩ => ⟨S2048x3072, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ZWeight.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZWeightReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XbcWeight.lean ====
abbrev S4096x2048 : Shape := ⟨2, ![4096, 2048]⟩
abbrev S4096x1536 : Shape := ⟨2, ![4096, 1536]⟩
abbrev S2048x1536 : Shape := ⟨2, ![2048, 1536]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1536, .bf16⟩
  | .hbm, ⟨2, _⟩ => ⟨S2048x1536, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XbcWeightReferenceIdeal.lean ====
abbrev S4096x2048 : Shape := ⟨2, ![4096, 2048]⟩
abbrev S4096x1536 : Shape := ⟨2, ![4096, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1536, .bf16⟩
  | .hbm, ⟨2, _⟩ => ⟨S4096x2048, .f32⟩
  | .hbm, ⟨3, _⟩ => ⟨S_, .f32⟩
  | .hbm, ⟨4, _⟩ => ⟨S2048x1536, .f32⟩
  | .hbm, ⟨5, _⟩ => ⟨S4096x1536, .f32⟩
  | .hbm, ⟨6, _⟩ => ⟨S4096x1536, .f32⟩
  | .hbm, ⟨7, _⟩ => ⟨S1536x2048, .f32⟩
  | .hbm, ⟨8, _⟩ => ⟨S2048x1536, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DtWeight.lean ====
abbrev S4096x2048 : Shape := ⟨2, ![4096, 2048]⟩
abbrev S4096x256 : Shape := ⟨2, ![4096, 256]⟩
abbrev S2048x256 : Shape := ⟨2, ![2048, 256]⟩
abbrev S4096x512 : Shape := ⟨2, ![4096, 512]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S2048x256, .f32⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S512x256, .f32⟩
  | .local _ .vmem, ⟨4, _⟩ => ⟨S512x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtWeightReferenceIdeal.lean ====
abbrev S4096x2048 : Shape := ⟨2, ![4096, 2048]⟩
abbrev S4096x256 : Shape := ⟨2, ![4096, 256]⟩
abbrev S_ : Shape := ⟨0, ![]⟩
abbrev S2048x256 : Shape := ⟨2, ![2048, 256]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S4096x2048, .f32⟩
  | .hbm, ⟨3, _⟩ => ⟨S_, .f32⟩
  | .hbm, ⟨4, _⟩ => ⟨S2048x256, .f32⟩
  | .hbm, ⟨5, _⟩ => ⟨S4096x256, .f32⟩
  | .hbm, ⟨6, _⟩ => ⟨S4096x256, .f32⟩
  | .hbm, ⟨7, _⟩ => ⟨S256x2048, .f32⟩
  | .hbm, ⟨8, _⟩ => ⟨S2048x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjOutGrad.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjOutGradReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWeight.lean ====
abbrev S4096x2048 : Shape := ⟨2, ![4096, 2048]⟩
abbrev S2048x2048 : Shape := ⟨2, ![2048, 2048]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutWeightReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjQkv.lean ====
abbrev S4096x2048 : Shape := ⟨2, ![4096, 2048]⟩
abbrev S2048x3072 : Shape := ⟨2, ![2048, 3072]⟩
abbrev S4096x3072 : Shape := ⟨2, ![4096, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvReferenceIdeal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .f32⟩
  | .hbm, ⟨3, _⟩ => ⟨S2048x3072, .f32⟩
  | .hbm, ⟨4, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjZ.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjZReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjXbc.lean ====
abbrev S4096x2048 : Shape := ⟨2, ![4096, 2048]⟩
abbrev S2048x1536 : Shape := ⟨2, ![2048, 1536]⟩
abbrev S4096x1536 : Shape := ⟨2, ![4096, 1536]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1536, .bf16⟩
  | .hbm, ⟨2, _⟩ => ⟨S4096x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjXbcReferenceIdeal.lean ====
abbrev S4096x2048 : Shape := ⟨2, ![4096, 2048]⟩
abbrev S2048x1536 : Shape := ⟨2, ![2048, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1536, .bf16⟩
  | .hbm, ⟨2, _⟩ => ⟨S4096x2048, .f32⟩
  | .hbm, ⟨3, _⟩ => ⟨S2048x1536, .f32⟩
  | .hbm, ⟨4, _⟩ => ⟨S4096x1536, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjDt.lean ====
abbrev S4096x2048 : Shape := ⟨2, ![4096, 2048]⟩
abbrev S2048x256 : Shape := ⟨2, ![2048, 256]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x256, .bf16⟩
  | .hbm, ⟨2, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDtReferenceIdeal.lean ====
abbrev S4096x2048 : Shape := ⟨2, ![4096, 2048]⟩
abbrev S2048x256 : Shape := ⟨2, ![2048, 256]⟩
abbrev S4096x256 : Shape := ⟨2, ![4096, 256]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x256, .bf16⟩
  | .hbm, ⟨2, _⟩ => ⟨S4096x2048, .f32⟩
  | .hbm, ⟨3, _⟩ => ⟨S2048x256, .f32⟩
  | .hbm, ⟨4, _⟩ => ⟨S4096x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjOut.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjOutReferenceIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateUp.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x5632, .f32⟩
  | .hbm, ⟨4, _⟩ => ⟨S4096x5632, .f32⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateUpReferenceIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S2048x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== FfnDown.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownReferenceIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Merge.lean ====
abbrev S4096x1024 : Shape := ⟨2, ![4096, 1024]⟩
abbrev S1024 : Shape := ⟨1, ![1024]⟩
abbrev S4096x2048 : Shape := ⟨2, ![4096, 2048]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1x512 : Shape := ⟨2, ![1, 512]⟩
abbrev S512 : Shape := ⟨1, ![512]⟩

abbrev nBuf : Space → Nat
  | .hbm => 13
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2048, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeReferenceIdeal.lean ====
abbrev S4096x1024 : Shape := ⟨2, ![4096, 1024]⟩
abbrev S1024 : Shape := ⟨1, ![1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2x512 : Shape := ⟨3, ![4096, 2, 512]⟩
abbrev S4096x2 : Shape := ⟨2, ![4096, 2]⟩
abbrev S4096x2x1 : Shape := ⟨3, ![4096, 2, 1]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x2x512, .f32⟩
  | .hbm, ⟨41, _⟩ => ⟨S4096x2x512, .f32⟩
  | .hbm, ⟨42, _⟩ => ⟨S_, .f32⟩
  | .hbm, ⟨43, _⟩ => ⟨S4096x2, .f32⟩
  | .hbm, ⟨44, _⟩ => ⟨S4096x2x1, .f32⟩
  | .hbm, ⟨45, _⟩ => ⟨S_, .f32⟩
  | .hbm, ⟨46, _⟩ => ⟨S4096x2x1, .f32⟩
  | .hbm, ⟨47, _⟩ => ⟨S4096x2x1, .f32⟩
  | .hbm, ⟨48, _⟩ => ⟨S_, .f32⟩
  | .hbm, ⟨49, _⟩ => ⟨S4096x2x1, .f32⟩
  | .hbm, ⟨50, _⟩ => ⟨S4096x2x1, .f32⟩
  | .hbm, ⟨51, _⟩ => ⟨S4096x2x1, .f32⟩
  | .hbm, ⟨52, _⟩ => ⟨S4096x2x1, .f32⟩
  | .hbm, ⟨53, _⟩ => ⟨S_, .f32⟩
  | .hbm, ⟨54, _⟩ => ⟨S4096x2x1, .f32⟩
  | .hbm, ⟨55, _⟩ => ⟨S4096x2x1, .f32⟩
  | .hbm, ⟨56, _⟩ => ⟨S4096x2x512, .f32⟩
  | .hbm, ⟨57, _⟩ => ⟨S4096x2x512, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x2048, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S4096x2x512, .f32⟩
  | .hbm, ⟨74, _⟩ => ⟨S4096x2x512, .f32⟩
  | .hbm, ⟨75, _⟩ => ⟨S_, .f32⟩
  | .hbm, ⟨76, _⟩ => ⟨S4096x2, .f32⟩
  | .hbm, ⟨77, _⟩ => ⟨S4096x2x1, .f32⟩
  | .hbm, ⟨78, _⟩ => ⟨S4096x2x512, .f32⟩
  | .hbm, ⟨79, _⟩ => ⟨S4096x2x512, .f32⟩
  | .hbm, ⟨80, _⟩ => ⟨S4096x2x1, .f32⟩
  | .hbm, ⟨81, _⟩ => ⟨S_, .f32⟩
  | .hbm, ⟨82, _⟩ => ⟨S4096x2x1, .f32⟩
  | .hbm, ⟨83, _⟩ => ⟨S4096x2x1, .f32⟩
  | .hbm, ⟨84, _⟩ => ⟨S_, .f32⟩
  | .hbm, ⟨85, _⟩ => ⟨S4096x2, .f32⟩
  | .hbm, ⟨86, _⟩ => ⟨S4096x2x512, .f32⟩
  | .hbm, ⟨87, _⟩ => ⟨S4096x2x512, .f32⟩
  | .hbm, ⟨88, _⟩ => ⟨S4096x2x512, .f32⟩
  | .hbm, ⟨89, _⟩ => ⟨S4096x2x512, .f32⟩
  | .hbm, ⟨90, _⟩ => ⟨S4096x2x512, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S1024, .f32⟩
  | .hbm, ⟨106, _⟩ => ⟨S4096x1024, .f32⟩
  | .hbm, ⟨107, _⟩ => ⟨S_, .f32⟩
  | .hbm, ⟨108, _⟩ => ⟨S4096, .f32⟩
  | .hbm, ⟨109, _⟩ => ⟨S4096x1, .f32⟩
  | .hbm, ⟨110, _⟩ => ⟨S4096x1024, .f32⟩
  | .hbm, ⟨111, _⟩ => ⟨S4096x1024, .f32⟩
  | .hbm, ⟨112, _⟩ => ⟨S4096x1, .f32⟩
  | .hbm, ⟨113, _⟩ => ⟨S_, .f32⟩
  | .hbm, ⟨114, _⟩ => ⟨S4096x1, .f32⟩
  | .hbm, ⟨115, _⟩ => ⟨S4096x1, .f32⟩
  | .hbm, ⟨116, _⟩ => ⟨S_, .f32⟩
  | .hbm, ⟨117, _⟩ => ⟨S4096, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x1024, .f32⟩
  | .hbm, ⟨122, _⟩ => ⟨S4096x1024, .f32⟩
  | .hbm, ⟨123, _⟩ => ⟨S4096x1024, .bf16⟩
  | .hbm, ⟨124, _⟩ => ⟨S1x1024, .f32⟩
  | .hbm, ⟨125, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]
-- ==== AdamIn.lean ====
abbrev S8192x1412 : Shape := ⟨2, ![8192, 1412]⟩
abbrev S256x1412 : Shape := ⟨2, ![256, 1412]⟩

abbrev nBuf : Space → Nat
  | .hbm => 7
  | .vmem => 14
  | .smem => 0
  | _ => 0

abbrev bufTy : (tb : Table) → Fin (tcTables nBuf tb) → BufTy
  | .hbm, ⟨0, _⟩ => ⟨S8192x1412, .f32⟩
  | .hbm, ⟨1, _⟩ => ⟨S8192x1412, .f32⟩
  | .hbm, ⟨2, _⟩ => ⟨S8192x1412, .f32⟩
  | .hbm, ⟨3, _⟩ => ⟨S8192x1412, .f32⟩
  | .hbm, ⟨4, _⟩ => ⟨S8192x1412, .f32⟩
  | .hbm, ⟨5, _⟩ => ⟨S8192x1412, .f32⟩
  | .hbm, ⟨6, _⟩ => ⟨S8192x1412, .f32⟩
  | .local _ .vmem, ⟨0, _⟩ => ⟨S256x1412, .f32⟩
  | .local _ .vmem, ⟨1, _⟩ => ⟨S256x1412, .f32⟩
  | .local _ .vmem, ⟨2, _⟩ => ⟨S256x1412, .f32⟩
  | .local _ .vmem, ⟨3, _⟩ => ⟨S256x1412, .f32⟩
  | .local _ .vmem, ⟨4, _⟩ => ⟨S256x1412, .f32⟩
  | .local _ .vmem, ⟨5, _⟩ => ⟨S256x1412, .f32⟩
  | .local _ .vmem, ⟨6, _⟩ => ⟨S256x1412, .f32⟩
  | .local _ .vmem, ⟨7, _⟩ => ⟨S256x1412, .f32⟩
  | .local _ .vmem, ⟨8, _⟩ => ⟨S256x1412, .f32⟩
  | .local _ .vmem, ⟨9, _⟩ => ⟨S256x1412, .f32⟩
  | .local _ .vmem, ⟨10, _⟩ => ⟨S256x1412, .f32⟩
  | .local _ .vmem, ⟨11, _⟩ => ⟨S256x1412, .f32⟩
  | .local _ .vmem, ⟨12, _⟩ => ⟨S256x1412, .f32⟩
  | .local _ .vmem, ⟨13, _⟩ => ⟨S256x1412, .f32⟩
  | _, _ => ⟨S8192x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1412 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1412 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1412 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1412 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1412 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1412 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S8192x1412 : Shape := ⟨2, ![8192, 1412]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1412, .f32⟩
  | .hbm, ⟨1, _⟩ => ⟨S8192x1412, .f32⟩
  | .hbm, ⟨2, _⟩ => ⟨S8192x1412, .f32⟩
  | .hbm, ⟨3, _⟩ => ⟨S8192x1412, .f32⟩
  | .hbm, ⟨4, _⟩ => ⟨S_, .f32⟩
  | .hbm, ⟨5, _⟩ => ⟨S8192x1412, .f32⟩
  | .hbm, ⟨6, _⟩ => ⟨S8192x1412, .f32⟩
  | .hbm, ⟨7, _⟩ => ⟨S_, .f32⟩
  | .hbm, ⟨8, _⟩ => ⟨S8192x1412, .f32⟩
  | .hbm, ⟨9, _⟩ => ⟨S8192x1412, .f32⟩
  | .hbm, ⟨10, _⟩ => ⟨S8192x1412, .f32⟩
  | .hbm, ⟨11, _⟩ => ⟨S_, .f32⟩
  | .hbm, ⟨12, _⟩ => ⟨S8192x1412, .f32⟩
  | .hbm, ⟨13, _⟩ => ⟨S8192x1412, .f32⟩
  | .hbm, ⟨14, _⟩ => ⟨S8192x1412, .f32⟩
  | .hbm, ⟨15, _⟩ => ⟨S_, .f32⟩
  | .hbm, ⟨16, _⟩ => ⟨S8192x1412, .f32⟩
  | .hbm, ⟨17, _⟩ => ⟨S8192x1412, .f32⟩
  | .hbm, ⟨18, _⟩ => ⟨S8192x1412, .f32⟩
  | .hbm, ⟨19, _⟩ => ⟨S_, .f32⟩
  | .hbm, ⟨20, _⟩ => ⟨S8192x1412, .f32⟩
  | .hbm, ⟨21, _⟩ => ⟨S8192x1412, .f32⟩
  | .hbm, ⟨22, _⟩ => ⟨S_, .f32⟩
  | .hbm, ⟨23, _⟩ => ⟨S8192x1412, .f32⟩
  | .hbm, ⟨24, _⟩ => ⟨S8192x1412, .f32⟩
  | .hbm, ⟨25, _⟩ => ⟨S8192x1412, .f32⟩
  | .hbm, ⟨26, _⟩ => ⟨S_, .f32⟩
  | .hbm, ⟨27, _⟩ => ⟨S8192x1412, .f32⟩
  | .hbm, ⟨28, _⟩ => ⟨S8192x1412, .f32⟩
  | .hbm, ⟨29, _⟩ => ⟨S8192x1412, .f32⟩
  | .hbm, ⟨30, _⟩ => ⟨S_, .f32⟩
  | .hbm, ⟨31, _⟩ => ⟨S8192x1412, .f32⟩
  | .hbm, ⟨32, _⟩ => ⟨S8192x1412, .f32⟩
  | .hbm, ⟨33, _⟩ => ⟨S8192x1412, .f32⟩
  | .hbm, ⟨34, _⟩ => ⟨S_, .f32⟩
  | .hbm, ⟨35, _⟩ => ⟨S8192x1412, .f32⟩
  | .hbm, ⟨36, _⟩ => ⟨S8192x1412, .f32⟩
  | _, _ => ⟨S8192x1412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateReferenceIdeal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S5632x2048 : Shape := ⟨2, ![5632, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S5632x2048 : Shape := ⟨2, ![5632, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S_, .f32⟩
  | .hbm, ⟨5, _⟩ => ⟨S5632x2048, .f32⟩
  | .hbm, ⟨6, _⟩ => ⟨S5632x2048, .f32⟩
  | .hbm, ⟨7, _⟩ => ⟨S_, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .f32⟩
  | .hbm, ⟨15, _⟩ => ⟨S_, .f32⟩
  | .hbm, ⟨16, _⟩ => ⟨S5632x2048, .f32⟩
  | .hbm, ⟨17, _⟩ => ⟨S5632x2048, .f32⟩
  | .hbm, ⟨18, _⟩ => ⟨S5632x2048, .f32⟩
  | .hbm, ⟨19, _⟩ => ⟨S_, .f32⟩
  | .hbm, ⟨20, _⟩ => ⟨S5632x2048, .f32⟩
  | .hbm, ⟨21, _⟩ => ⟨S5632x2048, .f32⟩
  | .hbm, ⟨22, _⟩ => ⟨S_, .f32⟩
  | .hbm, ⟨23, _⟩ => ⟨S5632x2048, .f32⟩
  | .hbm, ⟨24, _⟩ => ⟨S5632x2048, .f32⟩
  | .hbm, ⟨25, _⟩ => ⟨S5632x2048, .f32⟩
  | .hbm, ⟨26, _⟩ => ⟨S_, .f32⟩
  | .hbm, ⟨27, _⟩ => ⟨S5632x2048, .f32⟩
  | .hbm, ⟨28, _⟩ => ⟨S5632x2048, .f32⟩
  | .hbm, ⟨29, _⟩ => ⟨S5632x2048, .f32⟩
  | .hbm, ⟨30, _⟩ => ⟨S_, .f32⟩
  | .hbm, ⟨31, _⟩ => ⟨S5632x2048, .f32⟩
  | .hbm, ⟨32, _⟩ => ⟨S5632x2048, .f32⟩
  | .hbm, ⟨33, _⟩ => ⟨S5632x2048, .f32⟩
  | .hbm, ⟨34, _⟩ => ⟨S_, .f32⟩
  | .hbm, ⟨35, _⟩ => ⟨S5632x2048, .f32⟩
  | .hbm, ⟨36, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S304x128 : Shape := ⟨2, ![304, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S304x128, .f32⟩
  | .hbm, ⟨1, _⟩ => ⟨S304x128, .f32⟩
  | .hbm, ⟨2, _⟩ => ⟨S304x128, .f32⟩
  | .hbm, ⟨3, _⟩ => ⟨S304x128, .f32⟩
  | .hbm, ⟨4, _⟩ => ⟨S304x128, .f32⟩
  | .hbm, ⟨5, _⟩ => ⟨S304x128, .f32⟩
  | .hbm, ⟨6, _⟩ => ⟨S304x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S304x128 : Shape := ⟨2, ![304, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S304x128, .f32⟩
  | .hbm, ⟨1, _⟩ => ⟨S304x128, .f32⟩
  | .hbm, ⟨2, _⟩ => ⟨S304x128, .f32⟩
  | .hbm, ⟨3, _⟩ => ⟨S304x128, .f32⟩
  | .hbm, ⟨4, _⟩ => ⟨S_, .f32⟩
  | .hbm, ⟨5, _⟩ => ⟨S304x128, .f32⟩
  | .hbm, ⟨6, _⟩ => ⟨S304x128, .f32⟩
  | .hbm, ⟨7, _⟩ => ⟨S_, .f32⟩
  | .hbm, ⟨8, _⟩ => ⟨S304x128, .f32⟩
  | .hbm, ⟨9, _⟩ => ⟨S304x128, .f32⟩
  | .hbm, ⟨10, _⟩ => ⟨S304x128, .f32⟩
  | .hbm, ⟨11, _⟩ => ⟨S_, .f32⟩
  | .hbm, ⟨12, _⟩ => ⟨S304x128, .f32⟩
  | .hbm, ⟨13, _⟩ => ⟨S304x128, .f32⟩
  | .hbm, ⟨14, _⟩ => ⟨S304x128, .f32⟩
  | .hbm, ⟨15, _⟩ => ⟨S_, .f32⟩
  | .hbm, ⟨16, _⟩ => ⟨S304x128, .f32⟩
  | .hbm, ⟨17, _⟩ => ⟨S304x128, .f32⟩
  | .hbm, ⟨18, _⟩ => ⟨S304x128, .f32⟩
  | .hbm, ⟨19, _⟩ => ⟨S_, .f32⟩
  | .hbm, ⟨20, _⟩ => ⟨S304x128, .f32⟩
  | .hbm, ⟨21, _⟩ => ⟨S304x128, .f32⟩
  | .hbm, ⟨22, _⟩ => ⟨S_, .f32⟩
  | .hbm, ⟨23, _⟩ => ⟨S304x128, .f32⟩
  | .hbm, ⟨24, _⟩ => ⟨S304x128, .f32⟩
  | .hbm, ⟨25, _⟩ => ⟨S304x128, .f32⟩
  | .hbm, ⟨26, _⟩ => ⟨S_, .f32⟩
  | .hbm, ⟨27, _⟩ => ⟨S304x128, .f32⟩
  | .hbm, ⟨28, _⟩ => ⟨S304x128, .f32⟩
  | .hbm, ⟨29, _⟩ => ⟨S304x128, .f32⟩
  | .hbm, ⟨30, _⟩ => ⟨S_, .f32⟩
  | .hbm, ⟨31, _⟩ => ⟨S304x128, .f32⟩
  | .hbm, ⟨32, _⟩ => ⟨S304x128, .f32⟩
  | .hbm, ⟨33, _⟩ => ⟨S304x128, .f32⟩
  | .hbm, ⟨34, _⟩ => ⟨S_, .f32⟩
  | .hbm, ⟨35, _⟩ => ⟨S304x128, .f32⟩
  | .hbm, ⟨36, _⟩ => ⟨S304x128, .f32⟩
  | _, _ => ⟨S304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Conv.lean ====
abbrev S2x2048x1536 : Shape := ⟨3, ![2, 2048, 1536]⟩
abbrev S4x1536 : Shape := ⟨2, ![4, 1536]⟩
abbrev S1536 : Shape := ⟨1, ![1536]⟩
abbrev S1x1536 : Shape := ⟨2, ![1, 1536]⟩
abbrev S1x2048x256 : Shape := ⟨3, ![1, 2048, 256]⟩
abbrev S4x256 : Shape := ⟨2, ![4, 256]⟩
abbrev S1x256 : Shape := ⟨2, ![1, 256]⟩
abbrev S2056x256 : Shape := ⟨2, ![2056, 256]⟩
abbrev S8x256 : Shape := ⟨2, ![8, 256]⟩
abbrev S2048x256 : Shape := ⟨2, ![2048, 256]⟩
abbrev S256 : Shape := ⟨1, ![256]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1536, .f32⟩
  | .hbm, ⟨1, _⟩ => ⟨S4x1536, .f32⟩
  | .hbm, ⟨2, _⟩ => ⟨S1536, .f32⟩
  | .hbm, ⟨3, _⟩ => ⟨S2x2048x1536, .f32⟩
  | .hbm, ⟨4, _⟩ => ⟨S1x1536, .f32⟩
  | .hbm, ⟨5, _⟩ => ⟨S2x2048x1536, .bf16⟩
  | .hbm, ⟨6, _⟩ => ⟨S4x1536, .f32⟩
  | .hbm, ⟨7, _⟩ => ⟨S1x1536, .f32⟩
  | .local _ .vmem, ⟨0, _⟩ => ⟨S1x2048x256, .f32⟩
  | .local _ .vmem, ⟨1, _⟩ => ⟨S1x2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .bf16⟩
  | .local _ .vmem, ⟨9, _⟩ => ⟨S1x2048x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | .local _ .vmem, ⟨14, _⟩ => ⟨S2056x256, .f32⟩
  | .local _ .vmem, ⟨15, _⟩ => ⟨S2056x256, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvReferenceIdeal.lean ====
abbrev S2x2048x1536 : Shape := ⟨3, ![2, 2048, 1536]⟩
abbrev S4x1536 : Shape := ⟨2, ![4, 1536]⟩
abbrev S1536 : Shape := ⟨1, ![1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1x1x1536 : Shape := ⟨3, ![1, 1, 1536]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S4x1536, .f32⟩
  | .hbm, ⟨2, _⟩ => ⟨S1536, .f32⟩
  | .hbm, ⟨3, _⟩ => ⟨S2x2048x1536, .f32⟩
  | .hbm, ⟨4, _⟩ => ⟨S_, .f32⟩
  | .hbm, ⟨5, _⟩ => ⟨S2x3x1536, .f32⟩
  | .hbm, ⟨6, _⟩ => ⟨S2x2051x1536, .f32⟩
  | .hbm, ⟨7, _⟩ => ⟨S_, .f32⟩
  | .hbm, ⟨8, _⟩ => ⟨S2x3x1536, .f32⟩
  | .hbm, ⟨9, _⟩ => ⟨S2x2048x1536, .f32⟩
  | .hbm, ⟨10, _⟩ => ⟨S1x1536, .f32⟩
  | .hbm, ⟨11, _⟩ => ⟨S1536, .f32⟩
  | .hbm, ⟨12, _⟩ => ⟨S1x1x1536, .f32⟩
  | .hbm, ⟨13, _⟩ => ⟨S2x2048x1536, .f32⟩
  | .hbm, ⟨14, _⟩ => ⟨S2x2048x1536, .f32⟩
  | .hbm, ⟨15, _⟩ => ⟨S1x1x1536, .f32⟩
  | .hbm, ⟨16, _⟩ => ⟨S2x2048x1536, .f32⟩
  | .hbm, ⟨17, _⟩ => ⟨S2x2048x1536, .f32⟩
  | .hbm, ⟨18, _⟩ => ⟨S2x2048x1536, .f32⟩
  | .hbm, ⟨19, _⟩ => ⟨S1x1536, .f32⟩
  | .hbm, ⟨20, _⟩ => ⟨S1536, .f32⟩
  | .hbm, ⟨21, _⟩ => ⟨S1x1x1536, .f32⟩
  | .hbm, ⟨22, _⟩ => ⟨S2x2048x1536, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S1x1536, .f32⟩
  | .hbm, ⟨27, _⟩ => ⟨S1536, .f32⟩
  | .hbm, ⟨28, _⟩ => ⟨S1x1x1536, .f32⟩
  | .hbm, ⟨29, _⟩ => ⟨S2x2048x1536, .f32⟩
  | .hbm, ⟨30, _⟩ => ⟨S2x2048x1536, .f32⟩
  | .hbm, ⟨31, _⟩ => ⟨S2x2048x1536, .f32⟩
  | .hbm, ⟨32, _⟩ => ⟨S2x2048x1536, .f32⟩
  | .hbm, ⟨33, _⟩ => ⟨S1x1536, .f32⟩
  | .hbm, ⟨34, _⟩ => ⟨S1536, .f32⟩
  | .hbm, ⟨35, _⟩ => ⟨S1x1x1536, .f32⟩
  | .hbm, ⟨36, _⟩ => ⟨S2x2048x1536, .f32⟩
  | .hbm, ⟨37, _⟩ => ⟨S2x2048x1536, .f32⟩
  | .hbm, ⟨38, _⟩ => ⟨S2x2048x1536, .f32⟩
  | .hbm, ⟨39, _⟩ => ⟨S2x2048x1536, .f32⟩
  | .hbm, ⟨40, _⟩ => ⟨S2x2048x1536, .f32⟩
  | .hbm, ⟨41, _⟩ => ⟨S_, .f32⟩
  | .hbm, ⟨42, _⟩ => ⟨S2x2048x1536, .f32⟩
  | .hbm, ⟨43, _⟩ => ⟨S2x2048x1536, .f32⟩
  | .hbm, ⟨44, _⟩ => ⟨S_, .f32⟩
  | .hbm, ⟨45, _⟩ => ⟨S2x2048x1536, .f32⟩
  | .hbm, ⟨46, _⟩ => ⟨S2x2048x1536, .f32⟩
  | .hbm, ⟨47, _⟩ => ⟨S_, .f32⟩
  | .hbm, ⟨48, _⟩ => ⟨S2x2048x1536, .f32⟩
  | .hbm, ⟨49, _⟩ => ⟨S2x2048x1536, .f32⟩
  | .hbm, ⟨50, _⟩ => ⟨S2x2048x1536, .f32⟩
  | .hbm, ⟨51, _⟩ => ⟨S2x2048x1536, .f32⟩
  | .hbm, ⟨52, _⟩ => ⟨S2x2048x1536, .f32⟩
  | .hbm, ⟨53, _⟩ => ⟨S2x2048x1536, .f32⟩
  | .hbm, ⟨54, _⟩ => ⟨S2x2048x1536, .f32⟩
  | .hbm, ⟨55, _⟩ => ⟨S2x2048x1536, .f32⟩
  | .hbm, ⟨56, _⟩ => ⟨S2x2048x1536, .f32⟩
  | .hbm, ⟨57, _⟩ => ⟨S_, .f32⟩
  | .hbm, ⟨58, _⟩ => ⟨S1536, .f32⟩
  | .hbm, ⟨59, _⟩ => ⟨S1x1x1536, .f32⟩
  | .hbm, ⟨60, _⟩ => ⟨S2x2048x1536, .f32⟩
  | .hbm, ⟨61, _⟩ => ⟨S2x2048x1536, .f32⟩
  | .hbm, ⟨62, _⟩ => ⟨S_, .f32⟩
  | .hbm, ⟨63, _⟩ => ⟨S1536, .f32⟩
  | .hbm, ⟨64, _⟩ => ⟨S1x1536, .f32⟩
  | .hbm, ⟨65, _⟩ => ⟨S_, .f32⟩
  | .hbm, ⟨66, _⟩ => ⟨S4x1536, .f32⟩
  | .hbm, ⟨67, _⟩ => ⟨S_, .f32⟩
  | .hbm, ⟨68, _⟩ => ⟨S2x2051x1536, .f32⟩
  | .hbm, ⟨69, _⟩ => ⟨S2x2048x1536, .f32⟩
  | .hbm, ⟨70, _⟩ => ⟨S_, .f32⟩
  | .hbm, ⟨71, _⟩ => ⟨S1536, .f32⟩
  | .hbm, ⟨72, _⟩ => ⟨S1x1x1536, .f32⟩
  | .hbm, ⟨73, _⟩ => ⟨S2x2048x1536, .f32⟩
  | .hbm, ⟨74, _⟩ => ⟨S2x2048x1536, .f32⟩
  | .hbm, ⟨75, _⟩ => ⟨S_, .f32⟩
  | .hbm, ⟨76, _⟩ => ⟨S1536, .f32⟩
  | .hbm, ⟨77, _⟩ => ⟨S1x1536, .f32⟩
  | .hbm, ⟨78, _⟩ => ⟨S_, .f32⟩
  | .hbm, ⟨79, _⟩ => ⟨S4x1536, .f32⟩
  | .hbm, ⟨80, _⟩ => ⟨S4x1536, .f32⟩
  | .hbm, ⟨81, _⟩ => ⟨S_, .f32⟩
  | .hbm, ⟨82, _⟩ => ⟨S2x2051x1536, .f32⟩
  | .hbm, ⟨83, _⟩ => ⟨S2x2051x1536, .f32⟩
  | .hbm, ⟨84, _⟩ => ⟨S2x2048x1536, .f32⟩
  | .hbm, ⟨85, _⟩ => ⟨S_, .f32⟩
  | .hbm, ⟨86, _⟩ => ⟨S1536, .f32⟩
  | .hbm, ⟨87, _⟩ => ⟨S1x1x1536, .f32⟩
  | .hbm, ⟨88, _⟩ => ⟨S2x2048x1536, .f32⟩
  | .hbm, ⟨89, _⟩ => ⟨S2x2048x1536, .f32⟩
  | .hbm, ⟨90, _⟩ => ⟨S_, .f32⟩
  | .hbm, ⟨91, _⟩ => ⟨S1536, .f32⟩
  | .hbm, ⟨92, _⟩ => ⟨S1x1536, .f32⟩
  | .hbm, ⟨93, _⟩ => ⟨S_, .f32⟩
  | .hbm, ⟨94, _⟩ => ⟨S4x1536, .f32⟩
  | .hbm, ⟨95, _⟩ => ⟨S4x1536, .f32⟩
  | .hbm, ⟨96, _⟩ => ⟨S_, .f32⟩
  | .hbm, ⟨97, _⟩ => ⟨S2x2051x1536, .f32⟩
  | .hbm, ⟨98, _⟩ => ⟨S2x2051x1536, .f32⟩
  | .hbm, ⟨99, _⟩ => ⟨S_, .f32⟩
  | .hbm, ⟨100, _⟩ => ⟨S1536, .f32⟩
  | .hbm, ⟨101, _⟩ => ⟨S1x1x1536, .f32⟩
  | .hbm, ⟨102, _⟩ => ⟨S_, .f32⟩
  | .hbm, ⟨103, _⟩ => ⟨S1536, .f32⟩
  | .hbm, ⟨104, _⟩ => ⟨S2x2048x1536, .f32⟩
  | .hbm, ⟨105, _⟩ => ⟨S_, .f32⟩
  | .hbm, ⟨106, _⟩ => ⟨S1536, .f32⟩
  | .hbm, ⟨107, _⟩ => ⟨S1x1x1536, .f32⟩
  | .hbm, ⟨108, _⟩ => ⟨S2x2048x1536, .f32⟩
  | .hbm, ⟨109, _⟩ => ⟨S2x2048x1536, .f32⟩
  | .hbm, ⟨110, _⟩ => ⟨S_, .f32⟩
  | .hbm, ⟨111, _⟩ => ⟨S1536, .f32⟩
  | .hbm, ⟨112, _⟩ => ⟨S1x1536, .f32⟩
  | .hbm, ⟨113, _⟩ => ⟨S_, .f32⟩
  | .hbm, ⟨114, _⟩ => ⟨S4x1536, .f32⟩
  | .hbm, ⟨115, _⟩ => ⟨S4x1536, .f32⟩
  | .hbm, ⟨116, _⟩ => ⟨S_, .f32⟩
  | .hbm, ⟨117, _⟩ => ⟨S2x2051x1536, .f32⟩
  | .hbm, ⟨118, _⟩ => ⟨S2x2051x1536, .f32⟩
  | .hbm, ⟨119, _⟩ => ⟨S2x3x1536, .f32⟩
  | .hbm, ⟨120, _⟩ => ⟨S2x2048x1536, .f32⟩
  | .hbm, ⟨121, _⟩ => ⟨S2x2048x1536, .bf16⟩
  | .hbm, ⟨122, _⟩ => ⟨S1x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_cst_18 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩

abbrev nD : Nat := 1
abbrev τ : Topo := Topo.v7x

variable {F : FTy → Type} [FloatOps F]
-- ==== NormFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MergeFwd.lean ====
abbrev S4096x1024 : Shape := ⟨2, ![4096, 1024]⟩
abbrev S1024 : Shape := ⟨1, ![1024]⟩
abbrev S1x1024 : Shape := ⟨2, ![1, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeFwdReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2x512 : Shape := ⟨3, ![4096, 2, 512]⟩
abbrev S4096x2 : Shape := ⟨2, ![4096, 2]⟩
abbrev S4096x2x1 : Shape := ⟨3, ![4096, 2, 1]⟩
abbrev S4096x2048 : Shape := ⟨2, ![4096, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x2x512, .f32⟩
  | .hbm, ⟨32, _⟩ => ⟨S4096x2x512, .f32⟩
  | .hbm, ⟨33, _⟩ => ⟨S_, .f32⟩
  | .hbm, ⟨34, _⟩ => ⟨S4096x2, .f32⟩
  | .hbm, ⟨35, _⟩ => ⟨S4096x2x1, .f32⟩
  | .hbm, ⟨36, _⟩ => ⟨S_, .f32⟩
  | .hbm, ⟨37, _⟩ => ⟨S4096x2x1, .f32⟩
  | .hbm, ⟨38, _⟩ => ⟨S4096x2x1, .f32⟩
  | .hbm, ⟨39, _⟩ => ⟨S_, .f32⟩
  | .hbm, ⟨40, _⟩ => ⟨S4096x2x1, .f32⟩
  | .hbm, ⟨41, _⟩ => ⟨S4096x2x1, .f32⟩
  | .hbm, ⟨42, _⟩ => ⟨S4096x2x1, .f32⟩
  | .hbm, ⟨43, _⟩ => ⟨S4096x2x512, .f32⟩
  | .hbm, ⟨44, _⟩ => ⟨S4096x2x512, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x2048, .f32⟩
  | .hbm, ⟨50, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== ConvFwd.lean ====
abbrev S2x2048x1536 : Shape := ⟨3, ![2, 2048, 1536]⟩
abbrev S4x1536 : Shape := ⟨2, ![4, 1536]⟩
abbrev S1536 : Shape := ⟨1, ![1536]⟩
abbrev S1x1536 : Shape := ⟨2, ![1, 1536]⟩
abbrev S1x2048x256 : Shape := ⟨3, ![1, 2048, 256]⟩
abbrev S4x256 : Shape := ⟨2, ![4, 256]⟩
abbrev S1x256 : Shape := ⟨2, ![1, 256]⟩
abbrev S2056x256 : Shape := ⟨2, ![2056, 256]⟩
abbrev S8x256 : Shape := ⟨2, ![8, 256]⟩
abbrev S2048x256 : Shape := ⟨2, ![2048, 256]⟩

abbrev nBuf : Space → Nat
  | .hbm => 5
  | .vmem => 9
  | .smem => 0
  | _ => 0

abbrev bufTy : (tb : Table) → Fin (tcTables nBuf tb) → BufTy
  | .hbm, ⟨0, _⟩ => ⟨S2x2048x1536, .f32⟩
  | .hbm, ⟨1, _⟩ => ⟨S4x1536, .f32⟩
  | .hbm, ⟨2, _⟩ => ⟨S1536, .f32⟩
  | .hbm, ⟨3, _⟩ => ⟨S1x1536, .f32⟩
  | .hbm, ⟨4, _⟩ => ⟨S2x2048x1536, .f32⟩
  | .local _ .vmem, ⟨0, _⟩ => ⟨S1x2048x256, .f32⟩
  | .local _ .vmem, ⟨1, _⟩ => ⟨S1x2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x2048x256, .f32⟩
  | .local _ .vmem, ⟨7, _⟩ => ⟨S1x2048x256, .f32⟩
  | .local _ .vmem, ⟨8, _⟩ => ⟨S2056x256, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdReferenceIdeal.lean ====
abbrev S2x2048x1536 : Shape := ⟨3, ![2, 2048, 1536]⟩
abbrev S4x1536 : Shape := ⟨2, ![4, 1536]⟩
abbrev S1536 : Shape := ⟨1, ![1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1x1x1536 : Shape := ⟨3, ![1, 1, 1536]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S4x1536, .f32⟩
  | .hbm, ⟨2, _⟩ => ⟨S1536, .f32⟩
  | .hbm, ⟨3, _⟩ => ⟨S_, .f32⟩
  | .hbm, ⟨4, _⟩ => ⟨S2x3x1536, .f32⟩
  | .hbm, ⟨5, _⟩ => ⟨S2x2051x1536, .f32⟩
  | .hbm, ⟨6, _⟩ => ⟨S2x2048x1536, .f32⟩
  | .hbm, ⟨7, _⟩ => ⟨S1x1536, .f32⟩
  | .hbm, ⟨8, _⟩ => ⟨S1536, .f32⟩
  | .hbm, ⟨9, _⟩ => ⟨S1x1x1536, .f32⟩
  | .hbm, ⟨10, _⟩ => ⟨S2x2048x1536, .f32⟩
  | .hbm, ⟨11, _⟩ => ⟨S2x2048x1536, .f32⟩
  | .hbm, ⟨12, _⟩ => ⟨S1x1x1536, .f32⟩
  | .hbm, ⟨13, _⟩ => ⟨S2x2048x1536, .f32⟩
  | .hbm, ⟨14, _⟩ => ⟨S2x2048x1536, .f32⟩
  | .hbm, ⟨15, _⟩ => ⟨S2x2048x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S2x2048x1536, .f32⟩
  | .hbm, ⟨20, _⟩ => ⟨S2x2048x1536, .f32⟩
  | .hbm, ⟨21, _⟩ => ⟨S2x2048x1536, .f32⟩
  | .hbm, ⟨22, _⟩ => ⟨S2x2048x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S2x2048x1536, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S1x1536, .f32⟩
  | .hbm, ⟨31, _⟩ => ⟨S1536, .f32⟩
  | .hbm, ⟨32, _⟩ => ⟨S1x1x1536, .f32⟩
  | .hbm, ⟨33, _⟩ => ⟨S2x2048x1536, .f32⟩
  | .hbm, ⟨34, _⟩ => ⟨S2x2048x1536, .f32⟩
  | .hbm, ⟨35, _⟩ => ⟨S2x2048x1536, .f32⟩
  | .hbm, ⟨36, _⟩ => ⟨S2x2048x1536, .f32⟩
  | .hbm, ⟨37, _⟩ => ⟨S2x2048x1536, .f32⟩
  | .hbm, ⟨38, _⟩ => ⟨S_, .f32⟩
  | .hbm, ⟨39, _⟩ => ⟨S2x2048x1536, .f32⟩
  | .hbm, ⟨40, _⟩ => ⟨S2x2048x1536, .f32⟩
  | .hbm, ⟨41, _⟩ => ⟨S_, .f32⟩
  | .hbm, ⟨42, _⟩ => ⟨S2x2048x1536, .f32⟩
  | .hbm, ⟨43, _⟩ => ⟨S2x2048x1536, .f32⟩
  | .hbm, ⟨44, _⟩ => ⟨S2x2048x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== LossHead.lean ====
abbrev S4096x2048 : Shape := ⟨2, ![4096, 2048]⟩
abbrev S1x128 : Shape := ⟨2, ![1, 128]⟩
abbrev S256x2048 : Shape := ⟨2, ![256, 2048]⟩
abbrev S2048 : Shape := ⟨1, ![2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossHeadReferenceIdeal.lean ====
abbrev S4096x2048 : Shape := ⟨2, ![4096, 2048]⟩
abbrev S_ : Shape := ⟨0, ![]⟩
abbrev S4096 : Shape := ⟨1, ![4096]⟩
abbrev S65536x128 : Shape := ⟨2, ![65536, 128]⟩
abbrev S128 : Shape := ⟨1, ![128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S65536x128, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S4096x2048, .bf16⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== SsdFwd.lean ====
abbrev S2x2048x1536 : Shape := ⟨3, ![2, 2048, 1536]⟩
abbrev S2x2048x16 : Shape := ⟨3, ![2, 2048, 16]⟩
abbrev S16 : Shape := ⟨1, ![16]⟩
abbrev S2x2048x2x8 : Shape := ⟨4, ![2, 2048, 2, 8]⟩
abbrev S_ : Shape := ⟨0, ![]⟩
abbrev S2x2048x2x128 : Shape := ⟨4, ![2, 2048, 2, 128]⟩
abbrev S2x2048x256 : Shape := ⟨3, ![2, 2048, 256]⟩
abbrev S2x8 : Shape := ⟨2, ![2, 8]⟩
abbrev S2x128 : Shape := ⟨2, ![2, 128]⟩
abbrev S256 : Shape := ⟨1, ![256]⟩
abbrev S1x256 : Shape := ⟨2, ![1, 256]⟩
abbrev S2x2048x1024 : Shape := ⟨3, ![2, 2048, 1024]⟩
abbrev S2x2x16x512x128 : Shape := ⟨5, ![2, 2, 16, 512, 128]⟩
abbrev S1x128x512 : Shape := ⟨3, ![1, 128, 512]⟩
abbrev S1x128x128 : Shape := ⟨3, ![1, 128, 128]⟩
abbrev S1x128 : Shape := ⟨2, ![1, 128]⟩
abbrev S1x1x1x512x128 : Shape := ⟨5, ![1, 1, 1, 512, 128]⟩
abbrev S512x128 : Shape := ⟨2, ![512, 128]⟩
abbrev S128x128 : Shape := ⟨2, ![128, 128]⟩
abbrev S128x512 : Shape := ⟨2, ![128, 512]⟩
abbrev S128x64 : Shape := ⟨2, ![128, 64]⟩
abbrev S64x128 : Shape := ⟨2, ![64, 128]⟩
abbrev S1x1 : Shape := ⟨2, ![1, 1]⟩
abbrev S1x128x64 : Shape := ⟨3, ![1, 128, 64]⟩

abbrev nBuf : Space → Nat
  | .hbm => 30
  | .vmem => 19
  | .smem => 0
  | _ => 0

abbrev bufTy : (tb : Table) → Fin (tcTables nBuf tb) → BufTy
  | .hbm, ⟨0, _⟩ => ⟨S2x2048x1536, .f32⟩
  | .hbm, ⟨1, _⟩ => ⟨S2x2048x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S2x2048x2x8, .f32⟩
  | .hbm, ⟨6, _⟩ => ⟨S_, .i32⟩
  | .hbm, ⟨7, _⟩ => ⟨S_, .f32⟩
  | .hbm, ⟨8, _⟩ => ⟨S2x2048x2x128, .f32⟩
  | .hbm, ⟨9, _⟩ => ⟨S2x2048x256, .f32⟩
  | .hbm, ⟨10, _⟩ => ⟨S2x8, .f32⟩
  | .hbm, ⟨11, _⟩ => ⟨S_, .i32⟩
  | .hbm, ⟨12, _⟩ => ⟨S_, .f32⟩
  | .hbm, ⟨13, _⟩ => ⟨S2x128, .f32⟩
  | .hbm, ⟨14, _⟩ => ⟨S256, .f32⟩
  | .hbm, ⟨15, _⟩ => ⟨S1x256, .f32⟩
  | .hbm, ⟨16, _⟩ => ⟨S2x8, .f32⟩
  | .hbm, ⟨17, _⟩ => ⟨S_, .i32⟩
  | .hbm, ⟨18, _⟩ => ⟨S_, .f32⟩
  | .hbm, ⟨19, _⟩ => ⟨S2x128, .f32⟩
  | .hbm, ⟨20, _⟩ => ⟨S256, .f32⟩
  | .hbm, ⟨21, _⟩ => ⟨S1x256, .f32⟩
  | .hbm, ⟨22, _⟩ => ⟨S2x8, .f32⟩
  | .hbm, ⟨23, _⟩ => ⟨S_, .i32⟩
  | .hbm, ⟨24, _⟩ => ⟨S_, .f32⟩
  | .hbm, ⟨25, _⟩ => ⟨S2x128, .f32⟩
  | .hbm, ⟨26, _⟩ => ⟨S256, .f32⟩
  | .hbm, ⟨27, _⟩ => ⟨S1x256, .f32⟩
  | .hbm, ⟨28, _⟩ => ⟨S2x2048x1024, .f32⟩
  | .hbm, ⟨29, _⟩ => ⟨S2x2x16x512x128, .f32⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128x512, .f32⟩
  | .local _ .vmem, ⟨15, _⟩ => ⟨S1x128x512, .f32⟩
  | .local _ .vmem, ⟨16, _⟩ => ⟨S1x1x1x512x128, .f32⟩
  | .local _ .vmem, ⟨17, _⟩ => ⟨S1x1x1x512x128, .f32⟩
  | .local _ .vmem, ⟨18, _⟩ => ⟨S512x128, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_call3_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== SsdFwdReferenceIdeal.lean ====
abbrev S2x2048x1536 : Shape := ⟨3, ![2, 2048, 1536]⟩
abbrev S2x2048x16 : Shape := ⟨3, ![2, 2048, 16]⟩
abbrev S16 : Shape := ⟨1, ![16]⟩
abbrev S2x2048x1024 : Shape := ⟨3, ![2, 2048, 1024]⟩
abbrev S2x2048x256 : Shape := ⟨3, ![2, 2048, 256]⟩
abbrev S1x1x16 : Shape := ⟨3, ![1, 1, 16]⟩
abbrev S_ : Shape := ⟨0, ![]⟩
abbrev S2x2048x16x64 : Shape := ⟨4, ![2, 2048, 16, 64]⟩
abbrev S2x2048x2x128 : Shape := ⟨4, ![2, 2048, 2, 128]⟩
abbrev S2x2048x16x1 : Shape := ⟨4, ![2, 2048, 16, 1]⟩
abbrev S2x16x128x2x8x64 : Shape := ⟨6, ![2, 16, 128, 2, 8, 64]⟩
abbrev S2x16x128x2x128 : Shape := ⟨5, ![2, 16, 128, 2, 128]⟩
abbrev S2x16x128x2x8 : Shape := ⟨5, ![2, 16, 128, 2, 8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1x1 : Shape := ⟨4, ![128, 128, 1, 1]⟩
abbrev S2x16x128x1x2x8 : Shape := ⟨6, ![2, 16, 128, 1, 2, 8]⟩
abbrev S2x16x1x128x2x8 : Shape := ⟨6, ![2, 16, 1, 128, 2, 8]⟩
abbrev S2x16x128x128x2x8 : Shape := ⟨6, ![2, 16, 128, 128, 2, 8]⟩
abbrev S2x16x2x128x128 : Shape := ⟨5, ![2, 16, 2, 128, 128]⟩
abbrev S2x16x128x128x2 : Shape := ⟨5, ![2, 16, 128, 128, 2]⟩
abbrev S2x16x128x128x2x1 : Shape := ⟨6, ![2, 16, 128, 128, 2, 1]⟩
abbrev S2x16x2x8x64x128 : Shape := ⟨6, ![2, 16, 2, 8, 64, 128]⟩
abbrev S2x16x1x2x8 : Shape := ⟨5, ![2, 16, 1, 2, 8]⟩
abbrev S2x16x128x2x8x1 : Shape := ⟨6, ![2, 16, 128, 2, 8, 1]⟩
abbrev S2x16x2x8 : Shape := ⟨4, ![2, 16, 2, 8]⟩
abbrev S2x2x8x64x128 : Shape := ⟨5, ![2, 2, 8, 64, 128]⟩
abbrev S16x2x2x8x64x128 : Shape := ⟨6, ![16, 2, 2, 8, 64, 128]⟩
abbrev S16x2x2x8 : Shape := ⟨4, ![16, 2, 2, 8]⟩
abbrev S1x2x2x8x64x128 : Shape := ⟨6, ![1, 2, 2, 8, 64, 128]⟩
abbrev S1x2x2x8 : Shape := ⟨4, ![1, 2, 2, 8]⟩
abbrev S2x2x8 : Shape := ⟨3, ![2, 2, 8]⟩
abbrev S2x2x8x1x1 : Shape := ⟨5, ![2, 2, 8, 1, 1]⟩
abbrev S16x1 : Shape := ⟨2, ![16, 1]⟩
abbrev S1x1x16x1 : Shape := ⟨4, ![1, 1, 16, 1]⟩

abbrev nBuf : Space → Nat
  | .hbm => 133
  | .vmem => 0
  | .smem => 0
  | _ => 0

abbrev hbmTy0_0 (i : Nat) : BufTy := match i % 128 with
  | 0 => ⟨S2x2048x1536, .f32⟩
  | 1 => ⟨S2x2048x16, .f32⟩
  | 2 => ⟨S16, .f32⟩
  | 3 => ⟨S16, .f32⟩
  | 4 => ⟨S16, .f32⟩
  | 5 => ⟨S2x2048x1024, .f32⟩
  | 6 => ⟨S2x2048x256, .f32⟩
  | 7 => ⟨S2x2048x256, .f32⟩
  | 8 => ⟨S1x1x16, .f32⟩
  | 9 => ⟨S2x2048x16, .f32⟩
  | 10 => ⟨S2x2048x16, .f32⟩
  | 11 => ⟨S_, .f32⟩
  | 12 => ⟨S2x2048x16, .f32⟩
  | 13 => ⟨S2x2048x16, .f32⟩
  | 14 => ⟨S2x2048x16, .f32⟩
  | 15 => ⟨S2x2048x16, .f32⟩
  | 16 => ⟨S2x2048x16, .i1⟩
  | 17 => ⟨S2x2048x16, .f32⟩
  | 18 => ⟨S2x2048x16, .f32⟩
  | 19 => ⟨S2x2048x16, .f32⟩
  | 20 => ⟨S2x2048x16, .f32⟩
  | 21 => ⟨S2x2048x16, .f32⟩
  | 22 => ⟨S2x2048x16, .f32⟩
  | 23 => ⟨S2x2048x16, .f32⟩
  | 24 => ⟨S2x2048x16, .f32⟩
  | 25 => ⟨S16, .f32⟩
  | 26 => ⟨S16, .f32⟩
  | 27 => ⟨S2x2048x16x64, .f32⟩
  | 28 => ⟨S2x2048x2x128, .f32⟩
  | 29 => ⟨S2x2048x2x128, .f32⟩
  | 30 => ⟨S2x2048x16x1, .f32⟩
  | 31 => ⟨S2x2048x16x64, .f32⟩
  | 32 => ⟨S2x2048x16x64, .f32⟩
  | 33 => ⟨S2x16x128x2x8x64, .f32⟩
  | 34 => ⟨S2x16x128x2x128, .f32⟩
  | 35 => ⟨S2x16x128x2x128, .f32⟩
  | 36 => ⟨S1x1x16, .f32⟩
  | 37 => ⟨S2x2048x16, .f32⟩
  | 38 => ⟨S2x2048x16, .f32⟩
  | 39 => ⟨S2x16x128x2x8, .f32⟩
  | 40 => ⟨S_, .f32⟩
  | 41 => ⟨S_, .f32⟩
  | 42 => ⟨S2x16x128x2x8, .f32⟩
  | 43 => ⟨S128, .i32⟩
  | 44 => ⟨S128x1, .i32⟩
  | 45 => ⟨S1x128, .i32⟩
  | 46 => ⟨S128x128, .i32⟩
  | 47 => ⟨S128x128, .i32⟩
  | 48 => ⟨S128x128, .i1⟩
  | 49 => ⟨S128x128x1x1, .i1⟩
  | 50 => ⟨S2x16x128x1x2x8, .f32⟩
  | 51 => ⟨S2x16x1x128x2x8, .f32⟩
  | 52 => ⟨S2x16x128x128x2x8, .f32⟩
  | 53 => ⟨S2x16x128x128x2x8, .f32⟩
  | 54 => ⟨S2x16x128x128x2x8, .f32⟩
  | 55 => ⟨S_, .f32⟩
  | 56 => ⟨S_, .f32⟩
  | 57 => ⟨S2x16x128x128x2x8, .i1⟩
  | 58 => ⟨S2x16x128x128x2x8, .f32⟩
  | 59 => ⟨S2x16x128x128x2x8, .f32⟩
  | 60 => ⟨S2x16x128x128x2x8, .f32⟩
  | 61 => ⟨S2x16x2x128x128, .f32⟩
  | 62 => ⟨S2x16x128x128x2, .f32⟩
  | 63 => ⟨S2x16x128x128x2x1, .f32⟩
  | 64 => ⟨S2x16x128x128x2x8, .f32⟩
  | 65 => ⟨S2x16x128x128x2x8, .f32⟩
  | 66 => ⟨S2x16x2x8x64x128, .f32⟩
  | 67 => ⟨S2x16x128x2x8x64, .f32⟩
  | 68 => ⟨S2x16x1x2x8, .f32⟩
  | 69 => ⟨S2x16x128x2x8, .f32⟩
  | 70 => ⟨S2x16x128x2x8, .f32⟩
  | 71 => ⟨S2x16x128x2x8, .f32⟩
  | 72 => ⟨S2x16x128x2x8x1, .f32⟩
  | 73 => ⟨S2x16x128x2x8x64, .f32⟩
  | 74 => ⟨S2x16x128x2x8x64, .f32⟩
  | 75 => ⟨S2x16x2x8x64x128, .f32⟩
  | 76 => ⟨S2x16x1x2x8, .f32⟩
  | 77 => ⟨S2x16x2x8, .f32⟩
  | 78 => ⟨S2x16x2x8, .f32⟩
  | 79 => ⟨S_, .f32⟩
  | 80 => ⟨S2x2x8x64x128, .f32⟩
  | 81 => ⟨S16x2x2x8x64x128, .f32⟩
  | 82 => ⟨S16x2x2x8, .f32⟩
  | 83 => ⟨S_, .f32⟩
  | 84 => ⟨S16x2x2x8x64x128, .f32⟩
  | 85 => ⟨S_, .i32⟩
  | 86 => ⟨S16x2x2x8x64x128, .f32⟩
  | 87 => ⟨S16x2x2x8, .f32⟩
  | 88 => ⟨S_, .i32⟩
  | 89 => ⟨S2x2x8x64x128, .f32⟩
  | 90 => ⟨S16x2x2x8x64x128, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S1x2x2x8x64x128, .f32⟩
  | 99 => ⟨S2x2x8x64x128, .f32⟩
  | 100 => ⟨S_, .i32⟩
  | 101 => ⟨S_, .i32⟩
  | 102 => ⟨S_, .i32⟩
  | 103 => ⟨S1x2x2x8, .f32⟩
  | 104 => ⟨S2x2x8, .f32⟩
  | 105 => ⟨S2x2x8x1x1, .f32⟩
  | 106 => ⟨S2x2x8x64x128, .f32⟩
  | 107 => ⟨S2x2x8x64x128, .f32⟩
  | 108 => ⟨S2x2x8x64x128, .f32⟩
  | 109 => ⟨S1x2x2x8x64x128, .f32⟩
  | 110 => ⟨S_, .i32⟩
  | 111 => ⟨S_, .i32⟩
  | 112 => ⟨S_, .i32⟩
  | 113 => ⟨S_, .i32⟩
  | 114 => ⟨S_, .i32⟩
  | 115 => ⟨S16x2x2x8x64x128, .f32⟩
  | 116 => ⟨S_, .i32⟩
  | 117 => ⟨S_, .i32⟩
  | 118 => ⟨S2x16x2x8x64x128, .f32⟩
  | 119 => ⟨S2x16x2x8x64x128, .f32⟩
  | 120 => ⟨S2x16x128x2x8x64, .f32⟩
  | 121 => ⟨S2x16x128x2x8, .f32⟩
  | 122 => ⟨S2x16x128x2x8x1, .f32⟩
  | 123 => ⟨S2x16x128x2x8x64, .f32⟩
  | 124 => ⟨S2x16x128x2x8x64, .f32⟩
  | 125 => ⟨S2x16x128x2x8x64, .f32⟩
  | 126 => ⟨S2x2048x16x64, .f32⟩
  | 127 => ⟨S16x1, .f32⟩
  | _ => ⟨S2x2048x1536, .f32⟩

abbrev hbmTy0_1 (i : Nat) : BufTy := match i % 128 with
  | 0 => ⟨S1x1x16x1, .f32⟩
  | 1 => ⟨S2x2048x16x64, .f32⟩
  | 2 => ⟨S2x2048x16x64, .f32⟩
  | 3 => ⟨S2x2048x16x64, .f32⟩
  | 4 => ⟨S2x2048x1024, .f32⟩
  | _ => ⟨S2x2048x1536, .f32⟩

abbrev hbmTy (i : Nat) : BufTy := match i / 128 with
  | 0 => hbmTy0_0 i
  | 1 => hbmTy0_1 i
  | _ => ⟨S2x2048x1536, .f32⟩

abbrev bufTy : (tb : Table) → Fin (tcTables nBuf tb) → BufTy
  | .hbm, ⟨i, _⟩ => hbmTy i
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call1_call0_cst : Ref sig .tc := ⟨.hbm, 40, rfl⟩
abbrev main_call1_call0_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_1 : Ref sig .tc := ⟨.hbm, 83, rfl⟩
abbrev main_v58 : Ref sig .tc := ⟨.hbm, 84, rfl⟩
abbrev main_c : Ref sig .tc := ⟨.hbm, 85, rfl⟩
abbrev main_v59_0 : Ref sig .tc := ⟨.hbm, 86, rfl⟩
abbrev main_v59_1 : Ref sig .tc := ⟨.hbm, 87, rfl⟩
abbrev main_v59_2 : Ref sig .tc := ⟨.hbm, 88, rfl⟩
abbrev main_v59_3 : Ref sig .tc := ⟨.hbm, 89, rfl⟩
abbrev main_v59_4 : Ref sig .tc := ⟨.hbm, 90, rfl⟩
abbrev main_while0c_c_6 : Ref sig .tc := ⟨.hbm, 91, rfl⟩
abbrev main_while0c_v75 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_c_2 : Ref sig .tc := ⟨.hbm, 96, rfl⟩
abbrev main_while0b_call3_c_3 : Ref sig .tc := ⟨.hbm, 97, rfl⟩
abbrev main_while0b_call3_v0 : Ref sig .tc := ⟨.hbm, 98, rfl⟩
abbrev main_while0b_v75 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_call4_v0 : Ref sig .tc := ⟨.hbm, 103, rfl⟩
abbrev main_while0b_v76 : Ref sig .tc := ⟨.hbm, 104, rfl⟩
abbrev main_while0b_v77 : Ref sig .tc := ⟨.hbm, 105, rfl⟩
abbrev main_while0b_v78 : Ref sig .tc := ⟨.hbm, 106, rfl⟩
abbrev main_while0b_v79 : Ref sig .tc := ⟨.hbm, 107, rfl⟩
abbrev main_while0b_v80 : Ref sig .tc := ⟨.hbm, 108, rfl⟩
abbrev main_while0b_call5_v0 : Ref sig .tc := ⟨.hbm, 109, rfl⟩
abbrev main_while0b_call5_c : Ref sig .tc := ⟨.hbm, 110, rfl⟩
abbrev main_while0b_call5_c_0 : Ref sig .tc := ⟨.hbm, 111, rfl⟩
abbrev main_while0b_call5_c_1 : Ref sig .tc := ⟨.hbm, 112, rfl⟩
abbrev main_while0b_call5_c_2 : Ref sig .tc := ⟨.hbm, 113, rfl⟩
abbrev main_while0b_call5_c_3 : Ref sig .tc := ⟨.hbm, 114, rfl⟩
abbrev main_while0b_v81 : Ref sig .tc := ⟨.hbm, 115, rfl⟩
abbrev main_while0b_c_6 : Ref sig .tc := ⟨.hbm, 116, rfl⟩
abbrev main_while0b_v82 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩

abbrev nD : Nat := 1
abbrev τ : Topo := Topo.v7x

variable {F : FTy → Type} [FloatOps F]

abbrev main_while0_count : Scf.Loop 32 := ⟨0#32, 16#32, 1#32⟩
-- ==== ChipIn.lean ====
abbrev S1024x1412 : Shape := ⟨2, ![1024, 1412]⟩
abbrev S3x1024x1412 : Shape := ⟨3, ![3, 1024, 1412]⟩
abbrev S256x1412 : Shape := ⟨2, ![256, 1412]⟩
abbrev S3x256x1412 : Shape := ⟨3, ![3, 256, 1412]⟩
abbrev S1x256x1412 : Shape := ⟨3, ![1, 256, 1412]⟩

abbrev nBuf : Space → Nat
  | .hbm => 3
  | .vmem => 6
  | .smem => 0
  | _ => 0

abbrev bufTy : (tb : Table) → Fin (tcTables nBuf tb) → BufTy
  | .hbm, ⟨0, _⟩ => ⟨S1024x1412, .f32⟩
  | .hbm, ⟨1, _⟩ => ⟨S3x1024x1412, .bf16⟩
  | .hbm, ⟨2, _⟩ => ⟨S1024x1412, .f32⟩
  | .local _ .vmem, ⟨0, _⟩ => ⟨S256x1412, .f32⟩
  | .local _ .vmem, ⟨1, _⟩ => ⟨S256x1412, .f32⟩
  | .local _ .vmem, ⟨2, _⟩ => ⟨S3x256x1412, .bf16⟩
  | .local _ .vmem, ⟨3, _⟩ => ⟨S3x256x1412, .bf16⟩
  | .local _ .vmem, ⟨4, _⟩ => ⟨S256x1412, .f32⟩
  | .local _ .vmem, ⟨5, _⟩ => ⟨S256x1412, .f32⟩
  | _, _ => ⟨S1024x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1412 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1412 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipInReferenceIdeal.lean ====
abbrev S1024x1412 : Shape := ⟨2, ![1024, 1412]⟩
abbrev S3x1024x1412 : Shape := ⟨3, ![3, 1024, 1412]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1412, .f32⟩
  | .hbm, ⟨1, _⟩ => ⟨S3x1024x1412, .bf16⟩
  | .hbm, ⟨2, _⟩ => ⟨S3x1024x1412, .f32⟩
  | .hbm, ⟨3, _⟩ => ⟨S_, .f32⟩
  | .hbm, ⟨4, _⟩ => ⟨S1024x1412, .f32⟩
  | .hbm, ⟨5, _⟩ => ⟨S1024x1412, .f32⟩
  | _, _ => ⟨S1024x1412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipOut.lean ====
abbrev S256x2048 : Shape := ⟨2, ![256, 2048]⟩
abbrev S3x256x2048 : Shape := ⟨3, ![3, 256, 2048]⟩
abbrev S1x256x2048 : Shape := ⟨3, ![1, 256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S256x2048, .f32⟩
  | .local _ .vmem, ⟨0, _⟩ => ⟨S256x2048, .f32⟩
  | .local _ .vmem, ⟨1, _⟩ => ⟨S3x256x2048, .bf16⟩
  | .local _ .vmem, ⟨2, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ChipOutReferenceIdeal.lean ====
abbrev S256x2048 : Shape := ⟨2, ![256, 2048]⟩
abbrev S3x256x2048 : Shape := ⟨3, ![3, 256, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S3x256x2048, .f32⟩
  | .hbm, ⟨3, _⟩ => ⟨S_, .f32⟩
  | .hbm, ⟨4, _⟩ => ⟨S256x2048, .f32⟩
  | .hbm, ⟨5, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipGate.lean ====
abbrev S1024x1408 : Shape := ⟨2, ![1024, 1408]⟩
abbrev S3x1024x1408 : Shape := ⟨3, ![3, 1024, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S1024x1408, .f32⟩
  | .hbm, ⟨1, _⟩ => ⟨S3x1024x1408, .bf16⟩
  | .hbm, ⟨2, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipGateReferenceIdeal.lean ====
abbrev S1024x1408 : Shape := ⟨2, ![1024, 1408]⟩
abbrev S3x1024x1408 : Shape := ⟨3, ![3, 1024, 1408]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S3x1024x1408, .bf16⟩
  | .hbm, ⟨2, _⟩ => ⟨S3x1024x1408, .f32⟩
  | .hbm, ⟨3, _⟩ => ⟨S_, .f32⟩
  | .hbm, ⟨4, _⟩ => ⟨S1024x1408, .f32⟩
  | .hbm, ⟨5, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipDown.lean ====
abbrev S704x2048 : Shape := ⟨2, ![704, 2048]⟩
abbrev S3x704x2048 : Shape := ⟨3, ![3, 704, 2048]⟩
abbrev S176x2048 : Shape := ⟨2, ![176, 2048]⟩
abbrev S3x176x2048 : Shape := ⟨3, ![3, 176, 2048]⟩
abbrev S1x176x2048 : Shape := ⟨3, ![1, 176, 2048]⟩

abbrev nBuf : Space → Nat
  | .hbm => 3
  | .vmem => 6
  | .smem => 0
  | _ => 0

abbrev bufTy : (tb : Table) → Fin (tcTables nBuf tb) → BufTy
  | .hbm, ⟨0, _⟩ => ⟨S704x2048, .f32⟩
  | .hbm, ⟨1, _⟩ => ⟨S3x704x2048, .bf16⟩
  | .hbm, ⟨2, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S3x176x2048, .bf16⟩
  | .local _ .vmem, ⟨3, _⟩ => ⟨S3x176x2048, .bf16⟩
  | .local _ .vmem, ⟨4, _⟩ => ⟨S176x2048, .f32⟩
  | .local _ .vmem, ⟨5, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChipDownReferenceIdeal.lean ====
abbrev S704x2048 : Shape := ⟨2, ![704, 2048]⟩
abbrev S3x704x2048 : Shape := ⟨3, ![3, 704, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S3x704x2048, .bf16⟩
  | .hbm, ⟨2, _⟩ => ⟨S3x704x2048, .f32⟩
  | .hbm, ⟨3, _⟩ => ⟨S_, .f32⟩
  | .hbm, ⟨4, _⟩ => ⟨S704x2048, .f32⟩
  | .hbm, ⟨5, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsdSkip.lean ====
abbrev S2x2048x1536 : Shape := ⟨3, ![2, 2048, 1536]⟩
abbrev S2x2048x16 : Shape := ⟨3, ![2, 2048, 16]⟩
abbrev S16 : Shape := ⟨1, ![16]⟩
abbrev S2x2x16x512x128 : Shape := ⟨5, ![2, 2, 16, 512, 128]⟩
abbrev S2x2048x1024 : Shape := ⟨3, ![2, 2048, 1024]⟩
abbrev S2x2048x2x8 : Shape := ⟨4, ![2, 2048, 2, 8]⟩
abbrev S_ : Shape := ⟨0, ![]⟩
abbrev S2x2048x2x128 : Shape := ⟨4, ![2, 2048, 2, 128]⟩
abbrev S2x2048x256 : Shape := ⟨3, ![2, 2048, 256]⟩
abbrev S2x8 : Shape := ⟨2, ![2, 8]⟩
abbrev S2x128 : Shape := ⟨2, ![2, 128]⟩
abbrev S256 : Shape := ⟨1, ![256]⟩
abbrev S1x256 : Shape := ⟨2, ![1, 256]⟩
abbrev S2x2x8x128 : Shape := ⟨4, ![2, 2, 8, 128]⟩
abbrev S1x128x512 : Shape := ⟨3, ![1, 128, 512]⟩
abbrev S1x128x128 : Shape := ⟨3, ![1, 128, 128]⟩
abbrev S1x128 : Shape := ⟨2, ![1, 128]⟩
abbrev S1x1x1x512x128 : Shape := ⟨5, ![1, 1, 1, 512, 128]⟩
abbrev S1x1x8x128 : Shape := ⟨4, ![1, 1, 8, 128]⟩
abbrev S512x128 : Shape := ⟨2, ![512, 128]⟩
abbrev S128x128 : Shape := ⟨2, ![128, 128]⟩
abbrev S128x1 : Shape := ⟨2, ![128, 1]⟩
abbrev S128x512 : Shape := ⟨2, ![128, 512]⟩
abbrev S128x64 : Shape := ⟨2, ![128, 64]⟩
abbrev S1x1x1x64x128 : Shape := ⟨5, ![1, 1, 1, 64, 128]⟩
abbrev S64x128 : Shape := ⟨2, ![64, 128]⟩
abbrev S128 : Shape := ⟨1, ![128]⟩
abbrev S1x1 : Shape := ⟨2, ![1, 1]⟩
abbrev S1x128x64 : Shape := ⟨3, ![1, 128, 64]⟩
abbrev S1x1x1x128 : Shape := ⟨4, ![1, 1, 1, 128]⟩
abbrev S2x8x128 : Shape := ⟨3, ![2, 8, 128]⟩
abbrev S2x1x8 : Shape := ⟨3, ![2, 1, 8]⟩

abbrev nBuf : Space → Nat
  | .hbm => 40
  | .vmem => 29
  | .smem => 0
  | _ => 0

abbrev bufTy : (tb : Table) → Fin (tcTables nBuf tb) → BufTy
  | .hbm, ⟨0, _⟩ => ⟨S2x2048x1536, .f32⟩
  | .hbm, ⟨1, _⟩ => ⟨S2x2048x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S2x2x16x512x128, .f32⟩
  | .hbm, ⟨6, _⟩ => ⟨S2x2048x1024, .f32⟩
  | .hbm, ⟨7, _⟩ => ⟨S2x2048x2x8, .f32⟩
  | .hbm, ⟨8, _⟩ => ⟨S_, .i32⟩
  | .hbm, ⟨9, _⟩ => ⟨S_, .f32⟩
  | .hbm, ⟨10, _⟩ => ⟨S2x2048x2x128, .f32⟩
  | .hbm, ⟨11, _⟩ => ⟨S2x2048x256, .f32⟩
  | .hbm, ⟨12, _⟩ => ⟨S2x8, .f32⟩
  | .hbm, ⟨13, _⟩ => ⟨S_, .i32⟩
  | .hbm, ⟨14, _⟩ => ⟨S_, .f32⟩
  | .hbm, ⟨15, _⟩ => ⟨S2x128, .f32⟩
  | .hbm, ⟨16, _⟩ => ⟨S256, .f32⟩
  | .hbm, ⟨17, _⟩ => ⟨S1x256, .f32⟩
  | .hbm, ⟨18, _⟩ => ⟨S2x8, .f32⟩
  | .hbm, ⟨19, _⟩ => ⟨S_, .i32⟩
  | .hbm, ⟨20, _⟩ => ⟨S_, .f32⟩
  | .hbm, ⟨21, _⟩ => ⟨S2x128, .f32⟩
  | .hbm, ⟨22, _⟩ => ⟨S256, .f32⟩
  | .hbm, ⟨23, _⟩ => ⟨S1x256, .f32⟩
  | .hbm, ⟨24, _⟩ => ⟨S2x8, .f32⟩
  | .hbm, ⟨25, _⟩ => ⟨S_, .i32⟩
  | .hbm, ⟨26, _⟩ => ⟨S_, .f32⟩
  | .hbm, ⟨27, _⟩ => ⟨S2x128, .f32⟩
  | .hbm, ⟨28, _⟩ => ⟨S256, .f32⟩
  | .hbm, ⟨29, _⟩ => ⟨S1x256, .f32⟩
  | .hbm, ⟨30, _⟩ => ⟨S2x2048x1024, .f32⟩
  | .hbm, ⟨31, _⟩ => ⟨S2x2048x256, .f32⟩
  | .hbm, ⟨32, _⟩ => ⟨S2x2048x256, .f32⟩
  | .hbm, ⟨33, _⟩ => ⟨S2x2048x256, .bf16⟩
  | .hbm, ⟨34, _⟩ => ⟨S2x2x8x128, .f32⟩
  | .hbm, ⟨35, _⟩ => ⟨S_, .f32⟩
  | .hbm, ⟨36, _⟩ => ⟨S2x8x128, .f32⟩
  | .hbm, ⟨37, _⟩ => ⟨S2x1x8, .f32⟩
  | .hbm, ⟨38, _⟩ => ⟨S2x8, .f32⟩
  | .hbm, ⟨39, _⟩ => ⟨S16, .f32⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x1x1x512x128, .f32⟩
  | .local _ .vmem, ⟨15, _⟩ => ⟨S1x1x1x512x128, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .bf16⟩
  | .local _ .vmem, ⟨25, _⟩ => ⟨S1x128x128, .bf16⟩
  | .local _ .vmem, ⟨26, _⟩ => ⟨S1x1x8x128, .f32⟩
  | .local _ .vmem, ⟨27, _⟩ => ⟨S1x1x8x128, .f32⟩
  | .local _ .vmem, ⟨28, _⟩ => ⟨S512x128, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_call3_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v15_3 : Ref sig .tc := ⟨.hbm, 33, rfl⟩
abbrev main_v15_4 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c8_i32 : BitVec 32 := 8#32
  let v1 : BitVec 32 := Scalar.addi c8_i32 arg1
  let c0_i32 : BitVec 32 := 0#32
  ![arg0.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c10_i32 : BitVec 32 := 10#32
  let v1 : BitVec 32 := Scalar.addi c10_i32 arg1
  let c0_i32 : BitVec 32 := 0#32
  ![arg0.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let c0_i32_0 : BitVec 32 := 0#32
  let c0_i32_1 : BitVec 32 := 0#32
  ![arg0.toNat, arg1.toNat, v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== SsdSkipReferenceIdeal.lean ====
abbrev S2x2048x1536 : Shape := ⟨3, ![2, 2048, 1536]⟩
abbrev S2x2048x16 : Shape := ⟨3, ![2, 2048, 16]⟩
abbrev S16 : Shape := ⟨1, ![16]⟩
abbrev S2x2x16x512x128 : Shape := ⟨5, ![2, 2, 16, 512, 128]⟩
abbrev S2x2048x1024 : Shape := ⟨3, ![2, 2048, 1024]⟩
abbrev S2x2048x16x64 : Shape := ⟨4, ![2, 2048, 16, 64]⟩
abbrev S16x1 : Shape := ⟨2, ![16, 1]⟩
abbrev S1x1x16x1 : Shape := ⟨4, ![1, 1, 16, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x2048x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S2x2x16x512x128, .f32⟩
  | .hbm, ⟨6, _⟩ => ⟨S2x2048x1024, .f32⟩
  | .hbm, ⟨7, _⟩ => ⟨S2x2048x1024, .f32⟩
  | .hbm, ⟨8, _⟩ => ⟨S2x2048x16x64, .f32⟩
  | .hbm, ⟨9, _⟩ => ⟨S16x1, .f32⟩
  | .hbm, ⟨10, _⟩ => ⟨S1x1x16x1, .f32⟩
  | .hbm, ⟨11, _⟩ => ⟨S2x2048x16x64, .f32⟩
  | .hbm, ⟨12, _⟩ => ⟨S2x2048x16x64, .f32⟩
  | .hbm, ⟨13, _⟩ => ⟨S2x2048x1024, .f32⟩
  | .hbm, ⟨14, _⟩ => ⟨S2x2048x16x64, .f32⟩
  | .hbm, ⟨15, _⟩ => ⟨S2x2048x16x64, .f32⟩
  | .hbm, ⟨16, _⟩ => ⟨S_, .f32⟩
  | .hbm, ⟨17, _⟩ => ⟨S16, .f32⟩
  | .hbm, ⟨18, _⟩ => ⟨S1x1x16x1, .f32⟩
  | .hbm, ⟨19, _⟩ => ⟨S_, .f32⟩
  | .hbm, ⟨20, _⟩ => ⟨S16, .f32⟩
  | .hbm, ⟨21, _⟩ => ⟨S16x1, .f32⟩
  | .hbm, ⟨22, _⟩ => ⟨S_, .f32⟩
  | .hbm, ⟨23, _⟩ => ⟨S16, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Proof.Reals.lean ====
/- Extended reals that are real numbers: closure under the operations the gradients use, and what the
   finiteness preconditions give at an element. -/
module

public import Idealize.ShloMosaic.PureOps.Ideal.Laws
public import Idealize.ShloMosaic.Lib.ReduceAll
public import Idealize.ShloMosaic.Lib.IdealHost
public import Idealize.ShloMosaic.Lib.Pointwise

@[expose] public section

noncomputable section

namespace Cert.Reals

open Idealize.ShloMosaic
open scoped BigOperators

/-- `x` is a real number: neither infinity. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} : IsReal x → IsReal y → IsReal (x + y) := by
  rintro ⟨a, rfl⟩ ⟨b, rfl⟩; exact ⟨a + b, by norm_cast⟩

theorem IsReal.sub {x y : EReal} : IsReal x → IsReal y → IsReal (x - y) := by
  rintro ⟨a, rfl⟩ ⟨b, rfl⟩; exact ⟨a - b, by norm_cast⟩

theorem IsReal.mul {x y : EReal} : IsReal x → IsReal y → IsReal (x * y) := by
  rintro ⟨a, rfl⟩ ⟨b, rfl⟩; exact ⟨a * b, by norm_cast⟩

theorem IsReal.neg {x : EReal} : IsReal x → IsReal (-x) := by
  rintro ⟨a, rfl⟩; exact ⟨-a, by norm_cast⟩

theorem IsReal.exp {x : EReal} : IsReal x → IsReal (Ideal.exp x) := by
  rintro ⟨a, rfl⟩; exact ⟨Real.exp a, rfl⟩

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self _ _)).add (ih fun i hi => h i (Finset.mem_insert_of_mem hi))

/-- The quotient of two real numbers, the divisor not zero, is the quotient over the reals. -/
theorem div_coe_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The `f32` pattern of `+∞` is the top element. -/
theorem ofBits_inf : Ideal.ofBits .f32 0x7F800000#32 = ⊤ := by
  show Ideal.ieee 8 23 (0x7F800000#32 : BitVec 32) = (⊤ : EReal)
  unfold Ideal.ieee
  norm_num [show (BitVec.extractLsb' 23 8 (0x7F800000#32)).toNat = 255 by decide,
    show (BitVec.extractLsb' 0 23 (0x7F800000#32)).toNat = 0 by decide,
    show (BitVec.extractLsb' 31 1 (0x7F800000#32) == 1#1) = false by decide]

/-- An element whose absolute value compares below `+∞` is a real number. -/
theorem isReal_of_abs_lt {x : EReal} (h : Ideal.cmp .olt (max x (-x)) ⊤ = 1#1) : IsReal x := by
  induction x using EReal.rec with
  | coe r => exact ⟨r, rfl⟩
  | bot => simp [Ideal.cmp] at h
  | top => simp [Ideal.cmp] at h

/-- The host's test "every |x| is below `+∞`" makes every element of `x` a real number. -/
theorem isReal_of_all {s t u : Shape} {axes : List (Fin s.rank)} [Subsingleton t.Idx] (x : FVec Ideal s .f32)
    (y : FVec Ideal s .f32) (hy : ∀ i, y i = ⊤)
    (init : IVec u 1) (h : s.ReducesTo axes t) (hu : 0 < u.numel) (j : t.Idx)
    (e : Host.reduce IntOp.andi (cmpf .olt (Host.absf x) y) init h hu j = 1#1) (i : s.Idx) : IsReal (x i) := by
  have h1 := Host.reduce_andi_all _ init h hu j e i
  refine isReal_of_abs_lt ?_
  have h2 : Ideal.cmp .olt (max (x i) (-(x i))) (y i) = 1#1 := h1
  rwa [hy i] at h2

/-- The logistic function as the kernels and the reference write it. -/
def logi (g : EReal) : EReal := Ideal.div 1 (1 + Ideal.exp (-g))

theorem logi_coe (r : ℝ) : logi (r : EReal) = ((1 / (1 + Real.exp (-r)) : ℝ) : EReal) := by
  have h : (1 : ℝ) + Real.exp (-r) ≠ 0 := by positivity
  have e : (1 : EReal) + Ideal.exp (-(r : EReal)) = ((1 + Real.exp (-r) : ℝ) : EReal) := by
    rw [← EReal.coe_neg]; show (1 : EReal) + ((Real.exp (-r) : ℝ) : EReal) = _; norm_cast
  unfold logi
  rw [e, ← EReal.coe_one, div_coe_coe _ _ h]

theorem logi_top : logi ⊤ = 1 := by
  have e : (1 : EReal) + Ideal.exp (-⊤) = ((1 : ℝ) : EReal) := by
    rw [EReal.neg_top]; show (1 : EReal) + 0 = _; norm_num
  unfold logi
  rw [e, ← EReal.coe_one, div_coe_coe _ _ one_ne_zero]; norm_num

theorem logi_bot : logi ⊥ = 0 := by
  have e : (1 : EReal) + Ideal.exp (-⊥) = ⊤ := by
    rw [EReal.neg_bot]; show (1 : EReal) + ⊤ = _; exact EReal.add_top_of_ne_bot (by decide)
  unfold logi
  rw [e]; unfold Ideal.div
  rw [if_neg (by decide), EReal.inv_top, mul_zero]

/-- The derivative of `g · σ(g)` applied to a real cotangent `t`: the factored form and the two-term form of the
    product rule agree at every extended real `g`. -/
theorem silu_grad (t g : EReal) (ht : IsReal t) :
    t * (logi g * (1 + g * (1 - logi g))) = t * logi g + (g * t) * (logi g * (1 - logi g)) := by
  obtain ⟨a, rfl⟩ := ht
  induction g using EReal.rec with
  | coe r =>
    rw [logi_coe]; generalize (1 / (1 + Real.exp (-r)) : ℝ) = s
    norm_cast; ring
  | top =>
    have h : (1 : EReal) - 1 = 0 := by rw [← EReal.coe_one, ← EReal.coe_sub]; simp
    rw [logi_top, h]; simp
  | bot => rw [logi_bot]; simp

end Cert.Reals

end
-- ==== Proof.Down.lean ====
/- The hidden-layer gradient of the SwiGLU mixer: what the kernel's two result arrays hold. -/
module

public import proofs.«01_k».proof.Defs
public import proofs.«01_k».proof.Proof.Gen.Down.Frame
public import proofs.«01_k».proof.Proof.Gen.DownIdeal.Value
public import proofs.«01_k».proof.Proof.Gen.DownReferenceIdeal.Run
public import proofs.«01_k».proof.Proof.Gen.Pre_down_finite
public import proofs.«01_k».proof.Proof.Reals
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DownGrad

open Cert.Reals

section
open Cert.DownReferenceIdeal Cert.DownReferenceIdeal.Gen

/-- The cotangent of the hidden layer: `dx · w_downᵀ`. -/
def DACT (dx : FVec Ideal S4096x2048 .bf16) (wd : FVec Ideal S5632x2048 .bf16) : FVec Ideal S4096x5632 .f32 :=
  Host.dotGeneral dot_S4096x2048_S5632x2048_S4096x5632_1_1_0_0_n_n none (extf .f32 dx bitsLt_bf16_f32) (extf .f32 wd bitsLt_bf16_f32)

/-- A host constant one at the hidden layer's shape. -/
def ONE : FVec Ideal S4096x5632 .f32 := broadcastInDim S4096x5632 ![] bcast_S_S4096x5632 (constant S_ .f32 0x3F800000#32)

/-- The reference's logistic of the gate. -/
def SIG (g : FVec Ideal S4096x5632 .f32) : FVec Ideal S4096x5632 .f32 :=
  Host.divf ONE (addf ONE (Host.exp (Host.negf g)))

/-- The reference's gradient of the gate's pre-activation. -/
def DGATE (dx : FVec Ideal S4096x2048 .bf16) (wd : FVec Ideal S5632x2048 .bf16) (g u : FVec Ideal S4096x5632 .f32) :
    FVec Ideal S4096x5632 .bf16 :=
  truncf .bf16 (addf (mulf (mulf (DACT dx wd) u) (SIG g))
    (mulf (mulf g (mulf (DACT dx wd) u)) (mulf (SIG g) (subf ONE (SIG g))))) bitsLt_bf16_f32

/-- The reference's gradient of the up projection. -/
def DUP (dx : FVec Ideal S4096x2048 .bf16) (wd : FVec Ideal S5632x2048 .bf16) (g : FVec Ideal S4096x5632 .f32) :
    FVec Ideal S4096x5632 .bf16 :=
  truncf .bf16 (mulf (mulf g (SIG g)) (DACT dx wd)) bitsLt_bf16_f32

/-- The cotangent of the hidden layer at an index: the row of `dx` against the row of `w_down`. -/
theorem DACT_at (dx : FVec Ideal S4096x2048 .bf16) (wd : FVec Ideal S5632x2048 .bf16) (r : Fin 4096) (l : Fin 5632) :
    DACT dx wd (ix2 r l) = ∑ k : Fin 2048, dx (ix2 r k) * wd (ix2 l k) := by
  pointwise [DACT]

/-- The gate's gradient at an index, in the form the product rule gives. -/
theorem DGATE_at (dx : FVec Ideal S4096x2048 .bf16) (wd : FVec Ideal S5632x2048 .bf16) (g u : FVec Ideal S4096x5632 .f32)
    (r : Fin 4096) (l : Fin 5632) :
    DGATE dx wd g u (ix2 r l)
      = ((∑ k : Fin 2048, dx (ix2 r k) * wd (ix2 l k)) * u (ix2 r l)) * logi (g (ix2 r l))
        + (g (ix2 r l) * ((∑ k : Fin 2048, dx (ix2 r k) * wd (ix2 l k)) * u (ix2 r l)))
          * (logi (g (ix2 r l)) * (1 - logi (g (ix2 r l)))) := by
  pointwise [DGATE, DACT, SIG, ONE, logi]

/-- The up projection's gradient at an index. -/
theorem DUP_at (dx : FVec Ideal S4096x2048 .bf16) (wd : FVec Ideal S5632x2048 .bf16) (g : FVec Ideal S4096x5632 .f32)
    (r : Fin 4096) (l : Fin 5632) :
    DUP dx wd g (ix2 r l)
      = (g (ix2 r l) * logi (g (ix2 r l))) * (∑ k : Fin 2048, dx (ix2 r k) * wd (ix2 l k)) := by
  pointwise [DUP, DACT, SIG, ONE, logi]

end

section
open Cert.DownIdeal Cert.DownIdeal.Gen

/-- What the body stores into the gate gradient's block, at an index. -/
theorem pay3_at (x : FVec Ideal S1024x2048 .bf16) (w : FVec Ideal S512x2048 .bf16) (g u : FVec Ideal S1024x512 .f32)
    (r : Fin 1024) (l : Fin 512) :
    k0_pay3 x w g u (ix2 r l)
      = ((∑ k : Fin 2048, x (ix2 r k) * w (ix2 l k)) * u (ix2 r l))
        * (logi (g (ix2 r l)) * (1 + g (ix2 r l) * (1 - logi (g (ix2 r l))))) := by
  pointwise [k0_pay3, k0_pay2, k0_pay1, logi, zero_sub]

/-- What the body stores into the up projection's block, at an index. -/
theorem pay4_at (x : FVec Ideal S1024x2048 .bf16) (w : FVec Ideal S512x2048 .bf16) (g : FVec Ideal S1024x512 .f32)
    (r : Fin 1024) (l : Fin 512) :
    k0_pay4 x w g (ix2 r l)
      = (∑ k : Fin 2048, x (ix2 r k) * w (ix2 l k)) * (g (ix2 r l) * logi (g (ix2 r l))) := by
  pointwise [k0_pay4, k0_pay2, k0_pay1, logi, zero_sub]

variable (m : (ℓ : Loc nD τ sig) → Buf (Elt Ideal) ℓ)

/-- Every window's block index at every grid point. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val] :=
  (by decide +kernel : ∀ t : Fin grid0.N, _)

/-- The precondition at the elements: `dx`, `w_down` and `up` hold real numbers. -/
theorem real_args (h : Cert.Pre_DownIdeal_down_finite m) (c : Dev nD) :
    (∀ i, IsReal (m ((c.tc : Thread nD τ).loc main_arg0) i)) ∧ (∀ i, IsReal (m ((c.tc : Thread nD τ).loc main_arg1) i))
      ∧ (∀ i, IsReal (m ((c.tc : Thread nD τ).loc main_arg3) i)) := by
  have h0 := congrFun (h c) (fun a => a.elim0)
  dsimp only [Cert.Pre_down_finite.fn] at h0
  obtain ⟨h1, h2⟩ := IntOp.andi_eq_one.1 h0
  obtain ⟨h3, h4⟩ := IntOp.andi_eq_one.1 h1
  haveI : Subsingleton Cert.Pre_down_finite.S_.Idx := ⟨fun a b => funext fun k => k.elim0⟩
  exact ⟨fun i => isReal_of_all _ _ (fun _ => ofBits_inf) _ _ _ _ h3 i,
    fun i => isReal_of_all _ _ (fun _ => ofBits_inf) _ _ _ _ h4 i,
    fun i => isReal_of_all _ _ (fun _ => ofBits_inf) _ _ _ _ h2 i⟩

/-- The gate gradient's array after the run is the reference's. -/
theorem final_4 (h : Cert.Pre_DownIdeal_down_finite m) (c : Dev nD) :
    (dats m 0 c).arrAt 4 (cfgs 0).N = DGATE (m ((c.tc : Thread nD τ).loc main_arg0)) (m ((c.tc : Thread nD τ).loc main_arg1))
      (m ((c.tc : Thread nD τ).loc main_arg2)) (m ((c.tc : Thread nD τ).loc main_arg3)) := by
  obtain ⟨hx, hw, hu⟩ := real_args m h c
  refine (dats m 0 c).arrAt_eq_of_covers 4 _ (by decide +kernel) fun t hf y => ?_
  blk_simp; rw [after0_4]; frame_out
  idx_vars y
  rw [pay3_at, silu_grad]
  · pointwise [DGATE, DACT, SIG, ONE, logi]
    blk_point [iblk, V, idx t]
  · exact (IsReal.sum _ _ fun k _ => (hx _).mul (hw _)).mul (hu _)

/-- The up projection's gradient array after the run is the reference's. -/
theorem final_5 (c : Dev nD) :
    (dats m 0 c).arrAt 5 (cfgs 0).N = DUP (m ((c.tc : Thread nD τ).loc main_arg0)) (m ((c.tc : Thread nD τ).loc main_arg1))
      (m ((c.tc : Thread nD τ).loc main_arg2)) := by
  refine (dats m 0 c).arrAt_eq_of_covers 5 _ (by decide +kernel) fun t hf y => ?_
  blk_simp; rw [after0_5]; frame_out
  idx_vars y
  rw [pay4_at, mul_comm]
  pointwise [DUP, DACT, SIG, ONE, logi]
  blk_point [iblk, V, idx t]

end

/-- The program terminates and leaves its arguments unchanged, over machine words. -/
theorem frame : Cert.quiescent_Down := fun m ρ _ => Cert.Down.Gen.frame m ρ

/-- The same over the extended reals. -/
theorem frameIdeal : Cert.quiescent_DownIdeal := fun m ρ _ => Cert.DownIdeal.Gen.frame m ρ

/-- The reference terminates and leaves its arguments unchanged. -/
theorem frameReference : Cert.quiescent_DownReferenceIdeal := by
  intro m g _
  exact (θ_run _ _ _).mono (fun r h => ⟨fun c => (h c).2.2, sem_eq_zero_of_no_sems rfl _⟩)
    (Cert.DownReferenceIdeal.Value.run m g)

set_option maxHeartbeats 1600000 in
/-- The kernel's two gradients are the reference's, given real `dx`, `w_down` and `up`. -/
theorem algebraic : Cert.algebraic_DownIdeal_DownReferenceIdeal_pre_down_finite := by
  pair_intro
  · run_from Cert.DownIdeal.Gen.run_main m g
  · hlo_run
    · exact (final_4 m hpre c).symm
    · exact (final_5 m c).symm

end Cert.DownGrad

end
-- ==== Proof.GateUpGrad.lean ====
/- The gradient of the SwiGLU mixer's input: what the kernel's arrays hold after the run. -/
module

public import proofs.«01_k».proof.Defs
public import proofs.«01_k».proof.Proof.Gen.GateUpGrad.Frame
public import proofs.«01_k».proof.Proof.Gen.GateUpGradIdeal.Value
public import proofs.«01_k».proof.Proof.Gen.GateUpGradReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.GateUpGradValue

section
open Cert.GateUpGradReferenceIdeal Cert.GateUpGradReferenceIdeal.Gen

/-- What the reference returns for the gradient of the SwiGLU mixer's input. -/
def REF (dgate : FVec Ideal S4096x5632 .bf16) (wg : FVec Ideal S2048x5632 .bf16) (dup : FVec Ideal S4096x5632 .bf16) (wu : FVec Ideal S2048x5632 .bf16) :
    FVec Ideal S4096x2048 .f32 :=
  addf (Host.dotGeneral dot_S4096x5632_S2048x5632_S4096x2048_1_1_0_0_n_n none (extf .f32 dup bitsLt_bf16_f32) (extf .f32 wu bitsLt_bf16_f32)) (Host.dotGeneral dot_S4096x5632_S2048x5632_S4096x2048_1_1_0_0_n_n none (extf .f32 dgate bitsLt_bf16_f32) (extf .f32 wg bitsLt_bf16_f32))

/-- The reference at an index, in the order the kernel multiplies and adds. -/
theorem REF_at (dgate : FVec Ideal S4096x5632 .bf16) (wg : FVec Ideal S2048x5632 .bf16) (dup : FVec Ideal S4096x5632 .bf16) (wu : FVec Ideal S2048x5632 .bf16) (i : S4096x2048.Idx) :
    REF dgate wg dup wu i = (∑ k : Fin 5632, dgate (ix2 (i 0) k) * wg (ix2 (i 1) k)) + (∑ k : Fin 5632, dup (ix2 (i 0) k) * wu (ix2 (i 1) k)) := by
  pointwise [REF]
  exact add_comm _ _

end

section
open Cert.GateUpGradIdeal Cert.GateUpGradIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![(grid0.coords t 1).val, 0]
    ∧ win0_2.index t = ![(grid0.coords t 0).val, 0]
    ∧ win0_3.index t = ![(grid0.coords t 1).val, 0]
    ∧ win0_4.index t = ![(grid0.coords t 0).val, (grid0.coords t 1).val] :=
  (by decide +kernel : ∀ t : Fin grid0.N, _)

/-- The kernel's array for the gradient of the SwiGLU mixer's input after the run is the reference's. -/
theorem final_4 (c : Dev nD) :
    (dats m 0 c).arrAt 4 (cfgs 0).N = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp; rw [after0_4]; frame_out
  idx_vars y
  rw [REF_at]
  pointwise [k0_pay1, REF, zero_sub]
  blk_point [iblk, V, idx t]

end

/-- The program terminates and leaves its arguments unchanged, over machine words. -/
theorem frame : Cert.quiescent_GateUpGrad := fun m ρ _ => Cert.GateUpGrad.Gen.frame m ρ

/-- The same over the extended reals. -/
theorem frameIdeal : Cert.quiescent_GateUpGradIdeal := fun m ρ _ => Cert.GateUpGradIdeal.Gen.frame m ρ

/-- The reference terminates and leaves its arguments unchanged. -/
theorem frameReference : Cert.quiescent_GateUpGradReferenceIdeal := by
  intro m g _
  exact (θ_run _ _ _).mono (fun r h => ⟨fun c => (h c).2, sem_eq_zero_of_no_sems rfl _⟩)
    (Cert.GateUpGradReferenceIdeal.Value.run m g)

set_option maxHeartbeats 1600000 in
/-- Over the extended reals the kernel returns what the reference returns. -/
theorem algebraic : Cert.algebraic_GateUpGradIdeal_GateUpGradReferenceIdeal := by
  pair_intro
  · run_from Cert.GateUpGradIdeal.Gen.run_main m g
  · hlo_run
    exact (final_4 m c).symm

end Cert.GateUpGradValue

end
-- ==== Proof.DownWeight.lean ====
/- The gradient of w_down: what the kernel's arrays hold after the run. -/
module

public import proofs.«01_k».proof.Defs
public import proofs.«01_k».proof.Proof.Gen.DownWeight.Frame
public import proofs.«01_k».proof.Proof.Gen.DownWeightIdeal.Value
public import proofs.«01_k».proof.Proof.Gen.DownWeightReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DownWeightValue

section
open Cert.DownWeightReferenceIdeal Cert.DownWeightReferenceIdeal.Gen

/-- What the reference returns for the gradient of w_down. -/
def REF (act : FVec Ideal S4096x5632 .bf16) (dx : FVec Ideal S4096x2048 .bf16) :
    FVec Ideal S5632x2048 .f32 :=
  transpose S5632x2048 [1, 0] (Host.dotGeneral dot_S4096x2048_S4096x5632_S2048x5632_0_0_1_1_n_n none (extf .f32 dx bitsLt_bf16_f32) (extf .f32 act bitsLt_bf16_f32)) transposes_S2048x5632_S5632x2048_1_0

/-- The reference at an index, in the order the kernel multiplies and adds. -/
theorem REF_at (act : FVec Ideal S4096x5632 .bf16) (dx : FVec Ideal S4096x2048 .bf16) (i : S5632x2048.Idx) :
    REF act dx i = ∑ k : Fin 4096, act (ix2 k (i 0)) * dx (ix2 k (i 1)) := by
  pointwise [REF]
  exact Finset.sum_congr rfl fun _ _ => mul_comm _ _

end

section
open Cert.DownWeightIdeal Cert.DownWeightIdeal.Gen

variable (m : (ℓ : Loc nD τ sig) → Buf (Elt Ideal) ℓ)

/-- Every window's block index at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The kernel's array for the gradient of w_down after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  rw [REF_at]
  pointwise [k0_pay1, REF, zero_sub]
  blk_point [iblk, V, idx t]

end

/-- The program terminates and leaves its arguments unchanged, over machine words. -/
theorem frame : Cert.quiescent_DownWeight := fun m ρ _ => Cert.DownWeight.Gen.frame m ρ

/-- The same over the extended reals. -/
theorem frameIdeal : Cert.quiescent_DownWeightIdeal := fun m ρ _ => Cert.DownWeightIdeal.Gen.frame m ρ

/-- The reference terminates and leaves its arguments unchanged. -/
theorem frameReference : Cert.quiescent_DownWeightReferenceIdeal := by
  intro m g _
  exact (θ_run _ _ _).mono (fun r h => ⟨fun c => (h c).2, sem_eq_zero_of_no_sems rfl _⟩)
    (Cert.DownWeightReferenceIdeal.Value.run m g)

set_option maxHeartbeats 1600000 in
/-- Over the extended reals the kernel returns what the reference returns. -/
theorem algebraic : Cert.algebraic_DownWeightIdeal_DownWeightReferenceIdeal := by
  pair_intro
  · run_from Cert.DownWeightIdeal.Gen.run_main m g
  · hlo_run
    exact (final_2 m c).symm

end Cert.DownWeightValue

end
-- ==== Proof.GateWeight.lean ====
/- The gradient of w_gate; the same call at the same shapes gives the gradient of w_up: what the kernel's arrays hold after the run. -/
module

public import proofs.«01_k».proof.Defs
public import proofs.«01_k».proof.Proof.Gen.GateWeight.Frame
public import proofs.«01_k».proof.Proof.Gen.GateWeightIdeal.Value
public import proofs.«01_k».proof.Proof.Gen.GateWeightReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.GateWeightValue

section
open Cert.GateWeightReferenceIdeal Cert.GateWeightReferenceIdeal.Gen

/-- What the reference returns for the gradient of w_gate. -/
def REF (h2 : FVec Ideal S4096x2048 .bf16) (dgate : FVec Ideal S4096x5632 .bf16) :
    FVec Ideal S2048x5632 .f32 :=
  transpose S2048x5632 [1, 0] (Host.dotGeneral dot_S4096x5632_S4096x2048_S5632x2048_0_0_1_1_n_n none (extf .f32 dgate bitsLt_bf16_f32) (extf .f32 h2 bitsLt_bf16_f32)) transposes_S5632x2048_S2048x5632_1_0

/-- The reference at an index, in the order the kernel multiplies and adds. -/
theorem REF_at (h2 : FVec Ideal S4096x2048 .bf16) (dgate : FVec Ideal S4096x5632 .bf16) (i : S2048x5632.Idx) :
    REF h2 dgate i = ∑ k : Fin 4096, h2 (ix2 k (i 0)) * dgate (ix2 k (i 1)) := by
  pointwise [REF]
  exact Finset.sum_congr rfl fun _ _ => mul_comm _ _

end

section
open Cert.GateWeightIdeal Cert.GateWeightIdeal.Gen

variable (m : (ℓ : Loc nD τ sig) → Buf (Elt Ideal) ℓ)

/-- Every window's block index at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The kernel's array for the gradient of w_gate after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  rw [REF_at]
  pointwise [k0_pay1, REF, zero_sub]
  blk_point [iblk, V, idx t]

end

/-- The program terminates and leaves its arguments unchanged, over machine words. -/
theorem frame : Cert.quiescent_GateWeight := fun m ρ _ => Cert.GateWeight.Gen.frame m ρ

/-- The same over the extended reals. -/
theorem frameIdeal : Cert.quiescent_GateWeightIdeal := fun m ρ _ => Cert.GateWeightIdeal.Gen.frame m ρ

/-- The reference terminates and leaves its arguments unchanged. -/
theorem frameReference : Cert.quiescent_GateWeightReferenceIdeal := by
  intro m g _
  exact (θ_run _ _ _).mono (fun r h => ⟨fun c => (h c).2, sem_eq_zero_of_no_sems rfl _⟩)
    (Cert.GateWeightReferenceIdeal.Value.run m g)

set_option maxHeartbeats 1600000 in
/-- Over the extended reals the kernel returns what the reference returns. -/
theorem algebraic : Cert.algebraic_GateWeightIdeal_GateWeightReferenceIdeal := by
  pair_intro
  · run_from Cert.GateWeightIdeal.Gen.run_main m g
  · hlo_run
    exact (final_2 m c).symm

end Cert.GateWeightValue

end
-- ==== Proof.ProjInGrad.lean ====
/- The gradient of the input projection's input: what the kernel's arrays hold after the run. -/
module

public import proofs.«01_k».proof.Defs
public import proofs.«01_k».proof.Proof.Gen.ProjInGrad.Frame
public import proofs.«01_k».proof.Proof.Gen.ProjInGradIdeal.Value
public import proofs.«01_k».proof.Proof.Gen.ProjInGradReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjInGradValue

section
open Cert.ProjInGradReferenceIdeal Cert.ProjInGradReferenceIdeal.Gen

/-- What the reference returns for the gradient of the input projection's input. -/
def REF (dqkv : FVec Ideal S4096x3072 .bf16) (wqkv : FVec Ideal S2048x3072 .bf16) (dz : FVec Ideal S4096x1024 .bf16) (wz : FVec Ideal S2048x1024 .bf16) (dxbc : FVec Ideal S4096x1536 .bf16) (wxbc : FVec Ideal S2048x1536 .bf16) (ddt : FVec Ideal S4096x256 .bf16) (wdt : FVec Ideal S2048x256 .bf16) :
    FVec Ideal S4096x2048 .f32 :=
  addf (addf (addf (Host.dotGeneral dot_S4096x256_S2048x256_S4096x2048_1_1_0_0_n_n none (extf .f32 ddt bitsLt_bf16_f32) (extf .f32 wdt bitsLt_bf16_f32)) (Host.dotGeneral dot_S4096x1536_S2048x1536_S4096x2048_1_1_0_0_n_n none (extf .f32 dxbc bitsLt_bf16_f32) (extf .f32 wxbc bitsLt_bf16_f32))) (Host.dotGeneral dot_S4096x1024_S2048x1024_S4096x2048_1_1_0_0_n_n none (extf .f32 dz bitsLt_bf16_f32) (extf .f32 wz bitsLt_bf16_f32))) (Host.dotGeneral dot_S4096x3072_S2048x3072_S4096x2048_1_1_0_0_n_n none (extf .f32 dqkv bitsLt_bf16_f32) (extf .f32 wqkv bitsLt_bf16_f32))

/-- The reference at an index, in the order the kernel multiplies and adds. -/
theorem REF_at (dqkv : FVec Ideal S4096x3072 .bf16) (wqkv : FVec Ideal S2048x3072 .bf16) (dz : FVec Ideal S4096x1024 .bf16) (wz : FVec Ideal S2048x1024 .bf16) (dxbc : FVec Ideal S4096x1536 .bf16) (wxbc : FVec Ideal S2048x1536 .bf16) (ddt : FVec Ideal S4096x256 .bf16) (wdt : FVec Ideal S2048x256 .bf16) (i : S4096x2048.Idx) :
    REF dqkv wqkv dz wz dxbc wxbc ddt wdt i = (∑ k : Fin 3072, dqkv (ix2 (i 0) k) * wqkv (ix2 (i 1) k)) + (∑ k : Fin 1024, dz (ix2 (i 0) k) * wz (ix2 (i 1) k)) + (∑ k : Fin 1536, dxbc (ix2 (i 0) k) * wxbc (ix2 (i 1) k)) + (∑ k : Fin 256, ddt (ix2 (i 0) k) * wdt (ix2 (i 1) k)) := by
  pointwise [REF]
  have h : ∀ a b c d : EReal, d + c + b + a = a + b + c + d := fun a b c d => by ac_rfl
  exact h _ _ _ _

end

section
open Cert.ProjInGradIdeal Cert.ProjInGradIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![(grid0.coords t 1).val, 0]
    ∧ win0_2.index t = ![(grid0.coords t 0).val, 0]
    ∧ win0_3.index t = ![(grid0.coords t 1).val, 0]
    ∧ win0_4.index t = ![(grid0.coords t 0).val, 0]
    ∧ win0_5.index t = ![(grid0.coords t 1).val, 0]
    ∧ win0_6.index t = ![(grid0.coords t 0).val, 0]
    ∧ win0_7.index t = ![(grid0.coords t 1).val, 0]
    ∧ win0_8.index t = ![(grid0.coords t 0).val, (grid0.coords t 1).val] :=
  (by decide +kernel : ∀ t : Fin grid0.N, _)

/-- The kernel's array for the gradient of the input projection's input after the run is the reference's. -/
theorem final_8 (c : Dev nD) :
    (dats m 0 c).arrAt 8 (cfgs 0).N = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp; rw [after0_8]; frame_out
  idx_vars y
  rw [REF_at]
  pointwise [k0_pay1, REF, zero_sub]
  blk_point [iblk, V, idx t]

end

/-- The program terminates and leaves its arguments unchanged, over machine words. -/
theorem frame : Cert.quiescent_ProjInGrad := fun m ρ _ => Cert.ProjInGrad.Gen.frame m ρ

/-- The same over the extended reals. -/
theorem frameIdeal : Cert.quiescent_ProjInGradIdeal := fun m ρ _ => Cert.ProjInGradIdeal.Gen.frame m ρ

/-- The reference terminates and leaves its arguments unchanged. -/
theorem frameReference : Cert.quiescent_ProjInGradReferenceIdeal := by
  intro m g _
  exact (θ_run _ _ _).mono (fun r h => ⟨fun c => (h c).2, sem_eq_zero_of_no_sems rfl _⟩)
    (Cert.ProjInGradReferenceIdeal.Value.run m g)

set_option maxHeartbeats 1600000 in
/-- Over the extended reals the kernel returns what the reference returns. -/
theorem algebraic : Cert.algebraic_ProjInGradIdeal_ProjInGradReferenceIdeal := by
  pair_intro
  · run_from Cert.ProjInGradIdeal.Gen.run_main m g
  · hlo_run
    exact (final_8 m c).symm

end Cert.ProjInGradValue

end
-- ==== Proof.QkvWeight.lean ====
/- The gradient of the query, key and value columns of w_in: what the kernel's arrays hold after the run. -/
module

public import proofs.«01_k».proof.Defs
public import proofs.«01_k».proof.Proof.Gen.QkvWeight.Frame
public import proofs.«01_k».proof.Proof.Gen.QkvWeightIdeal.Value
public import proofs.«01_k».proof.Proof.Gen.QkvWeightReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.QkvWeightValue

section
open Cert.QkvWeightReferenceIdeal Cert.QkvWeightReferenceIdeal.Gen

/-- What the reference returns for the gradient of the query, key and value columns of w_in. -/
def REF (h : FVec Ideal S4096x2048 .bf16) (dqkv : FVec Ideal S4096x3072 .bf16) :
    FVec Ideal S2048x3072 .f32 :=
  transpose S2048x3072 [1, 0] (Host.dotGeneral dot_S4096x3072_S4096x2048_S3072x2048_0_0_1_1_n_n none (extf .f32 dqkv bitsLt_bf16_f32) (extf .f32 h bitsLt_bf16_f32)) transposes_S3072x2048_S2048x3072_1_0

/-- The reference at an index, in the order the kernel multiplies and adds. -/
theorem REF_at (h : FVec Ideal S4096x2048 .bf16) (dqkv : FVec Ideal S4096x3072 .bf16) (i : S2048x3072.Idx) :
    REF h dqkv i = ∑ k : Fin 4096, h (ix2 k (i 0)) * dqkv (ix2 k (i 1)) := by
  pointwise [REF]
  exact Finset.sum_congr rfl fun _ _ => mul_comm _ _

end

section
open Cert.QkvWeightIdeal Cert.QkvWeightIdeal.Gen

variable (m : (ℓ : Loc nD τ sig) → Buf (Elt Ideal) ℓ)

/-- Every window's block index at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The kernel's array for the gradient of the query, key and value columns of w_in after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  rw [REF_at]
  pointwise [k0_pay1, REF, zero_sub]
  blk_point [iblk, V, idx t]

end

/-- The program terminates and leaves its arguments unchanged, over machine words. -/
theorem frame : Cert.quiescent_QkvWeight := fun m ρ _ => Cert.QkvWeight.Gen.frame m ρ

/-- The same over the extended reals. -/
theorem frameIdeal : Cert.quiescent_QkvWeightIdeal := fun m ρ _ => Cert.QkvWeightIdeal.Gen.frame m ρ

/-- The reference terminates and leaves its arguments unchanged. -/
theorem frameReference : Cert.quiescent_QkvWeightReferenceIdeal := by
  intro m g _
  exact (θ_run _ _ _).mono (fun r h => ⟨fun c => (h c).2, sem_eq_zero_of_no_sems rfl _⟩)
    (Cert.QkvWeightReferenceIdeal.Value.run m g)

set_option maxHeartbeats 1600000 in
/-- Over the extended reals the kernel returns what the reference returns. -/
theorem algebraic : Cert.algebraic_QkvWeightIdeal_QkvWeightReferenceIdeal := by
  pair_intro
  · run_from Cert.QkvWeightIdeal.Gen.run_main m g
  · hlo_run
    exact (final_2 m c).symm

end Cert.QkvWeightValue

end
-- ==== Proof.ZWeight.lean ====
/- The gradient of the gate columns of w_in: what the kernel's arrays hold after the run. -/
module

public import proofs.«01_k».proof.Defs
public import proofs.«01_k».proof.Proof.Gen.ZWeight.Frame
public import proofs.«01_k».proof.Proof.Gen.ZWeightIdeal.Value
public import proofs.«01_k».proof.Proof.Gen.ZWeightReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ZWeightValue

section
open Cert.ZWeightReferenceIdeal Cert.ZWeightReferenceIdeal.Gen

/-- What the reference returns for the gradient of the gate columns of w_in. -/
def REF (h : FVec Ideal S4096x2048 .bf16) (dz : FVec Ideal S4096x1024 .bf16) :
    FVec Ideal S2048x1024 .f32 :=
  transpose S2048x1024 [1, 0] (Host.dotGeneral dot_S4096x1024_S4096x2048_S1024x2048_0_0_1_1_n_n none (extf .f32 dz bitsLt_bf16_f32) (extf .f32 h bitsLt_bf16_f32)) transposes_S1024x2048_S2048x1024_1_0

/-- The reference at an index, in the order the kernel multiplies and adds. -/
theorem REF_at (h : FVec Ideal S4096x2048 .bf16) (dz : FVec Ideal S4096x1024 .bf16) (i : S2048x1024.Idx) :
    REF h dz i = ∑ k : Fin 4096, h (ix2 k (i 0)) * dz (ix2 k (i 1)) := by
  pointwise [REF]
  exact Finset.sum_congr rfl fun _ _ => mul_comm _ _

end

section
open Cert.ZWeightIdeal Cert.ZWeightIdeal.Gen

variable (m : (ℓ : Loc nD τ sig) → Buf (Elt Ideal) ℓ)

/-- Every window's block index at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The kernel's array for the gradient of the gate columns of w_in after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  rw [REF_at]
  pointwise [k0_pay1, REF, zero_sub]
  blk_point [iblk, V, idx t]

end

/-- The program terminates and leaves its arguments unchanged, over machine words. -/
theorem frame : Cert.quiescent_ZWeight := fun m ρ _ => Cert.ZWeight.Gen.frame m ρ

/-- The same over the extended reals. -/
theorem frameIdeal : Cert.quiescent_ZWeightIdeal := fun m ρ _ => Cert.ZWeightIdeal.Gen.frame m ρ

/-- The reference terminates and leaves its arguments unchanged. -/
theorem frameReference : Cert.quiescent_ZWeightReferenceIdeal := by
  intro m g _
  exact (θ_run _ _ _).mono (fun r h => ⟨fun c => (h c).2, sem_eq_zero_of_no_sems rfl _⟩)
    (Cert.ZWeightReferenceIdeal.Value.run m g)

set_option maxHeartbeats 1600000 in
/-- Over the extended reals the kernel returns what the reference returns. -/
theorem algebraic : Cert.algebraic_ZWeightIdeal_ZWeightReferenceIdeal := by
  pair_intro
  · run_from Cert.ZWeightIdeal.Gen.run_main m g
  · hlo_run
    exact (final_2 m c).symm

end Cert.ZWeightValue

end
-- ==== Proof.XbcWeight.lean ====
/- The gradient of the x, B, C columns of w_in: what the kernel's arrays hold after the run. -/
module

public import proofs.«01_k».proof.Defs
public import proofs.«01_k».proof.Proof.Gen.XbcWeight.Frame
public import proofs.«01_k».proof.Proof.Gen.XbcWeightIdeal.Value
public import proofs.«01_k».proof.Proof.Gen.XbcWeightReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.XbcWeightValue

section
open Cert.XbcWeightReferenceIdeal Cert.XbcWeightReferenceIdeal.Gen

/-- What the reference returns for the gradient of the x, B, C columns of w_in. -/
def REF (h : FVec Ideal S4096x2048 .bf16) (dxbc : FVec Ideal S4096x1536 .bf16) :
    FVec Ideal S2048x1536 .f32 :=
  transpose S2048x1536 [1, 0] (Host.dotGeneral dot_S4096x1536_S4096x2048_S1536x2048_0_0_1_1_n_n none (extf .f32 dxbc bitsLt_bf16_f32) (extf .f32 h bitsLt_bf16_f32)) transposes_S1536x2048_S2048x1536_1_0

/-- The reference at an index, in the order the kernel multiplies and adds. -/
theorem REF_at (h : FVec Ideal S4096x2048 .bf16) (dxbc : FVec Ideal S4096x1536 .bf16) (i : S2048x1536.Idx) :
    REF h dxbc i = ∑ k : Fin 4096, h (ix2 k (i 0)) * dxbc (ix2 k (i 1)) := by
  pointwise [REF]
  exact Finset.sum_congr rfl fun _ _ => mul_comm _ _

end

section
open Cert.XbcWeightIdeal Cert.XbcWeightIdeal.Gen

variable (m : (ℓ : Loc nD τ sig) → Buf (Elt Ideal) ℓ)

/-- Every window's block index at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The kernel's array for the gradient of the x, B, C columns of w_in after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  rw [REF_at]
  pointwise [k0_pay1, REF, zero_sub]
  blk_point [iblk, V, idx t]

end

/-- The program terminates and leaves its arguments unchanged, over machine words. -/
theorem frame : Cert.quiescent_XbcWeight := fun m ρ _ => Cert.XbcWeight.Gen.frame m ρ

/-- The same over the extended reals. -/
theorem frameIdeal : Cert.quiescent_XbcWeightIdeal := fun m ρ _ => Cert.XbcWeightIdeal.Gen.frame m ρ

/-- The reference terminates and leaves its arguments unchanged. -/
theorem frameReference : Cert.quiescent_XbcWeightReferenceIdeal := by
  intro m g _
  exact (θ_run _ _ _).mono (fun r h => ⟨fun c => (h c).2, sem_eq_zero_of_no_sems rfl _⟩)
    (Cert.XbcWeightReferenceIdeal.Value.run m g)

set_option maxHeartbeats 1600000 in
/-- Over the extended reals the kernel returns what the reference returns. -/
theorem algebraic : Cert.algebraic_XbcWeightIdeal_XbcWeightReferenceIdeal := by
  pair_intro
  · run_from Cert.XbcWeightIdeal.Gen.run_main m g
  · hlo_run
    exact (final_2 m c).symm

end Cert.XbcWeightValue

end
-- ==== Proof.DtWeight.lean ====
/- The gradient of the step-size columns of w_in: what the kernel's arrays hold after the run. -/
module

public import proofs.«01_k».proof.Defs
public import proofs.«01_k».proof.Proof.Gen.DtWeight.Frame
public import proofs.«01_k».proof.Proof.Gen.DtWeightIdeal.Value
public import proofs.«01_k».proof.Proof.Gen.DtWeightReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DtWeightValue

section
open Cert.DtWeightReferenceIdeal Cert.DtWeightReferenceIdeal.Gen

/-- What the reference returns for the gradient of the step-size columns of w_in. -/
def REF (h : FVec Ideal S4096x2048 .bf16) (ddt : FVec Ideal S4096x256 .bf16) :
    FVec Ideal S2048x256 .f32 :=
  transpose S2048x256 [1, 0] (Host.dotGeneral dot_S4096x256_S4096x2048_S256x2048_0_0_1_1_n_n none (extf .f32 ddt bitsLt_bf16_f32) (extf .f32 h bitsLt_bf16_f32)) transposes_S256x2048_S2048x256_1_0

/-- The reference at an index, in the order the kernel multiplies and adds. -/
theorem REF_at (h : FVec Ideal S4096x2048 .bf16) (ddt : FVec Ideal S4096x256 .bf16) (i : S2048x256.Idx) :
    REF h ddt i = ∑ k : Fin 4096, h (ix2 k (i 0)) * ddt (ix2 k (i 1)) := by
  pointwise [REF]
  exact Finset.sum_congr rfl fun _ _ => mul_comm _ _

end

section
open Cert.DtWeightIdeal Cert.DtWeightIdeal.Gen

variable (m : (ℓ : Loc nD τ sig) → Buf (Elt Ideal) ℓ)

/-- Every window's block index at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The kernel's array for the gradient of the step-size columns of w_in after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  rw [REF_at]
  pointwise [k0_pay1, REF, zero_sub]
  blk_point [iblk, V, idx t]

end

/-- The program terminates and leaves its arguments unchanged, over machine words. -/
theorem frame : Cert.quiescent_DtWeight := fun m ρ _ => Cert.DtWeight.Gen.frame m ρ

/-- The same over the extended reals. -/
theorem frameIdeal : Cert.quiescent_DtWeightIdeal := fun m ρ _ => Cert.DtWeightIdeal.Gen.frame m ρ

/-- The reference terminates and leaves its arguments unchanged. -/
theorem frameReference : Cert.quiescent_DtWeightReferenceIdeal := by
  intro m g _
  exact (θ_run _ _ _).mono (fun r h => ⟨fun c => (h c).2, sem_eq_zero_of_no_sems rfl _⟩)
    (Cert.DtWeightReferenceIdeal.Value.run m g)

set_option maxHeartbeats 1600000 in
/-- Over the extended reals the kernel returns what the reference returns. -/
theorem algebraic : Cert.algebraic_DtWeightIdeal_DtWeightReferenceIdeal := by
  pair_intro
  · run_from Cert.DtWeightIdeal.Gen.run_main m g
  · hlo_run
    exact (final_2 m c).symm

end Cert.DtWeightValue

end
-- ==== Proof.ProjOutGrad.lean ====
/- The gradient of the output projection's input: what the kernel's arrays hold after the run. -/
module

public import proofs.«01_k».proof.Defs
public import proofs.«01_k».proof.Proof.Gen.ProjOutGrad.Frame
public import proofs.«01_k».proof.Proof.Gen.ProjOutGradIdeal.Value
public import proofs.«01_k».proof.Proof.Gen.ProjOutGradReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjOutGradValue

section
open Cert.ProjOutGradReferenceIdeal Cert.ProjOutGradReferenceIdeal.Gen

/-- What the reference returns for the gradient of the output projection's input. -/
def REF (dx : FVec Ideal S4096x2048 .bf16) (wout : FVec Ideal S2048x2048 .bf16) :
    FVec Ideal S4096x2048 .f32 :=
  Host.dotGeneral dot_S4096x2048_S2048x2048_S4096x2048_1_1_0_0_n_n none (extf .f32 dx bitsLt_bf16_f32) (extf .f32 wout bitsLt_bf16_f32)

end

section
open Cert.ProjOutGradIdeal Cert.ProjOutGradIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- The kernel's array for the gradient of the output projection's input after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  pointwise [k0_pay1, REF, zero_sub]
  blk_point [iblk, V, idx t]

end

/-- The program terminates and leaves its arguments unchanged, over machine words. -/
theorem frame : Cert.quiescent_ProjOutGrad := fun m ρ _ => Cert.ProjOutGrad.Gen.frame m ρ

/-- The same over the extended reals. -/
theorem frameIdeal : Cert.quiescent_ProjOutGradIdeal := fun m ρ _ => Cert.ProjOutGradIdeal.Gen.frame m ρ

/-- The reference terminates and leaves its arguments unchanged. -/
theorem frameReference : Cert.quiescent_ProjOutGradReferenceIdeal := by
  intro m g _
  exact (θ_run _ _ _).mono (fun r h => ⟨fun c => (h c).2, sem_eq_zero_of_no_sems rfl _⟩)
    (Cert.ProjOutGradReferenceIdeal.Value.run m g)

set_option maxHeartbeats 1600000 in
/-- Over the extended reals the kernel returns what the reference returns. -/
theorem algebraic : Cert.algebraic_ProjOutGradIdeal_ProjOutGradReferenceIdeal := by
  pair_intro
  · run_from Cert.ProjOutGradIdeal.Gen.run_main m g
  · hlo_run
    exact (final_2 m c).symm

end Cert.ProjOutGradValue

end
-- ==== Proof.OutWeight.lean ====
/- The gradient of w_out: what the kernel's arrays hold after the run. -/
module

public import proofs.«01_k».proof.Defs
public import proofs.«01_k».proof.Proof.Gen.OutWeight.Frame
public import proofs.«01_k».proof.Proof.Gen.OutWeightIdeal.Value
public import proofs.«01_k».proof.Proof.Gen.OutWeightReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.OutWeightValue

section
open Cert.OutWeightReferenceIdeal Cert.OutWeightReferenceIdeal.Gen

/-- What the reference returns for the gradient of w_out. -/
def REF (mix : FVec Ideal S4096x2048 .bf16) (dx : FVec Ideal S4096x2048 .bf16) :
    FVec Ideal S2048x2048 .f32 :=
  transpose S2048x2048 [1, 0] (Host.dotGeneral dot_S4096x2048_S4096x2048_S2048x2048_0_0_1_1_n_n none (extf .f32 dx bitsLt_bf16_f32) (extf .f32 mix bitsLt_bf16_f32)) transposes_S2048x2048_S2048x2048_1_0

/-- The reference at an index, in the order the kernel multiplies and adds. -/
theorem REF_at (mix : FVec Ideal S4096x2048 .bf16) (dx : FVec Ideal S4096x2048 .bf16) (i : S2048x2048.Idx) :
    REF mix dx i = ∑ k : Fin 4096, mix (ix2 k (i 0)) * dx (ix2 k (i 1)) := by
  pointwise [REF]
  exact Finset.sum_congr rfl fun _ _ => mul_comm _ _

end

section
open Cert.OutWeightIdeal Cert.OutWeightIdeal.Gen

variable (m : (ℓ : Loc nD τ sig) → Buf (Elt Ideal) ℓ)

/-- Every window's block index at every grid point. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The kernel's array for the gradient of w_out after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  rw [REF_at]
  pointwise [k0_pay1, REF, zero_sub]
  blk_point [iblk, V, idx t]

end

/-- The program terminates and leaves its arguments unchanged, over machine words. -/
theorem frame : Cert.quiescent_OutWeight := fun m ρ _ => Cert.OutWeight.Gen.frame m ρ

/-- The same over the extended reals. -/
theorem frameIdeal : Cert.quiescent_OutWeightIdeal := fun m ρ _ => Cert.OutWeightIdeal.Gen.frame m ρ

/-- The reference terminates and leaves its arguments unchanged. -/
theorem frameReference : Cert.quiescent_OutWeightReferenceIdeal := by
  intro m g _
  exact (θ_run _ _ _).mono (fun r h => ⟨fun c => (h c).2, sem_eq_zero_of_no_sems rfl _⟩)
    (Cert.OutWeightReferenceIdeal.Value.run m g)

set_option maxHeartbeats 1600000 in
/-- Over the extended reals the kernel returns what the reference returns. -/
theorem algebraic : Cert.algebraic_OutWeightIdeal_OutWeightReferenceIdeal := by
  pair_intro
  · run_from Cert.OutWeightIdeal.Gen.run_main m g
  · hlo_run
    exact (final_2 m c).symm

end Cert.OutWeightValue

end
-- ==== Proof.ProjQkv.lean ====
/- The queries, keys and values: what the kernel's arrays hold after the run. -/
module

public import proofs.«01_k».proof.Defs
public import proofs.«01_k».proof.Proof.Gen.ProjQkv.Frame
public import proofs.«01_k».proof.Proof.Gen.ProjQkvIdeal.Value
public import proofs.«01_k».proof.Proof.Gen.ProjQkvReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjQkvValue

section
open Cert.ProjQkvReferenceIdeal Cert.ProjQkvReferenceIdeal.Gen

/-- What the reference returns for the queries, keys and values. -/
def REF (h : FVec Ideal S4096x2048 .bf16) (wqkv : FVec Ideal S2048x3072 .bf16) :
    FVec Ideal S4096x3072 .f32 :=
  Host.dotGeneral dot_S4096x2048_S2048x3072_S4096x3072_1_0_0_1_n_n none (extf .f32 h bitsLt_bf16_f32) (extf .f32 wqkv bitsLt_bf16_f32)

end

section
open Cert.ProjQkvIdeal Cert.ProjQkvIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The kernel's array for the queries, keys and values after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  pointwise [k0_pay1, REF, zero_sub]
  blk_point [iblk, V, idx t]

end

/-- The program terminates and leaves its arguments unchanged, over machine words. -/
theorem frame : Cert.quiescent_ProjQkv := fun m ρ _ => Cert.ProjQkv.Gen.frame m ρ

/-- The same over the extended reals. -/
theorem frameIdeal : Cert.quiescent_ProjQkvIdeal := fun m ρ _ => Cert.ProjQkvIdeal.Gen.frame m ρ

/-- The reference terminates and leaves its arguments unchanged. -/
theorem frameReference : Cert.quiescent_ProjQkvReferenceIdeal := by
  intro m g _
  exact (θ_run _ _ _).mono (fun r h => ⟨fun c => (h c).2, sem_eq_zero_of_no_sems rfl _⟩)
    (Cert.ProjQkvReferenceIdeal.Value.run m g)

set_option maxHeartbeats 1600000 in
/-- Over the extended reals the kernel returns what the reference returns. -/
theorem algebraic : Cert.algebraic_ProjQkvIdeal_ProjQkvReferenceIdeal := by
  pair_intro
  · run_from Cert.ProjQkvIdeal.Gen.run_main m g
  · hlo_run
    exact (final_2 m c).symm

end Cert.ProjQkvValue

end
-- ==== Proof.ProjZ.lean ====
/- The gate of the state-space group: what the kernel's arrays hold after the run. -/
module

public import proofs.«01_k».proof.Defs
public import proofs.«01_k».proof.Proof.Gen.ProjZ.Frame
public import proofs.«01_k».proof.Proof.Gen.ProjZIdeal.Value
public import proofs.«01_k».proof.Proof.Gen.ProjZReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjZValue

section
open Cert.ProjZReferenceIdeal Cert.ProjZReferenceIdeal.Gen

/-- What the reference returns for the gate of the state-space group. -/
def REF (h : FVec Ideal S4096x2048 .bf16) (wz : FVec Ideal S2048x1024 .bf16) :
    FVec Ideal S4096x1024 .f32 :=
  Host.dotGeneral dot_S4096x2048_S2048x1024_S4096x1024_1_0_0_1_n_n none (extf .f32 h bitsLt_bf16_f32) (extf .f32 wz bitsLt_bf16_f32)

end

section
open Cert.ProjZIdeal Cert.ProjZIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The kernel's array for the gate of the state-space group after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  pointwise [k0_pay1, REF, zero_sub]
  blk_point [iblk, V, idx t]

end

/-- The program terminates and leaves its arguments unchanged, over machine words. -/
theorem frame : Cert.quiescent_ProjZ := fun m ρ _ => Cert.ProjZ.Gen.frame m ρ

/-- The same over the extended reals. -/
theorem frameIdeal : Cert.quiescent_ProjZIdeal := fun m ρ _ => Cert.ProjZIdeal.Gen.frame m ρ

/-- The reference terminates and leaves its arguments unchanged. -/
theorem frameReference : Cert.quiescent_ProjZReferenceIdeal := by
  intro m g _
  exact (θ_run _ _ _).mono (fun r h => ⟨fun c => (h c).2, sem_eq_zero_of_no_sems rfl _⟩)
    (Cert.ProjZReferenceIdeal.Value.run m g)

set_option maxHeartbeats 1600000 in
/-- Over the extended reals the kernel returns what the reference returns. -/
theorem algebraic : Cert.algebraic_ProjZIdeal_ProjZReferenceIdeal := by
  pair_intro
  · run_from Cert.ProjZIdeal.Gen.run_main m g
  · hlo_run
    exact (final_2 m c).symm

end Cert.ProjZValue

end
-- ==== Proof.ProjXbc.lean ====
/- The inputs of the convolution: what the kernel's arrays hold after the run. -/
module

public import proofs.«01_k».proof.Defs
public import proofs.«01_k».proof.Proof.Gen.ProjXbc.Frame
public import proofs.«01_k».proof.Proof.Gen.ProjXbcIdeal.Value
public import proofs.«01_k».proof.Proof.Gen.ProjXbcReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjXbcValue

section
open Cert.ProjXbcReferenceIdeal Cert.ProjXbcReferenceIdeal.Gen

/-- What the reference returns for the inputs of the convolution. -/
def REF (h : FVec Ideal S4096x2048 .bf16) (wxbc : FVec Ideal S2048x1536 .bf16) :
    FVec Ideal S4096x1536 .f32 :=
  Host.dotGeneral dot_S4096x2048_S2048x1536_S4096x1536_1_0_0_1_n_n none (extf .f32 h bitsLt_bf16_f32) (extf .f32 wxbc bitsLt_bf16_f32)

end

section
open Cert.ProjXbcIdeal Cert.ProjXbcIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The kernel's array for the inputs of the convolution after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  pointwise [k0_pay1, REF, zero_sub]
  blk_point [iblk, V, idx t]

end

/-- The program terminates and leaves its arguments unchanged, over machine words. -/
theorem frame : Cert.quiescent_ProjXbc := fun m ρ _ => Cert.ProjXbc.Gen.frame m ρ

/-- The same over the extended reals. -/
theorem frameIdeal : Cert.quiescent_ProjXbcIdeal := fun m ρ _ => Cert.ProjXbcIdeal.Gen.frame m ρ

/-- The reference terminates and leaves its arguments unchanged. -/
theorem frameReference : Cert.quiescent_ProjXbcReferenceIdeal := by
  intro m g _
  exact (θ_run _ _ _).mono (fun r h => ⟨fun c => (h c).2, sem_eq_zero_of_no_sems rfl _⟩)
    (Cert.ProjXbcReferenceIdeal.Value.run m g)

set_option maxHeartbeats 1600000 in
/-- Over the extended reals the kernel returns what the reference returns. -/
theorem algebraic : Cert.algebraic_ProjXbcIdeal_ProjXbcReferenceIdeal := by
  pair_intro
  · run_from Cert.ProjXbcIdeal.Gen.run_main m g
  · hlo_run
    exact (final_2 m c).symm

end Cert.ProjXbcValue

end
-- ==== Proof.ProjDt.lean ====
/- The step sizes before their bias: what the kernel's arrays hold after the run. -/
module

public import proofs.«01_k».proof.Defs
public import proofs.«01_k».proof.Proof.Gen.ProjDt.Frame
public import proofs.«01_k».proof.Proof.Gen.ProjDtIdeal.Value
public import proofs.«01_k».proof.Proof.Gen.ProjDtReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjDtValue

section
open Cert.ProjDtReferenceIdeal Cert.ProjDtReferenceIdeal.Gen

/-- What the reference returns for the step sizes before their bias. -/
def REF (h : FVec Ideal S4096x2048 .bf16) (wdt : FVec Ideal S2048x256 .bf16) :
    FVec Ideal S4096x256 .f32 :=
  Host.dotGeneral dot_S4096x2048_S2048x256_S4096x256_1_0_0_1_n_n none (extf .f32 h bitsLt_bf16_f32) (extf .f32 wdt bitsLt_bf16_f32)

end

section
open Cert.ProjDtIdeal Cert.ProjDtIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The kernel's array for the step sizes before their bias after the run is the reference's. -/
theorem final_2 (c : Dev nD) :
    (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf y => ?_
  blk_simp; rw [after0_2]; frame_out
  idx_vars y
  pointwise [k0_pay1, REF, zero_sub]
  blk_point [iblk, V, idx t]

end

/-- The program terminates and leaves its arguments unchanged, over machine words. -/
theorem frame : Cert.quiescent_ProjDt := fun m ρ _ => Cert.ProjDt.Gen.frame m ρ

/-- The same over the extended reals. -/
theorem frameIdeal : Cert.quiescent_ProjDtIdeal := fun m ρ _ => Cert.ProjDtIdeal.Gen.frame m ρ

/-- The reference terminates and leaves its arguments unchanged. -/
theorem frameReference : Cert.quiescent_ProjDtReferenceIdeal := by
  intro m g _
  exact (θ_run _ _ _).mono (fun r h => ⟨fun c => (h c).2, sem_eq_zero_of_no_sems rfl _⟩)
    (Cert.ProjDtReferenceIdeal.Value.run m g)

set_option maxHeartbeats 1600000 in
/-- Over the extended reals the kernel returns what the reference returns. -/
theorem algebraic : Cert.algebraic_ProjDtIdeal_ProjDtReferenceIdeal := by
  pair_intro
  · run_from Cert.ProjDtIdeal.Gen.run_main m g
  · hlo_run
    exact (final_2 m c).symm

end Cert.ProjDtValue

end
-- ==== Proof.ProjOut.lean ====
/- The output projection with its residual: what the kernel's arrays hold after the run. -/
module

public import proofs.«01_k».proof.Defs
public import proofs.«01_k».proof.Proof.Gen.ProjOut.Frame
public import proofs.«01_k».proof.Proof.Gen.ProjOutIdeal.Value
public import proofs.«01_k».proof.Proof.Gen.ProjOutReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjOutValue

section
open Cert.ProjOutReferenceIdeal Cert.ProjOutReferenceIdeal.Gen

/-- What the reference returns for the output projection with its residual. -/
def REF (mix : FVec Ideal S4096x2048 .bf16) (wout : FVec Ideal S2048x2048 .bf16) (x : FVec Ideal S4096x2048 .f32) :
    FVec Ideal S4096x2048 .f32 :=
  addf x (Host.dotGeneral dot_S4096x2048_S2048x2048_S4096x2048_1_0_0_1_n_n none (extf .f32 mix bitsLt_bf16_f32) (extf .f32 wout bitsLt_bf16_f32))

end

section
open Cert.ProjOutIdeal Cert.ProjOutIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- The kernel's array for the output projection with its residual after the run is the reference's. -/
theorem final_3 (c : Dev nD) :
    (dats m 0 c).arrAt 3 (cfgs 0).N = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp; rw [after0_3]; frame_out
  idx_vars y
  pointwise [k0_pay1, REF, zero_sub]
  blk_point [iblk, V, idx t]

end

/-- The program terminates and leaves its arguments unchanged, over machine words. -/
theorem frame : Cert.quiescent_ProjOut := fun m ρ _ => Cert.ProjOut.Gen.frame m ρ

/-- The same over the extended reals. -/
theorem frameIdeal : Cert.quiescent_ProjOutIdeal := fun m ρ _ => Cert.ProjOutIdeal.Gen.frame m ρ

/-- The reference terminates and leaves its arguments unchanged. -/
theorem frameReference : Cert.quiescent_ProjOutReferenceIdeal := by
  intro m g _
  exact (θ_run _ _ _).mono (fun r h => ⟨fun c => (h c).2, sem_eq_zero_of_no_sems rfl _⟩)
    (Cert.ProjOutReferenceIdeal.Value.run m g)

set_option maxHeartbeats 1600000 in
/-- Over the extended reals the kernel returns what the reference returns. -/
theorem algebraic : Cert.algebraic_ProjOutIdeal_ProjOutReferenceIdeal := by
  pair_intro
  · run_from Cert.ProjOutIdeal.Gen.run_main m g
  · hlo_run
    exact (final_3 m c).symm

end Cert.ProjOutValue

end
-- ==== Proof.GateUp.lean ====
/- The hidden layer of the SwiGLU mixer: what the kernel's arrays hold after the run. -/
module

public import proofs.«01_k».proof.Defs
public import proofs.«01_k».proof.Proof.Gen.GateUp.Frame
public import proofs.«01_k».proof.Proof.Gen.GateUpIdeal.Value
public import proofs.«01_k».proof.Proof.Gen.GateUpReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.GateUpValue

section
open Cert.GateUpReferenceIdeal Cert.GateUpReferenceIdeal.Gen

/-- What the reference returns for the gate. -/
def GATE (h2 : FVec Ideal S4096x2048 .bf16) (wg : FVec Ideal S2048x5632 .bf16) :
    FVec Ideal S4096x5632 .f32 :=
  Host.dotGeneral dot_S4096x2048_S2048x5632_S4096x5632_1_0_0_1_n_n none (extf .f32 h2 bitsLt_bf16_f32) (extf .f32 wg bitsLt_bf16_f32)

/-- What the reference returns for the up projection. -/
def UP (h2 : FVec Ideal S4096x2048 .bf16) (wu : FVec Ideal S2048x5632 .bf16) :
    FVec Ideal S4096x5632 .f32 :=
  Host.dotGeneral dot_S4096x2048_S2048x5632_S4096x5632_1_0_0_1_n_n none (extf .f32 h2 bitsLt_bf16_f32) (extf .f32 wu bitsLt_bf16_f32)

/-- What the reference returns for the activation. -/
def ACT (h2 : FVec Ideal S4096x2048 .bf16) (wg : FVec Ideal S2048x5632 .bf16) (wu : FVec Ideal S2048x5632 .bf16) :
    FVec Ideal S4096x5632 .bf16 :=
  truncf .bf16 (mulf (mulf (Host.dotGeneral dot_S4096x2048_S2048x5632_S4096x5632_1_0_0_1_n_n none (extf .f32 h2 bitsLt_bf16_f32) (extf .f32 wg bitsLt_bf16_f32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (Host.dotGeneral dot_S4096x2048_S2048x5632_S4096x5632_1_0_0_1_n_n none (extf .f32 h2 bitsLt_bf16_f32) (extf .f32 wg bitsLt_bf16_f32))))))) (Host.dotGeneral dot_S4096x2048_S2048x5632_S4096x5632_1_0_0_1_n_n none (extf .f32 h2 bitsLt_bf16_f32) (extf .f32 wu bitsLt_bf16_f32))) bitsLt_bf16_f32

end

section
open Cert.GateUpIdeal Cert.GateUpIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![0, (grid0.coords t 1).val]
    ∧ win0_2.index t = ![(grid0.coords t 0).val, 0]
    ∧ win0_3.index t = ![0, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val] :=
  (by decide +kernel : ∀ t : Fin grid0.N, _)

/-- The kernel's array for the gate after the run is the reference's. -/
theorem final_4 (c : Dev nD) :
    (dats m 0 c).arrAt 4 (cfgs 0).N = GATE (m ((c.tc : Thread nD τ).loc main_arg0)) (m ((c.tc : Thread nD τ).loc main_arg1)) := by
  refine (dats m 0 c).arrAt_eq_of_covers 4 _ (by decide +kernel) fun t hf y => ?_
  blk_simp; rw [after0_4]; frame_out
  idx_vars y
  pointwise [k0_pay3, k0_pay2, k0_pay1, GATE, zero_sub]
  blk_point [iblk, V, idx t]

/-- The kernel's array for the up projection after the run is the reference's. -/
theorem final_5 (c : Dev nD) :
    (dats m 0 c).arrAt 5 (cfgs 0).N = UP (m ((c.tc : Thread nD τ).loc main_arg0)) (m ((c.tc : Thread nD τ).loc main_arg2)) := by
  refine (dats m 0 c).arrAt_eq_of_covers 5 _ (by decide +kernel) fun t hf y => ?_
  blk_simp; rw [after0_5]; frame_out
  idx_vars y
  pointwise [k0_pay3, k0_pay2, k0_pay1, UP, zero_sub]
  blk_point [iblk, V, idx t]

/-- The kernel's array for the activation after the run is the reference's. -/
theorem final_6 (c : Dev nD) :
    (dats m 0 c).arrAt 6 (cfgs 0).N = ACT (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  blk_simp; rw [after0_6]; frame_out
  idx_vars y
  pointwise [k0_pay3, k0_pay2, k0_pay1, ACT, zero_sub]
  blk_point [iblk, V, idx t]

end

/-- The program terminates and leaves its arguments unchanged, over machine words. -/
theorem frame : Cert.quiescent_GateUp := fun m ρ _ => Cert.GateUp.Gen.frame m ρ

/-- The same over the extended reals. -/
theorem frameIdeal : Cert.quiescent_GateUpIdeal := fun m ρ _ => Cert.GateUpIdeal.Gen.frame m ρ

/-- The reference terminates and leaves its arguments unchanged. -/
theorem frameReference : Cert.quiescent_GateUpReferenceIdeal := by
  intro m g _
  exact (θ_run _ _ _).mono (fun r h => ⟨fun c => (h c).2.2.2, sem_eq_zero_of_no_sems rfl _⟩)
    (Cert.GateUpReferenceIdeal.Value.run m g)

set_option maxHeartbeats 1600000 in
/-- Over the extended reals the kernel returns what the reference returns. -/
theorem algebraic : Cert.algebraic_GateUpIdeal_GateUpReferenceIdeal := by
  pair_intro
  · run_from Cert.GateUpIdeal.Gen.run_main m g
  · hlo_run
    · exact (final_4 m c).symm
    · exact (final_5 m c).symm
    · exact (final_6 m c).symm

end Cert.GateUpValue

end
-- ==== Proof.FfnDown.lean ====
/- The down projection with its residual: what the kernel's arrays hold after the run. -/
module

public import proofs.«01_k».proof.Defs
public import proofs.«01_k».proof.Proof.Gen.FfnDown.Frame
public import proofs.«01_k».proof.Proof.Gen.FfnDownIdeal.Value
public import proofs.«01_k».proof.Proof.Gen.FfnDownReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FfnDownValue

section
open Cert.FfnDownReferenceIdeal Cert.FfnDownReferenceIdeal.Gen

/-- What the reference returns for the down projection with its residual. -/
def REF (act : FVec Ideal S4096x5632 .bf16) (wd : FVec Ideal S5632x2048 .bf16) (x : FVec Ideal S4096x2048 .f32) :
    FVec Ideal S4096x2048 .f32 :=
  addf x (Host.dotGeneral dot_S4096x5632_S5632x2048_S4096x2048_1_0_0_1_n_n none (extf .f32 act bitsLt_bf16_f32) (extf .f32 wd bitsLt_bf16_f32))

end

section
open Cert.FfnDownIdeal Cert.FfnDownIdeal.Gen

variable (m : (ℓ : Loc nD τ sig) → Buf (Elt Ideal) ℓ)

/-- Every window's block index at every grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- The kernel's array for the down projection with its residual after the run is the reference's. -/
theorem final_3 (c : Dev nD) :
    (dats m 0 c).arrAt 3 (cfgs 0).N = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp; rw [after0_3]; frame_out
  idx_vars y
  pointwise [k0_pay1, REF, zero_sub]
  blk_point [iblk, V, idx t]

end

/-- The program terminates and leaves its arguments unchanged, over machine words. -/
theorem frame : Cert.quiescent_FfnDown := fun m ρ _ => Cert.FfnDown.Gen.frame m ρ

/-- The same over the extended reals. -/
theorem frameIdeal : Cert.quiescent_FfnDownIdeal := fun m ρ _ => Cert.FfnDownIdeal.Gen.frame m ρ

/-- The reference terminates and leaves its arguments unchanged. -/
theorem frameReference : Cert.quiescent_FfnDownReferenceIdeal := by
  intro m g _
  exact (θ_run _ _ _).mono (fun r h => ⟨fun c => (h c).2, sem_eq_zero_of_no_sems rfl _⟩)
    (Cert.FfnDownReferenceIdeal.Value.run m g)

set_option maxHeartbeats 1600000 in
/-- Over the extended reals the kernel returns what the reference returns. -/
theorem algebraic : Cert.algebraic_FfnDownIdeal_FfnDownReferenceIdeal := by
  pair_intro
  · run_from Cert.FfnDownIdeal.Gen.run_main m g
  · hlo_run
    exact (final_3 m c).symm

end Cert.FfnDownValue

end
-- ==== Proof.Rms.lean ====
/- The derivative of an RMS normalisation over the extended reals: the form the kernels compute, with the row's mean
   taken of the normalised row, and the form the product rule gives are equal at every row, infinite rows included. -/
module

public import proofs.«01_k».proof.Proof.Reals

@[expose] public section

noncomputable section

namespace Cert.Reals

open Idealize.ShloMosaic
open scoped BigOperators

/-- `x` is a positive real number. -/
def IsPos (x : EReal) : Prop := ∃ r : ℝ, 0 < r ∧ x = (r : EReal)

theorem isPos_2048 : IsPos (Ideal.ofBits .f32 0x45000000#32) := by
  refine ⟨2048, by norm_num, ?_⟩
  show Ideal.ieee 8 23 (0x45000000#32 : BitVec 32) = ((2048 : ℝ) : EReal)
  unfold Ideal.ieee
  norm_num [show (BitVec.extractLsb' 23 8 (0x45000000#32)).toNat = 138 by decide,
    show (BitVec.extractLsb' 0 23 (0x45000000#32)).toNat = 0 by decide,
    show (BitVec.extractLsb' 31 1 (0x45000000#32) == 1#1) = false by decide]

theorem isPos_1024 : IsPos (Ideal.ofBits .f32 0x44800000#32) := by
  refine ⟨1024, by norm_num, ?_⟩
  show Ideal.ieee 8 23 (0x44800000#32 : BitVec 32) = ((1024 : ℝ) : EReal)
  unfold Ideal.ieee
  norm_num [show (BitVec.extractLsb' 23 8 (0x44800000#32)).toNat = 137 by decide,
    show (BitVec.extractLsb' 0 23 (0x44800000#32)).toNat = 0 by decide,
    show (BitVec.extractLsb' 31 1 (0x44800000#32) == 1#1) = false by decide]

theorem isPos_512 : IsPos (Ideal.ofBits .f32 0x44000000#32) := by
  refine ⟨512, by norm_num, ?_⟩
  show Ideal.ieee 8 23 (0x44000000#32 : BitVec 32) = ((512 : ℝ) : EReal)
  unfold Ideal.ieee
  norm_num [show (BitVec.extractLsb' 23 8 (0x44000000#32)).toNat = 136 by decide,
    show (BitVec.extractLsb' 0 23 (0x44000000#32)).toNat = 0 by decide,
    show (BitVec.extractLsb' 31 1 (0x44000000#32) == 1#1) = false by decide]

/-- The constant under the root is a positive real number. -/
theorem isPos_eps : IsPos (Ideal.ofBits .f32 0x358637BD#32) := by
  refine ⟨8796093 * 2 ^ (-43 : ℤ), by positivity, ?_⟩
  show Ideal.ieee 8 23 (0x358637BD#32 : BitVec 32) = ((8796093 * 2 ^ (-43 : ℤ) : ℝ) : EReal)
  unfold Ideal.ieee
  norm_num [show (BitVec.extractLsb' 23 8 (0x358637BD#32)).toNat = 107 by decide,
    show (BitVec.extractLsb' 0 23 (0x358637BD#32)).toNat = 407485 by decide,
    show (BitVec.extractLsb' 31 1 (0x358637BD#32) == 1#1) = false by decide]

theorem ofBits_neg_half : Ideal.ofBits .f32 0xBF000000#32 = ((-(1 / 2) : ℝ) : EReal) := by
  show Ideal.ieee 8 23 (0xBF000000#32 : BitVec 32) = ((-(1 / 2) : ℝ) : EReal)
  unfold Ideal.ieee
  norm_num [show (BitVec.extractLsb' 23 8 (0xBF000000#32)).toNat = 126 by decide,
    show (BitVec.extractLsb' 0 23 (0xBF000000#32)).toNat = 0 by decide,
    show (BitVec.extractLsb' 31 1 (0xBF000000#32) == 1#1) = true by decide]

/-- A nonnegative real factor goes into a sum of two extended reals. -/
theorem coe_mul_add (a : ℝ) (ha : 0 ≤ a) (x y : EReal) : (a : EReal) * (x + y) = a * x + a * y :=
  EReal.left_distrib_of_nonneg_of_ne_top (by exact_mod_cast ha) (EReal.coe_ne_top a) x y

/-- A nonnegative real factor goes into a finite sum of extended reals. -/
theorem coe_mul_sum {ι : Type} (s : Finset ι) (f : ι → EReal) (a : ℝ) (ha : 0 ≤ a) :
    (a : EReal) * ∑ i ∈ s, f i = ∑ i ∈ s, (a : EReal) * f i := by
  classical
  induction s using Finset.induction_on with
  | empty => simp
  | insert i s hi ih => rw [Finset.sum_insert hi, Finset.sum_insert hi, coe_mul_add _ ha, ih]

theorem mul_self_nonneg (x : EReal) : 0 ≤ x * x := by
  induction x using EReal.rec with
  | bot => simp
  | coe r => exact_mod_cast _root_.mul_self_nonneg r
  | top => simp

/-- Dividing by a positive real is multiplying by its inverse. -/
theorem div_pos_coe (x : EReal) (a : ℝ) (ha : 0 < a) : Ideal.div x (a : EReal) = x * ((a⁻¹ : ℝ) : EReal) := by
  unfold Ideal.div
  rw [if_neg (by exact_mod_cast ha.ne'), EReal.coe_inv]

/-- The mean of squares plus a positive constant is `⊤` or a positive real. -/
theorem ms_cases {ι : Type} [Fintype ι] (x : ι → EReal) {N e : EReal} (hN : IsPos N) (he : IsPos e) :
    Ideal.div (∑ k, x k * x k) N + e = ⊤ ∨ IsPos (Ideal.div (∑ k, x k * x k) N + e) := by
  obtain ⟨n, hn, rfl⟩ := hN
  obtain ⟨ε, hε, rfl⟩ := he
  have h0 : 0 ≤ ∑ k, x k * x k := Finset.sum_nonneg fun k _ => mul_self_nonneg _
  rw [div_pos_coe _ _ hn]
  generalize (∑ k, x k * x k) = S at h0
  induction S using EReal.rec with
  | bot => exact absurd h0 (by simp)
  | coe s =>
    have hs : 0 ≤ s := by exact_mod_cast h0
    exact .inr ⟨s * n⁻¹ + ε, by positivity, by norm_cast⟩
  | top =>
    left
    rw [EReal.top_mul_of_pos (by exact_mod_cast inv_pos.2 hn)]
    exact EReal.top_add_coe _

theorem rsqrt_pos (a : ℝ) (ha : 0 < a) : Ideal.rsqrt (a : EReal) = (((Real.sqrt a)⁻¹ : ℝ) : EReal) := by
  rw [Ideal.rsqrt_coe, if_neg (not_lt.2 ha.le), if_neg ha.ne']

/-- Twice the negative of a half is the negative of the whole, at every extended real. -/
theorem neg_half_twice (c : ℝ) (Q : EReal) :
    Q * ((-(1 / 2 * c) : ℝ) : EReal) + Q * ((-(1 / 2 * c) : ℝ) : EReal) = -(Q * (c : EReal)) := by
  rcases lt_trichotomy c 0 with hc | hc | hc
  · have h : (0 : ℝ) < -(1 / 2 * c) := by linarith
    induction Q using EReal.rec with
    | bot => rw [EReal.bot_mul_coe_of_pos h, EReal.bot_mul_coe_of_neg hc]; rfl
    | coe q => norm_cast; ring
    | top => rw [EReal.top_mul_coe_of_pos h, EReal.top_mul_coe_of_neg hc]; rfl
  · subst hc; simp
  · have h : -(1 / 2 * c) < (0 : ℝ) := by linarith
    induction Q using EReal.rec with
    | bot => rw [EReal.bot_mul_coe_of_neg h, EReal.bot_mul_coe_of_pos hc]; rfl
    | coe q => norm_cast; ring
    | top => rw [EReal.top_mul_coe_of_neg h, EReal.top_mul_coe_of_pos hc]; rfl

/-- The gradient of `x · rsqrt(mean x² + e)` against a cotangent row `dy`. -/
theorem rms_grad {ι : Type} [Fintype ι] (x dy : ι → EReal) (i : ι) {N e : EReal} (hN : IsPos N) (he : IsPos e) :
    Ideal.rsqrt (Ideal.div (∑ k, x k * x k) N + e)
        * (dy i - x i * Ideal.rsqrt (Ideal.div (∑ k, x k * x k) N + e)
            * Ideal.div (∑ k, dy k * (x k * Ideal.rsqrt (Ideal.div (∑ k, x k * x k) N + e))) N)
      = dy i * Ideal.rsqrt (Ideal.div (∑ k, x k * x k) N + e)
        + x i * Ideal.div ((∑ k, x k * dy k) * (Ideal.ofBits .f32 0xBF000000#32
            * Ideal.div (Ideal.rsqrt (Ideal.div (∑ k, x k * x k) N + e)) (Ideal.div (∑ k, x k * x k) N + e))) N
        + Ideal.div ((∑ k, x k * dy k) * (Ideal.ofBits .f32 0xBF000000#32
            * Ideal.div (Ideal.rsqrt (Ideal.div (∑ k, x k * x k) N + e)) (Ideal.div (∑ k, x k * x k) N + e))) N * x i := by
  have hM := ms_cases x hN he
  obtain ⟨n, hn, rfl⟩ := hN
  generalize Ideal.div (∑ k, x k * x k) (n : EReal) + e = M at hM
  rcases hM with rfl | ⟨μ, hμ, rfl⟩
  · have h : Ideal.div (0 : EReal) ⊤ = 0 := by unfold Ideal.div; simp
    simp [div_pos_coe _ _ hn, h]
  · rw [rsqrt_pos μ hμ, div_coe_coe _ _ hμ.ne', ofBits_neg_half]
    simp only [div_pos_coe _ _ hn]
    have hs : ((Real.sqrt μ)⁻¹ : ℝ) / μ = (Real.sqrt μ)⁻¹ ^ 3 := by
      have h1 : Real.sqrt μ ≠ 0 := (Real.sqrt_pos.2 hμ).ne'
      have h2 : μ = Real.sqrt μ * Real.sqrt μ := (Real.mul_self_sqrt hμ.le).symm
      rw [div_eq_iff hμ.ne']
      field_simp
      nlinarith [h2]
    rw [hs]
    have hρ : 0 ≤ (Real.sqrt μ)⁻¹ := by positivity
    generalize (Real.sqrt μ)⁻¹ = ρ at hρ
    have hsum : (∑ k, dy k * (x k * (ρ : EReal))) = (ρ : EReal) * ∑ k, x k * dy k := by
      rw [coe_mul_sum _ _ _ hρ]
      exact Finset.sum_congr rfl fun k _ => by ac_rfl
    rw [hsum]
    generalize (∑ k, x k * dy k) = S
    have e1 : (ρ : EReal) * (dy i - x i * ρ * ((ρ : EReal) * S * ((n⁻¹ : ℝ) : EReal)))
        = dy i * ρ + -(x i * (S * ((n⁻¹ : ℝ) : EReal)) * ((ρ ^ 3 : ℝ) : EReal)) := by
      rw [sub_eq_add_neg, coe_mul_add _ hρ, mul_comm (ρ : EReal) (dy i), mul_neg]
      congr 2
      rw [show ((ρ ^ 3 : ℝ) : EReal) = (ρ : EReal) * ((ρ : EReal) * (ρ : EReal)) by norm_cast; ring]
      ac_rfl
    rw [e1, add_assoc, ← neg_half_twice]
    congr 1
    rw [show ((-(1 / 2 * ρ ^ 3) : ℝ) : EReal) = ((-(1 / 2) : ℝ) : EReal) * ((ρ ^ 3 : ℝ) : EReal) by norm_cast; ring]
    congr 1 <;> ac_rfl

/-- The gradient of `x · rsqrt(mean x² + e)` against a real cotangent row is zero, or it is a real number and so is the
    row's element. -/
theorem rms_grad_real {ι : Type} [Fintype ι] (x dy : ι → EReal) (i : ι) {N e : EReal} (hN : IsPos N) (he : IsPos e)
    (h : ∀ k, IsReal (dy k)) :
    Ideal.rsqrt (Ideal.div (∑ k, x k * x k) N + e)
        * (dy i - x i * Ideal.rsqrt (Ideal.div (∑ k, x k * x k) N + e)
            * Ideal.div (∑ k, dy k * (x k * Ideal.rsqrt (Ideal.div (∑ k, x k * x k) N + e))) N) = 0
      ∨ IsReal (Ideal.rsqrt (Ideal.div (∑ k, x k * x k) N + e)
        * (dy i - x i * Ideal.rsqrt (Ideal.div (∑ k, x k * x k) N + e)
            * Ideal.div (∑ k, dy k * (x k * Ideal.rsqrt (Ideal.div (∑ k, x k * x k) N + e))) N)) ∧ IsReal (x i) := by
  by_cases hx : ∀ k, IsReal (x k)
  · right
    rcases ms_cases x hN he with hM | ⟨μ, hμ, hM⟩
    · rw [hM, Ideal.rsqrt_top, zero_mul]
      exact ⟨IsReal.zero, hx i⟩
    · obtain ⟨n, hn, rfl⟩ := hN
      rw [hM, rsqrt_pos μ hμ]
      simp only [div_pos_coe _ _ hn]
      exact ⟨(IsReal.coe _).mul ((h i).sub (((hx i).mul (IsReal.coe _)).mul
        ((IsReal.sum _ _ fun k _ => (h k).mul ((hx k).mul (IsReal.coe _))).mul (IsReal.coe _)))), hx i⟩
  · left
    obtain ⟨k, hk⟩ := not_forall.1 hx
    have hk2 : x k * x k = ⊤ := by
      generalize x k = a at hk
      induction a using EReal.rec with
      | bot => simp
      | coe r => exact absurd ⟨r, rfl⟩ hk
      | top => simp
    have hs : (∑ k, x k * x k) = ⊤ := by
      refine top_unique (hk2 ▸ ?_)
      exact Finset.single_le_sum (f := fun k => x k * x k) (fun k _ => mul_self_nonneg (x k)) (Finset.mem_univ k)
    obtain ⟨n, hn, rfl⟩ := hN
    obtain ⟨ε, hε, rfl⟩ := he
    rw [hs, div_pos_coe _ _ hn, EReal.top_mul_of_pos (by exact_mod_cast inv_pos.2 hn), EReal.top_add_coe,
      Ideal.rsqrt_top, zero_mul]

/-- The derivative of `y · z · σ(z)` in `z` against a real cotangent `d` that is zero where the product is infinite: the
    factored form and the product rule's two terms agree. -/
theorem gate_grad (d y z : EReal) (hd : d = 0 ∨ IsReal d ∧ IsReal (y * (z * logi z))) :
    d * y * (logi z + z * logi z * (1 - logi z)) = y * d * logi z + z * (y * d) * (logi z * (1 - logi z)) := by
  rcases hd with rfl | ⟨⟨a, rfl⟩, hy⟩
  · simp
  · induction z using EReal.rec with
    | coe r =>
      by_cases hr : r = 0
      · subst hr; simp [mul_comm]
      · have hs : (0 : ℝ) < 1 / (1 + Real.exp (-r)) := by positivity
        rw [logi_coe] at hy ⊢
        generalize (1 / (1 + Real.exp (-r)) : ℝ) = s at hs hy
        have hyr : IsReal y := by
          induction y using EReal.rec with
          | coe v => exact IsReal.coe v
          | top =>
            obtain ⟨v, hv⟩ := hy
            rw [← EReal.coe_mul] at hv
            rcases lt_or_gt_of_ne hr with h0 | h0
            · rw [EReal.top_mul_coe_of_neg (mul_neg_of_neg_of_pos h0 hs)] at hv; exact absurd hv (by simp)
            · rw [EReal.top_mul_coe_of_pos (mul_pos h0 hs)] at hv; exact absurd hv (by simp)
          | bot =>
            obtain ⟨v, hv⟩ := hy
            rw [← EReal.coe_mul] at hv
            rcases lt_or_gt_of_ne hr with h0 | h0
            · rw [EReal.bot_mul_coe_of_neg (mul_neg_of_neg_of_pos h0 hs)] at hv; exact absurd hv (by simp)
            · rw [EReal.bot_mul_coe_of_pos (mul_pos h0 hs)] at hv; exact absurd hv (by simp)
        obtain ⟨v, rfl⟩ := hyr
        norm_cast; ring
    | top =>
      have h : (1 : EReal) - 1 = 0 := by rw [← EReal.coe_one, ← EReal.coe_sub]; simp
      rw [logi_top, h]; simp [mul_comm]
    | bot => rw [logi_bot]; simp

end Cert.Reals

end
-- ==== Proof.Norm.lean ====
/- The gradient of an RMS normalisation: what the kernel's three result arrays hold. -/
module

public import proofs.«01_k».proof.Defs
public import proofs.«01_k».proof.Proof.Gen.Norm.Frame
public import proofs.«01_k».proof.Proof.Gen.NormIdeal.Value
public import proofs.«01_k».proof.Proof.Gen.NormReferenceIdeal.Run
public import proofs.«01_k».proof.Proof.Rms
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.NormValue

open Cert.Reals

section
open Cert.NormReferenceIdeal Cert.NormReferenceIdeal.Gen

/-- The mean of a row's squares plus the constant under the root. -/
def MS (x : FVec Ideal S4096x2048 .f32) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

/-- The cotangent times the gain. -/
def DY (g : FVec Ideal S2048 .f32) (dh : FVec Ideal S4096x2048 .f32) : FVec Ideal S4096x2048 .f32 :=
  mulf dh (broadcastInDim S4096x2048 ![0, 1] bcast_S1x2048_S4096x2048_0_1 (broadcastInDim S1x2048 ![1] bcast_S2048_S1x2048_1 g))

/-- The gradient through the mean of squares, before the factor of the row's own element. -/
def DM (x : FVec Ideal S4096x2048 .f32) (g : FVec Ideal S2048 .f32) (dh : FVec Ideal S4096x2048 .f32) :
    FVec Ideal S4096x2048 .f32 :=
  broadcastInDim S4096x2048 ![0] bcast_S4096_S4096x2048_0 (Host.reduceAdd (Host.divf (mulf (shapeCast S4096x1 (Host.reduceAdd (mulf x (DY g dh)) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (MS x)) (MS x)))) (broadcastInDim S4096x1 ![] bcast_S_S4096x1 (constant S_ .f32 0x45000000#32))) (constant S_ .f32 0x00000000#32) reducesTo_S4096x1_S4096_d1 h_S_)

/-- The reference's gradient of the input, the residual's added. -/
def DX (x : FVec Ideal S4096x2048 .f32) (g : FVec Ideal S2048 .f32) (dh dres : FVec Ideal S4096x2048 .f32) :
    FVec Ideal S4096x2048 .f32 :=
  addf (addf (addf (mulf (DY g dh) (broadcastInDim S4096x2048 ![0, 1] bcast_S4096x1_S4096x2048_0_1 (Host.rsqrt (MS x)))) (mulf x (DM x g dh))) (mulf (DM x g dh) x)) dres

/-- The same, narrowed. -/
def DXB (x : FVec Ideal S4096x2048 .f32) (g : FVec Ideal S2048 .f32) (dh dres : FVec Ideal S4096x2048 .f32) :
    FVec Ideal S4096x2048 .bf16 := truncf .bf16 (DX x g dh dres) bitsLt_bf16_f32

/-- The reference's gradient of the gain. -/
def DG (x dh : FVec Ideal S4096x2048 .f32) : FVec Ideal S1x2048 .f32 :=
  shapeCast S1x2048 (Host.reduceAdd (shapeCast S1x2048 (Host.reduceAdd (mulf (mulf x (broadcastInDim S4096x2048 ![0, 1] bcast_S4096x1_S4096x2048_0_1 (Host.rsqrt (MS x)))) dh) (constant S_ .f32 0x00000000#32) reducesTo_S4096x2048_S2048_d0 h_S_) shapeCasts_S2048_S1x2048) (constant S_ .f32 0x00000000#32) reducesTo_S1x2048_S2048_d0 h_S_) shapeCasts_S2048_S1x2048

/-- The mean of a row's squares plus the constant under the root, at a row. -/
def ms {n : ℕ} (x : FVec Ideal (Shape.mk 2 ![n, 2048]) .f32) (r : Fin n) : EReal :=
  Ideal.div (∑ k : Fin 2048, x (ix2 r k) * x (ix2 r k)) (Ideal.ofBits .f32 0x45000000#32) + Ideal.ofBits .f32 0x358637BD#32

/-- The reference's gradient of the input at an index, in the form the kernel computes. -/
theorem DX_at (x : FVec Ideal S4096x2048 .f32) (g : FVec Ideal S2048 .f32) (dh dres : FVec Ideal S4096x2048 .f32)
    (i : S4096x2048.Idx) :
    DX x g dh dres i
      = Ideal.rsqrt (ms x (i 0)) * (dh (ix2 (i 0) (i 1)) * g (ix1 (i 1)) - x (ix2 (i 0) (i 1)) * Ideal.rsqrt (ms x (i 0))
          * Ideal.div (∑ k : Fin 2048, dh (ix2 (i 0) k) * g (ix1 k) * (x (ix2 (i 0) k) * Ideal.rsqrt (ms x (i 0))))
              (Ideal.ofBits .f32 0x45000000#32)) + dres (ix2 (i 0) (i 1)) := by
  unfold ms
  rw [rms_grad (fun k => x (ix2 (i 0) k)) (fun k => dh (ix2 (i 0) k) * g (ix1 k)) (i 1) isPos_2048 isPos_eps]
  pointwise [DX, DM, DY, MS]
  simp only [Finset.univ_unique, Finset.sum_singleton]

/-- The reference's gradient of the gain at an index, each term in the kernel's order. -/
theorem DG_at (x dh : FVec Ideal S4096x2048 .f32) (i : S1x2048.Idx) :
    DG x dh i = ∑ k : Fin 4096, dh (ix2 k (i 1)) * (x (ix2 k (i 1)) * Ideal.rsqrt (ms x k)) := by
  unfold ms
  pointwise [DG, MS]
  simp only [Finset.univ_unique, Finset.sum_singleton]
  exact Finset.sum_congr rfl fun _ _ => mul_comm _ _

end

section
open Cert.NormIdeal Cert.NormIdeal.Gen

/-- What the body stores into the input gradient's block, at an index. -/
theorem pay5_at (x : FVec Ideal S256x2048 .f32) (g : FVec Ideal S1x2048 .f32) (dh dres : FVec Ideal S256x2048 .f32)
    (r : Fin 256) (l : Fin 2048) :
    k0_pay5 (F := Ideal) x g dh dres (ix2 r l)
      = Ideal.rsqrt (ms x r) * (dh (ix2 r l) * g (ix2 0 l) - x (ix2 r l) * Ideal.rsqrt (ms x r)
          * Ideal.div (∑ k : Fin 2048, dh (ix2 r k) * g (ix2 0 k) * (x (ix2 r k) * Ideal.rsqrt (ms x r)))
              (Ideal.ofBits .f32 0x45000000#32)) + dres (ix2 r l) := by
  unfold ms
  pointwise [k0_pay5, k0_pay3, k0_pay2]

/-- What the body adds to the gain's gradient, at an index. -/
theorem pay1_at (x dh : FVec Ideal S256x2048 .f32) (acc : FVec Ideal S1x2048 .f32) (i : S1x2048.Idx) :
    k0_pay1 (F := Ideal) (k0_pay4 (F := Ideal) x dh) acc i
      = acc i + ∑ k : Fin 256, dh (ix2 k (i 1)) * (x (ix2 k (i 1)) * Ideal.rsqrt (ms x k)) := by
  unfold ms
  pointwise [k0_pay1, k0_pay4, k0_pay3, k0_pay2]

/-- The gain's gradient starts at zero. -/
theorem pay7_at (i : S1x2048.Idx) : k0_pay7 (F := Ideal) i = 0 := by pointwise [k0_pay7]

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![0, 0] :=
  (by decide +kernel : ∀ t : Fin grid0.N, _)

/-- What every point leaves in the two input-gradient blocks. -/
theorem outs_at (c : Dev nD) (t : Fin cfg0.N) (y : S256x2048.Idx) :
    (outsAt0 m c t.val t.isLt).1 y = k0_pay5 (F := Ideal) (iblk m c 0 t) (iblk m c 1 t) (iblk m c 2 t) (iblk m c 3 t) y
      ∧ (outsAt0 m c t.val t.isLt).2.1 y
        = k0_pay6 (F := Ideal) (iblk m c 0 t) (iblk m c 1 t) (iblk m c 2 t) (iblk m c 3 t) y := by
  by_cases h : t.val % 16 = 0
  · rw [outsAt0_A m c t h]; constructor <;> frame_out
  · rw [outsAt0_B m c t h]; constructor <;> frame_out

/-- The input gradient's array after the run is the reference's. -/
theorem final_4 (c : Dev nD) :
    (dats m 0 c).arrAt 4 (cfgs 0).N = DX (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  blk_simp; rw [after0_4, (outs_at m c t y).1]
  idx_vars y
  rw [pay5_at, DX_at]
  unfold ms
  blk_point [iblk, V, idx t]

/-- The narrowed input gradient's array after the run is the reference's. -/
theorem final_5 (c : Dev nD) :
    (dats m 0 c).arrAt 5 (cfgs 0).N = DXB (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 5 _ (by decide +kernel) fun t hf y => ?_
  blk_simp; rw [after0_5, (outs_at m c t y).2]
  idx_vars y
  unfold k0_pay6
  pointwise [DXB]
  rw [pay5_at]
  rw [DX_at]
  unfold ms
  blk_point [iblk, V, idx t]

/-- The gain gradient's array after the run is the reference's. -/
theorem final_6 (c : Dev nD) :
    (dats m 0 c).arrAt 6 (cfgs 0).N = DG (m ((c.tc : Thread nD τ).loc main_arg0)) (m ((c.tc : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0) _
    (fun t h j => by rw [outsAt0_A m c t h]; frame_out; rw [pay1_at, pay7_at])
    (fun t h j => by rw [outsAt0_B m c t h]; frame_out; rw [pay1_at])
    t ((flush0_6 t).mp hf) _, zero_add, DG_at]
  refine Fin.sum_mul_add_congr fun s k hl => ?_
  unfold ms
  blk_point [iblk, V, idx t, idx ⟨_, Pipeline.run_point_lt_of_flush t ((flush0_6 t).mp hf) s⟩]

end

/-- The program terminates and leaves its arguments unchanged, over machine words. -/
theorem frame : Cert.quiescent_Norm := fun m ρ _ => Cert.Norm.Gen.frame m ρ

/-- The same over the extended reals. -/
theorem frameIdeal : Cert.quiescent_NormIdeal := fun m ρ _ => Cert.NormIdeal.Gen.frame m ρ

/-- The reference terminates and leaves its arguments unchanged. -/
theorem frameReference : Cert.quiescent_NormReferenceIdeal := by
  intro m g _
  exact (θ_run _ _ _).mono (fun r h => ⟨fun c => (h c).2.2.2, sem_eq_zero_of_no_sems rfl _⟩)
    (Cert.NormReferenceIdeal.Value.run m g)

set_option maxHeartbeats 1600000 in
/-- Over the extended reals the kernel returns the gradients the reference returns. -/
theorem algebraic : Cert.algebraic_NormIdeal_NormReferenceIdeal := by
  pair_intro
  · run_from Cert.NormIdeal.Gen.run_main m g
  · hlo_run
    · exact (final_4 m c).symm
    · exact (final_5 m c).symm
    · exact (final_6 m c).symm

end Cert.NormValue

end
-- ==== Proof.Merge.lean ====
/- The gradient of the two head groups' normalisations and of the state-space group's gate: what the kernel's five arrays
   hold after the run, against the reverse-mode gradient of the forward lines. -/
module

public import proofs.«01_k».proof.Defs
public import proofs.«01_k».proof.Proof.Gen.Pre_merge_finite
public import proofs.«01_k».proof.Proof.Gen.Merge.Frame
public import proofs.«01_k».proof.Proof.Gen.MergeIdeal.Value
public import proofs.«01_k».proof.Proof.Gen.MergeReferenceIdeal.Run
public import proofs.«01_k».proof.Proof.Rms
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals
open scoped BigOperators

namespace Cert.MergeValue

/-- The gradient of one row's normalisation over `N` lanes, at lane `i`, in the form the kernel computes. -/
def rowGrad {n : ℕ} (N : BitVec 32) (x dy : Fin n → EReal) (i : Fin n) : EReal :=
  Ideal.rsqrt (Ideal.div (∑ k, x k * x k) (Ideal.ofBits .f32 N) + Ideal.ofBits .f32 0x358637BD#32)
    * (dy i - x i * Ideal.rsqrt (Ideal.div (∑ k, x k * x k) (Ideal.ofBits .f32 N) + Ideal.ofBits .f32 0x358637BD#32)
      * Ideal.div (∑ k, dy k * (x k * Ideal.rsqrt (Ideal.div (∑ k, x k * x k) (Ideal.ofBits .f32 N)
          + Ideal.ofBits .f32 0x358637BD#32))) (Ideal.ofBits .f32 N))

/-- One row's normalised lane times its cotangent. -/
def rowGain {n : ℕ} (N : BitVec 32) (x : Fin n → EReal) (d : EReal) (i : Fin n) : EReal :=
  d * (x i * Ideal.rsqrt (Ideal.div (∑ k, x k * x k) (Ideal.ofBits .f32 N) + Ideal.ofBits .f32 0x358637BD#32))

section
open Cert.MergeReferenceIdeal Cert.MergeReferenceIdeal.Gen

/-- The mean of an attention row's squares plus the constant under the root. -/
def MSO (o : FVec Ideal S4096x1024 .f32) : FVec Ideal S4096x1 .f32 :=
  addf (Host.divf (broadcastInDim S4096x1 ![0] bcast_S4096_S4096x1_0 (Host.reduceAdd (mulf o o) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The attention half's cotangent times its gain. -/
def DYO (a : FVec Ideal S1024 .f32) (d : FVec Ideal S4096x2048 .f32) : FVec Ideal S4096x1024 .f32 :=
  mulf (extractStridedSlice S4096x1024 ![0, 0] d slices_S4096x2048_S4096x1024_0_0) (broadcastInDim S4096x1024 ![0, 1] bcast_S1x1024_S4096x1024_0_1 (broadcastInDim S1x1024 ![1] bcast_S1024_S1x1024_1 a))

/-- The attention half's gradient through the mean of squares. -/
def DMO (o : FVec Ideal S4096x1024 .f32) (a : FVec Ideal S1024 .f32) (d : FVec Ideal S4096x2048 .f32) : FVec Ideal S4096x1024 .f32 :=
  broadcastInDim S4096x1024 ![0] bcast_S4096_S4096x1024_0 (Host.reduceAdd (Host.divf (mulf (shapeCast S4096x1 (Host.reduceAdd (mulf o (DYO a d)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (MSO o)) (MSO o)))) (broadcastInDim S4096x1 ![] bcast_S_S4096x1 (constant S_ .f32 0x44800000#32))) (constant S_ .f32 0x00000000#32) reducesTo_S4096x1_S4096_d1 h_S_)

/-- The reference's gradient of the attention output. -/
def DO (o : FVec Ideal S4096x1024 .f32) (a : FVec Ideal S1024 .f32) (d : FVec Ideal S4096x2048 .f32) : FVec Ideal S4096x1024 .f32 :=
  addf (addf (mulf (DYO a d) (broadcastInDim S4096x1024 ![0, 1] bcast_S4096x1_S4096x1024_0_1 (Host.rsqrt (MSO o)))) (mulf o (DMO o a d))) (mulf (DMO o a d) o)

/-- The reference's gradient of the attention half's gain. -/
def DGA (o : FVec Ideal S4096x1024 .f32) (d : FVec Ideal S4096x2048 .f32) : FVec Ideal S1x1024 .f32 :=
  shapeCast S1x1024 (Host.reduceAdd (shapeCast S1x1024 (Host.reduceAdd (mulf (mulf o (broadcastInDim S4096x1024 ![0, 1] bcast_S4096x1_S4096x1024_0_1 (Host.rsqrt (MSO o)))) (extractStridedSlice S4096x1024 ![0, 0] d slices_S4096x2048_S4096x1024_0_0)) (constant S_ .f32 0x00000000#32) reducesTo_S4096x1024_S1024_d0 h_S_) shapeCasts_S1024_S1x1024) (constant S_ .f32 0x00000000#32) reducesTo_S1x1024_S1024_d0 h_S_) shapeCasts_S1024_S1x1024

/-- The reference's logistic of the gate. -/
def SIG (z : FVec Ideal S4096x1024 .f32) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf z)))

/-- The gated state-space rows, by group. -/
def YG (y z : FVec Ideal S4096x1024 .f32) : FVec Ideal S4096x2x512 .f32 :=
  shapeCast S4096x2x512 (mulf y (mulf z (SIG z))) shapeCasts_S4096x1024_S4096x2x512

/-- The mean of a group's squares plus the constant under the root. -/
def MSG (w : FVec Ideal S4096x2x512 .f32) : FVec Ideal S4096x2x1 .f32 :=
  addf (Host.divf (broadcastInDim S4096x2x1 ![0, 1] bcast_S4096x2_S4096x2x1_0_1 (Host.reduceAdd (mulf w w) (constant S_ .f32 0x00000000#32) reducesTo_S4096x2x512_S4096x2_d2 h_S_)) (broadcastInDim S4096x2x1 ![] bcast_S_S4096x2x1 (constant S_ .f32 0x44000000#32))) (broadcastInDim S4096x2x1 ![] bcast_S_S4096x2x1 (constant S_ .f32 0x358637BD#32))

/-- The state-space half's cotangent times its gain, by group. -/
def DYG (g : FVec Ideal S1024 .f32) (d : FVec Ideal S4096x2048 .f32) : FVec Ideal S4096x2x512 .f32 :=
  shapeCast S4096x2x512 (mulf (extractStridedSlice S4096x1024 ![0, 1024] d slices_S4096x2048_S4096x1024_0_1024) (broadcastInDim S4096x1024 ![0, 1] bcast_S1x1024_S4096x1024_0_1 (broadcastInDim S1x1024 ![1] bcast_S1024_S1x1024_1 g))) shapeCasts_S4096x1024_S4096x2x512

/-- A group's gradient through the mean of squares. -/
def DMG (w dw : FVec Ideal S4096x2x512 .f32) : FVec Ideal S4096x2x512 .f32 :=
  broadcastInDim S4096x2x512 ![0, 1] bcast_S4096x2_S4096x2x512_0_1 (Host.reduceAdd (Host.divf (mulf (shapeCast S4096x2x1 (Host.reduceAdd (mulf w dw) (constant S_ .f32 0x00000000#32) reducesTo_S4096x2x512_S4096x2_d2 h_S_) shapeCasts_S4096x2_S4096x2x1) (mulf (broadcastInDim S4096x2x1 ![] bcast_S_S4096x2x1 (constant S_ .f32 0xBF000000#32)) (Host.divf (Host.rsqrt (MSG w)) (MSG w)))) (broadcastInDim S4096x2x1 ![] bcast_S_S4096x2x1 (constant S_ .f32 0x44000000#32))) (constant S_ .f32 0x00000000#32) reducesTo_S4096x2x1_S4096x2_d2 h_S_)

/-- A group's gradient of its normalisation. -/
def DGR (w dw : FVec Ideal S4096x2x512 .f32) : FVec Ideal S4096x2x512 .f32 :=
  addf (addf (mulf dw (broadcastInDim S4096x2x512 ![0, 1, 2] bcast_S4096x2x1_S4096x2x512_0_1_2 (Host.rsqrt (MSG w)))) (mulf w (DMG w dw))) (mulf (DMG w dw) w)

/-- The gradient of the gated rows. -/
def DYZ (y z : FVec Ideal S4096x1024 .f32) (g : FVec Ideal S1024 .f32) (d : FVec Ideal S4096x2048 .f32) : FVec Ideal S4096x1024 .f32 :=
  shapeCast S4096x1024 (DGR (YG y z) (DYG g d)) shapeCasts_S4096x2x512_S4096x1024

/-- The reference's gradient of the state-space output. -/
def DY (y z : FVec Ideal S4096x1024 .f32) (g : FVec Ideal S1024 .f32) (d : FVec Ideal S4096x2048 .f32) : FVec Ideal S4096x1024 .f32 :=
  mulf (DYZ y z g d) (mulf z (SIG z))

/-- The reference's gradient of the gate. -/
def DZ (y z : FVec Ideal S4096x1024 .f32) (g : FVec Ideal S1024 .f32) (d : FVec Ideal S4096x2048 .f32) : FVec Ideal S4096x1024 .bf16 :=
  truncf .bf16 (addf (mulf (mulf y (DYZ y z g d)) (SIG z)) (mulf (mulf z (mulf y (DYZ y z g d))) (mulf (SIG z) (subf (broadcastInDim S4096x1024 ![] bcast_S_S4096x1024 (constant S_ .f32 0x3F800000#32)) (SIG z))))) bitsLt_bf16_f32

/-- The reference's gradient of the state-space half's gain. -/
def DGS (y z : FVec Ideal S4096x1024 .f32) (d : FVec Ideal S4096x2048 .f32) : FVec Ideal S1x1024 .f32 :=
  shapeCast S1x1024 (Host.reduceAdd (shapeCast S1x1024 (Host.reduceAdd (mulf (shapeCast S4096x1024 (mulf (YG y z) (broadcastInDim S4096x2x512 ![0, 1, 2] bcast_S4096x2x1_S4096x2x512_0_1_2 (Host.rsqrt (MSG (YG y z))))) shapeCasts_S4096x2x512_S4096x1024) (extractStridedSlice S4096x1024 ![0, 1024] d slices_S4096x2048_S4096x1024_0_1024)) (constant S_ .f32 0x00000000#32) reducesTo_S4096x1024_S1024_d0 h_S_) shapeCasts_S1024_S1x1024) (constant S_ .f32 0x00000000#32) reducesTo_S1x1024_S1024_d0 h_S_) shapeCasts_S1024_S1x1024

/-- The lane of a half that group `q` keeps at its position `k`. -/
abbrev lane (q : Fin 2) (k : Fin 512) : Fin 1024 := ⟨q.val * 512 + k.val, by omega⟩

/-- The group of a lane. -/
abbrev grp (l : Fin 1024) : Fin 2 := ⟨l.val / 512, by omega⟩

/-- The position of a lane in its group. -/
abbrev pos (l : Fin 1024) : Fin 512 := ⟨l.val % 512, by omega⟩

theorem DO_at (o : FVec Ideal S4096x1024 .f32) (a : FVec Ideal S1024 .f32) (d : FVec Ideal S4096x2048 .f32) (i : S4096x1024.Idx) :
    DO o a d i = rowGrad 0x44800000#32 (fun k : Fin 1024 => o (ix2 (i 0) k))
      (fun k => d (ix2 (i 0) ⟨k.val, by omega⟩) * a (ix1 k)) (i 1) := by
  unfold rowGrad
  rw [rms_grad (fun k => o (ix2 (i 0) k)) (fun k => d (ix2 (i 0) ⟨k.val, by omega⟩) * a (ix1 k)) (i 1) isPos_1024 isPos_eps]
  pointwise [DO, DMO, DYO, MSO]
  simp only [Finset.univ_unique, Finset.sum_singleton]

theorem DGA_at (o : FVec Ideal S4096x1024 .f32) (d : FVec Ideal S4096x2048 .f32) (i : S1x1024.Idx) :
    DGA o d i = ∑ r : Fin 4096, rowGain 0x44800000#32 (fun k : Fin 1024 => o (ix2 r k)) (d (ix2 r ⟨(i 1).val, lt_trans (show (i 1).val < 1024 from (i 1).isLt) (by decide)⟩)) (i 1) := by
  unfold rowGain
  pointwise [DGA, MSO]
  simp only [Finset.univ_unique, Finset.sum_singleton]
  exact Finset.sum_congr rfl fun _ _ => mul_comm _ _

theorem DGR_at (w dw : FVec Ideal S4096x2x512 .f32) (r : Fin 4096) (q : Fin 2) (k : Fin 512) :
    DGR w dw (ix3 r q k) = rowGrad 0x44000000#32 (fun k => w (ix3 r q k)) (fun k => dw (ix3 r q k)) k := by
  unfold rowGrad
  rw [rms_grad (fun k => w (ix3 r q k)) (fun k => dw (ix3 r q k)) k isPos_512 isPos_eps]
  pointwise [DGR, DMG, MSG]
  simp only [Finset.univ_unique, Finset.sum_singleton]

theorem YG_at (y z : FVec Ideal S4096x1024 .f32) (r : Fin 4096) (q : Fin 2) (k : Fin 512) :
    YG y z (ix3 r q k) = y (ix2 r (lane q k)) * (z (ix2 r (lane q k)) * logi (z (ix2 r (lane q k)))) := by
  pointwise [YG, SIG, logi]

theorem DYG_at (g : FVec Ideal S1024 .f32) (d : FVec Ideal S4096x2048 .f32) (r : Fin 4096) (q : Fin 2) (k : Fin 512) :
    DYG g d (ix3 r q k) = d (ix2 r ⟨1024 + (q.val * 512 + k.val), by omega⟩) * g (ix1 (lane q k)) := by
  pointwise [DYG]

theorem DYZ_at (y z : FVec Ideal S4096x1024 .f32) (g : FVec Ideal S1024 .f32) (d : FVec Ideal S4096x2048 .f32)
    (r : Fin 4096) (l : Fin 1024) :
    DYZ y z g d (ix2 r l) = rowGrad 0x44000000#32
      (fun k => y (ix2 r (lane (grp l) k)) * (z (ix2 r (lane (grp l) k)) * logi (z (ix2 r (lane (grp l) k)))))
      (fun k => d (ix2 r ⟨1024 + (l.val / 512 * 512 + k.val), by omega⟩) * g (ix1 (lane (grp l) k))) (pos l) := by
  have h : DYZ y z g d (ix2 r l) = DGR (YG y z) (DYG g d) (ix3 r (grp l) (pos l)) := by pointwise [DYZ]
  rw [h, DGR_at]
  simp only [YG_at, DYG_at]

theorem DY_at (y z : FVec Ideal S4096x1024 .f32) (g : FVec Ideal S1024 .f32) (d : FVec Ideal S4096x2048 .f32)
    (r : Fin 4096) (l : Fin 1024) :
    DY y z g d (ix2 r l) = DYZ y z g d (ix2 r l) * (z (ix2 r l) * logi (z (ix2 r l))) := by
  pointwise [DY, SIG, logi]

/-- The gate's gradient at an index, in the factored form the kernel computes, where the cotangent and the gain are real. -/
theorem DZ_at (y z : FVec Ideal S4096x1024 .f32) (g : FVec Ideal S1024 .f32) (d : FVec Ideal S4096x2048 .f32)
    (hg : ∀ i, IsReal (g i)) (hd : ∀ (r : Fin 4096) (k : Fin 1024), IsReal (d (ix2 r ⟨1024 + k.val, by omega⟩)))
    (r : Fin 4096) (l : Fin 1024) :
    DZ y z g d (ix2 r l) = DYZ y z g d (ix2 r l) * y (ix2 r l)
      * (logi (z (ix2 r l)) + z (ix2 r l) * logi (z (ix2 r l)) * (1 - logi (z (ix2 r l)))) := by
  have hl : lane (grp l) (pos l) = l := by apply Fin.ext; show l.val / 512 * 512 + l.val % 512 = l.val; omega
  rw [gate_grad]
  · pointwise [DZ, SIG, logi]
  · rw [DYZ_at]
    refine (rms_grad_real (fun k => y (ix2 r (lane (grp l) k)) * (z (ix2 r (lane (grp l) k)) * logi (z (ix2 r (lane (grp l) k)))))
      (fun k => d (ix2 r ⟨1024 + (l.val / 512 * 512 + k.val), by omega⟩) * g (ix1 (lane (grp l) k))) (pos l)
      isPos_512 isPos_eps (fun k => (hd r (lane (grp l) k)).mul (hg _))).imp_right (And.imp_right fun h => ?_)
    simpa only [hl] using h

theorem DGS_at (y z : FVec Ideal S4096x1024 .f32) (d : FVec Ideal S4096x2048 .f32) (l : Fin 1024) :
    DGS y z d (ix2 0 l) = ∑ r : Fin 4096, rowGain 0x44000000#32
      (fun k => y (ix2 r (lane (grp l) k)) * (z (ix2 r (lane (grp l) k)) * logi (z (ix2 r (lane (grp l) k)))))
      (d (ix2 r ⟨1024 + l.val, by omega⟩)) (pos l) := by
  have h : DGS y z d (ix2 0 l) = ∑ r : Fin 4096, YG y z (ix3 r (grp l) (pos l)) * Ideal.rsqrt (MSG (YG y z) (ix3 r (grp l) 0))
      * d (ix2 r ⟨1024 + l.val, by omega⟩) := by
    pointwise [DGS]
    simp only [Finset.univ_unique, Finset.sum_singleton]
  have hM : ∀ (w : FVec Ideal S4096x2x512 .f32) (r : Fin 4096) (q : Fin 2), MSG w (ix3 r q 0)
      = Ideal.div (∑ k : Fin 512, w (ix3 r q k) * w (ix3 r q k)) (Ideal.ofBits .f32 0x44000000#32)
        + Ideal.ofBits .f32 0x358637BD#32 := fun w r q => by pointwise [MSG]
  rw [h]
  refine Finset.sum_congr rfl fun r _ => ?_
  unfold rowGain
  rw [hM, mul_comm]
  simp only [YG_at]

end

section
open Cert.MergeIdeal Cert.MergeIdeal.Gen

/-- A block's gated lanes. -/
def gated (y z : FVec Ideal S256x512 .f32) (r : Fin 256) (k : Fin 512) : EReal :=
  y (ix2 r k) * (z (ix2 r k) * logi (z (ix2 r k)))

theorem pay10_at (x : FVec Ideal S256x1024 .f32) (g : FVec Ideal S1x1024 .f32) (d : FVec Ideal S256x1024 .f32) (r : Fin 256) (l : Fin 1024) :
    k0_pay10 (F := Ideal) x g d (ix2 r l)
      = rowGrad 0x44800000#32 (fun k : Fin 1024 => x (ix2 r k)) (fun k => d (ix2 r k) * g (ix2 0 k)) l := by
  unfold rowGrad
  pointwise [k0_pay10, k0_pay9, k0_pay8]

theorem pay11_at (x : FVec Ideal S256x1024 .f32) (d : FVec Ideal S256x1024 .f32) (acc : FVec Ideal S1x1024 .f32) (l : Fin 1024) :
    k0_pay11 (F := Ideal) x d acc (ix2 0 l)
      = acc (ix2 0 l) + ∑ r : Fin 256, rowGain 0x44800000#32 (fun k : Fin 1024 => x (ix2 r k)) (d (ix2 r l)) l := by
  unfold rowGain
  pointwise [k0_pay11, k0_pay9, k0_pay8]

theorem pay17_at (z y : FVec Ideal S256x512 .f32) (g : FVec Ideal S1x512 .f32) (d : FVec Ideal S256x512 .f32) (r : Fin 256) (l : Fin 512) :
    k0_pay17 (F := Ideal) z y g d (ix2 r l)
      = rowGrad 0x44000000#32 (gated y z r) (fun k => d (ix2 r k) * g (ix2 0 k)) l := by
  unfold rowGrad gated
  pointwise [k0_pay17, k0_pay16, k0_pay15, k0_pay14, k0_pay13, k0_pay12, logi, zero_sub]

theorem pay19_at (z y : FVec Ideal S256x512 .f32) (g : FVec Ideal S1x512 .f32) (d : FVec Ideal S256x512 .f32) (r : Fin 256) (l : Fin 512) :
    k0_pay19 (F := Ideal) z y g d (ix2 r l)
      = rowGrad 0x44000000#32 (gated y z r) (fun k => d (ix2 r k) * g (ix2 0 k)) l * (z (ix2 r l) * logi (z (ix2 r l))) := by
  rw [← pay17_at]
  pointwise [k0_pay19, k0_pay13, k0_pay12, logi, zero_sub]

theorem pay21_at (z y : FVec Ideal S256x512 .f32) (g : FVec Ideal S1x512 .f32) (d : FVec Ideal S256x512 .f32) (r : Fin 256) (l : Fin 512) :
    k0_pay21 (F := Ideal) (k0_pay12 z) (k0_pay13 z) (k0_pay20 z y g d) (ix2 r l)
      = rowGrad 0x44000000#32 (gated y z r) (fun k => d (ix2 r k) * g (ix2 0 k)) l * y (ix2 r l)
        * (logi (z (ix2 r l)) + z (ix2 r l) * logi (z (ix2 r l)) * (1 - logi (z (ix2 r l)))) := by
  rw [← pay17_at]
  pointwise [k0_pay21, k0_pay20, k0_pay13, k0_pay12, logi, zero_sub]

theorem pay22_at (z y : FVec Ideal S256x512 .f32) (d : FVec Ideal S256x512 .f32) (acc : FVec Ideal S1x512 .f32) (l : Fin 512) :
    k0_pay22 (F := Ideal) (k0_pay18 z y d) acc (ix2 0 l)
      = acc (ix2 0 l) + ∑ r : Fin 256, rowGain 0x44000000#32 (gated y z r) (d (ix2 r l)) l := by
  unfold rowGain gated
  pointwise [k0_pay22, k0_pay18, k0_pay16, k0_pay15, k0_pay14, k0_pay13, k0_pay12, logi, zero_sub]

/-- The second group's payloads are the first group's. -/
theorem pay3_eq (z y : FVec Ideal S256x512 .f32) (g : FVec Ideal S1x512 .f32) (d : FVec Ideal S256x512 .f32) :
    k0_pay3 (F := Ideal) (k0_pay24 z) (k0_pay25 z y) (k0_pay26 g) d (k0_pay27 z y) (k0_pay28 z y) = k0_pay19 z y g d := rfl

theorem pay4_eq (z y : FVec Ideal S256x512 .f32) (g : FVec Ideal S1x512 .f32) (d : FVec Ideal S256x512 .f32) :
    k0_pay4 (F := Ideal) y (k0_pay23 z) (k0_pay24 z) (k0_pay25 z y) (k0_pay26 g) d (k0_pay27 z y) (k0_pay28 z y)
      = k0_pay21 (k0_pay12 z) (k0_pay13 z) (k0_pay20 z y g d) := rfl

theorem pay5_eq (z y : FVec Ideal S256x512 .f32) (d : FVec Ideal S256x512 .f32) (acc : FVec Ideal S1x512 .f32) :
    k0_pay5 (F := Ideal) (k0_pay25 z y) d (k0_pay28 z y) acc = k0_pay22 (k0_pay18 z y d) acc := rfl

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- The gradient of a block's attention rows. -/
def blkO (x : FVec Ideal S256x1024 .f32) (g : FVec Ideal S1x1024 .f32) (d : FVec Ideal S256x2048 .f32) (r : Fin 256) (l : Fin 1024) : EReal :=
  rowGrad 0x44800000#32 (fun k : Fin 1024 => x (ix2 r k)) (fun k => d (ix2 r ⟨k.val, by omega⟩) * g (ix2 0 k)) l

/-- The gated lanes of one group of a block's rows. -/
def blkG (y z : FVec Ideal S256x1024 .f32) (r : Fin 256) (q : Fin 2) (k : Fin 512) : EReal :=
  y (ix2 r (lane q k)) * (z (ix2 r (lane q k)) * logi (z (ix2 r (lane q k))))

/-- The gradient of a block's gated rows. -/
def blkYZ (y z : FVec Ideal S256x1024 .f32) (g : FVec Ideal S1x1024 .f32) (d : FVec Ideal S256x2048 .f32) (r : Fin 256) (l : Fin 1024) : EReal :=
  rowGrad 0x44000000#32 (blkG y z r (grp l))
    (fun k => d (ix2 r ⟨1024 + (lane (grp l) k).val, by have := (lane (grp l) k).isLt; omega⟩) * g (ix2 0 (lane (grp l) k))) (pos l)

/-- The gradient of a block's SSD outputs. -/
def blkY (y z : FVec Ideal S256x1024 .f32) (g : FVec Ideal S1x1024 .f32) (d : FVec Ideal S256x2048 .f32) (r : Fin 256) (l : Fin 1024) : EReal :=
  blkYZ y z g d r l * (z (ix2 r l) * logi (z (ix2 r l)))

/-- The gradient of a block's gates. -/
def blkZ (y z : FVec Ideal S256x1024 .f32) (g : FVec Ideal S1x1024 .f32) (d : FVec Ideal S256x2048 .f32) (r : Fin 256) (l : Fin 1024) : EReal :=
  blkYZ y z g d r l * y (ix2 r l) * (logi (z (ix2 r l)) + z (ix2 r l) * logi (z (ix2 r l)) * (1 - logi (z (ix2 r l))))

/-- A block's part of the gradient of the state-space gain. -/
def blkDG (y z : FVec Ideal S256x1024 .f32) (d : FVec Ideal S256x2048 .f32) (l : Fin 1024) : EReal :=
  ∑ r : Fin 256, rowGain 0x44000000#32 (blkG y z r (grp l)) (d (ix2 r ⟨1024 + l.val, by omega⟩)) (pos l)

theorem ld_a (B : FVec Ideal S256x2048 .f32) (r : Fin 256) (k : Fin 1024) :
    View.ld (S := S256x2048) (Val := Elt Ideal) (e' := .f32) B (Rect.unit (s := S256x2048) ![0, 0] ![256, 1024] inb_S256x2048_S256x1024_0_0) (ix2 r k)
      = B (ix2 r ⟨k.val, by omega⟩) := by
  refine View.ld_unit_apply_of _ _ _ _ _ _ fun a => ?_
  fin_cases a <;> simp [ix2, lane] <;> omega

theorem ld_d0 (B : FVec Ideal S256x2048 .f32) (r : Fin 256) (k : Fin 512) :
    View.ld (S := S256x2048) (Val := Elt Ideal) (e' := .f32) B (Rect.unit (s := S256x2048) ![0, 1024] ![256, 512] inb_S256x2048_S256x512_0_1024) (ix2 r k)
      = B (ix2 r ⟨1024 + (lane 0 k).val, by have := (lane 0 k).isLt; omega⟩) := by
  refine View.ld_unit_apply_of _ _ _ _ _ _ fun a => ?_
  fin_cases a <;> simp [ix2, lane] <;> omega

theorem ld_d1 (B : FVec Ideal S256x2048 .f32) (r : Fin 256) (k : Fin 512) :
    View.ld (S := S256x2048) (Val := Elt Ideal) (e' := .f32) B (Rect.unit (s := S256x2048) ![0, 1536] ![256, 512] inb_S256x2048_S256x512_0_1536) (ix2 r k)
      = B (ix2 r ⟨1024 + (lane 1 k).val, by have := (lane 1 k).isLt; omega⟩) := by
  refine View.ld_unit_apply_of _ _ _ _ _ _ fun a => ?_
  fin_cases a <;> simp [ix2, lane] <;> omega

theorem ld_b0 (B : FVec Ideal S256x1024 .f32) (r : Fin 256) (k : Fin 512) :
    View.ld (S := S256x1024) (Val := Elt Ideal) (e' := .f32) B (Rect.unit (s := S256x1024) ![0, 0] ![256, 512] inb_S256x1024_S256x512_0_0) (ix2 r k)
      = B (ix2 r (lane 0 k)) := by
  refine View.ld_unit_apply_of _ _ _ _ _ _ fun a => ?_
  fin_cases a <;> simp [ix2, lane] <;> omega

theorem ld_b1 (B : FVec Ideal S256x1024 .f32) (r : Fin 256) (k : Fin 512) :
    View.ld (S := S256x1024) (Val := Elt Ideal) (e' := .f32) B (Rect.unit (s := S256x1024) ![0, 512] ![256, 512] inb_S256x1024_S256x512_0_512) (ix2 r k)
      = B (ix2 r (lane 1 k)) := by
  refine View.ld_unit_apply_of _ _ _ _ _ _ fun a => ?_
  fin_cases a <;> simp [ix2, lane] <;> omega

theorem ld_g0 (B : FVec Ideal S1x1024 .f32) (r : Fin 1) (k : Fin 512) :
    View.ld (S := S1x1024) (Val := Elt Ideal) (e' := .f32) B (Rect.unit (s := S1x1024) ![0, 0] ![1, 512] inb_S1x1024_S1x512_0_0) (ix2 r k)
      = B (ix2 r (lane 0 k)) := by
  refine View.ld_unit_apply_of _ _ _ _ _ _ fun a => ?_
  fin_cases a <;> simp [ix2, lane] <;> omega

theorem ld_g1 (B : FVec Ideal S1x1024 .f32) (r : Fin 1) (k : Fin 512) :
    View.ld (S := S1x1024) (Val := Elt Ideal) (e' := .f32) B (Rect.unit (s := S1x1024) ![0, 512] ![1, 512] inb_S1x1024_S1x512_0_512) (ix2 r k)
      = B (ix2 r (lane 1 k)) := by
  refine View.ld_unit_apply_of _ _ _ _ _ _ fun a => ?_
  fin_cases a <;> simp [ix2, lane] <;> omega

theorem tileYZ0 (y z : FVec Ideal S256x1024 .f32) (g : FVec Ideal S1x1024 .f32) (d : FVec Ideal S256x2048 .f32)
    (r : Fin 256) (k : Fin 512) (l : Fin 1024) (h : l.val = k.val) :
    rowGrad 0x44000000#32 (gated (View.ld (S := S256x1024) (Val := Elt Ideal) (e' := .f32) y (Rect.unit (s := S256x1024) ![0, 0] ![256, 512] inb_S256x1024_S256x512_0_0)) (View.ld (S := S256x1024) (Val := Elt Ideal) (e' := .f32) z (Rect.unit (s := S256x1024) ![0, 0] ![256, 512] inb_S256x1024_S256x512_0_0)) r)
      (fun k => (View.ld (S := S256x2048) (Val := Elt Ideal) (e' := .f32) d (Rect.unit (s := S256x2048) ![0, 1024] ![256, 512] inb_S256x2048_S256x512_0_1024)) (ix2 r k) * (View.ld (S := S1x1024) (Val := Elt Ideal) (e' := .f32) g (Rect.unit (s := S1x1024) ![0, 0] ![1, 512] inb_S1x1024_S1x512_0_0)) (ix2 0 k)) k = blkYZ y z g d r l := by
  have hq : grp l = 0 := Fin.ext (show l.val / 512 = 0 by omega)
  have hp : pos l = k := Fin.ext (show l.val % 512 = k.val by omega)
  have hl : lane 0 k = l := Fin.ext (show 0 * 512 + k.val = l.val by omega)
  have e : gated (View.ld (S := S256x1024) (Val := Elt Ideal) (e' := .f32) y (Rect.unit (s := S256x1024) ![0, 0] ![256, 512] inb_S256x1024_S256x512_0_0)) (View.ld (S := S256x1024) (Val := Elt Ideal) (e' := .f32) z (Rect.unit (s := S256x1024) ![0, 0] ![256, 512] inb_S256x1024_S256x512_0_0)) r = blkG y z r 0 :=
    funext fun j => by simp only [gated, blkG]; rw [ld_b0, ld_b0]
  unfold blkYZ
  simp only [hq, hp, e]
  refine congrArg (fun f : Fin 512 → EReal => rowGrad 0x44000000#32 (blkG y z r 0) f k) (funext fun j => ?_)
  rw [ld_d0, ld_g0]
  refine congrArg (fun i : Fin 2048 => d (ix2 r i) * g (ix2 0 (lane 0 j))) (Fin.ext ?_)
  show 1024 + (0 * 512 + j.val) = 1024 + (l.val / 512 * 512 + j.val)
  omega

theorem tileY0 (y z : FVec Ideal S256x1024 .f32) (g : FVec Ideal S1x1024 .f32) (d : FVec Ideal S256x2048 .f32)
    (r : Fin 256) (k : Fin 512) (l : Fin 1024) (h : l.val = k.val) :
    k0_pay19 (F := Ideal) (View.ld (S := S256x1024) (Val := Elt Ideal) (e' := .f32) z (Rect.unit (s := S256x1024) ![0, 0] ![256, 512] inb_S256x1024_S256x512_0_0)) (View.ld (S := S256x1024) (Val := Elt Ideal) (e' := .f32) y (Rect.unit (s := S256x1024) ![0, 0] ![256, 512] inb_S256x1024_S256x512_0_0)) (View.ld (S := S1x1024) (Val := Elt Ideal) (e' := .f32) g (Rect.unit (s := S1x1024) ![0, 0] ![1, 512] inb_S1x1024_S1x512_0_0)) (View.ld (S := S256x2048) (Val := Elt Ideal) (e' := .f32) d (Rect.unit (s := S256x2048) ![0, 1024] ![256, 512] inb_S256x2048_S256x512_0_1024)) (ix2 r k) = blkY y z g d r l := by
  have hl : lane 0 k = l := Fin.ext (show 0 * 512 + k.val = l.val by omega)
  rw [pay19_at, tileYZ0 y z g d r k l h, ld_b0, hl, blkY]

theorem tileZ0 (y z : FVec Ideal S256x1024 .f32) (g : FVec Ideal S1x1024 .f32) (d : FVec Ideal S256x2048 .f32)
    (r : Fin 256) (k : Fin 512) (l : Fin 1024) (h : l.val = k.val) :
    k0_pay21 (F := Ideal) (k0_pay12 (View.ld (S := S256x1024) (Val := Elt Ideal) (e' := .f32) z (Rect.unit (s := S256x1024) ![0, 0] ![256, 512] inb_S256x1024_S256x512_0_0))) (k0_pay13 (View.ld (S := S256x1024) (Val := Elt Ideal) (e' := .f32) z (Rect.unit (s := S256x1024) ![0, 0] ![256, 512] inb_S256x1024_S256x512_0_0))) (k0_pay20 (View.ld (S := S256x1024) (Val := Elt Ideal) (e' := .f32) z (Rect.unit (s := S256x1024) ![0, 0] ![256, 512] inb_S256x1024_S256x512_0_0)) (View.ld (S := S256x1024) (Val := Elt Ideal) (e' := .f32) y (Rect.unit (s := S256x1024) ![0, 0] ![256, 512] inb_S256x1024_S256x512_0_0)) (View.ld (S := S1x1024) (Val := Elt Ideal) (e' := .f32) g (Rect.unit (s := S1x1024) ![0, 0] ![1, 512] inb_S1x1024_S1x512_0_0)) (View.ld (S := S256x2048) (Val := Elt Ideal) (e' := .f32) d (Rect.unit (s := S256x2048) ![0, 1024] ![256, 512] inb_S256x2048_S256x512_0_1024))) (ix2 r k)
      = blkZ y z g d r l := by
  have hl : lane 0 k = l := Fin.ext (show 0 * 512 + k.val = l.val by omega)
  rw [pay21_at, tileYZ0 y z g d r k l h, ld_b0, ld_b0, hl, blkZ]

theorem tileG0 (y z : FVec Ideal S256x1024 .f32) (d : FVec Ideal S256x2048 .f32) (acc : FVec Ideal S1x512 .f32)
    (k : Fin 512) (l : Fin 1024) (h : l.val = k.val) :
    k0_pay22 (F := Ideal) (k0_pay18 (View.ld (S := S256x1024) (Val := Elt Ideal) (e' := .f32) z (Rect.unit (s := S256x1024) ![0, 0] ![256, 512] inb_S256x1024_S256x512_0_0)) (View.ld (S := S256x1024) (Val := Elt Ideal) (e' := .f32) y (Rect.unit (s := S256x1024) ![0, 0] ![256, 512] inb_S256x1024_S256x512_0_0)) (View.ld (S := S256x2048) (Val := Elt Ideal) (e' := .f32) d (Rect.unit (s := S256x2048) ![0, 1024] ![256, 512] inb_S256x2048_S256x512_0_1024))) acc (ix2 0 k) = acc (ix2 0 k) + blkDG y z d l := by
  have hq : grp l = 0 := Fin.ext (show l.val / 512 = 0 by omega)
  have hp : pos l = k := Fin.ext (show l.val % 512 = k.val by omega)
  have hl : lane 0 k = l := Fin.ext (show 0 * 512 + k.val = l.val by omega)
  unfold blkDG
  rw [pay22_at, hq, hp]
  refine congrArg (acc (ix2 0 k) + ·) (Finset.sum_congr rfl fun r _ => ?_)
  have e : gated (View.ld (S := S256x1024) (Val := Elt Ideal) (e' := .f32) y (Rect.unit (s := S256x1024) ![0, 0] ![256, 512] inb_S256x1024_S256x512_0_0)) (View.ld (S := S256x1024) (Val := Elt Ideal) (e' := .f32) z (Rect.unit (s := S256x1024) ![0, 0] ![256, 512] inb_S256x1024_S256x512_0_0)) r = blkG y z r 0 :=
    funext fun j => by simp only [gated, blkG]; rw [ld_b0, ld_b0]
  rw [e, ld_d0]
  exact congrArg (fun j : Fin 1024 => rowGain 0x44000000#32 (blkG y z r 0) (d (ix2 r ⟨1024 + j.val, by omega⟩)) k) hl

theorem tileYZ1 (y z : FVec Ideal S256x1024 .f32) (g : FVec Ideal S1x1024 .f32) (d : FVec Ideal S256x2048 .f32)
    (r : Fin 256) (k : Fin 512) (l : Fin 1024) (h : l.val = 512 + k.val) :
    rowGrad 0x44000000#32 (gated (View.ld (S := S256x1024) (Val := Elt Ideal) (e' := .f32) y (Rect.unit (s := S256x1024) ![0, 512] ![256, 512] inb_S256x1024_S256x512_0_512)) (View.ld (S := S256x1024) (Val := Elt Ideal) (e' := .f32) z (Rect.unit (s := S256x1024) ![0, 512] ![256, 512] inb_S256x1024_S256x512_0_512)) r)
      (fun k => (View.ld (S := S256x2048) (Val := Elt Ideal) (e' := .f32) d (Rect.unit (s := S256x2048) ![0, 1536] ![256, 512] inb_S256x2048_S256x512_0_1536)) (ix2 r k) * (View.ld (S := S1x1024) (Val := Elt Ideal) (e' := .f32) g (Rect.unit (s := S1x1024) ![0, 512] ![1, 512] inb_S1x1024_S1x512_0_512)) (ix2 0 k)) k = blkYZ y z g d r l := by
  have hq : grp l = 1 := Fin.ext (show l.val / 512 = 1 by omega)
  have hp : pos l = k := Fin.ext (show l.val % 512 = k.val by omega)
  have hl : lane 1 k = l := Fin.ext (show 1 * 512 + k.val = l.val by omega)
  have e : gated (View.ld (S := S256x1024) (Val := Elt Ideal) (e' := .f32) y (Rect.unit (s := S256x1024) ![0, 512] ![256, 512] inb_S256x1024_S256x512_0_512)) (View.ld (S := S256x1024) (Val := Elt Ideal) (e' := .f32) z (Rect.unit (s := S256x1024) ![0, 512] ![256, 512] inb_S256x1024_S256x512_0_512)) r = blkG y z r 1 :=
    funext fun j => by simp only [gated, blkG]; rw [ld_b1, ld_b1]
  unfold blkYZ
  simp only [hq, hp, e]
  refine congrArg (fun f : Fin 512 → EReal => rowGrad 0x44000000#32 (blkG y z r 1) f k) (funext fun j => ?_)
  rw [ld_d1, ld_g1]
  refine congrArg (fun i : Fin 2048 => d (ix2 r i) * g (ix2 0 (lane 1 j))) (Fin.ext ?_)
  show 1024 + (1 * 512 + j.val) = 1024 + (l.val / 512 * 512 + j.val)
  omega

theorem tileY1 (y z : FVec Ideal S256x1024 .f32) (g : FVec Ideal S1x1024 .f32) (d : FVec Ideal S256x2048 .f32)
    (r : Fin 256) (k : Fin 512) (l : Fin 1024) (h : l.val = 512 + k.val) :
    k0_pay19 (F := Ideal) (View.ld (S := S256x1024) (Val := Elt Ideal) (e' := .f32) z (Rect.unit (s := S256x1024) ![0, 512] ![256, 512] inb_S256x1024_S256x512_0_512)) (View.ld (S := S256x1024) (Val := Elt Ideal) (e' := .f32) y (Rect.unit (s := S256x1024) ![0, 512] ![256, 512] inb_S256x1024_S256x512_0_512)) (View.ld (S := S1x1024) (Val := Elt Ideal) (e' := .f32) g (Rect.unit (s := S1x1024) ![0, 512] ![1, 512] inb_S1x1024_S1x512_0_512)) (View.ld (S := S256x2048) (Val := Elt Ideal) (e' := .f32) d (Rect.unit (s := S256x2048) ![0, 1536] ![256, 512] inb_S256x2048_S256x512_0_1536)) (ix2 r k) = blkY y z g d r l := by
  have hl : lane 1 k = l := Fin.ext (show 1 * 512 + k.val = l.val by omega)
  rw [pay19_at, tileYZ1 y z g d r k l h, ld_b1, hl, blkY]

theorem tileZ1 (y z : FVec Ideal S256x1024 .f32) (g : FVec Ideal S1x1024 .f32) (d : FVec Ideal S256x2048 .f32)
    (r : Fin 256) (k : Fin 512) (l : Fin 1024) (h : l.val = 512 + k.val) :
    k0_pay21 (F := Ideal) (k0_pay12 (View.ld (S := S256x1024) (Val := Elt Ideal) (e' := .f32) z (Rect.unit (s := S256x1024) ![0, 512] ![256, 512] inb_S256x1024_S256x512_0_512))) (k0_pay13 (View.ld (S := S256x1024) (Val := Elt Ideal) (e' := .f32) z (Rect.unit (s := S256x1024) ![0, 512] ![256, 512] inb_S256x1024_S256x512_0_512))) (k0_pay20 (View.ld (S := S256x1024) (Val := Elt Ideal) (e' := .f32) z (Rect.unit (s := S256x1024) ![0, 512] ![256, 512] inb_S256x1024_S256x512_0_512)) (View.ld (S := S256x1024) (Val := Elt Ideal) (e' := .f32) y (Rect.unit (s := S256x1024) ![0, 512] ![256, 512] inb_S256x1024_S256x512_0_512)) (View.ld (S := S1x1024) (Val := Elt Ideal) (e' := .f32) g (Rect.unit (s := S1x1024) ![0, 512] ![1, 512] inb_S1x1024_S1x512_0_512)) (View.ld (S := S256x2048) (Val := Elt Ideal) (e' := .f32) d (Rect.unit (s := S256x2048) ![0, 1536] ![256, 512] inb_S256x2048_S256x512_0_1536))) (ix2 r k)
      = blkZ y z g d r l := by
  have hl : lane 1 k = l := Fin.ext (show 1 * 512 + k.val = l.val by omega)
  rw [pay21_at, tileYZ1 y z g d r k l h, ld_b1, ld_b1, hl, blkZ]

theorem tileG1 (y z : FVec Ideal S256x1024 .f32) (d : FVec Ideal S256x2048 .f32) (acc : FVec Ideal S1x512 .f32)
    (k : Fin 512) (l : Fin 1024) (h : l.val = 512 + k.val) :
    k0_pay22 (F := Ideal) (k0_pay18 (View.ld (S := S256x1024) (Val := Elt Ideal) (e' := .f32) z (Rect.unit (s := S256x1024) ![0, 512] ![256, 512] inb_S256x1024_S256x512_0_512)) (View.ld (S := S256x1024) (Val := Elt Ideal) (e' := .f32) y (Rect.unit (s := S256x1024) ![0, 512] ![256, 512] inb_S256x1024_S256x512_0_512)) (View.ld (S := S256x2048) (Val := Elt Ideal) (e' := .f32) d (Rect.unit (s := S256x2048) ![0, 1536] ![256, 512] inb_S256x2048_S256x512_0_1536))) acc (ix2 0 k) = acc (ix2 0 k) + blkDG y z d l := by
  have hq : grp l = 1 := Fin.ext (show l.val / 512 = 1 by omega)
  have hp : pos l = k := Fin.ext (show l.val % 512 = k.val by omega)
  have hl : lane 1 k = l := Fin.ext (show 1 * 512 + k.val = l.val by omega)
  unfold blkDG
  rw [pay22_at, hq, hp]
  refine congrArg (acc (ix2 0 k) + ·) (Finset.sum_congr rfl fun r _ => ?_)
  have e : gated (View.ld (S := S256x1024) (Val := Elt Ideal) (e' := .f32) y (Rect.unit (s := S256x1024) ![0, 512] ![256, 512] inb_S256x1024_S256x512_0_512)) (View.ld (S := S256x1024) (Val := Elt Ideal) (e' := .f32) z (Rect.unit (s := S256x1024) ![0, 512] ![256, 512] inb_S256x1024_S256x512_0_512)) r = blkG y z r 1 :=
    funext fun j => by simp only [gated, blkG]; rw [ld_b1, ld_b1]
  rw [e, ld_d1]
  exact congrArg (fun j : Fin 1024 => rowGain 0x44000000#32 (blkG y z r 1) (d (ix2 r ⟨1024 + j.val, by omega⟩)) k) hl

theorem outs6_at (c : Dev nD) (t : Fin cfg0.N) (r : Fin 256) (l : Fin 1024) :
    (outsAt0 m c t.val t.isLt).1 (ix2 r l) = blkO (iblk m c 0 t) (iblk m c 3 t) (iblk m c 5 t) r l := by
  unfold blkO
  by_cases h : t.val % 16 = 0
  · rw [outsAt0_A m c t h]; frame_out; rw [pay10_at]; simp only [← ld_a]
  · rw [outsAt0_B m c t h]; frame_out; rw [pay10_at]; simp only [← ld_a]

theorem outs7_at (c : Dev nD) (t : Fin cfg0.N) (r : Fin 256) (l : Fin 1024) :
    (outsAt0 m c t.val t.isLt).2.1 (ix2 r l) = blkY (iblk m c 1 t) (iblk m c 2 t) (iblk m c 4 t) (iblk m c 5 t) r l := by
  by_cases h : t.val % 16 = 0
  · rw [outsAt0_A m c t h]; frame_out
    simp only [pay3_eq]
    canon_tiles x hx
    · idx_vars x
      obtain rfl : r = x0 := Fin.ext hx0
      exact tileY1 _ _ _ _ r x1 l hx1
    · idx_vars x
      obtain rfl : r = x0 := Fin.ext hx0
      exact tileY0 _ _ _ _ r x1 l hx1
  · rw [outsAt0_B m c t h]; frame_out
    simp only [pay3_eq]
    canon_tiles x hx
    · idx_vars x
      obtain rfl : r = x0 := Fin.ext hx0
      exact tileY1 _ _ _ _ r x1 l hx1
    · idx_vars x
      obtain rfl : r = x0 := Fin.ext hx0
      exact tileY0 _ _ _ _ r x1 l hx1

theorem outs8_at (c : Dev nD) (t : Fin cfg0.N) (r : Fin 256) (l : Fin 1024) :
    (outsAt0 m c t.val t.isLt).2.2.1 (ix2 r l) = blkZ (iblk m c 1 t) (iblk m c 2 t) (iblk m c 4 t) (iblk m c 5 t) r l := by
  by_cases h : t.val % 16 = 0
  · rw [outsAt0_A m c t h]; frame_out
    simp only [pay4_eq]
    canon_tiles x hx
    · idx_vars x
      obtain rfl : r = x0 := Fin.ext hx0
      exact tileZ1 _ _ _ _ r x1 l hx1
    · idx_vars x
      obtain rfl : r = x0 := Fin.ext hx0
      exact tileZ0 _ _ _ _ r x1 l hx1
  · rw [outsAt0_B m c t h]; frame_out
    simp only [pay4_eq]
    canon_tiles x hx
    · idx_vars x
      obtain rfl : r = x0 := Fin.ext hx0
      exact tileZ1 _ _ _ _ r x1 l hx1
    · idx_vars x
      obtain rfl : r = x0 := Fin.ext hx0
      exact tileZ0 _ _ _ _ r x1 l hx1

/-- A row written as two halves over earlier stores, read at a lane. -/
theorem two_halves (w1 w0 : FVec Ideal S1x512 .f32) (L : List (View.Piece (Elt Ideal) S1x1024 .f32)) (l : Fin 1024) (v : EReal)
    (h1 : ∀ k : Fin 512, l.val = 512 + k.val → w1 (ix2 0 k) = v) (h0 : ∀ k : Fin 512, l.val = k.val → w0 (ix2 0 k) = v) :
    View.canon ((⟨Rect.unit (s := S1x1024) ![0, 512] ![1, 512] inb_S1x1024_S1x512_0_512, w1⟩ : View.Piece (Elt Ideal) S1x1024 .f32)
      :: ⟨Rect.unit (s := S1x1024) ![0, 0] ![1, 512] inb_S1x1024_S1x512_0_0, w0⟩ :: L) (ix2 0 l) = v := by
  by_cases hl : l.val < 512
  · rw [View.canon_cons_of_not_mem]
    · have e : (Rect.unit (s := S1x1024) ![0, 0] ![1, 512] inb_S1x1024_S1x512_0_0).emb (ix2 0 ⟨l.val, hl⟩) = ix2 0 l := by
        funext a
        apply Fin.ext
        refine (Rect.idx_unit_val _ _ _ _ a).trans ?_
        fin_cases a <;> simp [ix2]
      rw [← e, View.canon_cons_emb]
      exact h0 ⟨l.val, hl⟩ rfl
    · intro hm
      obtain ⟨x, hx⟩ := (Rect.unit (s := S1x1024) ![0, 512] ![1, 512] inb_S1x1024_S1x512_0_512).exists_idx_of_mem hm
      have h := (Rect.idx_unit_val ![0, 512] ![1, 512] inb_S1x1024_S1x512_0_512 x 1).symm.trans (congrArg (fun y : S1x1024.Idx => (y 1).val) hx)
      simp [ix2] at h
      omega
  · have e : (Rect.unit (s := S1x1024) ![0, 512] ![1, 512] inb_S1x1024_S1x512_0_512).emb (ix2 0 ⟨l.val - 512, by omega⟩) = ix2 0 l := by
      funext a
      apply Fin.ext
      refine (Rect.idx_unit_val _ _ _ _ a).trans ?_
      fin_cases a <;> simp [ix2] <;> omega
    rw [← e, View.canon_cons_emb]
    exact h1 ⟨l.val - 512, by omega⟩ (by show l.val = 512 + (l.val - 512); omega)

theorem outs10_first (c : Dev nD) (t : Fin cfg0.N) (h : t.val % 16 = 0) (l : Fin 1024) :
    (outsAt0 m c t.val t.isLt).2.2.2.2 (ix2 0 l) = 0 + blkDG (iblk m c 1 t) (iblk m c 2 t) (iblk m c 5 t) l := by
  rw [outsAt0_A m c t h]; frame_out
  simp only [pay5_eq]
  refine two_halves _ _ _ l _ (fun k hk => ?_) (fun k hk => ?_)
  · refine (tileG1 _ _ _ _ k l hk).trans (congrArg (· + _) ?_)
    rw [View.readCov_skip _ _ _ _ _ (by decide +kernel), View.readCov_fill _ _ _ _ _ (by decide +kernel)]
    pointwise [k0_pay7]
  · refine (tileG0 _ _ _ _ k l hk).trans (congrArg (· + _) ?_)
    rw [View.readCov_fill _ _ _ _ _ (by decide +kernel)]
    pointwise [k0_pay7]

theorem outs10_next (c : Dev nD) (t : Fin cfg0.N) (h : ¬ t.val % 16 = 0) (l : Fin 1024) :
    (outsAt0 m c t.val t.isLt).2.2.2.2 (ix2 0 l)
      = (outsAt0 m c (t.val - 1) (Nat.lt_of_le_of_lt (Nat.sub_le _ _) t.isLt)).2.2.2.2 (ix2 0 l) + blkDG (iblk m c 1 t) (iblk m c 2 t) (iblk m c 5 t) l := by
  rw [outsAt0_B m c t h]; frame_out
  simp only [pay5_eq]
  refine two_halves _ _ _ l _ (fun k hk => ?_) (fun k hk => ?_)
  · refine (tileG1 _ _ _ _ k l hk).trans (congrArg (· + _) ?_)
    have hl : lane 1 k = l := Fin.ext (show 1 * 512 + k.val = l.val by omega)
    exact (ld_g1 _ 0 k).trans (by rw [hl])
  · refine (tileG0 _ _ _ _ k l hk).trans (congrArg (· + _) ?_)
    have hl : lane 0 k = l := Fin.ext (show 0 * 512 + k.val = l.val by omega)
    exact (ld_g0 _ 0 k).trans (by rw [hl])

/-- The row of the arrays a block's row is. -/
abbrev row (t : Fin cfg0.N) (r : Fin 256) : Fin 4096 := ⟨t.val * 256 + r.val, by have h : t.val < 16 := t.isLt; omega⟩

theorem blk_o (c : Dev nD) (t : Fin cfg0.N) (r : Fin 256) (l : Fin 1024) :
    (iblk m c 0 t : FVec Ideal S256x1024 .f32) (ix2 r l) = (m ((c.tc : Thread nD τ).loc main_arg0) : FVec Ideal S4096x1024 .f32) (ix2 (row t r) l) := by
  blk_point [iblk, V, idx t]

theorem blk_y (c : Dev nD) (t : Fin cfg0.N) (r : Fin 256) (l : Fin 1024) :
    (iblk m c 1 t : FVec Ideal S256x1024 .f32) (ix2 r l) = (m ((c.tc : Thread nD τ).loc main_arg1) : FVec Ideal S4096x1024 .f32) (ix2 (row t r) l) := by
  blk_point [iblk, V, idx t]

theorem blk_z (c : Dev nD) (t : Fin cfg0.N) (r : Fin 256) (l : Fin 1024) :
    (iblk m c 2 t : FVec Ideal S256x1024 .f32) (ix2 r l) = (m ((c.tc : Thread nD τ).loc main_arg2) : FVec Ideal S4096x1024 .f32) (ix2 (row t r) l) := by
  blk_point [iblk, V, idx t]

theorem blk_d (c : Dev nD) (t : Fin cfg0.N) (r : Fin 256) (l : Fin 2048) :
    (iblk m c 5 t : FVec Ideal S256x2048 .f32) (ix2 r l) = (m ((c.tc : Thread nD τ).loc main_arg5) : FVec Ideal S4096x2048 .f32) (ix2 (row t r) l) := by
  blk_point [iblk, V, idx t]

theorem blk_a (c : Dev nD) (t : Fin cfg0.N) (l : Fin 1024) :
    (iblk m c 3 t : FVec Ideal S1x1024 .f32) (ix2 0 l) = (m ((c.tc : Thread nD τ).loc main_arg3) : FVec Ideal S1024 .f32) (ix1 l) := by
  pointwise [iblk, V]
  blk_point [iblk, V, idx t]

theorem blk_g (c : Dev nD) (t : Fin cfg0.N) (l : Fin 1024) :
    (iblk m c 4 t : FVec Ideal S1x1024 .f32) (ix2 0 l) = (m ((c.tc : Thread nD τ).loc main_arg4) : FVec Ideal S1024 .f32) (ix1 l) := by
  pointwise [iblk, V]
  blk_point [iblk, V, idx t]

theorem emb_6 (t : Fin cfg0.N) (G : FVec Ideal S4096x1024 .f32) (r : Fin 256) (l : Fin 1024) :
    G (((win0 6).blk t).view.emb (ix2 r l)) = G (ix2 (row t r) l) := by
  blk_point [idx t]

theorem emb_7 (t : Fin cfg0.N) (G : FVec Ideal S4096x1024 .f32) (r : Fin 256) (l : Fin 1024) :
    G (((win0 7).blk t).view.emb (ix2 r l)) = G (ix2 (row t r) l) := by
  blk_point [idx t]

theorem emb_8 (t : Fin cfg0.N) (G : FVec Ideal S4096x1024 .bf16) (r : Fin 256) (l : Fin 1024) :
    G (((win0 8).blk t).view.emb (ix2 r l)) = G (ix2 (row t r) l) := by
  blk_point [idx t]

theorem final_6 (c : Dev nD) :
    (dats m 0 c).arrAt 6 (cfgs 0).N = DO (m ((c.tc : Thread nD τ).loc main_arg0)) (m ((c.tc : Thread nD τ).loc main_arg3))
      (m ((c.tc : Thread nD τ).loc main_arg5)) := by
  refine (dats m 0 c).arrAt_eq_of_covers 6 _ (by decide +kernel) fun t hf y => ?_
  blk_simp; rw [after0_6]
  idx_vars y
  rw [outs6_at]
  refine Eq.trans ?_ (emb_6 t _ y0 y1).symm
  rw [DO_at]
  unfold blkO
  simp only [blk_o, blk_a, blk_d]
  rfl

theorem final_7 (c : Dev nD) :
    (dats m 0 c).arrAt 7 (cfgs 0).N = DY (m ((c.tc : Thread nD τ).loc main_arg1)) (m ((c.tc : Thread nD τ).loc main_arg2)) (m ((c.tc : Thread nD τ).loc main_arg4)) (m ((c.tc : Thread nD τ).loc main_arg5)) := by
  refine (dats m 0 c).arrAt_eq_of_covers 7 _ (by decide +kernel) fun t hf y => ?_
  blk_simp; rw [after0_7]
  idx_vars y
  rw [outs7_at]
  refine Eq.trans ?_ (emb_7 t _ y0 y1).symm
  rw [DY_at, DYZ_at]
  unfold blkY blkYZ blkG
  simp only [blk_y, blk_z, blk_g, blk_d]

/-- The precondition at the elements: the gain and the state-space half of the cotangent hold real numbers. -/
theorem real_args (h : Cert.Pre_MergeIdeal_merge_finite m) (c : Dev nD) :
    (∀ i, IsReal ((m ((c.tc : Thread nD τ).loc main_arg4) : FVec Ideal S1024 .f32) i))
      ∧ ∀ (r : Fin 4096) (k : Fin 1024), IsReal ((m ((c.tc : Thread nD τ).loc main_arg5) : FVec Ideal S4096x2048 .f32) (ix2 r ⟨1024 + k.val, by omega⟩)) := by
  have h0 := congrFun (h c) (fun a => a.elim0)
  dsimp only [Cert.Pre_merge_finite.fn] at h0
  obtain ⟨h1, h2⟩ := IntOp.andi_eq_one.1 h0
  haveI : Subsingleton Cert.Pre_merge_finite.S_.Idx := ⟨fun a b => funext fun k => k.elim0⟩
  refine ⟨fun i => isReal_of_all _ _ (fun _ => ofBits_inf) _ _ _ _ h1 i, fun r k => ?_⟩
  have hx := isReal_of_all _ _ (fun _ => ofBits_inf) _ _ _ _ h2 (ix2 r k)
  refine cast (congrArg IsReal ?_) hx
  pointwise []

theorem final_8 (h : Cert.Pre_MergeIdeal_merge_finite m) (c : Dev nD) :
    (dats m 0 c).arrAt 8 (cfgs 0).N = DZ (m ((c.tc : Thread nD τ).loc main_arg1)) (m ((c.tc : Thread nD τ).loc main_arg2)) (m ((c.tc : Thread nD τ).loc main_arg4)) (m ((c.tc : Thread nD τ).loc main_arg5)) := by
  obtain ⟨hg, hd⟩ := real_args m h c
  refine (dats m 0 c).arrAt_eq_of_covers 8 _ (by decide +kernel) fun t hf y => ?_
  blk_simp; rw [after0_8]
  idx_vars y
  rw [outs8_at]
  refine Eq.trans ?_ (emb_8 t _ y0 y1).symm
  rw [DZ_at _ _ _ _ hg hd, DYZ_at]
  unfold blkZ blkYZ blkG
  simp only [blk_y, blk_z, blk_g, blk_d]

/-- A block's part of the gradient of the attention half's gain. -/
def blkDA (o : FVec Ideal S256x1024 .f32) (d : FVec Ideal S256x2048 .f32) (l : Fin 1024) : EReal :=
  ∑ r : Fin 256, rowGain 0x44800000#32 (fun k : Fin 1024 => o (ix2 r k)) (d (ix2 r ⟨l.val, by omega⟩)) l

theorem outs9_first (c : Dev nD) (t : Fin cfg0.N) (h : t.val % 16 = 0) (l : Fin 1024) :
    (outsAt0 m c t.val t.isLt).2.2.2.1 (ix2 0 l) = 0 + blkDA (iblk m c 0 t) (iblk m c 5 t) l := by
  unfold blkDA
  rw [outsAt0_A m c t h]; frame_out; rw [pay11_at]; simp only [← ld_a]
  refine congrArg (· + _) ?_
  pointwise [k0_pay6]

theorem outs9_next (c : Dev nD) (t : Fin cfg0.N) (h : ¬ t.val % 16 = 0) (l : Fin 1024) :
    (outsAt0 m c t.val t.isLt).2.2.2.1 (ix2 0 l)
      = (outsAt0 m c (t.val - 1) (Nat.lt_of_le_of_lt (Nat.sub_le _ _) t.isLt)).2.2.2.1 (ix2 0 l) + blkDA (iblk m c 0 t) (iblk m c 5 t) l := by
  unfold blkDA
  rw [outsAt0_B m c t h]; frame_out; rw [pay11_at]; simp only [← ld_a]

/-- The only block of a gain's gradient is the array. -/
theorem emb_9 (t : Fin cfg0.N) (G : FVec Ideal S1x1024 .f32) (l : Fin 1024) :
    G (((win0 9).blk t).view.emb (ix2 0 l)) = G (ix2 0 l) := by
  blk_point [idx t]

theorem emb_10 (t : Fin cfg0.N) (G : FVec Ideal S1x1024 .f32) (l : Fin 1024) :
    G (((win0 10).blk t).view.emb (ix2 0 l)) = G (ix2 0 l) := by
  blk_point [idx t]

theorem final_9 (c : Dev nD) :
    (dats m 0 c).arrAt 9 (cfgs 0).N = DGA (m ((c.tc : Thread nD τ).loc main_arg0)) (m ((c.tc : Thread nD τ).loc main_arg5)) := by
  refine (dats m 0 c).arrAt_eq_of_covers 9 _ (by decide +kernel) fun t hf y => ?_
  blk_simp
  rw [after0_9]
  idx_vars y
  obtain rfl : 0 = y0 := Subsingleton.elim _ _
  refine Eq.trans ?_ (emb_9 t _ y1).symm
  rw [DGA_at]
  refine (Pipeline.eq_sum_fin_of_reset_step_apply_of_flush (fun n h l => (outsAt0 m c n h).2.2.2.1 (ix2 0 l)) 16 (fun _ => 0) _
    (outs9_first m c) (outs9_next m c) t ((flush0_9 t).mp hf) y1).trans ?_
  rw [zero_add]
  unfold blkDA
  refine Fin.sum_mul_add_congr fun s k hl => ?_
  have hr : row ⟨16 * (t.val / 16) + s.val, Pipeline.run_point_lt_of_flush t ((flush0_9 t).mp hf) s⟩ k = ⟨s.val * 256 + k.val, hl⟩ :=
    Fin.ext (by show (16 * (t.val / 16) + s.val) * 256 + k.val = s.val * 256 + k.val; have h : t.val < 16 := t.isLt; omega)
  simp only [blk_o, blk_d, hr]
  rfl

theorem final_10 (c : Dev nD) :
    (dats m 0 c).arrAt 10 (cfgs 0).N = DGS (m ((c.tc : Thread nD τ).loc main_arg1)) (m ((c.tc : Thread nD τ).loc main_arg2)) (m ((c.tc : Thread nD τ).loc main_arg5)) := by
  refine (dats m 0 c).arrAt_eq_of_covers 10 _ (by decide +kernel) fun t hf y => ?_
  blk_simp
  rw [after0_10]
  idx_vars y
  obtain rfl : 0 = y0 := Subsingleton.elim _ _
  refine Eq.trans ?_ (emb_10 t _ y1).symm
  rw [DGS_at]
  refine (Pipeline.eq_sum_fin_of_reset_step_apply_of_flush (fun n h l => (outsAt0 m c n h).2.2.2.2 (ix2 0 l)) 16 (fun _ => 0) _
    (outs10_first m c) (outs10_next m c) t ((flush0_10 t).mp hf) y1).trans ?_
  rw [zero_add]
  unfold blkDG blkG
  refine Fin.sum_mul_add_congr fun s k hl => ?_
  have hr : row ⟨16 * (t.val / 16) + s.val, Pipeline.run_point_lt_of_flush t ((flush0_10 t).mp hf) s⟩ k = ⟨s.val * 256 + k.val, hl⟩ :=
    Fin.ext (by show (16 * (t.val / 16) + s.val) * 256 + k.val = s.val * 256 + k.val; have h : t.val < 16 := t.isLt; omega)
  simp only [blk_y, blk_z, blk_d, hr]

end

/-- The program terminates and leaves its arguments unchanged, over machine words. -/
theorem frame : Cert.quiescent_Merge := fun m ρ _ => Cert.Merge.Gen.frame m ρ

/-- The same over the extended reals. -/
theorem frameIdeal : Cert.quiescent_MergeIdeal := fun m ρ _ => Cert.MergeIdeal.Gen.frame m ρ

/-- The reference terminates and leaves its arguments unchanged. -/
theorem frameReference : Cert.quiescent_MergeReferenceIdeal := by
  intro m g _
  exact (θ_run _ _ _).mono (fun r h => ⟨fun c => (h c).2.2.2.2.2, sem_eq_zero_of_no_sems rfl _⟩)
    (Cert.MergeReferenceIdeal.Value.run m g)

set_option maxHeartbeats 1600000 in
/-- Over the extended reals the kernel returns the gradients the reference returns, where the state-space gain and the
    cotangent's state-space half are finite. -/
theorem algebraic : Cert.algebraic_MergeIdeal_MergeReferenceIdeal_pre_merge_finite := by
  pair_intro
  · run_from Cert.MergeIdeal.Gen.run_main m g
  · hlo_run
    · exact (final_6 m c).symm
    · exact (final_7 m c).symm
    · exact (final_8 m hpre c).symm
    · exact (final_9 m c).symm
    · exact (final_10 m c).symm

end Cert.MergeValue

end
-- ==== Proof.AdamIn.lean ====
/- The AdamW update of the input projection: what the kernel's three result arrays hold. -/
module

public import proofs.«01_k».proof.Defs
public import proofs.«01_k».proof.Proof.Gen.AdamIn.Frame
public import proofs.«01_k».proof.Proof.Gen.AdamInIdeal.Value
public import proofs.«01_k».proof.Proof.Gen.AdamInReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AdamInValue

section
open Cert.AdamInReferenceIdeal Cert.AdamInReferenceIdeal.Gen

/-- The reference's new first moment. -/
def M (g m : FVec Ideal S8192x1412 .f32) : FVec Ideal S8192x1412 .f32 :=
  addf (mulf (broadcastInDim S8192x1412 ![] bcast_S_S8192x1412 (constant S_ .f32 0x3F666666#32)) m)
    (mulf (broadcastInDim S8192x1412 ![] bcast_S_S8192x1412 (constant S_ .f32 0x3DCCCCCD#32)) g)

/-- The reference's new second moment. -/
def W (g v : FVec Ideal S8192x1412 .f32) : FVec Ideal S8192x1412 .f32 :=
  addf (mulf (broadcastInDim S8192x1412 ![] bcast_S_S8192x1412 (constant S_ .f32 0x3F7FBE77#32)) v)
    (mulf (broadcastInDim S8192x1412 ![] bcast_S_S8192x1412 (constant S_ .f32 0x3A83126F#32)) (mulf g g))

/-- The reference's step of the weights. -/
def DELTA (w g m v : FVec Ideal S8192x1412 .f32) : FVec Ideal S8192x1412 .f32 :=
  mulf (broadcastInDim S8192x1412 ![] bcast_S_S8192x1412 (constant S_ .f32 0xBA83126F#32))
    (addf (Host.divf (Host.divf (M g m) (broadcastInDim S8192x1412 ![] bcast_S_S8192x1412 (constant S_ .f32 0x3F26BD02#32)))
        (addf (Host.sqrt (Host.divf (W g v) (broadcastInDim S8192x1412 ![] bcast_S_S8192x1412 (constant S_ .f32 0x3C231ACC#32))))
          (broadcastInDim S8192x1412 ![] bcast_S_S8192x1412 (constant S_ .f32 0x322BCC77#32))))
      (mulf (broadcastInDim S8192x1412 ![] bcast_S_S8192x1412 (constant S_ .f32 0x3C23D70A#32)) w))

end

section
open Cert.AdamInIdeal Cert.AdamInIdeal.Gen Cert.AdamInIdeal.Value

/-- The kernel's new first moment is the reference's. -/
theorem m_eq (g m : FVec Ideal S8192x1412 .f32) : G5 (F := Ideal) g m = M g m := by
  funext i
  pointwise [M]

/-- The kernel's new second moment is the reference's. -/
theorem v_eq (g v : FVec Ideal S8192x1412 .f32) : G6 (F := Ideal) g v = W g v := by
  funext i
  pointwise [W]

/-- The kernel's step of the weights is the reference's. -/
theorem delta_eq (w g m v : FVec Ideal S8192x1412 .f32) : G4 (F := Ideal) g m v w = DELTA w g m v := by
  funext i
  pointwise [DELTA, M, W]

end

/-- The program terminates and leaves its arguments unchanged, over machine words. -/
theorem frame : Cert.quiescent_AdamIn := fun m ρ _ => Cert.AdamIn.Gen.frame m ρ

/-- The same over the extended reals. -/
theorem frameIdeal : Cert.quiescent_AdamInIdeal := fun m ρ _ => Cert.AdamInIdeal.Gen.frame m ρ

/-- The reference terminates and leaves its arguments unchanged. -/
theorem frameReference : Cert.quiescent_AdamInReferenceIdeal := by
  intro m g _
  exact (θ_run _ _ _).mono (fun r h => ⟨fun c => (h c).2.2.2, sem_eq_zero_of_no_sems rfl _⟩)
    (Cert.AdamInReferenceIdeal.Value.run m g)

set_option maxHeartbeats 1600000 in
/-- Over the extended reals the kernel returns the step of the weights and the two new moments the reference returns. -/
theorem algebraic : Cert.algebraic_AdamInIdeal_AdamInReferenceIdeal := by
  pair_intro
  · run_from Cert.AdamInIdeal.Value.run m g
  · hlo_run
    · exact (delta_eq _ _ _ _).symm
    · exact (m_eq _ _).symm
    · exact (v_eq _ _).symm

end Cert.AdamInValue

end
-- ==== Proof.AdamOut.lean ====
/- The AdamW update of the output projection: what the kernel's three result arrays hold. -/
module

public import proofs.«01_k».proof.Defs
public import proofs.«01_k».proof.Proof.Gen.AdamOut.Frame
public import proofs.«01_k».proof.Proof.Gen.AdamOutIdeal.Value
public import proofs.«01_k».proof.Proof.Gen.AdamOutReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AdamOutValue

section
open Cert.AdamOutReferenceIdeal Cert.AdamOutReferenceIdeal.Gen

/-- The reference's new first moment. -/
def M (g m : FVec Ideal S2048x2048 .f32) : FVec Ideal S2048x2048 .f32 :=
  addf (mulf (broadcastInDim S2048x2048 ![] bcast_S_S2048x2048 (constant S_ .f32 0x3F666666#32)) m)
    (mulf (broadcastInDim S2048x2048 ![] bcast_S_S2048x2048 (constant S_ .f32 0x3DCCCCCD#32)) g)

/-- The reference's new second moment. -/
def W (g v : FVec Ideal S2048x2048 .f32) : FVec Ideal S2048x2048 .f32 :=
  addf (mulf (broadcastInDim S2048x2048 ![] bcast_S_S2048x2048 (constant S_ .f32 0x3F7FBE77#32)) v)
    (mulf (broadcastInDim S2048x2048 ![] bcast_S_S2048x2048 (constant S_ .f32 0x3A83126F#32)) (mulf g g))

/-- The reference's step of the weights. -/
def DELTA (w g m v : FVec Ideal S2048x2048 .f32) : FVec Ideal S2048x2048 .f32 :=
  mulf (broadcastInDim S2048x2048 ![] bcast_S_S2048x2048 (constant S_ .f32 0xBA83126F#32))
    (addf (Host.divf (Host.divf (M g m) (broadcastInDim S2048x2048 ![] bcast_S_S2048x2048 (constant S_ .f32 0x3F26BD02#32)))
        (addf (Host.sqrt (Host.divf (W g v) (broadcastInDim S2048x2048 ![] bcast_S_S2048x2048 (constant S_ .f32 0x3C231ACC#32))))
          (broadcastInDim S2048x2048 ![] bcast_S_S2048x2048 (constant S_ .f32 0x322BCC77#32))))
      (mulf (broadcastInDim S2048x2048 ![] bcast_S_S2048x2048 (constant S_ .f32 0x3C23D70A#32)) w))

end

section
open Cert.AdamOutIdeal Cert.AdamOutIdeal.Gen Cert.AdamOutIdeal.Value

/-- The kernel's new first moment is the reference's. -/
theorem m_eq (g m : FVec Ideal S2048x2048 .f32) : G5 (F := Ideal) g m = M g m := by
  funext i
  pointwise [M]

/-- The kernel's new second moment is the reference's. -/
theorem v_eq (g v : FVec Ideal S2048x2048 .f32) : G6 (F := Ideal) g v = W g v := by
  funext i
  pointwise [W]

/-- The kernel's step of the weights is the reference's. -/
theorem delta_eq (w g m v : FVec Ideal S2048x2048 .f32) : G4 (F := Ideal) g m v w = DELTA w g m v := by
  funext i
  pointwise [DELTA, M, W]

end

/-- The program terminates and leaves its arguments unchanged, over machine words. -/
theorem frame : Cert.quiescent_AdamOut := fun m ρ _ => Cert.AdamOut.Gen.frame m ρ

/-- The same over the extended reals. -/
theorem frameIdeal : Cert.quiescent_AdamOutIdeal := fun m ρ _ => Cert.AdamOutIdeal.Gen.frame m ρ

/-- The reference terminates and leaves its arguments unchanged. -/
theorem frameReference : Cert.quiescent_AdamOutReferenceIdeal := by
  intro m g _
  exact (θ_run _ _ _).mono (fun r h => ⟨fun c => (h c).2.2.2, sem_eq_zero_of_no_sems rfl _⟩)
    (Cert.AdamOutReferenceIdeal.Value.run m g)

set_option maxHeartbeats 1600000 in
/-- Over the extended reals the kernel returns the step of the weights and the two new moments the reference returns. -/
theorem algebraic : Cert.algebraic_AdamOutIdeal_AdamOutReferenceIdeal := by
  pair_intro
  · run_from Cert.AdamOutIdeal.Value.run m g
  · hlo_run
    · exact (delta_eq _ _ _ _).symm
    · exact (m_eq _ _).symm
    · exact (v_eq _ _).symm

end Cert.AdamOutValue

end
-- ==== Proof.AdamGate.lean ====
/- The AdamW update of the gate projection: what the kernel's three result arrays hold. -/
module

public import proofs.«01_k».proof.Defs
public import proofs.«01_k».proof.Proof.Gen.AdamGate.Frame
public import proofs.«01_k».proof.Proof.Gen.AdamGateIdeal.Value
public import proofs.«01_k».proof.Proof.Gen.AdamGateReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AdamGateValue

section
open Cert.AdamGateReferenceIdeal Cert.AdamGateReferenceIdeal.Gen

/-- The reference's new first moment. -/
def M (g m : FVec Ideal S8192x1408 .f32) : FVec Ideal S8192x1408 .f32 :=
  addf (mulf (broadcastInDim S8192x1408 ![] bcast_S_S8192x1408 (constant S_ .f32 0x3F666666#32)) m)
    (mulf (broadcastInDim S8192x1408 ![] bcast_S_S8192x1408 (constant S_ .f32 0x3DCCCCCD#32)) g)

/-- The reference's new second moment. -/
def W (g v : FVec Ideal S8192x1408 .f32) : FVec Ideal S8192x1408 .f32 :=
  addf (mulf (broadcastInDim S8192x1408 ![] bcast_S_S8192x1408 (constant S_ .f32 0x3F7FBE77#32)) v)
    (mulf (broadcastInDim S8192x1408 ![] bcast_S_S8192x1408 (constant S_ .f32 0x3A83126F#32)) (mulf g g))

/-- The reference's step of the weights. -/
def DELTA (w g m v : FVec Ideal S8192x1408 .f32) : FVec Ideal S8192x1408 .f32 :=
  mulf (broadcastInDim S8192x1408 ![] bcast_S_S8192x1408 (constant S_ .f32 0xBA83126F#32))
    (addf (Host.divf (Host.divf (M g m) (broadcastInDim S8192x1408 ![] bcast_S_S8192x1408 (constant S_ .f32 0x3F26BD02#32)))
        (addf (Host.sqrt (Host.divf (W g v) (broadcastInDim S8192x1408 ![] bcast_S_S8192x1408 (constant S_ .f32 0x3C231ACC#32))))
          (broadcastInDim S8192x1408 ![] bcast_S_S8192x1408 (constant S_ .f32 0x322BCC77#32))))
      (mulf (broadcastInDim S8192x1408 ![] bcast_S_S8192x1408 (constant S_ .f32 0x3C23D70A#32)) w))

end

section
open Cert.AdamGateIdeal Cert.AdamGateIdeal.Gen Cert.AdamGateIdeal.Value

/-- The kernel's new first moment is the reference's. -/
theorem m_eq (g m : FVec Ideal S8192x1408 .f32) : G5 (F := Ideal) g m = M g m := by
  funext i
  pointwise [M]

/-- The kernel's new second moment is the reference's. -/
theorem v_eq (g v : FVec Ideal S8192x1408 .f32) : G6 (F := Ideal) g v = W g v := by
  funext i
  pointwise [W]

/-- The kernel's step of the weights is the reference's. -/
theorem delta_eq (w g m v : FVec Ideal S8192x1408 .f32) : G4 (F := Ideal) g m v w = DELTA w g m v := by
  funext i
  pointwise [DELTA, M, W]

end

/-- The program terminates and leaves its arguments unchanged, over machine words. -/
theorem frame : Cert.quiescent_AdamGate := fun m ρ _ => Cert.AdamGate.Gen.frame m ρ

/-- The same over the extended reals. -/
theorem frameIdeal : Cert.quiescent_AdamGateIdeal := fun m ρ _ => Cert.AdamGateIdeal.Gen.frame m ρ

/-- The reference terminates and leaves its arguments unchanged. -/
theorem frameReference : Cert.quiescent_AdamGateReferenceIdeal := by
  intro m g _
  exact (θ_run _ _ _).mono (fun r h => ⟨fun c => (h c).2.2.2, sem_eq_zero_of_no_sems rfl _⟩)
    (Cert.AdamGateReferenceIdeal.Value.run m g)

set_option maxHeartbeats 1600000 in
/-- Over the extended reals the kernel returns the step of the weights and the two new moments the reference returns. -/
theorem algebraic : Cert.algebraic_AdamGateIdeal_AdamGateReferenceIdeal := by
  pair_intro
  · run_from Cert.AdamGateIdeal.Value.run m g
  · hlo_run
    · exact (delta_eq _ _ _ _).symm
    · exact (m_eq _ _).symm
    · exact (v_eq _ _).symm

end Cert.AdamGateValue

end
-- ==== Proof.AdamDown.lean ====
/- The AdamW update of the down projection: what the kernel's three result arrays hold. -/
module

public import proofs.«01_k».proof.Defs
public import proofs.«01_k».proof.Proof.Gen.AdamDown.Frame
public import proofs.«01_k».proof.Proof.Gen.AdamDownIdeal.Value
public import proofs.«01_k».proof.Proof.Gen.AdamDownReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AdamDownValue

section
open Cert.AdamDownReferenceIdeal Cert.AdamDownReferenceIdeal.Gen

/-- The reference's new first moment. -/
def M (g m : FVec Ideal S5632x2048 .f32) : FVec Ideal S5632x2048 .f32 :=
  addf (mulf (broadcastInDim S5632x2048 ![] bcast_S_S5632x2048 (constant S_ .f32 0x3F666666#32)) m)
    (mulf (broadcastInDim S5632x2048 ![] bcast_S_S5632x2048 (constant S_ .f32 0x3DCCCCCD#32)) g)

/-- The reference's new second moment. -/
def W (g v : FVec Ideal S5632x2048 .f32) : FVec Ideal S5632x2048 .f32 :=
  addf (mulf (broadcastInDim S5632x2048 ![] bcast_S_S5632x2048 (constant S_ .f32 0x3F7FBE77#32)) v)
    (mulf (broadcastInDim S5632x2048 ![] bcast_S_S5632x2048 (constant S_ .f32 0x3A83126F#32)) (mulf g g))

/-- The reference's step of the weights. -/
def DELTA (w g m v : FVec Ideal S5632x2048 .f32) : FVec Ideal S5632x2048 .f32 :=
  mulf (broadcastInDim S5632x2048 ![] bcast_S_S5632x2048 (constant S_ .f32 0xBA83126F#32))
    (addf (Host.divf (Host.divf (M g m) (broadcastInDim S5632x2048 ![] bcast_S_S5632x2048 (constant S_ .f32 0x3F26BD02#32)))
        (addf (Host.sqrt (Host.divf (W g v) (broadcastInDim S5632x2048 ![] bcast_S_S5632x2048 (constant S_ .f32 0x3C231ACC#32))))
          (broadcastInDim S5632x2048 ![] bcast_S_S5632x2048 (constant S_ .f32 0x322BCC77#32))))
      (mulf (broadcastInDim S5632x2048 ![] bcast_S_S5632x2048 (constant S_ .f32 0x3C23D70A#32)) w))

end

section
open Cert.AdamDownIdeal Cert.AdamDownIdeal.Gen Cert.AdamDownIdeal.Value

/-- The kernel's new first moment is the reference's. -/
theorem m_eq (g m : FVec Ideal S5632x2048 .f32) : G5 (F := Ideal) g m = M g m := by
  funext i
  pointwise [M]

/-- The kernel's new second moment is the reference's. -/
theorem v_eq (g v : FVec Ideal S5632x2048 .f32) : G6 (F := Ideal) g v = W g v := by
  funext i
  pointwise [W]

/-- The kernel's step of the weights is the reference's. -/
theorem delta_eq (w g m v : FVec Ideal S5632x2048 .f32) : G4 (F := Ideal) g m v w = DELTA w g m v := by
  funext i
  pointwise [DELTA, M, W]

end

/-- The program terminates and leaves its arguments unchanged, over machine words. -/
theorem frame : Cert.quiescent_AdamDown := fun m ρ _ => Cert.AdamDown.Gen.frame m ρ

/-- The same over the extended reals. -/
theorem frameIdeal : Cert.quiescent_AdamDownIdeal := fun m ρ _ => Cert.AdamDownIdeal.Gen.frame m ρ

/-- The reference terminates and leaves its arguments unchanged. -/
theorem frameReference : Cert.quiescent_AdamDownReferenceIdeal := by
  intro m g _
  exact (θ_run _ _ _).mono (fun r h => ⟨fun c => (h c).2.2.2, sem_eq_zero_of_no_sems rfl _⟩)
    (Cert.AdamDownReferenceIdeal.Value.run m g)

set_option maxHeartbeats 1600000 in
/-- Over the extended reals the kernel returns the step of the weights and the two new moments the reference returns. -/
theorem algebraic : Cert.algebraic_AdamDownIdeal_AdamDownReferenceIdeal := by
  pair_intro
  · run_from Cert.AdamDownIdeal.Value.run m g
  · hlo_run
    · exact (delta_eq _ _ _ _).symm
    · exact (m_eq _ _).symm
    · exact (v_eq _ _).symm

end Cert.AdamDownValue

end
-- ==== Proof.AdamSmall.lean ====
/- The AdamW update of the packed small weights: what the kernel's three result arrays hold. -/
module

public import proofs.«01_k».proof.Defs
public import proofs.«01_k».proof.Proof.Gen.AdamSmall.Frame
public import proofs.«01_k».proof.Proof.Gen.AdamSmallIdeal.Value
public import proofs.«01_k».proof.Proof.Gen.AdamSmallReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AdamSmallValue

section
open Cert.AdamSmallReferenceIdeal Cert.AdamSmallReferenceIdeal.Gen

/-- The reference's new first moment. -/
def M (g m : FVec Ideal S304x128 .f32) : FVec Ideal S304x128 .f32 :=
  addf (mulf (broadcastInDim S304x128 ![] bcast_S_S304x128 (constant S_ .f32 0x3F666666#32)) m)
    (mulf (broadcastInDim S304x128 ![] bcast_S_S304x128 (constant S_ .f32 0x3DCCCCCD#32)) g)

/-- The reference's new second moment. -/
def W (g v : FVec Ideal S304x128 .f32) : FVec Ideal S304x128 .f32 :=
  addf (mulf (broadcastInDim S304x128 ![] bcast_S_S304x128 (constant S_ .f32 0x3F7FBE77#32)) v)
    (mulf (broadcastInDim S304x128 ![] bcast_S_S304x128 (constant S_ .f32 0x3A83126F#32)) (mulf g g))

/-- The reference's step of the weights. -/
def DELTA (w g m v : FVec Ideal S304x128 .f32) : FVec Ideal S304x128 .f32 :=
  mulf (broadcastInDim S304x128 ![] bcast_S_S304x128 (constant S_ .f32 0xBA83126F#32))
    (addf (Host.divf (Host.divf (M g m) (broadcastInDim S304x128 ![] bcast_S_S304x128 (constant S_ .f32 0x3F26BD02#32)))
        (addf (Host.sqrt (Host.divf (W g v) (broadcastInDim S304x128 ![] bcast_S_S304x128 (constant S_ .f32 0x3C231ACC#32))))
          (broadcastInDim S304x128 ![] bcast_S_S304x128 (constant S_ .f32 0x322BCC77#32))))
      (mulf (broadcastInDim S304x128 ![] bcast_S_S304x128 (constant S_ .f32 0x3C23D70A#32)) w))

end

section
open Cert.AdamSmallIdeal Cert.AdamSmallIdeal.Gen Cert.AdamSmallIdeal.Value

/-- The kernel's new first moment is the reference's. -/
theorem m_eq (g m : FVec Ideal S304x128 .f32) : G5 (F := Ideal) g m = M g m := by
  funext i
  pointwise [M]

/-- The kernel's new second moment is the reference's. -/
theorem v_eq (g v : FVec Ideal S304x128 .f32) : G6 (F := Ideal) g v = W g v := by
  funext i
  pointwise [W]

/-- The kernel's step of the weights is the reference's. -/
theorem delta_eq (w g m v : FVec Ideal S304x128 .f32) : G4 (F := Ideal) g m v w = DELTA w g m v := by
  funext i
  pointwise [DELTA, M, W]

end

/-- The program terminates and leaves its arguments unchanged, over machine words. -/
theorem frame : Cert.quiescent_AdamSmall := fun m ρ _ => Cert.AdamSmall.Gen.frame m ρ

/-- The same over the extended reals. -/
theorem frameIdeal : Cert.quiescent_AdamSmallIdeal := fun m ρ _ => Cert.AdamSmallIdeal.Gen.frame m ρ

/-- The reference terminates and leaves its arguments unchanged. -/
theorem frameReference : Cert.quiescent_AdamSmallReferenceIdeal := by
  intro m g _
  exact (θ_run _ _ _).mono (fun r h => ⟨fun c => (h c).2.2.2, sem_eq_zero_of_no_sems rfl _⟩)
    (Cert.AdamSmallReferenceIdeal.Value.run m g)

set_option maxHeartbeats 1600000 in
/-- Over the extended reals the kernel returns the step of the weights and the two new moments the reference returns. -/
theorem algebraic : Cert.algebraic_AdamSmallIdeal_AdamSmallReferenceIdeal := by
  pair_intro
  · run_from Cert.AdamSmallIdeal.Value.run m g
  · hlo_run
    · exact (delta_eq _ _ _ _).symm
    · exact (m_eq _ _).symm
    · exact (v_eq _ _).symm

end Cert.AdamSmallValue

end
-- ==== Proof.Conv.lean ====
/- The gradient of the causal depthwise convolution with its gate: what the kernel's three arrays hold after the run,
   against the reverse-mode gradient of the forward lines. -/
module

public import proofs.«01_k».proof.Defs
public import proofs.«01_k».proof.Proof.Gen.Pre_conv_finite
public import proofs.«01_k».proof.Proof.Gen.Conv.Frame
public import proofs.«01_k».proof.Proof.Gen.ConvIdeal.Value
public import proofs.«01_k».proof.Proof.Gen.ConvReferenceIdeal.Run
public import proofs.«01_k».proof.Proof.Reals
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals
open scoped BigOperators

namespace Cert.ConvValue

/-! ## One channel: the convolution over its column, and its gradient -/

/-- The column `U` delayed so that tap `i` of four meets it, zero before its first row. -/
def tap (U : Fin 2048 → EReal) (i : Fin 4) (s : Fin 2048) : EReal :=
  if h : 3 ≤ s.val + i.val then U ⟨s.val + i.val - 3, by omega⟩ else 0

/-- The convolution before its gate. -/
def preact (U : Fin 2048 → EReal) (W : Fin 4 → EReal) (b : EReal) (s : Fin 2048) : EReal :=
  b + tap U 0 s * W 0 + tap U 1 s * W 1 + tap U 2 s * W 2 + tap U 3 s * W 3

/-- The cotangent carried back through the gate. -/
def dpre (U : Fin 2048 → EReal) (W : Fin 4 → EReal) (b : EReal) (D : Fin 2048 → EReal) (s : Fin 2048) : EReal :=
  D s * (logi (preact U W b s) * (1 + preact U W b s * (1 - logi (preact U W b s))))

/-- The column `G` advanced by `i` rows, zero past its last row. -/
def back (G : Fin 2048 → EReal) (i : Fin 4) (s : Fin 2048) : EReal :=
  if h : s.val + i.val < 2048 then G ⟨s.val + i.val, h⟩ else 0

/-- The gradient of the column. -/
def dcol (G : Fin 2048 → EReal) (W : Fin 4 → EReal) (s : Fin 2048) : EReal :=
  back G 3 s * W 0 + back G 2 s * W 1 + back G 1 s * W 2 + back G 0 s * W 3

section
open Cert.ConvReferenceIdeal Cert.ConvReferenceIdeal.Gen

/-- The reference's padded input. -/
def CAT (u : FVec Ideal S2x2048x1536 .f32) : FVec Ideal S2x2051x1536 .f32 :=
  concatenate S2x2051x1536 1 [⟨S2x3x1536, (broadcastInDim S2x3x1536 ![] bcast_S_S2x3x1536 (constant S_ .f32 0x00000000#32))⟩, ⟨S2x2048x1536, u⟩] concatenates_S2x3x1536_S2x2048x1536_S2x2051x1536_d1

/-- A row of the taps over every position. -/
def ROW0 (w : FVec Ideal S4x1536 .f32) : FVec Ideal S2x2048x1536 .f32 :=
  broadcastInDim S2x2048x1536 ![0, 1, 2] bcast_S1x1x1536_S2x2048x1536_0_1_2 (broadcastInDim S1x1x1536 ![2] bcast_S1536_S1x1x1536_2 (shapeCast S1536 (extractStridedSlice S1x1536 ![0, 0] w slices_S4x1536_S1x1536_0_0) shapeCasts_S1x1536_S1536))

/-- The second row of the taps over every position. -/
def ROW1 (w : FVec Ideal S4x1536 .f32) : FVec Ideal S2x2048x1536 .f32 :=
  broadcastInDim S2x2048x1536 ![0, 1, 2] bcast_S1x1x1536_S2x2048x1536_0_1_2 (broadcastInDim S1x1x1536 ![2] bcast_S1536_S1x1x1536_2 (shapeCast S1536 (extractStridedSlice S1x1536 ![1, 0] w slices_S4x1536_S1x1536_1_0) shapeCasts_S1x1536_S1536))

/-- The third row of the taps over every position. -/
def ROW2 (w : FVec Ideal S4x1536 .f32) : FVec Ideal S2x2048x1536 .f32 :=
  broadcastInDim S2x2048x1536 ![0, 1, 2] bcast_S1x1x1536_S2x2048x1536_0_1_2 (broadcastInDim S1x1x1536 ![2] bcast_S1536_S1x1x1536_2 (shapeCast S1536 (extractStridedSlice S1x1536 ![2, 0] w slices_S4x1536_S1x1536_2_0) shapeCasts_S1x1536_S1536))

/-- The last row of the taps over every position. -/
def ROW3 (w : FVec Ideal S4x1536 .f32) : FVec Ideal S2x2048x1536 .f32 :=
  broadcastInDim S2x2048x1536 ![0, 1, 2] bcast_S1x1x1536_S2x2048x1536_0_1_2 (broadcastInDim S1x1x1536 ![2] bcast_S1536_S1x1x1536_2 (shapeCast S1536 (extractStridedSlice S1x1536 ![3, 0] w slices_S4x1536_S1x1536_3_0) shapeCasts_S1x1536_S1536))

/-- The padded input at each tap's delay. -/
def TAP0 (u : FVec Ideal S2x2048x1536 .f32) : FVec Ideal S2x2048x1536 .f32 :=
  extractStridedSlice S2x2048x1536 ![0, 0, 0] (CAT u) slices_S2x2051x1536_S2x2048x1536_0_0_0

/-- The padded input at the second tap's delay. -/
def TAP1 (u : FVec Ideal S2x2048x1536 .f32) : FVec Ideal S2x2048x1536 .f32 :=
  extractStridedSlice S2x2048x1536 ![0, 1, 0] (CAT u) slices_S2x2051x1536_S2x2048x1536_0_1_0

/-- The padded input at the third tap's delay. -/
def TAP2 (u : FVec Ideal S2x2048x1536 .f32) : FVec Ideal S2x2048x1536 .f32 :=
  extractStridedSlice S2x2048x1536 ![0, 2, 0] (CAT u) slices_S2x2051x1536_S2x2048x1536_0_2_0

/-- The padded input at the last tap's delay. -/
def TAP3 (u : FVec Ideal S2x2048x1536 .f32) : FVec Ideal S2x2048x1536 .f32 :=
  extractStridedSlice S2x2048x1536 ![0, 3, 0] (CAT u) slices_S2x2051x1536_S2x2048x1536_0_3_0

/-- The reference's convolution before its gate. -/
def PRE (u : FVec Ideal S2x2048x1536 .f32) (w : FVec Ideal S4x1536 .f32) (b : FVec Ideal S1536 .f32) : FVec Ideal S2x2048x1536 .f32 :=
  addf (addf (addf (addf (broadcastInDim S2x2048x1536 ![0, 1, 2] bcast_S1x1x1536_S2x2048x1536_0_1_2 (broadcastInDim S1x1x1536 ![2] bcast_S1536_S1x1x1536_2 b)) (mulf (TAP0 u) (ROW0 w))) (mulf (TAP1 u) (ROW1 w))) (mulf (TAP2 u) (ROW2 w))) (mulf (TAP3 u) (ROW3 w))

/-- The reference's logistic of it. -/
def SIG (p : FVec Ideal S2x2048x1536 .f32) : FVec Ideal S2x2048x1536 .f32 :=
  Host.divf (broadcastInDim S2x2048x1536 ![] bcast_S_S2x2048x1536 (constant S_ .f32 0x3F800000#32)) (addf (broadcastInDim S2x2048x1536 ![] bcast_S_S2x2048x1536 (constant S_ .f32 0x3F800000#32)) (Host.exp (Host.negf p)))

/-- The reference's cotangent carried back through the gate. -/
def DPRE (p d : FVec Ideal S2x2048x1536 .f32) : FVec Ideal S2x2048x1536 .f32 :=
  addf (mulf d (SIG p)) (mulf (mulf p d) (mulf (SIG p) (subf (broadcastInDim S2x2048x1536 ![] bcast_S_S2x2048x1536 (constant S_ .f32 0x3F800000#32)) (SIG p))))

/-- The reference's gradient of the input, from the gradient before the gate. -/
def DU (g : FVec Ideal S2x2048x1536 .f32) (w : FVec Ideal S4x1536 .f32) : FVec Ideal S2x2048x1536 .bf16 :=
  truncf .bf16 (extractStridedSlice S2x2048x1536 ![0, 3, 0] (addf (addf (addf (pad S2x2051x1536 ![0, 3, 0] ![0, 0, 0] ![0, 0, 0] (mulf g (ROW3 w)) (constant S_ .f32 0x00000000#32) pads_S2x2048x1536_S2x2051x1536_000_300_000 h_S_) (pad S2x2051x1536 ![0, 2, 0] ![0, 1, 0] ![0, 0, 0] (mulf g (ROW2 w)) (constant S_ .f32 0x00000000#32) pads_S2x2048x1536_S2x2051x1536_000_210_000 h_S_)) (pad S2x2051x1536 ![0, 1, 0] ![0, 2, 0] ![0, 0, 0] (mulf g (ROW1 w)) (constant S_ .f32 0x00000000#32) pads_S2x2048x1536_S2x2051x1536_000_120_000 h_S_)) (pad S2x2051x1536 ![0, 0, 0] ![0, 3, 0] ![0, 0, 0] (mulf g (ROW0 w)) (constant S_ .f32 0x00000000#32) pads_S2x2048x1536_S2x2051x1536_000_030_000 h_S_)) slices_S2x2051x1536_S2x2048x1536_0_3_0) bitsLt_bf16_f32

/-- A sum over every position of every sequence. -/
def SUM (x : FVec Ideal S2x2048x1536 .f32) : FVec Ideal S1536 .f32 :=
  Host.reduceAdd (shapeCast S1x1x1536 (Host.reduceAdd x (constant S_ .f32 0x00000000#32) reducesTo_S2x2048x1536_S1536_d0_1 h_S_) shapeCasts_S1536_S1x1x1536) (constant S_ .f32 0x00000000#32) reducesTo_S1x1x1536_S1536_d0_1 h_S_

/-- The reference's gradient of the taps. -/
def DW (u g : FVec Ideal S2x2048x1536 .f32) : FVec Ideal S4x1536 .f32 :=
  addf (addf (addf (pad S4x1536 ![3, 0] ![0, 0] ![0, 0] (broadcastInDim S1x1536 ![1] bcast_S1536_S1x1536_1 (SUM (mulf (TAP3 u) g))) (constant S_ .f32 0x00000000#32) pads_S1x1536_S4x1536_300_000 h_S_) (pad S4x1536 ![2, 0] ![1, 0] ![0, 0] (broadcastInDim S1x1536 ![1] bcast_S1536_S1x1536_1 (SUM (mulf (TAP2 u) g))) (constant S_ .f32 0x00000000#32) pads_S1x1536_S4x1536_210_000 h_S_)) (pad S4x1536 ![1, 0] ![2, 0] ![0, 0] (broadcastInDim S1x1536 ![1] bcast_S1536_S1x1536_1 (SUM (mulf (TAP1 u) g))) (constant S_ .f32 0x00000000#32) pads_S1x1536_S4x1536_120_000 h_S_)) (pad S4x1536 ![0, 0] ![3, 0] ![0, 0] (broadcastInDim S1x1536 ![1] bcast_S1536_S1x1536_1 (SUM (mulf (TAP0 u) g))) (constant S_ .f32 0x00000000#32) pads_S1x1536_S4x1536_030_000 h_S_)

/-- The reference's gradient of the bias. -/
def DB (g : FVec Ideal S2x2048x1536 .f32) : FVec Ideal S1x1536 .f32 :=
  shapeCast S1x1536 (SUM g) shapeCasts_S1536_S1x1536

theorem CAT_at (u : FVec Ideal S2x2048x1536 .f32) (b : Fin 2) (n : Fin 2051) (l : Fin 1536) :
    CAT u (ix3 b n l) = if h : 3 ≤ n.val then u (ix3 b ⟨n.val - 3, by omega⟩ l) else 0 := by
  by_cases h : 3 ≤ n.val
  · have h' : ¬ n.val < 3 := by omega
    rw [dif_pos h]
    pointwise [CAT, h']
  · have h' : n.val < 3 := by omega
    rw [dif_neg h]
    pointwise [CAT, h']

theorem TAP0_at (u : FVec Ideal S2x2048x1536 .f32) (b : Fin 2) (s : Fin 2048) (l : Fin 1536) :
    TAP0 u (ix3 b s l) = tap (fun s => u (ix3 b s l)) 0 s := by
  have h : TAP0 u (ix3 b s l) = CAT u (ix3 b ⟨s.val + (0 : Fin 4).val, by omega⟩ l) := by pointwise [TAP0]
  rw [h, CAT_at, tap]

theorem TAP1_at (u : FVec Ideal S2x2048x1536 .f32) (b : Fin 2) (s : Fin 2048) (l : Fin 1536) :
    TAP1 u (ix3 b s l) = tap (fun s => u (ix3 b s l)) 1 s := by
  have h : TAP1 u (ix3 b s l) = CAT u (ix3 b ⟨s.val + (1 : Fin 4).val, by omega⟩ l) := by
    refine Eq.trans (b := CAT u (ix3 b ⟨1 + s.val, by omega⟩ l)) (by pointwise [TAP1]) ?_
    simp only [Nat.add_comm 1 s.val]
    rfl
  rw [h, CAT_at, tap]

theorem TAP2_at (u : FVec Ideal S2x2048x1536 .f32) (b : Fin 2) (s : Fin 2048) (l : Fin 1536) :
    TAP2 u (ix3 b s l) = tap (fun s => u (ix3 b s l)) 2 s := by
  have h : TAP2 u (ix3 b s l) = CAT u (ix3 b ⟨s.val + (2 : Fin 4).val, by omega⟩ l) := by
    refine Eq.trans (b := CAT u (ix3 b ⟨2 + s.val, by omega⟩ l)) (by pointwise [TAP2]) ?_
    simp only [Nat.add_comm 2 s.val]
    rfl
  rw [h, CAT_at, tap]

theorem TAP3_at (u : FVec Ideal S2x2048x1536 .f32) (b : Fin 2) (s : Fin 2048) (l : Fin 1536) :
    TAP3 u (ix3 b s l) = tap (fun s => u (ix3 b s l)) 3 s := by
  have h : TAP3 u (ix3 b s l) = CAT u (ix3 b ⟨s.val + (3 : Fin 4).val, by omega⟩ l) := by
    refine Eq.trans (b := CAT u (ix3 b ⟨3 + s.val, by omega⟩ l)) (by pointwise [TAP3]) ?_
    simp only [Nat.add_comm 3 s.val]
    rfl
  rw [h, CAT_at, tap]

theorem PRE_at (u : FVec Ideal S2x2048x1536 .f32) (w : FVec Ideal S4x1536 .f32) (b : FVec Ideal S1536 .f32)
    (q : Fin 2) (s : Fin 2048) (l : Fin 1536) :
    PRE u w b (ix3 q s l) = preact (fun s => u (ix3 q s l)) (fun i => w (ix2 i l)) (b (ix1 l)) s := by
  unfold preact
  rw [← TAP0_at, ← TAP1_at, ← TAP2_at, ← TAP3_at]
  pointwise [PRE, ROW0, ROW1, ROW2, ROW3]

theorem DPRE_at (u : FVec Ideal S2x2048x1536 .f32) (w : FVec Ideal S4x1536 .f32) (b : FVec Ideal S1536 .f32)
    (d : FVec Ideal S2x2048x1536 .f32) (hd : ∀ i, IsReal (d i)) (q : Fin 2) (s : Fin 2048) (l : Fin 1536) :
    DPRE (PRE u w b) d (ix3 q s l)
      = dpre (fun s => u (ix3 q s l)) (fun i => w (ix2 i l)) (b (ix1 l)) (fun s => d (ix3 q s l)) s := by
  unfold dpre
  rw [silu_grad _ _ (hd _), ← PRE_at]
  pointwise [DPRE, SIG, logi]

theorem DU_at (g : FVec Ideal S2x2048x1536 .f32) (w : FVec Ideal S4x1536 .f32) (q : Fin 2) (s : Fin 2048) (l : Fin 1536) :
    DU g w (ix3 q s l) = dcol (fun s => g (ix3 q s l)) (fun i => w (ix2 i l)) s := by
  have h : ∀ a b c d : EReal, a + b + c + d = d + c + b + a := fun a b c d => by ac_rfl
  unfold dcol
  rw [h]
  unfold back
  pointwise [DU, ROW0, ROW1, ROW2, ROW3]
  have e : ∀ (j k : ℕ), k ≤ j → j ≤ 3 → ∀ (W : EReal),
      (if h : k ≤ j + s.val ∧ j + s.val - k < 2048 then g (ix3 q ⟨j + s.val - k, h.2⟩ l) * W else 0)
        = (if h : s.val + (j - k) < 2048 then g (ix3 q ⟨s.val + (j - k), h⟩ l) else 0) * W := by
    intro j k hk hj W
    by_cases h : s.val + (j - k) < 2048
    · have hv : j + s.val - k = s.val + (j - k) := by omega
      rw [dif_pos h, dif_pos ⟨by omega, by omega⟩]
      simp only [hv]
    · rw [dif_neg h, dif_neg (fun h' => h (by omega)), zero_mul]
  refine congrArg₂ (· + ·) (congrArg₂ (· + ·) (congrArg₂ (· + ·) rfl (e 3 2 (by omega) (by omega) _)) (e 3 1 (by omega) (by omega) _)) ?_
  by_cases h : s.val + 3 < 2048
  · rw [dif_pos h, dif_pos (by omega)]
    simp only [Nat.add_comm 3 s.val]
  · rw [dif_neg h, dif_neg (by omega), zero_mul]

/-- A sum over the first two of three axes, at an index of the third. -/
theorem sum_first_two {n0 n1 n2 : ℕ} (h : (⟨3, ![n0, n1, n2]⟩ : Shape).ReducesTo [0, 1] ⟨1, ![n2]⟩)
    (v : (⟨3, ![n0, n1, n2]⟩ : Shape).Idx → EReal) (a : EReal) (l : Fin n2) :
    Ideal.hostReduceAdd h v a (ix1 l) = a + ∑ p : Fin n0, ∑ q : Fin n1, v (ix3 p q l) := by
  refine congrArg (a + ·) ((Finset.sum_filter_eq_sum_of_fiber _ (fun k : Fin n0 × Fin n1 => ix3 k.1 k.2 l)
    (fun _ _ e => Prod.ext (congrFun e 0) (congrFun e 1)) (fun i => ?_) v).trans (Fintype.sum_prod_type _))
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem SUM_at (x : FVec Ideal S2x2048x1536 .f32) (l : Fin 1536) :
    SUM x (ix1 l) = ∑ q : Fin 2, ∑ s : Fin 2048, x (ix3 q s l) := by
  have h : ∀ (y : FVec Ideal S1536 .f32), Ideal.hostReduceAdd reducesTo_S1x1x1536_S1536_d0_1 (shapeCast S1x1x1536 y shapeCasts_S1536_S1x1x1536) 0 (ix1 l)
      = y (ix1 l) := by
    intro y
    rw [sum_first_two]
    simp only [Finset.univ_unique, Finset.sum_singleton, zero_add]
    pointwise []
  pointwise [SUM]
  rw [h]
  pointwise []
  rw [sum_first_two, zero_add]

theorem DW_at (u g : FVec Ideal S2x2048x1536 .f32) (i : Fin 4) (l : Fin 1536) :
    DW u g (ix2 i l) = ∑ q : Fin 2, ∑ s : Fin 2048, g (ix3 q s l) * tap (fun s => u (ix3 q s l)) i s := by
  have h : ∀ x : FVec Ideal S2x2048x1536 .f32, SUM (mulf x g) (ix1 l) = ∑ q : Fin 2, ∑ s : Fin 2048, g (ix3 q s l) * x (ix3 q s l) := by
    intro x
    rw [SUM_at]
    exact Finset.sum_congr rfl fun q _ => Finset.sum_congr rfl fun s _ => mul_comm _ _
  fin_cases i
  · refine Eq.trans (by pointwise [DW]) ((h (TAP0 u)).trans ?_)
    simp only [TAP0_at]
    rfl
  · refine Eq.trans (by pointwise [DW]) ((h (TAP1 u)).trans ?_)
    simp only [TAP1_at]
    rfl
  · refine Eq.trans (by pointwise [DW]) ((h (TAP2 u)).trans ?_)
    simp only [TAP2_at]
    rfl
  · refine Eq.trans (by pointwise [DW]) ((h (TAP3 u)).trans ?_)
    simp only [TAP3_at]
    rfl

theorem DB_at (g : FVec Ideal S2x2048x1536 .f32) (l : Fin 1536) :
    DB g (ix2 0 l) = ∑ q : Fin 2, ∑ s : Fin 2048, g (ix3 q s l) := by
  rw [← SUM_at]
  pointwise [DB]

end

/-- A list of stores ending in one of `h` whole rows from row `o`, read at an index: the row's own value where the last
    store covers it, and what the earlier stores left elsewhere. -/
theorem canon_row {N K o h : ℕ} (inb : ∀ a, (![o, 0] : Fin 2 → ℕ) a + (![h, K] : Fin 2 → ℕ) a ≤ (⟨2, ![N, K]⟩ : Shape).size a)
    (w : (⟨2, ![h, K]⟩ : Shape).Idx → EReal) (L : List (View.Piece (Elt Ideal) ⟨2, ![N, K]⟩ .f32)) (n : Fin N) (k : Fin K) :
    View.canon ((⟨Rect.unit (s := ⟨2, ![N, K]⟩) ![o, 0] ![h, K] inb, w⟩ : View.Piece (Elt Ideal) ⟨2, ![N, K]⟩ .f32) :: L) (ix2 n k)
      = if hh : o ≤ n.val ∧ n.val < o + h then w (ix2 ⟨n.val - o, by omega⟩ k) else View.canon L (ix2 n k) := by
  by_cases hh : o ≤ n.val ∧ n.val < o + h
  · rw [dif_pos hh]
    have e : (Rect.unit (s := ⟨2, ![N, K]⟩) ![o, 0] ![h, K] inb).emb (ix2 ⟨n.val - o, by omega⟩ k) = ix2 n k := by
      funext a
      apply Fin.ext
      refine (Rect.idx_unit_val _ _ _ _ a).trans ?_
      fin_cases a <;> simp [ix2] <;> omega
    rw [← e, View.canon_cons_emb]
  · rw [dif_neg hh, View.canon_cons_of_not_mem]
    intro hm
    obtain ⟨x, hx⟩ := (Rect.unit (s := ⟨2, ![N, K]⟩) ![o, 0] ![h, K] inb).exists_idx_of_mem hm
    have hv : o + (x 0).val = n.val :=
      (Rect.idx_unit_val (s := ⟨2, ![N, K]⟩) ![o, 0] ![h, K] inb x 0).symm.trans (congrArg (fun y : (⟨2, ![N, K]⟩ : Shape).Idx => (y 0).val) hx)
    have hlt : (x 0).val < h := (x 0).isLt
    omega

section
open Cert.ConvIdeal Cert.ConvIdeal.Gen

variable (m : (ℓ : Loc nD τ sig) → Buf (Elt Ideal) ℓ)

/-- Every window's block index at every grid point. -/
theorem idx : ∀ t : Fin cfg0.N, win0_0.index t = ![t.val % 2, 0, t.val / 2] ∧ win0_1.index t = ![0, t.val / 2] ∧ win0_2.index t = ![0, t.val / 2]
    ∧ win0_3.index t = ![t.val % 2, 0, t.val / 2] ∧ win0_4.index t = ![t.val % 2, 0, t.val / 2] ∧ win0_5.index t = ![0, t.val / 2]
    ∧ win0_6.index t = ![0, t.val / 2] :=
  (by decide +kernel : ∀ t : Fin grid0.N, _)

/-- The padded input held in scratch, read from row `5 + i`. -/
theorem pad_at (B : FVec Ideal S1x2048x256 .f32) {o : ℕ} (i : Fin 4) (ho : o = 5 + i.val)
    (inb : ∀ a, (![o, 0] : Fin 2 → ℕ) a + (![2048, 256] : Fin 2 → ℕ) a ≤ S2056x256.size a) (s : Fin 2048) (k : Fin 256) :
    (View.whole cc0_scratch0).readCov (Val := Elt Ideal)
      [⟨Rect.unit (s := S2056x256) ![8, 0] ![2048, 256] inb_S2056x256_S2048x256_8_0, k0_pay7 (F := Ideal) B⟩,
        ⟨Rect.unit (s := S2056x256) ![0, 0] ![8, 256] inb_S2056x256_S8x256_0_0, k0_pay6 (F := Ideal)⟩]
      (Rect.unit (s := S2056x256) ![o, 0] ![2048, 256] inb).toLoadRect (ix2 s k) = tap (fun s => B (ix3 0 s k)) i s := by
  have hs : s.val + o < 2056 := by omega
  refine (congrFun (View.readCov_eq_canon' _ _ _) _).trans ((View.ld_unit_apply_of _ _ _ _ _ (ix2 ⟨s.val + o, hs⟩ k) fun a => ?_).trans ?_)
  · fin_cases a <;> simp [ix2] <;> omega
  refine (canon_row inb_S2056x256_S2048x256_8_0 _ _ ⟨s.val + o, hs⟩ k).trans ?_
  unfold tap
  by_cases h : 3 ≤ s.val + i.val
  · rw [dif_pos h, dif_pos (by show 8 ≤ s.val + o ∧ s.val + o < 8 + 2048; omega)]
    have e : s.val + o - 8 = s.val + i.val - 3 := by omega
    simp only [e]
    pointwise [k0_pay7]
  · rw [dif_neg h, dif_neg (by show ¬ (8 ≤ s.val + o ∧ s.val + o < 8 + 2048); omega)]
    refine (canon_row inb_S2056x256_S8x256_0_0 _ _ ⟨s.val + o, hs⟩ k).trans ?_
    rw [dif_pos (by show 0 ≤ s.val + o ∧ s.val + o < 0 + 8; omega)]
    pointwise [k0_pay6]

/-- A gradient held in scratch over zero rows, read from row `i`. -/
theorem gpad_at (G : FVec Ideal S2048x256 .f32) {o : ℕ} (i : Fin 4) (ho : o = i.val)
    (inb : ∀ a, (![o, 0] : Fin 2 → ℕ) a + (![2048, 256] : Fin 2 → ℕ) a ≤ S2056x256.size a) (s : Fin 2048) (k : Fin 256) :
    (View.whole cc0_scratch1).readCov (Val := Elt Ideal)
      [⟨Rect.unit (s := S2056x256) ![2048, 0] ![8, 256] inb_S2056x256_S8x256_2048_0, k0_pay11 (F := Ideal)⟩,
        ⟨Rect.unit (s := S2056x256) ![0, 0] ![2048, 256] inb_S2056x256_S2048x256_0_0, G⟩]
      (Rect.unit (s := S2056x256) ![o, 0] ![2048, 256] inb).toLoadRect (ix2 s k) = back (fun s => G (ix2 s k)) i s := by
  have hs : s.val + o < 2056 := by omega
  refine (congrFun (View.readCov_eq_canon' _ _ _) _).trans ((View.ld_unit_apply_of _ _ _ _ _ (ix2 ⟨s.val + o, hs⟩ k) fun a => ?_).trans ?_)
  · fin_cases a <;> simp [ix2] <;> omega
  refine (canon_row inb_S2056x256_S8x256_2048_0 _ _ ⟨s.val + o, hs⟩ k).trans ?_
  unfold back
  subst ho
  by_cases h : s.val + i.val < 2048
  · rw [dif_pos h, dif_neg (by show ¬ (2048 ≤ s.val + i.val ∧ s.val + i.val < 2048 + 8); omega)]
    refine (canon_row inb_S2056x256_S2048x256_0_0 _ _ ⟨s.val + i.val, hs⟩ k).trans ?_
    rw [dif_pos (by show 0 ≤ s.val + i.val ∧ s.val + i.val < 0 + 2048; omega)]
    rfl
  · rw [dif_neg h, dif_pos (by show 2048 ≤ s.val + i.val ∧ s.val + i.val < 2048 + 8; omega)]
    pointwise [k0_pay11]

/-- A row of the taps' block. -/
theorem ld_w (W : FVec Ideal S4x256 .f32) {o : ℕ} (i : Fin 4) (ho : o = i.val)
    (inb : ∀ a, (![o, 0] : Fin 2 → ℕ) a + (![1, 256] : Fin 2 → ℕ) a ≤ S4x256.size a) (k : Fin 256) :
    View.ld (S := S4x256) (Val := Elt Ideal) (e' := .f32) W (Rect.unit (s := S4x256) ![o, 0] ![1, 256] inb) (ix2 0 k) = W (ix2 i k) := by
  refine View.ld_unit_apply_of _ _ _ _ _ _ fun a => ?_
  fin_cases a <;> simp [ix2] <;> omega

theorem pay9_at (b : FVec Ideal S1x256 .f32) (P0 P1 P2 P3 : FVec Ideal S2048x256 .f32) (W0 W1 W2 W3 : FVec Ideal S1x256 .f32)
    (D : FVec Ideal S1x2048x256 .f32) (s : Fin 2048) (k : Fin 256) (p : EReal)
    (hp : b (ix2 0 k) + P0 (ix2 s k) * W0 (ix2 0 k) + P1 (ix2 s k) * W1 (ix2 0 k) + P2 (ix2 s k) * W2 (ix2 0 k) + P3 (ix2 s k) * W3 (ix2 0 k) = p) :
    k0_pay9 (F := Ideal) (k0_pay8 b P0 W0 P1 W1 P2 W2) P3 W3 D (ix2 s k) = D (ix3 0 s k) * (logi p * (1 + p * (1 - logi p))) := by
  subst hp
  pointwise [k0_pay9, k0_pay8, logi, zero_sub]

/-- The cotangent of a block carried back through the gate. -/
def gblk (U D : FVec Ideal S1x2048x256 .f32) (W : FVec Ideal S4x256 .f32) (b : FVec Ideal S1x256 .f32) : FVec Ideal S2048x256 .f32 :=
  fun i => dpre (fun s => U (ix3 0 s (i 1))) (fun j => W (ix2 j (i 1))) (b (ix2 0 (i 1))) (fun s => D (ix3 0 s (i 1))) (i 0)

/-- The padded input held in scratch, read from row `o`. -/
abbrev PADS (U : FVec Ideal S1x2048x256 .f32) (o : ℕ) (inb : ∀ a, (![o, 0] : Fin 2 → ℕ) a + (![2048, 256] : Fin 2 → ℕ) a ≤ S2056x256.size a) :
    FVec Ideal S2048x256 .f32 :=
  (View.whole cc0_scratch0).readCov (Val := Elt Ideal)
    [⟨Rect.unit (s := S2056x256) ![8, 0] ![2048, 256] inb_S2056x256_S2048x256_8_0, k0_pay7 (F := Ideal) U⟩,
      ⟨Rect.unit (s := S2056x256) ![0, 0] ![8, 256] inb_S2056x256_S8x256_0_0, k0_pay6 (F := Ideal)⟩]
    (Rect.unit (s := S2056x256) ![o, 0] ![2048, 256] inb).toLoadRect

/-- A gradient held in scratch over zero rows, read from row `o`. -/
abbrev GPADS (G : FVec Ideal S2048x256 .f32) (o : ℕ) (inb : ∀ a, (![o, 0] : Fin 2 → ℕ) a + (![2048, 256] : Fin 2 → ℕ) a ≤ S2056x256.size a) :
    FVec Ideal S2048x256 .f32 :=
  (View.whole cc0_scratch1).readCov (Val := Elt Ideal)
    [⟨Rect.unit (s := S2056x256) ![2048, 0] ![8, 256] inb_S2056x256_S8x256_2048_0, k0_pay11 (F := Ideal)⟩,
      ⟨Rect.unit (s := S2056x256) ![0, 0] ![2048, 256] inb_S2056x256_S2048x256_0_0, G⟩]
    (Rect.unit (s := S2056x256) ![o, 0] ![2048, 256] inb).toLoadRect

/-- Row `o` of the taps' block. -/
abbrev ROWS (W : FVec Ideal S4x256 .f32) (o : ℕ) (inb : ∀ a, (![o, 0] : Fin 2 → ℕ) a + (![1, 256] : Fin 2 → ℕ) a ≤ S4x256.size a) :
    FVec Ideal S1x256 .f32 :=
  View.ld (S := S4x256) (Val := Elt Ideal) (e' := .f32) W (Rect.unit (s := S4x256) ![o, 0] ![1, 256] inb)

/-- The convolution of a block before its last tap. -/
abbrev PRE3 (U : FVec Ideal S1x2048x256 .f32) (W : FVec Ideal S4x256 .f32) (b : FVec Ideal S1x256 .f32) : FVec Ideal S2048x256 .f32 :=
  k0_pay8 (F := Ideal) b (PADS U 5 inb_S2056x256_S2048x256_5_0) (ROWS W 0 inb_S4x256_S1x256_0_0) (PADS U 6 inb_S2056x256_S2048x256_6_0)
    (ROWS W 1 inb_S4x256_S1x256_1_0) (PADS U 7 inb_S2056x256_S2048x256_7_0) (ROWS W 2 inb_S4x256_S1x256_2_0)

/-- The kernel's cotangent of a block carried back through the gate. -/
abbrev GK (U D : FVec Ideal S1x2048x256 .f32) (W : FVec Ideal S4x256 .f32) (b : FVec Ideal S1x256 .f32) : FVec Ideal S2048x256 .f32 :=
  k0_pay9 (F := Ideal) (PRE3 U W b) (PADS U 8 inb_S2056x256_S2048x256_8_0) (ROWS W 3 inb_S4x256_S1x256_3_0) D

/-- The same as the kernel stores it in scratch. -/
abbrev GS (U D : FVec Ideal S1x2048x256 .f32) (W : FVec Ideal S4x256 .f32) (b : FVec Ideal S1x256 .f32) : FVec Ideal S2048x256 .f32 :=
  k0_pay10 (F := Ideal) (PRE3 U W b) (PADS U 8 inb_S2056x256_S2048x256_8_0) (ROWS W 3 inb_S4x256_S1x256_3_0) D

theorem PADS_at (U : FVec Ideal S1x2048x256 .f32) (o : ℕ) (inb) (i : Fin 4) (ho : o = 5 + i.val) (s : Fin 2048) (k : Fin 256) :
    PADS U o inb (ix2 s k) = tap (fun s => U (ix3 0 s k)) i s := pad_at U i ho inb s k

theorem GPADS_at (G : FVec Ideal S2048x256 .f32) (o : ℕ) (inb) (i : Fin 4) (ho : o = i.val) (s : Fin 2048) (k : Fin 256) :
    GPADS G o inb (ix2 s k) = back (fun s => G (ix2 s k)) i s := gpad_at G i ho inb s k

theorem ROWS_at (W : FVec Ideal S4x256 .f32) (o : ℕ) (inb) (i : Fin 4) (ho : o = i.val) (k : Fin 256) :
    ROWS W o inb (ix2 0 k) = W (ix2 i k) := ld_w W i ho inb k

theorem GK_eq (U D : FVec Ideal S1x2048x256 .f32) (W : FVec Ideal S4x256 .f32) (b : FVec Ideal S1x256 .f32) : GK U D W b = gblk U D W b := by
  funext i
  idx_vars i
  refine (pay9_at _ _ _ _ _ _ _ _ _ _ _ _ (preact (fun s => U (ix3 0 s i1)) (fun j => W (ix2 j i1)) (b (ix2 0 i1)) i0) ?_).trans rfl
  rw [PADS_at U 5 _ 0 rfl, PADS_at U 6 _ 1 rfl, PADS_at U 7 _ 2 rfl, PADS_at U 8 _ 3 rfl,
    ROWS_at W 0 _ 0 rfl, ROWS_at W 1 _ 1 rfl, ROWS_at W 2 _ 2 rfl, ROWS_at W 3 _ 3 rfl]
  rfl

theorem GS_eq (U D : FVec Ideal S1x2048x256 .f32) (W : FVec Ideal S4x256 .f32) (b : FVec Ideal S1x256 .f32) : GS U D W b = gblk U D W b := by
  rw [← GK_eq]
  funext i
  pointwise [k0_pay10]

theorem pay2_at (Q0 Q1 Q2 Q3 : FVec Ideal S2048x256 .f32) (W0 W1 W2 W3 : FVec Ideal S1x256 .f32) (s : Fin 2048) (k : Fin 256) :
    k0_pay2 (F := Ideal) (k0_pay15 (k0_pay12 Q3 W0) Q2 W1 Q1 W2) Q0 W3 (ix3 0 s k)
      = Q3 (ix2 s k) * W0 (ix2 0 k) + Q2 (ix2 s k) * W1 (ix2 0 k) + Q1 (ix2 s k) * W2 (ix2 0 k) + Q0 (ix2 s k) * W3 (ix2 0 k) := by
  pointwise [k0_pay2, k0_pay15, k0_pay12]

/-- The gradient of a block's input. -/
def ublk (G : FVec Ideal S2048x256 .f32) (W : FVec Ideal S4x256 .f32) (s : Fin 2048) (k : Fin 256) : EReal :=
  dcol (fun s => G (ix2 s k)) (fun j => W (ix2 j k)) s

theorem du_at (U D : FVec Ideal S1x2048x256 .f32) (W : FVec Ideal S4x256 .f32) (b : FVec Ideal S1x256 .f32) (s : Fin 2048) (k : Fin 256) :
    k0_pay2 (F := Ideal) (k0_pay15 (k0_pay12 (GPADS (GS U D W b) 3 inb_S2056x256_S2048x256_3_0) (ROWS W 0 inb_S4x256_S1x256_0_0))
        (GPADS (GS U D W b) 2 inb_S2056x256_S2048x256_2_0) (ROWS W 1 inb_S4x256_S1x256_1_0)
        (GPADS (GS U D W b) 1 inb_S2056x256_S2048x256_1_0) (ROWS W 2 inb_S4x256_S1x256_2_0))
        (GPADS (GS U D W b) 0 inb_S2056x256_S2048x256_0_0) (ROWS W 3 inb_S4x256_S1x256_3_0) (ix3 0 s k)
      = ublk (gblk U D W b) W s k := by
  rw [pay2_at, GS_eq, GPADS_at _ 0 _ 0 rfl, GPADS_at _ 1 _ 1 rfl, GPADS_at _ 2 _ 2 rfl, GPADS_at _ 3 _ 3 rfl,
    ROWS_at W 0 _ 0 rfl, ROWS_at W 1 _ 1 rfl, ROWS_at W 2 _ 2 rfl, ROWS_at W 3 _ 3 rfl]
  rfl

theorem outs4_at (c : Dev nD) (t : Fin cfg0.N) (s : Fin 2048) (k : Fin 256) :
    (outsAt0 m c t.val t.isLt).1 (ix3 0 s k) = ublk (gblk (iblk m c 0 t) (iblk m c 3 t) (iblk m c 1 t) (iblk m c 2 t)) (iblk m c 1 t) s k := by
  by_cases h : t.val % 2 = 0
  · rw [outsAt0_A m c t h]; frame_out
    exact du_at _ _ _ _ s k
  · rw [outsAt0_B m c t h]; frame_out
    exact du_at _ _ _ _ s k

/-- A block's part of the gradient of the taps. -/
def wblk (G : FVec Ideal S2048x256 .f32) (U : FVec Ideal S1x2048x256 .f32) (i : Fin 4) (k : Fin 256) : EReal :=
  ∑ s : Fin 2048, G (ix2 s k) * tap (fun s => U (ix3 0 s k)) i s

/-- A block's part of the gradient of the bias. -/
def bblk (G : FVec Ideal S2048x256 .f32) (k : Fin 256) : EReal := ∑ s : Fin 2048, G (ix2 s k)

theorem pay13_at (G P : FVec Ideal S2048x256 .f32) (acc : FVec Ideal S1x256 .f32) (k : Fin 256) :
    k0_pay13 (F := Ideal) G acc P (ix2 0 k) = acc (ix2 0 k) + ∑ s : Fin 2048, G (ix2 s k) * P (ix2 s k) := by
  pointwise [k0_pay13]

theorem pay14_eq (G P : FVec Ideal S2048x256 .f32) (acc : FVec Ideal S1x256 .f32) : k0_pay14 (F := Ideal) G acc P = k0_pay13 G acc P := rfl

theorem pay16_eq (G P : FVec Ideal S2048x256 .f32) (acc : FVec Ideal S1x256 .f32) : k0_pay16 (F := Ideal) G acc P = k0_pay13 G acc P := rfl

theorem pay1_eq (G P : FVec Ideal S2048x256 .f32) (acc : FVec Ideal S1x256 .f32) : k0_pay1 (F := Ideal) G acc P = k0_pay13 G acc P := rfl

theorem pay3_at (G : FVec Ideal S2048x256 .f32) (acc : FVec Ideal S1x256 .f32) (k : Fin 256) :
    k0_pay3 (F := Ideal) G acc (ix2 0 k) = acc (ix2 0 k) + bblk G k := by
  unfold bblk
  pointwise [k0_pay3]

theorem dw_row (U D : FVec Ideal S1x2048x256 .f32) (W : FVec Ideal S4x256 .f32) (b : FVec Ideal S1x256 .f32) (acc : FVec Ideal S1x256 .f32)
    {o : ℕ} (i : Fin 4) (ho : o = 5 + i.val) (inb : ∀ a, (![o, 0] : Fin 2 → ℕ) a + (![2048, 256] : Fin 2 → ℕ) a ≤ S2056x256.size a) (k : Fin 256) :
    k0_pay13 (F := Ideal) (GK U D W b) acc (PADS U o inb) (ix2 0 k) = acc (ix2 0 k) + wblk (gblk U D W b) U i k := by
  rw [pay13_at, GK_eq]
  unfold wblk
  simp only [pad_at U i ho]

/-- Four rows stored one by one over earlier stores, read at a row. -/
theorem rows4 (w3 w2 w1 w0 : FVec Ideal S1x256 .f32) (L : List (View.Piece (Elt Ideal) S4x256 .f32)) (f : Fin 4 → EReal) (i : Fin 4) (l : Fin 256)
    (h3 : w3 (ix2 0 l) = f 3) (h2 : w2 (ix2 0 l) = f 2) (h1 : w1 (ix2 0 l) = f 1) (h0 : w0 (ix2 0 l) = f 0) :
    View.canon ((⟨Rect.unit (s := S4x256) ![3, 0] ![1, 256] inb_S4x256_S1x256_3_0, w3⟩ : View.Piece (Elt Ideal) S4x256 .f32)
      :: ⟨Rect.unit (s := S4x256) ![2, 0] ![1, 256] inb_S4x256_S1x256_2_0, w2⟩ :: ⟨Rect.unit (s := S4x256) ![1, 0] ![1, 256] inb_S4x256_S1x256_1_0, w1⟩
      :: ⟨Rect.unit (s := S4x256) ![0, 0] ![1, 256] inb_S4x256_S1x256_0_0, w0⟩ :: L) (ix2 i l) = f i := by
  refine (canon_row inb_S4x256_S1x256_3_0 _ _ i l).trans ?_
  by_cases e3 : i = 3
  · subst e3; exact h3
  rw [dif_neg (by omega)]
  refine (canon_row inb_S4x256_S1x256_2_0 _ _ i l).trans ?_
  by_cases e2 : i = 2
  · subst e2; exact h2
  rw [dif_neg (by omega)]
  refine (canon_row inb_S4x256_S1x256_1_0 _ _ i l).trans ?_
  by_cases e1 : i = 1
  · subst e1; exact h1
  rw [dif_neg (by omega)]
  refine (canon_row inb_S4x256_S1x256_0_0 _ _ i l).trans ?_
  obtain rfl : i = 0 := by omega
  exact h0

theorem outs5_first (c : Dev nD) (t : Fin cfg0.N) (h : t.val % 2 = 0) (i : Fin 4) (l : Fin 256) :
    (outsAt0 m c t.val t.isLt).2.1 (ix2 i l) = 0 + wblk (gblk (iblk m c 0 t) (iblk m c 3 t) (iblk m c 1 t) (iblk m c 2 t)) (iblk m c 0 t) i l := by
  rw [outsAt0_A m c t h]; frame_out
  refine rows4 _ _ _ _ _ (fun i => 0 + wblk (gblk (iblk m c 0 t) (iblk m c 3 t) (iblk m c 1 t) (iblk m c 2 t)) (iblk m c 0 t) i l) i l ?_ ?_ ?_ ?_
  · refine (congrFun (pay1_eq _ _ _) _).trans ((dw_row _ _ _ _ _ 3 rfl _ l).trans (congrArg (· + _) ?_))
    rw [View.readCov_skip _ _ _ _ _ (by decide +kernel), View.readCov_skip _ _ _ _ _ (by decide +kernel), View.readCov_skip _ _ _ _ _ (by decide +kernel), View.readCov_fill _ _ _ _ _ (by decide +kernel)]
    pointwise [k0_pay4]
  · refine (congrFun (pay16_eq _ _ _) _).trans ((dw_row _ _ _ _ _ 2 rfl _ l).trans (congrArg (· + _) ?_))
    rw [View.readCov_skip _ _ _ _ _ (by decide +kernel), View.readCov_skip _ _ _ _ _ (by decide +kernel), View.readCov_fill _ _ _ _ _ (by decide +kernel)]
    pointwise [k0_pay4]
  · refine (congrFun (pay14_eq _ _ _) _).trans ((dw_row _ _ _ _ _ 1 rfl _ l).trans (congrArg (· + _) ?_))
    rw [View.readCov_skip _ _ _ _ _ (by decide +kernel), View.readCov_fill _ _ _ _ _ (by decide +kernel)]
    pointwise [k0_pay4]
  · refine (dw_row _ _ _ _ _ 0 rfl _ l).trans (congrArg (· + _) ?_)
    rw [View.readCov_fill _ _ _ _ _ (by decide +kernel)]
    pointwise [k0_pay4]

theorem outs5_next (c : Dev nD) (t : Fin cfg0.N) (h : ¬ t.val % 2 = 0) (i : Fin 4) (l : Fin 256) :
    (outsAt0 m c t.val t.isLt).2.1 (ix2 i l) = (outsAt0 m c (t.val - 1) (Nat.lt_of_le_of_lt (Nat.sub_le _ _) t.isLt)).2.1 (ix2 i l)
      + wblk (gblk (iblk m c 0 t) (iblk m c 3 t) (iblk m c 1 t) (iblk m c 2 t)) (iblk m c 0 t) i l := by
  rw [outsAt0_B m c t h]; frame_out
  refine rows4 _ _ _ _ _ (fun i => (outsAt0 m c (t.val - 1) (Nat.lt_of_le_of_lt (Nat.sub_le _ _) t.isLt)).2.1 (ix2 i l)
      + wblk (gblk (iblk m c 0 t) (iblk m c 3 t) (iblk m c 1 t) (iblk m c 2 t)) (iblk m c 0 t) i l) i l ?_ ?_ ?_ ?_
  · exact (congrFun (pay1_eq _ _ _) _).trans ((dw_row _ _ _ _ _ 3 rfl _ l).trans (congrArg (· + _) (ld_w _ 3 rfl _ l)))
  · exact (congrFun (pay16_eq _ _ _) _).trans ((dw_row _ _ _ _ _ 2 rfl _ l).trans (congrArg (· + _) (ld_w _ 2 rfl _ l)))
  · exact (congrFun (pay14_eq _ _ _) _).trans ((dw_row _ _ _ _ _ 1 rfl _ l).trans (congrArg (· + _) (ld_w _ 1 rfl _ l)))
  · exact (dw_row _ _ _ _ _ 0 rfl _ l).trans (congrArg (· + _) (ld_w _ 0 rfl _ l))

theorem outs6_first (c : Dev nD) (t : Fin cfg0.N) (h : t.val % 2 = 0) (l : Fin 256) :
    (outsAt0 m c t.val t.isLt).2.2 (ix2 0 l) = 0 + bblk (gblk (iblk m c 0 t) (iblk m c 3 t) (iblk m c 1 t) (iblk m c 2 t)) l := by
  rw [outsAt0_A m c t h]; frame_out
  refine (pay3_at _ _ l).trans (congrArg₂ (· + ·) ?_ (congrArg (bblk · l) (GK_eq _ _ _ _)))
  pointwise [k0_pay5]

theorem outs6_next (c : Dev nD) (t : Fin cfg0.N) (h : ¬ t.val % 2 = 0) (l : Fin 256) :
    (outsAt0 m c t.val t.isLt).2.2 (ix2 0 l) = (outsAt0 m c (t.val - 1) (Nat.lt_of_le_of_lt (Nat.sub_le _ _) t.isLt)).2.2 (ix2 0 l)
      + bblk (gblk (iblk m c 0 t) (iblk m c 3 t) (iblk m c 1 t) (iblk m c 2 t)) l := by
  rw [outsAt0_B m c t h]; frame_out
  exact (pay3_at _ _ l).trans (congrArg₂ (· + ·) rfl (congrArg (bblk · l) (GK_eq _ _ _ _)))
/-- The column of the arrays a block's column is. -/
abbrev col (t : Fin cfg0.N) (k : Fin 256) : Fin 1536 := ⟨t.val / 2 * 256 + k.val, by have h : t.val < 12 := t.isLt; omega⟩

/-- The sequence a grid point works on. -/
abbrev seqOf (t : Fin cfg0.N) : Fin 2 := ⟨t.val % 2, by omega⟩

theorem blk_u (c : Dev nD) (t : Fin cfg0.N) (s : Fin 2048) (k : Fin 256) :
    (iblk m c 0 t : FVec Ideal S1x2048x256 .f32) (ix3 0 s k) = (m ((c.tc : Thread nD τ).loc main_arg0) : FVec Ideal S2x2048x1536 .f32) (ix3 (seqOf t) s (col t k)) := by
  blk_point [iblk, V, idx t]

theorem blk_d (c : Dev nD) (t : Fin cfg0.N) (s : Fin 2048) (k : Fin 256) :
    (iblk m c 3 t : FVec Ideal S1x2048x256 .f32) (ix3 0 s k) = (m ((c.tc : Thread nD τ).loc main_arg3) : FVec Ideal S2x2048x1536 .f32) (ix3 (seqOf t) s (col t k)) := by
  blk_point [iblk, V, idx t]

theorem blk_w (c : Dev nD) (t : Fin cfg0.N) (i : Fin 4) (k : Fin 256) :
    (iblk m c 1 t : FVec Ideal S4x256 .f32) (ix2 i k) = (m ((c.tc : Thread nD τ).loc main_arg1) : FVec Ideal S4x1536 .f32) (ix2 i (col t k)) := by
  blk_point [iblk, V, idx t]

theorem blk_b (c : Dev nD) (t : Fin cfg0.N) (k : Fin 256) :
    (iblk m c 2 t : FVec Ideal S1x256 .f32) (ix2 0 k) = (m ((c.tc : Thread nD τ).loc main_arg2) : FVec Ideal S1536 .f32) (ix1 (col t k)) := by
  pointwise [iblk, V]
  blk_point [iblk, V, idx t]

theorem emb_4 (t : Fin cfg0.N) (G : FVec Ideal S2x2048x1536 .bf16) (s : Fin 2048) (k : Fin 256) :
    G (((win0 4).blk t).view.emb (ix3 0 s k)) = G (ix3 (seqOf t) s (col t k)) := by
  blk_point [idx t]

theorem emb_5 (t : Fin cfg0.N) (G : FVec Ideal S4x1536 .f32) (i : Fin 4) (k : Fin 256) :
    G (((win0 5).blk t).view.emb (ix2 i k)) = G (ix2 i (col t k)) := by
  blk_point [idx t]

theorem emb_6 (t : Fin cfg0.N) (G : FVec Ideal S1x1536 .f32) (k : Fin 256) :
    G (((win0 6).blk t).view.emb (ix2 0 k)) = G (ix2 0 (col t k)) := by
  blk_point [idx t]

/-- The reference's gradient before the gate, of the kernel's arguments. -/
abbrev GREF (c : Dev nD) : FVec Ideal S2x2048x1536 .f32 :=
  DPRE (PRE (m ((c.tc : Thread nD τ).loc main_arg0)) (m ((c.tc : Thread nD τ).loc main_arg1)) (m ((c.tc : Thread nD τ).loc main_arg2)))
    (m ((c.tc : Thread nD τ).loc main_arg3))

theorem gblk_at (c : Dev nD) (hd : ∀ i, IsReal ((m ((c.tc : Thread nD τ).loc main_arg3) : FVec Ideal S2x2048x1536 .f32) i))
    (t : Fin cfg0.N) (s : Fin 2048) (k : Fin 256) :
    gblk (iblk m c 0 t) (iblk m c 3 t) (iblk m c 1 t) (iblk m c 2 t) (ix2 s k) = GREF m c (ix3 (seqOf t) s (col t k)) := by
  refine Eq.trans ?_ (DPRE_at _ _ _ _ hd _ _ _).symm
  show dpre (fun s => (iblk m c 0 t : FVec Ideal S1x2048x256 .f32) (ix3 0 s k)) (fun j => (iblk m c 1 t : FVec Ideal S4x256 .f32) (ix2 j k))
    ((iblk m c 2 t : FVec Ideal S1x256 .f32) (ix2 0 k)) (fun s => (iblk m c 3 t : FVec Ideal S1x2048x256 .f32) (ix3 0 s k)) s = _
  simp only [blk_u, blk_d, blk_w, blk_b]

/-- The precondition at the elements: the cotangent holds real numbers. -/
theorem real_arg (h : Cert.Pre_ConvIdeal_conv_finite m) (c : Dev nD) :
    ∀ i, IsReal ((m ((c.tc : Thread nD τ).loc main_arg3) : FVec Ideal S2x2048x1536 .f32) i) := by
  have h0 := congrFun (h c) (fun a => a.elim0)
  dsimp only [Cert.Pre_conv_finite.fn] at h0
  haveI : Subsingleton Cert.Pre_conv_finite.S_.Idx := ⟨fun a b => funext fun k => k.elim0⟩
  exact fun i => isReal_of_all _ _ (fun _ => ofBits_inf) _ _ _ _ h0 i

theorem final_4 (h : Cert.Pre_ConvIdeal_conv_finite m) (c : Dev nD) :
    (dats m 0 c).arrAt 4 (cfgs 0).N = DU (GREF m c) (m ((c.tc : Thread nD τ).loc main_arg1)) := by
  refine (dats m 0 c).arrAt_eq_of_covers 4 _ (by decide +kernel) fun t hf y => ?_
  blk_simp; rw [after0_4]
  idx_vars y
  obtain rfl : 0 = y0 := Subsingleton.elim _ _
  rw [outs4_at]
  refine Eq.trans ?_ (emb_4 t _ y1 y2).symm
  rw [DU_at]
  unfold ublk
  simp only [gblk_at m c (real_arg m h c), blk_w]

theorem final_5 (h : Cert.Pre_ConvIdeal_conv_finite m) (c : Dev nD) :
    (dats m 0 c).arrAt 5 (cfgs 0).N = DW (m ((c.tc : Thread nD τ).loc main_arg0)) (GREF m c) := by
  refine (dats m 0 c).arrAt_eq_of_covers 5 _ (by decide +kernel) fun t hf y => ?_
  blk_simp
  rw [after0_5]
  idx_vars y
  refine Eq.trans ?_ (emb_5 t _ y0 y1).symm
  rw [DW_at]
  refine (Pipeline.eq_sum_fin_of_reset_step_apply_of_flush (fun n h (p : Fin 4 × Fin 256) => (outsAt0 m c n h).2.1 (ix2 p.1 p.2)) 2 (fun _ => 0) _
    (fun t h p => outs5_first m c t h p.1 p.2) (fun t h p => outs5_next m c t h p.1 p.2) t ((flush0_5 t).mp hf) (y0, y1)).trans ?_
  rw [zero_add]
  refine Finset.sum_congr rfl fun q _ => ?_
  have hq : seqOf ⟨2 * (t.val / 2) + q.val, Pipeline.run_point_lt_of_flush t ((flush0_5 t).mp hf) q⟩ = q :=
    Fin.ext (by show (2 * (t.val / 2) + q.val) % 2 = q.val; have := q.isLt; omega)
  have hc : col ⟨2 * (t.val / 2) + q.val, Pipeline.run_point_lt_of_flush t ((flush0_5 t).mp hf) q⟩ y1 = col t y1 :=
    Fin.ext (by show (2 * (t.val / 2) + q.val) / 2 * 256 + y1.val = t.val / 2 * 256 + y1.val; have := q.isLt; omega)
  unfold wblk
  simp only [gblk_at m c (real_arg m h c), blk_u, hq, hc]

theorem final_6 (h : Cert.Pre_ConvIdeal_conv_finite m) (c : Dev nD) :
    (dats m 0 c).arrAt 6 (cfgs 0).N = DB (GREF m c) := by
  refine (dats m 0 c).arrAt_eq_of_covers 6 _ (by decide +kernel) fun t hf y => ?_
  blk_simp
  rw [after0_6]
  idx_vars y
  obtain rfl : 0 = y0 := Subsingleton.elim _ _
  refine Eq.trans ?_ (emb_6 t _ y1).symm
  rw [DB_at]
  refine (Pipeline.eq_sum_fin_of_reset_step_apply_of_flush (fun n h l => (outsAt0 m c n h).2.2 (ix2 0 l)) 2 (fun _ => 0) _
    (outs6_first m c) (outs6_next m c) t ((flush0_6 t).mp hf) y1).trans ?_
  rw [zero_add]
  refine Finset.sum_congr rfl fun q _ => ?_
  have hq : seqOf ⟨2 * (t.val / 2) + q.val, Pipeline.run_point_lt_of_flush t ((flush0_6 t).mp hf) q⟩ = q :=
    Fin.ext (by show (2 * (t.val / 2) + q.val) % 2 = q.val; have := q.isLt; omega)
  have hc : col ⟨2 * (t.val / 2) + q.val, Pipeline.run_point_lt_of_flush t ((flush0_6 t).mp hf) q⟩ y1 = col t y1 :=
    Fin.ext (by show (2 * (t.val / 2) + q.val) / 2 * 256 + y1.val = t.val / 2 * 256 + y1.val; have := q.isLt; omega)
  unfold bblk
  simp only [gblk_at m c (real_arg m h c), hq, hc]

end

/-- The program terminates and leaves its arguments unchanged, over machine words. -/
theorem frame : Cert.quiescent_Conv := fun m ρ _ => Cert.Conv.Gen.frame m ρ

/-- The same over the extended reals. -/
theorem frameIdeal : Cert.quiescent_ConvIdeal := fun m ρ _ => Cert.ConvIdeal.Gen.frame m ρ

/-- The reference terminates and leaves its arguments unchanged. -/
theorem frameReference : Cert.quiescent_ConvReferenceIdeal := by
  intro m g _
  exact (θ_run _ _ _).mono (fun r h => ⟨fun c => (h c).2.2.2, sem_eq_zero_of_no_sems rfl _⟩)
    (Cert.ConvReferenceIdeal.Value.run m g)

set_option maxHeartbeats 1600000 in
/-- Over the extended reals the kernel returns the gradients the reference returns, where the cotangent is finite. -/
theorem algebraic : Cert.algebraic_ConvIdeal_ConvReferenceIdeal_pre_conv_finite := by
  pair_intro
  · run_from Cert.ConvIdeal.Gen.run_main m g
  · hlo_run
    · exact (final_4 m hpre c).symm
    · exact (final_5 m hpre c).symm
    · exact (final_6 m hpre c).symm

end Cert.ConvValue

end
-- ==== Proof.NormFwd.lean ====
/- An RMS normalisation: what the kernel's result array holds. -/
module

public import proofs.«01_k».proof.Defs
public import proofs.«01_k».proof.Proof.Gen.NormFwd.Frame
public import proofs.«01_k».proof.Proof.Gen.NormFwdIdeal.Value
public import proofs.«01_k».proof.Proof.Gen.NormFwdReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.NormFwdValue

section
open Cert.NormFwdReferenceIdeal Cert.NormFwdReferenceIdeal.Gen

/-- The reference's normalised rows. -/
def H (x : FVec Ideal S4096x2048 .f32) (g : FVec Ideal S2048 .f32) : FVec Ideal S4096x2048 .bf16 :=
  truncf .bf16 (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))) bitsLt_bf16_f32

end

section
open Cert.NormFwdIdeal Cert.NormFwdIdeal.Gen

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0] :=
  (by decide +kernel : ∀ t : Fin grid0.N, _)

/-- The result array after the run is the reference's. -/
theorem final_2 (c : Dev nD) :
    (dats m 0 c).arrAt 2 (cfgs 0).N = H (m ((c.tc : Thread nD τ).loc main_arg0)) (m ((c.tc : Thread nD τ).loc main_arg1)) := by
  refine (dats m 0 c).arrAt_eq_of_covers 2 _ (by decide +kernel) fun t hf y => ?_
  blk_simp; rw [after0_2]
  frame_out
  idx_vars y
  unfold k0_pay1
  pointwise [H]
  blk_point [iblk, V, idx t]

end

/-- The program terminates and leaves its arguments unchanged, over machine words. -/
theorem frame : Cert.quiescent_NormFwd := fun m ρ _ => Cert.NormFwd.Gen.frame m ρ

/-- The same over the extended reals. -/
theorem frameIdeal : Cert.quiescent_NormFwdIdeal := fun m ρ _ => Cert.NormFwdIdeal.Gen.frame m ρ

/-- The reference terminates and leaves its arguments unchanged. -/
theorem frameReference : Cert.quiescent_NormFwdReferenceIdeal := by
  intro m g _
  exact (θ_run _ _ _).mono (fun r h => ⟨fun c => (h c).2, sem_eq_zero_of_no_sems rfl _⟩)
    (Cert.NormFwdReferenceIdeal.Value.run m g)

set_option maxHeartbeats 1600000 in
/-- Over the extended reals the kernel returns what the reference returns. -/
theorem algebraic : Cert.algebraic_NormFwdIdeal_NormFwdReferenceIdeal := by
  pair_intro
  · run_from Cert.NormFwdIdeal.Gen.run_main m g
  · hlo_run
    · exact (final_2 m c).symm

end Cert.NormFwdValue

end
-- ==== Proof.MergeFwd.lean ====
/- The normalised halves of the mixer, gated and laid side by side: what the kernel's array holds after the run. -/
module

public import proofs.«01_k».proof.Defs
public import proofs.«01_k».proof.Proof.Gen.MergeFwd.Frame
public import proofs.«01_k».proof.Proof.Gen.MergeFwdIdeal.Value
public import proofs.«01_k».proof.Proof.Gen.MergeFwdReferenceIdeal.Run
public import proofs.«01_k».proof.Proof.Reals
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MergeFwdValue

open Cert.Reals

/-- The lane of a half that group `q` keeps at its position `k`. -/
abbrev lane (q : Fin 2) (k : Fin 512) : Fin 1024 := ⟨q.val * 512 + k.val, by omega⟩

/-- The group of a lane. -/
abbrev grp (l : Fin 1024) : Fin 2 := ⟨l.val / 512, by omega⟩

/-- The position of a lane in its group. -/
abbrev pos (l : Fin 1024) : Fin 512 := ⟨l.val % 512, by omega⟩

/-- One lane of a row divided by the root of its mean of squares, times a gain. -/
def normed {n : ℕ} (N : BitVec 32) (x : Fin n → EReal) (g : EReal) (l : Fin n) : EReal :=
  x l * Ideal.rsqrt (Ideal.div (∑ k, x k * x k) (Ideal.ofBits .f32 N) + Ideal.ofBits .f32 0x358637BD#32) * g

section
open Cert.MergeFwdReferenceIdeal Cert.MergeFwdReferenceIdeal.Gen

/-- The attention half: rows normalised, times their gain. -/
def OA (o : FVec Ideal S4096x1024 .f32) (a : FVec Ideal S1024 .f32) : FVec Ideal S4096x1024 .f32 :=
  mulf (mulf o (broadcastInDim S4096x1024 ![0, 1] bcast_S4096x1_S4096x1024_0_1 (Host.rsqrt (addf (Host.divf (broadcastInDim S4096x1 ![0] bcast_S4096_S4096x1_0 (Host.reduceAdd (mulf o o) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a))

/-- The gated state-space rows, by group. -/
def YG (y z : FVec Ideal S4096x1024 .f32) : FVec Ideal S4096x2x512 .f32 :=
  shapeCast S4096x2x512 (mulf y (mulf z (Host.divf (broadcastInDim S4096x1024 ![] bcast_S_S4096x1024 (constant S_ .f32 0x3F800000#32)) (addf (broadcastInDim S4096x1024 ![] bcast_S_S4096x1024 (constant S_ .f32 0x3F800000#32)) (Host.exp (Host.negf z)))))) shapeCasts_S4096x1024_S4096x2x512

/-- The groups normalised. -/
def NG (w : FVec Ideal S4096x2x512 .f32) : FVec Ideal S4096x2x512 .f32 :=
  mulf w (broadcastInDim S4096x2x512 ![0, 1, 2] bcast_S4096x2x1_S4096x2x512_0_1_2 (Host.rsqrt (addf (Host.divf (broadcastInDim S4096x2x1 ![0, 1] bcast_S4096x2_S4096x2x1_0_1 (Host.reduceAdd (mulf w w) (constant S_ .f32 0x00000000#32) reducesTo_S4096x2x512_S4096x2_d2 h_S_)) (broadcastInDim S4096x2x1 ![] bcast_S_S4096x2x1 (constant S_ .f32 0x44000000#32))) (broadcastInDim S4096x2x1 ![] bcast_S_S4096x2x1 (constant S_ .f32 0x358637BD#32)))))

/-- The state-space half: groups normalised, times their gain. -/
def YA (y z : FVec Ideal S4096x1024 .f32) (g : FVec Ideal S1024 .f32) : FVec Ideal S4096x1024 .f32 :=
  mulf (shapeCast S4096x1024 (NG (YG y z)) shapeCasts_S4096x2x512_S4096x1024) (broadcastInDim S4096x1024 ![0, 1] bcast_S1x1024_S4096x1024_0_1 (broadcastInDim S1x1024 ![1] bcast_S1024_S1x1024_1 g))

/-- The reference's result: the two halves side by side. -/
def MIX (o y z : FVec Ideal S4096x1024 .f32) (a g : FVec Ideal S1024 .f32) : FVec Ideal S4096x2048 .bf16 :=
  truncf .bf16 (concatenate S4096x2048 1 [⟨S4096x1024, OA o a⟩, ⟨S4096x1024, YA y z g⟩] concatenates_S4096x1024_S4096x1024_S4096x2048_d1) bitsLt_bf16_f32

theorem OA_at (o : FVec Ideal S4096x1024 .f32) (a : FVec Ideal S1024 .f32) (r : Fin 4096) (l : Fin 1024) :
    OA o a (ix2 r l) = normed 0x44800000#32 (fun k => o (ix2 r k)) (a (ix1 l)) l := by
  unfold normed
  pointwise [OA]

theorem YG_at (y z : FVec Ideal S4096x1024 .f32) (r : Fin 4096) (q : Fin 2) (k : Fin 512) :
    YG y z (ix3 r q k) = y (ix2 r (lane q k)) * (z (ix2 r (lane q k)) * logi (z (ix2 r (lane q k)))) := by
  pointwise [YG, logi]

theorem NG_at (w : FVec Ideal S4096x2x512 .f32) (r : Fin 4096) (q : Fin 2) (k : Fin 512) :
    NG w (ix3 r q k) = normed 0x44000000#32 (fun k => w (ix3 r q k)) 1 k := by
  unfold normed
  rw [mul_one]
  pointwise [NG]

theorem YA_at (y z : FVec Ideal S4096x1024 .f32) (g : FVec Ideal S1024 .f32) (r : Fin 4096) (l : Fin 1024) :
    YA y z g (ix2 r l) = normed 0x44000000#32 (fun k => y (ix2 r (lane (grp l) k)) * (z (ix2 r (lane (grp l) k)) * logi (z (ix2 r (lane (grp l) k)))))
      (g (ix1 l)) (pos l) := by
  have h : YA y z g (ix2 r l) = NG (YG y z) (ix3 r (grp l) (pos l)) * g (ix1 l) := by pointwise [YA]
  rw [h, NG_at]
  unfold normed
  rw [mul_one]
  simp only [YG_at]

theorem MIX_left (o y z : FVec Ideal S4096x1024 .f32) (a g : FVec Ideal S1024 .f32) (r : Fin 4096) (c : Fin 2048) (h : c.val < 1024) :
    MIX o y z a g (ix2 r c) = OA o a (ix2 r ⟨c.val, h⟩) := by
  pointwise [MIX, h]

theorem MIX_right (o y z : FVec Ideal S4096x1024 .f32) (a g : FVec Ideal S1024 .f32) (r : Fin 4096) (c : Fin 2048) (h : ¬ c.val < 1024) :
    MIX o y z a g (ix2 r c) = YA y z g (ix2 r ⟨c.val - 1024, by omega⟩) := by
  pointwise [MIX, h]

end

section
open Cert.MergeFwdIdeal Cert.MergeFwdIdeal.Gen

/-- A block's gated lanes. -/
def gated (y z : FVec Ideal S256x512 .f32) (r : Fin 256) (k : Fin 512) : EReal :=
  y (ix2 r k) * (z (ix2 r k) * logi (z (ix2 r k)))

theorem pay3_at (x : FVec Ideal S256x1024 .f32) (g : FVec Ideal S1x1024 .f32) (r : Fin 256) (l : Fin 1024) :
    k0_pay3 (F := Ideal) x g (ix2 r l) = normed 0x44800000#32 (fun k : Fin 1024 => x (ix2 r k)) (g (ix2 0 l)) l := by
  unfold normed
  pointwise [k0_pay3]

theorem pay2_at (z y : FVec Ideal S256x512 .f32) (g : FVec Ideal S1x512 .f32) (r : Fin 256) (l : Fin 512) :
    k0_pay2 (F := Ideal) z y g (ix2 r l) = normed 0x44000000#32 (gated y z r) (g (ix2 0 l)) l := by
  unfold normed gated
  pointwise [k0_pay2, logi, zero_sub]

/-- The first group's payload is the second group's. -/
theorem pay1_eq (z y : FVec Ideal S256x512 .f32) (g : FVec Ideal S1x512 .f32) :
    k0_pay1 (F := Ideal) (k0_pay4 z y) (k0_pay5 g) (k0_pay6 z y) = k0_pay2 z y g := rfl

/-- A block's gated lanes of a group. -/
def blkG (y z : FVec Ideal S256x1024 .f32) (r : Fin 256) (q : Fin 2) (k : Fin 512) : EReal :=
  y (ix2 r (lane q k)) * (z (ix2 r (lane q k)) * logi (z (ix2 r (lane q k))))

/-- What a point writes of the attention half. -/
def blkO (o : FVec Ideal S256x1024 .f32) (a : FVec Ideal S1x1024 .f32) (r : Fin 256) (l : Fin 1024) : EReal :=
  normed 0x44800000#32 (fun k : Fin 1024 => o (ix2 r k)) (a (ix2 0 l)) l

/-- What a point writes of the state-space half. -/
def blkY (y z : FVec Ideal S256x1024 .f32) (g : FVec Ideal S1x1024 .f32) (r : Fin 256) (l : Fin 1024) : EReal :=
  normed 0x44000000#32 (blkG y z r (grp l)) (g (ix2 0 l)) (pos l)

/-- What a point writes. -/
def blkM (o y z : FVec Ideal S256x1024 .f32) (a g : FVec Ideal S1x1024 .f32) (r : Fin 256) (c : Fin 2048) : EReal :=
  if h : c.val < 1024 then blkO o a r ⟨c.val, h⟩ else blkY y z g r ⟨c.val - 1024, by omega⟩

theorem ld_b0 (B : FVec Ideal S256x1024 .f32) (r : Fin 256) (k : Fin 512) :
    View.ld (S := S256x1024) (Val := Elt Ideal) (e' := .f32) B (Rect.unit (s := S256x1024) ![0, 0] ![256, 512] inb_S256x1024_S256x512_0_0) (ix2 r k)
      = B (ix2 r (lane 0 k)) := by
  refine View.ld_unit_apply_of _ _ _ _ _ _ fun a => ?_
  fin_cases a <;> simp [ix2, lane] <;> omega

theorem ld_g0 (B : FVec Ideal S1x1024 .f32) (r : Fin 1) (k : Fin 512) :
    View.ld (S := S1x1024) (Val := Elt Ideal) (e' := .f32) B (Rect.unit (s := S1x1024) ![0, 0] ![1, 512] inb_S1x1024_S1x512_0_0) (ix2 r k)
      = B (ix2 r (lane 0 k)) := by
  refine View.ld_unit_apply_of _ _ _ _ _ _ fun a => ?_
  fin_cases a <;> simp [ix2, lane] <;> omega

theorem ld_b1 (B : FVec Ideal S256x1024 .f32) (r : Fin 256) (k : Fin 512) :
    View.ld (S := S256x1024) (Val := Elt Ideal) (e' := .f32) B (Rect.unit (s := S256x1024) ![0, 512] ![256, 512] inb_S256x1024_S256x512_0_512) (ix2 r k)
      = B (ix2 r (lane 1 k)) := by
  refine View.ld_unit_apply_of _ _ _ _ _ _ fun a => ?_
  fin_cases a <;> simp [ix2, lane] <;> omega

theorem ld_g1 (B : FVec Ideal S1x1024 .f32) (r : Fin 1) (k : Fin 512) :
    View.ld (S := S1x1024) (Val := Elt Ideal) (e' := .f32) B (Rect.unit (s := S1x1024) ![0, 512] ![1, 512] inb_S1x1024_S1x512_0_512) (ix2 r k)
      = B (ix2 r (lane 1 k)) := by
  refine View.ld_unit_apply_of _ _ _ _ _ _ fun a => ?_
  fin_cases a <;> simp [ix2, lane] <;> omega

theorem tile0 (o y z : FVec Ideal S256x1024 .f32) (a g : FVec Ideal S1x1024 .f32) (r : Fin 256) (k : Fin 512) (c : Fin 2048) (h : c.val = 1024 + k.val) :
    k0_pay2 (F := Ideal) (View.ld (S := S256x1024) (Val := Elt Ideal) (e' := .f32) z (Rect.unit (s := S256x1024) ![0, 0] ![256, 512] inb_S256x1024_S256x512_0_0)) (View.ld (S := S256x1024) (Val := Elt Ideal) (e' := .f32) y (Rect.unit (s := S256x1024) ![0, 0] ![256, 512] inb_S256x1024_S256x512_0_0)) (View.ld (S := S1x1024) (Val := Elt Ideal) (e' := .f32) g (Rect.unit (s := S1x1024) ![0, 0] ![1, 512] inb_S1x1024_S1x512_0_0)) (ix2 r k) = blkM o y z a g r c := by
  have h' : ¬ c.val < 1024 := by omega
  have hq : grp ⟨c.val - 1024, by omega⟩ = 0 := Fin.ext (show (c.val - 1024) / 512 = 0 by omega)
  have hp : pos ⟨c.val - 1024, by omega⟩ = k := Fin.ext (show (c.val - 1024) % 512 = k.val by omega)
  have hl : lane 0 k = ⟨c.val - 1024, by omega⟩ := Fin.ext (show 0 * 512 + k.val = c.val - 1024 by omega)
  have e : gated (View.ld (S := S256x1024) (Val := Elt Ideal) (e' := .f32) y (Rect.unit (s := S256x1024) ![0, 0] ![256, 512] inb_S256x1024_S256x512_0_0)) (View.ld (S := S256x1024) (Val := Elt Ideal) (e' := .f32) z (Rect.unit (s := S256x1024) ![0, 0] ![256, 512] inb_S256x1024_S256x512_0_0)) r = blkG y z r 0 :=
    funext fun j => by simp only [gated, blkG]; rw [ld_b0, ld_b0]
  rw [pay2_at, blkM, dif_neg h', blkY, hq, hp, e, ld_g0, hl]

theorem tile1 (o y z : FVec Ideal S256x1024 .f32) (a g : FVec Ideal S1x1024 .f32) (r : Fin 256) (k : Fin 512) (c : Fin 2048) (h : c.val = 1536 + k.val) :
    k0_pay2 (F := Ideal) (View.ld (S := S256x1024) (Val := Elt Ideal) (e' := .f32) z (Rect.unit (s := S256x1024) ![0, 512] ![256, 512] inb_S256x1024_S256x512_0_512)) (View.ld (S := S256x1024) (Val := Elt Ideal) (e' := .f32) y (Rect.unit (s := S256x1024) ![0, 512] ![256, 512] inb_S256x1024_S256x512_0_512)) (View.ld (S := S1x1024) (Val := Elt Ideal) (e' := .f32) g (Rect.unit (s := S1x1024) ![0, 512] ![1, 512] inb_S1x1024_S1x512_0_512)) (ix2 r k) = blkM o y z a g r c := by
  have h' : ¬ c.val < 1024 := by omega
  have hq : grp ⟨c.val - 1024, by omega⟩ = 1 := Fin.ext (show (c.val - 1024) / 512 = 1 by omega)
  have hp : pos ⟨c.val - 1024, by omega⟩ = k := Fin.ext (show (c.val - 1024) % 512 = k.val by omega)
  have hl : lane 1 k = ⟨c.val - 1024, by omega⟩ := Fin.ext (show 1 * 512 + k.val = c.val - 1024 by omega)
  have e : gated (View.ld (S := S256x1024) (Val := Elt Ideal) (e' := .f32) y (Rect.unit (s := S256x1024) ![0, 512] ![256, 512] inb_S256x1024_S256x512_0_512)) (View.ld (S := S256x1024) (Val := Elt Ideal) (e' := .f32) z (Rect.unit (s := S256x1024) ![0, 512] ![256, 512] inb_S256x1024_S256x512_0_512)) r = blkG y z r 1 :=
    funext fun j => by simp only [gated, blkG]; rw [ld_b1, ld_b1]
  rw [pay2_at, blkM, dif_neg h', blkY, hq, hp, e, ld_g1, hl]

theorem tileO (o y z : FVec Ideal S256x1024 .f32) (a g : FVec Ideal S1x1024 .f32) (r : Fin 256) (k : Fin 1024) (c : Fin 2048) (h : c.val = k.val) :
    k0_pay3 (F := Ideal) o a (ix2 r k) = blkM o y z a g r c := by
  have h' : c.val < 1024 := by omega
  obtain rfl : k = ⟨c.val, h'⟩ := Fin.ext h.symm
  rw [pay3_at, blkM, dif_pos h', blkO]

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

theorem outs5_at (c : Dev nD) (t : Fin cfg0.N) (r : Fin 256) (l : Fin 2048) :
    (outsAt0 m c t) (ix2 r l) = blkM (iblk m c 0 t) (iblk m c 1 t) (iblk m c 2 t) (iblk m c 3 t) (iblk m c 4 t) r l := by
  unfold outsAt0; frame_out
  simp only [pay1_eq]
  canon_tiles x hx using View.cover_of_tiledBy _ ![256, 512] (by sl_kernel_rfl) _
  · idx_vars x
    obtain rfl : r = x0 := Fin.ext hx0
    exact tile1 _ _ _ _ _ r x1 l hx1
  · idx_vars x
    obtain rfl : r = x0 := Fin.ext hx0
    exact tile0 _ _ _ _ _ r x1 l hx1
  · idx_vars x
    obtain rfl : r = x0 := Fin.ext hx0
    exact tileO _ _ _ _ _ r x1 l hx1

/-- The row of the arrays a block's row is. -/
abbrev row (t : Fin cfg0.N) (r : Fin 256) : Fin 4096 := ⟨t.val * 256 + r.val, by have h : t.val < 16 := t.isLt; omega⟩

theorem blk_o (c : Dev nD) (t : Fin cfg0.N) (r : Fin 256) (l : Fin 1024) :
    (iblk m c 0 t : FVec Ideal S256x1024 .f32) (ix2 r l) = (m ((c.tc : Thread nD τ).loc main_arg0) : FVec Ideal S4096x1024 .f32) (ix2 (row t r) l) := by
  blk_point [iblk, V, idx t]

theorem blk_y (c : Dev nD) (t : Fin cfg0.N) (r : Fin 256) (l : Fin 1024) :
    (iblk m c 1 t : FVec Ideal S256x1024 .f32) (ix2 r l) = (m ((c.tc : Thread nD τ).loc main_arg1) : FVec Ideal S4096x1024 .f32) (ix2 (row t r) l) := by
  blk_point [iblk, V, idx t]

theorem blk_z (c : Dev nD) (t : Fin cfg0.N) (r : Fin 256) (l : Fin 1024) :
    (iblk m c 2 t : FVec Ideal S256x1024 .f32) (ix2 r l) = (m ((c.tc : Thread nD τ).loc main_arg2) : FVec Ideal S4096x1024 .f32) (ix2 (row t r) l) := by
  blk_point [iblk, V, idx t]

theorem blk_a (c : Dev nD) (t : Fin cfg0.N) (l : Fin 1024) :
    (iblk m c 3 t : FVec Ideal S1x1024 .f32) (ix2 0 l) = (m ((c.tc : Thread nD τ).loc main_arg3) : FVec Ideal S1024 .f32) (ix1 l) := by
  pointwise [iblk, V]
  blk_point [iblk, V, idx t]

theorem blk_g (c : Dev nD) (t : Fin cfg0.N) (l : Fin 1024) :
    (iblk m c 4 t : FVec Ideal S1x1024 .f32) (ix2 0 l) = (m ((c.tc : Thread nD τ).loc main_arg4) : FVec Ideal S1024 .f32) (ix1 l) := by
  pointwise [iblk, V]
  blk_point [iblk, V, idx t]

theorem emb_5 (t : Fin cfg0.N) (G : FVec Ideal S4096x2048 .bf16) (r : Fin 256) (l : Fin 2048) :
    G (((win0 5).blk t).view.emb (ix2 r l)) = G (ix2 (row t r) l) := by
  blk_point [idx t]

/-- The result array after the run is the reference's. -/
theorem final_5 (c : Dev nD) :
    (dats m 0 c).arrAt 5 (cfgs 0).N = MIX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp; rw [after0_5]
  idx_vars y
  rw [outs5_at]
  refine Eq.trans ?_ (emb_5 t _ y0 y1).symm
  unfold blkM
  split
  · next h =>
    rw [MIX_left _ _ _ _ _ _ _ h, OA_at]
    unfold blkO
    simp only [blk_o, blk_a]
  · next h =>
    rw [MIX_right _ _ _ _ _ _ _ h, YA_at]
    unfold blkY blkG
    simp only [blk_y, blk_z, blk_g]

end

/-- The program terminates and leaves its arguments unchanged, over machine words. -/
theorem frame : Cert.quiescent_MergeFwd := fun m ρ _ => Cert.MergeFwd.Gen.frame m ρ

/-- The same over the extended reals. -/
theorem frameIdeal : Cert.quiescent_MergeFwdIdeal := fun m ρ _ => Cert.MergeFwdIdeal.Gen.frame m ρ

/-- The reference terminates and leaves its arguments unchanged. -/
theorem frameReference : Cert.quiescent_MergeFwdReferenceIdeal := by
  intro m g _
  exact (θ_run _ _ _).mono (fun r h => ⟨fun c => (h c).2, sem_eq_zero_of_no_sems rfl _⟩)
    (Cert.MergeFwdReferenceIdeal.Value.run m g)

set_option maxHeartbeats 1600000 in
/-- Over the extended reals the kernel returns what the reference returns. -/
theorem algebraic : Cert.algebraic_MergeFwdIdeal_MergeFwdReferenceIdeal := by
  pair_intro
  · run_from Cert.MergeFwdIdeal.Gen.run_main m g
  · hlo_run
    rw [(hagree c).2.2.2.2]
    exact (final_5 m c).symm

end Cert.MergeFwdValue

end
-- ==== Proof.ConvFwd.lean ====
/- The causal depthwise convolution with its gate: what the kernel's array holds after the run. -/
module

public import proofs.«01_k».proof.Defs
public import proofs.«01_k».proof.Proof.Gen.ConvFwd.Frame
public import proofs.«01_k».proof.Proof.Gen.ConvFwdIdeal.Value
public import proofs.«01_k».proof.Proof.Gen.ConvFwdReferenceIdeal.Run
public import proofs.«01_k».proof.Proof.Conv
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ConvFwdValue

open Cert.Reals Cert.ConvValue

section
open Cert.ConvFwdReferenceIdeal Cert.ConvFwdReferenceIdeal.Gen

/-- The reference's gated convolution. -/
def A (u : FVec Ideal S2x2048x1536 .f32) (w : FVec Ideal S4x1536 .f32) (b : FVec Ideal S1536 .f32) : FVec Ideal S2x2048x1536 .f32 :=
  mulf (PRE u w b) (SIG (PRE u w b))

theorem A_at (u : FVec Ideal S2x2048x1536 .f32) (w : FVec Ideal S4x1536 .f32) (b : FVec Ideal S1536 .f32) (q : Fin 2) (s : Fin 2048)
    (l : Fin 1536) : A u w b (ix3 q s l) = preact (fun s => u (ix3 q s l)) (fun i => w (ix2 i l)) (b (ix1 l)) s
      * logi (preact (fun s => u (ix3 q s l)) (fun i => w (ix2 i l)) (b (ix1 l)) s) := by
  rw [← PRE_at]
  pointwise [A, SIG, logi]

end

section
open Cert.ConvFwdIdeal Cert.ConvFwdIdeal.Gen

variable (m : (ℓ : Loc nD τ sig) → Buf (Elt Ideal) ℓ)

/-- Every window's block index at every grid point. -/
theorem idx : ∀ t : Fin cfg0.N, win0_0.index t = ![t.val / 6, 0, t.val % 6] ∧ win0_1.index t = ![0, t.val % 6] ∧ win0_2.index t = ![0, t.val % 6]
    ∧ win0_3.index t = ![t.val / 6, 0, t.val % 6] :=
  (by decide +kernel : ∀ t : Fin grid0.N, _)

/-- The padded input held in scratch, read from row `o`. -/
abbrev PADS (U : FVec Ideal S1x2048x256 .f32) (o : ℕ) (inb : ∀ a, (![o, 0] : Fin 2 → ℕ) a + (![2048, 256] : Fin 2 → ℕ) a ≤ S2056x256.size a) :
    FVec Ideal S2048x256 .f32 :=
  (View.whole cc0_scratch0).readCov (Val := Elt Ideal)
    [⟨Rect.unit (s := S2056x256) ![8, 0] ![2048, 256] inb_S2056x256_S2048x256_8_0, k0_pay3 (F := Ideal) U⟩,
      ⟨Rect.unit (s := S2056x256) ![0, 0] ![8, 256] inb_S2056x256_S8x256_0_0, k0_pay2 (F := Ideal)⟩]
    (Rect.unit (s := S2056x256) ![o, 0] ![2048, 256] inb).toLoadRect

theorem PADS_at (B : FVec Ideal S1x2048x256 .f32) (o : ℕ) (inb) (i : Fin 4) (ho : o = 5 + i.val) (s : Fin 2048) (k : Fin 256) :
    PADS B o inb (ix2 s k) = tap (fun s => B (ix3 0 s k)) i s := by
  have hs : s.val + o < 2056 := by omega
  refine (congrFun (View.readCov_eq_canon' _ _ _) _).trans ((View.ld_unit_apply_of _ _ _ _ _ (ix2 ⟨s.val + o, hs⟩ k) fun a => ?_).trans ?_)
  · fin_cases a <;> simp [ix2] <;> omega
  refine (canon_row inb_S2056x256_S2048x256_8_0 _ _ ⟨s.val + o, hs⟩ k).trans ?_
  unfold tap
  by_cases h : 3 ≤ s.val + i.val
  · rw [dif_pos h, dif_pos (by show 8 ≤ s.val + o ∧ s.val + o < 8 + 2048; omega)]
    have e : s.val + o - 8 = s.val + i.val - 3 := by omega
    simp only [e]
    pointwise [k0_pay3]
  · rw [dif_neg h, dif_neg (by show ¬ (8 ≤ s.val + o ∧ s.val + o < 8 + 2048); omega)]
    refine (canon_row inb_S2056x256_S8x256_0_0 _ _ ⟨s.val + o, hs⟩ k).trans ?_
    rw [dif_pos (by show 0 ≤ s.val + o ∧ s.val + o < 0 + 8; omega)]
    pointwise [k0_pay2]

theorem pay1_at (b : FVec Ideal S1x256 .f32) (P0 P1 P2 P3 : FVec Ideal S2048x256 .f32) (W0 W1 W2 W3 : FVec Ideal S1x256 .f32)
    (s : Fin 2048) (k : Fin 256) (p : EReal)
    (hp : b (ix2 0 k) + P0 (ix2 s k) * W0 (ix2 0 k) + P1 (ix2 s k) * W1 (ix2 0 k) + P2 (ix2 s k) * W2 (ix2 0 k) + P3 (ix2 s k) * W3 (ix2 0 k) = p) :
    k0_pay1 (F := Ideal) (k0_pay4 b P0 W0 P1 W1 P2 W2) P3 (k0_pay5 W3) (ix3 0 s k) = p * logi p := by
  subst hp
  pointwise [k0_pay1, k0_pay4, k0_pay5, logi, zero_sub]

theorem out_at (U : FVec Ideal S1x2048x256 .f32) (W : FVec Ideal S4x256 .f32) (b : FVec Ideal S1x256 .f32) (s : Fin 2048) (k : Fin 256) :
    k0_pay1 (F := Ideal) (k0_pay4 b (PADS U 5 inb_S2056x256_S2048x256_5_0) (ConvValue.ROWS W 0 inb_S4x256_S1x256_0_0)
        (PADS U 6 inb_S2056x256_S2048x256_6_0) (ConvValue.ROWS W 1 inb_S4x256_S1x256_1_0) (PADS U 7 inb_S2056x256_S2048x256_7_0)
        (ConvValue.ROWS W 2 inb_S4x256_S1x256_2_0)) (PADS U 8 inb_S2056x256_S2048x256_8_0)
        (k0_pay5 (ConvValue.ROWS W 3 inb_S4x256_S1x256_3_0)) (ix3 0 s k)
      = preact (fun s => U (ix3 0 s k)) (fun j => W (ix2 j k)) (b (ix2 0 k)) s
        * logi (preact (fun s => U (ix3 0 s k)) (fun j => W (ix2 j k)) (b (ix2 0 k)) s) := by
  refine pay1_at _ _ _ _ _ _ _ _ _ _ _ _ ?_
  rw [PADS_at U 5 _ 0 rfl, PADS_at U 6 _ 1 rfl, PADS_at U 7 _ 2 rfl, PADS_at U 8 _ 3 rfl,
    ROWS_at W 0 _ 0 rfl, ROWS_at W 1 _ 1 rfl, ROWS_at W 2 _ 2 rfl, ROWS_at W 3 _ 3 rfl]
  rfl

/-- The column of the arrays a block's column is. -/
abbrev col (t : Fin cfg0.N) (k : Fin 256) : Fin 1536 := ⟨t.val % 6 * 256 + k.val, by omega⟩

/-- The sequence a grid point works on. -/
abbrev seqOf (t : Fin cfg0.N) : Fin 2 := ⟨t.val / 6, by have h : t.val < 12 := t.isLt; omega⟩

theorem blk_u (c : Dev nD) (t : Fin cfg0.N) (s : Fin 2048) (k : Fin 256) :
    (iblk m c 0 t : FVec Ideal S1x2048x256 .f32) (ix3 0 s k) = (m ((c.tc : Thread nD τ).loc main_arg0) : FVec Ideal S2x2048x1536 .f32) (ix3 (seqOf t) s (col t k)) := by
  blk_point [iblk, V, idx t]

theorem blk_w (c : Dev nD) (t : Fin cfg0.N) (i : Fin 4) (k : Fin 256) :
    (iblk m c 1 t : FVec Ideal S4x256 .f32) (ix2 i k) = (m ((c.tc : Thread nD τ).loc main_arg1) : FVec Ideal S4x1536 .f32) (ix2 i (col t k)) := by
  blk_point [iblk, V, idx t]

theorem blk_b (c : Dev nD) (t : Fin cfg0.N) (k : Fin 256) :
    (iblk m c 2 t : FVec Ideal S1x256 .f32) (ix2 0 k) = (m ((c.tc : Thread nD τ).loc main_arg2) : FVec Ideal S1536 .f32) (ix1 (col t k)) := by
  pointwise [iblk, V]
  blk_point [iblk, V, idx t]

theorem emb_3 (t : Fin cfg0.N) (G : FVec Ideal S2x2048x1536 .f32) (s : Fin 2048) (k : Fin 256) :
    G (((win0 3).blk t).view.emb (ix3 0 s k)) = G (ix3 (seqOf t) s (col t k)) := by
  blk_point [idx t]

/-- What every point leaves in the result's block. -/
theorem outs_at (c : Dev nD) (t : Fin cfg0.N) (s : Fin 2048) (k : Fin 256) :
    (outsAt0 m c t) (ix3 0 s k) = preact (fun s => (iblk m c 0 t : FVec Ideal S1x2048x256 .f32) (ix3 0 s k))
        (fun j => (iblk m c 1 t : FVec Ideal S4x256 .f32) (ix2 j k)) ((iblk m c 2 t : FVec Ideal S1x256 .f32) (ix2 0 k)) s
      * logi (preact (fun s => (iblk m c 0 t : FVec Ideal S1x2048x256 .f32) (ix3 0 s k))
        (fun j => (iblk m c 1 t : FVec Ideal S4x256 .f32) (ix2 j k)) ((iblk m c 2 t : FVec Ideal S1x256 .f32) (ix2 0 k)) s) := by
  unfold outsAt0
  frame_out
  exact out_at _ _ _ s k

/-- The result array after the run is the reference's. -/
theorem final_3 (c : Dev nD) :
    (dats m 0 c).arrAt 3 (cfgs 0).N = A (m ((c.tc : Thread nD τ).loc main_arg0)) (m ((c.tc : Thread nD τ).loc main_arg1))
      (m ((c.tc : Thread nD τ).loc main_arg2)) := by
  refine (dats m 0 c).arrAt_eq_of_covers 3 _ (by decide +kernel) fun t hf y => ?_
  blk_simp; rw [after0_3]
  idx_vars y
  obtain rfl : 0 = y0 := Subsingleton.elim _ _
  rw [outs_at]
  refine Eq.trans ?_ (emb_3 t _ y1 y2).symm
  rw [A_at]
  simp only [blk_u, blk_w, blk_b]

end

/-- The program terminates and leaves its arguments unchanged, over machine words. -/
theorem frame : Cert.quiescent_ConvFwd := fun m ρ _ => Cert.ConvFwd.Gen.frame m ρ

/-- The same over the extended reals. -/
theorem frameIdeal : Cert.quiescent_ConvFwdIdeal := fun m ρ _ => Cert.ConvFwdIdeal.Gen.frame m ρ

/-- The reference terminates and leaves its arguments unchanged. -/
theorem frameReference : Cert.quiescent_ConvFwdReferenceIdeal := by
  intro m g _
  exact (θ_run _ _ _).mono (fun r h => ⟨fun c => (h c).2, sem_eq_zero_of_no_sems rfl _⟩)
    (Cert.ConvFwdReferenceIdeal.Value.run m g)

set_option maxHeartbeats 1600000 in
/-- Over the extended reals the kernel returns what the reference returns. -/
theorem algebraic : Cert.algebraic_ConvFwdIdeal_ConvFwdReferenceIdeal := by
  pair_intro
  · run_from Cert.ConvFwdIdeal.Gen.run_main m g
  · hlo_run
    exact (final_3 m c).symm

end Cert.ConvFwdValue

end
-- ==== Proof.LossHead.lean ====
/- The loss head: the cotangent of the layers' output and the loss by lanes, as the kernel leaves them. -/
module

public import proofs.«01_k».proof.Defs
public import proofs.«01_k».proof.Proof.Gen.LossHead.Frame
public import proofs.«01_k».proof.Proof.Gen.LossHeadIdeal.Value
public import proofs.«01_k».proof.Proof.Gen.LossHeadReferenceIdeal.Run
public import proofs.«01_k».proof.Proof.Rms
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.LossHeadValue

open Cert.Reals

theorem ofBits_half : Ideal.ofBits .f32 0x3F000000#32 = ((1 / 2 : ℝ) : EReal) := by
  show Ideal.ieee 8 23 (0x3F000000#32 : BitVec 32) = ((1 / 2 : ℝ) : EReal)
  unfold Ideal.ieee
  norm_num [show (BitVec.extractLsb' 23 8 (0x3F000000#32)).toNat = 126 by decide,
    show (BitVec.extractLsb' 0 23 (0x3F000000#32)).toNat = 0 by decide,
    show (BitVec.extractLsb' 31 1 (0x3F000000#32) == 1#1) = false by decide]

theorem ofBits_two : Ideal.ofBits .f32 0x40000000#32 = ((2 : ℝ) : EReal) := by
  show Ideal.ieee 8 23 (0x40000000#32 : BitVec 32) = ((2 : ℝ) : EReal)
  unfold Ideal.ieee
  norm_num [show (BitVec.extractLsb' 23 8 (0x40000000#32)).toNat = 128 by decide,
    show (BitVec.extractLsb' 0 23 (0x40000000#32)).toNat = 0 by decide,
    show (BitVec.extractLsb' 31 1 (0x40000000#32) == 1#1) = false by decide]

theorem ofBits_2048 : Ideal.ofBits .f32 0x45000000#32 = ((2048 : ℝ) : EReal) := by
  show Ideal.ieee 8 23 (0x45000000#32 : BitVec 32) = ((2048 : ℝ) : EReal)
  unfold Ideal.ieee
  norm_num [show (BitVec.extractLsb' 23 8 (0x45000000#32)).toNat = 138 by decide,
    show (BitVec.extractLsb' 0 23 (0x45000000#32)).toNat = 0 by decide,
    show (BitVec.extractLsb' 31 1 (0x45000000#32) == 1#1) = false by decide]

theorem ofBits_inv_2048 : Ideal.ofBits .f32 0x3A000000#32 = ((1 / 2048 : ℝ) : EReal) := by
  show Ideal.ieee 8 23 (0x3A000000#32 : BitVec 32) = ((1 / 2048 : ℝ) : EReal)
  unfold Ideal.ieee
  norm_num [show (BitVec.extractLsb' 23 8 (0x3A000000#32)).toNat = 116 by decide,
    show (BitVec.extractLsb' 0 23 (0x3A000000#32)).toNat = 0 by decide,
    show (BitVec.extractLsb' 31 1 (0x3A000000#32) == 1#1) = false by decide]

theorem ofBits_inv_4096 : Ideal.ofBits .f32 0x39800000#32 = ((1 / 4096 : ℝ) : EReal) := by
  show Ideal.ieee 8 23 (0x39800000#32 : BitVec 32) = ((1 / 4096 : ℝ) : EReal)
  unfold Ideal.ieee
  norm_num [show (BitVec.extractLsb' 23 8 (0x39800000#32)).toNat = 115 by decide,
    show (BitVec.extractLsb' 0 23 (0x39800000#32)).toNat = 0 by decide,
    show (BitVec.extractLsb' 31 1 (0x39800000#32) == 1#1) = false by decide]

/-- The constants the reference multiplies a difference by are the kernel's one. -/
theorem scale_eq (x : EReal) :
    Ideal.div (Ideal.ofBits .f32 0x3F000000#32) (Ideal.ofBits .f32 0x45000000#32) * (Ideal.ofBits .f32 0x40000000#32 * x)
      = x * Ideal.ofBits .f32 0x3A000000#32 := by
  rw [ofBits_half, ofBits_2048, ofBits_two, ofBits_inv_2048, div_coe_coe _ _ (by norm_num), ← mul_assoc, ← EReal.coe_mul, mul_comm]
  norm_num

/-- Half of a sum's mean is the sum of the scaled parts. -/
theorem half_mean (f : Fin 16 → EReal) :
    Ideal.ofBits .f32 0x3F000000#32 * Ideal.div (∑ t, f t) (Ideal.ofBits .f32 0x45000000#32)
      = ∑ t, f t * Ideal.ofBits .f32 0x39800000#32 := by
  rw [ofBits_half, ofBits_2048, ofBits_inv_4096, div_pos_coe _ _ (by norm_num), mul_comm (∑ t, f t), ← mul_assoc, ← EReal.coe_mul,
    coe_mul_sum _ _ _ (by norm_num)]
  refine Finset.sum_congr rfl fun t _ => ?_
  rw [mul_comm]
  norm_num

/-- Sixteen values added one after another. -/
theorem sum_sixteen (f : Fin 16 → EReal) :
    f 0 + f 1 + f 2 + f 3 + f 4 + f 5 + f 6 + f 7 + f 8 + f 9 + f 10 + f 11 + f 12 + f 13 + f 14 + f 15 = ∑ g, f g := by
  simp only [Fin.sum_univ_castSucc, Fin.sum_univ_zero, zero_add]
  rfl

/-- The lane of the rows that group `g` keeps at lane `l`. -/
abbrev lane (g : Fin 16) (l : Fin 128) : Fin 2048 := ⟨g.val * 128 + l.val, by omega⟩

section
open Cert.LossHeadReferenceIdeal Cert.LossHeadReferenceIdeal.Gen

/-- The reference's cotangent. -/
def DYR (y t : FVec Ideal S4096x2048 .f32) : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf y t))

/-- The same, rounded. -/
def DYB (y t : FVec Ideal S4096x2048 .f32) : FVec Ideal S4096x2048 .bf16 := truncf .bf16 (DYR y t) bitsLt_bf16_f32

/-- The squared differences with the lanes as the last axis. -/
def SQ (y t : FVec Ideal S4096x2048 .f32) : FVec Ideal S65536x128 .f32 :=
  shapeCast S65536x128 (mulf (subf y t) (subf y t)) shapeCasts_S4096x2048_S65536x128

/-- The reference's loss by lanes. -/
def LANESR (y t : FVec Ideal S4096x2048 .f32) : FVec Ideal S1x128 .f32 :=
  mulf (broadcastInDim S1x128 ![] bcast_S_S1x128 (constant S_ .f32 0x3F000000#32)) (shapeCast S1x128 (Host.divf (Host.reduceAdd (SQ y t) (constant S_ .f32 0x00000000#32) reducesTo_S65536x128_S128_d0 h_S_) (broadcastInDim S128 ![] bcast_S_S128 (constant S_ .f32 0x45000000#32))) shapeCasts_S128_S1x128)

/-- A squared difference. -/
def sq (y t : FVec Ideal S4096x2048 .f32) (r : Fin 4096) (k : Fin 2048) : EReal :=
  (y (ix2 r k) - t (ix2 r k)) * (y (ix2 r k) - t (ix2 r k))

theorem DYR_at (y t : FVec Ideal S4096x2048 .f32) (i : S4096x2048.Idx) :
    DYR y t i = (y i - t i) * Ideal.ofBits .f32 0x3A000000#32 := by
  rw [← scale_eq]
  pointwise [DYR, mul_one]

theorem SQ_at (y t : FVec Ideal S4096x2048 .f32) (r : Fin 4096) (g : Fin 16) (l : Fin 128) (i : Fin 65536) (h : i.val = r.val * 16 + g.val) :
    SQ y t (ix2 i l) = sq y t r (lane g l) := by
  have e : i = ⟨r.val * 16 + g.val, by omega⟩ := Fin.ext h
  rw [e]
  have hl : lane g l = ⟨(r.val * 16 + g.val) % 16 * 128 + l.val, by omega⟩ :=
    Fin.ext (show g.val * 128 + l.val = (r.val * 16 + g.val) % 16 * 128 + l.val by omega)
  rw [hl]
  unfold sq
  pointwise [SQ]

theorem LANESR_at (y t : FVec Ideal S4096x2048 .f32) (l : Fin 128) :
    LANESR y t (ix2 0 l) = Ideal.ofBits .f32 0x3F000000#32
      * Ideal.div (∑ i : Fin 65536, SQ y t (ix2 i l)) (Ideal.ofBits .f32 0x45000000#32) := by
  pointwise [LANESR]

end

section
open Cert.LossHeadIdeal Cert.LossHeadIdeal.Gen

/-- A block's scaled difference. -/
def blkD (y t : FVec Ideal S256x2048 .f32) (r : Fin 256) (k : Fin 2048) : EReal :=
  (y (ix2 r k) - t (ix2 r k)) * Ideal.ofBits .f32 0x3A000000#32

theorem pay4_at (y t : FVec Ideal S256x2048 .f32) (r : Fin 256) (k : Fin 2048) :
    k0_pay4 (F := Ideal) y t (ix2 r k) = blkD y t r k := by
  unfold blkD
  pointwise [k0_pay4, k0_pay3]

theorem pay5_at (y t : FVec Ideal S256x2048 .f32) (r : Fin 256) (k : Fin 2048) :
    k0_pay5 (F := Ideal) y t (ix2 r k) = blkD y t r k := by
  unfold blkD
  pointwise [k0_pay5, k0_pay4, k0_pay3]

theorem pay6_at (y t : FVec Ideal S256x2048 .f32) (k : Fin 2048) :
    k0_pay6 (F := Ideal) y t (ix2 0 k) = ∑ r : Fin 256, (y (ix2 r k) - t (ix2 r k)) * (y (ix2 r k) - t (ix2 r k)) := by
  pointwise [k0_pay6, k0_pay3]

/-- A block's part of a lane's loss, before its scale. -/
def blkL (y t : FVec Ideal S256x2048 .f32) (l : Fin 128) : EReal :=
  ∑ g : Fin 16, k0_pay6 (F := Ideal) y t (ix2 0 (lane g l))

theorem pay78_at (y t : FVec Ideal S256x2048 .f32) (l : Fin 128) :
    k0_pay7 (F := Ideal) y t (ix2 0 l) + k0_pay8 (F := Ideal) y t (ix2 0 l) = blkL y t l := by
  unfold blkL
  rw [← sum_sixteen]
  generalize hP : k0_pay6 (F := Ideal) y t = P
  unfold k0_pay7 k0_pay8
  rw [hP]
  have h0 : lane 0 l = ⟨l.val, by omega⟩ := Fin.ext (show 0 * 128 + l.val = l.val by omega)
  rw [h0]
  pointwise []
  rfl

theorem pay1_at (y t : FVec Ideal S256x2048 .f32) (acc : FVec Ideal S1x128 .f32) (l : Fin 128) :
    k0_pay1 (F := Ideal) (k0_pay7 y t) (k0_pay8 y t) acc (ix2 0 l) = acc (ix2 0 l) + blkL y t l * Ideal.ofBits .f32 0x39800000#32 := by
  rw [← pay78_at]
  generalize k0_pay7 (F := Ideal) y t = P
  generalize k0_pay8 (F := Ideal) y t = Q
  pointwise [k0_pay1]

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

theorem outs2_at (c : Dev nD) (t : Fin cfg0.N) (r : Fin 256) (k : Fin 2048) :
    (outsAt0 m c t.val t.isLt).1 (ix2 r k) = blkD (iblk m c 0 t) (iblk m c 1 t) r k := by
  by_cases h : t.val % 16 = 0
  · rw [outsAt0_A m c t h]; frame_out; exact pay4_at _ _ r k
  · rw [outsAt0_B m c t h]; frame_out; exact pay4_at _ _ r k

theorem outs3_at (c : Dev nD) (t : Fin cfg0.N) (r : Fin 256) (k : Fin 2048) :
    (outsAt0 m c t.val t.isLt).2.1 (ix2 r k) = blkD (iblk m c 0 t) (iblk m c 1 t) r k := by
  by_cases h : t.val % 16 = 0
  · rw [outsAt0_A m c t h]; frame_out; exact pay5_at _ _ r k
  · rw [outsAt0_B m c t h]; frame_out; exact pay5_at _ _ r k

theorem outs4_first (c : Dev nD) (t : Fin cfg0.N) (h : t.val % 16 = 0) (l : Fin 128) :
    (outsAt0 m c t.val t.isLt).2.2 (ix2 0 l) = 0 + blkL (iblk m c 0 t) (iblk m c 1 t) l * Ideal.ofBits .f32 0x39800000#32 := by
  rw [outsAt0_A m c t h]; frame_out; rw [pay1_at]
  refine congrArg (· + _) ?_
  pointwise [k0_pay2]

theorem outs4_next (c : Dev nD) (t : Fin cfg0.N) (h : ¬ t.val % 16 = 0) (l : Fin 128) :
    (outsAt0 m c t.val t.isLt).2.2 (ix2 0 l)
      = (outsAt0 m c (t.val - 1) (Nat.lt_of_le_of_lt (Nat.sub_le _ _) t.isLt)).2.2 (ix2 0 l)
        + blkL (iblk m c 0 t) (iblk m c 1 t) l * Ideal.ofBits .f32 0x39800000#32 := by
  rw [outsAt0_B m c t h]; frame_out; rw [pay1_at]

/-- The row of the arrays a block's row is. -/
abbrev row (t : Fin cfg0.N) (r : Fin 256) : Fin 4096 := ⟨t.val * 256 + r.val, by have h : t.val < 16 := t.isLt; omega⟩

theorem blk_y (c : Dev nD) (t : Fin cfg0.N) (r : Fin 256) (k : Fin 2048) :
    (iblk m c 0 t : FVec Ideal S256x2048 .f32) (ix2 r k) = (m ((c.tc : Thread nD τ).loc main_arg0) : FVec Ideal S4096x2048 .f32) (ix2 (row t r) k) := by
  blk_point [iblk, V, idx t]

theorem blk_t (c : Dev nD) (t : Fin cfg0.N) (r : Fin 256) (k : Fin 2048) :
    (iblk m c 1 t : FVec Ideal S256x2048 .f32) (ix2 r k) = (m ((c.tc : Thread nD τ).loc main_arg1) : FVec Ideal S4096x2048 .f32) (ix2 (row t r) k) := by
  blk_point [iblk, V, idx t]

theorem emb_2 (t : Fin cfg0.N) (G : FVec Ideal S4096x2048 .f32) (r : Fin 256) (k : Fin 2048) :
    G (((win0 2).blk t).view.emb (ix2 r k)) = G (ix2 (row t r) k) := by
  blk_point [idx t]

theorem emb_3 (t : Fin cfg0.N) (G : FVec Ideal S4096x2048 .bf16) (r : Fin 256) (k : Fin 2048) :
    G (((win0 3).blk t).view.emb (ix2 r k)) = G (ix2 (row t r) k) := by
  blk_point [idx t]

theorem emb_4 (t : Fin cfg0.N) (G : FVec Ideal S1x128 .f32) (l : Fin 128) :
    G (((win0 4).blk t).view.emb (ix2 0 l)) = G (ix2 0 l) := by
  blk_point [idx t]

/-- The cotangent after the run is the reference's. -/
theorem final_2 (c : Dev nD) :
    (dats m 0 c).arrAt 2 (cfgs 0).N = DYR (m ((c.tc : Thread nD τ).loc main_arg0)) (m ((c.tc : Thread nD τ).loc main_arg1)) := by
  refine (dats m 0 c).arrAt_eq_of_covers 2 _ (by decide +kernel) fun t hf y => ?_
  blk_simp; rw [after0_2]
  idx_vars y
  rw [outs2_at]
  refine Eq.trans ?_ (emb_2 t _ y0 y1).symm
  rw [DYR_at]
  unfold blkD
  simp only [blk_y, blk_t]

/-- The rounded cotangent after the run is the reference's. -/
theorem final_3 (c : Dev nD) :
    (dats m 0 c).arrAt 3 (cfgs 0).N = DYB (m ((c.tc : Thread nD τ).loc main_arg0)) (m ((c.tc : Thread nD τ).loc main_arg1)) := by
  refine (dats m 0 c).arrAt_eq_of_covers 3 _ (by decide +kernel) fun t hf y => ?_
  blk_simp; rw [after0_3]
  idx_vars y
  rw [outs3_at]
  refine Eq.trans ?_ (emb_3 t _ y0 y1).symm
  refine Eq.trans ?_ (DYR_at _ _ (ix2 (row t y0) y1)).symm
  unfold blkD
  simp only [blk_y, blk_t]

/-- The sum over the lanes' entries, by grid point, row and group. -/
theorem sum_by_points (y t : FVec Ideal Cert.LossHeadReferenceIdeal.S4096x2048 .f32) (l : Fin 128) :
    ∑ i : Fin 65536, SQ y t (ix2 i l)
      = ∑ s : Fin 16, ∑ g : Fin 16, ∑ r : Fin 256, sq y t ⟨s.val * 256 + r.val, by omega⟩ (lane g l) := by
  have h1 : ∑ r : Fin 4096, ∑ g : Fin 16, sq y t r (lane g l) = ∑ i : Fin 65536, SQ y t (ix2 i l) :=
    Fin.sum_mul_add_congr fun r g hl => (SQ_at y t r g l _ rfl).symm
  have h2 : ∑ s : Fin 16, ∑ r : Fin 256, ∑ g : Fin 16, sq y t ⟨s.val * 256 + r.val, by omega⟩ (lane g l) = ∑ r : Fin 4096, ∑ g : Fin 16, sq y t r (lane g l) :=
    Fin.sum_mul_add_congr fun s r hl => rfl
  rw [← h1, ← h2]
  exact Finset.sum_congr rfl fun s _ => Finset.sum_comm

/-- The loss by lanes after the run is the reference's. -/
theorem final_4 (c : Dev nD) :
    (dats m 0 c).arrAt 4 (cfgs 0).N = LANESR (m ((c.tc : Thread nD τ).loc main_arg0)) (m ((c.tc : Thread nD τ).loc main_arg1)) := by
  refine (dats m 0 c).arrAt_eq_of_covers 4 _ (by decide +kernel) fun t hf y => ?_
  blk_simp
  rw [after0_4]
  idx_vars y
  obtain rfl : 0 = y0 := Subsingleton.elim _ _
  refine Eq.trans ?_ (emb_4 t _ y1).symm
  rw [LANESR_at, sum_by_points, half_mean]
  refine (Pipeline.eq_sum_fin_of_reset_step_apply_of_flush (fun n h l => (outsAt0 m c n h).2.2 (ix2 0 l)) 16 (fun _ => 0) _
    (outs4_first m c) (outs4_next m c) t ((flush0_4 t).mp hf) y1).trans ?_
  rw [zero_add]
  refine Finset.sum_congr rfl fun s _ => congrArg (· * _) ?_
  unfold blkL
  refine Finset.sum_congr rfl fun g _ => ?_
  rw [pay6_at]
  refine Finset.sum_congr rfl fun r _ => ?_
  have hr : row ⟨16 * (t.val / 16) + s.val, Pipeline.run_point_lt_of_flush t ((flush0_4 t).mp hf) s⟩ r = ⟨s.val * 256 + r.val, by omega⟩ :=
    Fin.ext (by show (16 * (t.val / 16) + s.val) * 256 + r.val = s.val * 256 + r.val; have h : t.val < 16 := t.isLt; omega)
  simp only [blk_y, blk_t, hr]
  rfl

end

/-- The program terminates and leaves its arguments unchanged, over machine words. -/
theorem frame : Cert.quiescent_LossHead := fun m ρ _ => Cert.LossHead.Gen.frame m ρ

/-- The same over the extended reals. -/
theorem frameIdeal : Cert.quiescent_LossHeadIdeal := fun m ρ _ => Cert.LossHeadIdeal.Gen.frame m ρ

/-- The reference terminates and leaves its arguments unchanged. -/
theorem frameReference : Cert.quiescent_LossHeadReferenceIdeal := by
  intro m g _
  exact (θ_run _ _ _).mono (fun r h => ⟨fun c => (h c).2.2.2, sem_eq_zero_of_no_sems rfl _⟩)
    (Cert.LossHeadReferenceIdeal.Value.run m g)

set_option maxHeartbeats 1600000 in
/-- Over the extended reals the kernel returns what the reference returns. -/
theorem algebraic : Cert.algebraic_LossHeadIdeal_LossHeadReferenceIdeal := by
  pair_intro
  · run_from Cert.LossHeadIdeal.Gen.run_main m g
  · hlo_run
    · exact (final_2 m c).symm
    · exact (final_3 m c).symm
    · exact (final_4 m c).symm

end Cert.LossHeadValue

end
-- ==== Proof.SsdSpec.lean ====
/- The chunked state-space scan as sums over extended reals, and the facts about three-term splittings that its kernel uses. -/
module

public import proofs.«01_k».proof.Proof.Reals
public import Idealize.ShloMosaic.Lib.Pointwise

@[expose] public section

noncomputable section

open Idealize.ShloMosaic
open scoped BigOperators

namespace Cert.Ssd

/-- The position in the sequence of row `l` of chunk `c`. -/
def row (c : Fin 16) (l : Fin 128) : Fin 2048 := ⟨c.val * 128 + l.val, by omega⟩
/-- Head `i` of group `g`. -/
def hd (g : Fin 2) (i : Fin 8) : Fin 16 := ⟨g.val * 8 + i.val, by omega⟩
/-- The column of the result, and of the convolution's output, that holds lane `p` of head `i` of group `g`. -/
def ycol (g : Fin 2) (i : Fin 8) (p : Fin 64) : Fin 1024 := ⟨(g.val * 8 + i.val) * 64 + p.val, by omega⟩
/-- The column of the convolution's output that holds lane `p` of head `i` of group `g`. -/
def xcol (g : Fin 2) (i : Fin 8) (p : Fin 64) : Fin 1536 := ⟨(g.val * 8 + i.val) * 64 + p.val, by omega⟩
/-- The column of the convolution's output that holds entry `n` of the group's input projection. -/
def bcol (g : Fin 2) (n : Fin 128) : Fin 1536 := ⟨1024 + (g.val * 128 + n.val), by omega⟩
/-- The column of the convolution's output that holds entry `n` of the group's output projection. -/
def ccol (g : Fin 2) (n : Fin 128) : Fin 1536 := ⟨1280 + (g.val * 128 + n.val), by omega⟩

/-- The logistic integral `log (1 + exp x)`, written without overflow. -/
def sp (x : EReal) : EReal := max x 0 + Ideal.log (1 + Ideal.exp (-(max x (-x))))

variable (x : Fin 2 → Fin 2048 → Fin 1536 → EReal) (dt : Fin 2 → Fin 2048 → Fin 16 → EReal) (bi al d : Fin 16 → EReal)

/-- The step size. -/
def DT (b : Fin 2) (c : Fin 16) (l : Fin 128) (g : Fin 2) (i : Fin 8) : EReal := sp (dt b (row c l) (hd g i) + bi (hd g i))
/-- The logarithm of one step's decay. -/
def DA (b : Fin 2) (c : Fin 16) (l : Fin 128) (g : Fin 2) (i : Fin 8) : EReal := DT dt bi b c l g i * (-(Ideal.exp (al (hd g i))))
/-- The logarithm of the decay from the chunk's start. -/
def ACUM (b : Fin 2) (c : Fin 16) (l : Fin 128) (g : Fin 2) (i : Fin 8) : EReal :=
  ∑ k : Fin 128, if k ≤ l then DA dt bi al b c k g i else 0
/-- The input times the step size. -/
def XDT (b : Fin 2) (c : Fin 16) (l : Fin 128) (g : Fin 2) (i : Fin 8) (p : Fin 64) : EReal :=
  x b (row c l) (xcol g i p) * DT dt bi b c l g i
/-- The product of the output projection at `l` and the input projection at `s`. -/
def CB (b : Fin 2) (c : Fin 16) (l s : Fin 128) (g : Fin 2) : EReal :=
  ∑ n : Fin 128, x b (row c l) (ccol g n) * x b (row c s) (bcol g n)
/-- The decay from step `s` to step `l`, none before `s`. -/
def DEC (b : Fin 2) (c : Fin 16) (l s : Fin 128) (g : Fin 2) (i : Fin 8) : EReal :=
  if s ≤ l then Ideal.exp (ACUM dt bi al b c l g i - ACUM dt bi al b c s g i) else 0
/-- The part of the result that comes from the chunk's own steps. -/
def YD (b : Fin 2) (c : Fin 16) (l : Fin 128) (g : Fin 2) (i : Fin 8) (p : Fin 64) : EReal :=
  ∑ s : Fin 128, CB x b c l s g * DEC dt bi al b c l s g i * XDT x dt bi b c s g i p
/-- What the chunk adds to the state. -/
def ST (b : Fin 2) (c : Fin 16) (g : Fin 2) (i : Fin 8) (p : Fin 64) (n : Fin 128) : EReal :=
  ∑ s : Fin 128, XDT x dt bi b c s g i p * Ideal.exp (ACUM dt bi al b c 127 g i - ACUM dt bi al b c s g i) * x b (row c s) (bcol g n)
/-- The state before chunk `k`. -/
def H (b : Fin 2) (g : Fin 2) (i : Fin 8) (p : Fin 64) (n : Fin 128) : ℕ → EReal
  | 0 => 0
  | k + 1 => H b g i p n k * Ideal.exp (ACUM dt bi al b (Fin.ofNat 16 k) 127 g i) + ST x dt bi al b (Fin.ofNat 16 k) g i p n
/-- The result. -/
def Y (b : Fin 2) (c : Fin 16) (l : Fin 128) (g : Fin 2) (i : Fin 8) (p : Fin 64) : EReal :=
  YD x dt bi al b c l g i p
    + (∑ n : Fin 128, x b (row c l) (ccol g n) * H x dt bi al b g i p n c.val) * Ideal.exp (ACUM dt bi al b c l g i)
    + x b (row c l) (xcol g i p) * d (hd g i)

/-! ## Values below `+∞` -/

/-- A value below `+∞` is its rounding plus its remainder's rounding plus the last remainder. -/
theorem split3 {a : EReal} (h : a ≠ ⊤) : a + (a - a) + (a - a - (a - a)) = a := by
  induction a using EReal.rec with
  | bot => simp
  | coe r => rw [← EReal.coe_sub, sub_self, EReal.coe_zero]; simp
  | top => exact absurd rfl h

/-- A sum with weights zero and one may be taken term by term of the splitting, the weights on the left. -/
theorem split3_sum {n : ℕ} (w a : Fin n → EReal) (hw : ∀ k, w k = 0 ∨ w k = 1) (ha : ∀ k, a k ≠ ⊤) :
    (∑ k, w k * a k) + (∑ k, w k * (a k - a k)) + (∑ k, w k * (a k - a k - (a k - a k))) = ∑ k, w k * a k := by
  rw [← Finset.sum_add_distrib, ← Finset.sum_add_distrib]
  refine Finset.sum_congr rfl fun k _ => ?_
  rcases hw k with h | h <;> rw [h]
  · simp
  · rw [one_mul, one_mul, one_mul, split3 (ha k)]

/-- The same with the weights on the right. -/
theorem split3_sum' {n : ℕ} (w a : Fin n → EReal) (hw : ∀ k, w k = 0 ∨ w k = 1) (ha : ∀ k, a k ≠ ⊤) :
    (∑ k, a k * w k) + (∑ k, (a k - a k) * w k) + (∑ k, (a k - a k - (a k - a k)) * w k) = ∑ k, a k * w k := by
  simp only [mul_comm _ (w _)]; exact split3_sum w a hw ha

/-- The logistic integral of a value below `+∞` is not negative and below `+∞`. -/
theorem sp_bounds {a : EReal} (h : a ≠ ⊤) : 0 ≤ sp a ∧ sp a ≠ ⊤ := by
  have l1 : Ideal.log 1 = 0 := by
    show (if (1 : ℝ) ≤ 0 then (⊥ : EReal) else ((Real.log 1 : ℝ) : EReal)) = 0
    norm_num
  induction a using EReal.rec with
  | bot =>
    have : sp ⊥ = 0 := by
      unfold sp
      simp [Ideal.exp_bot, l1]
    rw [this]; exact ⟨le_refl _, EReal.zero_ne_top⟩
  | coe r =>
    have e : sp (r : EReal) = ((max r 0 + Real.log (1 + Real.exp (-(max r (-r)))) : ℝ) : EReal) := by
      unfold sp
      have h1 : max (r : EReal) (-(r : EReal)) = ((max r (-r) : ℝ) : EReal) := by
        rw [← EReal.coe_neg]; exact (EReal.coe_strictMono.monotone.map_max).symm
      have h2 : max (r : EReal) 0 = ((max r 0 : ℝ) : EReal) := by
        rw [← EReal.coe_zero]; exact (EReal.coe_strictMono.monotone.map_max).symm
      rw [h1, h2, ← EReal.coe_neg]
      have h3 : Ideal.exp ((-(max r (-r)) : ℝ) : EReal) = ((Real.exp (-(max r (-r))) : ℝ) : EReal) := rfl
      rw [h3, ← EReal.coe_one, ← EReal.coe_add]
      have h4 : Ideal.log ((1 + Real.exp (-(max r (-r))) : ℝ) : EReal) = ((Real.log (1 + Real.exp (-(max r (-r)))) : ℝ) : EReal) := by
        show (if (1 + Real.exp (-(max r (-r)))) ≤ 0 then (⊥ : EReal) else _) = _
        rw [if_neg (by have := Real.exp_pos (-(max r (-r))); linarith)]
      rw [h4, ← EReal.coe_add]
    rw [e]
    refine ⟨?_, EReal.coe_ne_top _⟩
    have h5 : (0 : ℝ) ≤ max r 0 := le_max_right _ _
    have h6 : (0 : ℝ) ≤ Real.log (1 + Real.exp (-(max r (-r)))) :=
      Real.log_nonneg (by have := Real.exp_pos (-(max r (-r))); linarith)
    exact_mod_cast add_nonneg h5 h6
  | top => exact absurd rfl h

/-- An exponential is not negative. -/
theorem exp_nonneg (a : EReal) : 0 ≤ Ideal.exp a := by
  induction a using EReal.rec with
  | bot => exact le_refl _
  | coe r => show (0 : EReal) ≤ ((Real.exp r : ℝ) : EReal); exact_mod_cast (Real.exp_pos r).le
  | top => exact le_top

/-- A sum of values below `+∞` is below `+∞`. -/
theorem sum_ne_top {n : ℕ} (a : Fin n → EReal) (h : ∀ k, a k ≠ ⊤) : (∑ k, a k) ≠ ⊤ := by
  have : ∀ s : Finset (Fin n), (∑ k ∈ s, a k) ≠ ⊤ := fun s => by
    induction s using Finset.induction_on with
    | empty => simp
    | insert k s hk ih => rw [Finset.sum_insert hk]; exact EReal.add_ne_top (h k) ih
  exact this _

variable (hdt : ∀ b s h, dt b s h ≠ ⊤) (hbi : ∀ h, bi h ≠ ⊤)
include hdt hbi

/-- Where the step's input and its bias are below `+∞`, so is the step size. -/
theorem DT_ne_top (b : Fin 2) (c : Fin 16) (l : Fin 128) (g : Fin 2) (i : Fin 8) : DT dt bi b c l g i ≠ ⊤ :=
  (sp_bounds (EReal.add_ne_top (hdt _ _ _) (hbi _))).2

/-- The logarithm of one step's decay is at most zero, so below `+∞`. -/
theorem DA_ne_top (b : Fin 2) (c : Fin 16) (l : Fin 128) (g : Fin 2) (i : Fin 8) : DA dt bi al b c l g i ≠ ⊤ := by
  have h1 : 0 ≤ DT dt bi b c l g i := (sp_bounds (EReal.add_ne_top (hdt _ _ _) (hbi _))).1
  have h2 := exp_nonneg (al (hd g i))
  have h3 : 0 ≤ DT dt bi b c l g i * Ideal.exp (al (hd g i)) := EReal.mul_nonneg h1 h2
  intro h
  unfold DA at h
  rw [mul_neg] at h
  have h4 : DT dt bi b c l g i * Ideal.exp (al (hd g i)) = ⊥ := by rw [← neg_neg (_ * _), h, EReal.neg_top]
  rw [h4] at h3
  exact absurd h3 (by simp)

/-- The logarithm of the decay from the chunk's start is below `+∞`. -/
theorem ACUM_ne_top (b : Fin 2) (c : Fin 16) (l : Fin 128) (g : Fin 2) (i : Fin 8) : ACUM dt bi al b c l g i ≠ ⊤ :=
  sum_ne_top _ fun k => by split_ifs; exacts [DA_ne_top dt bi al hdt hbi _ _ _ _ _, EReal.zero_ne_top]

end Cert.Ssd

end
-- ==== Proof.SsdPay.lean ====
/- The arithmetic of one grid point of the state-space scan's kernel: one head's two tiles, as the sums of `SsdSpec`. -/
module

public import proofs.«01_k».proof.Proof.Gen.SsdFwdIdeal.Value
public import proofs.«01_k».proof.Proof.SsdSpec
public import proofs.«01_k».proof.Defs
public import Idealize.ShloMosaic.Lib.Pointwise

@[expose] public section

set_option maxRecDepth 16384

noncomputable section

open Idealize.ShloMosaic Idealize.ShloMosaic.TcCoe Idealize.SL.Sem
open scoped BigOperators

namespace Cert.SsdPay

open Cert.Reals Cert.Ssd
open Cert.SsdFwdIdeal Cert.SsdFwdIdeal.Gen

/-- The rows that equal a number. -/
def MK (e : BitVec 32) : IVec S128x128 1 := cmpi .eq (iota .tc S128x128 32 [0] iota_S128x128_d0_w32) (broadcast S128x128 e)

/-- The chunk's decays from one head's two sums, masked below the diagonal, times the projections' products. -/
def GMg (ac : FVec Ideal S128x128 .f32) (r : FVec Ideal S1x128 .f32) (cb : FVec Ideal S128x128 .f32) : FVec Ideal S128x128 .f32 :=
  mulf cb (select (cmpi .sge (iota .tc S128x128 32 [0] iota_S128x128_d0_w32) (iota .tc S128x128 32 [1] iota_S128x128_d1_w32))
    (exp (select (cmpi .sge (iota .tc S128x128 32 [0] iota_S128x128_d0_w32) (iota .tc S128x128 32 [1] iota_S128x128_d1_w32))
      (subf ac (broadcastTo S128x128 r broadcasts_S1x128_S128x128)) (broadcast S128x128 (Scalar.ofBits .f32 0x00000000#32))))
    (broadcast S128x128 (Scalar.ofBits .f32 0x00000000#32)))

/-- One head's input times its step size, the step size taken from its column. -/
def XDg (v22 : FVec Ideal S128x128 .f32) (xh : FVec Ideal S128x64 .f32) (e : BitVec 32) : FVec Ideal S128x64 .f32 :=
  mulf xh (extractStridedSlice S128x64 ![0, 0] (k0_pay19 (F := Ideal) v22 (MK e)) slices_S128x128_o0_0_S128x64)

section
variable (vB vC vdt : FVec Ideal S1x128x128 .f32) (vbi val : FVec Ideal S1x128 .f32)

/-- The sums of the steps' decays. -/
def AC : FVec Ideal S128x128 .f32 := k0_pay12 (F := Ideal) (k0_pay9 vdt vbi val) k0_pay10 (k0_pay11 vdt vbi val)
/-- The same with the heads on the rows. -/
def AT : FVec Ideal S128x128 .f32 := k0_pay13 (F := Ideal) (k0_pay9 vdt vbi val)
/-- The products of the two projections. -/
def CBk : FVec Ideal S128x128 .f32 := k0_pay14 (F := Ideal) (k0_pay6 vB) (k0_pay7 vC)

/-- One head's tile of the result. -/
def YT (e : BitVec 32) (r : FVec Ideal S1x128 .f32) (xh : FVec Ideal S128x64 .f32) (hp : FVec Ideal S64x128 .f32)
    (vd : FVec Ideal S1x1 .f32) : FVec Ideal S1x128x64 .f32 :=
  k0_pay121 (F := Ideal) xh
    (k0_pay120 (k0_pay19 (AC vdt vbi val) (MK e))
      (k0_pay96 (GMg (k0_pay19 (F := Ideal) (AC vdt vbi val) (MK e)) r (CBk vB vC)) (XDg (k0_pay8 (F := Ideal) vdt vbi) xh e))
      (k0_pay104 (k0_pay7 (F := Ideal) vC) hp)) vd

/-- One head's tile of the state. -/
def TT (e : BitVec 32) (xh : FVec Ideal S128x64 .f32) (hp : FVec Ideal S64x128 .f32) : FVec Ideal S64x128 .f32 :=
  k0_pay122 (F := Ideal) (k0_pay23 (AC vdt vbi val) (MK e)) hp
    (k0_pay112 (k0_pay6 vB) (XDg (k0_pay8 (F := Ideal) vdt vbi) xh e) (k0_pay24 (AC vdt vbi val) (MK e)))
end

theorem sge_at : ∀ l s : Fin 128, IntOp.cmpi .sge (BitVec.ofNat 32 l.val) (BitVec.ofNat 32 s.val) = if s ≤ l then 1#1 else 0#1 := by
  decide +kernel

theorem sle_at : ∀ l s : Fin 128, IntOp.cmpi .sle (BitVec.ofNat 32 l.val) (BitVec.ofNat 32 s.val) = if l ≤ s then 1#1 else 0#1 := by
  decide +kernel

theorem eq_at : ∀ l s : Fin 128, IntOp.cmpi .eq (BitVec.ofNat 32 l.val) (BitVec.ofNat 32 s.val) = if l = s then 1#1 else 0#1 := by
  decide +kernel

/-- A truth value as a number. -/
theorem bit_at (p : Prop) [Decidable p] :
    (FloatOps.sitofp (F := Ideal) .f32 (BitVec.setWidth 32 (if p then 1#1 else 0#1)) : EReal) = if p then 1 else 0 := by
  split_ifs
  · show ((((BitVec.setWidth 32 1#1 : BitVec 32).toInt : ℝ)) : EReal) = 1
    rw [show (BitVec.setWidth 32 1#1 : BitVec 32).toInt = 1 by decide]; norm_num
  · show ((((BitVec.setWidth 32 0#1 : BitVec 32).toInt : ℝ)) : EReal) = 0
    rw [show (BitVec.setWidth 32 0#1 : BitVec 32).toInt = 0 by decide]; norm_num

theorem mk_at (e : BitVec 32) (k n : Fin 128) (i : Fin 128) (he : e.toNat = i.val) :
    k0_pay18 (F := Ideal) (MK e) (ix2 k n) = if k = i then 1 else 0 := by
  obtain rfl : e = BitVec.ofNat 32 i.val := by
    apply BitVec.eq_of_toNat_eq; rw [he, BitVec.toNat_ofNat]; omega
  pointwise [k0_pay18, MK]
  rw [eq_at, bit_at]

theorem pay10_at (l k : Fin 128) : k0_pay10 (F := Ideal) (ix2 l k) = if k ≤ l then 1 else 0 := by
  pointwise [k0_pay10]
  rw [sge_at, bit_at]

theorem pay19_at (x : FVec Ideal S128x128 .f32) (e : BitVec 32) (l n : Fin 128) (i : Fin 128) (he : e.toNat = i.val)
    (hx : x (ix2 l i) ≠ ⊤) : k0_pay19 (F := Ideal) x (MK e) (ix2 l n) = x (ix2 l i) := by
  have h : k0_pay19 (F := Ideal) x (MK e) (ix2 l n)
      = (∑ k : Fin 128, x (ix2 l k) * k0_pay18 (F := Ideal) (MK e) (ix2 k n))
        + (∑ k : Fin 128, (x (ix2 l k) - x (ix2 l k)) * k0_pay18 (F := Ideal) (MK e) (ix2 k n))
        + (∑ k : Fin 128, (x (ix2 l k) - x (ix2 l k) - (x (ix2 l k) - x (ix2 l k))) * k0_pay18 (F := Ideal) (MK e) (ix2 k n)) := by
    pointwise [k0_pay19]
  rw [h]
  simp only [mk_at e _ n i he, mul_ite, mul_one, mul_zero, Finset.sum_ite_eq', Finset.mem_univ, if_true]
  exact split3 hx

theorem pay8_at (v : FVec Ideal S1x128x128 .f32) (w : FVec Ideal S1x128 .f32) (l h : Fin 128) :
    k0_pay8 (F := Ideal) v w (ix2 l h) = sp (v (ix3 0 l h) + w (ix2 0 h)) := by
  unfold sp
  pointwise [k0_pay8, zero_sub]
  rfl

theorem pay9_at (v : FVec Ideal S1x128x128 .f32) (w a : FVec Ideal S1x128 .f32) (l h : Fin 128) :
    k0_pay9 (F := Ideal) v w a (ix2 l h) = sp (v (ix3 0 l h) + w (ix2 0 h)) * (-(Ideal.exp (a (ix2 0 h)))) := by
  rw [← pay8_at]
  pointwise [k0_pay9, zero_sub]

theorem pay12_at (x : FVec Ideal S128x128 .f32) (l h : Fin 128) (hx : ∀ k, x (ix2 k h) ≠ ⊤) :
    k0_pay12 (F := Ideal) x k0_pay10 (truncf .bf16 x bitsLt_bf16_f32) (ix2 l h) = ∑ k : Fin 128, if k ≤ l then x (ix2 k h) else 0 := by
  have e : k0_pay12 (F := Ideal) x k0_pay10 (truncf .bf16 x bitsLt_bf16_f32) (ix2 l h)
      = (∑ k : Fin 128, k0_pay10 (F := Ideal) (ix2 l k) * x (ix2 k h))
        + (∑ k : Fin 128, k0_pay10 (F := Ideal) (ix2 l k) * (x (ix2 k h) - x (ix2 k h)))
        + (∑ k : Fin 128, k0_pay10 (F := Ideal) (ix2 l k) * (x (ix2 k h) - x (ix2 k h) - (x (ix2 k h) - x (ix2 k h)))) := by
    pointwise [k0_pay12]
  rw [e, split3_sum (fun k => k0_pay10 (F := Ideal) (ix2 l k)) (fun k => x (ix2 k h))
    (fun k => by rw [pay10_at]; split_ifs; exacts [Or.inr rfl, Or.inl rfl]) hx]
  refine Finset.sum_congr rfl fun k _ => ?_
  rw [pay10_at]
  split_ifs
  · exact one_mul _
  · exact zero_mul _

/-- The rows at most the column. -/
def MU : FVec Ideal S128x128 .bf16 :=
  truncf .bf16 (sitofp .f32 (extui 32 (cmpi .sle (iota .tc S128x128 32 [0] iota_S128x128_d0_w32) (iota .tc S128x128 32 [1] iota_S128x128_d1_w32)) natLt_1_32)) bitsLt_bf16_f32

theorem MU_at (k l : Fin 128) : MU (ix2 k l) = if k ≤ l then 1 else 0 := by
  pointwise [MU]
  rw [sle_at, bit_at]

theorem pay13_at (x : FVec Ideal S128x128 .f32) (h l : Fin 128) (hx : ∀ k, x (ix2 k h) ≠ ⊤) :
    k0_pay13 (F := Ideal) x (ix2 h l) = ∑ k : Fin 128, if k ≤ l then x (ix2 k h) else 0 := by
  have e : k0_pay13 (F := Ideal) x (ix2 h l)
      = (∑ k : Fin 128, x (ix2 k h) * MU (ix2 k l))
        + (∑ k : Fin 128, (x (ix2 k h) - x (ix2 k h)) * MU (ix2 k l))
        + (∑ k : Fin 128, (x (ix2 k h) - x (ix2 k h) - (x (ix2 k h) - x (ix2 k h))) * MU (ix2 k l)) := by
    unfold MU
    pointwise [k0_pay13]
  rw [e, split3_sum' (fun k => MU (ix2 k l)) (fun k => x (ix2 k h))
    (fun k => by rw [MU_at]; split_ifs; exacts [Or.inr rfl, Or.inl rfl]) hx]
  refine Finset.sum_congr rfl fun k _ => ?_
  rw [MU_at]
  split_ifs
  · exact mul_one _
  · exact mul_zero _

theorem GMg_at (ac : FVec Ideal S128x128 .f32) (r : FVec Ideal S1x128 .f32) (cb : FVec Ideal S128x128 .f32) (l s : Fin 128) :
    GMg ac r cb (ix2 l s) = cb (ix2 l s) * (if s ≤ l then Ideal.exp (ac (ix2 l s) - r (ix2 0 s)) else 0) := by
  pointwise [GMg]
  rw [sge_at]
  by_cases h : s ≤ l
  · rw [if_pos h, if_pos h]; rfl
  · rw [if_neg h, if_neg h, mul_zero]; rfl

theorem CBk_at (vB vC : FVec Ideal S1x128x128 .f32) (l s : Fin 128) :
    CBk vB vC (ix2 l s) = ∑ n : Fin 128, vC (ix3 0 l n) * vB (ix3 0 s n) := by
  pointwise [CBk, k0_pay14, k0_pay6, k0_pay7]

theorem XDg_at (v22 : FVec Ideal S128x128 .f32) (xh : FVec Ideal S128x64 .f32) (e : BitVec 32) (i : Fin 128) (he : e.toNat = i.val)
    (s : Fin 128) (p : Fin 64) (hx : v22 (ix2 s i) ≠ ⊤) : XDg v22 xh e (ix2 s p) = xh (ix2 s p) * v22 (ix2 s i) := by
  have h : XDg v22 xh e (ix2 s p) = xh (ix2 s p) * k0_pay19 (F := Ideal) v22 (MK e) (ix2 s ⟨p.val, by omega⟩) := by
    pointwise [XDg]
  rw [h, pay19_at _ _ _ _ i he hx]

theorem ytile_at (xh : FVec Ideal S128x64 .f32) (ac gm : FVec Ideal S128x128 .f32) (xd : FVec Ideal S128x64 .f32)
    (v6 : FVec Ideal S128x128 .f32) (hp : FVec Ideal S64x128 .f32) (vd : FVec Ideal S1x1 .f32) (l : Fin 128) (p : Fin 64) :
    k0_pay121 (F := Ideal) xh (k0_pay120 ac (k0_pay96 gm xd) (k0_pay104 v6 hp)) vd (ix3 0 l p)
      = (∑ s : Fin 128, gm (ix2 l s) * xd (ix2 s p))
        + (∑ n : Fin 128, v6 (ix2 l n) * hp (ix2 p n)) * Ideal.exp (ac (ix2 l ⟨p.val, by omega⟩))
        + xh (ix2 l p) * vd (ix2 0 0) := by
  pointwise [k0_pay121, k0_pay120, k0_pay96, k0_pay104]

theorem stile_at (v4 : FVec Ideal S128x128 .f32) (x : FVec Ideal S128x128 .f32) (e : BitVec 32) (xd : FVec Ideal S128x64 .f32)
    (hp : FVec Ideal S64x128 .f32) (p : Fin 64) (n : Fin 128) :
    k0_pay122 (F := Ideal) (k0_pay23 x (MK e)) hp (k0_pay112 v4 xd (k0_pay24 x (MK e))) (ix2 p n)
      = hp (ix2 p n) * Ideal.exp (k0_pay19 (F := Ideal) x (MK e) (ix2 127 n))
        + ∑ s : Fin 128, xd (ix2 s p) * Ideal.exp (k0_pay19 (F := Ideal) x (MK e) (ix2 127 ⟨p.val, by omega⟩)
            - k0_pay19 (F := Ideal) x (MK e) (ix2 s ⟨p.val, by omega⟩)) * v4 (ix2 s n) := by
  pointwise [k0_pay122, k0_pay23, k0_pay112, k0_pay24]

section
variable (x : Fin 2 → Fin 2048 → Fin 1536 → EReal) (dt : Fin 2 → Fin 2048 → Fin 16 → EReal) (bi al d : Fin 16 → EReal)
variable (hdt : ∀ b s h, dt b s h ≠ ⊤) (hbi : ∀ h, bi h ≠ ⊤)
variable (vB vC vdt : FVec Ideal S1x128x128 .f32) (vbi val : FVec Ideal S1x128 .f32)
variable (b : Fin 2) (c : Fin 16) (g : Fin 2) (i : Fin 8)

/-- The lane of head `i` in its group's block. -/
abbrev ln (i : Fin 8) : Fin 128 := ⟨i.val, by omega⟩

variable (hB : ∀ s n : Fin 128, vB (ix3 0 s n) = x b (row c s) (bcol g n))
variable (hC : ∀ l n : Fin 128, vC (ix3 0 l n) = x b (row c l) (ccol g n))
variable (hv : ∀ l : Fin 128, vdt (ix3 0 l (ln i)) = dt b (row c l) (hd g i))
variable (hw : vbi (ix2 0 (ln i)) = bi (hd g i)) (ha : val (ix2 0 (ln i)) = al (hd g i))

include hv hw in
theorem dt_at (l : Fin 128) : k0_pay8 (F := Ideal) vdt vbi (ix2 l (ln i)) = DT dt bi b c l g i := by
  rw [pay8_at, hv, hw]; rfl

include hv hw ha in
theorem da_at (l : Fin 128) : k0_pay9 (F := Ideal) vdt vbi val (ix2 l (ln i)) = DA dt bi al b c l g i := by
  rw [pay9_at, hv, hw, ha]; rfl

include hdt hbi hv hw ha

theorem AC_at (l : Fin 128) : AC vdt vbi val (ix2 l (ln i)) = ACUM dt bi al b c l g i := by
  refine (pay12_at _ l (ln i) fun k => ?_).trans (Finset.sum_congr rfl fun k _ => ?_)
  · rw [da_at dt bi al vdt vbi val b c g i hv hw ha]; exact DA_ne_top dt bi al hdt hbi _ _ _ _ _
  · rw [da_at dt bi al vdt vbi val b c g i hv hw ha]

theorem AT_at (l : Fin 128) : AT vdt vbi val (ix2 (ln i) l) = ACUM dt bi al b c l g i := by
  refine (pay13_at _ (ln i) l fun k => ?_).trans (Finset.sum_congr rfl fun k _ => ?_)
  · rw [da_at dt bi al vdt vbi val b c g i hv hw ha]; exact DA_ne_top dt bi al hdt hbi _ _ _ _ _
  · rw [da_at dt bi al vdt vbi val b c g i hv hw ha]

theorem pick_at (e : BitVec 32) (he : e.toNat = i.val) (l n : Fin 128) :
    k0_pay19 (F := Ideal) (AC vdt vbi val) (MK e) (ix2 l n) = ACUM dt bi al b c l g i := by
  have e1 := AC_at dt bi al hdt hbi vdt vbi val b c g i hv hw ha l
  rw [pay19_at _ e l n (ln i) he (by rw [e1]; exact ACUM_ne_top dt bi al hdt hbi _ _ _ _ _), e1]

variable (r : FVec Ideal S1x128 .f32) (hr : ∀ s : Fin 128, r (ix2 0 s) = AT vdt vbi val (ix2 (ln i) s))
variable (xh : FVec Ideal S128x64 .f32) (hx : ∀ (l : Fin 128) (p : Fin 64), xh (ix2 l p) = x b (row c l) (xcol g i p))
variable (hp : FVec Ideal S64x128 .f32) (hh : ∀ (p : Fin 64) (n : Fin 128), hp (ix2 p n) = H x dt bi al b g i p n c.val)
variable (vd : FVec Ideal S1x1 .f32) (hvd : vd (ix2 0 0) = d (hd g i))

include hx in
theorem xd_at (e : BitVec 32) (he : e.toNat = i.val) (s : Fin 128) (p : Fin 64) :
    XDg (k0_pay8 (F := Ideal) vdt vbi) xh e (ix2 s p) = XDT x dt bi b c s g i p := by
  have e1 := dt_at dt bi vdt vbi b c g i hv hw s
  rw [XDg_at _ _ e (ln i) he s p (by rw [e1]; exact DT_ne_top dt bi hdt hbi _ _ _ _ _), e1, hx]
  rfl

include hB hC hr hx hh hvd in
/-- One head's tile of the result is the scan's. -/
theorem YT_at (e : BitVec 32) (he : e.toNat = i.val) (l : Fin 128) (p : Fin 64) :
    YT vB vC vdt vbi val e r xh hp vd (ix3 0 l p) = Y x dt bi al d b c l g i p := by
  unfold YT
  rw [ytile_at, pick_at dt bi al hdt hbi vdt vbi val b c g i hv hw ha e he, hx, hvd]
  unfold Y YD
  refine congrArg (· + _) (congrArg₂ (· + ·) ?_ (congrArg (· * _) ?_))
  · refine Finset.sum_congr rfl fun s _ => ?_
    rw [GMg_at, CBk_at, pick_at dt bi al hdt hbi vdt vbi val b c g i hv hw ha e he, hr,
      AT_at dt bi al hdt hbi vdt vbi val b c g i hv hw ha, xd_at x dt bi al hdt hbi vdt vbi val b c g i hv hw ha xh hx e he]
    simp only [hB, hC]
    rfl
  · refine Finset.sum_congr rfl fun n _ => ?_
    rw [hh, ← hC]
    refine congrArg (· * _) ?_
    pointwise [k0_pay7]

include hB hx hh in
/-- One head's tile of the state is the scan's after the chunk. -/
theorem TT_at (e : BitVec 32) (he : e.toNat = i.val) (p : Fin 64) (n : Fin 128) :
    TT vB vdt vbi val e xh hp (ix2 p n) = H x dt bi al b g i p n (c.val + 1) := by
  unfold TT
  rw [stile_at, hh]
  simp only [pick_at dt bi al hdt hbi vdt vbi val b c g i hv hw ha e he, xd_at x dt bi al hdt hbi vdt vbi val b c g i hv hw ha xh hx e he]
  have ec : Fin.ofNat 16 c.val = c := Fin.ext (Nat.mod_eq_of_lt c.isLt)
  have e4 : ∀ s : Fin 128, k0_pay6 (F := Ideal) vB (ix2 s n) = x b (row c s) (bcol g n) := fun s => by
    rw [← hB]; pointwise [k0_pay6]
  simp only [e4]
  rw [show H x dt bi al b g i p n (c.val + 1) = H x dt bi al b g i p n c.val * Ideal.exp (ACUM dt bi al b (Fin.ofNat 16 c.val) 127 g i)
    + Cert.Ssd.ST x dt bi al b (Fin.ofNat 16 c.val) g i p n from rfl, ec]
  rfl

end

end Cert.SsdPay

end
-- ==== Proof.SsdRef.lean ====
/- The reference of the state-space scan: what its arrays hold, as the sums of `SsdSpec`. -/
module

public import proofs.«01_k».proof.Proof.Gen.SsdFwdReferenceIdeal.Run
public import proofs.«01_k».proof.Proof.SsdSpec
public import proofs.«01_k».proof.Defs
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo
open scoped BigOperators

namespace Cert.SsdRef

open Cert.Reals Cert.Ssd
open Cert.SsdFwdReferenceIdeal Cert.SsdFwdReferenceIdeal.Gen Cert.SsdFwdReferenceIdeal.Value

/-- The argument arrays as functions of their coordinates. -/
abbrev f3 {n0 n1 n2 : ℕ} (a : FVec Ideal ⟨3, ![n0, n1, n2]⟩ .f32) : Fin n0 → Fin n1 → Fin n2 → EReal := fun i j k => a (ix3 i j k)
abbrev f1 {n0 : ℕ} (a : FVec Ideal ⟨1, ![n0]⟩ .f32) : Fin n0 → EReal := fun i => a (ix1 i)

/-- The step's input plus its bias. -/
def vRAW (a1 : FVec Ideal S2x2048x16 .f32) (a2 : FVec Ideal S16 .f32) : FVec Ideal S2x2048x16 .f32 :=
  addf a1 (broadcastInDim S2x2048x16 ![0, 1, 2] bcast_S1x1x16_S2x2048x16_0_1_2 (broadcastInDim S1x1x16 ![2] bcast_S16_S1x1x16_2 a2))

/-- Zero at the step sizes' shape. -/
def vZ : FVec Ideal S2x2048x16 .f32 := broadcastInDim S2x2048x16 ![] bcast_S_S2x2048x16 (constant S_ .f32 0x00000000#32)

/-- The step sizes. -/
def vDT (a1 : FVec Ideal S2x2048x16 .f32) (a2 : FVec Ideal S16 .f32) : FVec Ideal S2x2048x16 .f32 :=
  select (cmpf .une (subf (vRAW a1 a2) vZ) (subf (vRAW a1 a2) vZ)) (addf (vRAW a1 a2) vZ)
    (addf (maximumf (vRAW a1 a2) vZ) (Host.log1p (Host.exp (Host.negf (Host.absf (subf (vRAW a1 a2) vZ))))))

/-- The heads' inputs. -/
def vXS (a0 : FVec Ideal S2x2048x1536 .f32) : FVec Ideal S2x2048x16x64 .f32 :=
  shapeCast S2x2048x16x64 (extractStridedSlice S2x2048x1024 ![0, 0, 0] a0 slices_S2x2048x1536_S2x2048x1024_0_0_0) shapeCasts_S2x2048x1024_S2x2048x16x64

/-- The input projections, by chunks. -/
def vB (a0 : FVec Ideal S2x2048x1536 .f32) : FVec Ideal S2x16x128x2x128 .f32 :=
  shapeCast S2x16x128x2x128 (shapeCast S2x2048x2x128 (extractStridedSlice S2x2048x256 ![0, 0, 1024] a0 slices_S2x2048x1536_S2x2048x256_0_0_1024)
    shapeCasts_S2x2048x256_S2x2048x2x128) shapeCasts_S2x2048x2x128_S2x16x128x2x128

/-- The output projections, by chunks. -/
def vC (a0 : FVec Ideal S2x2048x1536 .f32) : FVec Ideal S2x16x128x2x128 .f32 :=
  shapeCast S2x16x128x2x128 (shapeCast S2x2048x2x128 (extractStridedSlice S2x2048x256 ![0, 0, 1280] a0 slices_S2x2048x1536_S2x2048x256_0_0_1280)
    shapeCasts_S2x2048x256_S2x2048x2x128) shapeCasts_S2x2048x2x128_S2x16x128x2x128

/-- The inputs times the step sizes, by chunks. -/
def vXDT (x : FVec Ideal S2x2048x16x64 .f32) (d : FVec Ideal S2x2048x16 .f32) : FVec Ideal S2x16x128x2x8x64 .f32 :=
  shapeCast S2x16x128x2x8x64 (mulf x (broadcastInDim S2x2048x16x64 ![0, 1, 2, 3] bcast_S2x2048x16x1_S2x2048x16x64_0_1_2_3
    (broadcastInDim S2x2048x16x1 ![0, 1, 2] bcast_S2x2048x16_S2x2048x16x1_0_1_2 d))) shapeCasts_S2x2048x16x64_S2x16x128x2x8x64

/-- The logarithms of the steps' decays, by chunks. -/
def vDA (d : FVec Ideal S2x2048x16 .f32) (a3 : FVec Ideal S16 .f32) : FVec Ideal S2x16x128x2x8 .f32 :=
  shapeCast S2x16x128x2x8 (mulf d (broadcastInDim S2x2048x16 ![0, 1, 2] bcast_S1x1x16_S2x2048x16_0_1_2
    (broadcastInDim S1x1x16 ![2] bcast_S16_S1x1x16_2 (Host.negf (Host.exp a3))))) shapeCasts_S2x2048x16_S2x16x128x2x8

/-- Their running sums within a chunk. -/
def vACUM (da : FVec Ideal S2x16x128x2x8 .f32) : FVec Ideal S2x16x128x2x8 .f32 :=
  Host.reduceWindowAdd ![1, 1, 128, 1, 1] ![1, 1, 1, 1, 1] ![0, 0, 127, 0, 0] ![0, 0, 0, 0, 0] da
    (broadcastInDim S_ ![] bcast_S_S_ (constant S_ .f32 0x00000000#32))
    reduceWindows_S2x16x128x2x8_S2x16x128x2x8_w1s1p0_0_w1s1p0_0_w128s1p127_0_w1s1p0_0_w1s1p0_0 h_S_

/-- The decays between the steps of a chunk. -/
def vDEC (ac : FVec Ideal S2x16x128x2x8 .f32) : FVec Ideal S2x16x128x128x2x8 .f32 :=
  Host.exp (select (broadcastInDim S2x16x128x128x2x8 ![2, 3, 4, 5] bcast_S128x128x1x1_S2x16x128x128x2x8_2_3_4_5
      (broadcastInDim S128x128x1x1 ![0, 1] bcast_S128x128_S128x128x1x1_0_1
        (cmpi .sge (broadcastInDim S128x128 ![0, 1] bcast_S128x1_S128x128_0_1 (broadcastInDim S128x1 ![0] bcast_S128_S128x1_0 (iotaInDim S128 32 0)))
          (broadcastInDim S128x128 ![0, 1] bcast_S1x128_S128x128_0_1 (broadcastInDim S1x128 ![1] bcast_S128_S1x128_1 (iotaInDim S128 32 0))))))
    (subf (broadcastInDim S2x16x128x128x2x8 ![0, 1, 2, 3, 4, 5] bcast_S2x16x128x1x2x8_S2x16x128x128x2x8_0_1_2_3_4_5
        (broadcastInDim S2x16x128x1x2x8 ![0, 1, 2, 4, 5] bcast_S2x16x128x2x8_S2x16x128x1x2x8_0_1_2_4_5 ac))
      (broadcastInDim S2x16x128x128x2x8 ![0, 1, 2, 3, 4, 5] bcast_S2x16x1x128x2x8_S2x16x128x128x2x8_0_1_2_3_4_5
        (broadcastInDim S2x16x1x128x2x8 ![0, 1, 3, 4, 5] bcast_S2x16x128x2x8_S2x16x1x128x2x8_0_1_3_4_5 ac)))
    (broadcastInDim S2x16x128x128x2x8 ![] bcast_S_S2x16x128x128x2x8 (id (constant S_ .f32 0xFF800000#32))))

/-- The part of the result that comes from the chunk's own steps. -/
def vYD (b c : FVec Ideal S2x16x128x2x128 .f32) (dec : FVec Ideal S2x16x128x128x2x8 .f32) (xdt : FVec Ideal S2x16x128x2x8x64 .f32) :
    FVec Ideal S2x16x128x2x8x64 .f32 :=
  transpose S2x16x128x2x8x64 [0, 1, 5, 2, 3, 4]
    (Host.dotGeneral dot_S2x16x128x2x8x64_S2x16x128x128x2x8_S2x16x2x8x64x128_2_3_5_2_0134_0145 none xdt
      (mulf (broadcastInDim S2x16x128x128x2x8 ![0, 1, 2, 3, 4, 5] bcast_S2x16x128x128x2x1_S2x16x128x128x2x8_0_1_2_3_4_5
        (broadcastInDim S2x16x128x128x2x1 ![0, 1, 2, 3, 4] bcast_S2x16x128x128x2_S2x16x128x128x2x1_0_1_2_3_4
          (transpose S2x16x128x128x2 [0, 1, 4, 3, 2]
            (Host.dotGeneral dot_S2x16x128x2x128_S2x16x128x2x128_S2x16x2x128x128_4_4_2_2_013_013 none b c)
            transposes_S2x16x2x128x128_S2x16x128x128x2_0_1_4_3_2))) dec))
    transposes_S2x16x2x8x64x128_S2x16x128x2x8x64_0_1_5_2_3_4

/-- What each chunk adds to the state. -/
def vST (b : FVec Ideal S2x16x128x2x128 .f32) (ac : FVec Ideal S2x16x128x2x8 .f32) (xdt : FVec Ideal S2x16x128x2x8x64 .f32) :
    FVec Ideal S16x2x2x8x64x128 .f32 :=
  transpose S16x2x2x8x64x128 [1, 0, 2, 3, 4, 5]
    (Host.dotGeneral dot_S2x16x128x2x8x64_S2x16x128x2x128_S2x16x2x8x64x128_2_2_45_4_013_013 none
      (mulf (broadcastInDim S2x16x128x2x8x64 ![0, 1, 2, 3, 4, 5] bcast_S2x16x128x2x8x1_S2x16x128x2x8x64_0_1_2_3_4_5
        (broadcastInDim S2x16x128x2x8x1 ![0, 1, 2, 3, 4] bcast_S2x16x128x2x8_S2x16x128x2x8x1_0_1_2_3_4
          (Host.exp (subf (broadcastInDim S2x16x128x2x8 ![0, 1, 2, 3, 4] bcast_S2x16x1x2x8_S2x16x128x2x8_0_1_2_3_4
            (extractStridedSlice S2x16x1x2x8 ![0, 0, 127, 0, 0] ac slices_S2x16x128x2x8_S2x16x1x2x8_0_0_127_0_0)) ac)))) xdt) b)
    transposes_S2x16x2x8x64x128_S16x2x2x8x64x128_1_0_2_3_4_5

/-- The chunks' whole decays. -/
def vCD (ac : FVec Ideal S2x16x128x2x8 .f32) : FVec Ideal S16x2x2x8 .f32 :=
  transpose S16x2x2x8 [1, 0, 2, 3] (Host.exp (shapeCast S2x16x2x8
    (extractStridedSlice S2x16x1x2x8 ![0, 0, 127, 0, 0] ac slices_S2x16x128x2x8_S2x16x1x2x8_0_0_127_0_0) shapeCasts_S2x16x1x2x8_S2x16x2x8))
    transposes_S2x16x2x8_S16x2x2x8_1_0_2_3

/-- The result from the states before the chunks. -/
def vY (yd : FVec Ideal S2x16x128x2x8x64 .f32) (h : FVec Ideal S16x2x2x8x64x128 .f32) (c : FVec Ideal S2x16x128x2x128 .f32)
    (ac : FVec Ideal S2x16x128x2x8 .f32) (x : FVec Ideal S2x2048x16x64 .f32) (a4 : FVec Ideal S16 .f32) : FVec Ideal S2x2048x1024 .f32 :=
  shapeCast S2x2048x1024 (addf (shapeCast S2x2048x16x64 (addf yd
      (mulf (transpose S2x16x128x2x8x64 [0, 1, 5, 2, 3, 4]
          (Host.dotGeneral dot_S2x16x2x8x64x128_S2x16x128x2x128_S2x16x2x8x64x128_5_4_34_2_012_013 none
            (transpose S2x16x2x8x64x128 [1, 0, 2, 3, 4, 5] h transposes_S16x2x2x8x64x128_S2x16x2x8x64x128_1_0_2_3_4_5) c)
          transposes_S2x16x2x8x64x128_S2x16x128x2x8x64_0_1_5_2_3_4)
        (broadcastInDim S2x16x128x2x8x64 ![0, 1, 2, 3, 4, 5] bcast_S2x16x128x2x8x1_S2x16x128x2x8x64_0_1_2_3_4_5
          (broadcastInDim S2x16x128x2x8x1 ![0, 1, 2, 3, 4] bcast_S2x16x128x2x8_S2x16x128x2x8x1_0_1_2_3_4 (Host.exp ac)))))
      shapeCasts_S2x16x128x2x8x64_S2x2048x16x64)
    (mulf x (broadcastInDim S2x2048x16x64 ![0, 1, 2, 3] bcast_S1x1x16x1_S2x2048x16x64_0_1_2_3
      (broadcastInDim S1x1x16x1 ![2, 3] bcast_S16x1_S1x1x16x1_2_3 (broadcastInDim S16x1 ![0] bcast_S16_S16x1_0 a4)))))
    shapeCasts_S2x2048x16x64_S2x2048x1024

section
variable (a0 : FVec Ideal S2x2048x1536 .f32) (a1 : FVec Ideal S2x2048x16 .f32) (a2 a3 a4 : FVec Ideal S16 .f32)

theorem vDT_at (b : Fin 2) (s : Fin 2048) (h : Fin 16) : vDT a1 a2 (ix3 b s h) = sp (a1 (ix3 b s h) + a2 (ix1 h)) := by
  pointwise [vDT, vRAW, vZ]
  simp only [ne_eq, not_true_eq_false, if_false, sub_zero]
  rfl

theorem vXS_at (b : Fin 2) (c : Fin 16) (l : Fin 128) (g : Fin 2) (i : Fin 8) (p : Fin 64) :
    vXS a0 (ix4 b (row c l) (hd g i) p) = a0 (ix3 b (row c l) (xcol g i p)) := by
  pointwise [vXS]
  rfl

theorem vB_at (b : Fin 2) (c : Fin 16) (l : Fin 128) (g : Fin 2) (n : Fin 128) :
    vB a0 (ix5 b c l g n) = a0 (ix3 b (row c l) (bcol g n)) := by
  pointwise [vB]
  rfl

theorem vC_at (b : Fin 2) (c : Fin 16) (l : Fin 128) (g : Fin 2) (n : Fin 128) :
    vC a0 (ix5 b c l g n) = a0 (ix3 b (row c l) (ccol g n)) := by
  pointwise [vC]
  rfl

theorem vXDT_at (x : FVec Ideal S2x2048x16x64 .f32) (d : FVec Ideal S2x2048x16 .f32) (b : Fin 2) (c : Fin 16) (l : Fin 128) (g : Fin 2) (i : Fin 8) (p : Fin 64) :
    vXDT x d (ix6 b c l g i p) = x (ix4 b (row c l) (hd g i) p) * d (ix3 b (row c l) (hd g i)) := by
  pointwise [vXDT]
  rfl

theorem vDA_at (d : FVec Ideal S2x2048x16 .f32) (b : Fin 2) (c : Fin 16) (l : Fin 128) (g : Fin 2) (i : Fin 8) :
    vDA d a3 (ix5 b c l g i) = d (ix3 b (row c l) (hd g i)) * -(Ideal.exp (a3 (ix1 (hd g i)))) := by
  pointwise [vDA]
  rfl

/-- The bit pattern of minus infinity. -/
theorem ofBits_ninf : Ideal.ofBits .f32 0xFF800000#32 = ⊥ := by
  show Ideal.ieee 8 23 (0xFF800000#32 : BitVec 32) = (⊥ : EReal)
  unfold Ideal.ieee
  norm_num [show (BitVec.extractLsb' 23 8 (0xFF800000#32)).toNat = 255 by decide,
    show (BitVec.extractLsb' 0 23 (0xFF800000#32)).toNat = 0 by decide,
    show (BitVec.extractLsb' 31 1 (0xFF800000#32) == 1#1) = true by decide]

theorem sge_at : ∀ l s : Fin 128, IntOp.cmpi .sge (BitVec.ofNat 32 l.val) (BitVec.ofNat 32 s.val) = if s ≤ l then 1#1 else 0#1 := by
  decide +kernel

theorem vDEC_at (ac : FVec Ideal S2x16x128x2x8 .f32) (b : Fin 2) (c : Fin 16) (l s : Fin 128) (g : Fin 2) (i : Fin 8) :
    vDEC ac (ix6 b c l s g i) = if s ≤ l then Ideal.exp (ac (ix5 b c l g i) - ac (ix5 b c s g i)) else 0 := by
  pointwise [vDEC]
  rw [sge_at]
  by_cases h : s ≤ l
  · rw [if_pos h, if_pos h]; rfl
  · rw [if_neg h, if_neg h]
    refine Eq.trans (congrArg Ideal.exp ?_) Ideal.exp_bot
    show Ideal.ofBits .f32 0xFF800000#32 = ⊥
    exact ofBits_ninf

theorem vYD_at (bb cc : FVec Ideal S2x16x128x2x128 .f32) (dec : FVec Ideal S2x16x128x128x2x8 .f32) (xdt : FVec Ideal S2x16x128x2x8x64 .f32)
    (b : Fin 2) (c : Fin 16) (l : Fin 128) (g : Fin 2) (i : Fin 8) (p : Fin 64) :
    vYD bb cc dec xdt (ix6 b c l g i p) = ∑ s : Fin 128, xdt (ix6 b c s g i p) * ((∑ n : Fin 128, bb (ix5 b c s g n) * cc (ix5 b c l g n)) * dec (ix6 b c l s g i)) := by
  pointwise [vYD]

theorem vST_at (bb : FVec Ideal S2x16x128x2x128 .f32) (ac : FVec Ideal S2x16x128x2x8 .f32) (xdt : FVec Ideal S2x16x128x2x8x64 .f32)
    (b : Fin 2) (c : Fin 16) (g : Fin 2) (i : Fin 8) (p : Fin 64) (n : Fin 128) :
    vST bb ac xdt (ix6 c b g i p n)
      = ∑ s : Fin 128, Ideal.exp (ac (ix5 b c 127 g i) - ac (ix5 b c s g i)) * xdt (ix6 b c s g i p) * bb (ix5 b c s g n) := by
  pointwise [vST]
  try rfl

theorem vCD_at (ac : FVec Ideal S2x16x128x2x8 .f32) (b : Fin 2) (c : Fin 16) (g : Fin 2) (i : Fin 8) :
    vCD ac (ix4 c b g i) = Ideal.exp (ac (ix5 b c 127 g i)) := by
  pointwise [vCD]
  try rfl

theorem vY_at (yd : FVec Ideal S2x16x128x2x8x64 .f32) (h : FVec Ideal S16x2x2x8x64x128 .f32) (cc : FVec Ideal S2x16x128x2x128 .f32)
    (ac : FVec Ideal S2x16x128x2x8 .f32) (x : FVec Ideal S2x2048x16x64 .f32)
    (b : Fin 2) (c : Fin 16) (l : Fin 128) (g : Fin 2) (i : Fin 8) (p : Fin 64) :
    vY yd h cc ac x a4 (ix3 b (row c l) (ycol g i p))
      = yd (ix6 b c l g i p) + (∑ n : Fin 128, h (ix6 c b g i p n) * cc (ix5 b c l g n)) * Ideal.exp (ac (ix5 b c l g i))
        + x (ix4 b (row c l) (hd g i) p) * a4 (ix1 (hd g i)) := by
  have e1 : ∀ hh, (⟨(row c l).val / 128, hh⟩ : Fin 16) = c := fun hh => Fin.ext (by show (c.val * 128 + l.val) / 128 = c.val; omega)
  have e2 : ∀ hh, (⟨(row c l).val % 128, hh⟩ : Fin 128) = l := fun hh => Fin.ext (by show (c.val * 128 + l.val) % 128 = l.val; omega)
  have e3 : ∀ hh, (⟨(ycol g i p).val / 64 / 8, hh⟩ : Fin 2) = g := fun hh => Fin.ext (by show ((g.val * 8 + i.val) * 64 + p.val) / 64 / 8 = g.val; omega)
  have e4 : ∀ hh, (⟨(ycol g i p).val / 64 % 8, hh⟩ : Fin 8) = i := fun hh => Fin.ext (by show ((g.val * 8 + i.val) * 64 + p.val) / 64 % 8 = i.val; omega)
  have e5 : ∀ hh, (⟨(ycol g i p).val % 64, hh⟩ : Fin 64) = p := fun hh => Fin.ext (by show ((g.val * 8 + i.val) * 64 + p.val) % 64 = p.val; omega)
  have e6 : ∀ hh, (⟨(ycol g i p).val / 64, hh⟩ : Fin 16) = hd g i := fun hh => Fin.ext (by show ((g.val * 8 + i.val) * 64 + p.val) / 64 = g.val * 8 + i.val; omega)
  pointwise [vY]
  simp only [e1, e2, e3, e4, e5, e6]
end

/-! ## The running sums -/

/-- A sum over the window's positions. -/
def winEquiv : Fin 128 ≃ (⟨5, ![1, 1, 128, 1, 1]⟩ : Shape).Idx where
  toFun k := ix5 (0 : Fin 1) (0 : Fin 1) k (0 : Fin 1) (0 : Fin 1)
  invFun j := j 2
  left_inv k := rfl
  right_inv j := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The running sum within a chunk. -/
theorem vACUM_at (da : FVec Ideal S2x16x128x2x8 .f32) (b : Fin 2) (c : Fin 16) (l : Fin 128) (g : Fin 2) (i : Fin 8) :
    vACUM da (ix5 b c l g i) = ∑ k : Fin 128, if k ≤ l then da (ix5 b c k g i) else 0 := by
  have hz : broadcastInDim S_ ![] bcast_S_S_ (constant (F := Ideal) S_ .f32 0x00000000#32) (Shape.Idx.first h_S_) = (0 : EReal) := by
    show Ideal.ofBits .f32 0x00000000#32 = 0
    pointwise
  show Host.reduceWindow (s := S2x16x128x2x8) (t := S2x16x128x2x8) (u := ⟨0, ![]⟩) (fun a b : EReal => a + b) ![1, 1, 128, 1, 1] ![1, 1, 1, 1, 1] ![0, 0, 127, 0, 0] ![0, 0, 0, 0, 0] da
    (fun _ => broadcastInDim S_ ![] bcast_S_S_ (constant (F := Ideal) S_ .f32 0x00000000#32) (Shape.Idx.first h_S_))
    reduceWindows_S2x16x128x2x8_S2x16x128x2x8_w1s1p0_0_w1s1p0_0_w128s1p127_0_w1s1p0_0_w1s1p0_0 (by decide) (ix5 b c l g i) = _
  rw [hz]
  unfold Host.reduceWindow
  dsimp only
  rw [foldl_add, zero_add, ← Fin.sum_univ_def]
  refine (Equiv.sum_comp (winEquiv.trans (⟨5, ![1, 1, 128, 1, 1]⟩ : Shape).rowMajor) _).symm.trans ?_
  refine Eq.trans ?_ (Equiv.sum_comp (Equiv.addRight (l + 1)) (fun k : Fin 128 => if k ≤ l then da (ix5 b c k g i) else 0))
  refine Finset.sum_congr rfl fun k _ => ?_
  have e0 : (⟨5, ![1, 1, 128, 1, 1]⟩ : Shape).rowMajor.symm ((winEquiv.trans (⟨5, ![1, 1, 128, 1, 1]⟩ : Shape).rowMajor) k) = winEquiv k := Equiv.symm_apply_apply _ _
  simp only [e0]
  rw [Equiv.coe_addRight]
  have hb := b.isLt
  have hc := c.isLt
  have hg := g.isLt
  have hi := i.isLt
  have hk := k.isLt
  have hl := l.isLt
  have hv : (k + (l + 1)).val = (k.val + (l.val + 1) % 128) % 128 := by rw [Fin.val_add, Fin.val_add]; rfl
  by_cases h : 127 ≤ l.val + k.val
  · have e : (k + (l + 1)).val = l.val + k.val - 127 := by omega
    rw [if_pos (show k + (l + 1) ≤ l from Fin.le_def.2 (by omega)), dif_pos fun a => ?_]
    · refine congrArg da (funext fun a => Fin.ext ?_)
      match a with
      | ⟨0, _⟩ => show b.val * 1 + 0 - 0 = b.val; omega
      | ⟨1, _⟩ => show c.val * 1 + 0 - 0 = c.val; omega
      | ⟨2, _⟩ => show l.val * 1 + k.val - 127 = (k + (l + 1)).val; omega
      | ⟨3, _⟩ => show g.val * 1 + 0 - 0 = g.val; omega
      | ⟨4, _⟩ => show i.val * 1 + 0 - 0 = i.val; omega
    · match a with
      | ⟨0, _⟩ => show 0 ≤ b.val * 1 + 0 ∧ b.val * 1 + 0 - 0 < 2; omega
      | ⟨1, _⟩ => show 0 ≤ c.val * 1 + 0 ∧ c.val * 1 + 0 - 0 < 16; omega
      | ⟨2, _⟩ => show 127 ≤ l.val * 1 + k.val ∧ l.val * 1 + k.val - 127 < 128; omega
      | ⟨3, _⟩ => show 0 ≤ g.val * 1 + 0 ∧ g.val * 1 + 0 - 0 < 2; omega
      | ⟨4, _⟩ => show 0 ≤ i.val * 1 + 0 ∧ i.val * 1 + 0 - 0 < 8; omega
  · rw [if_neg (show ¬ (k + (l + 1) ≤ l) from fun hh => by have := Fin.le_def.1 hh; omega), dif_neg fun hin => h ?_]
    have h2 : 127 ≤ l.val * 1 + k.val ∧ _ := hin 2
    omega

/-! ## From the arguments -/

section
variable (a0 : FVec Ideal S2x2048x1536 .f32) (a1 : FVec Ideal S2x2048x16 .f32) (a2 a3 a4 : FVec Ideal S16 .f32)

/-- The running sums from the arguments. -/
def rA : FVec Ideal S2x16x128x2x8 .f32 := vACUM (vDA (vDT a1 a2) a3)
/-- The scaled inputs from the arguments. -/
def rX : FVec Ideal S2x16x128x2x8x64 .f32 := vXDT (vXS a0) (vDT a1 a2)

theorem rA_at (b : Fin 2) (c : Fin 16) (l : Fin 128) (g : Fin 2) (i : Fin 8) :
    rA a1 a2 a3 (ix5 b c l g i) = ACUM (f3 a1) (f1 a2) (f1 a3) b c l g i := by
  unfold rA ACUM
  rw [vACUM_at]
  refine Finset.sum_congr rfl fun k _ => ?_
  rw [vDA_at, vDT_at]
  rfl

theorem rX_at (b : Fin 2) (c : Fin 16) (l : Fin 128) (g : Fin 2) (i : Fin 8) (p : Fin 64) :
    rX a0 a1 a2 (ix6 b c l g i p) = XDT (f3 a0) (f3 a1) (f1 a2) b c l g i p := by
  unfold rX XDT
  rw [vXDT_at, vXS_at, vDT_at]
  rfl

theorem rYD_at (b : Fin 2) (c : Fin 16) (l : Fin 128) (g : Fin 2) (i : Fin 8) (p : Fin 64) :
    vYD (vB a0) (vC a0) (vDEC (rA a1 a2 a3)) (rX a0 a1 a2) (ix6 b c l g i p) = YD (f3 a0) (f3 a1) (f1 a2) (f1 a3) b c l g i p := by
  unfold YD
  rw [vYD_at]
  refine Finset.sum_congr rfl fun s _ => ?_
  rw [rX_at, vDEC_at, rA_at, rA_at, mul_comm]
  refine congrArg (· * _) (congrArg (· * _) ?_)
  refine Finset.sum_congr rfl fun n _ => ?_
  rw [vB_at, vC_at, mul_comm]

theorem rST_at (b : Fin 2) (c : Fin 16) (g : Fin 2) (i : Fin 8) (p : Fin 64) (n : Fin 128) :
    vST (vB a0) (rA a1 a2 a3) (rX a0 a1 a2) (ix6 c b g i p n) = Cert.Ssd.ST (f3 a0) (f3 a1) (f1 a2) (f1 a3) b c g i p n := by
  unfold Cert.Ssd.ST
  rw [vST_at]
  refine Finset.sum_congr rfl fun s _ => ?_
  rw [rX_at, rA_at, rA_at, vB_at, mul_comm (Ideal.exp _)]

theorem rCD_at (b : Fin 2) (c : Fin 16) (g : Fin 2) (i : Fin 8) :
    vCD (rA a1 a2 a3) (ix4 c b g i) = Ideal.exp (ACUM (f3 a1) (f1 a2) (f1 a3) b c 127 g i) := by
  rw [vCD_at, rA_at]
end

/-! ## The loop over the chunks -/

/-- One trip's state. -/
def tH (st : FVec Ideal S16x2x2x8x64x128 .f32) (dec : FVec Ideal S16x2x2x8 .f32) (ctr : IVec S_ 32) (h : FVec Ideal S2x2x8x64x128 .f32) :
    FVec Ideal S2x2x8x64x128 .f32 :=
  addf (mulf h (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2
    (shapeCast S2x2x8 (Host.dynamicSlice S1x2x2x8 dec (fun k => (((![ctr, constantI S_ 32 0#32, constantI S_ 32 0#32, constantI S_ 32 0#32] : Fin 4 → IVec S_ 32)) k (Shape.Idx.first h_S_)).toInt)
      sliceFits_S16x2x2x8_S1x2x2x8) shapeCasts_S1x2x2x8_S2x2x8))))
    (shapeCast S2x2x8x64x128 (Host.dynamicSlice S1x2x2x8x64x128 st (fun k => (((![ctr, constantI S_ 32 0#32, constantI S_ 32 0#32, constantI S_ 32 0#32, constantI S_ 32 0#32, constantI S_ 32 0#32] : Fin 6 → IVec S_ 32)) k (Shape.Idx.first h_S_)).toInt)
      sliceFits_S16x2x2x8x64x128_S1x2x2x8x64x128) shapeCasts_S1x2x2x8x64x128_S2x2x8x64x128)

/-- One trip's stack of states. -/
def tS (ctr : IVec S_ 32) (h : FVec Ideal S2x2x8x64x128 .f32) (stk : FVec Ideal S16x2x2x8x64x128 .f32) : FVec Ideal S16x2x2x8x64x128 .f32 :=
  Host.dynamicUpdateSlice stk (broadcastInDim S1x2x2x8x64x128 ![1, 2, 3, 4, 5] bcast_S2x2x8x64x128_S1x2x2x8x64x128_1_2_3_4_5 h)
    (fun k => (((![ctr, constantI S_ 32 0#32, constantI S_ 32 0#32, constantI S_ 32 0#32, constantI S_ 32 0#32, constantI S_ 32 0#32] : Fin 6 → IVec S_ 32)) k (Shape.Idx.first h_S_)).toInt)
    updateFits_S16x2x2x8x64x128_S1x2x2x8x64x128

theorem iv_toInt : ∀ k : Fin 16, (Scf.iv 0#32 1#32 k.val).toInt = k.val := by decide +kernel

/-- The slice's start, clamped, is the trip along the first axis and zero along the others. -/
theorem c4 : ∀ (k : Fin 16) (a : Fin 4), Host.clampedStart S16x2x2x8 S1x2x2x8 (by decide) (fun j => ((![fun _ => Scf.iv 0#32 1#32 k.val, constantI S_ 32 0#32, constantI S_ 32 0#32, constantI S_ 32 0#32] : Fin 4 → IVec S_ 32) j (Shape.Idx.first h_S_)).toInt) a
    = if a = 0 then k.val else 0 := by
  decide +kernel

/-- The slice's start, clamped, is the trip along the first axis and zero along the others. -/
theorem c6 : ∀ (k : Fin 16) (a : Fin 6), Host.clampedStart S16x2x2x8x64x128 S1x2x2x8x64x128 (by decide) (fun j => ((![fun _ => Scf.iv 0#32 1#32 k.val, constantI S_ 32 0#32, constantI S_ 32 0#32, constantI S_ 32 0#32, constantI S_ 32 0#32, constantI S_ 32 0#32] : Fin 6 → IVec S_ 32) j (Shape.Idx.first h_S_)).toInt) a
    = if a = 0 then k.val else 0 := by
  decide +kernel

theorem tH_at (st : FVec Ideal S16x2x2x8x64x128 .f32) (dec : FVec Ideal S16x2x2x8 .f32) (k : Fin 16) (h : FVec Ideal S2x2x8x64x128 .f32)
    (b : Fin 2) (g : Fin 2) (i : Fin 8) (p : Fin 64) (n : Fin 128) :
    tH st dec (fun _ => Scf.iv 0#32 1#32 k.val) h (ix5 b g i p n) = h (ix5 b g i p n) * dec (ix4 k b g i) + st (ix6 k b g i p n) := by
  pointwise [tH]
  simp only [c4, c6]
  simp

theorem tS_at (k : Fin 16) (h : FVec Ideal S2x2x8x64x128 .f32) (stk : FVec Ideal S16x2x2x8x64x128 .f32)
    (j : Fin 16) (b : Fin 2) (g : Fin 2) (i : Fin 8) (p : Fin 64) (n : Fin 128) :
    tS (fun _ => Scf.iv 0#32 1#32 k.val) h stk (ix6 j b g i p n) = if j = k then h (ix5 b g i p n) else stk (ix6 j b g i p n) := by
  pointwise [tS]
  simp only [c6]
  by_cases e : j = k
  · subst e; simp
  · rw [if_neg e, dif_neg]
    rintro ⟨⟨h1, h2⟩, -⟩
    simp only [if_true] at h1 h2
    exact e (Fin.ext (by omega))

/-! ## The run -/

section
variable (m : (ℓ : Loc nD τ sig) → Buf (Elt Ideal) ℓ) (ρ : Dev nD → PrngReg) (c : Dev nD)

/-- The argument arrays on a device. -/
abbrev A0 : FVec Ideal S2x2048x1536 .f32 := m ((c.tc : Thread nD τ).loc main_arg0)
abbrev A1 : FVec Ideal S2x2048x16 .f32 := m ((c.tc : Thread nD τ).loc main_arg1)
abbrev A2 : FVec Ideal S16 .f32 := m ((c.tc : Thread nD τ).loc main_arg2)
abbrev A3 : FVec Ideal S16 .f32 := m ((c.tc : Thread nD τ).loc main_arg3)
abbrev A4 : FVec Ideal S16 .f32 := m ((c.tc : Thread nD τ).loc main_arg4)

set_option maxHeartbeats 4000000 in
theorem entry_v9 : entryContents preI m c (Proc.devRef .tc main_v9) = vXS (A0 m c) := by
  simp only [entryContents, afterL_cons, afterL_nil]
  after_reads_simp
  rfl
set_option maxHeartbeats 4000000 in
theorem entry_v17 : entryContents preI m c (Proc.devRef .tc main_v17) = vC (A0 m c) := by
  simp only [entryContents, afterL_cons, afterL_nil]
  after_reads_simp
  rfl
set_option maxHeartbeats 4000000 in
theorem entry_v22 : entryContents preI m c (Proc.devRef .tc main_v22) = rA (A1 m c) (A2 m c) (A3 m c) := by
  simp only [entryContents, afterL_cons, afterL_nil]
  after_reads_simp
  rfl
set_option maxHeartbeats 4000000 in
theorem entry_v43 : entryContents preI m c (Proc.devRef .tc main_v43)
    = vYD (vB (A0 m c)) (vC (A0 m c)) (vDEC (rA (A1 m c) (A2 m c) (A3 m c))) (rX (A0 m c) (A1 m c) (A2 m c)) := by
  simp only [entryContents, afterL_cons, afterL_nil]
  after_reads_simp
  rfl
set_option maxHeartbeats 4000000 in
theorem entry_st : entryContents preI m c (Proc.devRef .tc main_v59_0)
    = vST (vB (A0 m c)) (rA (A1 m c) (A2 m c) (A3 m c)) (rX (A0 m c) (A1 m c) (A2 m c)) := by
  simp only [entryContents, afterL_cons, afterL_nil]
  after_reads_simp
  rfl
set_option maxHeartbeats 4000000 in
theorem entry_cd : entryContents preI m c (Proc.devRef .tc main_v59_1) = vCD (rA (A1 m c) (A2 m c) (A3 m c)) := by
  simp only [entryContents, afterL_cons, afterL_nil]
  after_reads_simp
  rfl
theorem entry_h : entryContents preI m c (Proc.devRef .tc main_v59_3)
    = broadcastInDim S2x2x8x64x128 ![] bcast_S_S2x2x8x64x128 (constant (F := Ideal) S_ .f32 0x00000000#32) := by
  simp only [entryContents, afterL_cons, afterL_nil]
  after_reads_simp
  rfl

/-- The references that one trip round the loop writes. -/
abbrev tripW : List (Ref sig .tc) := condOps_W ++ (while0Ops0_W ++ (while0Ops0_1_W ++ (while0Ops0_2_W ++ (while0Ops0_3_W ++ while0Ops0_4_W))))

/-- The loop keeps every other buffer. -/
theorem loop_keep (r : Ref sig .tc) (hr : r ∉ tripW) : ∀ k, atK m k c (Proc.devRef .tc r) = entryContents preI m c (Proc.devRef .tc r)
  | 0 => rfl
  | k + 1 => by
    have hr' := hr
    simp only [tripW, List.mem_append, not_or] at hr
    obtain ⟨h0, h1, h2, h3, h4, h5⟩ := hr
    rw [show atK m (k + 1) c = afterL bodyI (after condOps (atK m k c)) from rfl]
    simp only [afterL_cons, afterL_nil]
    rw [after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1, after_of_writes_sub condOps _ condOps_writes h0]
    exact loop_keep r hr' k

/-- The carried arrays one trip on. -/
theorem atK_st (k : ℕ) : atK m (k + 1) c (Proc.devRef .tc main_v59_0) = atK m k c (Proc.devRef .tc main_v59_0) := by
  rw [show atK m (k + 1) c = afterL bodyI (after condOps (atK m k c)) from rfl, trip_main_v59_0]
  exact cond_keeps _ main_v59_0 (by decide)
theorem atK_cd (k : ℕ) : atK m (k + 1) c (Proc.devRef .tc main_v59_1) = atK m k c (Proc.devRef .tc main_v59_1) := by
  rw [show atK m (k + 1) c = afterL bodyI (after condOps (atK m k c)) from rfl, trip_main_v59_1]
  exact cond_keeps _ main_v59_1 (by decide)
theorem atK_h (k : ℕ) : atK m (k + 1) c (Proc.devRef .tc main_v59_3)
    = tH (atK m k c (Proc.devRef .tc main_v59_0)) (atK m k c (Proc.devRef .tc main_v59_1)) (fun _ => Scf.iv 0#32 1#32 k) (atK m k c (Proc.devRef .tc main_v59_3)) := by
  rw [show atK m (k + 1) c = afterL bodyI (after condOps (atK m k c)) from rfl, trip_main_v59_3, cond_keeps _ main_v59_0 (by decide),
    cond_keeps _ main_v59_1 (by decide), cond_keeps _ main_v59_2 (by decide), cond_keeps _ main_v59_3 (by decide), atK_ctr]
  rfl
theorem atK_s (k : ℕ) : atK m (k + 1) c (Proc.devRef .tc main_v59_4)
    = tS (fun _ => Scf.iv 0#32 1#32 k) (atK m k c (Proc.devRef .tc main_v59_3)) (atK m k c (Proc.devRef .tc main_v59_4)) := by
  rw [show atK m (k + 1) c = afterL bodyI (after condOps (atK m k c)) from rfl, trip_main_v59_4, cond_keeps _ main_v59_4 (by decide),
    cond_keeps _ main_v59_2 (by decide), cond_keeps _ main_v59_3 (by decide), atK_ctr]
  rfl

theorem st_const : ∀ k, atK m k c (Proc.devRef .tc main_v59_0) = vST (vB (A0 m c)) (rA (A1 m c) (A2 m c) (A3 m c)) (rX (A0 m c) (A1 m c) (A2 m c))
  | 0 => entry_st m c
  | k + 1 => (atK_st m c k).trans (st_const k)
theorem cd_const : ∀ k, atK m k c (Proc.devRef .tc main_v59_1) = vCD (rA (A1 m c) (A2 m c) (A3 m c))
  | 0 => entry_cd m c
  | k + 1 => (atK_cd m c k).trans (cd_const k)

/-- The state before chunk `k`, as the recurrence of the chunks. -/
abbrev HH (b : Fin 2) (g : Fin 2) (i : Fin 8) (p : Fin 64) (n : Fin 128) (k : ℕ) : EReal :=
  H (f3 (A0 m c)) (f3 (A1 m c)) (f1 (A2 m c)) (f1 (A3 m c)) b g i p n k

/-- The carried state is the recurrence. -/
theorem h_at : ∀ k, k ≤ 16 → ∀ (b : Fin 2) (g : Fin 2) (i : Fin 8) (p : Fin 64) (n : Fin 128),
    (atK m k c (Proc.devRef .tc main_v59_3) : FVec Ideal S2x2x8x64x128 .f32) (ix5 b g i p n) = HH m c b g i p n k
  | 0, _, b, g, i, p, n => by
    rw [show atK m 0 c = entryContents preI m c from rfl, entry_h]
    show _ = (0 : EReal)
    pointwise
  | k + 1, hk, b, g, i, p, n => by
    have e : Fin.ofNat 16 k = (⟨k, hk⟩ : Fin 16) := Fin.ext (Nat.mod_eq_of_lt hk)
    rw [atK_h, st_const, cd_const]
    refine (tH_at _ _ ⟨k, hk⟩ _ b g i p n).trans ?_
    rw [h_at k (by omega), rCD_at, rST_at]
    show _ = HH m c b g i p n k * _ + _
    rw [e]

/-- The stack of states holds the recurrence at the chunks passed. -/
theorem s_at : ∀ k, k ≤ 16 → ∀ (j : Fin 16), j.val < k → ∀ (b : Fin 2) (g : Fin 2) (i : Fin 8) (p : Fin 64) (n : Fin 128),
    (atK m k c (Proc.devRef .tc main_v59_4) : FVec Ideal S16x2x2x8x64x128 .f32) (ix6 j b g i p n) = HH m c b g i p n j.val
  | 0, _, j, hj, _, _, _, _, _ => absurd hj (Nat.not_lt_zero _)
  | k + 1, hk, j, hj, b, g, i, p, n => by
    rw [atK_s]
    refine (tS_at ⟨k, hk⟩ _ _ j b g i p n).trans ?_
    by_cases e : j = ⟨k, hk⟩
    · rw [if_pos e, h_at m c k (by omega), e]
    · rw [if_neg e]
      exact s_at k (by omega) j (by have : j.val ≠ k := fun h => e (Fin.ext h); omega) b g i p n

/-- The result's buffer from the loop's end. -/
theorem post_v74 (V : Valuation τ sig (Elt Ideal)) : afterL postI V (Proc.devRef .tc main_v74)
    = vY (V (Proc.devRef .tc main_v43)) (V (Proc.devRef .tc main_v59_4)) (V (Proc.devRef .tc main_v17)) (V (Proc.devRef .tc main_v22))
      (V (Proc.devRef .tc main_v9)) (V (Proc.devRef .tc main_arg4)) := by
  simp only [afterL_cons, afterL_nil]
  after_reads_simp
  rfl

theorem cond_keep (r : Ref sig .tc) (hr : r ∉ tripW) : after condOps (atK m 16 c) (Proc.devRef .tc r) = entryContents preI m c (Proc.devRef .tc r) :=
  (after_of_writes_sub condOps _ condOps_writes (fun h => hr (List.mem_append_left _ h))).trans (loop_keep m c r hr 16)

theorem entry_arg4 : entryContents preI m c (Proc.devRef .tc main_arg4) = A4 m c := by
  simp only [entryContents, afterL_cons, afterL_nil]
  after_reads_simp

/-- The result's buffer from the arguments and the stack. -/
theorem final_v74 : finalContents condOps preI bodyI postI 16 m c (Proc.devRef .tc main_v74)
    = vY (vYD (vB (A0 m c)) (vC (A0 m c)) (vDEC (rA (A1 m c) (A2 m c) (A3 m c))) (rX (A0 m c) (A1 m c) (A2 m c)))
      (atK m 16 c (Proc.devRef .tc main_v59_4)) (vC (A0 m c)) (rA (A1 m c) (A2 m c) (A3 m c)) (vXS (A0 m c)) (A4 m c) := by
  have k43 := (cond_keep m c main_v43 (by decide +kernel)).trans (entry_v43 m c)
  have k17 := (cond_keep m c main_v17 (by decide +kernel)).trans (entry_v17 m c)
  have k22 := (cond_keep m c main_v22 (by decide +kernel)).trans (entry_v22 m c)
  have k9 := (cond_keep m c main_v9 (by decide +kernel)).trans (entry_v9 m c)
  have k4 := (cond_keep m c main_arg4 (by decide +kernel)).trans (entry_arg4 m c)
  have ks := cond_keeps (atK m 16 c) main_v59_4 (by decide)
  have e := post_v74 (after condOps (atK m 16 c))
  rw [k43, k17, k22, k9, k4, ks] at e
  exact e

/-- The result of the reference is the scan. -/
theorem final_at (b : Fin 2) (k : Fin 16) (l : Fin 128) (g : Fin 2) (i : Fin 8) (p : Fin 64) :
    (finalContents condOps preI bodyI postI 16 m c (Proc.devRef .tc main_v74) : FVec Ideal S2x2048x1024 .f32) (ix3 b (row k l) (ycol g i p))
      = Y (f3 (A0 m c)) (f3 (A1 m c)) (f1 (A2 m c)) (f1 (A3 m c)) (f1 (A4 m c)) b k l g i p := by
  rw [final_v74, vY_at, rYD_at, rA_at, vXS_at]
  have key : (∑ n : Fin 128, HMul.hMul (α := EReal) (β := EReal) ((atK m 16 c (Proc.devRef .tc main_v59_4) : FVec Ideal S16x2x2x8x64x128 .f32) (ix6 k b g i p n)) (vC (A0 m c) (ix5 b k l g n)))
      = ∑ n : Fin 128, f3 (A0 m c) b (row k l) (ccol g n) * HH m c b g i p n k.val :=
    Finset.sum_congr rfl fun n _ => by rw [s_at m c 16 le_rfl k k.isLt, vC_at, mul_comm]
  rw [key]
  rfl

theorem final_arg0 : finalContents condOps preI bodyI postI 16 m c (Proc.devRef .tc main_arg0) = m ((c.tc : Thread nD τ).loc main_arg0) := by
  have e : ∀ V : Valuation τ sig (Elt Ideal), afterL postI V (Proc.devRef .tc main_arg0) = V (Proc.devRef .tc main_arg0) := fun V => by
    simp only [afterL_cons, afterL_nil]
    after_reads_simp
  have e' : entryContents preI m c (Proc.devRef .tc main_arg0) = m ((c.tc : Thread nD τ).loc main_arg0) := by
    simp only [entryContents, afterL_cons, afterL_nil]
    after_reads_simp
  exact (e _).trans ((cond_keep m c main_arg0 (by decide +kernel)).trans e')

theorem final_arg1 : finalContents condOps preI bodyI postI 16 m c (Proc.devRef .tc main_arg1) = m ((c.tc : Thread nD τ).loc main_arg1) := by
  have e : ∀ V : Valuation τ sig (Elt Ideal), afterL postI V (Proc.devRef .tc main_arg1) = V (Proc.devRef .tc main_arg1) := fun V => by
    simp only [afterL_cons, afterL_nil]
    after_reads_simp
  have e' : entryContents preI m c (Proc.devRef .tc main_arg1) = m ((c.tc : Thread nD τ).loc main_arg1) := by
    simp only [entryContents, afterL_cons, afterL_nil]
    after_reads_simp
  exact (e _).trans ((cond_keep m c main_arg1 (by decide +kernel)).trans e')

theorem final_arg2 : finalContents condOps preI bodyI postI 16 m c (Proc.devRef .tc main_arg2) = m ((c.tc : Thread nD τ).loc main_arg2) := by
  have e : ∀ V : Valuation τ sig (Elt Ideal), afterL postI V (Proc.devRef .tc main_arg2) = V (Proc.devRef .tc main_arg2) := fun V => by
    simp only [afterL_cons, afterL_nil]
    after_reads_simp
  have e' : entryContents preI m c (Proc.devRef .tc main_arg2) = m ((c.tc : Thread nD τ).loc main_arg2) := by
    simp only [entryContents, afterL_cons, afterL_nil]
    after_reads_simp
  exact (e _).trans ((cond_keep m c main_arg2 (by decide +kernel)).trans e')

theorem final_arg3 : finalContents condOps preI bodyI postI 16 m c (Proc.devRef .tc main_arg3) = m ((c.tc : Thread nD τ).loc main_arg3) := by
  have e : ∀ V : Valuation τ sig (Elt Ideal), afterL postI V (Proc.devRef .tc main_arg3) = V (Proc.devRef .tc main_arg3) := fun V => by
    simp only [afterL_cons, afterL_nil]
    after_reads_simp
  have e' : entryContents preI m c (Proc.devRef .tc main_arg3) = m ((c.tc : Thread nD τ).loc main_arg3) := by
    simp only [entryContents, afterL_cons, afterL_nil]
    after_reads_simp
  exact (e _).trans ((cond_keep m c main_arg3 (by decide +kernel)).trans e')

theorem final_arg4 : finalContents condOps preI bodyI postI 16 m c (Proc.devRef .tc main_arg4) = m ((c.tc : Thread nD τ).loc main_arg4) := by
  have e : ∀ V : Valuation τ sig (Elt Ideal), afterL postI V (Proc.devRef .tc main_arg4) = V (Proc.devRef .tc main_arg4) := fun V => by
    simp only [afterL_cons, afterL_nil]
    after_reads_simp
  have e' : entryContents preI m c (Proc.devRef .tc main_arg4) = m ((c.tc : Thread nD τ).loc main_arg4) := by
    simp only [entryContents, afterL_cons, afterL_nil]
    after_reads_simp
  exact (e _).trans ((cond_keep m c main_arg4 (by decide +kernel)).trans e')
end

/-- The reference runs, keeps its arguments and ends with no semaphore raised. -/
theorem frame : Cert.quiescent_SsdFwdReferenceIdeal := by
  intro m ρ _
  refine (θ_run _ _ _).mono (fun r h => ?_) (run_fold m ρ)
  refine ⟨fun c => ⟨?_, ?_, ?_, ?_, ?_⟩, sem_eq_zero_of_no_sems rfl _⟩
  · exact (h c main_arg0 (by decide)).trans (final_arg0 m c)
  · exact (h c main_arg1 (by decide)).trans (final_arg1 m c)
  · exact (h c main_arg2 (by decide)).trans (final_arg2 m c)
  · exact (h c main_arg3 (by decide)).trans (final_arg3 m c)
  · exact (h c main_arg4 (by decide)).trans (final_arg4 m c)

end Cert.SsdRef

end
-- ==== Proof.SsdBlk.lean ====
/- The state-space scan, forward: what a grid point is given of the argument arrays, the padded head lanes among them. -/
module

public import proofs.«01_k».proof.Defs
public import proofs.«01_k».proof.Proof.Gen.Pre_ssd_fwd_below
public import proofs.«01_k».proof.Proof.Gen.SsdFwd.Frame
public import proofs.«01_k».proof.Proof.SsdPay
public import proofs.«01_k».proof.Proof.SsdRef
public import Idealize.ShloMosaic.Lib.StableHlo.RunLoop
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SsdFwdValue

open Cert.Reals Cert.Ssd Cert.SsdPay
open Cert.SsdRef (f3 f1)

section
open Cert.SsdFwdIdeal Cert.SsdFwdIdeal.Gen

variable (m : (ℓ : Loc nD τ sig) → Buf (Elt Ideal) ℓ)

/-- The argument arrays. -/
abbrev K0 (c : Dev nD) : FVec Ideal S2x2048x1536 .f32 := m ((c.tc : Thread nD τ).loc main_arg0)
abbrev K1 (c : Dev nD) : FVec Ideal S2x2048x16 .f32 := m ((c.tc : Thread nD τ).loc main_arg1)
abbrev K2 (c : Dev nD) : FVec Ideal S16 .f32 := m ((c.tc : Thread nD τ).loc main_arg2)
abbrev K3 (c : Dev nD) : FVec Ideal S16 .f32 := m ((c.tc : Thread nD τ).loc main_arg3)
abbrev K4 (c : Dev nD) : FVec Ideal S16 .f32 := m ((c.tc : Thread nD τ).loc main_arg4)

/-- The batch, the group and the chunk of a grid point. -/
def tb (t : Fin cfg0.N) : Fin 2 := ⟨t.val / 32, by have h : t.val < 64 := t.isLt; omega⟩
def tg (t : Fin cfg0.N) : Fin 2 := ⟨t.val / 16 % 2, by omega⟩
def tk (t : Fin cfg0.N) : Fin 16 := ⟨t.val % 16, by omega⟩

/-- Every window's block index at every grid point. -/
theorem idx : ∀ t : Fin cfg0.N, win0_0.index t = ![t.val / 32, t.val % 16, t.val / 16 % 2]
    ∧ win0_1.index t = ![t.val / 32, t.val % 16, 8 + t.val / 16 % 2] ∧ win0_2.index t = ![t.val / 32, t.val % 16, 10 + t.val / 16 % 2]
    ∧ win0_3.index t = ![t.val / 32, t.val % 16, t.val / 16 % 2] ∧ win0_4.index t = ![0, t.val / 16 % 2]
    ∧ win0_5.index t = ![0, t.val / 16 % 2] ∧ win0_6.index t = ![0, t.val / 16 % 2]
    ∧ win0_7.index t = ![t.val / 32, t.val % 16, t.val / 16 % 2] :=
  (by decide +kernel : ∀ t : Fin grid0.N, _)

theorem blk_x (c : Dev nD) (t : Fin cfg0.N) (l : Fin 128) (i : Fin 8) (p : Fin 64) :
    (iblk m c 0 t : FVec Ideal S1x128x512 .f32) (ix3 0 l ⟨64 * i.val + p.val, by omega⟩) = f3 (K0 m c) (tb t) (row (tk t) l) (xcol (tg t) i p) := by
  blk_point [iblk, V, idx t, row, xcol, tb, tk, tg]

theorem blk_B (c : Dev nD) (t : Fin cfg0.N) (l n : Fin 128) :
    (iblk m c 1 t : FVec Ideal S1x128x128 .f32) (ix3 0 l n) = f3 (K0 m c) (tb t) (row (tk t) l) (bcol (tg t) n) := by
  blk_point [iblk, V, idx t, row, bcol, tb, tk, tg]

theorem blk_C (c : Dev nD) (t : Fin cfg0.N) (l n : Fin 128) :
    (iblk m c 2 t : FVec Ideal S1x128x128 .f32) (ix3 0 l n) = f3 (K0 m c) (tb t) (row (tk t) l) (ccol (tg t) n) := by
  blk_point [iblk, V, idx t, row, ccol, tb, tk, tg]

/-- The sixteen head lanes of the steps, eight to each of the two tiles of 128 lanes. -/
def padm (x : FVec Ideal S2x2048x16 .f32) : FVec Ideal S2x2048x256 .f32 :=
  shapeCast S2x2048x256 (pad S2x2048x2x128 ![0, 0, 0, 0] ![0, 0, 0, 120] ![0, 0, 0, 0]
    (shapeCast S2x2048x2x8 x shapeCasts_S2x2048x16_S2x2048x2x8) (sitofp (F := Ideal) .f32 (constantI S_ 32 0#32))
    pads_S2x2048x2x8_S2x2048x2x128_000_000_000_01200 h_S_) shapeCasts_S2x2048x2x128_S2x2048x256

/-- The sixteen heads of a parameter, eight to each of the two tiles of 128 lanes. -/
def padv (x : FVec Ideal S16 .f32) : FVec Ideal S1x256 .f32 :=
  shapeCast S1x256 (shapeCast S256 (pad S2x128 ![0, 0] ![0, 120] ![0, 0]
    (shapeCast S2x8 x shapeCasts_S16_S2x8) (sitofp (F := Ideal) .f32 (constantI S_ 32 0#32))
    pads_S2x8_S2x128_000_01200 h_S_) shapeCasts_S2x128_S256) shapeCasts_S256_S1x256

theorem V_dt (c : Dev nD) : (V m c main_v2 : FVec Ideal S2x2048x256 .f32) = padm (K1 m c) := by
  unfold padm
  simp only [V, ← StableHlo.afterL_eq_after_flatten, StableHlo.afterL_cons, StableHlo.afterL_nil]
  after_reads_simp
  try rfl

theorem V_bi (c : Dev nD) : (V m c main_v6 : FVec Ideal S1x256 .f32) = padv (K2 m c) := by
  unfold padv
  simp only [V, ← StableHlo.afterL_eq_after_flatten, StableHlo.afterL_cons, StableHlo.afterL_nil]
  after_reads_simp
  try rfl

theorem V_al (c : Dev nD) : (V m c main_v10 : FVec Ideal S1x256 .f32) = padv (K3 m c) := by
  unfold padv
  simp only [V, ← StableHlo.afterL_eq_after_flatten, StableHlo.afterL_cons, StableHlo.afterL_nil]
  after_reads_simp
  try rfl

theorem V_d (c : Dev nD) : (V m c main_v14 : FVec Ideal S1x256 .f32) = padv (K4 m c) := by
  unfold padv
  simp only [V, ← StableHlo.afterL_eq_after_flatten, StableHlo.afterL_cons, StableHlo.afterL_nil]
  after_reads_simp
  try rfl

theorem padm_at (x : FVec Ideal S2x2048x16 .f32) (b : Fin 2) (r : Fin 2048) (g : Fin 2) (i : Fin 8) :
    padm x (ix3 b r ⟨128 * g.val + i.val, by omega⟩) = x (ix3 b r (hd g i)) := by
  have hi : (128 * g.val + i.val) % 128 = i.val := by omega
  pointwise [padm, hd]
  rw [dif_pos (by omega)]
  congr 2
  exact Fin.ext (by show g.val * 8 + (128 * g.val + i.val) % 128 = _; rw [hi])

theorem padv_at (x : FVec Ideal S16 .f32) (g : Fin 2) (i : Fin 8) :
    padv x (ix2 0 ⟨128 * g.val + i.val, by omega⟩) = x (ix1 (hd g i)) := by
  have hi : (128 * g.val + i.val) % 128 = i.val := by omega
  pointwise [padv, hd]
  rw [dif_pos (by omega)]
  congr 2
  exact Fin.ext (by show g.val * 8 + (128 * g.val + i.val) % 128 = _; rw [hi])

theorem read3 (G : FVec Ideal S2x2048x256 .f32) (t : Fin cfg0.N) (l : Fin 128) (i : Fin 8) :
    (View.read (Elt Ideal) ((View.whole main_v2).slice ((win0 3).rect t)) G : FVec Ideal S1x128x128 .f32) (ix3 0 l (ln i))
      = G (ix3 (tb t) (row (tk t) l) ⟨128 * (tg t).val + i.val, by omega⟩) := by
  blk_point [idx t, row, tb, tk, tg, ln]
theorem read4 (G : FVec Ideal S1x256 .f32) (t : Fin cfg0.N) (i : Fin 8) :
    (View.read (Elt Ideal) ((View.whole main_v6).slice ((win0 4).rect t)) G : FVec Ideal S1x128 .f32) (ix2 0 (ln i))
      = G (ix2 0 ⟨128 * (tg t).val + i.val, by omega⟩) := by
  blk_point [idx t, tg, ln]
theorem read5 (G : FVec Ideal S1x256 .f32) (t : Fin cfg0.N) (i : Fin 8) :
    (View.read (Elt Ideal) ((View.whole main_v10).slice ((win0 5).rect t)) G : FVec Ideal S1x128 .f32) (ix2 0 (ln i))
      = G (ix2 0 ⟨128 * (tg t).val + i.val, by omega⟩) := by
  blk_point [idx t, tg, ln]
theorem read6 (G : FVec Ideal S1x256 .f32) (t : Fin cfg0.N) (i : Fin 8) :
    (View.read (Elt Ideal) ((View.whole main_v14).slice ((win0 6).rect t)) G : FVec Ideal S1x128 .f32) (ix2 0 (ln i))
      = G (ix2 0 ⟨128 * (tg t).val + i.val, by omega⟩) := by
  blk_point [idx t, tg, ln]

theorem blk_dt (c : Dev nD) (t : Fin cfg0.N) (l : Fin 128) (i : Fin 8) :
    (iblk m c 3 t : FVec Ideal S1x128x128 .f32) (ix3 0 l (ln i)) = f3 (K1 m c) (tb t) (row (tk t) l) (hd (tg t) i) := by
  have e := (read3 (V m c main_v2) t l i).trans (congrFun (V_dt m c) _)
  rw [padm_at] at e
  exact e

theorem blk_bi (c : Dev nD) (t : Fin cfg0.N) (i : Fin 8) :
    (iblk m c 4 t : FVec Ideal S1x128 .f32) (ix2 0 (ln i)) = f1 (K2 m c) (hd (tg t) i) := by
  have e := (read4 (V m c main_v6) t i).trans (congrFun (V_bi m c) _)
  rw [padv_at] at e
  exact e

theorem blk_al (c : Dev nD) (t : Fin cfg0.N) (i : Fin 8) :
    (iblk m c 5 t : FVec Ideal S1x128 .f32) (ix2 0 (ln i)) = f1 (K3 m c) (hd (tg t) i) := by
  have e := (read5 (V m c main_v10) t i).trans (congrFun (V_al m c) _)
  rw [padv_at] at e
  exact e

theorem blk_d (c : Dev nD) (t : Fin cfg0.N) (i : Fin 8) :
    (iblk m c 6 t : FVec Ideal S1x128 .f32) (ix2 0 (ln i)) = f1 (K4 m c) (hd (tg t) i) := by
  have e := (read6 (V m c main_v14) t i).trans (congrFun (V_d m c) _)
  rw [padv_at] at e
  exact e

end

end Cert.SsdFwdValue

end
-- ==== Proof.SsdTiles.lean ====
/- The state-space scan, forward: the tile each head stores is the one tile function at that head. -/
module

public import proofs.«01_k».proof.Proof.Gen.SsdFwdIdeal.Value
public import proofs.«01_k».proof.Proof.SsdSpec
public import proofs.«01_k».proof.Defs
public import Idealize.ShloMosaic.Lib.Pointwise
public import proofs.«01_k».proof.Proof.SsdPay

@[expose] public section

set_option maxRecDepth 16384

noncomputable section

open Idealize.ShloMosaic Idealize.ShloMosaic.TcCoe Idealize.SL.Sem
open scoped BigOperators

namespace Cert.SsdTiles

open Cert.SsdFwdIdeal Cert.SsdFwdIdeal.Gen Cert.SsdPay

variable (vx : FVec Ideal S1x128x512 .f32) (vB vC vdt : FVec Ideal S1x128x128 .f32) (vbi val : FVec Ideal S1x128 .f32)
  (hp : FVec Ideal S64x128 .f32) (vd : FVec Ideal S1x1 .f32)

theorem y7 : k0_pay3 (F := Ideal) (k0_pay90 (F := Ideal) (k0_pay84 (F := Ideal)) (k0_pay88 (F := Ideal) (AC vdt vbi val)) (k0_pay89 (F :=
    Ideal) (AC vdt vbi val))) (k0_pay92 (F := Ideal) (k0_pay15 (F := Ideal) vx)) (k0_pay103 (F := Ideal) (k0_pay91 (F := Ideal) (AT vdt vbi
    val) (CBk vB vC) (k0_pay84 (F := Ideal)) (k0_pay88 (F := Ideal) (AC vdt vbi val)) (k0_pay89 (F := Ideal) (AC vdt vbi val))) (k0_pay93 (F
    := Ideal) (k0_pay8 (F := Ideal) vdt vbi) (k0_pay15 (F := Ideal) vx) (k0_pay84 (F := Ideal)))) (k0_pay111 (F := Ideal) (k0_pay7 (F :=
    Ideal) vC) hp) vd
    = YT vB vC vdt vbi val 7#32 (extractStridedSlice S1x128 ![7, 0] (AT vdt vbi val) slices_S128x128_o7_0_S1x128)
      (extractStridedSlice S128x64 ![0, 448] (k0_pay15 (F := Ideal) vx) slices_S128x512_o0_448_S128x64) hp vd := by
  sl_kernel_rfl

theorem s7 : k0_pay4 (F := Ideal) (k0_pay94 (F := Ideal) (k0_pay84 (F := Ideal)) (k0_pay88 (F := Ideal) (AC vdt vbi val)) (k0_pay89 (F :=
    Ideal) (AC vdt vbi val))) hp (k0_pay119 (F := Ideal) (k0_pay6 (F := Ideal) vB) (k0_pay93 (F := Ideal) (k0_pay8 (F := Ideal) vdt vbi)
    (k0_pay15 (F := Ideal) vx) (k0_pay84 (F := Ideal))) (k0_pay95 (F := Ideal) (k0_pay84 (F := Ideal)) (k0_pay88 (F := Ideal) (AC vdt vbi
    val)) (k0_pay89 (F := Ideal) (AC vdt vbi val))))
    = TT vB vdt vbi val 7#32 (extractStridedSlice S128x64 ![0, 448] (k0_pay15 (F := Ideal) vx) slices_S128x512_o0_448_S128x64) hp := by
  sl_kernel_rfl

theorem y6 : k0_pay1 (F := Ideal) (k0_pay136 (F := Ideal) (k0_pay78 (F := Ideal) (k0_pay72 (F := Ideal)) (k0_pay75 (F := Ideal) (AC vdt vbi
    val)) (k0_pay76 (F := Ideal) (AC vdt vbi val)) (k0_pay77 (F := Ideal) (AC vdt vbi val)) (constant S128x128 .f32 0#32)) (k0_pay80 (F :=
    Ideal) (k0_pay15 (F := Ideal) vx)) (k0_pay102 (F := Ideal) (k0_pay79 (F := Ideal) (AT vdt vbi val) (CBk vB vC) (k0_pay72 (F := Ideal))
    (k0_pay75 (F := Ideal) (AC vdt vbi val)) (k0_pay76 (F := Ideal) (AC vdt vbi val)) (k0_pay77 (F := Ideal) (AC vdt vbi val)) (constant
    S128x128 .f32 0#32)) (k0_pay81 (F := Ideal) (k0_pay8 (F := Ideal) vdt vbi) (k0_pay15 (F := Ideal) vx) (k0_pay72 (F := Ideal))))
    (k0_pay110 (F := Ideal) (k0_pay7 (F := Ideal) vC) hp) vd)
    = YT vB vC vdt vbi val 6#32 (extractStridedSlice S1x128 ![6, 0] (AT vdt vbi val) slices_S128x128_o6_0_S1x128)
      (extractStridedSlice S128x64 ![0, 384] (k0_pay15 (F := Ideal) vx) slices_S128x512_o0_384_S128x64) hp vd := by
  sl_kernel_rfl

theorem s6 : k0_pay2 (F := Ideal) (k0_pay82 (F := Ideal) (k0_pay72 (F := Ideal)) (k0_pay75 (F := Ideal) (AC vdt vbi val)) (k0_pay76 (F :=
    Ideal) (AC vdt vbi val)) (k0_pay77 (F := Ideal) (AC vdt vbi val)) (constant S128x128 .f32 0#32)) hp (k0_pay118 (F := Ideal) (k0_pay6 (F
    := Ideal) vB) (k0_pay81 (F := Ideal) (k0_pay8 (F := Ideal) vdt vbi) (k0_pay15 (F := Ideal) vx) (k0_pay72 (F := Ideal))) (k0_pay83 (F :=
    Ideal) (k0_pay72 (F := Ideal)) (k0_pay75 (F := Ideal) (AC vdt vbi val)) (k0_pay76 (F := Ideal) (AC vdt vbi val)) (k0_pay77 (F := Ideal)
    (AC vdt vbi val)) (constant S128x128 .f32 0#32)))
    = TT vB vdt vbi val 6#32 (extractStridedSlice S128x64 ![0, 384] (k0_pay15 (F := Ideal) vx) slices_S128x512_o0_384_S128x64) hp := by
  sl_kernel_rfl

theorem y5 : k0_pay134 (F := Ideal) (k0_pay66 (F := Ideal) (k0_pay60 (F := Ideal)) (k0_pay62 (F := Ideal) (AC vdt vbi val)) (k0_pay63 (F :=
    Ideal) (AC vdt vbi val)) (k0_pay64 (F := Ideal) (AC vdt vbi val)) (k0_pay65 (F := Ideal) (AC vdt vbi val))) (k0_pay68 (F := Ideal)
    (k0_pay15 (F := Ideal) vx)) (k0_pay101 (F := Ideal) (k0_pay67 (F := Ideal) (AT vdt vbi val) (CBk vB vC) (k0_pay60 (F := Ideal))
    (k0_pay62 (F := Ideal) (AC vdt vbi val)) (k0_pay63 (F := Ideal) (AC vdt vbi val)) (k0_pay64 (F := Ideal) (AC vdt vbi val)) (k0_pay65 (F
    := Ideal) (AC vdt vbi val))) (k0_pay69 (F := Ideal) (k0_pay8 (F := Ideal) vdt vbi) (k0_pay15 (F := Ideal) vx) (k0_pay60 (F := Ideal))))
    (k0_pay109 (F := Ideal) (k0_pay7 (F := Ideal) vC) hp) vd
    = YT vB vC vdt vbi val 5#32 (extractStridedSlice S1x128 ![5, 0] (AT vdt vbi val) slices_S128x128_o5_0_S1x128)
      (extractStridedSlice S128x64 ![0, 320] (k0_pay15 (F := Ideal) vx) slices_S128x512_o0_320_S128x64) hp vd := by
  sl_kernel_rfl

theorem s5 : k0_pay135 (F := Ideal) (k0_pay70 (F := Ideal) (k0_pay60 (F := Ideal)) (k0_pay62 (F := Ideal) (AC vdt vbi val)) (k0_pay63 (F :=
    Ideal) (AC vdt vbi val)) (k0_pay64 (F := Ideal) (AC vdt vbi val)) (k0_pay65 (F := Ideal) (AC vdt vbi val))) hp (k0_pay117 (F := Ideal)
    (k0_pay6 (F := Ideal) vB) (k0_pay69 (F := Ideal) (k0_pay8 (F := Ideal) vdt vbi) (k0_pay15 (F := Ideal) vx) (k0_pay60 (F := Ideal)))
    (k0_pay71 (F := Ideal) (k0_pay60 (F := Ideal)) (k0_pay62 (F := Ideal) (AC vdt vbi val)) (k0_pay63 (F := Ideal) (AC vdt vbi val))
    (k0_pay64 (F := Ideal) (AC vdt vbi val)) (k0_pay65 (F := Ideal) (AC vdt vbi val))))
    = TT vB vdt vbi val 5#32 (extractStridedSlice S128x64 ![0, 320] (k0_pay15 (F := Ideal) vx) slices_S128x512_o0_320_S128x64) hp := by
  sl_kernel_rfl

theorem y4 : k0_pay132 (F := Ideal) (k0_pay131 (F := Ideal) (k0_pay54 (F := Ideal) (k0_pay50 (F := Ideal)) (k0_pay52 (F := Ideal) (AC vdt
    vbi val)) (k0_pay53 (F := Ideal) (AC vdt vbi val))) (k0_pay56 (F := Ideal) (k0_pay15 (F := Ideal) vx)) (k0_pay100 (F := Ideal) (k0_pay55
    (F := Ideal) (AT vdt vbi val) (CBk vB vC) (k0_pay50 (F := Ideal)) (k0_pay52 (F := Ideal) (AC vdt vbi val)) (k0_pay53 (F := Ideal) (AC
    vdt vbi val))) (k0_pay57 (F := Ideal) (k0_pay8 (F := Ideal) vdt vbi) (k0_pay15 (F := Ideal) vx) (k0_pay50 (F := Ideal)))) (k0_pay108 (F
    := Ideal) (k0_pay7 (F := Ideal) vC) hp) vd)
    = YT vB vC vdt vbi val 4#32 (extractStridedSlice S1x128 ![4, 0] (AT vdt vbi val) slices_S128x128_o4_0_S1x128)
      (extractStridedSlice S128x64 ![0, 256] (k0_pay15 (F := Ideal) vx) slices_S128x512_o0_256_S128x64) hp vd := by
  sl_kernel_rfl

theorem s4 : k0_pay133 (F := Ideal) (k0_pay58 (F := Ideal) (k0_pay50 (F := Ideal)) (k0_pay52 (F := Ideal) (AC vdt vbi val)) (k0_pay53 (F :=
    Ideal) (AC vdt vbi val))) hp (k0_pay116 (F := Ideal) (k0_pay6 (F := Ideal) vB) (k0_pay57 (F := Ideal) (k0_pay8 (F := Ideal) vdt vbi)
    (k0_pay15 (F := Ideal) vx) (k0_pay50 (F := Ideal))) (k0_pay59 (F := Ideal) (k0_pay50 (F := Ideal)) (k0_pay52 (F := Ideal) (AC vdt vbi
    val)) (k0_pay53 (F := Ideal) (AC vdt vbi val))))
    = TT vB vdt vbi val 4#32 (extractStridedSlice S128x64 ![0, 256] (k0_pay15 (F := Ideal) vx) slices_S128x512_o0_256_S128x64) hp := by
  sl_kernel_rfl

theorem y3 : k0_pay129 (F := Ideal) (k0_pay44 (F := Ideal) (k0_pay41 (F := Ideal)) (k0_pay42 (F := Ideal) (AC vdt vbi val)) (k0_pay43 (F :=
    Ideal) (AC vdt vbi val))) (k0_pay46 (F := Ideal) (k0_pay15 (F := Ideal) vx)) (k0_pay99 (F := Ideal) (k0_pay45 (F := Ideal) (AT vdt vbi
    val) (CBk vB vC) (k0_pay41 (F := Ideal)) (k0_pay42 (F := Ideal) (AC vdt vbi val)) (k0_pay43 (F := Ideal) (AC vdt vbi val))) (k0_pay47 (F
    := Ideal) (k0_pay8 (F := Ideal) vdt vbi) (k0_pay15 (F := Ideal) vx) (k0_pay41 (F := Ideal)))) (k0_pay107 (F := Ideal) (k0_pay7 (F :=
    Ideal) vC) hp) vd
    = YT vB vC vdt vbi val 3#32 (extractStridedSlice S1x128 ![3, 0] (AT vdt vbi val) slices_S128x128_o3_0_S1x128)
      (extractStridedSlice S128x64 ![0, 192] (k0_pay15 (F := Ideal) vx) slices_S128x512_o0_192_S128x64) hp vd := by
  sl_kernel_rfl

theorem s3 : k0_pay130 (F := Ideal) (k0_pay48 (F := Ideal) (k0_pay41 (F := Ideal)) (k0_pay42 (F := Ideal) (AC vdt vbi val)) (k0_pay43 (F :=
    Ideal) (AC vdt vbi val))) hp (k0_pay115 (F := Ideal) (k0_pay6 (F := Ideal) vB) (k0_pay47 (F := Ideal) (k0_pay8 (F := Ideal) vdt vbi)
    (k0_pay15 (F := Ideal) vx) (k0_pay41 (F := Ideal))) (k0_pay49 (F := Ideal) (k0_pay41 (F := Ideal)) (k0_pay42 (F := Ideal) (AC vdt vbi
    val)) (k0_pay43 (F := Ideal) (AC vdt vbi val))))
    = TT vB vdt vbi val 3#32 (extractStridedSlice S128x64 ![0, 192] (k0_pay15 (F := Ideal) vx) slices_S128x512_o0_192_S128x64) hp := by
  sl_kernel_rfl

theorem y2 : k0_pay127 (F := Ideal) (k0_pay37 (F := Ideal) (k0_pay15 (F := Ideal) vx)) (k0_pay125 (F := Ideal) (k0_pay35 (F := Ideal) (AC
    vdt vbi val) (k0_pay33 (F := Ideal)) (k0_pay34 (F := Ideal) (AC vdt vbi val))) (k0_pay98 (F := Ideal) (k0_pay36 (F := Ideal) (AC vdt vbi
    val) (AT vdt vbi val) (CBk vB vC) (k0_pay33 (F := Ideal)) (k0_pay34 (F := Ideal) (AC vdt vbi val))) (k0_pay38 (F := Ideal) (k0_pay8 (F
    := Ideal) vdt vbi) (k0_pay15 (F := Ideal) vx) (k0_pay33 (F := Ideal)))) (k0_pay106 (F := Ideal) (k0_pay7 (F := Ideal) vC) hp))
    (k0_pay126 (F := Ideal) vd)
    = YT vB vC vdt vbi val 2#32 (extractStridedSlice S1x128 ![2, 0] (AT vdt vbi val) slices_S128x128_o2_0_S1x128)
      (extractStridedSlice S128x64 ![0, 128] (k0_pay15 (F := Ideal) vx) slices_S128x512_o0_128_S128x64) hp vd := by
  sl_kernel_rfl

theorem s2 : k0_pay128 (F := Ideal) (k0_pay39 (F := Ideal) (AC vdt vbi val) (k0_pay33 (F := Ideal)) (k0_pay34 (F := Ideal) (AC vdt vbi
    val))) hp (k0_pay114 (F := Ideal) (k0_pay6 (F := Ideal) vB) (k0_pay38 (F := Ideal) (k0_pay8 (F := Ideal) vdt vbi) (k0_pay15 (F := Ideal)
    vx) (k0_pay33 (F := Ideal))) (k0_pay40 (F := Ideal) (AC vdt vbi val) (k0_pay33 (F := Ideal)) (k0_pay34 (F := Ideal) (AC vdt vbi val))))
    = TT vB vdt vbi val 2#32 (extractStridedSlice S128x64 ![0, 128] (k0_pay15 (F := Ideal) vx) slices_S128x512_o0_128_S128x64) hp := by
  sl_kernel_rfl

theorem y1 : k0_pay123 (F := Ideal) (k0_pay27 (F := Ideal) (AC vdt vbi val) (k0_pay25 (F := Ideal))) (k0_pay29 (F := Ideal) (k0_pay15 (F :=
    Ideal) vx)) (k0_pay97 (F := Ideal) (k0_pay28 (F := Ideal) (AC vdt vbi val) (AT vdt vbi val) (CBk vB vC) (k0_pay25 (F := Ideal)))
    (k0_pay30 (F := Ideal) (k0_pay8 (F := Ideal) vdt vbi) (k0_pay15 (F := Ideal) vx) (k0_pay25 (F := Ideal)))) (k0_pay105 (F := Ideal)
    (k0_pay7 (F := Ideal) vC) hp) vd
    = YT vB vC vdt vbi val 1#32 (extractStridedSlice S1x128 ![1, 0] (AT vdt vbi val) slices_S128x128_o1_0_S1x128)
      (extractStridedSlice S128x64 ![0, 64] (k0_pay15 (F := Ideal) vx) slices_S128x512_o0_64_S128x64) hp vd := by
  sl_kernel_rfl

theorem s1 : k0_pay124 (F := Ideal) (k0_pay31 (F := Ideal) (AC vdt vbi val) (k0_pay25 (F := Ideal))) hp (k0_pay113 (F := Ideal) (k0_pay6 (F
    := Ideal) vB) (k0_pay30 (F := Ideal) (k0_pay8 (F := Ideal) vdt vbi) (k0_pay15 (F := Ideal) vx) (k0_pay25 (F := Ideal))) (k0_pay32 (F :=
    Ideal) (AC vdt vbi val) (k0_pay25 (F := Ideal))))
    = TT vB vdt vbi val 1#32 (extractStridedSlice S128x64 ![0, 64] (k0_pay15 (F := Ideal) vx) slices_S128x512_o0_64_S128x64) hp := by
  sl_kernel_rfl

theorem y0 : k0_pay121 (F := Ideal) (k0_pay21 (F := Ideal) (k0_pay15 (F := Ideal) vx)) (k0_pay120 (F := Ideal) (k0_pay19 (F := Ideal) (AC
    vdt vbi val) k0_pay17) (k0_pay96 (F := Ideal) (k0_pay20 (F := Ideal) (AC vdt vbi val) (AT vdt vbi val) (CBk vB vC) k0_pay17) (k0_pay22
    (F := Ideal) (k0_pay8 (F := Ideal) vdt vbi) (k0_pay15 (F := Ideal) vx) k0_pay17)) (k0_pay104 (F := Ideal) (k0_pay7 (F := Ideal) vC) hp))
    vd
    = YT vB vC vdt vbi val 0#32 (extractStridedSlice S1x128 ![0, 0] (AT vdt vbi val) slices_S128x128_o0_0_S1x128)
      (extractStridedSlice S128x64 ![0, 0] (k0_pay15 (F := Ideal) vx) slices_S128x512_o0_0_S128x64) hp vd := by
  sl_kernel_rfl

theorem s0 : k0_pay122 (F := Ideal) (k0_pay23 (F := Ideal) (AC vdt vbi val) k0_pay17) hp (k0_pay112 (F := Ideal) (k0_pay6 (F := Ideal) vB)
    (k0_pay22 (F := Ideal) (k0_pay8 (F := Ideal) vdt vbi) (k0_pay15 (F := Ideal) vx) k0_pay17) (k0_pay24 (F := Ideal) (AC vdt vbi val)
    k0_pay17))
    = TT vB vdt vbi val 0#32 (extractStridedSlice S128x64 ![0, 0] (k0_pay15 (F := Ideal) vx) slices_S128x512_o0_0_S128x64) hp := by
  sl_kernel_rfl

end Cert.SsdTiles

end
-- ==== Proof.SsdStep.lean ====
/- The state-space scan, forward: the state and the result block after a grid point. -/
module

public import proofs.«01_k».proof.Defs
public import proofs.«01_k».proof.Proof.Gen.Pre_ssd_fwd_below
public import proofs.«01_k».proof.Proof.Gen.SsdFwd.Frame
public import proofs.«01_k».proof.Proof.SsdPay
public import proofs.«01_k».proof.Proof.SsdRef
public import proofs.«01_k».proof.Proof.SsdBlk
public import proofs.«01_k».proof.Proof.SsdTiles
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SsdFwdValue

open Cert.Reals Cert.Ssd Cert.SsdPay
open Cert.SsdRef (f3 f1)

section
open Cert.SsdFwdIdeal Cert.SsdFwdIdeal.Gen

variable (m : (ℓ : Loc nD τ sig) → Buf (Elt Ideal) ℓ)

theorem ld_state (X : FVec Ideal S512x128 .f32) (o : ℕ) (h) (p : Fin 64) (n : Fin 128) (ho : o + p.val < 512) :
    View.ld (S := S512x128) (Val := Elt Ideal) (e' := .f32) X (Rect.unit (s := S512x128) ![o, 0] ![64, 128] h) (ix2 p n)
      = X (ix2 ⟨o + p.val, ho⟩ n) := by
  refine View.ld_unit_apply_of _ _ _ _ _ _ fun a => ?_
  fin_cases a <;> simp [ix2] <;> omega

theorem ld_skip (X : FVec Ideal S1x128 .f32) (o : ℕ) (h) (ho : o < 128) :
    View.ld (S := S1x128) (Val := Elt Ideal) (e' := .f32) X (Rect.unit (s := S1x128) ![0, o] ![1, 1] h) (ix2 0 0)
      = X (ix2 0 ⟨o, ho⟩) := by
  refine View.ld_unit_apply_of _ _ _ _ _ _ fun a => ?_
  fin_cases a <;> simp [ix2] <;> omega

theorem row_at (x : FVec Ideal S128x128 .f32) (i : Fin 128) (o : ℕ) (ho : o = i.val) (h : S128x128.Slices ![o, 0] S1x128) (s : Fin 128) :
    extractStridedSlice S1x128 ![o, 0] x h (ix2 0 s) = x (ix2 i s) := by
  subst ho
  pointwise []

theorem xh_at (x : FVec Ideal S1x128x512 .f32) (o : ℕ) (h : S128x512.Slices ![0, o] S128x64) (l : Fin 128) (p : Fin 64) (ho : o + p.val < 512) :
    extractStridedSlice S128x64 ![0, o] (k0_pay15 (F := Ideal) x) h (ix2 l p) = x (ix3 0 l ⟨o + p.val, ho⟩) := by
  pointwise [k0_pay15]

/-- The head of a column of a block of the result, and of a row of the state. -/
def hI (y : Fin 512) : Fin 8 := ⟨y.val / 64, by omega⟩
def hP (y : Fin 512) : Fin 64 := ⟨y.val % 64, by omega⟩

section
variable (c : Dev nD) (hdt : ∀ b s h, f3 (K1 m c) b s h ≠ ⊤) (hbi : ∀ h, f1 (K2 m c) h ≠ ⊤) (t : Fin cfg0.N)

/-- The state before a grid point, and after it. -/
abbrev HK (t : Fin cfg0.N) (i : Fin 8) (p : Fin 64) (n : Fin 128) (k : ℕ) : EReal :=
  H (f3 (K0 m c)) (f3 (K1 m c)) (f1 (K2 m c)) (f1 (K3 m c)) (tb t) (tg t) i p n k
/-- The result at a grid point. -/
abbrev YK (t : Fin cfg0.N) (l : Fin 128) (i : Fin 8) (p : Fin 64) : EReal :=
  Y (f3 (K0 m c)) (f3 (K1 m c)) (f1 (K2 m c)) (f1 (K3 m c)) (f1 (K4 m c)) (tb t) (tk t) l (tg t) i p

variable (X : FVec Ideal S512x128 .f32) (hX : ∀ (y : Fin 512) (n : Fin 128), X (ix2 y n) = HK m c t (hI y) (hP y) n (tk t).val)
include hdt hbi hX

/-- One head's tile of the result, over the state's rows it loads. -/
theorem yhead (i : Fin 8) (e : BitVec 32) (he : e.toNat = i.val) (o1 : ℕ) (ho1 : o1 = i.val) (o2 : ℕ) (ho2 : o2 = 64 * i.val)
    (h1 : S128x128.Slices ![o1, 0] S1x128) (h2 : S128x512.Slices ![0, o2] S128x64) (h3) (h4) (l : Fin 128) (p : Fin 64) :
    YT (iblk m c 1 t) (iblk m c 2 t) (iblk m c 3 t) (iblk m c 4 t) (iblk m c 5 t) e
      (extractStridedSlice S1x128 ![o1, 0] (AT (iblk m c 3 t) (iblk m c 4 t) (iblk m c 5 t)) h1)
      (extractStridedSlice S128x64 ![0, o2] (k0_pay15 (F := Ideal) (iblk m c 0 t)) h2)
      (View.ld (S := S512x128) (Val := Elt Ideal) (e' := .f32) X (Rect.unit (s := S512x128) ![o2, 0] ![64, 128] h3))
      (View.ld (S := S1x128) (Val := Elt Ideal) (e' := .f32) (iblk m c 6 t) (Rect.unit (s := S1x128) ![0, o1] ![1, 1] h4)) (ix3 0 l p)
      = YK m c t l i p := by
  refine YT_at _ _ _ _ _ hdt hbi _ _ _ _ _ (tb t) (tk t) (tg t) i (blk_B m c t) (blk_C m c t) (fun l => blk_dt m c t l i)
    (blk_bi m c t i) (blk_al m c t i) _ (fun s => row_at _ (ln i) o1 ho1 h1 s) _ (fun l p => ?_) _ (fun p n => ?_) _ ?_ e he l p
  · subst ho2
    rw [xh_at _ _ _ _ _ (by omega), blk_x]
  · subst ho2
    rw [ld_state _ _ _ _ _ (by omega), hX]
    congr 1
    · exact Fin.ext (show (64 * i.val + p.val) / 64 = i.val by omega)
    · exact Fin.ext (show (64 * i.val + p.val) % 64 = p.val by omega)
  · subst ho1
    rw [ld_skip _ _ _ (by omega)]
    exact blk_d m c t i

/-- One head's tile of the state. -/
theorem shead (i : Fin 8) (e : BitVec 32) (he : e.toNat = i.val) (o2 : ℕ) (ho2 : o2 = 64 * i.val)
    (h2 : S128x512.Slices ![0, o2] S128x64) (h3) (p : Fin 64) (n : Fin 128) :
    TT (iblk m c 1 t) (iblk m c 3 t) (iblk m c 4 t) (iblk m c 5 t) e
      (extractStridedSlice S128x64 ![0, o2] (k0_pay15 (F := Ideal) (iblk m c 0 t)) h2)
      (View.ld (S := S512x128) (Val := Elt Ideal) (e' := .f32) X (Rect.unit (s := S512x128) ![o2, 0] ![64, 128] h3)) (ix2 p n)
      = HK m c t i p n ((tk t).val + 1) := by
  refine TT_at _ _ _ _ hdt hbi _ _ _ _ (tb t) (tk t) (tg t) i (blk_B m c t) (fun l => blk_dt m c t l i)
    (blk_bi m c t i) (blk_al m c t i) _ (fun l p => ?_) _ (fun p n => ?_) e he p n
  · subst ho2
    rw [xh_at _ _ _ _ _ (by omega), blk_x]
  · subst ho2
    rw [ld_state _ _ _ _ _ (by omega), hX]
    congr 1
    · exact Fin.ext (show (64 * i.val + p.val) / 64 = i.val by omega)
    · exact Fin.ext (show (64 * i.val + p.val) % 64 = p.val by omega)

end

/-- Stores that cover an index decide it: the earlier ones do not matter. -/
theorem canon_drop (L L' : List (View.Piece (Elt Ideal) S512x128 .f32)) (y : S512x128.Idx) (h : ∃ p ∈ L, y ∈ p.1.set) :
    View.canon (L ++ L') y = View.canon L y := by
  induction L with
  | nil => obtain ⟨p, hp, _⟩ := h; exact absurd hp List.not_mem_nil
  | cons p L ih =>
    rw [List.cons_append, View.canon_cons, View.canon_cons]
    by_cases hm : y ∈ p.1.set
    · obtain ⟨x, rfl⟩ := p.1.exists_idx_of_mem hm
      rw [show p.1.idx x = p.1.emb x from rfl, Rect.overlay_emb, Rect.overlay_emb]
    · rw [Rect.overlay_of_not_mem _ _ _ hm, Rect.overlay_of_not_mem _ _ _ hm]
      refine ih ?_
      obtain ⟨q, hq, hy⟩ := h
      rcases List.mem_cons.1 hq with rfl | hq
      · exact absurd hy hm
      · exact ⟨q, hq, hy⟩

theorem canon_eight (a b c d e f g h z : View.Piece (Elt Ideal) S512x128 .f32) (y : S512x128.Idx)
    (hc : ∃ p ∈ [a, b, c, d, e, f, g, h], y ∈ p.1.set) :
    View.canon [a, b, c, d, e, f, g, h, z] y = View.canon [a, b, c, d, e, f, g, h] y :=
  canon_drop [a, b, c, d, e, f, g, h] [z] y hc

/-- A load from a buffer that one store has filled reads that store's payload. -/
theorem filled {off : Fin S512x128.rank → ℕ} (inb : ∀ a, off a + S512x128.size a ≤ S512x128.size a) (h0 : ∀ a, off a = 0)
    (w : FVec Ideal S512x128 .f32) (r : Rect S512x128) :
    (View.whole cc0_scratch0).readCov [(⟨Rect.unit (s := S512x128) off S512x128.size inb, w⟩ : View.Piece (Elt Ideal) S512x128 .f32)] r.toLoadRect
      = View.ld (S := S512x128) (Val := Elt Ideal) (e' := .f32) w r := by
  have e : View.canon [(⟨Rect.unit (s := S512x128) off S512x128.size inb, w⟩ : View.Piece (Elt Ideal) S512x128 .f32)] = w :=
    View.canon_cons_unit_lit (Val := Elt Ideal) (S := S512x128) (e := .f32) inb w [] h0
  obtain rfl : off = fun _ => 0 := funext h0
  refine (View.readCov_eq_canon_ld _ _ _ (fun y => ⟨_, List.mem_cons_self, by
    show y ∈ (Rect.whole S512x128).set; rw [Rect.set_whole]; exact Finset.mem_univ y⟩)).trans ?_
  exact congrArg (fun w => View.ld (S := S512x128) (Val := Elt Ideal) (e' := .f32) w r) e

/-- What the first point of a run loads from the state it has zeroed. -/
theorem zeroed (r : Rect S512x128) :
    (View.whole cc0_scratch0).readCov [(⟨Rect.unit (s := S512x128) ![0, 0] ![512, 128] inb_S512x128_S512x128_0_0, k0_pay5 (F := Ideal)⟩ : View.Piece (Elt Ideal) S512x128 .f32)] r.toLoadRect
      = View.ld (S := S512x128) (Val := Elt Ideal) (e' := .f32) (k0_pay5 (F := Ideal)) r :=
  filled inb_S512x128_S512x128_0_0 (by decide) _ r

theorem pay5_at (y : Fin 512) (n : Fin 128) : k0_pay5 (F := Ideal) (ix2 y n) = 0 := by
  pointwise [k0_pay5]

theorem headS (i : Fin 8) (l : Fin 512) (x : Fin 64) (h : l.val = 64 * i.val + x.val) : hI l = i ∧ hP l = x :=
  ⟨Fin.ext (by show l.val / 64 = i.val; omega), Fin.ext (by show l.val % 64 = x.val; omega)⟩

section
variable (c : Dev nD) (hdt : ∀ b s h, f3 (K1 m c) b s h ≠ ⊤) (hbi : ∀ h, f1 (K2 m c) h ≠ ⊤) (t : Fin cfg0.N)
include hdt hbi

theorem zero_state (h : t.val % 16 = 0) (y : Fin 512) (n : Fin 128) :
    k0_pay5 (F := Ideal) (ix2 y n) = HK m c t (hI y) (hP y) n (tk t).val := by
  rw [show (tk t).val = 0 from h]
  exact pay5_at y n

/-- The state after a grid point, at the first chunk of a batch and group. -/
theorem stepSA (h : t.val % 16 = 0) (l : Fin 512) (y : Fin 128) :
    ((outsAt0 m c t.val t.isLt).2.2 : FVec Ideal S512x128 .f32) (ix2 l y) = HK m c t (hI l) (hP l) y ((tk t).val + 1) := by
  rw [outsAt0_A m c t h]; frame_out
  rw [canon_eight _ _ _ _ _ _ _ _ _ _ (View.cover_of_tiledBy _ ![64, 128] (by sl_kernel_rfl) _)]
  canon_tiles x hx using View.cover_of_tiledBy _ ![64, 128] (by sl_kernel_rfl) _
  · idx_vars x
    obtain rfl : y = x1 := Fin.ext hx1
    rw [(headS 7 l x0 (by first | exact hx0 | omega)).1, (headS 7 l x0 (by first | exact hx0 | omega)).2, zeroed]
    exact (congrFun (Cert.SsdTiles.s7 _ _ _ _ _ _) _).trans (shead m c hdt hbi t _ (zero_state m c hdt hbi t h) 7 7#32 rfl 448 rfl _ _ x0 y)
  · idx_vars x
    obtain rfl : y = x1 := Fin.ext hx1
    rw [(headS 6 l x0 (by first | exact hx0 | omega)).1, (headS 6 l x0 (by first | exact hx0 | omega)).2, zeroed]
    exact (congrFun (Cert.SsdTiles.s6 _ _ _ _ _ _) _).trans (shead m c hdt hbi t _ (zero_state m c hdt hbi t h) 6 6#32 rfl 384 rfl _ _ x0 y)
  · idx_vars x
    obtain rfl : y = x1 := Fin.ext hx1
    rw [(headS 5 l x0 (by first | exact hx0 | omega)).1, (headS 5 l x0 (by first | exact hx0 | omega)).2, zeroed]
    exact (congrFun (Cert.SsdTiles.s5 _ _ _ _ _ _) _).trans (shead m c hdt hbi t _ (zero_state m c hdt hbi t h) 5 5#32 rfl 320 rfl _ _ x0 y)
  · idx_vars x
    obtain rfl : y = x1 := Fin.ext hx1
    rw [(headS 4 l x0 (by first | exact hx0 | omega)).1, (headS 4 l x0 (by first | exact hx0 | omega)).2, zeroed]
    exact (congrFun (Cert.SsdTiles.s4 _ _ _ _ _ _) _).trans (shead m c hdt hbi t _ (zero_state m c hdt hbi t h) 4 4#32 rfl 256 rfl _ _ x0 y)
  · idx_vars x
    obtain rfl : y = x1 := Fin.ext hx1
    rw [(headS 3 l x0 (by first | exact hx0 | omega)).1, (headS 3 l x0 (by first | exact hx0 | omega)).2, zeroed]
    exact (congrFun (Cert.SsdTiles.s3 _ _ _ _ _ _) _).trans (shead m c hdt hbi t _ (zero_state m c hdt hbi t h) 3 3#32 rfl 192 rfl _ _ x0 y)
  · idx_vars x
    obtain rfl : y = x1 := Fin.ext hx1
    rw [(headS 2 l x0 (by first | exact hx0 | omega)).1, (headS 2 l x0 (by first | exact hx0 | omega)).2, zeroed]
    exact (congrFun (Cert.SsdTiles.s2 _ _ _ _ _ _) _).trans (shead m c hdt hbi t _ (zero_state m c hdt hbi t h) 2 2#32 rfl 128 rfl _ _ x0 y)
  · idx_vars x
    obtain rfl : y = x1 := Fin.ext hx1
    rw [(headS 1 l x0 (by first | exact hx0 | omega)).1, (headS 1 l x0 (by first | exact hx0 | omega)).2, zeroed]
    exact (congrFun (Cert.SsdTiles.s1 _ _ _ _ _ _) _).trans (shead m c hdt hbi t _ (zero_state m c hdt hbi t h) 1 1#32 rfl 64 rfl _ _ x0 y)
  · idx_vars x
    obtain rfl : y = x1 := Fin.ext hx1
    rw [(headS 0 l x0 (by first | exact hx0 | omega)).1, (headS 0 l x0 (by first | exact hx0 | omega)).2, zeroed]
    exact (congrFun (Cert.SsdTiles.s0 _ _ _ _ _ _) _).trans (shead m c hdt hbi t _ (zero_state m c hdt hbi t h) 0 0#32 rfl 0 rfl _ _ x0 y)

/-- The state after a grid point, at a later chunk. -/
theorem stepSB (h : ¬ t.val % 16 = 0)
    (hX : ∀ (y : Fin 512) (n : Fin 128), ((outsAt0 m c (t.val - 1) (Nat.lt_of_le_of_lt (Nat.sub_le _ _) t.isLt)).2.2 : FVec Ideal S512x128 .f32) (ix2 y n) = HK m c t (hI y) (hP y) n (tk t).val) (l : Fin 512) (y : Fin 128) :
    ((outsAt0 m c t.val t.isLt).2.2 : FVec Ideal S512x128 .f32) (ix2 l y) = HK m c t (hI l) (hP l) y ((tk t).val + 1) := by
  rw [outsAt0_B m c t h]; frame_out
  canon_tiles x hx using View.cover_of_tiledBy _ ![64, 128] (by sl_kernel_rfl) _
  · idx_vars x
    obtain rfl : y = x1 := Fin.ext hx1
    rw [(headS 7 l x0 (by first | exact hx0 | omega)).1, (headS 7 l x0 (by first | exact hx0 | omega)).2, read_unread_whole]
    exact (congrFun (Cert.SsdTiles.s7 _ _ _ _ _ _) _).trans (shead m c hdt hbi t _ hX 7 7#32 rfl 448 rfl _ _ x0 y)
  · idx_vars x
    obtain rfl : y = x1 := Fin.ext hx1
    rw [(headS 6 l x0 (by first | exact hx0 | omega)).1, (headS 6 l x0 (by first | exact hx0 | omega)).2, read_unread_whole]
    exact (congrFun (Cert.SsdTiles.s6 _ _ _ _ _ _) _).trans (shead m c hdt hbi t _ hX 6 6#32 rfl 384 rfl _ _ x0 y)
  · idx_vars x
    obtain rfl : y = x1 := Fin.ext hx1
    rw [(headS 5 l x0 (by first | exact hx0 | omega)).1, (headS 5 l x0 (by first | exact hx0 | omega)).2, read_unread_whole]
    exact (congrFun (Cert.SsdTiles.s5 _ _ _ _ _ _) _).trans (shead m c hdt hbi t _ hX 5 5#32 rfl 320 rfl _ _ x0 y)
  · idx_vars x
    obtain rfl : y = x1 := Fin.ext hx1
    rw [(headS 4 l x0 (by first | exact hx0 | omega)).1, (headS 4 l x0 (by first | exact hx0 | omega)).2, read_unread_whole]
    exact (congrFun (Cert.SsdTiles.s4 _ _ _ _ _ _) _).trans (shead m c hdt hbi t _ hX 4 4#32 rfl 256 rfl _ _ x0 y)
  · idx_vars x
    obtain rfl : y = x1 := Fin.ext hx1
    rw [(headS 3 l x0 (by first | exact hx0 | omega)).1, (headS 3 l x0 (by first | exact hx0 | omega)).2, read_unread_whole]
    exact (congrFun (Cert.SsdTiles.s3 _ _ _ _ _ _) _).trans (shead m c hdt hbi t _ hX 3 3#32 rfl 192 rfl _ _ x0 y)
  · idx_vars x
    obtain rfl : y = x1 := Fin.ext hx1
    rw [(headS 2 l x0 (by first | exact hx0 | omega)).1, (headS 2 l x0 (by first | exact hx0 | omega)).2, read_unread_whole]
    exact (congrFun (Cert.SsdTiles.s2 _ _ _ _ _ _) _).trans (shead m c hdt hbi t _ hX 2 2#32 rfl 128 rfl _ _ x0 y)
  · idx_vars x
    obtain rfl : y = x1 := Fin.ext hx1
    rw [(headS 1 l x0 (by first | exact hx0 | omega)).1, (headS 1 l x0 (by first | exact hx0 | omega)).2, read_unread_whole]
    exact (congrFun (Cert.SsdTiles.s1 _ _ _ _ _ _) _).trans (shead m c hdt hbi t _ hX 1 1#32 rfl 64 rfl _ _ x0 y)
  · idx_vars x
    obtain rfl : y = x1 := Fin.ext hx1
    rw [(headS 0 l x0 (by first | exact hx0 | omega)).1, (headS 0 l x0 (by first | exact hx0 | omega)).2, read_unread_whole]
    exact (congrFun (Cert.SsdTiles.s0 _ _ _ _ _ _) _).trans (shead m c hdt hbi t _ hX 0 0#32 rfl 0 rfl _ _ x0 y)

/-- The result block of a grid point, at the first chunk of a batch and group. -/
theorem stepYA (h : t.val % 16 = 0) (l : Fin 128) (y : Fin 512) :
    ((outsAt0 m c t.val t.isLt).1 : FVec Ideal S1x128x512 .f32) (ix3 0 l y) = YK m c t l (hI y) (hP y) := by
  rw [outsAt0_A m c t h]; frame_out
  canon_tiles x hx using View.cover_of_tiledBy _ ![1, 128, 64] (by sl_kernel_rfl) _
  · idx_vars x
    obtain rfl : l = x1 := Fin.ext hx1
    obtain rfl : x0 = 0 := Subsingleton.elim _ _
    rw [(headS 7 y x2 (by first | exact hx2 | omega)).1, (headS 7 y x2 (by first | exact hx2 | omega)).2, zeroed]
    exact (congrFun (Cert.SsdTiles.y7 _ _ _ _ _ _ _ _) _).trans (yhead m c hdt hbi t _ (zero_state m c hdt hbi t h) 7 7#32 rfl 7 rfl 448 rfl _ _ _ _ l x2)
  · idx_vars x
    obtain rfl : l = x1 := Fin.ext hx1
    obtain rfl : x0 = 0 := Subsingleton.elim _ _
    rw [(headS 6 y x2 (by first | exact hx2 | omega)).1, (headS 6 y x2 (by first | exact hx2 | omega)).2, zeroed]
    exact (congrFun (Cert.SsdTiles.y6 _ _ _ _ _ _ _ _) _).trans (yhead m c hdt hbi t _ (zero_state m c hdt hbi t h) 6 6#32 rfl 6 rfl 384 rfl _ _ _ _ l x2)
  · idx_vars x
    obtain rfl : l = x1 := Fin.ext hx1
    obtain rfl : x0 = 0 := Subsingleton.elim _ _
    rw [(headS 5 y x2 (by first | exact hx2 | omega)).1, (headS 5 y x2 (by first | exact hx2 | omega)).2, zeroed]
    exact (congrFun (Cert.SsdTiles.y5 _ _ _ _ _ _ _ _) _).trans (yhead m c hdt hbi t _ (zero_state m c hdt hbi t h) 5 5#32 rfl 5 rfl 320 rfl _ _ _ _ l x2)
  · idx_vars x
    obtain rfl : l = x1 := Fin.ext hx1
    obtain rfl : x0 = 0 := Subsingleton.elim _ _
    rw [(headS 4 y x2 (by first | exact hx2 | omega)).1, (headS 4 y x2 (by first | exact hx2 | omega)).2, zeroed]
    exact (congrFun (Cert.SsdTiles.y4 _ _ _ _ _ _ _ _) _).trans (yhead m c hdt hbi t _ (zero_state m c hdt hbi t h) 4 4#32 rfl 4 rfl 256 rfl _ _ _ _ l x2)
  · idx_vars x
    obtain rfl : l = x1 := Fin.ext hx1
    obtain rfl : x0 = 0 := Subsingleton.elim _ _
    rw [(headS 3 y x2 (by first | exact hx2 | omega)).1, (headS 3 y x2 (by first | exact hx2 | omega)).2, zeroed]
    exact (congrFun (Cert.SsdTiles.y3 _ _ _ _ _ _ _ _) _).trans (yhead m c hdt hbi t _ (zero_state m c hdt hbi t h) 3 3#32 rfl 3 rfl 192 rfl _ _ _ _ l x2)
  · idx_vars x
    obtain rfl : l = x1 := Fin.ext hx1
    obtain rfl : x0 = 0 := Subsingleton.elim _ _
    rw [(headS 2 y x2 (by first | exact hx2 | omega)).1, (headS 2 y x2 (by first | exact hx2 | omega)).2, zeroed]
    exact (congrFun (Cert.SsdTiles.y2 _ _ _ _ _ _ _ _) _).trans (yhead m c hdt hbi t _ (zero_state m c hdt hbi t h) 2 2#32 rfl 2 rfl 128 rfl _ _ _ _ l x2)
  · idx_vars x
    obtain rfl : l = x1 := Fin.ext hx1
    obtain rfl : x0 = 0 := Subsingleton.elim _ _
    rw [(headS 1 y x2 (by first | exact hx2 | omega)).1, (headS 1 y x2 (by first | exact hx2 | omega)).2, zeroed]
    exact (congrFun (Cert.SsdTiles.y1 _ _ _ _ _ _ _ _) _).trans (yhead m c hdt hbi t _ (zero_state m c hdt hbi t h) 1 1#32 rfl 1 rfl 64 rfl _ _ _ _ l x2)
  · idx_vars x
    obtain rfl : l = x1 := Fin.ext hx1
    obtain rfl : x0 = 0 := Subsingleton.elim _ _
    rw [(headS 0 y x2 (by first | exact hx2 | omega)).1, (headS 0 y x2 (by first | exact hx2 | omega)).2, zeroed]
    exact (congrFun (Cert.SsdTiles.y0 _ _ _ _ _ _ _ _) _).trans (yhead m c hdt hbi t _ (zero_state m c hdt hbi t h) 0 0#32 rfl 0 rfl 0 rfl _ _ _ _ l x2)

/-- The result block of a grid point, at a later chunk. -/
theorem stepYB (h : ¬ t.val % 16 = 0)
    (hX : ∀ (y : Fin 512) (n : Fin 128), ((outsAt0 m c (t.val - 1) (Nat.lt_of_le_of_lt (Nat.sub_le _ _) t.isLt)).2.2 : FVec Ideal S512x128 .f32) (ix2 y n) = HK m c t (hI y) (hP y) n (tk t).val) (l : Fin 128) (y : Fin 512) :
    ((outsAt0 m c t.val t.isLt).1 : FVec Ideal S1x128x512 .f32) (ix3 0 l y) = YK m c t l (hI y) (hP y) := by
  rw [outsAt0_B m c t h]; frame_out
  canon_tiles x hx using View.cover_of_tiledBy _ ![1, 128, 64] (by sl_kernel_rfl) _
  · idx_vars x
    obtain rfl : l = x1 := Fin.ext hx1
    obtain rfl : x0 = 0 := Subsingleton.elim _ _
    rw [(headS 7 y x2 (by first | exact hx2 | omega)).1, (headS 7 y x2 (by first | exact hx2 | omega)).2, read_unread_whole]
    exact (congrFun (Cert.SsdTiles.y7 _ _ _ _ _ _ _ _) _).trans (yhead m c hdt hbi t _ hX 7 7#32 rfl 7 rfl 448 rfl _ _ _ _ l x2)
  · idx_vars x
    obtain rfl : l = x1 := Fin.ext hx1
    obtain rfl : x0 = 0 := Subsingleton.elim _ _
    rw [(headS 6 y x2 (by first | exact hx2 | omega)).1, (headS 6 y x2 (by first | exact hx2 | omega)).2, read_unread_whole]
    exact (congrFun (Cert.SsdTiles.y6 _ _ _ _ _ _ _ _) _).trans (yhead m c hdt hbi t _ hX 6 6#32 rfl 6 rfl 384 rfl _ _ _ _ l x2)
  · idx_vars x
    obtain rfl : l = x1 := Fin.ext hx1
    obtain rfl : x0 = 0 := Subsingleton.elim _ _
    rw [(headS 5 y x2 (by first | exact hx2 | omega)).1, (headS 5 y x2 (by first | exact hx2 | omega)).2, read_unread_whole]
    exact (congrFun (Cert.SsdTiles.y5 _ _ _ _ _ _ _ _) _).trans (yhead m c hdt hbi t _ hX 5 5#32 rfl 5 rfl 320 rfl _ _ _ _ l x2)
  · idx_vars x
    obtain rfl : l = x1 := Fin.ext hx1
    obtain rfl : x0 = 0 := Subsingleton.elim _ _
    rw [(headS 4 y x2 (by first | exact hx2 | omega)).1, (headS 4 y x2 (by first | exact hx2 | omega)).2, read_unread_whole]
    exact (congrFun (Cert.SsdTiles.y4 _ _ _ _ _ _ _ _) _).trans (yhead m c hdt hbi t _ hX 4 4#32 rfl 4 rfl 256 rfl _ _ _ _ l x2)
  · idx_vars x
    obtain rfl : l = x1 := Fin.ext hx1
    obtain rfl : x0 = 0 := Subsingleton.elim _ _
    rw [(headS 3 y x2 (by first | exact hx2 | omega)).1, (headS 3 y x2 (by first | exact hx2 | omega)).2, read_unread_whole]
    exact (congrFun (Cert.SsdTiles.y3 _ _ _ _ _ _ _ _) _).trans (yhead m c hdt hbi t _ hX 3 3#32 rfl 3 rfl 192 rfl _ _ _ _ l x2)
  · idx_vars x
    obtain rfl : l = x1 := Fin.ext hx1
    obtain rfl : x0 = 0 := Subsingleton.elim _ _
    rw [(headS 2 y x2 (by first | exact hx2 | omega)).1, (headS 2 y x2 (by first | exact hx2 | omega)).2, read_unread_whole]
    exact (congrFun (Cert.SsdTiles.y2 _ _ _ _ _ _ _ _) _).trans (yhead m c hdt hbi t _ hX 2 2#32 rfl 2 rfl 128 rfl _ _ _ _ l x2)
  · idx_vars x
    obtain rfl : l = x1 := Fin.ext hx1
    obtain rfl : x0 = 0 := Subsingleton.elim _ _
    rw [(headS 1 y x2 (by first | exact hx2 | omega)).1, (headS 1 y x2 (by first | exact hx2 | omega)).2, read_unread_whole]
    exact (congrFun (Cert.SsdTiles.y1 _ _ _ _ _ _ _ _) _).trans (yhead m c hdt hbi t _ hX 1 1#32 rfl 1 rfl 64 rfl _ _ _ _ l x2)
  · idx_vars x
    obtain rfl : l = x1 := Fin.ext hx1
    obtain rfl : x0 = 0 := Subsingleton.elim _ _
    rw [(headS 0 y x2 (by first | exact hx2 | omega)).1, (headS 0 y x2 (by first | exact hx2 | omega)).2, read_unread_whole]
    exact (congrFun (Cert.SsdTiles.y0 _ _ _ _ _ _ _ _) _).trans (yhead m c hdt hbi t _ hX 0 0#32 rfl 0 rfl 0 rfl _ _ _ _ l x2)

end

end

end Cert.SsdFwdValue

end
-- ==== Proof.SsdFwd.lean ====
/- The state-space scan, forward: what the kernel's result array holds after the run, against the reference's. -/
module

public import proofs.«01_k».proof.Defs
public import proofs.«01_k».proof.Proof.Gen.Pre_ssd_fwd_below
public import proofs.«01_k».proof.Proof.Gen.SsdFwd.Frame
public import proofs.«01_k».proof.Proof.SsdPay
public import proofs.«01_k».proof.Proof.SsdRef
public import proofs.«01_k».proof.Proof.SsdBlk
public import proofs.«01_k».proof.Proof.SsdTiles
public import proofs.«01_k».proof.Proof.SsdStep
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.SsdFwdValue

open Cert.Reals Cert.Ssd Cert.SsdPay
open Cert.SsdRef (f3 f1)

/-- The result array, from the arguments. -/
def RES (x : FVec Ideal Cert.SsdFwdIdeal.S2x2048x1536 .f32) (dt : FVec Ideal Cert.SsdFwdIdeal.S2x2048x16 .f32)
    (bi al d : FVec Ideal Cert.SsdFwdIdeal.S16 .f32) : FVec Ideal Cert.SsdFwdIdeal.S2x2048x1024 .f32 := fun j =>
  have h1 : (j 1).val < 2048 := (j 1).isLt
  have h2 : (j 2).val < 1024 := (j 2).isLt
  Y (f3 x) (f3 dt) (f1 bi) (f1 al) (f1 d) (j 0) ⟨(j 1).val / 128, by omega⟩ ⟨(j 1).val % 128, by omega⟩
    ⟨(j 2).val / 512, by omega⟩ ⟨(j 2).val / 64 % 8, by omega⟩ ⟨(j 2).val % 64, by omega⟩

section
variable (x : FVec Ideal Cert.SsdFwdIdeal.S2x2048x1536 .f32) (dt : FVec Ideal Cert.SsdFwdIdeal.S2x2048x16 .f32) (bi al d : FVec Ideal Cert.SsdFwdIdeal.S16 .f32)

theorem RES_at (b : Fin 2) (k : Fin 16) (l : Fin 128) (g : Fin 2) (i : Fin 8) (p : Fin 64) :
    RES x dt bi al d (ix3 b (row k l) (ycol g i p)) = Y (f3 x) (f3 dt) (f1 bi) (f1 al) (f1 d) b k l g i p := by
  have e1 : (⟨(row k l).val / 128, by omega⟩ : Fin 16) = k := Fin.ext (by simp only [row]; omega)
  have e2 : (⟨(row k l).val % 128, by omega⟩ : Fin 128) = l := Fin.ext (by simp only [row]; omega)
  have e3 : (⟨(ycol g i p).val / 512, by omega⟩ : Fin 2) = g := Fin.ext (by simp only [ycol]; omega)
  have e4 : (⟨(ycol g i p).val / 64 % 8, by omega⟩ : Fin 8) = i := Fin.ext (by simp only [ycol]; omega)
  have e5 : (⟨(ycol g i p).val % 64, by omega⟩ : Fin 64) = p := Fin.ext (by simp only [ycol]; omega)
  show Y _ _ _ _ _ b ⟨(row k l).val / 128, _⟩ ⟨(row k l).val % 128, _⟩ ⟨(ycol g i p).val / 512, _⟩ ⟨(ycol g i p).val / 64 % 8, _⟩ ⟨(ycol g i p).val % 64, _⟩ = _
  rw [e1, e2, e3, e4, e5]
end

section
open Cert.SsdFwdIdeal Cert.SsdFwdIdeal.Gen

variable (m : (ℓ : Loc nD τ sig) → Buf (Elt Ideal) ℓ)

section
variable (c : Dev nD)

/-- What a later chunk finds in the state is what the chunk before it left. -/
theorem before (n : ℕ) (hn : n + 1 < cfg0.N) (h : ¬ (n + 1) % 16 = 0)
    (ih : ∀ (y : Fin 512) (k : Fin 128), ((outsAt0 m c n (by omega)).2.2 : FVec Ideal S512x128 .f32) (ix2 y k) = HK m c ⟨n, by omega⟩ (hI y) (hP y) k (n % 16 + 1))
    (y : Fin 512) (k : Fin 128) :
    ((outsAt0 m c n (by omega)).2.2 : FVec Ideal S512x128 .f32) (ix2 y k) = HK m c ⟨n + 1, hn⟩ (hI y) (hP y) k ((n + 1) % 16) := by
  have eb : tb (⟨n + 1, hn⟩ : Fin cfg0.N) = tb ⟨n, by omega⟩ := Fin.ext (by show (n + 1) / 32 = n / 32; omega)
  have eg : tg (⟨n + 1, hn⟩ : Fin cfg0.N) = tg ⟨n, by omega⟩ := Fin.ext (by show (n + 1) / 16 % 2 = n / 16 % 2; omega)
  rw [ih y k]
  unfold HK
  rw [eb, eg, show (n + 1) % 16 = n % 16 + 1 by omega]

variable (hdt : ∀ b s h, f3 (K1 m c) b s h ≠ ⊤) (hbi : ∀ h, f1 (K2 m c) h ≠ ⊤)
include hdt hbi

/-- The state after every grid point. -/
theorem state_at : ∀ (n : ℕ) (hn : n < cfg0.N) (y : Fin 512) (k : Fin 128),
    ((outsAt0 m c n hn).2.2 : FVec Ideal S512x128 .f32) (ix2 y k) = HK m c ⟨n, hn⟩ (hI y) (hP y) k (n % 16 + 1) := by
  intro n
  induction n with
  | zero => exact fun hn y k => stepSA m c hdt hbi ⟨0, hn⟩ rfl y k
  | succ n ih =>
    intro hn y k
    by_cases h : (n + 1) % 16 = 0
    · exact stepSA m c hdt hbi ⟨n + 1, hn⟩ h y k
    · exact stepSB m c hdt hbi ⟨n + 1, hn⟩ h (before m c n hn h (ih (by omega))) y k

/-- The result block after every grid point. -/
theorem out_at (t : Fin cfg0.N) (l : Fin 128) (y : Fin 512) :
    ((outsAt0 m c t.val t.isLt).1 : FVec Ideal S1x128x512 .f32) (ix3 0 l y) = YK m c t l (hI y) (hP y) := by
  obtain ⟨n, hn⟩ := t
  by_cases h : n % 16 = 0
  · exact stepYA m c hdt hbi ⟨n, hn⟩ h l y
  · cases n with
    | zero => exact absurd rfl h
    | succ n => exact stepYB m c hdt hbi ⟨n + 1, hn⟩ h (before m c n hn h (state_at m c hdt hbi n (by omega))) l y

end

theorem emb_7 (t : Fin cfg0.N) (G : FVec Ideal S2x2048x1024 .f32) (l : Fin 128) (y : Fin 512) :
    G (((win0 7).blk t).view.emb (ix3 0 l y)) = G (ix3 (tb t) (row (tk t) l) (ycol (tg t) (hI y) (hP y))) := by
  have e : ycol (tg t) (hI y) (hP y) = ⟨512 * (tg t).val + y.val, by omega⟩ := Fin.ext (by simp only [ycol, hI, hP]; omega)
  rw [e]
  blk_point [idx t, row, tb, tk, tg]

/-- The result array after the run. -/
theorem final_7 (c : Dev nD) (hdt : ∀ b s h, f3 (K1 m c) b s h ≠ ⊤) (hbi : ∀ h, f1 (K2 m c) h ≠ ⊤) :
    (dats m 0 c).arrAt 7 (cfgs 0).N = RES (K0 m c) (K1 m c) (K2 m c) (K3 m c) (K4 m c) := by
  refine (dats m 0 c).arrAt_eq_of_covers 7 _ (by decide +kernel) fun t hf y => ?_
  blk_simp; rw [after0_7]
  idx_vars y
  obtain rfl : y0 = 0 := Subsingleton.elim _ _
  refine (out_at m c hdt hbi t y1 y2).trans (Eq.trans ?_ (emb_7 t _ y1 y2).symm)
  rw [RES_at]

/-- An element that compares below `+∞` is not `+∞`. -/
theorem ne_top_of_lt {s t u : Shape} {axes : List (Fin s.rank)} [Subsingleton t.Idx] (x y : FVec Ideal s .f32) (hy : ∀ i, y i = ⊤)
    (init : IVec u 1) (h : s.ReducesTo axes t) (hu : 0 < u.numel) (j : t.Idx)
    (e : Host.reduce IntOp.andi (cmpf .olt x y) init h hu j = 1#1) (i : s.Idx) : x i ≠ ⊤ := by
  have h1 : Ideal.cmp .olt (x i) (y i) = 1#1 := Host.reduce_andi_all _ init h hu j e i
  rw [hy i] at h1
  intro h2
  rw [h2] at h1
  simp [Ideal.cmp] at h1

/-- The precondition at the elements. -/
theorem below (h : Cert.Pre_SsdFwdIdeal_ssd_fwd_below m) (c : Dev nD) :
    (∀ b s h, f3 (K1 m c) b s h ≠ ⊤) ∧ (∀ h, f1 (K2 m c) h ≠ ⊤) := by
  have h0 := congrFun (h c) (fun a => a.elim0)
  dsimp only [Cert.Pre_ssd_fwd_below.fn] at h0
  obtain ⟨h1, h2⟩ := IntOp.andi_eq_one.1 h0
  haveI : Subsingleton Cert.Pre_ssd_fwd_below.S_.Idx := ⟨fun a b => funext fun k => k.elim0⟩
  exact ⟨fun b s h => ne_top_of_lt _ _ (fun _ => ofBits_inf) _ _ _ _ h1 (ix3 b s h),
    fun h => ne_top_of_lt _ _ (fun _ => ofBits_inf) _ _ _ _ h2 (ix1 h)⟩

end

/-- The reference's result array after its run. -/
theorem reference_at (m : (ℓ : Loc Cert.SsdFwdReferenceIdeal.nD Cert.SsdFwdReferenceIdeal.τ Cert.SsdFwdReferenceIdeal.sig) → Buf (Elt Ideal) ℓ)
    (c : Dev Cert.SsdFwdReferenceIdeal.nD) :
    (StableHlo.finalContents Cert.SsdFwdReferenceIdeal.Value.condOps Cert.SsdFwdReferenceIdeal.Value.preI Cert.SsdFwdReferenceIdeal.Value.bodyI Cert.SsdFwdReferenceIdeal.Value.postI 16 m c (Proc.devRef .tc Cert.SsdFwdReferenceIdeal.main_v74) : FVec Ideal Cert.SsdFwdReferenceIdeal.S2x2048x1024 .f32)
      = RES (Cert.SsdRef.A0 m c) (Cert.SsdRef.A1 m c) (Cert.SsdRef.A2 m c) (Cert.SsdRef.A3 m c) (Cert.SsdRef.A4 m c) := by
  funext j
  idx_vars j
  have e1 : row ⟨j1.val / 128, by omega⟩ ⟨j1.val % 128, by omega⟩ = j1 := Fin.ext (by simp only [row]; omega)
  have e2 : ycol ⟨j2.val / 512, by omega⟩ ⟨j2.val / 64 % 8, by omega⟩ ⟨j2.val % 64, by omega⟩ = j2 := Fin.ext (by simp only [ycol]; omega)
  rw [← e1, ← e2, RES_at]
  exact Cert.SsdRef.final_at m c _ _ _ _ _ _

/-- The program terminates and leaves its arguments unchanged, over machine words. -/
theorem frame : Cert.quiescent_SsdFwd := fun m ρ _ => Cert.SsdFwd.Gen.frame m ρ

/-- The same over the extended reals. -/
theorem frameIdeal : Cert.quiescent_SsdFwdIdeal := fun m ρ _ => Cert.SsdFwdIdeal.Gen.frame m ρ

set_option maxHeartbeats 1600000 in
/-- Over the extended reals the kernel returns what the reference returns, given steps and biases below `+∞`. -/
theorem algebraic : Cert.algebraic_SsdFwdIdeal_SsdFwdReferenceIdeal_pre_ssd_fwd_below := by
  pair_intro
  · run_from Cert.SsdFwdIdeal.Gen.run_main m g
    all_goals
      simp only [← StableHlo.afterL_eq_after_flatten, StableHlo.afterL_cons, StableHlo.afterL_nil]
      after_reads_simp
  · refine (θ_run _ _ _).mono (fun r h c => ⟨?_, ?_, ?_, ?_, ?_, ?_⟩) (Cert.SsdFwdReferenceIdeal.Value.run_fold m' g')
    · obtain ⟨hdt, hbi⟩ := below m hpre c
      obtain ⟨a0, a1, a2, a3, a4⟩ := hagree c
      refine (h c Cert.SsdFwdReferenceIdeal.main_v74 (by decide)).trans ((reference_at m' c).trans (Eq.trans ?_ (final_7 m c hdt hbi).symm))
      rw [show Cert.SsdRef.A0 m' c = K0 m c from a0, show Cert.SsdRef.A1 m' c = K1 m c from a1, show Cert.SsdRef.A2 m' c = K2 m c from a2,
        show Cert.SsdRef.A3 m' c = K3 m c from a3, show Cert.SsdRef.A4 m' c = K4 m c from a4]
    · exact (h c Cert.SsdFwdReferenceIdeal.main_arg0 (by decide)).trans (Cert.SsdRef.final_arg0 m' c)
    · exact (h c Cert.SsdFwdReferenceIdeal.main_arg1 (by decide)).trans (Cert.SsdRef.final_arg1 m' c)
    · exact (h c Cert.SsdFwdReferenceIdeal.main_arg2 (by decide)).trans (Cert.SsdRef.final_arg2 m' c)
    · exact (h c Cert.SsdFwdReferenceIdeal.main_arg3 (by decide)).trans (Cert.SsdRef.final_arg3 m' c)
    · exact (h c Cert.SsdFwdReferenceIdeal.main_arg4 (by decide)).trans (Cert.SsdRef.final_arg4 m' c)

end Cert.SsdFwdValue

end
-- ==== Proof.ChipIn.lean ====
/- The sum of w_in's gradient over the four chips: what the kernel's result array holds. -/
module

public import proofs.«01_k».proof.Defs
public import proofs.«01_k».proof.Proof.Gen.ChipIn.Frame
public import proofs.«01_k».proof.Proof.Gen.ChipInIdeal.Value
public import proofs.«01_k».proof.Proof.Gen.ChipInReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ChipInValue

section
open Cert.ChipInReferenceIdeal Cert.ChipInReferenceIdeal.Gen

/-- The reference's sum: this chip's part and the three other chips' parts. -/
def TOTAL (own : FVec Ideal S1024x1412 .f32) (others : FVec Ideal S3x1024x1412 .bf16) : FVec Ideal S1024x1412 .f32 :=
  addf own (Host.reduceAdd (extf .f32 others bitsLt_bf16_f32) (constant S_ .f32 0x00000000#32) reducesTo_S3x1024x1412_S1024x1412_d0 h_S_)

/-- The sum at an element. -/
theorem TOTAL_at (own : FVec Ideal S1024x1412 .f32) (others : FVec Ideal S3x1024x1412 .bf16) (r : Fin 1024) (k : Fin 1412) :
    (TOTAL own others (ix2 r k) : EReal) = ((own (ix2 r k) + others (ix3 0 r k)) + others (ix3 1 r k)) + others (ix3 2 r k) := by
  pointwise [TOTAL]
  rw [Fin.sum_univ_three]
  simp only [add_assoc]

end

section
open Cert.ChipInIdeal Cert.ChipInIdeal.Gen

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] :=
  (by decide +kernel : ∀ t : Fin grid0.N, _)

/-- The result block at an element. -/
theorem out_at (x0 : FVec Ideal S256x1412 .f32) (x1 : FVec Ideal S3x256x1412 .bf16) (r : Fin 256) (k : Fin 1412) :
    (out0_2 (F := Ideal) x0 x1 (ix2 r k) : EReal) = ((x0 (ix2 r k) + x1 (ix3 0 r k)) + x1 (ix3 1 r k)) + x1 (ix3 2 r k) := by
  frame_out
  unfold k0_pay1
  pointwise []

/-- The row of the arrays a block's row is. -/
abbrev row (t : Fin cfg0.N) (r : Fin 256) : Fin 1024 := ⟨t.val * 256 + r.val, by have h : t.val < 4 := t.isLt; omega⟩

theorem blk_own (c : Dev nD) (t : Fin cfg0.N) (r : Fin 256) (k : Fin 1412) :
    (iblk m c 0 t : FVec Ideal S256x1412 .f32) (ix2 r k) = (m ((c.tc : Thread nD τ).loc main_arg0) : FVec Ideal S1024x1412 .f32) (ix2 (row t r) k) := by
  blk_point [iblk, V, idx t]

theorem blk_others (c : Dev nD) (t : Fin cfg0.N) (j : Fin 3) (r : Fin 256) (k : Fin 1412) :
    (iblk m c 1 t : FVec Ideal S3x256x1412 .bf16) (ix3 j r k) = (m ((c.tc : Thread nD τ).loc main_arg1) : FVec Ideal S3x1024x1412 .bf16) (ix3 j (row t r) k) := by
  blk_point [iblk, V, idx t]

theorem emb_2 (t : Fin cfg0.N) (G : FVec Ideal S1024x1412 .f32) (r : Fin 256) (k : Fin 1412) :
    G (((win0 2).blk t).view.emb (ix2 r k)) = G (ix2 (row t r) k) := by
  blk_point [idx t]

/-- The result array after the run is the reference's. -/
theorem final_2 (c : Dev nD) :
    (dats m 0 c).arrAt 2 (cfgs 0).N = TOTAL (m ((c.tc : Thread nD τ).loc main_arg0)) (m ((c.tc : Thread nD τ).loc main_arg1)) := by
  refine (dats m 0 c).arrAt_eq_of_covers 2 _ (by decide +kernel) fun t hf y => ?_
  blk_simp; rw [after0_2]
  idx_vars y
  refine Eq.trans ?_ (emb_2 t _ y0 y1).symm
  refine (out_at _ _ y0 y1).trans ?_
  rw [TOTAL_at, blk_own, blk_others, blk_others, blk_others]

end

/-- The program terminates and leaves its arguments unchanged, over machine words. -/
theorem frame : Cert.quiescent_ChipIn := fun m ρ _ => Cert.ChipIn.Gen.frame m ρ

/-- The same over the extended reals. -/
theorem frameIdeal : Cert.quiescent_ChipInIdeal := fun m ρ _ => Cert.ChipInIdeal.Gen.frame m ρ

/-- The reference terminates and leaves its arguments unchanged. -/
theorem frameReference : Cert.quiescent_ChipInReferenceIdeal := by
  intro m g _
  exact (θ_run _ _ _).mono (fun r h => ⟨fun c => (h c).2, sem_eq_zero_of_no_sems rfl _⟩)
    (Cert.ChipInReferenceIdeal.Value.run m g)

/-- Over the extended reals the kernel returns what the reference returns. -/
theorem algebraic : Cert.algebraic_ChipInIdeal_ChipInReferenceIdeal := by
  pair_intro
  · run_from Cert.ChipInIdeal.Gen.run_main m g
  · hlo_run
    · exact (final_2 m c).symm

end Cert.ChipInValue

end
-- ==== Proof.ChipOut.lean ====
/- The sum of w_out's gradient over the four chips: what the kernel's result array holds. -/
module

public import proofs.«01_k».proof.Defs
public import proofs.«01_k».proof.Proof.Gen.ChipOut.Frame
public import proofs.«01_k».proof.Proof.Gen.ChipOutIdeal.Value
public import proofs.«01_k».proof.Proof.Gen.ChipOutReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ChipOutValue

section
open Cert.ChipOutReferenceIdeal Cert.ChipOutReferenceIdeal.Gen

/-- The reference's sum: this chip's part and the three other chips' parts. -/
def TOTAL (own : FVec Ideal S256x2048 .f32) (others : FVec Ideal S3x256x2048 .bf16) : FVec Ideal S256x2048 .f32 :=
  addf own (Host.reduceAdd (extf .f32 others bitsLt_bf16_f32) (constant S_ .f32 0x00000000#32) reducesTo_S3x256x2048_S256x2048_d0 h_S_)

/-- The sum at an element. -/
theorem TOTAL_at (own : FVec Ideal S256x2048 .f32) (others : FVec Ideal S3x256x2048 .bf16) (r : Fin 256) (k : Fin 2048) :
    (TOTAL own others (ix2 r k) : EReal) = ((own (ix2 r k) + others (ix3 0 r k)) + others (ix3 1 r k)) + others (ix3 2 r k) := by
  pointwise [TOTAL]
  rw [Fin.sum_univ_three]
  simp only [add_assoc]

end

section
open Cert.ChipOutIdeal Cert.ChipOutIdeal.Gen

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] :=
  (by decide +kernel : ∀ t : Fin grid0.N, _)

/-- The result block at an element. -/
theorem out_at (x0 : FVec Ideal S256x2048 .f32) (x1 : FVec Ideal S3x256x2048 .bf16) (r : Fin 256) (k : Fin 2048) :
    (out0_2 (F := Ideal) x0 x1 (ix2 r k) : EReal) = ((x0 (ix2 r k) + x1 (ix3 0 r k)) + x1 (ix3 1 r k)) + x1 (ix3 2 r k) := by
  frame_out
  unfold k0_pay1
  pointwise []

/-- The row of the arrays a block's row is. -/
abbrev row (t : Fin cfg0.N) (r : Fin 256) : Fin 256 := ⟨t.val * 256 + r.val, by have h : t.val < 1 := t.isLt; omega⟩

theorem blk_own (c : Dev nD) (t : Fin cfg0.N) (r : Fin 256) (k : Fin 2048) :
    (iblk m c 0 t : FVec Ideal S256x2048 .f32) (ix2 r k) = (m ((c.tc : Thread nD τ).loc main_arg0) : FVec Ideal S256x2048 .f32) (ix2 (row t r) k) := by
  blk_point [iblk, V, idx t]

theorem blk_others (c : Dev nD) (t : Fin cfg0.N) (j : Fin 3) (r : Fin 256) (k : Fin 2048) :
    (iblk m c 1 t : FVec Ideal S3x256x2048 .bf16) (ix3 j r k) = (m ((c.tc : Thread nD τ).loc main_arg1) : FVec Ideal S3x256x2048 .bf16) (ix3 j (row t r) k) := by
  blk_point [iblk, V, idx t]

theorem emb_2 (t : Fin cfg0.N) (G : FVec Ideal S256x2048 .f32) (r : Fin 256) (k : Fin 2048) :
    G (((win0 2).blk t).view.emb (ix2 r k)) = G (ix2 (row t r) k) := by
  blk_point [idx t]

/-- The result array after the run is the reference's. -/
theorem final_2 (c : Dev nD) :
    (dats m 0 c).arrAt 2 (cfgs 0).N = TOTAL (m ((c.tc : Thread nD τ).loc main_arg0)) (m ((c.tc : Thread nD τ).loc main_arg1)) := by
  refine (dats m 0 c).arrAt_eq_of_covers 2 _ (by decide +kernel) fun t hf y => ?_
  blk_simp; rw [after0_2]
  idx_vars y
  refine Eq.trans ?_ (emb_2 t _ y0 y1).symm
  refine (out_at _ _ y0 y1).trans ?_
  rw [TOTAL_at, blk_own, blk_others, blk_others, blk_others]

end

/-- The program terminates and leaves its arguments unchanged, over machine words. -/
theorem frame : Cert.quiescent_ChipOut := fun m ρ _ => Cert.ChipOut.Gen.frame m ρ

/-- The same over the extended reals. -/
theorem frameIdeal : Cert.quiescent_ChipOutIdeal := fun m ρ _ => Cert.ChipOutIdeal.Gen.frame m ρ

/-- The reference terminates and leaves its arguments unchanged. -/
theorem frameReference : Cert.quiescent_ChipOutReferenceIdeal := by
  intro m g _
  exact (θ_run _ _ _).mono (fun r h => ⟨fun c => (h c).2, sem_eq_zero_of_no_sems rfl _⟩)
    (Cert.ChipOutReferenceIdeal.Value.run m g)

/-- Over the extended reals the kernel returns what the reference returns. -/
theorem algebraic : Cert.algebraic_ChipOutIdeal_ChipOutReferenceIdeal := by
  pair_intro
  · run_from Cert.ChipOutIdeal.Gen.run_main m g
  · hlo_run
    · exact (final_2 m c).symm

end Cert.ChipOutValue

end
-- ==== Proof.ChipGate.lean ====
/- The sum of w_gate's gradient over the four chips: what the kernel's result array holds. -/
module

public import proofs.«01_k».proof.Defs
public import proofs.«01_k».proof.Proof.Gen.ChipGate.Frame
public import proofs.«01_k».proof.Proof.Gen.ChipGateIdeal.Value
public import proofs.«01_k».proof.Proof.Gen.ChipGateReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ChipGateValue

section
open Cert.ChipGateReferenceIdeal Cert.ChipGateReferenceIdeal.Gen

/-- The reference's sum: this chip's part and the three other chips' parts. -/
def TOTAL (own : FVec Ideal S1024x1408 .f32) (others : FVec Ideal S3x1024x1408 .bf16) : FVec Ideal S1024x1408 .f32 :=
  addf own (Host.reduceAdd (extf .f32 others bitsLt_bf16_f32) (constant S_ .f32 0x00000000#32) reducesTo_S3x1024x1408_S1024x1408_d0 h_S_)

/-- The sum at an element. -/
theorem TOTAL_at (own : FVec Ideal S1024x1408 .f32) (others : FVec Ideal S3x1024x1408 .bf16) (r : Fin 1024) (k : Fin 1408) :
    (TOTAL own others (ix2 r k) : EReal) = ((own (ix2 r k) + others (ix3 0 r k)) + others (ix3 1 r k)) + others (ix3 2 r k) := by
  pointwise [TOTAL]
  rw [Fin.sum_univ_three]
  simp only [add_assoc]

end

section
open Cert.ChipGateIdeal Cert.ChipGateIdeal.Gen

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] :=
  (by decide +kernel : ∀ t : Fin grid0.N, _)

/-- The result block at an element. -/
theorem out_at (x0 : FVec Ideal S256x1408 .f32) (x1 : FVec Ideal S3x256x1408 .bf16) (r : Fin 256) (k : Fin 1408) :
    (out0_2 (F := Ideal) x0 x1 (ix2 r k) : EReal) = ((x0 (ix2 r k) + x1 (ix3 0 r k)) + x1 (ix3 1 r k)) + x1 (ix3 2 r k) := by
  frame_out
  unfold k0_pay1
  pointwise []

/-- The row of the arrays a block's row is. -/
abbrev row (t : Fin cfg0.N) (r : Fin 256) : Fin 1024 := ⟨t.val * 256 + r.val, by have h : t.val < 4 := t.isLt; omega⟩

theorem blk_own (c : Dev nD) (t : Fin cfg0.N) (r : Fin 256) (k : Fin 1408) :
    (iblk m c 0 t : FVec Ideal S256x1408 .f32) (ix2 r k) = (m ((c.tc : Thread nD τ).loc main_arg0) : FVec Ideal S1024x1408 .f32) (ix2 (row t r) k) := by
  blk_point [iblk, V, idx t]

theorem blk_others (c : Dev nD) (t : Fin cfg0.N) (j : Fin 3) (r : Fin 256) (k : Fin 1408) :
    (iblk m c 1 t : FVec Ideal S3x256x1408 .bf16) (ix3 j r k) = (m ((c.tc : Thread nD τ).loc main_arg1) : FVec Ideal S3x1024x1408 .bf16) (ix3 j (row t r) k) := by
  blk_point [iblk, V, idx t]

theorem emb_2 (t : Fin cfg0.N) (G : FVec Ideal S1024x1408 .f32) (r : Fin 256) (k : Fin 1408) :
    G (((win0 2).blk t).view.emb (ix2 r k)) = G (ix2 (row t r) k) := by
  blk_point [idx t]

/-- The result array after the run is the reference's. -/
theorem final_2 (c : Dev nD) :
    (dats m 0 c).arrAt 2 (cfgs 0).N = TOTAL (m ((c.tc : Thread nD τ).loc main_arg0)) (m ((c.tc : Thread nD τ).loc main_arg1)) := by
  refine (dats m 0 c).arrAt_eq_of_covers 2 _ (by decide +kernel) fun t hf y => ?_
  blk_simp; rw [after0_2]
  idx_vars y
  refine Eq.trans ?_ (emb_2 t _ y0 y1).symm
  refine (out_at _ _ y0 y1).trans ?_
  rw [TOTAL_at, blk_own, blk_others, blk_others, blk_others]

end

/-- The program terminates and leaves its arguments unchanged, over machine words. -/
theorem frame : Cert.quiescent_ChipGate := fun m ρ _ => Cert.ChipGate.Gen.frame m ρ

/-- The same over the extended reals. -/
theorem frameIdeal : Cert.quiescent_ChipGateIdeal := fun m ρ _ => Cert.ChipGateIdeal.Gen.frame m ρ

/-- The reference terminates and leaves its arguments unchanged. -/
theorem frameReference : Cert.quiescent_ChipGateReferenceIdeal := by
  intro m g _
  exact (θ_run _ _ _).mono (fun r h => ⟨fun c => (h c).2, sem_eq_zero_of_no_sems rfl _⟩)
    (Cert.ChipGateReferenceIdeal.Value.run m g)

/-- Over the extended reals the kernel returns what the reference returns. -/
theorem algebraic : Cert.algebraic_ChipGateIdeal_ChipGateReferenceIdeal := by
  pair_intro
  · run_from Cert.ChipGateIdeal.Gen.run_main m g
  · hlo_run
    · exact (final_2 m c).symm

end Cert.ChipGateValue

end
-- ==== Proof.ChipDown.lean ====
/- The sum of w_down's gradient over the four chips: what the kernel's result array holds. -/
module

public import proofs.«01_k».proof.Defs
public import proofs.«01_k».proof.Proof.Gen.ChipDown.Frame
public import proofs.«01_k».proof.Proof.Gen.ChipDownIdeal.Value
public import proofs.«01_k».proof.Proof.Gen.ChipDownReferenceIdeal.Run
public import Idealize.ShloMosaic.Lib.Claim
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ChipDownValue

section
open Cert.ChipDownReferenceIdeal Cert.ChipDownReferenceIdeal.Gen

/-- The reference's sum: this chip's part and the three other chips' parts. -/
def TOTAL (own : FVec Ideal S704x2048 .f32) (others : FVec Ideal S3x704x2048 .bf16) : FVec Ideal S704x2048 .f32 :=
  addf own (Host.reduceAdd (extf .f32 others bitsLt_bf16_f32) (constant S_ .f32 0x00000000#32) reducesTo_S3x704x2048_S704x2048_d0 h_S_)

/-- The sum at an element. -/
theorem TOTAL_at (own : FVec Ideal S704x2048 .f32) (others : FVec Ideal S3x704x2048 .bf16) (r : Fin 704) (k : Fin 2048) :
    (TOTAL own others (ix2 r k) : EReal) = ((own (ix2 r k) + others (ix3 0 r k)) + others (ix3 1 r k)) + others (ix3 2 r k) := by
  pointwise [TOTAL]
  rw [Fin.sum_univ_three]
  simp only [add_assoc]

end

section
open Cert.ChipDownIdeal Cert.ChipDownIdeal.Gen

variable (m : (ℓ : Loc nD τ sig) → Buf (Elt Ideal) ℓ)

/-- Every window's block index at every grid point. -/
theorem idx : ∀ t : Fin cfg0.N, win0_0.index t = ![t.val, 0] ∧ win0_1.index t = ![0, t.val, 0] ∧ win0_2.index t = ![t.val, 0] :=
  (by decide +kernel : ∀ t : Fin grid0.N, _)

/-- The result block at an element. -/
theorem out_at (x0 : FVec Ideal S176x2048 .f32) (x1 : FVec Ideal S3x176x2048 .bf16) (r : Fin 176) (k : Fin 2048) :
    (out0_2 (F := Ideal) x0 x1 (ix2 r k) : EReal) = ((x0 (ix2 r k) + x1 (ix3 0 r k)) + x1 (ix3 1 r k)) + x1 (ix3 2 r k) := by
  frame_out
  unfold k0_pay1
  pointwise []

/-- The row of the arrays a block's row is. -/
abbrev row (t : Fin cfg0.N) (r : Fin 176) : Fin 704 := ⟨t.val * 176 + r.val, by have h : t.val < 4 := t.isLt; omega⟩

theorem blk_own (c : Dev nD) (t : Fin cfg0.N) (r : Fin 176) (k : Fin 2048) :
    (iblk m c 0 t : FVec Ideal S176x2048 .f32) (ix2 r k) = (m ((c.tc : Thread nD τ).loc main_arg0) : FVec Ideal S704x2048 .f32) (ix2 (row t r) k) := by
  blk_point [iblk, V, idx t]

theorem blk_others (c : Dev nD) (t : Fin cfg0.N) (j : Fin 3) (r : Fin 176) (k : Fin 2048) :
    (iblk m c 1 t : FVec Ideal S3x176x2048 .bf16) (ix3 j r k) = (m ((c.tc : Thread nD τ).loc main_arg1) : FVec Ideal S3x704x2048 .bf16) (ix3 j (row t r) k) := by
  blk_point [iblk, V, idx t]

theorem emb_2 (t : Fin cfg0.N) (G : FVec Ideal S704x2048 .f32) (r : Fin 176) (k : Fin 2048) :
    G (((win0 2).blk t).view.emb (ix2 r k)) = G (ix2 (row t r) k) := by
  blk_point [idx t]

/-- The result array after the run is the reference's. -/
theorem final_2 (c : Dev nD) :
    (dats m 0 c).arrAt 2 (cfgs 0).N = TOTAL (m ((c.tc : Thread nD τ).loc main_arg0)) (m ((c.tc : Thread nD τ).loc main_arg1)) := by
  refine (dats m 0 c).arrAt_eq_of_covers 2 _ (by decide +kernel) fun t hf y => ?_
  blk_simp; rw [after0_2]
  idx_vars y
  refine Eq.trans ?_ (emb_2 t _ y0 y1).symm
  refine (out_at _ _ y0 y1).trans ?_
  rw [TOTAL_at, blk_own, blk_others, blk_others, blk_others]

end

/-- The program terminates and leaves its arguments unchanged, over machine words. -/
theorem frame : Cert.quiescent_ChipDown := fun m ρ _ => Cert.ChipDown.Gen.frame m ρ

/-- The same over the extended reals. -/
theorem frameIdeal : Cert.quiescent_ChipDownIdeal := fun m ρ _ => Cert.ChipDownIdeal.Gen.frame m ρ

/-- The reference terminates and leaves its arguments unchanged. -/
theorem frameReference : Cert.quiescent_ChipDownReferenceIdeal := by
  intro m g _
  exact (θ_run _ _ _).mono (fun r h => ⟨fun c => (h c).2, sem_eq_zero_of_no_sems rfl _⟩)
    (Cert.ChipDownReferenceIdeal.Value.run m g)

/-- Over the extended reals the kernel returns what the reference returns. -/
theorem algebraic : Cert.algebraic_ChipDownIdeal_ChipDownReferenceIdeal := by
  pair_intro
  · run_from Cert.ChipDownIdeal.Gen.run_main m g
  · hlo_run
    · exact (final_2 m c).symm

end Cert.ChipDownValue

end
-- ==== Proof.SsdSkipPay.lean ====
/- The gradient of the state-space scan's skip: what one chunk adds to it. -/
module

public import proofs.«01_k».proof.Proof.Gen.SsdSkipIdeal.Skeleton
public import proofs.«01_k».proof.Proof.Reals
public import Idealize.ShloMosaic.Lib.Pointwise

@[expose] public section

set_option maxRecDepth 16384

noncomputable section

open Idealize.ShloMosaic Idealize.ShloMosaic.TcCoe Idealize.SL.Sem
open Cert.Reals
open scoped BigOperators

namespace Cert.SsdSkipPay

open Cert.SsdSkipIdeal Cert.SsdSkipIdeal.Gen

/-- The row totals of two tiles' product, in every column. -/
abbrev ROWT (x dy : FVec Ideal S128x64 .f32) : FVec Ideal S128x128 .f32 := k0_pay283 (F := Ideal) x dy

/-- A real number less itself is zero. -/
theorem sub_self_real {x : EReal} (h : IsReal x) : x - x = 0 := by
  obtain ⟨r, rfl⟩ := h
  rw [← EReal.coe_sub, sub_self, EReal.coe_zero]

/-- A row total of finite products is their sum over the columns. -/
theorem ROWT_at (x dy : FVec Ideal S128x64 .f32) (l n : Fin 128) (h : ∀ p : Fin 64, IsReal (dy (ix2 l p) * x (ix2 l p))) :
    (ROWT x dy (ix2 l n) : EReal) = ∑ p : Fin 64, dy (ix2 l p) * x (ix2 l p) := by
  have e : (ROWT x dy (ix2 l n) : EReal) = (∑ p : Fin 64, dy (ix2 l p) * x (ix2 l p) * 1)
      + ∑ p : Fin 64, (dy (ix2 l p) * x (ix2 l p) - dy (ix2 l p) * x (ix2 l p)) * 1 := by
    pointwise [k0_pay283]
  rw [e, Finset.sum_eq_zero (s := Finset.univ) (f := fun p : Fin 64 => (dy (ix2 l p) * x (ix2 l p) - dy (ix2 l p) * x (ix2 l p)) * 1)
    (fun p _ => by rw [sub_self_real (h p), zero_mul]), add_zero]
  simp only [mul_one]

/-- The step of a running row of head totals: lane `e` gains the total of the rows. -/
def HEAD (e : BitVec 32) (r : FVec Ideal S128x128 .f32) (acc : FVec Ideal S1x128 .f32) : FVec Ideal S1x128 .f32 :=
  addf acc (select (cmpi .eq (iota .tc S1x128 32 [1] iota_S1x128_d1_w32) (broadcast S1x128 e))
    (shapeCast S1x128 (multiReduction .add [0] S128 r 0x00000000#32 reduces_S128x128_S128 (.inl rfl) rfl) shapeCasts_S128_S1x128)
    (broadcast S1x128 (Scalar.ofBits .f32 0x00000000#32)))

/-- At lane `e` the step adds the total of the rows, elsewhere nothing. -/
theorem HEAD_at (e : BitVec 32) (r : FVec Ideal S128x128 .f32) (acc : FVec Ideal S1x128 .f32) (k : Fin 128) :
    (HEAD e r acc (ix2 0 k) : EReal) = acc (ix2 0 k) + if BitVec.ofNat 32 k.val = e then ∑ l : Fin 128, r (ix2 l k) else 0 := by
  pointwise [HEAD]
  by_cases h : BitVec.ofNat 32 k.val = e
  · simp [h, IntOp.cmpi, Scalar.select]
  · have hb : (BitVec.ofNat 32 k.val == e) = false := beq_eq_false_iff_ne.2 h
    simp [h, hb, IntOp.cmpi, Scalar.select]

/-- Head `i`'s tile of a chunk. -/
abbrev TILE (o : ℕ) (v : FVec Ideal S128x512 .f32) (h : S128x512.Slices ![0, o] S128x64) : FVec Ideal S128x64 .f32 :=
  extractStridedSlice S128x64 ![0, o] v h

/-- The chunk's row of head totals. -/
def DD (x dy : FVec Ideal S128x512 .f32) : FVec Ideal S1x128 .f32 :=
  HEAD 7#32 (ROWT (TILE 448 x slices_S128x512_o0_448_S128x64) (TILE 448 dy slices_S128x512_o0_448_S128x64))
  (HEAD 6#32 (ROWT (TILE 384 x slices_S128x512_o0_384_S128x64) (TILE 384 dy slices_S128x512_o0_384_S128x64))
  (HEAD 5#32 (ROWT (TILE 320 x slices_S128x512_o0_320_S128x64) (TILE 320 dy slices_S128x512_o0_320_S128x64))
  (HEAD 4#32 (ROWT (TILE 256 x slices_S128x512_o0_256_S128x64) (TILE 256 dy slices_S128x512_o0_256_S128x64))
  (HEAD 3#32 (ROWT (TILE 192 x slices_S128x512_o0_192_S128x64) (TILE 192 dy slices_S128x512_o0_192_S128x64))
  (HEAD 2#32 (ROWT (TILE 128 x slices_S128x512_o0_128_S128x64) (TILE 128 dy slices_S128x512_o0_128_S128x64))
  (HEAD 1#32 (ROWT (TILE 64 x slices_S128x512_o0_64_S128x64) (TILE 64 dy slices_S128x512_o0_64_S128x64))
  (HEAD 0#32 (ROWT (TILE 0 x slices_S128x512_o0_0_S128x64) (TILE 0 dy slices_S128x512_o0_0_S128x64))
  (broadcast S1x128 (Scalar.ofBits .f32 0x00000000#32)))))))))

/-- The total of a head's columns of a chunk. -/
def tot (x dy : FVec Ideal S128x512 .f32) (i : Fin 8) : EReal :=
  ∑ l : Fin 128, ∑ p : Fin 64, dy (ix2 l ⟨64 * i.val + p.val, by omega⟩) * x (ix2 l ⟨64 * i.val + p.val, by omega⟩)

/-- The total of a head's row totals is the total of its columns of the chunk. -/
theorem head_tot (x dy : FVec Ideal S128x512 .f32) (h : ∀ l k, IsReal (dy (ix2 l k) * x (ix2 l k))) (k : Fin 128) (i : Fin 8) (o : ℕ)
    (ho : o = 64 * i.val) (hs : S128x512.Slices ![0, o] S128x64) :
    (∑ l : Fin 128, (ROWT (TILE o x hs) (TILE o dy hs) (ix2 l k) : EReal)) = tot x dy i := by
  subst ho
  have e : ∀ (v : FVec Ideal S128x512 .f32) (l : Fin 128) (p : Fin 64), (TILE (64 * i.val) v hs (ix2 l p) : EReal) = v (ix2 l ⟨64 * i.val + p.val, by omega⟩) := by
    intro v l p
    pointwise []
  unfold tot
  refine Finset.sum_congr rfl fun l _ => ?_
  rw [ROWT_at _ _ _ _ (fun p => by rw [e, e]; exact h _ _)]
  simp only [e]

/-- A head's lane of the chunk's row. -/
theorem DD_at (x dy : FVec Ideal S128x512 .f32) (h : ∀ l k, IsReal (dy (ix2 l k) * x (ix2 l k))) (i : Fin 8) :
    (DD x dy (ix2 0 ⟨i.val, by omega⟩) : EReal) = tot x dy i := by
  unfold DD
  simp only [HEAD_at]
  rw [head_tot x dy h _ 7 448 rfl, head_tot x dy h _ 6 384 rfl, head_tot x dy h _ 5 320 rfl, head_tot x dy h _ 4 256 rfl,
    head_tot x dy h _ 3 192 rfl, head_tot x dy h _ 2 128 rfl, head_tot x dy h _ 1 64 rfl, head_tot x dy h _ 0 0 rfl]
  have z : ((broadcast S1x128 (Scalar.ofBits .f32 0x00000000#32) : FVec Ideal S1x128 .f32) (ix2 0 ⟨i.val, by omega⟩) : EReal) = 0 := by pointwise []
  rw [z]
  fin_cases i <;> simp

end Cert.SsdSkipPay

end
-- ==== Proof.SsdSkipRef.lean ====
/- The gradient of the state-space scan's skip: the reference's result at a head. -/
module

public import proofs.«01_k».proof.Proof.Gen.SsdSkipReferenceIdeal.Run
public import Idealize.ShloMosaic.Lib.Pointwise

@[expose] public section

set_option maxRecDepth 16384

noncomputable section

open Idealize.ShloMosaic Idealize.ShloMosaic.TcCoe Idealize.SL.Sem
open scoped BigOperators

namespace Cert.SsdSkipRef

open Cert.SsdSkipReferenceIdeal Cert.SsdSkipReferenceIdeal.Gen

/-- The products of the scan's input and the cotangent. -/
def PROD (x : FVec Ideal S2x2048x1536 .f32) (dy : FVec Ideal S2x2048x1024 .f32) : FVec Ideal S2x2048x16x64 .f32 :=
  mulf (shapeCast S2x2048x16x64 (extractStridedSlice S2x2048x1024 ![0, 0, 0] x slices_S2x2048x1536_S2x2048x1024_0_0_0) shapeCasts_S2x2048x1024_S2x2048x16x64) (shapeCast S2x2048x16x64 dy shapeCasts_S2x2048x1024_S2x2048x16x64)

/-- Their sum over every position and every column of a head. -/
def SUM (v : FVec Ideal S2x2048x16x64 .f32) : FVec Ideal S16 .f32 :=
  Host.reduceAdd v (constant S_ .f32 0x00000000#32) reducesTo_S2x2048x16x64_S16_d0_1_3 h_S_

/-- A sum over axes of extent one. -/
def ONE3 (y : FVec Ideal S16 .f32) : FVec Ideal S16 .f32 :=
  Host.reduceAdd (shapeCast S1x1x16x1 y shapeCasts_S16_S1x1x16x1) (constant S_ .f32 0x00000000#32) reducesTo_S1x1x16x1_S16_d0_1_3 h_S_

/-- A sum over an axis of extent one. -/
def ONE1 (y : FVec Ideal S16 .f32) : FVec Ideal S16 .f32 :=
  Host.reduceAdd (broadcastInDim S16x1 ![0] bcast_S16_S16x1_0 y) (constant S_ .f32 0x00000000#32) reducesTo_S16x1_S16_d1 h_S_

/-- The reference's result, from the scan's input and the cotangent. -/
def REF (x : FVec Ideal S2x2048x1536 .f32) (dy : FVec Ideal S2x2048x1024 .f32) : FVec Ideal S16 .f32 := ONE1 (ONE3 (SUM (PROD x dy)))

/-- A sum over all axes of four but the third, at an index of the third. -/
theorem sum_but_third {n0 n1 n2 n3 : ℕ} (h : (⟨4, ![n0, n1, n2, n3]⟩ : Shape).ReducesTo [0, 1, 3] ⟨1, ![n2]⟩)
    (v : (⟨4, ![n0, n1, n2, n3]⟩ : Shape).Idx → EReal) (a : EReal) (l : Fin n2) :
    Ideal.hostReduceAdd h v a (ix1 l) = a + ∑ p : Fin n0, ∑ q : Fin n1, ∑ r : Fin n3, v (ix4 p q l r) := by
  refine congrArg (a + ·) ((Finset.sum_filter_eq_sum_of_fiber _ (fun k : Fin n0 × Fin n1 × Fin n3 => ix4 k.1 k.2.1 l k.2.2)
    (fun _ _ e => Prod.ext (congrFun e 0) (Prod.ext (congrFun e 1) (congrFun e 3))) (fun i => ?_) v).trans
    ((Fintype.sum_prod_type _).trans (Finset.sum_congr rfl fun _ _ => Fintype.sum_prod_type _)))
  constructor
  · intro e
    refine ⟨(i 0, i 1, i 3), ?_⟩
    funext a
    apply Fin.ext
    match a with
    | ⟨0, _⟩ => rfl
    | ⟨1, _⟩ => rfl
    | ⟨2, _⟩ => exact (congrArg Fin.val (congrFun e 0)).symm
    | ⟨3, _⟩ => rfl
  · rintro ⟨k, rfl⟩
    funext b
    apply Fin.ext
    match b with
    | ⟨0, _⟩ => rfl

/-- A product at its indices: the cotangent and the input at the head's column. -/
theorem PROD_at (x : FVec Ideal S2x2048x1536 .f32) (dy : FVec Ideal S2x2048x1024 .f32) (b : Fin 2) (s : Fin 2048) (h : Fin 16) (p : Fin 64) :
    (PROD x dy (ix4 b s h p) : EReal) = x (ix3 b s ⟨64 * h.val + p.val, by omega⟩) * dy (ix3 b s ⟨64 * h.val + p.val, by omega⟩) := by
  simp only [Nat.mul_comm 64 h.val]
  pointwise [PROD]

/-- The sum at a head. -/
theorem SUM_at (v : FVec Ideal S2x2048x16x64 .f32) (h : Fin 16) :
    (SUM v (ix1 h) : EReal) = ∑ b : Fin 2, ∑ s : Fin 2048, ∑ p : Fin 64, v (ix4 b s h p) := by
  have e : (SUM v (ix1 h) : EReal) = Ideal.hostReduceAdd reducesTo_S2x2048x16x64_S16_d0_1_3 v 0 (ix1 h) := by
    pointwise [SUM]
  rw [e, sum_but_third, zero_add]

/-- It changes nothing. -/
theorem ONE3_at (y : FVec Ideal S16 .f32) (h : Fin 16) : (ONE3 y (ix1 h) : EReal) = y (ix1 h) := by
  have e : (ONE3 y (ix1 h) : EReal) = Ideal.hostReduceAdd reducesTo_S1x1x16x1_S16_d0_1_3 (shapeCast S1x1x16x1 y shapeCasts_S16_S1x1x16x1) 0 (ix1 h) := by
    pointwise [ONE3]
  rw [e, sum_but_third]
  simp only [Finset.univ_unique, Finset.sum_singleton, zero_add]
  pointwise []

/-- It changes nothing. -/
theorem ONE1_at (y : FVec Ideal S16 .f32) (h : Fin 16) : (ONE1 y (ix1 h) : EReal) = y (ix1 h) := by
  pointwise [ONE1]
  simp

/-- The reference's result at a head: the sum over sequences, positions and columns. -/
theorem REF_at (x : FVec Ideal S2x2048x1536 .f32) (dy : FVec Ideal S2x2048x1024 .f32) (h : Fin 16) :
    (REF x dy (ix1 h) : EReal) = ∑ b : Fin 2, ∑ s : Fin 2048, ∑ p : Fin 64,
      x (ix3 b s ⟨64 * h.val + p.val, by omega⟩) * dy (ix3 b s ⟨64 * h.val + p.val, by omega⟩) := by
  unfold REF
  rw [ONE1_at, ONE3_at, SUM_at]
  simp only [PROD_at]

end Cert.SsdSkipRef

end
-- ==== Proof.SsdSkip.lean ====
/- The gradient of the state-space scan's skip: what the kernel's array of head totals holds after the run, and its result. -/
module

public import proofs.«01_k».proof.Defs
public import proofs.«01_k».proof.Proof.Gen.Pre_ssd_skip_finite
public import proofs.«01_k».proof.Proof.Gen.SsdSkip.Frame
public import proofs.«01_k».proof.Proof.Gen.SsdSkipIdeal.Frame
public import proofs.«01_k».proof.Proof.SsdSkipPay
public import proofs.«01_k».proof.Proof.SsdSkipRef
public import Idealize.ShloMosaic.Lib.StableHlo.RunLoop
public import Idealize.ShloMosaic.Lib.StableHlo.RunRead
public import Idealize.ShloMosaic.Lib.Claim
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals Cert.SsdSkipPay
open scoped BigOperators

namespace Cert.SsdSkipValue

section
open Cert.SsdSkipIdeal Cert.SsdSkipIdeal.Gen

variable (m : (ℓ : Loc nD τ sig) → Buf (Elt Ideal) ℓ)

/-- The block index of the scan's input, of the cotangent and of the head totals at every grid point. -/
theorem idx : ∀ t : Fin cfg0.N, win0_0.index t = ![t.val / 32, 15 - t.val % 16, t.val / 16 % 2]
    ∧ win0_8.index t = ![t.val / 32, 15 - t.val % 16, t.val / 16 % 2]
    ∧ win0_13.index t = ![t.val / 32, t.val / 16 % 2, 0, 0] :=
  (by decide +kernel : ∀ t : Fin grid0.N, _)

/-- The scan's input. -/
abbrev X (c : Dev nD) : FVec Ideal S2x2048x1536 .f32 := m ((c.tc : Thread nD τ).loc main_arg0)

/-- The cotangent. -/
abbrev DY (c : Dev nD) : FVec Ideal S2x2048x1024 .f32 := m ((c.tc : Thread nD τ).loc main_arg6)

/-- A grid point's sequence. -/
abbrev tb (t : Fin cfg0.N) : Fin 2 := ⟨t.val / 32, by have h : t.val < 64 := t.isLt; omega⟩

/-- A row of a grid point's chunk; the chunks are taken from the last. -/
abbrev trow (t : Fin cfg0.N) (l : Fin 128) : Fin 2048 := ⟨(15 - t.val % 16) * 128 + l.val, by omega⟩

/-- A column of a grid point's group. -/
abbrev tcol (t : Fin cfg0.N) (k : Fin 512) : Fin 1024 := ⟨t.val / 16 % 2 * 512 + k.val, by omega⟩

/-- The block of the scan's input at a grid point. -/
theorem blk_x (c : Dev nD) (t : Fin cfg0.N) (l : Fin 128) (k : Fin 512) :
    (k0_pay14 (F := Ideal) (iblk m c 0 t) (ix2 l k) : EReal) = X m c (ix3 (tb t) (trow t l) ⟨(tcol t k).val, by omega⟩) := by
  have e : (k0_pay14 (F := Ideal) (iblk m c 0 t) (ix2 l k) : EReal) = (iblk m c 0 t : FVec Ideal S1x128x512 .f32) (ix3 0 l k) := by
    pointwise [k0_pay14]
  rw [e]
  blk_point [iblk, V, idx t]

/-- The block of the cotangent at a grid point. -/
theorem blk_dy (c : Dev nD) (t : Fin cfg0.N) (l : Fin 128) (k : Fin 512) :
    (k0_pay15 (F := Ideal) (iblk m c 8 t) (ix2 l k) : EReal) = DY m c (ix3 (tb t) (trow t l) (tcol t k)) := by
  have e : (k0_pay15 (F := Ideal) (iblk m c 8 t) (ix2 l k) : EReal) = (iblk m c 8 t : FVec Ideal S1x128x512 .f32) (ix3 0 l k) := by
    pointwise [k0_pay15]
  rw [e]
  blk_point [iblk, V, idx t]

/-- Where a block of head totals lies in the array. -/
theorem emb_13 (t : Fin cfg0.N) (G : FVec Ideal S2x2x8x128 .f32) (r : Fin 8) (k : Fin 128) :
    G (((win0 13).blk t).view.emb (ix4 0 0 r k)) = G (ix4 (tb t) ⟨t.val / 16 % 2, by omega⟩ r k) := by
  blk_point [idx t]

/-- The head totals a grid point adds. -/
abbrev DDK (c : Dev nD) (t : Fin cfg0.N) : FVec Ideal S1x128 .f32 :=
  DD (k0_pay14 (F := Ideal) (iblk m c 0 t)) (k0_pay15 (F := Ideal) (iblk m c 8 t))

/-- A list of stores ending in one of row 2, read at that row. -/
theorem canon_top (inb : ∀ a, (![0, 0, 2, 0] : Fin 4 → ℕ) a + S1x1x1x128.size a ≤ S1x1x8x128.size a)
    (w : S1x1x1x128.Idx → EReal) (L : List (View.Piece (Elt Ideal) S1x1x8x128 .f32)) (k : Fin 128) :
    View.canon ((⟨Rect.unit (s := S1x1x8x128) ![0, 0, 2, 0] S1x1x1x128.size inb, w⟩ : View.Piece (Elt Ideal) S1x1x8x128 .f32) :: L) (ix4 0 0 2 k)
      = w (ix4 0 0 0 k) := by
  have e : (Rect.unit (s := S1x1x8x128) ![0, 0, 2, 0] S1x1x1x128.size inb).emb (ix4 0 0 0 k) = ix4 0 0 2 k := by
    funext a
    apply Fin.ext
    refine (Rect.idx_unit_val _ _ _ _ a).trans ?_
    fin_cases a <;> simp [ix4]
  rw [← e, View.canon_cons_emb]

/-- The same over contents not wholly overwritten. -/
theorem read_top (v : View sig .tc .vmem S1x1x8x128 .f32) (f : v.ty.Contents (Elt Ideal))
    (inb : ∀ a, (![0, 0, 2, 0] : Fin 4 → ℕ) a + S1x1x1x128.size a ≤ S1x1x8x128.size a)
    (w : S1x1x1x128.Idx → EReal) (L : List (View.Piece (Elt Ideal) S1x1x8x128 .f32)) (k : Fin 128) :
    v.read (Elt Ideal) (v.writes (Elt Ideal) f ((⟨Rect.unit (s := S1x1x8x128) ![0, 0, 2, 0] S1x1x1x128.size inb, w⟩ : View.Piece (Elt Ideal) S1x1x8x128 .f32) :: L)) (ix4 0 0 2 k)
      = w (ix4 0 0 0 k) := by
  have e : (Rect.unit (s := S1x1x8x128) ![0, 0, 2, 0] S1x1x1x128.size inb).emb (ix4 0 0 0 k) = ix4 0 0 2 k := by
    funext a
    apply Fin.ext
    refine (Rect.idx_unit_val _ _ _ _ a).trans ?_
    fin_cases a <;> simp [ix4]
  exact (congrArg (v.read (Elt Ideal) _) e.symm).trans (View.read_writes_cons_emb v f (Rect.unit (s := S1x1x8x128) ![0, 0, 2, 0] S1x1x1x128.size inb) w L (ix4 0 0 0 k))

/-- The stored row is the row read plus the chunk's. -/
theorem pay1_at (v : FVec Ideal S1x128 .f32) (acc : FVec Ideal S1x1x1x128 .f32) (k : Fin 128) :
    (k0_pay1 (F := Ideal) v acc (ix4 0 0 0 k) : EReal) = acc (ix4 0 0 0 k) + v (ix2 0 k) := by
  pointwise [k0_pay1]

/-- Row 2 of a block of head totals. -/
theorem ld_row (B : FVec Ideal S1x1x8x128 .f32) (inb : ∀ a, (![0, 0, 2, 0] : Fin 4 → ℕ) a + S1x1x1x128.size a ≤ S1x1x8x128.size a) (k : Fin 128) :
    View.ld (S := S1x1x8x128) (Val := Elt Ideal) (e' := .f32) B (Rect.unit (s := S1x1x8x128) ![0, 0, 2, 0] S1x1x1x128.size inb) (ix4 0 0 0 k) = B (ix4 0 0 2 k) := by
  refine View.ld_unit_apply_of _ _ _ _ _ _ fun a => ?_
  fin_cases a <;> simp [ix4]

/-- After a sequence's first grid point, row 2 holds that chunk's totals. -/
theorem first (c : Dev nD) (t : Fin cfg0.N) (h : t.val % 16 = 0) (k : Fin 128) :
    ((outsAt0 m c t.val t.isLt).2.2.2.2.1 : FVec Ideal S1x1x8x128 .f32) (ix4 0 0 2 k) = 0 + DDK m c t (ix2 0 k) := by
  rw [outsAt0_A m c t h]; frame_out
  refine (canon_top _ _ _ k).trans ((pay1_at _ _ k).trans (congrArg₂ (· + ·) ?_ (congrFun ?_ _)))
  · rw [View.readCov_skip _ _ _ _ _ (by decide +kernel), View.readCov_skip _ _ _ _ _ (by decide +kernel), View.readCov_fill _ _ _ _ _ (by decide +kernel)]
    pointwise [k0_pay3]
  · sl_kernel_rfl

/-- After any other grid point, row 2 holds what it held and the chunk's totals. -/
theorem next (c : Dev nD) (t : Fin cfg0.N) (h : ¬ t.val % 16 = 0) (k : Fin 128) :
    ((outsAt0 m c t.val t.isLt).2.2.2.2.1 : FVec Ideal S1x1x8x128 .f32) (ix4 0 0 2 k)
      = ((outsAt0 m c (t.val - 1) (Nat.lt_of_le_of_lt (Nat.sub_le _ _) t.isLt)).2.2.2.2.1 : FVec Ideal S1x1x8x128 .f32) (ix4 0 0 2 k) + DDK m c t (ix2 0 k) := by
  rw [outsAt0_B m c t h]; frame_out
  refine (read_top _ _ _ _ _ k).trans ((pay1_at _ _ k).trans (congrArg₂ (· + ·) (ld_row _ _ k) (congrFun ?_ _)))
  sl_kernel_rfl

/-- A grid point's head totals, where the arguments are finite. -/
theorem DDK_at (c : Dev nD) (hx : ∀ b s (k : Fin 1024), IsReal (X m c (ix3 b s ⟨k.val, by omega⟩))) (hy : ∀ i, IsReal (DY m c i))
    (t : Fin cfg0.N) (i : Fin 8) :
    (DDK m c t (ix2 0 ⟨i.val, by omega⟩) : EReal) = ∑ l : Fin 128, ∑ p : Fin 64,
      DY m c (ix3 (tb t) (trow t l) (tcol t ⟨64 * i.val + p.val, by omega⟩))
        * X m c (ix3 (tb t) (trow t l) ⟨(tcol t ⟨64 * i.val + p.val, by omega⟩).val, by omega⟩) := by
  refine (DD_at _ _ (fun l k => ?_) i).trans ?_
  · rw [blk_x, blk_dy]
    exact (hy _).mul (hx _ _ _)
  · unfold tot
    simp only [blk_x, blk_dy]

/-- The last grid point of a sequence and a group. -/
abbrev last (b g : Fin 2) : Fin cfg0.N := ⟨32 * b.val + 16 * g.val + 15, by show _ < 64; omega⟩

/-- The array of head totals: each block as its last grid point leaves it. -/
def HT (c : Dev nD) : FVec Ideal S2x2x8x128 .f32 := fun j =>
  ((outsAt0 m c (last (j 0) (j 1)).val (last (j 0) (j 1)).isLt).2.2.2.2.1 : FVec Ideal S1x1x8x128 .f32) (ix4 0 0 (j 2) (j 3))

/-- The array of head totals after the grid. -/
theorem final_13 (c : Dev nD) : (dats m 0 c).arrAt 13 (cfgs 0).N = HT m c := by
  refine (dats m 0 c).arrAt_eq_of_covers 13 _ (by decide +kernel) fun t hf y => ?_
  blk_simp; rw [after0_13]
  idx_vars y
  obtain rfl : 0 = y0 := Subsingleton.elim _ _
  obtain rfl : 0 = y1 := Subsingleton.elim _ _
  refine Eq.trans ?_ (emb_13 t _ y2 y3).symm
  have hm : t.val % 16 = 15 := (flush0_13 t).mp hf
  have e : last (tb t) ⟨t.val / 16 % 2, by omega⟩ = t := Fin.ext (by show 32 * (t.val / 32) + 16 * (t.val / 16 % 2) + 15 = t.val; omega)
  show _ = ((outsAt0 m c (last (tb t) ⟨t.val / 16 % 2, _⟩).val (last (tb t) ⟨t.val / 16 % 2, _⟩).isLt).2.2.2.2.1 : FVec Ideal S1x1x8x128 .f32) (ix4 0 0 y2 y3)
  rw [e]

/-- A head's total over a sequence: the chunks' totals added up. -/
theorem HT_at (c : Dev nD) (hx : ∀ b s (k : Fin 1024), IsReal (X m c (ix3 b s ⟨k.val, by omega⟩))) (hy : ∀ i, IsReal (DY m c i))
    (b g : Fin 2) (i : Fin 8) :
    (HT m c (ix4 b g 2 ⟨i.val, by omega⟩) : EReal) = ∑ q : Fin 16, ∑ l : Fin 128, ∑ p : Fin 64,
      DY m c (ix3 b ⟨(15 - q.val) * 128 + l.val, by omega⟩ ⟨512 * g.val + 64 * i.val + p.val, by omega⟩)
        * X m c (ix3 b ⟨(15 - q.val) * 128 + l.val, by omega⟩ ⟨512 * g.val + 64 * i.val + p.val, by omega⟩) := by
  have hm : (last b g).val % 16 = 15 := by show (32 * b.val + 16 * g.val + 15) % 16 = 15; omega
  refine (Pipeline.eq_sum_fin_of_reset_step_apply_of_flush
    (fun n h (k : Fin 128) => ((outsAt0 m c n h).2.2.2.2.1 : FVec Ideal S1x1x8x128 .f32) (ix4 0 0 2 k)) 16 (fun _ => 0) (fun t k => DDK m c t (ix2 0 k))
    (first m c) (next m c) (last b g) hm ⟨i.val, by omega⟩).trans ?_
  rw [zero_add]
  refine Finset.sum_congr rfl fun q _ => ?_
  have hq := Pipeline.run_point_lt_of_flush (last b g) hm q
  refine (DDK_at m c hx hy ⟨16 * ((last b g).val / 16) + q.val, hq⟩ i).trans ?_
  have hl : (last b g).val = 32 * b.val + 16 * g.val + 15 := rfl
  have e1 : tb ⟨16 * ((last b g).val / 16) + q.val, hq⟩ = b := Fin.ext (by show (16 * ((last b g).val / 16) + q.val) / 32 = b.val; omega)
  refine Finset.sum_congr rfl fun l _ => Finset.sum_congr rfl fun p _ => ?_
  have e2 : trow ⟨16 * ((last b g).val / 16) + q.val, hq⟩ l = ⟨(15 - q.val) * 128 + l.val, by omega⟩ :=
    Fin.ext (by show (15 - (16 * ((last b g).val / 16) + q.val) % 16) * 128 + l.val = (15 - q.val) * 128 + l.val; omega)
  have e3 : tcol ⟨16 * ((last b g).val / 16) + q.val, hq⟩ ⟨64 * i.val + p.val, by omega⟩ = ⟨512 * g.val + 64 * i.val + p.val, by omega⟩ :=
    Fin.ext (by show (16 * ((last b g).val / 16) + q.val) / 16 % 2 * 512 + (64 * i.val + p.val) = 512 * g.val + 64 * i.val + p.val; omega)
  have e4 : (16 * ((32 * b.val + 16 * g.val + 15) / 16) + q.val) / 16 % 2 * 512 + (64 * i.val + p.val) = 512 * g.val + 64 * i.val + p.val := by omega
  simp only [e1, e2, e3, e4]

/-- The host's lines after the call: the totals of both sequences added, row 2, the heads in order. -/
def TAIL (A : FVec Ideal S2x2x8x128 .f32) : FVec Ideal S16 .f32 :=
  shapeCast S16 (shapeCast S2x8 (extractStridedSlice S2x1x8 ![0, 2, 0]
    (Host.reduceAdd A (constant S_ .f32 0x00000000#32) reducesTo_S2x2x8x128_S2x8x128_d0 h_S_) slices_S2x8x128_S2x1x8_0_2_0) shapeCasts_S2x1x8_S2x8) shapeCasts_S2x8_S16

/-- The host's lines at a head: the sum of the two sequences' totals. -/
theorem TAIL_at (A : FVec Ideal S2x2x8x128 .f32) (g : Fin 2) (i : Fin 8) :
    (TAIL A (ix1 ⟨8 * g.val + i.val, by omega⟩) : EReal) = ∑ b : Fin 2, A (ix4 b g 2 ⟨i.val, by omega⟩) := by
  have e1 : (8 * g.val + i.val) / 8 = g.val := by omega
  have e2 : (8 * g.val + i.val) % 8 = i.val := by omega
  pointwise [TAIL]

/-- A sum over the rows of a sequence, chunk by chunk from the last. -/
theorem sum_chunks (f : Fin 2048 → EReal) : ∑ s, f s = ∑ q : Fin 16, ∑ l : Fin 128, f ⟨(15 - q.val) * 128 + l.val, by omega⟩ := by
  refine ((finProdFinEquiv (m := 16) (n := 128)).sum_comp f).symm.trans ((Fintype.sum_prod_type _).trans ?_)
  refine (Equiv.sum_comp Fin.revPerm _).symm.trans (Finset.sum_congr rfl fun q _ => Finset.sum_congr rfl fun l _ => congrArg f (Fin.ext ?_))
  show l.val + 128 * (Fin.rev q).val = (15 - q.val) * 128 + l.val
  rw [Fin.val_rev]; omega

/-- The precondition at the elements: the scan's input and the cotangent hold real numbers. -/
theorem real_args (h : Cert.Pre_SsdSkipIdeal_ssd_skip_finite m) (c : Dev nD) :
    (∀ b s (k : Fin 1024), IsReal (X m c (ix3 b s ⟨k.val, by omega⟩))) ∧ ∀ i, IsReal (DY m c i) := by
  have h0 := congrFun (h c) (fun a => a.elim0)
  dsimp only [Cert.Pre_ssd_skip_finite.fn] at h0
  obtain ⟨h1, h2⟩ := IntOp.andi_eq_one.1 h0
  haveI : Subsingleton Cert.Pre_ssd_skip_finite.S_.Idx := ⟨fun a b => funext fun k => k.elim0⟩
  refine ⟨fun b s k => ?_, fun i => isReal_of_all _ _ (fun _ => ofBits_inf) _ _ _ _ h2 i⟩
  have h3 := isReal_of_all _ _ (fun _ => ofBits_inf) _ _ _ _ h1 (ix3 b s k)
  refine (congrArg IsReal ?_).mp h3
  pointwise []

/-- The result of the host's lines after the call. -/
theorem tail_at (c : Dev nD) : Pipeline.afterTail₀ cfgs (dats m) 0 (V0 m) [hostOps1] c main_v19 = TAIL ((dats m 0 c).arrAt 13 (cfgs 0).N) := by
  unfold Pipeline.afterTail₀
  simp only [← StableHlo.afterL_eq_after_flatten, StableHlo.afterL_cons, StableHlo.afterL_nil]
  after_reads_simp
  exact congrArg TAIL (Dat.withArrays_arrAt (dats m 0 c) sharedIn0 _ (A_eq m c) 13)

/-- The kernel's result is the reference's. -/
theorem result (h : Cert.Pre_SsdSkipIdeal_ssd_skip_finite m) (c : Dev nD) :
    TAIL (HT m c) = Cert.SsdSkipRef.REF (X m c) (DY m c) := by
  obtain ⟨hx, hy⟩ := real_args m h c
  funext j
  idx_vars j
  obtain ⟨g, i, rfl⟩ : ∃ (g : Fin 2) (i : Fin 8), (⟨8 * g.val + i.val, by omega⟩ : Fin 16) = j0 :=
    ⟨⟨j0.val / 8, by omega⟩, ⟨j0.val % 8, by omega⟩, Fin.ext (by show 8 * (j0.val / 8) + j0.val % 8 = j0.val; omega)⟩
  refine (TAIL_at _ g i).trans (Eq.trans ?_ (Cert.SsdSkipRef.REF_at _ _ _).symm)
  refine Finset.sum_congr rfl fun b _ => ?_
  rw [HT_at m c hx hy, sum_chunks]
  refine Finset.sum_congr rfl fun q _ => Finset.sum_congr rfl fun l _ => Finset.sum_congr rfl fun p _ => ?_
  have e : 64 * (8 * g.val + i.val) + p.val = 512 * g.val + 64 * i.val + p.val := by omega
  rw [mul_comm]
  simp only [e]

end

/-- The program terminates and leaves its arguments unchanged, over machine words. -/
theorem frame : Cert.quiescent_SsdSkip := fun m ρ _ => Cert.SsdSkip.Gen.frame m ρ

/-- The same over the extended reals. -/
theorem frameIdeal : Cert.quiescent_SsdSkipIdeal := fun m ρ _ => Cert.SsdSkipIdeal.Gen.frame m ρ

/-- The reference terminates and leaves its arguments unchanged. -/
theorem frameReference : Cert.quiescent_SsdSkipReferenceIdeal := by
  intro m g _
  exact (θ_run _ _ _).mono (fun r h => ⟨fun c => (h c).2, sem_eq_zero_of_no_sems rfl _⟩)
    (Cert.SsdSkipReferenceIdeal.Value.run m g)

set_option maxHeartbeats 1600000 in
/-- Over the extended reals the kernel returns the gradient the reference returns, where the scan's input and the cotangent are finite. -/
theorem algebraic : Cert.algebraic_SsdSkipIdeal_SsdSkipReferenceIdeal_pre_ssd_skip_finite := by
  pair_intro
  · run_from Cert.SsdSkipIdeal.Gen.run_main m g
    all_goals first
      | exact Cert.SsdSkipIdeal.Gen.W_main_arg1 m (Cert.SsdSkipIdeal.Gen.dats m) _
      | exact Cert.SsdSkipIdeal.Gen.W_main_arg2 m (Cert.SsdSkipIdeal.Gen.dats m) _
      | exact Cert.SsdSkipIdeal.Gen.W_main_arg3 m (Cert.SsdSkipIdeal.Gen.dats m) _
      | exact Cert.SsdSkipIdeal.Gen.W_main_arg4 m (Cert.SsdSkipIdeal.Gen.dats m) _
  · hlo_run
    · exact (((tail_at m c).trans (congrArg TAIL (final_13 m c))).trans (result m hpre c)).symm

end Cert.SsdSkipValue

end
-- ==== Proof.lean ====
/- The claims of this certificate, assembled from the modules under Proof/. -/
module

public import proofs.«01_k».proof.Defs
public import proofs.«01_k».proof.Proof.Gen.Down
public import proofs.«01_k».proof.Proof.Gen.Down.Frame
public import proofs.«01_k».proof.Proof.Gen.DownIdeal.Value
public import proofs.«01_k».proof.Proof.Gen.DownReferenceIdeal.Run
public import proofs.«01_k».proof.Proof.Gen.GateUpGrad
public import proofs.«01_k».proof.Proof.Gen.GateUpGrad.Frame
public import proofs.«01_k».proof.Proof.Gen.GateUpGradIdeal.Value
public import proofs.«01_k».proof.Proof.Gen.GateUpGradReferenceIdeal.Run
public import proofs.«01_k».proof.Proof.Gen.DownWeight
public import proofs.«01_k».proof.Proof.Gen.DownWeight.Frame
public import proofs.«01_k».proof.Proof.Gen.DownWeightIdeal.Value
public import proofs.«01_k».proof.Proof.Gen.DownWeightReferenceIdeal.Run
public import proofs.«01_k».proof.Proof.Gen.GateWeight
public import proofs.«01_k».proof.Proof.Gen.GateWeight.Frame
public import proofs.«01_k».proof.Proof.Gen.GateWeightIdeal.Value
public import proofs.«01_k».proof.Proof.Gen.GateWeightReferenceIdeal.Run
public import proofs.«01_k».proof.Proof.Gen.ProjInGrad
public import proofs.«01_k».proof.Proof.Gen.ProjInGrad.Frame
public import proofs.«01_k».proof.Proof.Gen.ProjInGradIdeal.Value
public import proofs.«01_k».proof.Proof.Gen.ProjInGradReferenceIdeal.Run
public import proofs.«01_k».proof.Proof.Gen.QkvWeight
public import proofs.«01_k».proof.Proof.Gen.QkvWeight.Frame
public import proofs.«01_k».proof.Proof.Gen.QkvWeightIdeal.Value
public import proofs.«01_k».proof.Proof.Gen.QkvWeightReferenceIdeal.Run
public import proofs.«01_k».proof.Proof.Gen.ZWeight
public import proofs.«01_k».proof.Proof.Gen.ZWeight.Frame
public import proofs.«01_k».proof.Proof.Gen.ZWeightIdeal.Value
public import proofs.«01_k».proof.Proof.Gen.ZWeightReferenceIdeal.Run
public import proofs.«01_k».proof.Proof.Gen.XbcWeight
public import proofs.«01_k».proof.Proof.Gen.XbcWeight.Frame
public import proofs.«01_k».proof.Proof.Gen.XbcWeightIdeal.Value
public import proofs.«01_k».proof.Proof.Gen.XbcWeightReferenceIdeal.Run
public import proofs.«01_k».proof.Proof.Gen.DtWeight
public import proofs.«01_k».proof.Proof.Gen.DtWeight.Frame
public import proofs.«01_k».proof.Proof.Gen.DtWeightIdeal.Value
public import proofs.«01_k».proof.Proof.Gen.DtWeightReferenceIdeal.Run
public import proofs.«01_k».proof.Proof.Gen.ProjOutGrad
public import proofs.«01_k».proof.Proof.Gen.ProjOutGrad.Frame
public import proofs.«01_k».proof.Proof.Gen.ProjOutGradIdeal.Value
public import proofs.«01_k».proof.Proof.Gen.ProjOutGradReferenceIdeal.Run
public import proofs.«01_k».proof.Proof.Gen.OutWeight
public import proofs.«01_k».proof.Proof.Gen.OutWeight.Frame
public import proofs.«01_k».proof.Proof.Gen.OutWeightIdeal.Value
public import proofs.«01_k».proof.Proof.Gen.OutWeightReferenceIdeal.Run
public import proofs.«01_k».proof.Proof.Gen.ProjQkv
public import proofs.«01_k».proof.Proof.Gen.ProjQkv.Frame
public import proofs.«01_k».proof.Proof.Gen.ProjQkvIdeal.Value
public import proofs.«01_k».proof.Proof.Gen.ProjQkvReferenceIdeal.Run
public import proofs.«01_k».proof.Proof.Gen.ProjZ
public import proofs.«01_k».proof.Proof.Gen.ProjZ.Frame
public import proofs.«01_k».proof.Proof.Gen.ProjZIdeal.Value
public import proofs.«01_k».proof.Proof.Gen.ProjZReferenceIdeal.Run
public import proofs.«01_k».proof.Proof.Gen.ProjXbc
public import proofs.«01_k».proof.Proof.Gen.ProjXbc.Frame
public import proofs.«01_k».proof.Proof.Gen.ProjXbcIdeal.Value
public import proofs.«01_k».proof.Proof.Gen.ProjXbcReferenceIdeal.Run
public import proofs.«01_k».proof.Proof.Gen.ProjDt
public import proofs.«01_k».proof.Proof.Gen.ProjDt.Frame
public import proofs.«01_k».proof.Proof.Gen.ProjDtIdeal.Value
public import proofs.«01_k».proof.Proof.Gen.ProjDtReferenceIdeal.Run
public import proofs.«01_k».proof.Proof.Gen.ProjOut
public import proofs.«01_k».proof.Proof.Gen.ProjOut.Frame
public import proofs.«01_k».proof.Proof.Gen.ProjOutIdeal.Value
public import proofs.«01_k».proof.Proof.Gen.ProjOutReferenceIdeal.Run
public import proofs.«01_k».proof.Proof.Gen.GateUp
public import proofs.«01_k».proof.Proof.Gen.GateUp.Frame
public import proofs.«01_k».proof.Proof.Gen.GateUpIdeal.Value
public import proofs.«01_k».proof.Proof.Gen.GateUpReferenceIdeal.Run
public import proofs.«01_k».proof.Proof.Gen.FfnDown
public import proofs.«01_k».proof.Proof.Gen.FfnDown.Frame
public import proofs.«01_k».proof.Proof.Gen.FfnDownIdeal.Value
public import proofs.«01_k».proof.Proof.Gen.FfnDownReferenceIdeal.Run
public import proofs.«01_k».proof.Proof.Gen.Norm
public import proofs.«01_k».proof.Proof.Gen.Norm.Frame
public import proofs.«01_k».proof.Proof.Gen.NormIdeal.Value
public import proofs.«01_k».proof.Proof.Gen.NormReferenceIdeal.Run
public import proofs.«01_k».proof.Proof.Gen.Merge
public import proofs.«01_k».proof.Proof.Gen.Merge.Frame
public import proofs.«01_k».proof.Proof.Gen.MergeIdeal.Value
public import proofs.«01_k».proof.Proof.Gen.MergeReferenceIdeal.Run
public import proofs.«01_k».proof.Proof.Gen.AdamIn
public import proofs.«01_k».proof.Proof.Gen.AdamIn.Frame
public import proofs.«01_k».proof.Proof.Gen.AdamInIdeal.Value
public import proofs.«01_k».proof.Proof.Gen.AdamInReferenceIdeal.Run
public import proofs.«01_k».proof.Proof.Gen.AdamOut
public import proofs.«01_k».proof.Proof.Gen.AdamOut.Frame
public import proofs.«01_k».proof.Proof.Gen.AdamOutIdeal.Value
public import proofs.«01_k».proof.Proof.Gen.AdamOutReferenceIdeal.Run
public import proofs.«01_k».proof.Proof.Gen.AdamGate
public import proofs.«01_k».proof.Proof.Gen.AdamGate.Frame
public import proofs.«01_k».proof.Proof.Gen.AdamGateIdeal.Value
public import proofs.«01_k».proof.Proof.Gen.AdamGateReferenceIdeal.Run
public import proofs.«01_k».proof.Proof.Gen.AdamDown
public import proofs.«01_k».proof.Proof.Gen.AdamDown.Frame
public import proofs.«01_k».proof.Proof.Gen.AdamDownIdeal.Value
public import proofs.«01_k».proof.Proof.Gen.AdamDownReferenceIdeal.Run
public import proofs.«01_k».proof.Proof.Gen.AdamSmall
public import proofs.«01_k».proof.Proof.Gen.AdamSmall.Frame
public import proofs.«01_k».proof.Proof.Gen.AdamSmallIdeal.Value
public import proofs.«01_k».proof.Proof.Gen.AdamSmallReferenceIdeal.Run
public import proofs.«01_k».proof.Proof.Gen.Conv
public import proofs.«01_k».proof.Proof.Gen.Conv.Frame
public import proofs.«01_k».proof.Proof.Gen.ConvIdeal.Value
public import proofs.«01_k».proof.Proof.Gen.ConvReferenceIdeal.Run
public import proofs.«01_k».proof.Proof.Gen.NormFwd
public import proofs.«01_k».proof.Proof.Gen.NormFwd.Frame
public import proofs.«01_k».proof.Proof.Gen.NormFwdIdeal.Value
public import proofs.«01_k».proof.Proof.Gen.NormFwdReferenceIdeal.Run
public import proofs.«01_k».proof.Proof.Gen.MergeFwd
public import proofs.«01_k».proof.Proof.Gen.MergeFwd.Frame
public import proofs.«01_k».proof.Proof.Gen.MergeFwdIdeal.Value
public import proofs.«01_k».proof.Proof.Gen.MergeFwdReferenceIdeal.Run
public import proofs.«01_k».proof.Proof.Gen.ConvFwd
public import proofs.«01_k».proof.Proof.Gen.ConvFwd.Frame
public import proofs.«01_k».proof.Proof.Gen.ConvFwdIdeal.Value
public import proofs.«01_k».proof.Proof.Gen.ConvFwdReferenceIdeal.Run
public import proofs.«01_k».proof.Proof.Gen.LossHead
public import proofs.«01_k».proof.Proof.Gen.LossHead.Frame
public import proofs.«01_k».proof.Proof.Gen.LossHeadIdeal.Value
public import proofs.«01_k».proof.Proof.Gen.LossHeadReferenceIdeal.Run
public import proofs.«01_k».proof.Proof.Gen.SsdFwd
public import proofs.«01_k».proof.Proof.Gen.SsdFwd.Frame
public import proofs.«01_k».proof.Proof.Gen.SsdFwdIdeal.Value
public import proofs.«01_k».proof.Proof.Gen.SsdFwdReferenceIdeal.Run
public import proofs.«01_k».proof.Proof.Gen.Pre_ssd_fwd_below
public import proofs.«01_k».proof.Proof.Gen.ChipIn
public import proofs.«01_k».proof.Proof.Gen.ChipIn.Frame
public import proofs.«01_k».proof.Proof.Gen.ChipInIdeal.Value
public import proofs.«01_k».proof.Proof.Gen.ChipInReferenceIdeal.Run
public import proofs.«01_k».proof.Proof.Gen.ChipOut
public import proofs.«01_k».proof.Proof.Gen.ChipOut.Frame
public import proofs.«01_k».proof.Proof.Gen.ChipOutIdeal.Value
public import proofs.«01_k».proof.Proof.Gen.ChipOutReferenceIdeal.Run
public import proofs.«01_k».proof.Proof.Gen.ChipGate
public import proofs.«01_k».proof.Proof.Gen.ChipGate.Frame
public import proofs.«01_k».proof.Proof.Gen.ChipGateIdeal.Value
public import proofs.«01_k».proof.Proof.Gen.ChipGateReferenceIdeal.Run
public import proofs.«01_k».proof.Proof.Gen.ChipDown
public import proofs.«01_k».proof.Proof.Gen.ChipDown.Frame
public import proofs.«01_k».proof.Proof.Gen.ChipDownIdeal.Value
public import proofs.«01_k».proof.Proof.Gen.ChipDownReferenceIdeal.Run
public import proofs.«01_k».proof.Proof.Gen.SsdSkip
public import proofs.«01_k».proof.Proof.Gen.SsdSkip.Skeleton
public import proofs.«01_k».proof.Proof.Gen.SsdSkip.Launch
public import proofs.«01_k».proof.Proof.Gen.SsdSkip.Points
public import proofs.«01_k».proof.Proof.Gen.SsdSkip.Frame
public import proofs.«01_k».proof.Proof.Gen.SsdSkipIdeal
public import proofs.«01_k».proof.Proof.Gen.SsdSkipIdeal.Skeleton
public import proofs.«01_k».proof.Proof.Gen.SsdSkipIdeal.Launch
public import proofs.«01_k».proof.Proof.Gen.SsdSkipIdeal.Points
public import proofs.«01_k».proof.Proof.Gen.SsdSkipIdeal.Frame
public import proofs.«01_k».proof.Proof.Gen.SsdSkipReferenceIdeal
public import proofs.«01_k».proof.Proof.Gen.SsdSkipReferenceIdeal.Run
public import proofs.«01_k».proof.Proof.Gen.Pre_ssd_skip_finite
public import proofs.«01_k».proof.Proof.Down
public import proofs.«01_k».proof.Proof.GateUpGrad
public import proofs.«01_k».proof.Proof.DownWeight
public import proofs.«01_k».proof.Proof.GateWeight
public import proofs.«01_k».proof.Proof.ProjInGrad
public import proofs.«01_k».proof.Proof.QkvWeight
public import proofs.«01_k».proof.Proof.ZWeight
public import proofs.«01_k».proof.Proof.XbcWeight
public import proofs.«01_k».proof.Proof.DtWeight
public import proofs.«01_k».proof.Proof.ProjOutGrad
public import proofs.«01_k».proof.Proof.OutWeight
public import proofs.«01_k».proof.Proof.ProjQkv
public import proofs.«01_k».proof.Proof.ProjZ
public import proofs.«01_k».proof.Proof.ProjXbc
public import proofs.«01_k».proof.Proof.ProjDt
public import proofs.«01_k».proof.Proof.ProjOut
public import proofs.«01_k».proof.Proof.GateUp
public import proofs.«01_k».proof.Proof.FfnDown
public import proofs.«01_k».proof.Proof.Norm
public import proofs.«01_k».proof.Proof.Merge
public import proofs.«01_k».proof.Proof.AdamIn
public import proofs.«01_k».proof.Proof.AdamOut
public import proofs.«01_k».proof.Proof.AdamGate
public import proofs.«01_k».proof.Proof.AdamDown
public import proofs.«01_k».proof.Proof.AdamSmall
public import proofs.«01_k».proof.Proof.Conv
public import proofs.«01_k».proof.Proof.NormFwd
public import proofs.«01_k».proof.Proof.MergeFwd
public import proofs.«01_k».proof.Proof.ConvFwd
public import proofs.«01_k».proof.Proof.LossHead
public import proofs.«01_k».proof.Proof.SsdFwd
public import proofs.«01_k».proof.Proof.ChipIn
public import proofs.«01_k».proof.Proof.ChipOut
public import proofs.«01_k».proof.Proof.ChipGate
public import proofs.«01_k».proof.Proof.ChipDown
public import proofs.«01_k».proof.Proof.SsdSkip
public import Idealize.ShloMosaic.Adequacy
public import Idealize.ShloMosaic.Init
public import Idealize.ShloMosaic.Lib.Claim

@[expose] public section

noncomputable section

namespace Cert.Proof

/-- The certificate's claims: for every call its frames, that idealizing it rewrote nothing, and its value. -/
theorem claim : Cert.Claim :=
  ⟨Cert.Down.Gen.facts, Cert.DownIdeal.Gen.facts, Cert.DownReferenceIdeal.Gen.facts,
    Cert.GateUpGrad.Gen.facts, Cert.GateUpGradIdeal.Gen.facts, Cert.GateUpGradReferenceIdeal.Gen.facts,
    Cert.DownWeight.Gen.facts, Cert.DownWeightIdeal.Gen.facts, Cert.DownWeightReferenceIdeal.Gen.facts,
    Cert.GateWeight.Gen.facts, Cert.GateWeightIdeal.Gen.facts, Cert.GateWeightReferenceIdeal.Gen.facts,
    Cert.ProjInGrad.Gen.facts, Cert.ProjInGradIdeal.Gen.facts, Cert.ProjInGradReferenceIdeal.Gen.facts,
    Cert.QkvWeight.Gen.facts, Cert.QkvWeightIdeal.Gen.facts, Cert.QkvWeightReferenceIdeal.Gen.facts,
    Cert.ZWeight.Gen.facts, Cert.ZWeightIdeal.Gen.facts, Cert.ZWeightReferenceIdeal.Gen.facts,
    Cert.XbcWeight.Gen.facts, Cert.XbcWeightIdeal.Gen.facts, Cert.XbcWeightReferenceIdeal.Gen.facts,
    Cert.DtWeight.Gen.facts, Cert.DtWeightIdeal.Gen.facts, Cert.DtWeightReferenceIdeal.Gen.facts,
    Cert.ProjOutGrad.Gen.facts, Cert.ProjOutGradIdeal.Gen.facts, Cert.ProjOutGradReferenceIdeal.Gen.facts,
    Cert.OutWeight.Gen.facts, Cert.OutWeightIdeal.Gen.facts, Cert.OutWeightReferenceIdeal.Gen.facts,
    Cert.ProjQkv.Gen.facts, Cert.ProjQkvIdeal.Gen.facts, Cert.ProjQkvReferenceIdeal.Gen.facts,
    Cert.ProjZ.Gen.facts, Cert.ProjZIdeal.Gen.facts, Cert.ProjZReferenceIdeal.Gen.facts,
    Cert.ProjXbc.Gen.facts, Cert.ProjXbcIdeal.Gen.facts, Cert.ProjXbcReferenceIdeal.Gen.facts,
    Cert.ProjDt.Gen.facts, Cert.ProjDtIdeal.Gen.facts, Cert.ProjDtReferenceIdeal.Gen.facts,
    Cert.ProjOut.Gen.facts, Cert.ProjOutIdeal.Gen.facts, Cert.ProjOutReferenceIdeal.Gen.facts,
    Cert.GateUp.Gen.facts, Cert.GateUpIdeal.Gen.facts, Cert.GateUpReferenceIdeal.Gen.facts,
    Cert.FfnDown.Gen.facts, Cert.FfnDownIdeal.Gen.facts, Cert.FfnDownReferenceIdeal.Gen.facts,
    Cert.Norm.Gen.facts, Cert.NormIdeal.Gen.facts, Cert.NormReferenceIdeal.Gen.facts,
    Cert.Merge.Gen.facts, Cert.MergeIdeal.Gen.facts, Cert.MergeReferenceIdeal.Gen.facts,
    Cert.AdamIn.Gen.facts, Cert.AdamInIdeal.Gen.facts, Cert.AdamInReferenceIdeal.Gen.facts,
    Cert.AdamOut.Gen.facts, Cert.AdamOutIdeal.Gen.facts, Cert.AdamOutReferenceIdeal.Gen.facts,
    Cert.AdamGate.Gen.facts, Cert.AdamGateIdeal.Gen.facts, Cert.AdamGateReferenceIdeal.Gen.facts,
    Cert.AdamDown.Gen.facts, Cert.AdamDownIdeal.Gen.facts, Cert.AdamDownReferenceIdeal.Gen.facts,
    Cert.AdamSmall.Gen.facts, Cert.AdamSmallIdeal.Gen.facts, Cert.AdamSmallReferenceIdeal.Gen.facts,
    Cert.Conv.Gen.facts, Cert.ConvIdeal.Gen.facts, Cert.ConvReferenceIdeal.Gen.facts,
    Cert.NormFwd.Gen.facts, Cert.NormFwdIdeal.Gen.facts, Cert.NormFwdReferenceIdeal.Gen.facts,
    Cert.MergeFwd.Gen.facts, Cert.MergeFwdIdeal.Gen.facts, Cert.MergeFwdReferenceIdeal.Gen.facts,
    Cert.ConvFwd.Gen.facts, Cert.ConvFwdIdeal.Gen.facts, Cert.ConvFwdReferenceIdeal.Gen.facts,
    Cert.LossHead.Gen.facts, Cert.LossHeadIdeal.Gen.facts, Cert.LossHeadReferenceIdeal.Gen.facts,
    Cert.SsdFwd.Gen.facts, Cert.SsdFwdIdeal.Gen.facts, Cert.SsdFwdReferenceIdeal.Gen.facts,
    Cert.ChipIn.Gen.facts, Cert.ChipInIdeal.Gen.facts, Cert.ChipInReferenceIdeal.Gen.facts,
    Cert.ChipOut.Gen.facts, Cert.ChipOutIdeal.Gen.facts, Cert.ChipOutReferenceIdeal.Gen.facts,
    Cert.ChipGate.Gen.facts, Cert.ChipGateIdeal.Gen.facts, Cert.ChipGateReferenceIdeal.Gen.facts,
    Cert.ChipDown.Gen.facts, Cert.ChipDownIdeal.Gen.facts, Cert.ChipDownReferenceIdeal.Gen.facts,
    Cert.SsdSkip.Gen.facts, Cert.SsdSkipIdeal.Gen.facts, Cert.SsdSkipReferenceIdeal.Gen.facts,
    Cert.Pre_down_finite.Gen.facts,
    Cert.Pre_merge_finite.Gen.facts,
    Cert.Pre_conv_finite.Gen.facts,
    Cert.Pre_ssd_fwd_below.Gen.facts,
    Cert.Pre_ssd_skip_finite.Gen.facts,
    Cert.DownGrad.frame, Cert.DownGrad.frameIdeal, fun m ρ _ => Cert.DownGrad.frameIdeal m ρ trivial,
    Cert.DownGrad.frameReference, fun m ρ _ => Cert.DownGrad.frameReference m ρ trivial,
    Cert.GateUpGradValue.frame, Cert.GateUpGradValue.frameIdeal, Cert.GateUpGradValue.frameReference,
    Cert.DownWeightValue.frame, Cert.DownWeightValue.frameIdeal, Cert.DownWeightValue.frameReference,
    Cert.GateWeightValue.frame, Cert.GateWeightValue.frameIdeal, Cert.GateWeightValue.frameReference,
    Cert.ProjInGradValue.frame, Cert.ProjInGradValue.frameIdeal, Cert.ProjInGradValue.frameReference,
    Cert.QkvWeightValue.frame, Cert.QkvWeightValue.frameIdeal, Cert.QkvWeightValue.frameReference,
    Cert.ZWeightValue.frame, Cert.ZWeightValue.frameIdeal, Cert.ZWeightValue.frameReference,
    Cert.XbcWeightValue.frame, Cert.XbcWeightValue.frameIdeal, Cert.XbcWeightValue.frameReference,
    Cert.DtWeightValue.frame, Cert.DtWeightValue.frameIdeal, Cert.DtWeightValue.frameReference,
    Cert.ProjOutGradValue.frame, Cert.ProjOutGradValue.frameIdeal, Cert.ProjOutGradValue.frameReference,
    Cert.OutWeightValue.frame, Cert.OutWeightValue.frameIdeal, Cert.OutWeightValue.frameReference,
    Cert.ProjQkvValue.frame, Cert.ProjQkvValue.frameIdeal, Cert.ProjQkvValue.frameReference,
    Cert.ProjZValue.frame, Cert.ProjZValue.frameIdeal, Cert.ProjZValue.frameReference,
    Cert.ProjXbcValue.frame, Cert.ProjXbcValue.frameIdeal, Cert.ProjXbcValue.frameReference,
    Cert.ProjDtValue.frame, Cert.ProjDtValue.frameIdeal, Cert.ProjDtValue.frameReference,
    Cert.ProjOutValue.frame, Cert.ProjOutValue.frameIdeal, Cert.ProjOutValue.frameReference,
    Cert.GateUpValue.frame, Cert.GateUpValue.frameIdeal, Cert.GateUpValue.frameReference,
    Cert.FfnDownValue.frame, Cert.FfnDownValue.frameIdeal, Cert.FfnDownValue.frameReference,
    Cert.NormValue.frame, Cert.NormValue.frameIdeal, Cert.NormValue.frameReference,
    Cert.MergeValue.frame, Cert.MergeValue.frameIdeal, fun m ρ _ => Cert.MergeValue.frameIdeal m ρ trivial,
    Cert.MergeValue.frameReference, fun m ρ _ => Cert.MergeValue.frameReference m ρ trivial,
    Cert.AdamInValue.frame, Cert.AdamInValue.frameIdeal, Cert.AdamInValue.frameReference,
    Cert.AdamOutValue.frame, Cert.AdamOutValue.frameIdeal, Cert.AdamOutValue.frameReference,
    Cert.AdamGateValue.frame, Cert.AdamGateValue.frameIdeal, Cert.AdamGateValue.frameReference,
    Cert.AdamDownValue.frame, Cert.AdamDownValue.frameIdeal, Cert.AdamDownValue.frameReference,
    Cert.AdamSmallValue.frame, Cert.AdamSmallValue.frameIdeal, Cert.AdamSmallValue.frameReference,
    Cert.ConvValue.frame, Cert.ConvValue.frameIdeal, fun m ρ _ => Cert.ConvValue.frameIdeal m ρ trivial,
    Cert.ConvValue.frameReference, fun m ρ _ => Cert.ConvValue.frameReference m ρ trivial,
    Cert.NormFwdValue.frame, Cert.NormFwdValue.frameIdeal, Cert.NormFwdValue.frameReference,
    Cert.MergeFwdValue.frame, Cert.MergeFwdValue.frameIdeal, Cert.MergeFwdValue.frameReference,
    Cert.ConvFwdValue.frame, Cert.ConvFwdValue.frameIdeal, Cert.ConvFwdValue.frameReference,
    Cert.LossHeadValue.frame, Cert.LossHeadValue.frameIdeal, Cert.LossHeadValue.frameReference,
    Cert.SsdFwdValue.frame, Cert.SsdFwdValue.frameIdeal, fun m ρ _ => Cert.SsdFwdValue.frameIdeal m ρ trivial,
    Cert.SsdRef.frame, fun m ρ _ => Cert.SsdRef.frame m ρ trivial,
    Cert.ChipInValue.frame, Cert.ChipInValue.frameIdeal, Cert.ChipInValue.frameReference,
    Cert.ChipOutValue.frame, Cert.ChipOutValue.frameIdeal, Cert.ChipOutValue.frameReference,
    Cert.ChipGateValue.frame, Cert.ChipGateValue.frameIdeal, Cert.ChipGateValue.frameReference,
    Cert.ChipDownValue.frame, Cert.ChipDownValue.frameIdeal, Cert.ChipDownValue.frameReference,
    Cert.SsdSkipValue.frame, Cert.SsdSkipValue.frameIdeal, fun m ρ _ => Cert.SsdSkipValue.frameIdeal m ρ trivial,
    Cert.SsdSkipValue.frameReference, fun m ρ _ => Cert.SsdSkipValue.frameReference m ρ trivial,
    trivial, Cert.DownGrad.algebraic,
    trivial, Cert.GateUpGradValue.algebraic,
    trivial, Cert.DownWeightValue.algebraic,
    trivial, Cert.GateWeightValue.algebraic,
    trivial, Cert.ProjInGradValue.algebraic,
    trivial, Cert.QkvWeightValue.algebraic,
    trivial, Cert.ZWeightValue.algebraic,
    trivial, Cert.XbcWeightValue.algebraic,
    trivial, Cert.DtWeightValue.algebraic,
    trivial, Cert.ProjOutGradValue.algebraic,
    trivial, Cert.OutWeightValue.algebraic,
    trivial, Cert.ProjQkvValue.algebraic,
    trivial, Cert.ProjZValue.algebraic,
    trivial, Cert.ProjXbcValue.algebraic,
    trivial, Cert.ProjDtValue.algebraic,
    trivial, Cert.ProjOutValue.algebraic,
    trivial, Cert.GateUpValue.algebraic,
    trivial, Cert.FfnDownValue.algebraic,
    trivial, Cert.NormValue.algebraic,
    trivial, Cert.MergeValue.algebraic,
    trivial, Cert.AdamInValue.algebraic,
    trivial, Cert.AdamOutValue.algebraic,
    trivial, Cert.AdamGateValue.algebraic,
    trivial, Cert.AdamDownValue.algebraic,
    trivial, Cert.AdamSmallValue.algebraic,
    trivial, Cert.ConvValue.algebraic,
    trivial, Cert.NormFwdValue.algebraic,
    trivial, Cert.MergeFwdValue.algebraic,
    trivial, Cert.ConvFwdValue.algebraic,
    trivial, Cert.LossHeadValue.algebraic,
    trivial, Cert.SsdFwdValue.algebraic,
    trivial, Cert.ChipInValue.algebraic,
    trivial, Cert.ChipOutValue.algebraic,
    trivial, Cert.ChipGateValue.algebraic,
    trivial, Cert.ChipDownValue.algebraic,
    trivial, Cert.SsdSkipValue.algebraic⟩

end Cert.Proof

end
